-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) (m ((c.tc : Thread Cert.Reference10Ideal.nD Cert.Reference10Ideal.τ).loc Cert.Reference10Ideal.main_arg7)) (m ((c.tc : Thread Cert.Reference10Ideal.nD Cert.Reference10Ideal.τ).loc Cert.Reference10Ideal.main_arg8)) (m ((c.tc : Thread Cert.Reference10Ideal.nD Cert.Reference10Ideal.τ).loc Cert.Reference10Ideal.main_arg9)) (m ((c.tc : Thread Cert.Reference10Ideal.nD Cert.Reference10Ideal.τ).loc Cert.Reference10Ideal.main_arg10)) (m ((c.tc : Thread Cert.Reference10Ideal.nD Cert.Reference10Ideal.τ).loc Cert.Reference10Ideal.main_arg11))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)) (v4 : (c : Dev Cert.KernelIdeal.nD) → Buf (Elt Ideal) ((c.tc : Thread Cert.KernelIdeal.nD Cert.KernelIdeal.τ).loc Cert.KernelIdeal.main_v23_4)) (v5 : (c : Dev Cert.KernelIdeal.nD) → Buf (Elt Ideal) ((c.tc : Thread Cert.KernelIdeal.nD Cert.KernelIdeal.τ).loc Cert.KernelIdeal.main_v23_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_v23_4) = v4 c
          ∧ r.2.mem ((c.tc : Thread Cert.KernelIdeal.nD Cert.KernelIdeal.τ).loc Cert.KernelIdeal.main_v23_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v88) = v4 c
          ∧ r.2.mem ((c.tc : Thread Cert.ReferenceIdeal.nD Cert.ReferenceIdeal.τ).loc Cert.ReferenceIdeal.main_v89) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)) (v3 : (c : Dev Cert.Kernel2Ideal.nD) → Buf (Elt Ideal) ((c.tc : Thread Cert.Kernel2Ideal.nD Cert.Kernel2Ideal.τ).loc Cert.Kernel2Ideal.main_v6_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_v6_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_v37) = v2 c
          ∧ r.2.mem ((c.tc : Thread Cert.Reference2Ideal.nD Cert.Reference2Ideal.τ).loc Cert.Reference2Ideal.main_v38) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_v53) = v3 c
          ∧ r.2.mem ((c.tc : Thread Cert.Reference3Ideal.nD Cert.Reference3Ideal.τ).loc Cert.Reference3Ideal.main_v54) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v76) = v0 c
          ∧ r.2.mem ((c.tc : Thread Cert.Reference5Ideal.nD Cert.Reference5Ideal.τ).loc Cert.Reference5Ideal.main_v56) = v1 c
          ∧ r.2.mem ((c.tc : Thread Cert.Reference5Ideal.nD Cert.Reference5Ideal.τ).loc Cert.Reference5Ideal.main_v77) = v2 c
          ∧ r.2.mem ((c.tc : Thread Cert.Reference5Ideal.nD Cert.Reference5Ideal.τ).loc Cert.Reference5Ideal.main_v78) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)) →
    ∃ (v0 : (c : Dev Cert.Kernel10Ideal.nD) → Buf (Elt Ideal) ((c.tc : Thread Cert.Kernel10Ideal.nD Cert.Kernel10Ideal.τ).loc Cert.Kernel10Ideal.main_v19_0)) (v1 : (c : Dev Cert.Kernel10Ideal.nD) → Buf (Elt Ideal) ((c.tc : Thread Cert.Kernel10Ideal.nD Cert.Kernel10Ideal.τ).loc Cert.Kernel10Ideal.main_v19_1)) (v2 : (c : Dev Cert.Kernel10Ideal.nD) → Buf (Elt Ideal) ((c.tc : Thread Cert.Kernel10Ideal.nD Cert.Kernel10Ideal.τ).loc Cert.Kernel10Ideal.main_v19_2)) (v3 : (c : Dev Cert.Kernel10Ideal.nD) → Buf (Elt Ideal) ((c.tc : Thread Cert.Kernel10Ideal.nD Cert.Kernel10Ideal.τ).loc Cert.Kernel10Ideal.main_v19_3)) (v4 : (c : Dev Cert.Kernel10Ideal.nD) → Buf (Elt Ideal) ((c.tc : Thread Cert.Kernel10Ideal.nD Cert.Kernel10Ideal.τ).loc Cert.Kernel10Ideal.main_v19_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v19_0) = v0 c
          ∧ r.2.mem ((c.tc : Thread Cert.Kernel10Ideal.nD Cert.Kernel10Ideal.τ).loc Cert.Kernel10Ideal.main_v19_1) = v1 c
          ∧ r.2.mem ((c.tc : Thread Cert.Kernel10Ideal.nD Cert.Kernel10Ideal.τ).loc Cert.Kernel10Ideal.main_v19_2) = v2 c
          ∧ r.2.mem ((c.tc : Thread Cert.Kernel10Ideal.nD Cert.Kernel10Ideal.τ).loc Cert.Kernel10Ideal.main_v19_3) = v3 c
          ∧ r.2.mem ((c.tc : Thread Cert.Kernel10Ideal.nD Cert.Kernel10Ideal.τ).loc Cert.Kernel10Ideal.main_v19_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v223) = v0 c
          ∧ r.2.mem ((c.tc : Thread Cert.Reference10Ideal.nD Cert.Reference10Ideal.τ).loc Cert.Reference10Ideal.main_v224) = v1 c
          ∧ r.2.mem ((c.tc : Thread Cert.Reference10Ideal.nD Cert.Reference10Ideal.τ).loc Cert.Reference10Ideal.main_v225) = v2 c
          ∧ r.2.mem ((c.tc : Thread Cert.Reference10Ideal.nD Cert.Reference10Ideal.τ).loc Cert.Reference10Ideal.main_v226) = v3 c
          ∧ r.2.mem ((c.tc : Thread Cert.Reference10Ideal.nD Cert.Reference10Ideal.τ).loc Cert.Reference10Ideal.main_v227) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)) (v6 : (c : Dev Cert.Kernel11Ideal.nD) → Buf (Elt Ideal) ((c.tc : Thread Cert.Kernel11Ideal.nD Cert.Kernel11Ideal.τ).loc Cert.Kernel11Ideal.main_v0_6)) (v7 : (c : Dev Cert.Kernel11Ideal.nD) → Buf (Elt Ideal) ((c.tc : Thread Cert.Kernel11Ideal.nD Cert.Kernel11Ideal.τ).loc Cert.Kernel11Ideal.main_v0_7)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_v0_6) = v6 c
          ∧ r.2.mem ((c.tc : Thread Cert.Kernel11Ideal.nD Cert.Kernel11Ideal.τ).loc Cert.Kernel11Ideal.main_v0_7) = v7 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v26) = v1 c
          ∧ r.2.mem ((c.tc : Thread Cert.Reference11Ideal.nD Cert.Reference11Ideal.τ).loc Cert.Reference11Ideal.main_v7) = v2 c
          ∧ r.2.mem ((c.tc : Thread Cert.Reference11Ideal.nD Cert.Reference11Ideal.τ).loc Cert.Reference11Ideal.main_v13) = v3 c
          ∧ r.2.mem ((c.tc : Thread Cert.Reference11Ideal.nD Cert.Reference11Ideal.τ).loc Cert.Reference11Ideal.main_v28) = v4 c
          ∧ r.2.mem ((c.tc : Thread Cert.Reference11Ideal.nD Cert.Reference11Ideal.τ).loc Cert.Reference11Ideal.main_v52) = v5 c
          ∧ r.2.mem ((c.tc : Thread Cert.Reference11Ideal.nD Cert.Reference11Ideal.τ).loc Cert.Reference11Ideal.main_v33) = v6 c
          ∧ r.2.mem ((c.tc : Thread Cert.Reference11Ideal.nD Cert.Reference11Ideal.τ).loc Cert.Reference11Ideal.main_v39) = v7 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v28) = v0 c
          ∧ r.2.mem ((c.tc : Thread Cert.Reference12Ideal.nD Cert.Reference12Ideal.τ).loc Cert.Reference12Ideal.main_v29) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v5_0)) (v1 : (c : Dev Cert.Kernel13Ideal.nD) → Buf (Elt Ideal) ((c.tc : Thread Cert.Kernel13Ideal.nD Cert.Kernel13Ideal.τ).loc Cert.Kernel13Ideal.main_v5_1)) (v2 : (c : Dev Cert.Kernel13Ideal.nD) → Buf (Elt Ideal) ((c.tc : Thread Cert.Kernel13Ideal.nD Cert.Kernel13Ideal.τ).loc Cert.Kernel13Ideal.main_v5_2)) (v3 : (c : Dev Cert.Kernel13Ideal.nD) → Buf (Elt Ideal) ((c.tc : Thread Cert.Kernel13Ideal.nD Cert.Kernel13Ideal.τ).loc Cert.Kernel13Ideal.main_v5_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5_0) = v0 c
          ∧ r.2.mem ((c.tc : Thread Cert.Kernel13Ideal.nD Cert.Kernel13Ideal.τ).loc Cert.Kernel13Ideal.main_v5_1) = v1 c
          ∧ r.2.mem ((c.tc : Thread Cert.Kernel13Ideal.nD Cert.Kernel13Ideal.τ).loc Cert.Kernel13Ideal.main_v5_2) = v2 c
          ∧ r.2.mem ((c.tc : Thread Cert.Kernel13Ideal.nD Cert.Kernel13Ideal.τ).loc Cert.Kernel13Ideal.main_v5_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_v13) = v1 c
          ∧ r.2.mem ((c.tc : Thread Cert.Reference13Ideal.nD Cert.Reference13Ideal.τ).loc Cert.Reference13Ideal.main_v48) = v2 c
          ∧ r.2.mem ((c.tc : Thread Cert.Reference13Ideal.nD Cert.Reference13Ideal.τ).loc Cert.Reference13Ideal.main_v82) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite5 : Cert.Pre_finite5.Facts) (hPre_finite10 : Cert.Pre_finite10.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S8192x1024 .f32 := Host.absf main_arg5
  let main_cst_8 : FVec F S_ .f32 := constant S_ .f32 0x7F800000#32
  let main_v21 : FVec F S8192x1024 .f32 := broadcastInDim S8192x1024 ![] bcast_S_S8192x1024 main_cst_8
  let main_v22 : IVec S8192x1024 1 := cmpf .olt main_v20 main_v21
  let main_c_9 : IVec S_ 1 := constantI S_ 1 1#1
  let main_v23 : IVec S_ 1 := (fun x v => Host.reduce IntOp.andi x v reducesTo_S8192x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Pre_finite10.lean ====
abbrev S8192x1024 : Shape := ⟨2, ![8192, 1024]⟩
abbrev S1024 : Shape := ⟨1, ![1024]⟩
abbrev S1024x2048 : Shape := ⟨2, ![1024, 2048]⟩
abbrev S128 : Shape := ⟨1, ![128]⟩
abbrev S8192x512 : Shape := ⟨2, ![8192, 512]⟩
abbrev S8192x256 : Shape := ⟨2, ![8192, 256]⟩
abbrev S8192x128 : Shape := ⟨2, ![8192, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S128 : S_.BroadcastsInDim S128 (![] : Fin 0 → Fin S128.rank)
  reducesTo_S128_S_d0 : S128.ReducesTo [0] S_
  bcast_S_S8192x512 : S_.BroadcastsInDim S8192x512 (![] : Fin 0 → Fin S8192x512.rank)
  reducesTo_S8192x512_S_d0_1 : S8192x512.ReducesTo [0, 1] S_
  bcast_S_S8192x256 : S_.BroadcastsInDim S8192x256 (![] : Fin 0 → Fin S8192x256.rank)
  reducesTo_S8192x256_S_d0_1 : S8192x256.ReducesTo [0, 1] S_
  bcast_S_S8192x128 : S_.BroadcastsInDim S8192x128 (![] : Fin 0 → Fin S8192x128.rank)
  reducesTo_S8192x128_S_d0_1 : S8192x128.ReducesTo [0, 1] S_

variable [Facts]

def fn_part3 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : IVec S_ 1 := andi main_v3 main_v7
  let main_v49 : IVec S_ 1 := andi main_v48 main_v11
  let main_v50 : IVec S_ 1 := andi main_v49 main_v15
  let main_v51 : IVec S_ 1 := andi main_v50 main_v19
  let main_v52 : IVec S_ 1 := andi main_v51 main_v23
  let main_v53 : IVec S_ 1 := andi main_v52 main_v27
  let main_v54 : IVec S_ 1 := andi main_v53 main_v31
  let main_v55 : IVec S_ 1 := andi main_v54 main_v35
  let main_v56 : IVec S_ 1 := andi main_v55 main_v39
  let main_v57 : IVec S_ 1 := andi main_v56 main_v43
  let main_v58 : IVec S_ 1 := andi main_v57 main_v47
  main_v58

def fn_part2 {F : FTy → Type} [FloatOps F] (main_arg8 : FVec F S8192x512 .f32) (main_arg9 : FVec F S8192x256 .f32) (main_arg10 : FVec F S8192x128 .f32) (main_arg11 : FVec F S8192x128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S8192x512 .f32 := Host.absf main_arg8
  let main_cst_14 : FVec F S_ .f32 := constant S_ .f32 0x7F800000#32
  let main_v33 : FVec F S8192x512 .f32 := broadcastInDim S8192x512 ![] bcast_S_S8192x512 main_cst_14
  let main_v34 : IVec S8192x512 1 := cmpf .olt main_v32 main_v33
  let main_c_15 : IVec S_ 1 := constantI S_ 1 1#1
  let main_v35 : IVec S_ 1 := (fun x v => Host.reduce IntOp.andi x v reducesTo_S8192x512_S_d0_1 h_S_) main_v34 main_c_15
  let main_v36 : FVec F S8192x256 .f32 := Host.absf main_arg9
  let main_cst_16 : FVec F S_ .f32 := constant S_ .f32 0x7F800000#32
  let main_v37 : FVec F S8192x256 .f32 := broadcastInDim S8192x256 ![] bcast_S_S8192x256 main_cst_16
  let main_v38 : IVec S8192x256 1 := cmpf .olt main_v36 main_v37
  let main_c_17 : IVec S_ 1 := constantI S_ 1 1#1
  let main_v39 : IVec S_ 1 := (fun x v => Host.reduce IntOp.andi x v reducesTo_S8192x256_S_d0_1 h_S_) main_v38 main_c_17
  let main_v40 : FVec F S8192x128 .f32 := Host.absf main_arg10
  let main_cst_18 : FVec F S_ .f32 := constant S_ .f32 0x7F800000#32
  let main_v41 : FVec F S8192x128 .f32 := broadcastInDim S8192x128 ![] bcast_S_S8192x128 main_cst_18
  let main_v42 : IVec S8192x128 1 := cmpf .olt main_v40 main_v41
  let main_c_19 : IVec S_ 1 := constantI S_ 1 1#1
  let main_v43 : IVec S_ 1 := (fun x v => Host.reduce IntOp.andi x v reducesTo_S8192x128_S_d0_1 h_S_) main_v42 main_c_19
  let main_v44 : FVec F S8192x128 .f32 := Host.absf main_arg11
  let main_cst_20 : FVec F S_ .f32 := constant S_ .f32 0x7F800000#32
  let main_v45 : FVec F S8192x128 .f32 := broadcastInDim S8192x128 ![] bcast_S_S8192x128 main_cst_20
  let main_v46 : IVec S8192x128 1 := cmpf .olt main_v44 main_v45
  let main_c_21 : IVec S_ 1 := constantI S_ 1 1#1
  let main_v47 : IVec S_ 1 := (fun x v => Host.reduce IntOp.andi x v reducesTo_S8192x128_S_d0_1 h_S_) main_v46 main_c_21
  fn_part3 (F := F) main_v3 main_v7 main_v11 main_v15 main_v19 main_v23 main_v27 main_v31 main_v35 main_v39 main_v43 main_v47

def fn_part1 {F : FTy → Type} [FloatOps F] (main_arg4 : FVec F S128 .f32) (main_arg5 : FVec F S8192x1024 .f32) (main_arg6 : FVec F S8192x512 .f32) (main_arg7 : FVec F S8192x512 .f32) (main_arg8 : FVec F S8192x512 .f32) (main_arg9 : FVec F S8192x256 .f32) (main_arg10 : FVec F S8192x128 .f32) (main_arg11 : FVec F S8192x128 .f32) (main_v3 : IVec S_ 1) (main_v7 : IVec S_ 1) (main_v11 : IVec S_ 1) (main_v15 : IVec S_ 1) : IVec S_ 1 :=
  let main_v16 : FVec F S128 .f32 := Host.absf main_arg4
  let main_cst_6 : FVec F S_ .f32 := constant S_ .f32 0x7F800000#32
  let main_v17 : FVec F S128 .f32 := broadcastInDim S128 ![] bcast_S_S128 main_cst_6
  let main_v18 : IVec S128 1 := cmpf .olt main_v16 main_v17
  let main_c_7 : IVec S_ 1 := constantI S_ 1 1#1
  let main_v19 : IVec S_ 1 := (fun x v => Host.reduce IntOp.andi x v reducesTo_S128_S_d0 h_S_) main_v18 main_c_7
  let main_v20 : FVec F S8192x1024 .f32 := Host.absf main_arg5
  let main_cst_8 : FVec F S_ .f32 := constant S_ .f32 0x7F800000#32
  let main_v21 : FVec F S8192x1024 .f32 := broadcastInDim S8192x1024 ![] bcast_S_S8192x1024 main_cst_8
  let main_v22 : IVec S8192x1024 1 := cmpf .olt main_v20 main_v21
  let main_c_9 : IVec S_ 1 := constantI S_ 1 1#1
  let main_v23 : IVec S_ 1 := (fun x v => Host.reduce IntOp.andi x v reducesTo_S8192x1024_S_d0_1 h_S_) main_v22 main_c_9
  let main_v24 : FVec F S8192x512 .f32 := Host.absf main_arg6
  let main_cst_10 : FVec F S_ .f32 := constant S_ .f32 0x7F800000#32
  let main_v25 : FVec F S8192x512 .f32 := broadcastInDim S8192x512 ![] bcast_S_S8192x512 main_cst_10
  let main_v26 : IVec S8192x512 1 := cmpf .olt main_v24 main_v25
  let main_c_11 : IVec S_ 1 := constantI S_ 1 1#1
  let main_v27 : IVec S_ 1 := (fun x v => Host.reduce IntOp.andi x v reducesTo_S8192x512_S_d0_1 h_S_) main_v26 main_c_11
  let main_v28 : FVec F S8192x512 .f32 := Host.absf main_arg7
  let main_cst_12 : FVec F S_ .f32 := constant S_ .f32 0x7F800000#32
  let main_v29 : FVec F S8192x512 .f32 := broadcastInDim S8192x512 ![] bcast_S_S8192x512 main_cst_12
  let main_v30 : IVec S8192x512 1 := cmpf .olt main_v28 main_v29
  let main_c_13 : IVec S_ 1 := constantI S_ 1 1#1
  let main_v31 : IVec S_ 1 := (fun x v => Host.reduce IntOp.andi x v reducesTo_S8192x512_S_d0_1 h_S_) main_v30 main_c_13
  fn_part2 (F := F) main_arg8 main_arg9 main_arg10 main_arg11 main_v3 main_v7 main_v11 main_v15 main_v19 main_v23 main_v27 main_v31

def fn {F : FTy → Type} [FloatOps F] (main_arg0 : FVec F S8192x1024 .f32) (main_arg1 : FVec F S1024 .f32) (main_arg2 : FVec F S1024x2048 .f32) (main_arg3 : FVec F S128 .f32) (main_arg4 : FVec F S128 .f32) (main_arg5 : FVec F S8192x1024 .f32) (main_arg6 : FVec F S8192x512 .f32) (main_arg7 : FVec F S8192x512 .f32) (main_arg8 : FVec F S8192x512 .f32) (main_arg9 : FVec F S8192x256 .f32) (main_arg10 : FVec F S8192x128 .f32) (main_arg11 : FVec F S8192x128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : FVec F S1024x2048 .f32 := Host.absf main_arg2
  let main_cst_2 : FVec F S_ .f32 := constant S_ .f32 0x7F800000#32
  let main_v9 : FVec F S1024x2048 .f32 := broadcastInDim S1024x2048 ![] bcast_S_S1024x2048 main_cst_2
  let main_v10 : IVec S1024x2048 1 := cmpf .olt main_v8 main_v9
  let main_c_3 : IVec S_ 1 := constantI S_ 1 1#1
  let main_v11 : IVec S_ 1 := (fun x v => Host.reduce IntOp.andi x v reducesTo_S1024x2048_S_d0_1 h_S_) main_v10 main_c_3
  let main_v12 : FVec F S128 .f32 := Host.absf main_arg3
  let main_cst_4 : FVec F S_ .f32 := constant S_ .f32 0x7F800000#32
  let main_v13 : FVec F S128 .f32 := broadcastInDim S128 ![] bcast_S_S128 main_cst_4
  let main_v14 : IVec S128 1 := cmpf .olt main_v12 main_v13
  let main_c_5 : IVec S_ 1 := constantI S_ 1 1#1
  let main_v15 : IVec S_ 1 := (fun x v => Host.reduce IntOp.andi x v reducesTo_S128_S_d0 h_S_) main_v14 main_c_5
  fn_part1 (F := F) main_arg4 main_arg5 main_arg6 main_arg7 main_arg8 main_arg9 main_arg10 main_arg11 main_v3 main_v7 main_v11 main_v15
-- ==== Pre_finite5.lean ====
abbrev S8192x512 : Shape := ⟨2, ![8192, 512]⟩
abbrev S512 : Shape := ⟨1, ![512]⟩
abbrev S1024x1024 : Shape := ⟨2, ![1024, 1024]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512 : S_.BroadcastsInDim S512 (![] : Fin 0 → Fin S512.rank)
  reducesTo_S512_S_d0 : S512.ReducesTo [0] S_
  bcast_S_S1024x1024 : S_.BroadcastsInDim S1024x1024 (![] : Fin 0 → Fin S1024x1024.rank)
  reducesTo_S1024x1024_S_d0_1 : S1024x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S1024x1024 .f32) (main_arg5 : FVec F S8192x1024 .f32) (main_v3 : IVec S_ 1) (main_v7 : IVec S_ 1) (main_v11 : IVec S_ 1) (main_v15 : IVec S_ 1) : IVec S_ 1 :=
  let main_v16 : FVec F S1024x1024 .f32 := Host.absf main_arg4
  let main_cst_6 : FVec F S_ .f32 := constant S_ .f32 0x7F800000#32
  let main_v17 : FVec F S1024x1024 .f32 := broadcastInDim S1024x1024 ![] bcast_S_S1024x1024 main_cst_6
  let main_v18 : IVec S1024x1024 1 := cmpf .olt main_v16 main_v17
  let main_c_7 : IVec S_ 1 := constantI S_ 1 1#1
  let main_v19 : IVec S_ 1 := (fun x v => Host.reduce IntOp.andi x v reducesTo_S1024x1024_S_d0_1 h_S_) main_v18 main_c_7
  let main_v20 : FVec F S8192x1024 .f32 := Host.absf main_arg5
  let main_cst_8 : FVec F S_ .f32 := constant S_ .f32 0x7F800000#32
  let main_v21 : FVec F S8192x1024 .f32 := broadcastInDim S8192x1024 ![] bcast_S_S8192x1024 main_cst_8
  let main_v22 : IVec S8192x1024 1 := cmpf .olt main_v20 main_v21
  let main_c_9 : IVec S_ 1 := constantI S_ 1 1#1
  let main_v23 : IVec S_ 1 := (fun x v => Host.reduce IntOp.andi x v reducesTo_S8192x1024_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x512 .f32) (main_arg1 : FVec F S8192x512 .f32) (main_arg2 : FVec F S512 .f32) (main_arg3 : FVec F S512 .f32) (main_arg4 : FVec F S1024x1024 .f32) (main_arg5 : FVec F S8192x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S512 .f32 := Host.absf main_arg2
  let main_cst_2 : FVec F S_ .f32 := constant S_ .f32 0x7F800000#32
  let main_v9 : FVec F S512 .f32 := broadcastInDim S512 ![] bcast_S_S512 main_cst_2
  let main_v10 : IVec S512 1 := cmpf .olt main_v8 main_v9
  let main_c_3 : IVec S_ 1 := constantI S_ 1 1#1
  let main_v11 : IVec S_ 1 := (fun x v => Host.reduce IntOp.andi x v reducesTo_S512_S_d0 h_S_) main_v10 main_c_3
  let main_v12 : FVec F S512 .f32 := Host.absf main_arg3
  let main_cst_4 : FVec F S_ .f32 := constant S_ .f32 0x7F800000#32
  let main_v13 : FVec F S512 .f32 := broadcastInDim S512 ![] bcast_S_S512 main_cst_4
  let main_v14 : IVec S512 1 := cmpf .olt main_v12 main_v13
  let main_c_5 : IVec S_ 1 := constantI S_ 1 1#1
  let main_v15 : IVec S_ 1 := (fun x v => Host.reduce IntOp.andi x v reducesTo_S512_S_d0 h_S_) main_v14 main_c_5
  fn_part1 (F := F) main_arg4 main_arg5 main_v3 main_v7 main_v11 main_v15
-- ==== Kernel.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 38
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x2816, .f32⟩
  | .hbm, ⟨24, _⟩ => ⟨S8192x2816, .bf16⟩
  | .hbm, ⟨25, _⟩ => ⟨S8192x2816, .f32⟩
  | .hbm, ⟨26, _⟩ => ⟨S8192x2816, .bf16⟩
  | .hbm, ⟨27, _⟩ => ⟨S2816x1024, .f32⟩
  | .hbm, ⟨28, _⟩ => ⟨S2816x1024, .bf16⟩
  | .hbm, ⟨29, _⟩ => ⟨S2816x1024, .f32⟩
  | .hbm, ⟨30, _⟩ => ⟨S2816x1024, .bf16⟩
  | .hbm, ⟨31, _⟩ => ⟨S2816x1024, .bf16⟩
  | .hbm, ⟨32, _⟩ => ⟨S8192x1024, .f32⟩
  | .hbm, ⟨33, _⟩ => ⟨S8192x2816, .bf16⟩
  | .hbm, ⟨34, _⟩ => ⟨S8192x2816, .bf16⟩
  | .hbm, ⟨35, _⟩ => ⟨S8192x2816, .bf16⟩
  | .hbm, ⟨36, _⟩ => ⟨S8192x1024, .bf16⟩
  | .hbm, ⟨37, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | .local _ .vmem, ⟨23, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_28 : BitVec 32 := 0#32
  let v50 : BitVec 1 := Scalar.cmpi .eq arg1 c0_i32_28
  let v51 : BitVec 32 := Scalar.extui v50
  let c0_i32_29 : BitVec 32 := 0#32
  let v52 : BitVec 1 := Scalar.cmpi .ne v51 c0_i32_29
  v52

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== ReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 151
  | .vmem => 0
  | .smem => 0
  | _ => 0

abbrev hbmTy0_0 (i : Nat) : BufTy := match i % 128 with
  | 0 => ⟨S8192x1024, .f32⟩
  | 1 => ⟨S1024, .f32⟩
  | 2 => ⟨S1024x2816, .f32⟩
  | 3 => ⟨S1024x2816, .f32⟩
  | 4 => ⟨S2816x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x2816, .f32⟩
  | 27 => ⟨S8192x2816, .f32⟩
  | 28 => ⟨S8192x2816, .f32⟩
  | 29 => ⟨S8192x2816, .f32⟩
  | 30 => ⟨S_, .f32⟩
  | 31 => ⟨S8192x2816, .f32⟩
  | 32 => ⟨S8192x2816, .f32⟩
  | 33 => ⟨S_, .f32⟩
  | 34 => ⟨S8192x2816, .f32⟩
  | 35 => ⟨S8192x2816, .f32⟩
  | 36 => ⟨S_, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S8192x2816, .f32⟩
  | 52 => ⟨S8192x2816, .f32⟩
  | 53 => ⟨S8192x2816, .f32⟩
  | 54 => ⟨S8192x2816, .f32⟩
  | 55 => ⟨S8192x2816, .f32⟩
  | 56 => ⟨S8192x2816, .f32⟩
  | 57 => ⟨S8192x2816, .f32⟩
  | 58 => ⟨S8192x1024, .f32⟩
  | 59 => ⟨S8192x1024, .f32⟩
  | 60 => ⟨S8192x1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S8192x1024, .f32⟩
  | 67 => ⟨S_, .f32⟩
  | 68 => ⟨S1024, .f32⟩
  | 69 => ⟨S8192x1024, .f32⟩
  | 70 => ⟨S_, .f32⟩
  | 71 => ⟨S8192, .f32⟩
  | 72 => ⟨S8192x1, .f32⟩
  | 73 => ⟨S8192x1024, .f32⟩
  | 74 => ⟨S8192x1024, .f32⟩
  | 75 => ⟨S8192x1024, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S_, .f32⟩
  | 95 => ⟨S8192x1, .f32⟩
  | 96 => ⟨S8192x1, .f32⟩
  | 97 => ⟨S8192x1, .f32⟩
  | 98 => ⟨S8192x1024, .f32⟩
  | 99 => ⟨S8192x1024, .f32⟩
  | 100 => ⟨S1x1024, .f32⟩
  | 101 => ⟨S8192x1024, .f32⟩
  | 102 => ⟨S8192x1024, .f32⟩
  | 103 => ⟨S8192x2816, .f32⟩
  | 104 => ⟨S8192x2816, .f32⟩
  | 105 => ⟨S8192x2816, .f32⟩
  | 106 => ⟨S8192x2816, .f32⟩
  | 107 => ⟨S_, .f32⟩
  | 108 => ⟨S8192x2816, .f32⟩
  | 109 => ⟨S8192x2816, .f32⟩
  | 110 => ⟨S_, .f32⟩
  | 111 => ⟨S8192x2816, .f32⟩
  | 112 => ⟨S8192x2816, .f32⟩
  | 113 => ⟨S8192x2816, .f32⟩
  | 114 => ⟨S8192x2816, .f32⟩
  | 115 => ⟨S8192x2816, .f32⟩
  | 116 => ⟨S8192x2816, .f32⟩
  | 117 => ⟨S_, .f32⟩
  | 118 => ⟨S8192x2816, .f32⟩
  | 119 => ⟨S8192x2816, .f32⟩
  | 120 => ⟨S_, .f32⟩
  | 121 => ⟨S8192x2816, .f32⟩
  | 122 => ⟨S8192x2816, .f32⟩
  | 123 => ⟨S_, .f32⟩
  | 124 => ⟨S8192x2816, .f32⟩
  | 125 => ⟨S8192x2816, .f32⟩
  | 126 => ⟨S8192x2816, .f32⟩
  | 127 => ⟨S8192x2816, .f32⟩
  | _ => ⟨S8192x1024, .f32⟩

abbrev hbmTy0_1 (i : Nat) : BufTy := match i % 128 with
  | 0 => ⟨S8192x2816, .f32⟩
  | 1 => ⟨S8192x1024, .f32⟩
  | 2 => ⟨S_, .f32⟩
  | 3 => ⟨S8192x1024, .f32⟩
  | 4 => ⟨S8192x1024, .f32⟩
  | 5 => ⟨S_, .f32⟩
  | 6 => ⟨S8192x1024, .f32⟩
  | 7 => ⟨S8192x1024, .f32⟩
  | 8 => ⟨S8192x2816, .f32⟩
  | 9 => ⟨S8192x2816, .f32⟩
  | 10 => ⟨S8192x2816, .f32⟩
  | 11 => ⟨S8192x2816, .f32⟩
  | 12 => ⟨S8192x2816, .f32⟩
  | 13 => ⟨S8192x2816, .f32⟩
  | 14 => ⟨S8192x2816, .f32⟩
  | 15 => ⟨S8192x2816, .bf16⟩
  | 16 => ⟨S8192x2816, .bf16⟩
  | 17 => ⟨S8192x2816, .bf16⟩
  | 18 => ⟨S_, .f32⟩
  | 19 => ⟨S8192x1024, .f32⟩
  | 20 => ⟨S8192x1024, .f32⟩
  | 21 => ⟨S8192x1024, .bf16⟩
  | 22 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_call2_v5 : Ref sig .tc := ⟨.hbm, 112, rfl⟩
abbrev main_v70 : Ref sig .tc := ⟨.hbm, 113, rfl⟩
abbrev main_v71 : Ref sig .tc := ⟨.hbm, 114, rfl⟩
abbrev main_call3_v0 : Ref sig .tc := ⟨.hbm, 115, rfl⟩
abbrev main_call3_v1 : Ref sig .tc := ⟨.hbm, 116, rfl⟩
abbrev main_call3_cst : Ref sig .tc := ⟨.hbm, 117, rfl⟩
abbrev main_call3_v2 : Ref sig .tc := ⟨.hbm, 118, rfl⟩
abbrev main_call3_v3 : Ref sig .tc := ⟨.hbm, 119, rfl⟩
abbrev main_call3_cst_0 : Ref sig .tc := ⟨.hbm, 120, rfl⟩
abbrev main_call3_v4 : Ref sig .tc := ⟨.hbm, 121, rfl⟩
abbrev main_v72_2 : Ref sig .tc := ⟨.hbm, 122, rfl⟩
abbrev main_call3_cst_1 : Ref sig .tc := ⟨.hbm, 123, rfl⟩
abbrev main_call3_v6 : Ref sig .tc := ⟨.hbm, 124, rfl⟩
abbrev main_call3_v7 : Ref sig .tc := ⟨.hbm, 125, rfl⟩
abbrev main_v72_1 : Ref sig .tc := ⟨.hbm, 126, rfl⟩
abbrev main_v72_0 : Ref sig .tc := ⟨.hbm, 127, rfl⟩
abbrev main_v73 : Ref sig .tc := ⟨.hbm, 128, rfl⟩
abbrev main_v74 : Ref sig .tc := ⟨.hbm, 129, rfl⟩
abbrev main_cst_13 : Ref sig .tc := ⟨.hbm, 130, rfl⟩
abbrev main_v75 : Ref sig .tc := ⟨.hbm, 131, rfl⟩
abbrev main_v76 : Ref sig .tc := ⟨.hbm, 132, rfl⟩
abbrev main_cst_14 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_15 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 15
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S8192x1024, .f32⟩
  | .hbm, ⟨12, _⟩ => ⟨S8192x1024, .bf16⟩
  | .hbm, ⟨13, _⟩ => ⟨S8192x2816, .bf16⟩
  | .hbm, ⟨14, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_17 : BitVec 32 := 0#32
  let v28 : BitVec 1 := Scalar.cmpi .eq arg1 c0_i32_17
  let v29 : BitVec 32 := Scalar.extui v28
  let c0_i32_18 : BitVec 32 := 0#32
  let v30 : BitVec 1 := Scalar.cmpi .ne v29 c0_i32_18
  v30

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S8192x2816, .bf16⟩
  | .hbm, ⟨58, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S1x128 : Shape := ⟨2, ![1, 128]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 17
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S8192x1024, .f32⟩
  | .hbm, ⟨13, _⟩ => ⟨S8192x1024, .bf16⟩
  | .hbm, ⟨14, _⟩ => ⟨S8192x2816, .bf16⟩
  | .hbm, ⟨15, _⟩ => ⟨S8192x2816, .bf16⟩
  | .hbm, ⟨16, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S1x128, .f32⟩
  | .local _ .vmem, ⟨17, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_17 : BitVec 32 := 0#32
  let v28 : BitVec 1 := Scalar.cmpi .eq arg1 c0_i32_17
  let v29 : BitVec 32 := Scalar.extui v28
  let c0_i32_18 : BitVec 32 := 0#32
  let v30 : BitVec 1 := Scalar.cmpi .ne v29 c0_i32_18
  v30

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c0_i32_22 : BitVec 32 := 0#32
  let v35 : BitVec 1 := Scalar.cmpi .eq arg0 c0_i32_22
  let v36 : BitVec 32 := Scalar.extui v35
  let c0_i32_23 : BitVec 32 := 0#32
  let v37 : BitVec 1 := Scalar.cmpi .ne v36 c0_i32_23
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference3Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S_, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S8192x1024, .f32⟩
  | .hbm, ⟨79, _⟩ => ⟨S8192x1024, .f32⟩
  | .hbm, ⟨80, _⟩ => ⟨S8192x1024, .bf16⟩
  | .hbm, ⟨81, _⟩ => ⟨S8192x2816, .bf16⟩
  | .hbm, ⟨82, _⟩ => ⟨S8192x2816, .bf16⟩
  | .hbm, ⟨83, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_cst_11 : Ref sig .tc := ⟨.hbm, 71, rfl⟩
abbrev main_cst_12 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x512 : Shape := ⟨2, ![8192, 512]⟩
abbrev S512 : Shape := ⟨1, ![512]⟩
abbrev S1024x1024 : Shape := ⟨2, ![1024, 1024]⟩
abbrev S8192x1024 : Shape := ⟨2, ![8192, 1024]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 13
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S8192x1024, .f32⟩
  | .hbm, ⟨6, _⟩ => ⟨S1x512, .f32⟩
  | .hbm, ⟨7, _⟩ => ⟨S1x512, .f32⟩
  | .hbm, ⟨8, _⟩ => ⟨S1024x1024, .bf16⟩
  | .hbm, ⟨9, _⟩ => ⟨S8192x512, .f32⟩
  | .hbm, ⟨10, _⟩ => ⟨S8192x512, .f32⟩
  | .hbm, ⟨11, _⟩ => ⟨S1x512, .f32⟩
  | .hbm, ⟨12, _⟩ => ⟨S1x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1x512, .f32⟩
  | .local _ .vmem, ⟨14, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference5Ideal.lean ====
abbrev S8192x512 : Shape := ⟨2, ![8192, 512]⟩
abbrev S512 : Shape := ⟨1, ![512]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 103
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S8192x1024, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S1x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x512, .f32⟩
  | .hbm, ⟨42, _⟩ => ⟨S8192x512, .f32⟩
  | .hbm, ⟨43, _⟩ => ⟨S1x512, .f32⟩
  | .hbm, ⟨44, _⟩ => ⟨S8192x512, .f32⟩
  | .hbm, ⟨45, _⟩ => ⟨S8192x512, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S512, .f32⟩
  | .hbm, ⟨54, _⟩ => ⟨S1x512, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S512, .f32⟩
  | .hbm, ⟨59, _⟩ => ⟨S8192x512, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x512, .f32⟩
  | .hbm, ⟨64, _⟩ => ⟨S8192x512, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S8192x512, .f32⟩
  | .hbm, ⟨81, _⟩ => ⟨S8192x512, .f32⟩
  | .hbm, ⟨82, _⟩ => ⟨S_, .f32⟩
  | .hbm, ⟨83, _⟩ => ⟨S512, .f32⟩
  | .hbm, ⟨84, _⟩ => ⟨S8192x512, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x512, .f32⟩
  | .hbm, ⟨89, _⟩ => ⟨S8192x512, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x512, .f32⟩
  | .hbm, ⟨97, _⟩ => ⟨S8192x512, .f32⟩
  | .hbm, ⟨98, _⟩ => ⟨S8192x512, .f32⟩
  | .hbm, ⟨99, _⟩ => ⟨S8192x512, .f32⟩
  | .hbm, ⟨100, _⟩ => ⟨S8192x512, .f32⟩
  | .hbm, ⟨101, _⟩ => ⟨S1x512, .f32⟩
  | .hbm, ⟨102, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x256 : Shape := ⟨2, ![8192, 256]⟩
abbrev S8192x1024 : Shape := ⟨2, ![8192, 1024]⟩
abbrev S1024x256 : Shape := ⟨2, ![1024, 256]⟩
abbrev S2048x1024 : Shape := ⟨2, ![2048, 1024]⟩
abbrev S2048x256 : Shape := ⟨2, ![2048, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x1024, .bf16⟩
  | .hbm, ⟨3, _⟩ => ⟨S8192x256, .bf16⟩
  | .hbm, ⟨4, _⟩ => ⟨S1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .bf16⟩
  | .local _ .vmem, ⟨5, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S1024x256, .f32⟩
  | .hbm, ⟨8, _⟩ => ⟨S1024x256, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x128 : Shape := ⟨2, ![8192, 128]⟩
abbrev S8192x1024 : Shape := ⟨2, ![8192, 1024]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x1024, .f32⟩
  | .hbm, ⟨2, _⟩ => ⟨S8192x128, .bf16⟩
  | .hbm, ⟨3, _⟩ => ⟨S8192x1024, .bf16⟩
  | .hbm, ⟨4, _⟩ => ⟨S128x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x128 : Shape := ⟨2, ![8192, 128]⟩
abbrev S8192x1024 : Shape := ⟨2, ![8192, 1024]⟩
abbrev S_ : Shape := ⟨0, ![]⟩
abbrev S128x1024 : Shape := ⟨2, ![128, 1024]⟩
abbrev S1024x128 : Shape := ⟨2, ![1024, 128]⟩

abbrev nBuf : Space → Nat
  | .hbm => 8
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x1024, .f32⟩
  | .hbm, ⟨2, _⟩ => ⟨S_, .f32⟩
  | .hbm, ⟨3, _⟩ => ⟨S128x1024, .f32⟩
  | .hbm, ⟨4, _⟩ => ⟨S8192x1024, .f32⟩
  | .hbm, ⟨5, _⟩ => ⟨S1024x128, .f32⟩
  | .hbm, ⟨6, _⟩ => ⟨S128x1024, .f32⟩
  | .hbm, ⟨7, _⟩ => ⟨S128x1024, .bf16⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .bf16⟩
  | .hbm, ⟨3, _⟩ => ⟨S8192x1024, .bf16⟩
  | .hbm, ⟨4, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S1024 : Shape := ⟨1, ![1024]⟩
abbrev S1024x2048 : Shape := ⟨2, ![1024, 2048]⟩
abbrev S128 : Shape := ⟨1, ![128]⟩
abbrev S8192x512 : Shape := ⟨2, ![8192, 512]⟩
abbrev S8192x256 : Shape := ⟨2, ![8192, 256]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S2048x1024 : Shape := ⟨2, ![2048, 1024]⟩
abbrev S1x128 : Shape := ⟨2, ![1, 128]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 39
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S128, .f32⟩
  | .hbm, ⟨4, _⟩ => ⟨S128, .f32⟩
  | .hbm, ⟨5, _⟩ => ⟨S8192x1024, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x256, .f32⟩
  | .hbm, ⟨10, _⟩ => ⟨S8192x128, .f32⟩
  | .hbm, ⟨11, _⟩ => ⟨S8192x128, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2048, .f32⟩
  | .hbm, ⟨29, _⟩ => ⟨S1x1024, .f32⟩
  | .hbm, ⟨30, _⟩ => ⟨S2048x1024, .f32⟩
  | .hbm, ⟨31, _⟩ => ⟨S2048x1024, .bf16⟩
  | .hbm, ⟨32, _⟩ => ⟨S1x128, .f32⟩
  | .hbm, ⟨33, _⟩ => ⟨S1x128, .f32⟩
  | .hbm, ⟨34, _⟩ => ⟨S8192x1024, .f32⟩
  | .hbm, ⟨35, _⟩ => ⟨S8192x2048, .bf16⟩
  | .hbm, ⟨36, _⟩ => ⟨S1x1024, .f32⟩
  | .hbm, ⟨37, _⟩ => ⟨S1x128, .f32⟩
  | .hbm, ⟨38, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S2048x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x128, .f32⟩
  | .local _ .vmem, ⟨11, _⟩ => ⟨S1x128, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x256, .f32⟩
  | .local _ .vmem, ⟨19, _⟩ => ⟨S512x256, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x1024, .f32⟩
  | .local _ .vmem, ⟨25, _⟩ => ⟨S512x1024, .f32⟩
  | .local _ .vmem, ⟨26, _⟩ => ⟨S512x2048, .bf16⟩
  | .local _ .vmem, ⟨27, _⟩ => ⟨S512x2048, .bf16⟩
  | .local _ .vmem, ⟨28, _⟩ => ⟨S1x1024, .f32⟩
  | .local _ .vmem, ⟨29, _⟩ => ⟨S1x128, .f32⟩
  | .local _ .vmem, ⟨30, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_v19_3 : Ref sig .tc := ⟨.hbm, 37, rfl⟩
abbrev main_v19_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference10Ideal.lean ====
abbrev S8192x1024 : Shape := ⟨2, ![8192, 1024]⟩
abbrev S1024 : Shape := ⟨1, ![1024]⟩
abbrev S1024x2048 : Shape := ⟨2, ![1024, 2048]⟩
abbrev S128 : Shape := ⟨1, ![128]⟩
abbrev S8192x512 : Shape := ⟨2, ![8192, 512]⟩
abbrev S8192x256 : Shape := ⟨2, ![8192, 256]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S32768x128 : Shape := ⟨2, ![32768, 128]⟩
abbrev S32768x64 : Shape := ⟨2, ![32768, 64]⟩
abbrev S64 : Shape := ⟨1, ![64]⟩
abbrev S32768 : Shape := ⟨1, ![32768]⟩
abbrev S32768x1 : Shape := ⟨2, ![32768, 1]⟩
abbrev S1x64 : Shape := ⟨2, ![1, 64]⟩
abbrev S1x128 : Shape := ⟨2, ![1, 128]⟩

abbrev nBuf : Space → Nat
  | .hbm => 293
  | .vmem => 0
  | .smem => 0
  | _ => 0

abbrev hbmTy0_0 (i : Nat) : BufTy := match i % 128 with
  | 0 => ⟨S8192x1024, .f32⟩
  | 1 => ⟨S1024, .f32⟩
  | 2 => ⟨S1024x2048, .f32⟩
  | 3 => ⟨S128, .f32⟩
  | 4 => ⟨S128, .f32⟩
  | 5 => ⟨S8192x1024, .f32⟩
  | 6 => ⟨S8192x512, .f32⟩
  | 7 => ⟨S8192x512, .f32⟩
  | 8 => ⟨S8192x512, .f32⟩
  | 9 => ⟨S8192x256, .f32⟩
  | 10 => ⟨S8192x128, .f32⟩
  | 11 => ⟨S8192x128, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S1x1024, .f32⟩
  | 30 => ⟨S8192x1024, .f32⟩
  | 31 => ⟨S8192x1024, .f32⟩
  | 32 => ⟨S8192x2048, .f32⟩
  | 33 => ⟨S8192x512, .f32⟩
  | 34 => ⟨S8192x512, .f32⟩
  | 35 => ⟨S8192x512, .f32⟩
  | 36 => ⟨S8192x256, .f32⟩
  | 37 => ⟨S8192x128, .f32⟩
  | 38 => ⟨S8192x128, .f32⟩
  | 39 => ⟨S32768x128, .f32⟩
  | 40 => ⟨S32768x64, .f32⟩
  | 41 => ⟨S64, .f32⟩
  | 42 => ⟨S32768x64, .f32⟩
  | 43 => ⟨S_, .f32⟩
  | 44 => ⟨S32768, .f32⟩
  | 45 => ⟨S32768x1, .f32⟩
  | 46 => ⟨S_, .f32⟩
  | 47 => ⟨S32768x1, .f32⟩
  | 48 => ⟨S32768x1, .f32⟩
  | 49 => ⟨S_, .f32⟩
  | 50 => ⟨S32768x1, .f32⟩
  | 51 => ⟨S32768x1, .f32⟩
  | 52 => ⟨S32768x1, .f32⟩
  | 53 => ⟨S32768x1, .f32⟩
  | 54 => ⟨S_, .f32⟩
  | 55 => ⟨S32768x1, .f32⟩
  | 56 => ⟨S32768x1, .f32⟩
  | 57 => ⟨S32768x64, .f32⟩
  | 58 => ⟨S32768x64, .f32⟩
  | 59 => ⟨S1x64, .f32⟩
  | 60 => ⟨S32768x64, .f32⟩
  | 61 => ⟨S32768x64, .f32⟩
  | 62 => ⟨S32768x64, .f32⟩
  | 63 => ⟨S64, .f32⟩
  | 64 => ⟨S32768x64, .f32⟩
  | 65 => ⟨S_, .f32⟩
  | 66 => ⟨S32768, .f32⟩
  | 67 => ⟨S32768x1, .f32⟩
  | 68 => ⟨S_, .f32⟩
  | 69 => ⟨S32768x1, .f32⟩
  | 70 => ⟨S32768x1, .f32⟩
  | 71 => ⟨S_, .f32⟩
  | 72 => ⟨S32768x1, .f32⟩
  | 73 => ⟨S32768x1, .f32⟩
  | 74 => ⟨S32768x1, .f32⟩
  | 75 => ⟨S32768x1, .f32⟩
  | 76 => ⟨S_, .f32⟩
  | 77 => ⟨S32768x1, .f32⟩
  | 78 => ⟨S32768x1, .f32⟩
  | 79 => ⟨S32768x64, .f32⟩
  | 80 => ⟨S32768x64, .f32⟩
  | 81 => ⟨S1x64, .f32⟩
  | 82 => ⟨S32768x64, .f32⟩
  | 83 => ⟨S32768x64, .f32⟩
  | 84 => ⟨S32768x128, .f32⟩
  | 85 => ⟨S8192x512, .f32⟩
  | 86 => ⟨S32768x128, .f32⟩
  | 87 => ⟨S32768x64, .f32⟩
  | 88 => ⟨S64, .f32⟩
  | 89 => ⟨S32768x64, .f32⟩
  | 90 => ⟨S_, .f32⟩
  | 91 => ⟨S32768, .f32⟩
  | 92 => ⟨S32768x1, .f32⟩
  | 93 => ⟨S_, .f32⟩
  | 94 => ⟨S32768x1, .f32⟩
  | 95 => ⟨S32768x1, .f32⟩
  | 96 => ⟨S_, .f32⟩
  | 97 => ⟨S32768x1, .f32⟩
  | 98 => ⟨S32768x1, .f32⟩
  | 99 => ⟨S32768x1, .f32⟩
  | 100 => ⟨S32768x1, .f32⟩
  | 101 => ⟨S_, .f32⟩
  | 102 => ⟨S32768x1, .f32⟩
  | 103 => ⟨S32768x1, .f32⟩
  | 104 => ⟨S32768x64, .f32⟩
  | 105 => ⟨S32768x64, .f32⟩
  | 106 => ⟨S1x64, .f32⟩
  | 107 => ⟨S32768x64, .f32⟩
  | 108 => ⟨S32768x64, .f32⟩
  | 109 => ⟨S32768x64, .f32⟩
  | 110 => ⟨S64, .f32⟩
  | 111 => ⟨S32768x64, .f32⟩
  | 112 => ⟨S_, .f32⟩
  | 113 => ⟨S32768, .f32⟩
  | 114 => ⟨S32768x1, .f32⟩
  | 115 => ⟨S_, .f32⟩
  | 116 => ⟨S32768x1, .f32⟩
  | 117 => ⟨S32768x1, .f32⟩
  | 118 => ⟨S_, .f32⟩
  | 119 => ⟨S32768x1, .f32⟩
  | 120 => ⟨S32768x1, .f32⟩
  | 121 => ⟨S32768x1, .f32⟩
  | 122 => ⟨S32768x1, .f32⟩
  | 123 => ⟨S_, .f32⟩
  | 124 => ⟨S32768x1, .f32⟩
  | 125 => ⟨S32768x1, .f32⟩
  | 126 => ⟨S32768x64, .f32⟩
  | 127 => ⟨S32768x64, .f32⟩
  | _ => ⟨S8192x1024, .f32⟩

abbrev hbmTy0_1 (i : Nat) : BufTy := match i % 128 with
  | 0 => ⟨S1x64, .f32⟩
  | 1 => ⟨S32768x64, .f32⟩
  | 2 => ⟨S32768x64, .f32⟩
  | 3 => ⟨S32768x128, .f32⟩
  | 4 => ⟨S8192x512, .f32⟩
  | 5 => ⟨S32768x128, .f32⟩
  | 6 => ⟨S32768x64, .f32⟩
  | 7 => ⟨S32768x64, .f32⟩
  | 8 => ⟨S32768x64, .f32⟩
  | 9 => ⟨S_, .f32⟩
  | 10 => ⟨S64, .f32⟩
  | 11 => ⟨S1x64, .f32⟩
  | 12 => ⟨S32768x64, .f32⟩
  | 13 => ⟨S32768x64, .f32⟩
  | 14 => ⟨S_, .f32⟩
  | 15 => ⟨S64, .f32⟩
  | 16 => ⟨S32768x64, .f32⟩
  | 17 => ⟨S_, .f32⟩
  | 18 => ⟨S32768, .f32⟩
  | 19 => ⟨S32768x1, .f32⟩
  | 20 => ⟨S32768x64, .f32⟩
  | 21 => ⟨S32768x64, .f32⟩
  | 22 => ⟨S32768x1, .f32⟩
  | 23 => ⟨S_, .f32⟩
  | 24 => ⟨S32768x1, .f32⟩
  | 25 => ⟨S32768x1, .f32⟩
  | 26 => ⟨S_, .f32⟩
  | 27 => ⟨S32768, .f32⟩
  | 28 => ⟨S32768x64, .f32⟩
  | 29 => ⟨S32768x64, .f32⟩
  | 30 => ⟨S32768x64, .f32⟩
  | 31 => ⟨S32768x64, .f32⟩
  | 32 => ⟨S32768x64, .f32⟩
  | 33 => ⟨S_, .f32⟩
  | 34 => ⟨S128, .f32⟩
  | 35 => ⟨S_, .f32⟩
  | 36 => ⟨S32768x128, .f32⟩
  | 37 => ⟨S32768x64, .f32⟩
  | 38 => ⟨S_, .f32⟩
  | 39 => ⟨S64, .f32⟩
  | 40 => ⟨S1x64, .f32⟩
  | 41 => ⟨S32768x64, .f32⟩
  | 42 => ⟨S32768x64, .f32⟩
  | 43 => ⟨S_, .f32⟩
  | 44 => ⟨S64, .f32⟩
  | 45 => ⟨S32768x64, .f32⟩
  | 46 => ⟨S_, .f32⟩
  | 47 => ⟨S32768, .f32⟩
  | 48 => ⟨S32768x1, .f32⟩
  | 49 => ⟨S32768x64, .f32⟩
  | 50 => ⟨S32768x64, .f32⟩
  | 51 => ⟨S32768x1, .f32⟩
  | 52 => ⟨S_, .f32⟩
  | 53 => ⟨S32768x1, .f32⟩
  | 54 => ⟨S32768x1, .f32⟩
  | 55 => ⟨S_, .f32⟩
  | 56 => ⟨S32768, .f32⟩
  | 57 => ⟨S32768x64, .f32⟩
  | 58 => ⟨S32768x64, .f32⟩
  | 59 => ⟨S32768x64, .f32⟩
  | 60 => ⟨S32768x64, .f32⟩
  | 61 => ⟨S32768x64, .f32⟩
  | 62 => ⟨S_, .f32⟩
  | 63 => ⟨S128, .f32⟩
  | 64 => ⟨S128, .f32⟩
  | 65 => ⟨S_, .f32⟩
  | 66 => ⟨S32768x128, .f32⟩
  | 67 => ⟨S32768x128, .f32⟩
  | 68 => ⟨S8192x512, .f32⟩
  | 69 => ⟨S32768x128, .f32⟩
  | 70 => ⟨S32768x64, .f32⟩
  | 71 => ⟨S32768x64, .f32⟩
  | 72 => ⟨S32768x64, .f32⟩
  | 73 => ⟨S_, .f32⟩
  | 74 => ⟨S64, .f32⟩
  | 75 => ⟨S1x64, .f32⟩
  | 76 => ⟨S32768x64, .f32⟩
  | 77 => ⟨S32768x64, .f32⟩
  | 78 => ⟨S_, .f32⟩
  | 79 => ⟨S64, .f32⟩
  | 80 => ⟨S32768x64, .f32⟩
  | 81 => ⟨S_, .f32⟩
  | 82 => ⟨S32768, .f32⟩
  | 83 => ⟨S32768x1, .f32⟩
  | 84 => ⟨S32768x64, .f32⟩
  | 85 => ⟨S32768x64, .f32⟩
  | 86 => ⟨S32768x1, .f32⟩
  | 87 => ⟨S_, .f32⟩
  | 88 => ⟨S32768x1, .f32⟩
  | 89 => ⟨S32768x1, .f32⟩
  | 90 => ⟨S_, .f32⟩
  | 91 => ⟨S32768, .f32⟩
  | 92 => ⟨S32768x64, .f32⟩
  | 93 => ⟨S32768x64, .f32⟩
  | 94 => ⟨S32768x64, .f32⟩
  | 95 => ⟨S32768x64, .f32⟩
  | 96 => ⟨S32768x64, .f32⟩
  | 97 => ⟨S_, .f32⟩
  | 98 => ⟨S128, .f32⟩
  | 99 => ⟨S_, .f32⟩
  | 100 => ⟨S32768x128, .f32⟩
  | 101 => ⟨S32768x64, .f32⟩
  | 102 => ⟨S_, .f32⟩
  | 103 => ⟨S64, .f32⟩
  | 104 => ⟨S1x64, .f32⟩
  | 105 => ⟨S32768x64, .f32⟩
  | 106 => ⟨S32768x64, .f32⟩
  | 107 => ⟨S_, .f32⟩
  | 108 => ⟨S64, .f32⟩
  | 109 => ⟨S32768x64, .f32⟩
  | 110 => ⟨S_, .f32⟩
  | 111 => ⟨S32768, .f32⟩
  | 112 => ⟨S32768x1, .f32⟩
  | 113 => ⟨S32768x64, .f32⟩
  | 114 => ⟨S32768x64, .f32⟩
  | 115 => ⟨S32768x1, .f32⟩
  | 116 => ⟨S_, .f32⟩
  | 117 => ⟨S32768x1, .f32⟩
  | 118 => ⟨S32768x1, .f32⟩
  | 119 => ⟨S_, .f32⟩
  | 120 => ⟨S32768, .f32⟩
  | 121 => ⟨S32768x64, .f32⟩
  | 122 => ⟨S32768x64, .f32⟩
  | 123 => ⟨S32768x64, .f32⟩
  | 124 => ⟨S32768x64, .f32⟩
  | 125 => ⟨S32768x64, .f32⟩
  | 126 => ⟨S_, .f32⟩
  | 127 => ⟨S128, .f32⟩
  | _ => ⟨S8192x1024, .f32⟩

abbrev hbmTy0_2 (i : Nat) : BufTy := match i % 128 with
  | 0 => ⟨S128, .f32⟩
  | 1 => ⟨S_, .f32⟩
  | 2 => ⟨S32768x128, .f32⟩
  | 3 => ⟨S32768x128, .f32⟩
  | 4 => ⟨S8192x512, .f32⟩
  | 5 => ⟨S8192x2048, .f32⟩
  | 6 => ⟨S8192x1024, .f32⟩
  | 7 => ⟨S8192x1024, .f32⟩
  | 8 => ⟨S_, .f32⟩
  | 9 => ⟨S1024, .f32⟩
  | 10 => ⟨S1x1024, .f32⟩
  | 11 => ⟨S8192x1024, .f32⟩
  | 12 => ⟨S8192x1024, .f32⟩
  | 13 => ⟨S_, .f32⟩
  | 14 => ⟨S1024, .f32⟩
  | 15 => ⟨S8192x1024, .f32⟩
  | 16 => ⟨S_, .f32⟩
  | 17 => ⟨S8192, .f32⟩
  | 18 => ⟨S8192x1, .f32⟩
  | 19 => ⟨S8192x1024, .f32⟩
  | 20 => ⟨S8192x1024, .f32⟩
  | 21 => ⟨S8192x1, .f32⟩
  | 22 => ⟨S_, .f32⟩
  | 23 => ⟨S8192x1, .f32⟩
  | 24 => ⟨S8192x1, .f32⟩
  | 25 => ⟨S_, .f32⟩
  | 26 => ⟨S8192, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S8192x2048, .bf16⟩
  | 34 => ⟨S1x1024, .f32⟩
  | 35 => ⟨S1x128, .f32⟩
  | 36 => ⟨S1x128, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_11 : Ref sig .tc := ⟨.hbm, 90, rfl⟩
abbrev main_v66 : Ref sig .tc := ⟨.hbm, 91, rfl⟩
abbrev main_v67 : Ref sig .tc := ⟨.hbm, 92, rfl⟩
abbrev main_cst_12 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_15 : Ref sig .tc := ⟨.hbm, 112, rfl⟩
abbrev main_v84 : Ref sig .tc := ⟨.hbm, 113, rfl⟩
abbrev main_v85 : Ref sig .tc := ⟨.hbm, 114, rfl⟩
abbrev main_cst_16 : Ref sig .tc := ⟨.hbm, 115, rfl⟩
abbrev main_v86 : Ref sig .tc := ⟨.hbm, 116, rfl⟩
abbrev main_v87 : Ref sig .tc := ⟨.hbm, 117, rfl⟩
abbrev main_cst_17 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_18 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_19 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_20 : Ref sig .tc := ⟨.hbm, 142, rfl⟩
abbrev main_v109 : Ref sig .tc := ⟨.hbm, 143, rfl⟩
abbrev main_v110 : Ref sig .tc := ⟨.hbm, 144, rfl⟩
abbrev main_cst_21 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_22 : Ref sig .tc := ⟨.hbm, 151, rfl⟩
abbrev main_v116 : Ref sig .tc := ⟨.hbm, 152, rfl⟩
abbrev main_v117 : Ref sig .tc := ⟨.hbm, 153, rfl⟩
abbrev main_cst_23 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_24 : Ref sig .tc := ⟨.hbm, 161, rfl⟩
abbrev main_v124 : Ref sig .tc := ⟨.hbm, 162, rfl⟩
abbrev main_cst_25 : Ref sig .tc := ⟨.hbm, 163, rfl⟩
abbrev main_v125 : Ref sig .tc := ⟨.hbm, 164, rfl⟩
abbrev main_v126 : Ref sig .tc := ⟨.hbm, 165, rfl⟩
abbrev main_cst_26 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_27 : Ref sig .tc := ⟨.hbm, 171, rfl⟩
abbrev main_v131 : Ref sig .tc := ⟨.hbm, 172, rfl⟩
abbrev main_v132 : Ref sig .tc := ⟨.hbm, 173, rfl⟩
abbrev main_cst_28 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_29 : Ref sig .tc := ⟨.hbm, 180, rfl⟩
abbrev main_v138 : Ref sig .tc := ⟨.hbm, 181, rfl⟩
abbrev main_v139 : Ref sig .tc := ⟨.hbm, 182, rfl⟩
abbrev main_cst_30 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_cst_31 : Ref sig .tc := ⟨.hbm, 190, rfl⟩
abbrev main_v146 : Ref sig .tc := ⟨.hbm, 191, rfl⟩
abbrev main_v147 : Ref sig .tc := ⟨.hbm, 192, rfl⟩
abbrev main_cst_32 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_33 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_cst_34 : Ref sig .tc := ⟨.hbm, 206, rfl⟩
abbrev main_v159 : Ref sig .tc := ⟨.hbm, 207, rfl⟩
abbrev main_v160 : Ref sig .tc := ⟨.hbm, 208, rfl⟩
abbrev main_cst_35 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_cst_36 : Ref sig .tc := ⟨.hbm, 215, rfl⟩
abbrev main_v166 : Ref sig .tc := ⟨.hbm, 216, rfl⟩
abbrev main_v167 : Ref sig .tc := ⟨.hbm, 217, rfl⟩
abbrev main_cst_37 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_cst_38 : Ref sig .tc := ⟨.hbm, 225, rfl⟩
abbrev main_v174 : Ref sig .tc := ⟨.hbm, 226, rfl⟩
abbrev main_cst_39 : Ref sig .tc := ⟨.hbm, 227, rfl⟩
abbrev main_v175 : Ref sig .tc := ⟨.hbm, 228, rfl⟩
abbrev main_v176 : Ref sig .tc := ⟨.hbm, 229, rfl⟩
abbrev main_cst_40 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_cst_41 : Ref sig .tc := ⟨.hbm, 235, rfl⟩
abbrev main_v181 : Ref sig .tc := ⟨.hbm, 236, rfl⟩
abbrev main_v182 : Ref sig .tc := ⟨.hbm, 237, rfl⟩
abbrev main_cst_42 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_cst_43 : Ref sig .tc := ⟨.hbm, 244, rfl⟩
abbrev main_v188 : Ref sig .tc := ⟨.hbm, 245, rfl⟩
abbrev main_v189 : Ref sig .tc := ⟨.hbm, 246, rfl⟩
abbrev main_cst_44 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_cst_45 : Ref sig .tc := ⟨.hbm, 254, rfl⟩
abbrev main_v196 : Ref sig .tc := ⟨.hbm, 255, rfl⟩
abbrev main_v197 : Ref sig .tc := ⟨.hbm, 256, rfl⟩
abbrev main_cst_46 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_cst_47 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_cst_48 : Ref sig .tc := ⟨.hbm, 269, rfl⟩
abbrev main_v208 : Ref sig .tc := ⟨.hbm, 270, rfl⟩
abbrev main_v209 : Ref sig .tc := ⟨.hbm, 271, rfl⟩
abbrev main_cst_49 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_cst_50 : Ref sig .tc := ⟨.hbm, 278, rfl⟩
abbrev main_v215 : Ref sig .tc := ⟨.hbm, 279, rfl⟩
abbrev main_v216 : Ref sig .tc := ⟨.hbm, 280, rfl⟩
abbrev main_cst_51 : Ref sig .tc := ⟨.hbm, 281, rfl⟩
abbrev main_v217 : Ref sig .tc := ⟨.hbm, 282, rfl⟩
abbrev main_v218 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩

abbrev nD : Nat := 1
abbrev τ : Topo := Topo.v7x

variable {F : FTy → Type} [FloatOps F]
-- ==== Kernel11.lean ====
abbrev S8x352x1024 : Shape := ⟨3, ![8, 352, 1024]⟩
abbrev S1x352x1024 : Shape := ⟨3, ![1, 352, 1024]⟩
abbrev S8x48x128 : Shape := ⟨3, ![8, 48, 128]⟩
abbrev S1x48x128 : Shape := ⟨3, ![1, 48, 128]⟩
abbrev S8x176x1024 : Shape := ⟨3, ![8, 176, 1024]⟩
abbrev S1x176x1024 : Shape := ⟨3, ![1, 176, 1024]⟩
abbrev S176x1024 : Shape := ⟨2, ![176, 1024]⟩
abbrev S48x128 : Shape := ⟨2, ![48, 128]⟩

abbrev nBuf : Space → Nat
  | .hbm => 16
  | .vmem => 32
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x48x128, .f32⟩
  | .hbm, ⟨5, _⟩ => ⟨S1x48x128, .f32⟩
  | .hbm, ⟨6, _⟩ => ⟨S1x48x128, .f32⟩
  | .hbm, ⟨7, _⟩ => ⟨S1x48x128, .f32⟩
  | .hbm, ⟨8, _⟩ => ⟨S1x352x1024, .f32⟩
  | .hbm, ⟨9, _⟩ => ⟨S1x352x1024, .f32⟩
  | .hbm, ⟨10, _⟩ => ⟨S1x352x1024, .f32⟩
  | .hbm, ⟨11, _⟩ => ⟨S1x352x1024, .f32⟩
  | .hbm, ⟨12, _⟩ => ⟨S1x48x128, .f32⟩
  | .hbm, ⟨13, _⟩ => ⟨S1x48x128, .f32⟩
  | .hbm, ⟨14, _⟩ => ⟨S1x48x128, .f32⟩
  | .hbm, ⟨15, _⟩ => ⟨S1x48x128, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S8x48x128, .f32⟩
  | .local _ .vmem, ⟨9, _⟩ => ⟨S8x48x128, .f32⟩
  | .local _ .vmem, ⟨10, _⟩ => ⟨S1x48x128, .f32⟩
  | .local _ .vmem, ⟨11, _⟩ => ⟨S1x48x128, .f32⟩
  | .local _ .vmem, ⟨12, _⟩ => ⟨S1x48x128, .f32⟩
  | .local _ .vmem, ⟨13, _⟩ => ⟨S1x48x128, .f32⟩
  | .local _ .vmem, ⟨14, _⟩ => ⟨S1x48x128, .f32⟩
  | .local _ .vmem, ⟨15, _⟩ => ⟨S1x48x128, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .vmem, ⟨22, _⟩ => ⟨S1x176x1024, .f32⟩
  | .local _ .vmem, ⟨23, _⟩ => ⟨S1x176x1024, .f32⟩
  | .local _ .vmem, ⟨24, _⟩ => ⟨S1x48x128, .f32⟩
  | .local _ .vmem, ⟨25, _⟩ => ⟨S1x48x128, .f32⟩
  | .local _ .vmem, ⟨26, _⟩ => ⟨S1x48x128, .f32⟩
  | .local _ .vmem, ⟨27, _⟩ => ⟨S1x48x128, .f32⟩
  | .local _ .vmem, ⟨28, _⟩ => ⟨S1x48x128, .f32⟩
  | .local _ .vmem, ⟨29, _⟩ => ⟨S1x48x128, .f32⟩
  | .local _ .vmem, ⟨30, _⟩ => ⟨S1x48x128, .f32⟩
  | .local _ .vmem, ⟨31, _⟩ => ⟨S1x48x128, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c3_i32 : BitVec 32 := 3#32
  let v6 : BitVec 1 := Scalar.cmpi .slt arg0 c3_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_3 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_4 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_5 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_6 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_7 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_8 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_9 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_10 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_11 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_12 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_13 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_14 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

def cc0_transform_15 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  let c0_i32_3 : BitVec 32 := 0#32
  ![c0_i32_1.toNat, v2.toNat, c0_i32_2.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x48x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x48x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x48x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x48x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x48x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x48x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x48x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x48x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference11Ideal.lean ====
abbrev S8x352x1024 : Shape := ⟨3, ![8, 352, 1024]⟩
abbrev S1x352x1024 : Shape := ⟨3, ![1, 352, 1024]⟩
abbrev S8x48x128 : Shape := ⟨3, ![8, 48, 128]⟩
abbrev S1x48x128 : Shape := ⟨3, ![1, 48, 128]⟩
abbrev S_ : Shape := ⟨0, ![]⟩
abbrev S352x1024 : Shape := ⟨2, ![352, 1024]⟩
abbrev S48x128 : Shape := ⟨2, ![48, 128]⟩

abbrev nBuf : Space → Nat
  | .hbm => 81
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x48x128, .f32⟩
  | .hbm, ⟨5, _⟩ => ⟨S1x48x128, .f32⟩
  | .hbm, ⟨6, _⟩ => ⟨S1x48x128, .f32⟩
  | .hbm, ⟨7, _⟩ => ⟨S1x48x128, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S_, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S1x352x1024, .f32⟩
  | .hbm, ⟨27, _⟩ => ⟨S_, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | .hbm, ⟨41, _⟩ => ⟨S1x352x1024, .f32⟩
  | .hbm, ⟨42, _⟩ => ⟨S_, .f32⟩
  | .hbm, ⟨43, _⟩ => ⟨S1x352x1024, .f32⟩
  | .hbm, ⟨44, _⟩ => ⟨S1x352x1024, .f32⟩
  | .hbm, ⟨45, _⟩ => ⟨S_, .f32⟩
  | .hbm, ⟨46, _⟩ => ⟨S48x128, .f32⟩
  | .hbm, ⟨47, _⟩ => ⟨S1x48x128, .f32⟩
  | .hbm, ⟨48, _⟩ => ⟨S_, .f32⟩
  | .hbm, ⟨49, _⟩ => ⟨S1x48x128, .f32⟩
  | .hbm, ⟨50, _⟩ => ⟨S1x48x128, .f32⟩
  | .hbm, ⟨51, _⟩ => ⟨S_, .f32⟩
  | .hbm, ⟨52, _⟩ => ⟨S1x48x128, .f32⟩
  | .hbm, ⟨53, _⟩ => ⟨S1x48x128, .f32⟩
  | .hbm, ⟨54, _⟩ => ⟨S1x48x128, .f32⟩
  | .hbm, ⟨55, _⟩ => ⟨S_, .f32⟩
  | .hbm, ⟨56, _⟩ => ⟨S1x48x128, .f32⟩
  | .hbm, ⟨57, _⟩ => ⟨S1x48x128, .f32⟩
  | .hbm, ⟨58, _⟩ => ⟨S1x48x128, .f32⟩
  | .hbm, ⟨59, _⟩ => ⟨S_, .f32⟩
  | .hbm, ⟨60, _⟩ => ⟨S1x48x128, .f32⟩
  | .hbm, ⟨61, _⟩ => ⟨S1x48x128, .f32⟩
  | .hbm, ⟨62, _⟩ => ⟨S1x48x128, .f32⟩
  | .hbm, ⟨63, _⟩ => ⟨S_, .f32⟩
  | .hbm, ⟨64, _⟩ => ⟨S1x48x128, .f32⟩
  | .hbm, ⟨65, _⟩ => ⟨S1x48x128, .f32⟩
  | .hbm, ⟨66, _⟩ => ⟨S_, .f32⟩
  | .hbm, ⟨67, _⟩ => ⟨S1x48x128, .f32⟩
  | .hbm, ⟨68, _⟩ => ⟨S1x48x128, .f32⟩
  | .hbm, ⟨69, _⟩ => ⟨S1x48x128, .f32⟩
  | .hbm, ⟨70, _⟩ => ⟨S_, .f32⟩
  | .hbm, ⟨71, _⟩ => ⟨S1x48x128, .f32⟩
  | .hbm, ⟨72, _⟩ => ⟨S1x48x128, .f32⟩
  | .hbm, ⟨73, _⟩ => ⟨S1x48x128, .f32⟩
  | .hbm, ⟨74, _⟩ => ⟨S_, .f32⟩
  | .hbm, ⟨75, _⟩ => ⟨S1x48x128, .f32⟩
  | .hbm, ⟨76, _⟩ => ⟨S1x48x128, .f32⟩
  | .hbm, ⟨77, _⟩ => ⟨S1x48x128, .f32⟩
  | .hbm, ⟨78, _⟩ => ⟨S_, .f32⟩
  | .hbm, ⟨79, _⟩ => ⟨S1x48x128, .f32⟩
  | .hbm, ⟨80, _⟩ => ⟨S1x48x128, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_cst_9 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_cst_11 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_12 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_cst_15 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_16 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_17 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_18 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]
-- ==== Kernel12.lean ====
abbrev S8192x1024 : Shape := ⟨2, ![8192, 1024]⟩
abbrev S8192x512 : Shape := ⟨2, ![8192, 512]⟩
abbrev S512 : Shape := ⟨1, ![512]⟩
abbrev S1024x1024 : Shape := ⟨2, ![1024, 1024]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1x512, .f32⟩
  | .hbm, ⟨7, _⟩ => ⟨S1x512, .f32⟩
  | .hbm, ⟨8, _⟩ => ⟨S1024x1024, .bf16⟩
  | .hbm, ⟨9, _⟩ => ⟨S8192x1024, .f32⟩
  | .hbm, ⟨10, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8192x1024 : Shape := ⟨2, ![8192, 1024]⟩
abbrev S8192x512 : Shape := ⟨2, ![8192, 512]⟩
abbrev S512 : Shape := ⟨1, ![512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel13.lean ====
abbrev S8192x1024 : Shape := ⟨2, ![8192, 1024]⟩
abbrev S1024 : Shape := ⟨1, ![1024]⟩
abbrev S1024x2048 : Shape := ⟨2, ![1024, 2048]⟩
abbrev S128 : Shape := ⟨1, ![128]⟩
abbrev S1x1024 : Shape := ⟨2, ![1, 1024]⟩
abbrev S2048x1024 : Shape := ⟨2, ![2048, 1024]⟩
abbrev S1x128 : Shape := ⟨2, ![1, 128]⟩
abbrev S8192x2048 : Shape := ⟨2, ![8192, 2048]⟩
abbrev S8192x512 : Shape := ⟨2, ![8192, 512]⟩
abbrev S1024x1024 : Shape := ⟨2, ![1024, 1024]⟩
abbrev S1024x512 : Shape := ⟨2, ![1024, 512]⟩
abbrev S1024x1 : Shape := ⟨2, ![1024, 1]⟩
abbrev S1024x128 : Shape := ⟨2, ![1024, 128]⟩

abbrev nBuf : Space → Nat
  | .hbm => 14
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S128, .f32⟩
  | .hbm, ⟨4, _⟩ => ⟨S128, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1x128, .f32⟩
  | .hbm, ⟨9, _⟩ => ⟨S1x128, .f32⟩
  | .hbm, ⟨10, _⟩ => ⟨S8192x1024, .bf16⟩
  | .hbm, ⟨11, _⟩ => ⟨S8192x2048, .f32⟩
  | .hbm, ⟨12, _⟩ => ⟨S8192x512, .f32⟩
  | .hbm, ⟨13, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2048x1024, .bf16⟩
  | .local _ .vmem, ⟨4, _⟩ => ⟨S1x128, .f32⟩
  | .local _ .vmem, ⟨5, _⟩ => ⟨S1x128, .f32⟩
  | .local _ .vmem, ⟨6, _⟩ => ⟨S1024x1024, .bf16⟩
  | .local _ .vmem, ⟨7, _⟩ => ⟨S1024x1024, .bf16⟩
  | .local _ .vmem, ⟨8, _⟩ => ⟨S1024x2048, .f32⟩
  | .local _ .vmem, ⟨9, _⟩ => ⟨S1024x2048, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S8192x1024 : Shape := ⟨2, ![8192, 1024]⟩
abbrev S1024 : Shape := ⟨1, ![1024]⟩
abbrev S1024x2048 : Shape := ⟨2, ![1024, 2048]⟩
abbrev S128 : Shape := ⟨1, ![128]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩
abbrev S8192x512 : Shape := ⟨2, ![8192, 512]⟩
abbrev S32768x128 : Shape := ⟨2, ![32768, 128]⟩
abbrev S32768x64 : Shape := ⟨2, ![32768, 64]⟩
abbrev S64 : Shape := ⟨1, ![64]⟩
abbrev S32768 : Shape := ⟨1, ![32768]⟩
abbrev S32768x1 : Shape := ⟨2, ![32768, 1]⟩
abbrev S1x64 : Shape := ⟨2, ![1, 64]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S128, .f32⟩
  | .hbm, ⟨4, _⟩ => ⟨S128, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x2048, .f32⟩
  | .hbm, ⟨22, _⟩ => ⟨S8192x1024, .bf16⟩
  | .hbm, ⟨23, _⟩ => ⟨S8192x512, .f32⟩
  | .hbm, ⟨24, _⟩ => ⟨S32768x128, .f32⟩
  | .hbm, ⟨25, _⟩ => ⟨S32768x64, .f32⟩
  | .hbm, ⟨26, _⟩ => ⟨S64, .f32⟩
  | .hbm, ⟨27, _⟩ => ⟨S32768x64, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x64, .f32⟩
  | .hbm, ⟨39, _⟩ => ⟨S32768x64, .f32⟩
  | .hbm, ⟨40, _⟩ => ⟨S1x64, .f32⟩
  | .hbm, ⟨41, _⟩ => ⟨S32768x64, .f32⟩
  | .hbm, ⟨42, _⟩ => ⟨S32768x64, .f32⟩
  | .hbm, ⟨43, _⟩ => ⟨S32768x64, .f32⟩
  | .hbm, ⟨44, _⟩ => ⟨S64, .f32⟩
  | .hbm, ⟨45, _⟩ => ⟨S32768x64, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x64, .f32⟩
  | .hbm, ⟨57, _⟩ => ⟨S32768x64, .f32⟩
  | .hbm, ⟨58, _⟩ => ⟨S1x64, .f32⟩
  | .hbm, ⟨59, _⟩ => ⟨S32768x64, .f32⟩
  | .hbm, ⟨60, _⟩ => ⟨S32768x64, .f32⟩
  | .hbm, ⟨61, _⟩ => ⟨S32768x128, .f32⟩
  | .hbm, ⟨62, _⟩ => ⟨S8192x512, .f32⟩
  | .hbm, ⟨63, _⟩ => ⟨S8192x512, .f32⟩
  | .hbm, ⟨64, _⟩ => ⟨S32768x128, .f32⟩
  | .hbm, ⟨65, _⟩ => ⟨S32768x64, .f32⟩
  | .hbm, ⟨66, _⟩ => ⟨S64, .f32⟩
  | .hbm, ⟨67, _⟩ => ⟨S32768x64, .f32⟩
  | .hbm, ⟨68, _⟩ => ⟨S_, .f32⟩
  | .hbm, ⟨69, _⟩ => ⟨S32768, .f32⟩
  | .hbm, ⟨70, _⟩ => ⟨S32768x1, .f32⟩
  | .hbm, ⟨71, _⟩ => ⟨S_, .f32⟩
  | .hbm, ⟨72, _⟩ => ⟨S32768x1, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S32768x1, .f32⟩
  | .hbm, ⟨78, _⟩ => ⟨S32768x64, .f32⟩
  | .hbm, ⟨79, _⟩ => ⟨S32768x64, .f32⟩
  | .hbm, ⟨80, _⟩ => ⟨S1x64, .f32⟩
  | .hbm, ⟨81, _⟩ => ⟨S32768x64, .f32⟩
  | .hbm, ⟨82, _⟩ => ⟨S32768x64, .f32⟩
  | .hbm, ⟨83, _⟩ => ⟨S32768x64, .f32⟩
  | .hbm, ⟨84, _⟩ => ⟨S64, .f32⟩
  | .hbm, ⟨85, _⟩ => ⟨S32768x64, .f32⟩
  | .hbm, ⟨86, _⟩ => ⟨S_, .f32⟩
  | .hbm, ⟨87, _⟩ => ⟨S32768, .f32⟩
  | .hbm, ⟨88, _⟩ => ⟨S32768x1, .f32⟩
  | .hbm, ⟨89, _⟩ => ⟨S_, .f32⟩
  | .hbm, ⟨90, _⟩ => ⟨S32768x1, .f32⟩
  | .hbm, ⟨91, _⟩ => ⟨S32768x1, .f32⟩
  | .hbm, ⟨92, _⟩ => ⟨S_, .f32⟩
  | .hbm, ⟨93, _⟩ => ⟨S32768x1, .f32⟩
  | .hbm, ⟨94, _⟩ => ⟨S32768x1, .f32⟩
  | .hbm, ⟨95, _⟩ => ⟨S32768x1, .f32⟩
  | .hbm, ⟨96, _⟩ => ⟨S32768x64, .f32⟩
  | .hbm, ⟨97, _⟩ => ⟨S32768x64, .f32⟩
  | .hbm, ⟨98, _⟩ => ⟨S1x64, .f32⟩
  | .hbm, ⟨99, _⟩ => ⟨S32768x64, .f32⟩
  | .hbm, ⟨100, _⟩ => ⟨S32768x64, .f32⟩
  | .hbm, ⟨101, _⟩ => ⟨S32768x128, .f32⟩
  | .hbm, ⟨102, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_11 : Ref sig .tc := ⟨.hbm, 86, rfl⟩
abbrev main_v69 : Ref sig .tc := ⟨.hbm, 87, rfl⟩
abbrev main_v70 : Ref sig .tc := ⟨.hbm, 88, rfl⟩
abbrev main_cst_12 : Ref sig .tc := ⟨.hbm, 89, rfl⟩
abbrev main_v71 : Ref sig .tc := ⟨.hbm, 90, rfl⟩
abbrev main_v72 : Ref sig .tc := ⟨.hbm, 91, rfl⟩
abbrev main_cst_13 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩

abbrev nD : Nat := 1
abbrev τ : Topo := Topo.v7x

variable {F : FTy → Type} [FloatOps F]
-- ==== Proof.FfnBlock.lean ====
/- What one grid point of the feed-forward backward kernel leaves in its six output blocks, as a function of the
   eight input blocks that it reads (the incoming gradient, the rows, the gain, the two pre-activations, the three
   weights): the covering stores of each case of the point read back as values. -/
module

public import proofs.«01_k».proof.Proof.Gen.KernelIdeal.Value

@[expose] public section

noncomputable section

namespace Cert.Ffn.Block

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The constant one of the gate's derivative. -/
abbrev one : F .f32 := Scalar.ofBits .f32 0x3F800000#32

/-- The gradient of the rows that a point writes, from its input blocks. -/
def dxB (dy x : Vec F S256x1024 .f32) (g : Vec F S1x1024 .f32) (ga up : Vec F S256x2816 .bf16)
    (wg wu wd : Vec F S2816x1024 .bf16) : Vec F S256x1024 .f32 :=
  k0_pay5 (k0_pay9 (k0_pay8 dy) wd) (k0_pay12 ga) (k0_pay13 ga) (k0_pay15 (k0_pay8 dy) wd up) (k0_pay16 ga) one wg wu x g dy

/-- The gradient of the gate's pre-activation that a point writes. -/
def dgB (dy : Vec F S256x1024 .f32) (ga up : Vec F S256x2816 .bf16) (wd : Vec F S2816x1024 .bf16) : Vec F S256x2816 .bf16 :=
  k0_pay1 (k0_pay12 ga) (k0_pay15 (k0_pay8 dy) wd up) (k0_pay16 ga) one

/-- The gradient of the up projection that a point writes. -/
def duB (dy : Vec F S256x1024 .f32) (ga : Vec F S256x2816 .bf16) (wd : Vec F S2816x1024 .bf16) : Vec F S256x2816 .bf16 :=
  k0_pay2 (k0_pay9 (k0_pay8 dy) wd) (k0_pay13 ga)

/-- The running gain gradient after a point that found `acc`. -/
def dgainB (dy x : Vec F S256x1024 .f32) (ga up : Vec F S256x2816 .bf16)
    (wg wu wd : Vec F S2816x1024 .bf16) (acc : Vec F S1x1024 .f32) : Vec F S1x1024 .f32 :=
  k0_pay6 (k0_pay9 (k0_pay8 dy) wd) (k0_pay12 ga) (k0_pay13 ga) (k0_pay15 (k0_pay8 dy) wd up) (k0_pay16 ga) one wg wu x acc

section

variable (c : Dev nD) (i : grid0.Coords)
  (a2 : Memref sig .tc .vmem S256x1024 .f32) (h2 : a2.IsWhole)
  (a3 : Memref sig .tc .vmem S256x1024 .f32) (h3 : a3.IsWhole)
  (a4 : Memref sig .tc .vmem S1x1024 .f32) (h4 : a4.IsWhole)
  (a5 : Memref sig .tc .vmem S256x2816 .bf16) (h5 : a5.IsWhole)
  (a6 : Memref sig .tc .vmem S256x2816 .bf16) (h6 : a6.IsWhole)
  (a7 : Memref sig .tc .vmem S2816x1024 .bf16) (h7 : a7.IsWhole)
  (a8 : Memref sig .tc .vmem S2816x1024 .bf16) (h8 : a8.IsWhole)
  (a9 : Memref sig .tc .vmem S2816x1024 .bf16) (h9 : a9.IsWhole)
  (a10 : Memref sig .tc .vmem S256x1024 .f32) (h10 : a10.IsWhole)
  (a11 : Memref sig .tc .vmem S256x2816 .bf16) (h11 : a11.IsWhole)
  (a12 : Memref sig .tc .vmem S256x2816 .bf16) (h12 : a12.IsWhole)
  (a13 : Memref sig .tc .vmem S256x2816 .bf16) (h13 : a13.IsWhole)
  (a14 : Memref sig .tc .vmem S256x1024 .bf16) (h14 : a14.IsWhole)
  (a15 : Memref sig .tc .vmem S1x1024 .f32) (h15 : a15.IsWhole)
  (a16 : Memref sig .tc .vmem S256x1024 .f32) (h16 : a16.IsWhole)
  (hc1 : cond0_1 i) (hc2 : cond0_2 i)
  (dy x : Vec F S256x1024 .f32) (g : Vec F S1x1024 .f32) (ga up : Vec F S256x2816 .bf16)
  (wg wu wd : Vec F S2816x1024 .bf16)

/-- Window 8 at the first point: the gradient of the rows. -/
theorem out_A_8 (hc0 : cond0_0 i) :
    out0_A_8 c i a2 h2 a3 h3 a4 h4 a5 h5 a6 h6 a7 h7 a8 h8 a9 h9 a10 h10 a11 h11 a12 h12 a13 h13 a14 h14 a15 h15 a16 h16 hc0 hc1 hc2 dy x g ga up wg wu wd = dxB dy x g ga up wg wu wd := by
  unfold out0_A_8
  rw [View.read_writes_junk_eq_canon]
  unfold kernelRun0_A
  dsimp only
  sl_unfold_words
  simp only [View.canon_unit_zero (S := S256x1024) hz, View.readCov_unit_zero (S := S256x1024) _ hz,
    View.readAt_eq_ld, h2.read_unread, h3.read_unread, h4.read_unread, h5.read_unread, h6.read_unread,
    h7.read_unread, h8.read_unread, h9.read_unread, View.ld_unit_zero (S := S256x1024) hz,
    View.ld_unit_zero (S := S1x1024) hz, View.ld_unit_zero (S := S256x2816) hz,
    View.ld_unit_zero (S := S2816x1024) hz]
  unfold dxB
  rfl
/-- Window 9 at the first point: the hidden activation. -/
theorem out_A_9 (hc0 : cond0_0 i) :
    out0_A_9 c i a2 h2 a3 h3 a4 h4 a5 h5 a6 h6 a7 h7 a8 h8 a9 h9 a10 h10 a11 h11 a12 h12 a13 h13 a14 h14 a15 h15 a16 h16 hc0 hc1 hc2 dy x g ga up wg wu wd = k0_pay14 ga up := by
  unfold out0_A_9
  rw [View.read_writes_junk_eq_canon]
  unfold kernelRun0_A
  dsimp only
  sl_unfold_words
  simp only [View.canon_unit_zero (S := S256x2816) hz, View.readAt_eq_ld, h5.read_unread, h6.read_unread,
    View.ld_unit_zero (S := S256x2816) hz]
/-- Window 10 at the first point: the gradient of the gate's pre-activation. -/
theorem out_A_10 (hc0 : cond0_0 i) :
    out0_A_10 c i a2 h2 a3 h3 a4 h4 a5 h5 a6 h6 a7 h7 a8 h8 a9 h9 a10 h10 a11 h11 a12 h12 a13 h13 a14 h14 a15 h15 a16 h16 hc0 hc1 hc2 dy x g ga up wg wu wd = dgB dy ga up wd := by
  unfold out0_A_10
  rw [View.read_writes_junk_eq_canon]
  unfold kernelRun0_A
  dsimp only
  sl_unfold_words
  simp only [View.canon_unit_zero (S := S256x2816) hz, View.readCov_unit_zero (S := S256x1024) _ hz,
    View.readAt_eq_ld, h2.read_unread, h5.read_unread, h6.read_unread, h9.read_unread,
    View.ld_unit_zero (S := S256x1024) hz, View.ld_unit_zero (S := S256x2816) hz,
    View.ld_unit_zero (S := S2816x1024) hz]
  unfold dgB
  rfl
/-- Window 11 at the first point: the gradient of the up projection. -/
theorem out_A_11 (hc0 : cond0_0 i) :
    out0_A_11 c i a2 h2 a3 h3 a4 h4 a5 h5 a6 h6 a7 h7 a8 h8 a9 h9 a10 h10 a11 h11 a12 h12 a13 h13 a14 h14 a15 h15 a16 h16 hc0 hc1 hc2 dy x g ga up wg wu wd = duB dy ga wd := by
  unfold out0_A_11
  rw [View.read_writes_junk_eq_canon]
  unfold kernelRun0_A
  dsimp only
  sl_unfold_words
  simp only [View.canon_unit_zero (S := S256x2816) hz, View.readCov_unit_zero (S := S256x1024) _ hz,
    View.readAt_eq_ld, h2.read_unread, h5.read_unread, h9.read_unread, View.ld_unit_zero (S := S256x1024) hz,
    View.ld_unit_zero (S := S256x2816) hz, View.ld_unit_zero (S := S2816x1024) hz]
  unfold duB
  rfl
/-- Window 12 at the first point: the scaled incoming gradient. -/
theorem out_A_12 (hc0 : cond0_0 i) :
    out0_A_12 c i a2 h2 a3 h3 a4 h4 a5 h5 a6 h6 a7 h7 a8 h8 a9 h9 a10 h10 a11 h11 a12 h12 a13 h13 a14 h14 a15 h15 a16 h16 hc0 hc1 hc2 dy x g ga up wg wu wd = k0_pay8 dy := by
  unfold out0_A_12
  rw [View.read_writes_junk_eq_canon]
  unfold kernelRun0_A
  dsimp only
  sl_unfold_words
  simp only [View.canon_unit_zero (S := S256x1024) hz, View.readAt_eq_ld, h2.read_unread,
    View.ld_unit_zero (S := S256x1024) hz]
/-- Window 13 at the first point: the running gain gradient. -/
theorem out_A_13 (hc0 : cond0_0 i) :
    out0_A_13 c i a2 h2 a3 h3 a4 h4 a5 h5 a6 h6 a7 h7 a8 h8 a9 h9 a10 h10 a11 h11 a12 h12 a13 h13 a14 h14 a15 h15 a16 h16 hc0 hc1 hc2 dy x g ga up wg wu wd = dgainB dy x ga up wg wu wd (k0_pay7 (F := F)) := by
  unfold out0_A_13
  rw [View.read_writes_junk_eq_canon]
  unfold kernelRun0_A
  dsimp only
  sl_unfold_words
  simp only [View.canon_cons_unit_zero (S := S1x1024) hz, View.readCov_unit_zero (S := S256x1024) _ hz,
    View.readCov_unit_zero (S := S1x1024) _ hz, View.readAt_eq_ld, h2.read_unread, h3.read_unread,
    h5.read_unread, h6.read_unread, h7.read_unread, h8.read_unread, h9.read_unread,
    View.ld_unit_zero (S := S256x1024) hz, View.ld_unit_zero (S := S256x2816) hz,
    View.ld_unit_zero (S := S2816x1024) hz]
  unfold dgainB
  rfl

/-- Window 8 at a later point: the gradient of the rows. -/
theorem out_B_8 (hc0 : ¬cond0_0 i) (xo : Vec F S1x1024 .f32) :
    out0_B_8 c i a2 h2 a3 h3 a4 h4 a5 h5 a6 h6 a7 h7 a8 h8 a9 h9 a10 h10 a11 h11 a12 h12 a13 h13 a14 h14 a15 h15 a16 h16 hc0 hc1 hc2 dy x g ga up wg wu wd xo = dxB dy x g ga up wg wu wd := by
  unfold out0_B_8
  rw [View.read_writes_junk_eq_canon]
  unfold kernelRun0_B
  dsimp only
  sl_unfold_words
  simp only [View.canon_unit_zero (S := S256x1024) hz, View.readCov_unit_zero (S := S256x1024) _ hz,
    View.readAt_eq_ld, h2.read_unread, h3.read_unread, h4.read_unread, h5.read_unread, h6.read_unread,
    h7.read_unread, h8.read_unread, h9.read_unread, View.ld_unit_zero (S := S256x1024) hz,
    View.ld_unit_zero (S := S1x1024) hz, View.ld_unit_zero (S := S256x2816) hz,
    View.ld_unit_zero (S := S2816x1024) hz]
  unfold dxB
  rfl
/-- Window 9 at a later point: the hidden activation. -/
theorem out_B_9 (hc0 : ¬cond0_0 i) (xo : Vec F S1x1024 .f32) :
    out0_B_9 c i a2 h2 a3 h3 a4 h4 a5 h5 a6 h6 a7 h7 a8 h8 a9 h9 a10 h10 a11 h11 a12 h12 a13 h13 a14 h14 a15 h15 a16 h16 hc0 hc1 hc2 dy x g ga up wg wu wd xo = k0_pay14 ga up := by
  unfold out0_B_9
  rw [View.read_writes_junk_eq_canon]
  unfold kernelRun0_B
  dsimp only
  sl_unfold_words
  simp only [View.canon_unit_zero (S := S256x2816) hz, View.readAt_eq_ld, h5.read_unread, h6.read_unread,
    View.ld_unit_zero (S := S256x2816) hz]
/-- Window 10 at a later point: the gradient of the gate's pre-activation. -/
theorem out_B_10 (hc0 : ¬cond0_0 i) (xo : Vec F S1x1024 .f32) :
    out0_B_10 c i a2 h2 a3 h3 a4 h4 a5 h5 a6 h6 a7 h7 a8 h8 a9 h9 a10 h10 a11 h11 a12 h12 a13 h13 a14 h14 a15 h15 a16 h16 hc0 hc1 hc2 dy x g ga up wg wu wd xo = dgB dy ga up wd := by
  unfold out0_B_10
  rw [View.read_writes_junk_eq_canon]
  unfold kernelRun0_B
  dsimp only
  sl_unfold_words
  simp only [View.canon_unit_zero (S := S256x2816) hz, View.readCov_unit_zero (S := S256x1024) _ hz,
    View.readAt_eq_ld, h2.read_unread, h5.read_unread, h6.read_unread, h9.read_unread,
    View.ld_unit_zero (S := S256x1024) hz, View.ld_unit_zero (S := S256x2816) hz,
    View.ld_unit_zero (S := S2816x1024) hz]
  unfold dgB
  rfl
/-- Window 11 at a later point: the gradient of the up projection. -/
theorem out_B_11 (hc0 : ¬cond0_0 i) (xo : Vec F S1x1024 .f32) :
    out0_B_11 c i a2 h2 a3 h3 a4 h4 a5 h5 a6 h6 a7 h7 a8 h8 a9 h9 a10 h10 a11 h11 a12 h12 a13 h13 a14 h14 a15 h15 a16 h16 hc0 hc1 hc2 dy x g ga up wg wu wd xo = duB dy ga wd := by
  unfold out0_B_11
  rw [View.read_writes_junk_eq_canon]
  unfold kernelRun0_B
  dsimp only
  sl_unfold_words
  simp only [View.canon_unit_zero (S := S256x2816) hz, View.readCov_unit_zero (S := S256x1024) _ hz,
    View.readAt_eq_ld, h2.read_unread, h5.read_unread, h9.read_unread, View.ld_unit_zero (S := S256x1024) hz,
    View.ld_unit_zero (S := S256x2816) hz, View.ld_unit_zero (S := S2816x1024) hz]
  unfold duB
  rfl
/-- Window 12 at a later point: the scaled incoming gradient. -/
theorem out_B_12 (hc0 : ¬cond0_0 i) (xo : Vec F S1x1024 .f32) :
    out0_B_12 c i a2 h2 a3 h3 a4 h4 a5 h5 a6 h6 a7 h7 a8 h8 a9 h9 a10 h10 a11 h11 a12 h12 a13 h13 a14 h14 a15 h15 a16 h16 hc0 hc1 hc2 dy x g ga up wg wu wd xo = k0_pay8 dy := by
  unfold out0_B_12
  rw [View.read_writes_junk_eq_canon]
  unfold kernelRun0_B
  dsimp only
  sl_unfold_words
  simp only [View.canon_unit_zero (S := S256x1024) hz, View.readAt_eq_ld, h2.read_unread,
    View.ld_unit_zero (S := S256x1024) hz]
/-- Window 13 at a later point: the running gain gradient. -/
theorem out_B_13 (hc0 : ¬cond0_0 i) (xo : Vec F S1x1024 .f32) :
    out0_B_13 c i a2 h2 a3 h3 a4 h4 a5 h5 a6 h6 a7 h7 a8 h8 a9 h9 a10 h10 a11 h11 a12 h12 a13 h13 a14 h14 a15 h15 a16 h16 hc0 hc1 hc2 dy x g ga up wg wu wd xo = dgainB dy x ga up wg wu wd xo := by
  unfold out0_B_13
  rw [View.read_writes_junk_eq_canon]
  unfold kernelRun0_B
  dsimp only
  sl_unfold_words
  simp only [View.canon_unit_zero (S := S1x1024) hz, View.readCov_unit_zero (S := S256x1024) _ hz,
    View.readAt_eq_ld, h2.read_unread, h3.read_unread, h5.read_unread, h6.read_unread, h7.read_unread,
    h8.read_unread, h9.read_unread, h15.read_unread, View.ld_unit_zero (S := S256x1024) hz,
    View.ld_unit_zero (S := S256x2816) hz, View.ld_unit_zero (S := S2816x1024) hz,
    View.ld_unit_zero (S := S1x1024) hz]
  unfold dgainB
  rfl

end

end Cert.Ffn.Block

end
-- ==== Proof.Lift.lean ====
/- FINITE ARRAYS IN THE EXTENDED REALS. An array of real numbers seen as an array of ideal values (`up`), and what each
   operation of a program gives on such arrays: the same operation on the real numbers. Structural operations
   (broadcast, reshape, transpose) are the same function at any element type, so theirs hold by definition; a division
   and a reciprocal square root need their argument nonzero, respectively positive. -/
module

public import Idealize.ShloMosaic.Lib.ValueIdx
public import Idealize.ShloMosaic.Lib.MatmulPlain
public import Idealize.ShloMosaic.Lib.IdealHost
public import Idealize.ShloMosaic.Lib.Pipeline.Value
public import Idealize.ShloMosaic.PureOps.Ideal.Laws

@[expose] public section

noncomputable section

namespace Cert.Lift

open Idealize.ShloMosaic Idealize.ShloMosaic.ValueIdx

variable {s t u : Shape} {φ ψ : FTy}

/-- A real array as an array of extended reals. -/
def up (A : s.Idx → ℝ) : s.Idx → EReal := fun i => ((A i : ℝ) : EReal)

theorem up_apply (A : s.Idx → ℝ) (i : s.Idx) : up A i = ((A i : ℝ) : EReal) := rfl

/-- The embedding of the reals takes a finite sum to the sum. -/
theorem coe_sum {ι : Type*} (S : Finset ι) (f : ι → ℝ) : ((∑ k ∈ S, f k : ℝ) : EReal) = ∑ k ∈ S, ((f k : ℝ) : EReal) := by
  classical
  induction S using Finset.induction_on with
  | empty => simp
  | insert a S ha ih => rw [Finset.sum_insert ha, Finset.sum_insert ha, EReal.coe_add, ih]

/-- Every array without an infinite entry is a real array. -/
theorem exists_up (A : s.Idx → EReal) (h : ∀ i, A i ≠ ⊤ ∧ A i ≠ ⊥) : ∃ B : s.Idx → ℝ, A = up B :=
  ⟨fun i => (A i).toReal, funext fun i => (EReal.coe_toReal (h i).1 (h i).2).symm⟩

theorem up_mulf (A B : s.Idx → ℝ) : (mulf (up A : FVec Ideal s φ) (up B) : FVec Ideal s φ) = up (fun i => A i * B i) :=
  funext fun i => (EReal.coe_mul (A i) (B i)).symm

theorem up_addf (A B : s.Idx → ℝ) : (addf (up A : FVec Ideal s φ) (up B) : FVec Ideal s φ) = up (fun i => A i + B i) :=
  funext fun i => (EReal.coe_add (A i) (B i)).symm

theorem up_subf (A B : s.Idx → ℝ) : (subf (up A : FVec Ideal s φ) (up B) : FVec Ideal s φ) = up (fun i => A i - B i) :=
  funext fun i => (EReal.coe_sub (A i) (B i)).symm

theorem up_negf (A : s.Idx → ℝ) : (negf (up A : FVec Ideal s φ) : FVec Ideal s φ) = up (fun i => -A i) :=
  funext fun i => (EReal.coe_neg (A i)).symm

theorem div_up {x y : ℝ} (h : y ≠ 0) : Ideal.div (x : EReal) (y : EReal) = ((x / y : ℝ) : EReal) := by
  rw [Ideal.div_coe h, ← EReal.coe_mul, mul_one_div]

theorem up_divf (A B : s.Idx → ℝ) (h : ∀ i, B i ≠ 0) :
    (divf (up A : FVec Ideal s φ) (up B) : FVec Ideal s φ) = up (fun i => A i / B i) := funext fun i => div_up (h i)

theorem up_hostDivf (A B : s.Idx → ℝ) (h : ∀ i, B i ≠ 0) :
    (Host.divf (up A : FVec Ideal s φ) (up B) : FVec Ideal s φ) = up (fun i => A i / B i) := funext fun i => div_up (h i)

theorem rsqrt_up {x : ℝ} (h : 0 < x) : Ideal.rsqrt (x : EReal) = (((Real.sqrt x)⁻¹ : ℝ) : EReal) := by
  rw [Ideal.rsqrt_coe, if_neg (not_lt.mpr h.le), if_neg h.ne']

theorem up_rsqrt (A : s.Idx → ℝ) (h : ∀ i, 0 < A i) :
    (rsqrt (up A : FVec Ideal s φ) : FVec Ideal s φ) = up (fun i => (Real.sqrt (A i))⁻¹) := funext fun i => rsqrt_up (h i)

theorem up_hostRsqrt (A : s.Idx → ℝ) (h : ∀ i, 0 < A i) :
    (Host.rsqrt (up A : FVec Ideal s φ) : FVec Ideal s φ) = up (fun i => (Real.sqrt (A i))⁻¹) := funext fun i => rsqrt_up (h i)

theorem up_exp (A : s.Idx → ℝ) : (exp (up A : FVec Ideal s φ) : FVec Ideal s φ) = up (fun i => Real.exp (A i)) :=
  funext fun i => Ideal.exp_coe (A i)

theorem up_hostExp (A : s.Idx → ℝ) : (Host.exp (up A : FVec Ideal s φ) : FVec Ideal s φ) = up (fun i => Real.exp (A i)) :=
  funext fun i => Ideal.exp_coe (A i)

theorem up_truncf (A : s.Idx → ℝ) (h : ψ.bits < φ.bits) : (truncf ψ (up A : FVec Ideal s φ) h : FVec Ideal s ψ) = up A := rfl

theorem up_extf (A : s.Idx → ℝ) (h : φ.bits < ψ.bits) : (extf ψ (up A : FVec Ideal s φ) h : FVec Ideal s ψ) = up A := rfl

theorem up_broadcast (r : ℝ) : (broadcast s ((r : ℝ) : EReal) : s.Idx → EReal) = up (fun _ => r) := rfl

theorem up_broadcastTo (A : s.Idx → ℝ) (h : s.Broadcasts t) : broadcastTo t (up A) h = up (broadcastTo t A h) := rfl

theorem up_shapeCast (A : s.Idx → ℝ) (h : s.ShapeCasts t) : shapeCast t (up A) h = up (shapeCast t A h) := rfl

theorem up_transpose (perm : List (Fin s.rank)) (A : s.Idx → ℝ) (h : s.Transposes perm t) :
    transpose t perm (up A) h = up (transpose t perm A h) := rfl

theorem up_broadcastInDim (dims : Fin s.rank → Fin t.rank) (h : s.BroadcastsInDim t dims) (A : s.Idx → ℝ) :
    broadcastInDim t dims h (up A) = up (broadcastInDim t dims h A) := rfl

theorem up_extractStridedSlice (off : Fin s.rank → Nat) (A : s.Idx → ℝ) (h : s.Slices off t) :
    extractStridedSlice t off (up A) h = up (extractStridedSlice t off A h) := rfl

/-- A constant array whose word denotes `r`. -/
theorem up_constant (b : BitVec φ.bits) (r : ℝ) (h : Ideal.ofBits φ b = (r : EReal)) :
    (constant (F := Ideal) s φ b : FVec Ideal s φ) = up (fun _ => r) := funext fun _ => h

/-- A matrix product of the on-chip unit, on real arrays. -/
theorem up_matmul {sl sr so : Shape} {φ₁ φ₂ : FTy} (d : DotDims sl sr so) (prec : Option ContractPrecision)
    (A : sl.Idx → ℝ) (B : sr.Idx → ℝ) (C : so.Idx → ℝ) :
    (matmul (F := Ideal) (φ₁ := φ₁) (φ₂ := φ₂) d prec (up A) (up B) (up C) : FVec Ideal so .f32)
      = up (fun j => C j + ∑ k : d.contr.Idx, A (d.lhsIdx j k) * B (d.rhsIdx j k)) := by
  funext j
  refine (Ideal.matmul_apply (φ₁ := φ₁) (φ₂ := φ₂) d prec _ _ _ j).trans ?_
  simp only [up_apply, EReal.coe_add, coe_sum, EReal.coe_mul]

/-- A product of the host, on real arrays. -/
theorem up_dotGeneral {sl sr so : Shape} {φ₁ φ₂ : FTy} (d : DotDims sl sr so) (prec : Option ContractPrecision)
    (sched : HostSchedule) (A : sl.Idx → ℝ) (B : sr.Idx → ℝ) :
    (FloatOps.dotGeneral (F := Ideal) (φ₁ := φ₁) (φ₂ := φ₂) d prec sched (up A) (up B) : FVec Ideal so .f32)
      = up (fun j => ∑ k : d.contr.Idx, A (d.lhsIdx j k) * B (d.rhsIdx j k)) := by
  funext j
  refine (Ideal.dotGeneral_apply (φ₁ := φ₁) (φ₂ := φ₂) d prec sched _ _ j).trans ?_
  simp only [up_apply, coe_sum, EReal.coe_mul]

/-- A sum over one axis in a kernel, on a real array. -/
theorem up_sum {a : Fin s.rank} (A : s.Idx → ℝ) (acc : BitVec φ.bits) (h : s.Reduces [a] t) (hφ : FKind.Formats φ)
    (hacc : acc = FKind.add.neutral φ hφ) :
    (multiReduction .add [a] t (up A : FVec Ideal s φ) acc h hφ hacc : FVec Ideal t φ)
      = up (fun j => ∑ k : Fin (s.size a), A (h.lift j k)) := by
  funext j
  rw [Ideal.multiReduction_add_single]
  simp only [up_apply, coe_sum]

/-- A sum over one axis on the host, from an initial value `r`, on a real array. -/
theorem up_hostSum {a : Fin s.rank} (A : s.Idx → ℝ) (r : ℝ) (h' : s.ReducesTo [a] t) (hu : 0 < u.numel)
    (h : s.Reduces [a] t) :
    (Host.reduceAdd (up A : FVec Ideal s φ) (up (fun _ : u.Idx => r)) h' hu : FVec Ideal t φ)
      = up (fun j => r + ∑ k : Fin (s.size a), A (h.lift j k)) := by
  funext j
  rw [hostReduceAdd_apply, Ideal.hostReduceAdd_single h' h]
  simp only [up_apply, coe_sum, EReal.coe_add]

/-! ## Arrays of one and two axes, by their coordinates -/

/-- A matrix by its rows and columns. -/
def mat {α : Type} {M N : Nat} (A : Fin M → Fin N → α) : (⟨2, ![M, N]⟩ : Shape).Idx → α := fun j => A (j 0) (j 1)

/-- A row of numbers by its coordinate. -/
def vec {α : Type} {N : Nat} (A : Fin N → α) : (⟨1, ![N]⟩ : Shape).Idx → α := fun j => A (j 0)

theorem mat_eq {α : Type} {M N : Nat} (A : (⟨2, ![M, N]⟩ : Shape).Idx → α) : A = mat fun i j => A (ix2 i j) :=
  funext fun j => congrArg A (eq_ix2 j)

theorem vec_eq {α : Type} {N : Nat} (A : (⟨1, ![N]⟩ : Shape).Idx → α) : A = vec fun i => A (ix1 i) :=
  funext fun j => congrArg A (eq_ix1 j)

/-- The plain product of two matrices. -/
theorem mat_plain {α : Type} [Mul α] [AddCommMonoid α] {M K N : Nat} (A : Fin M → Fin K → α) (B : Fin K → Fin N → α) :
    (fun j => ∑ k : (DotDims.plain M K N).contr.Idx, mat A ((DotDims.plain M K N).lhsIdx j k) * mat B ((DotDims.plain M K N).rhsIdx j k))
      = mat fun i j => ∑ k, A i k * B k j := by
  funext j
  rw [← Equiv.sum_comp (DotDims.plainContr M K N).symm]
  refine Finset.sum_congr rfl fun k _ => ?_
  have hk : (DotDims.plainContr M K N).symm k ⟨0, Nat.one_pos⟩ = k :=
    Fin.ext (contrEquiv1_symm_val _ K (DotDims.plain_contr_rank M K N) (DotDims.plain_contr_size M K N) k)
  exact congrArg₂ (· * ·) (congrArg (A (j 0)) hk) (congrArg (B · (j 1)) hk)

/-- The product of a matrix and a transposed matrix. -/
theorem mat_transposedRhs {α : Type} [Mul α] [AddCommMonoid α] {M K N : Nat} (A : Fin M → Fin K → α) (B : Fin N → Fin K → α) :
    (fun j => ∑ k : (DotDims.transposedRhs M K N).contr.Idx, mat A ((DotDims.transposedRhs M K N).lhsIdx j k)
        * mat B ((DotDims.transposedRhs M K N).rhsIdx j k))
      = mat fun i j => ∑ k, A i k * B j k := by
  funext j
  rw [← Equiv.sum_comp (DotDims.transposedRhsContr M K N).symm]
  refine Finset.sum_congr rfl fun k _ => ?_
  have hk : (DotDims.transposedRhsContr M K N).symm k ⟨0, Nat.one_pos⟩ = k :=
    Fin.ext (contrEquiv1_symm_val _ K (DotDims.transposedRhs_contr_rank M K N) (DotDims.transposedRhs_contr_size M K N) k)
  exact congrArg₂ (· * ·) (congrArg (A (j 0)) hk) (congrArg (B (j 1)) hk)

/-- The sums of a matrix along its rows. -/
theorem mat_rowSum {α : Type} [AddCommMonoid α] {M N : Nat} (A : Fin M → Fin N → α) (h : (⟨2, ![M, N]⟩ : Shape).Reduces [1] ⟨1, ![M]⟩) :
    (fun j => ∑ k : Fin ((⟨2, ![M, N]⟩ : Shape).size 1), mat A (h.lift j k)) = vec fun i => ∑ k, A i k :=
  funext fun _ => rfl

/-- The sums of a matrix along its columns. -/
theorem mat_colSum {α : Type} [AddCommMonoid α] {M N : Nat} (A : Fin M → Fin N → α) (h : (⟨2, ![M, N]⟩ : Shape).Reduces [0] ⟨1, ![N]⟩) :
    (fun j => ∑ k : Fin ((⟨2, ![M, N]⟩ : Shape).size 0), mat A (h.lift j k)) = vec fun j => ∑ k, A k j :=
  funext fun _ => rfl

/-- A column of numbers as a matrix of one column. -/
theorem mat_ofCol {α : Type} {M : Nat} (A : Fin M → α) (h : (⟨1, ![M]⟩ : Shape).ShapeCasts ⟨2, ![M, 1]⟩) :
    shapeCast ⟨2, ![M, 1]⟩ (vec A) h = mat fun i _ => A i := by
  funext j
  refine shapeCast_apply (vec A) h j (ix1 (j 0)) ?_
  rw [Shape.rowMajor_val_one, Shape.rowMajor_val_two]
  have := idx2_lt1 j
  show (j 0).val = (j 0).val * 1 + (j 1).val
  omega

/-- A row of numbers as a matrix of one row. -/
theorem mat_ofRow {α : Type} {N : Nat} (A : Fin N → α) (h : (⟨1, ![N]⟩ : Shape).ShapeCasts ⟨2, ![1, N]⟩) :
    shapeCast ⟨2, ![1, N]⟩ (vec A) h = mat fun _ j => A j := by
  funext j
  refine shapeCast_apply (vec A) h j (ix1 (j 1)) ?_
  rw [Shape.rowMajor_val_one, Shape.rowMajor_val_two]
  have := idx2_lt0 j
  show (j 1).val = (j 0).val * N + (j 1).val
  have h0 : (j 0).val = 0 := by omega
  rw [h0]; omega

/-- A matrix of one row repeated. -/
theorem mat_bcastRow {α : Type} {M N : Nat} (hN : N ≠ 1) (A : Fin 1 → Fin N → α) (h : (⟨2, ![1, N]⟩ : Shape).Broadcasts ⟨2, ![M, N]⟩) :
    broadcastTo ⟨2, ![M, N]⟩ (mat A) h = mat fun _ j => A 0 j := by
  funext j
  refine broadcastTo_apply (mat A) h j (ix2 0 (j 1)) fun a => ?_
  match a with
  | ⟨0, _⟩ => rfl
  | ⟨1, _⟩ => exact (if_neg hN).symm

/-- A matrix of one column repeated. -/
theorem mat_bcastCol {α : Type} {M N : Nat} (hM : M ≠ 1) (A : Fin M → Fin 1 → α) (h : (⟨2, ![M, 1]⟩ : Shape).Broadcasts ⟨2, ![M, N]⟩) :
    broadcastTo ⟨2, ![M, N]⟩ (mat A) h = mat fun i _ => A i 0 := by
  funext j
  refine broadcastTo_apply (mat A) h j (ix2 (j 0) 0) fun a => ?_
  match a with
  | ⟨0, _⟩ => exact (if_neg hM).symm
  | ⟨1, _⟩ => rfl

/-- The host's repetition of a matrix of one row. -/
theorem mat_bcastInDimRow {α : Type} {M N : Nat} (hN : N ≠ 1) (A : Fin 1 → Fin N → α)
    (h : (⟨2, ![1, N]⟩ : Shape).BroadcastsInDim ⟨2, ![M, N]⟩ ![0, 1]) :
    broadcastInDim ⟨2, ![M, N]⟩ ![0, 1] h (mat A) = mat fun _ j => A 0 j := by
  funext j
  refine broadcastInDim_apply ![0, 1] h (mat A) j (ix2 0 (j 1)) fun a => ?_
  match a with
  | ⟨0, _⟩ => rfl
  | ⟨1, _⟩ => exact (if_neg hN).symm

/-- The host's repetition of a matrix of one column. -/
theorem mat_bcastInDimCol {α : Type} {M N : Nat} (hM : M ≠ 1) (A : Fin M → Fin 1 → α)
    (h : (⟨2, ![M, 1]⟩ : Shape).BroadcastsInDim ⟨2, ![M, N]⟩ ![0, 1]) :
    broadcastInDim ⟨2, ![M, N]⟩ ![0, 1] h (mat A) = mat fun i _ => A i 0 := by
  funext j
  refine broadcastInDim_apply ![0, 1] h (mat A) j (ix2 (j 0) 0) fun a => ?_
  match a with
  | ⟨0, _⟩ => exact (if_neg hM).symm
  | ⟨1, _⟩ => rfl

/-- The host's matrix of one row from a row of numbers. -/
theorem mat_inDimRow {α : Type} {N : Nat} (hN : N ≠ 1) (A : Fin N → α) (h : (⟨1, ![N]⟩ : Shape).BroadcastsInDim ⟨2, ![1, N]⟩ ![1]) :
    broadcastInDim ⟨2, ![1, N]⟩ ![1] h (vec A) = mat fun _ j => A j := by
  funext j
  refine broadcastInDim_apply ![1] h (vec A) j (ix1 (j 1)) fun a => ?_
  match a with
  | ⟨0, _⟩ => exact (if_neg hN).symm

/-- The host's matrix of one column from a column of numbers. -/
theorem mat_inDimCol {α : Type} {M : Nat} (hM : M ≠ 1) (A : Fin M → α) (h : (⟨1, ![M]⟩ : Shape).BroadcastsInDim ⟨2, ![M, 1]⟩ ![0]) :
    broadcastInDim ⟨2, ![M, 1]⟩ ![0] h (vec A) = mat fun i _ => A i := by
  funext j
  refine broadcastInDim_apply ![0] h (vec A) j (ix1 (j 0)) fun a => ?_
  match a with
  | ⟨0, _⟩ => exact (if_neg hM).symm

/-- The transpose of a matrix. -/
theorem mat_transpose {α : Type} {M N : Nat} (A : Fin M → Fin N → α) (h : (⟨2, ![M, N]⟩ : Shape).Transposes [1, 0] ⟨2, ![N, M]⟩) :
    transpose ⟨2, ![N, M]⟩ [1, 0] (mat A) h = mat fun i j => A j i := by
  funext j
  refine transpose_apply [1, 0] (mat A) h j (ix2 (j 1) (j 0)) fun b => ?_
  match b with
  | ⟨0, _⟩ => rfl
  | ⟨1, _⟩ => rfl

/-! ## The operations on matrices of real numbers, by rows and columns -/

section

variable {M K N : Nat}

theorem m_mulf (A B : Fin M → Fin N → ℝ) :
    (mulf (up (mat A) : FVec Ideal ⟨2, ![M, N]⟩ φ) (up (mat B)) : FVec Ideal ⟨2, ![M, N]⟩ φ) = up (mat fun i j => A i j * B i j) :=
  up_mulf _ _

theorem m_addf (A B : Fin M → Fin N → ℝ) :
    (addf (up (mat A) : FVec Ideal ⟨2, ![M, N]⟩ φ) (up (mat B)) : FVec Ideal ⟨2, ![M, N]⟩ φ) = up (mat fun i j => A i j + B i j) :=
  up_addf _ _

theorem m_subf (A B : Fin M → Fin N → ℝ) :
    (subf (up (mat A) : FVec Ideal ⟨2, ![M, N]⟩ φ) (up (mat B)) : FVec Ideal ⟨2, ![M, N]⟩ φ) = up (mat fun i j => A i j - B i j) :=
  up_subf _ _

theorem m_negf (A : Fin M → Fin N → ℝ) :
    (negf (up (mat A) : FVec Ideal ⟨2, ![M, N]⟩ φ) : FVec Ideal ⟨2, ![M, N]⟩ φ) = up (mat fun i j => -A i j) := up_negf _

theorem m_divf (A B : Fin M → Fin N → ℝ) (h : ∀ i j, B i j ≠ 0) :
    (divf (up (mat A) : FVec Ideal ⟨2, ![M, N]⟩ φ) (up (mat B)) : FVec Ideal ⟨2, ![M, N]⟩ φ) = up (mat fun i j => A i j / B i j) :=
  up_divf _ _ fun i => h (i 0) (i 1)

theorem m_hostDivf (A B : Fin M → Fin N → ℝ) (h : ∀ i j, B i j ≠ 0) :
    (Host.divf (up (mat A) : FVec Ideal ⟨2, ![M, N]⟩ φ) (up (mat B)) : FVec Ideal ⟨2, ![M, N]⟩ φ) = up (mat fun i j => A i j / B i j) :=
  up_hostDivf _ _ fun i => h (i 0) (i 1)

theorem m_rsqrt (A : Fin M → Fin N → ℝ) (h : ∀ i j, 0 < A i j) :
    (rsqrt (up (mat A) : FVec Ideal ⟨2, ![M, N]⟩ φ) : FVec Ideal ⟨2, ![M, N]⟩ φ) = up (mat fun i j => (Real.sqrt (A i j))⁻¹) :=
  up_rsqrt _ fun i => h (i 0) (i 1)

theorem m_hostRsqrt (A : Fin M → Fin N → ℝ) (h : ∀ i j, 0 < A i j) :
    (Host.rsqrt (up (mat A) : FVec Ideal ⟨2, ![M, N]⟩ φ) : FVec Ideal ⟨2, ![M, N]⟩ φ) = up (mat fun i j => (Real.sqrt (A i j))⁻¹) :=
  up_hostRsqrt _ fun i => h (i 0) (i 1)

theorem m_exp (A : Fin M → Fin N → ℝ) :
    (exp (up (mat A) : FVec Ideal ⟨2, ![M, N]⟩ φ) : FVec Ideal ⟨2, ![M, N]⟩ φ) = up (mat fun i j => Real.exp (A i j)) := up_exp _

theorem m_hostExp (A : Fin M → Fin N → ℝ) :
    (Host.exp (up (mat A) : FVec Ideal ⟨2, ![M, N]⟩ φ) : FVec Ideal ⟨2, ![M, N]⟩ φ) = up (mat fun i j => Real.exp (A i j)) :=
  up_hostExp _

/-- One number everywhere. -/
theorem m_broadcast (r : ℝ) : (broadcast ⟨2, ![M, N]⟩ ((r : ℝ) : EReal) : (⟨2, ![M, N]⟩ : Shape).Idx → EReal)
    = up (mat fun _ _ => r) := rfl

/-- A number of the host repeated everywhere. -/
theorem m_inDimScalar (r : ℝ) (h : (⟨0, ![]⟩ : Shape).BroadcastsInDim ⟨2, ![M, N]⟩ ![]) :
    broadcastInDim ⟨2, ![M, N]⟩ ![] h (up (s := ⟨0, ![]⟩) (fun _ => r)) = up (mat fun _ _ => r) := rfl

/-- A plain product into a zero accumulator. -/
theorem m_matmul {φ₁ φ₂ : FTy} (prec : Option ContractPrecision) (A : Fin M → Fin K → ℝ) (B : Fin K → Fin N → ℝ) :
    (matmul (F := Ideal) (φ₁ := φ₁) (φ₂ := φ₂) (DotDims.plain M K N) prec (up (mat A)) (up (mat B))
      (constant ⟨2, ![M, N]⟩ .f32 0x00000000#32) : FVec Ideal ⟨2, ![M, N]⟩ .f32) = up (mat fun i j => ∑ k, A i k * B k j) := by
  rw [up_constant (φ := .f32) 0x00000000#32 0 (by simp), up_matmul, ← mat_plain]
  simp only [zero_add]

/-- A product with a transposed matrix into a zero accumulator. -/
theorem m_matmulT {φ₁ φ₂ : FTy} (prec : Option ContractPrecision) (A : Fin M → Fin K → ℝ) (B : Fin N → Fin K → ℝ) :
    (matmul (F := Ideal) (φ₁ := φ₁) (φ₂ := φ₂) (DotDims.transposedRhs M K N) prec (up (mat A)) (up (mat B))
      (constant ⟨2, ![M, N]⟩ .f32 0x00000000#32) : FVec Ideal ⟨2, ![M, N]⟩ .f32) = up (mat fun i j => ∑ k, A i k * B j k) := by
  rw [up_constant (φ := .f32) 0x00000000#32 0 (by simp), up_matmul, ← mat_transposedRhs]
  simp only [zero_add]

/-- A plain product of the host. -/
theorem m_dot {φ₁ φ₂ : FTy} (prec : Option ContractPrecision) (sched : HostSchedule) (A : Fin M → Fin K → ℝ) (B : Fin K → Fin N → ℝ) :
    (FloatOps.dotGeneral (F := Ideal) (φ₁ := φ₁) (φ₂ := φ₂) (DotDims.plain M K N) prec sched (up (mat A)) (up (mat B)) :
      FVec Ideal ⟨2, ![M, N]⟩ .f32) = up (mat fun i j => ∑ k, A i k * B k j) := by
  rw [up_dotGeneral, ← mat_plain]

/-- A product of the host with a transposed matrix. -/
theorem m_dotT {φ₁ φ₂ : FTy} (prec : Option ContractPrecision) (sched : HostSchedule) (A : Fin M → Fin K → ℝ) (B : Fin N → Fin K → ℝ) :
    (FloatOps.dotGeneral (F := Ideal) (φ₁ := φ₁) (φ₂ := φ₂) (DotDims.transposedRhs M K N) prec sched (up (mat A)) (up (mat B)) :
      FVec Ideal ⟨2, ![M, N]⟩ .f32) = up (mat fun i j => ∑ k, A i k * B j k) := by
  rw [up_dotGeneral, ← mat_transposedRhs]

theorem m_rowSum (A : Fin M → Fin N → ℝ) (acc : BitVec φ.bits) (h : (⟨2, ![M, N]⟩ : Shape).Reduces [1] ⟨1, ![M]⟩)
    (hφ : FKind.Formats φ) (hacc : acc = FKind.add.neutral φ hφ) :
    (multiReduction .add [1] ⟨1, ![M]⟩ (up (mat A) : FVec Ideal ⟨2, ![M, N]⟩ φ) acc h hφ hacc : FVec Ideal ⟨1, ![M]⟩ φ)
      = up (vec fun i => ∑ k, A i k) := (up_sum _ acc h hφ hacc).trans (congrArg up (mat_rowSum A h))

theorem m_colSum (A : Fin M → Fin N → ℝ) (acc : BitVec φ.bits) (h : (⟨2, ![M, N]⟩ : Shape).Reduces [0] ⟨1, ![N]⟩)
    (hφ : FKind.Formats φ) (hacc : acc = FKind.add.neutral φ hφ) :
    (multiReduction .add [0] ⟨1, ![N]⟩ (up (mat A) : FVec Ideal ⟨2, ![M, N]⟩ φ) acc h hφ hacc : FVec Ideal ⟨1, ![N]⟩ φ)
      = up (vec fun j => ∑ k, A k j) := (up_sum _ acc h hφ hacc).trans (congrArg up (mat_colSum A h))

theorem m_ofCol (A : Fin M → ℝ) (h : (⟨1, ![M]⟩ : Shape).ShapeCasts ⟨2, ![M, 1]⟩) :
    shapeCast ⟨2, ![M, 1]⟩ (up (vec A)) h = up (mat fun i _ => A i) := congrArg up (mat_ofCol A h)

theorem m_ofRow (A : Fin N → ℝ) (h : (⟨1, ![N]⟩ : Shape).ShapeCasts ⟨2, ![1, N]⟩) :
    shapeCast ⟨2, ![1, N]⟩ (up (vec A)) h = up (mat fun _ j => A j) := congrArg up (mat_ofRow A h)

theorem m_bcastRow (hN : N ≠ 1) (A : Fin 1 → Fin N → ℝ) (h : (⟨2, ![1, N]⟩ : Shape).Broadcasts ⟨2, ![M, N]⟩) :
    broadcastTo ⟨2, ![M, N]⟩ (up (mat A)) h = up (mat fun _ j => A 0 j) := congrArg up (mat_bcastRow hN A h)

theorem m_bcastCol (hM : M ≠ 1) (A : Fin M → Fin 1 → ℝ) (h : (⟨2, ![M, 1]⟩ : Shape).Broadcasts ⟨2, ![M, N]⟩) :
    broadcastTo ⟨2, ![M, N]⟩ (up (mat A)) h = up (mat fun i _ => A i 0) := congrArg up (mat_bcastCol hM A h)

theorem m_bcastInDimRow (hN : N ≠ 1) (A : Fin 1 → Fin N → ℝ) (h : (⟨2, ![1, N]⟩ : Shape).BroadcastsInDim ⟨2, ![M, N]⟩ ![0, 1]) :
    broadcastInDim ⟨2, ![M, N]⟩ ![0, 1] h (up (mat A)) = up (mat fun _ j => A 0 j) := congrArg up (mat_bcastInDimRow hN A h)

theorem m_bcastInDimCol (hM : M ≠ 1) (A : Fin M → Fin 1 → ℝ) (h : (⟨2, ![M, 1]⟩ : Shape).BroadcastsInDim ⟨2, ![M, N]⟩ ![0, 1]) :
    broadcastInDim ⟨2, ![M, N]⟩ ![0, 1] h (up (mat A)) = up (mat fun i _ => A i 0) := congrArg up (mat_bcastInDimCol hM A h)

theorem m_inDimRow (hN : N ≠ 1) (A : Fin N → ℝ) (h : (⟨1, ![N]⟩ : Shape).BroadcastsInDim ⟨2, ![1, N]⟩ ![1]) :
    broadcastInDim ⟨2, ![1, N]⟩ ![1] h (up (vec A)) = up (mat fun _ j => A j) := congrArg up (mat_inDimRow hN A h)

theorem m_inDimCol (hM : M ≠ 1) (A : Fin M → ℝ) (h : (⟨1, ![M]⟩ : Shape).BroadcastsInDim ⟨2, ![M, 1]⟩ ![0]) :
    broadcastInDim ⟨2, ![M, 1]⟩ ![0] h (up (vec A)) = up (mat fun i _ => A i) := congrArg up (mat_inDimCol hM A h)

theorem m_transpose (A : Fin M → Fin N → ℝ) (h : (⟨2, ![M, N]⟩ : Shape).Transposes [1, 0] ⟨2, ![N, M]⟩) :
    transpose ⟨2, ![N, M]⟩ [1, 0] (up (mat A)) h = up (mat fun i j => A j i) := congrArg up (mat_transpose A h)

/-- A sum of the host along the rows, from zero. -/
theorem m_hostRowSum (A : Fin M → Fin N → ℝ) (h' : (⟨2, ![M, N]⟩ : Shape).ReducesTo [1] ⟨1, ![M]⟩) (hu : 0 < u.numel)
    (h : (⟨2, ![M, N]⟩ : Shape).Reduces [1] ⟨1, ![M]⟩) :
    (Host.reduceAdd (up (mat A) : FVec Ideal ⟨2, ![M, N]⟩ φ) (up (fun _ : u.Idx => 0)) h' hu : FVec Ideal ⟨1, ![M]⟩ φ)
      = up (vec fun i => ∑ k, A i k) := by
  rw [up_hostSum _ 0 h' hu h, ← mat_rowSum A h]
  simp only [zero_add]

/-- A sum of the host along the columns, from zero. -/
theorem m_hostColSum (A : Fin M → Fin N → ℝ) (h' : (⟨2, ![M, N]⟩ : Shape).ReducesTo [0] ⟨1, ![N]⟩) (hu : 0 < u.numel)
    (h : (⟨2, ![M, N]⟩ : Shape).Reduces [0] ⟨1, ![N]⟩) :
    (Host.reduceAdd (up (mat A) : FVec Ideal ⟨2, ![M, N]⟩ φ) (up (fun _ : u.Idx => 0)) h' hu : FVec Ideal ⟨1, ![N]⟩ φ)
      = up (vec fun j => ∑ k, A k j) := by
  rw [up_hostSum _ 0 h' hu h, ← mat_colSum A h]
  simp only [zero_add]

end

/-! ## The constants by their words -/

/-- A scalar constant is the number of its word. -/
theorem scalar_ofBits (b : BitVec φ.bits) : (Scalar.ofBits φ b : Ideal φ) = Ideal.ofBits φ b := rfl

theorem ofBits_zero : Ideal.ofBits .f32 0x00000000#32 = ((0 : ℝ) : EReal) := by simp
theorem ofBits_one : Ideal.ofBits .f32 0x3F800000#32 = ((1 : ℝ) : EReal) := by simp
theorem ofBits_half : Ideal.ofBits .f32 0x3F000000#32 = ((1 / 2 : ℝ) : EReal) := by
  simp [Ideal.ofBits, Ideal.ieee, -EReal.coe_mul, -EReal.coe_neg]; norm_num
theorem ofBits_negHalf : Ideal.ofBits .f32 0xBF000000#32 = ((-(1 / 2) : ℝ) : EReal) := by
  simp [Ideal.ofBits, Ideal.ieee, -EReal.coe_mul, -EReal.coe_neg]; norm_num
theorem ofBits_1024 : Ideal.ofBits .f32 0x44800000#32 = ((1024 : ℝ) : EReal) := by
  simp [Ideal.ofBits, Ideal.ieee, -EReal.coe_mul, -EReal.coe_neg]; norm_num

/-- The norms' epsilon, a little less than one millionth: the number its 32-bit word denotes. -/
def eps : ℝ := 8796093 / 2 ^ 43
theorem eps_pos : 0 < eps := by unfold eps; positivity
theorem ofBits_eps : Ideal.ofBits .f32 0x358637BD#32 = (eps : EReal) := by
  unfold eps
  simp [Ideal.ofBits, Ideal.ieee, -EReal.coe_mul, -EReal.coe_neg]; norm_num

end Cert.Lift

end
-- ==== Proof.FfnSpec.lean ====
/- THE MATHEMATICS OF THE FEED-FORWARD BLOCK'S BACKWARD PASS over the real numbers, for any number of rows: RMS norm, gated
   unit, and the gradients of the rows, of the two pre-activations and of the norm's gain. Every quantity of a row is a
   function of that row alone, save the gain's gradient, which sums over the rows. -/
module

public import proofs.«01_k».proof.Proof.Lift

@[expose] public section

noncomputable section

namespace Cert.Ffn

open Cert.Lift

variable {M : Nat}

/-- A row's mean square, plus epsilon. -/
def ms (X : Fin M → Fin 1024 → ℝ) (i : Fin M) : ℝ := (∑ k, X i k * X i k) / 1024 + eps

theorem ms_pos (X : Fin M → Fin 1024 → ℝ) (i : Fin M) : 0 < ms X i :=
  add_pos_of_nonneg_of_pos (div_nonneg (Finset.sum_nonneg fun _ _ => mul_self_nonneg _) (by norm_num)) eps_pos

/-- The reciprocal of a row's root mean square. -/
def rs (X : Fin M → Fin 1024 → ℝ) (i : Fin M) : ℝ := (Real.sqrt (ms X i))⁻¹

/-- The normed and scaled rows. -/
def hn (X : Fin M → Fin 1024 → ℝ) (G : Fin 1024 → ℝ) (i : Fin M) (k : Fin 1024) : ℝ := X i k * rs X i * G k

/-- A pre-activation: the normed rows times a weight. -/
def pre (X : Fin M → Fin 1024 → ℝ) (G : Fin 1024 → ℝ) (W : Fin 1024 → Fin 2816 → ℝ) (i : Fin M) (f : Fin 2816) : ℝ :=
  ∑ k, hn X G i k * W k f

/-- The logistic function. -/
def sg (x : ℝ) : ℝ := 1 / (1 + Real.exp (-x))

theorem sg_den (x : ℝ) : 1 + Real.exp (-x) ≠ 0 := (add_pos one_pos (Real.exp_pos _)).ne'

/-- The incoming gradient times the block's residual weight. -/
def dyh (DY : Fin M → Fin 1024 → ℝ) (i : Fin M) (k : Fin 1024) : ℝ := 1 / 2 * DY i k

/-- The gradient of the hidden activation. -/
def da (DY : Fin M → Fin 1024 → ℝ) (WD : Fin 2816 → Fin 1024 → ℝ) (i : Fin M) (f : Fin 2816) : ℝ :=
  ∑ k, dyh DY i k * WD f k

/-- The hidden activation. -/
def act (GA UP : Fin M → Fin 2816 → ℝ) (i : Fin M) (f : Fin 2816) : ℝ := GA i f * sg (GA i f) * UP i f

/-- The gradient of the gate's pre-activation. -/
def dg (DY : Fin M → Fin 1024 → ℝ) (WD : Fin 2816 → Fin 1024 → ℝ) (GA UP : Fin M → Fin 2816 → ℝ) (i : Fin M) (f : Fin 2816) : ℝ :=
  da DY WD i f * UP i f * (sg (GA i f) * (1 + GA i f * (1 - sg (GA i f))))

/-- The gradient of the up projection's pre-activation. -/
def du (DY : Fin M → Fin 1024 → ℝ) (WD : Fin 2816 → Fin 1024 → ℝ) (GA : Fin M → Fin 2816 → ℝ) (i : Fin M) (f : Fin 2816) : ℝ :=
  da DY WD i f * (GA i f * sg (GA i f))

/-- The gradient of the normed rows. -/
def dh (DY : Fin M → Fin 1024 → ℝ) (WG WU : Fin 1024 → Fin 2816 → ℝ) (WD : Fin 2816 → Fin 1024 → ℝ)
    (GA UP : Fin M → Fin 2816 → ℝ) (i : Fin M) (k : Fin 1024) : ℝ :=
  (∑ f, dg DY WD GA UP i f * WG k f) + ∑ f, du DY WD GA i f * WU k f

/-- The gradient of the rows: the residual's, and the norm's applied to a gradient `DH` of the normed rows. -/
def dxn (X DY DH : Fin M → Fin 1024 → ℝ) (G : Fin 1024 → ℝ) (i : Fin M) (k : Fin 1024) : ℝ :=
  DY i k + (rs X i * (DH i k * G k) - X i k * (rs X i * rs X i * rs X i) * ((∑ j, DH i j * G j * X i j) / 1024))

/-- A row's share of the gain's gradient. -/
def dgc (X DH : Fin M → Fin 1024 → ℝ) (i : Fin M) (k : Fin 1024) : ℝ := DH i k * X i k * rs X i

end Cert.Ffn

end
-- ==== Proof.FfnValue.lean ====
/- What one grid point of the feed-forward backward kernel computes on finite blocks: the block functions of `FfnBlock`
   are the real quantities of `FfnSpec` at the block's rows. -/
module

public import proofs.«01_k».proof.Proof.FfnBlock
public import proofs.«01_k».proof.Proof.FfnSpec

@[expose] public section

noncomputable section

namespace Cert.Ffn.Block

open Cert.KernelIdeal Cert.KernelIdeal.Gen Cert.Lift Idealize.ShloMosaic Idealize.ShloMosaic.TcCoe

theorem dotF : dot_S256x2816_S2816x1024_S256x1024_1_0_0_1_n_n = DotDims.plain 256 2816 1024 := rfl
theorem dotD : dot_S256x1024_S2816x1024_S256x2816_1_1_0_0_n_n = DotDims.transposedRhs 256 1024 2816 := rfl

/-- The sums of a block's rows. -/
theorem rowSum (A : Fin 256 → Fin 1024 → ℝ) :
    multiReduction (F := Ideal) (φ := .f32) .add [1] S256 (up (mat A)) 0x00000000#32 reduces_S256x1024_S256 (.inl rfl) rfl
      = up (vec fun i => ∑ k, A i k) := m_rowSum A _ _ _ _

/-- The sums of a block's columns. -/
theorem colSum (A : Fin 256 → Fin 1024 → ℝ) :
    multiReduction (F := Ideal) (φ := .f32) .add [0] S1024 (up (mat A)) 0x00000000#32 reduces_S256x1024_S1024 (.inl rfl) rfl
      = up (vec fun k => ∑ i, A i k) := m_colSum A _ _ _ _

variable (DY X : Fin 256 → Fin 1024 → ℝ) (G : Fin 1024 → ℝ) (GA UP : Fin 256 → Fin 2816 → ℝ)
  (WG WU : Fin 1024 → Fin 2816 → ℝ) (WD : Fin 2816 → Fin 1024 → ℝ)

theorem pay8 : k0_pay8 (F := Ideal) (up (mat DY)) = up (mat (dyh DY)) := by
  unfold k0_pay8
  simp only [scalar_ofBits, ofBits_half, m_broadcast, m_mulf, up_truncf]
  rfl

theorem pay9 : k0_pay9 (F := Ideal) (up (mat (dyh DY))) (up (mat WD)) = up (mat (da DY WD)) := by
  unfold k0_pay9
  simp only [shapeCast_self, dotD, m_matmulT]
  rfl

theorem pay10 : k0_pay10 (F := Ideal) (up (mat GA)) = up (mat GA) := by
  unfold k0_pay10
  simp only [shapeCast_self, up_extf]

theorem pay11 : k0_pay11 (F := Ideal) (up (mat UP)) = up (mat UP) := by
  unfold k0_pay11
  simp only [shapeCast_self, up_extf]

theorem pay12 : k0_pay12 (F := Ideal) (up (mat GA)) = up (mat fun i f => sg (GA i f)) := by
  unfold k0_pay12
  simp only [pay10, scalar_ofBits, ofBits_one, ofBits_zero, m_broadcast, m_subf, m_exp, m_addf, zero_sub]
  rw [m_divf _ _ fun i j => sg_den _]
  rfl

theorem pay13 : k0_pay13 (F := Ideal) (up (mat GA)) = up (mat fun i f => GA i f * sg (GA i f)) := by
  unfold k0_pay13
  simp only [pay10, pay12, m_mulf]

theorem pay14 : k0_pay14 (F := Ideal) (up (mat GA)) (up (mat UP)) = up (mat (act GA UP)) := by
  unfold k0_pay14
  simp only [pay11, pay13, m_mulf, up_truncf]
  rfl

theorem pay15 : k0_pay15 (F := Ideal) (up (mat (dyh DY))) (up (mat WD)) (up (mat UP)) = up (mat fun i f => da DY WD i f * UP i f) := by
  unfold k0_pay15
  simp only [pay9, pay11, m_mulf]

theorem pay16 : k0_pay16 (F := Ideal) (up (mat GA)) = up (mat fun i f => GA i f * (1 - sg (GA i f))) := by
  unfold k0_pay16
  simp only [pay10, pay12, scalar_ofBits, ofBits_one, m_broadcast, m_subf, m_mulf]

theorem dg_value : dgB (F := Ideal) (up (mat DY)) (up (mat GA)) (up (mat UP)) (up (mat WD)) = up (mat (dg DY WD GA UP)) := by
  unfold dgB k0_pay1
  simp only [pay8, pay12, pay15, pay16, scalar_ofBits, ofBits_one, m_broadcast, m_addf, m_mulf, up_truncf]
  rfl

theorem du_value : duB (F := Ideal) (up (mat DY)) (up (mat GA)) (up (mat WD)) = up (mat (du DY WD GA)) := by
  unfold duB k0_pay2
  simp only [pay8, pay9, pay13, m_mulf, up_truncf]
  rfl

theorem pay3 : k0_pay3 (F := Ideal) (k0_pay9 (k0_pay8 (F := Ideal) (up (mat DY))) (up (mat WD))) (k0_pay12 (F := Ideal) (up (mat GA))) (k0_pay13 (F := Ideal) (up (mat GA)))
      (k0_pay15 (k0_pay8 (F := Ideal) (up (mat DY))) (up (mat WD)) (up (mat UP))) (k0_pay16 (F := Ideal) (up (mat GA))) one
      (up (mat fun f k => WG k f)) (up (mat fun f k => WU k f)) = up (mat (dh DY WG WU WD GA UP)) := by
  have h1 := dg_value DY GA UP WD
  have h2 := du_value DY GA WD
  unfold dgB at h1
  unfold duB at h2
  unfold k0_pay3
  simp only [h1, h2, shapeCast_self, dotF, m_matmul, m_addf]
  rfl

theorem pay4 : k0_pay4 (F := Ideal) (up (mat X)) = up (mat fun i _ => rs X i) := by
  unfold k0_pay4
  simp only [m_mulf, scalar_ofBits, ofBits_1024, ofBits_eps, m_broadcast]
  erw [rowSum]
  simp only [m_ofCol]
  rw [m_divf _ _ fun _ _ => by norm_num]
  simp only [m_addf]
  exact m_rsqrt _ fun i _ => ms_pos X i

theorem dx_value : dxB (F := Ideal) (up (mat DY)) (up (mat X)) (up (mat fun _ j => G j)) (up (mat GA)) (up (mat UP))
    (up (mat fun f k => WG k f)) (up (mat fun f k => WU k f)) (up (mat WD))
      = up (mat (dxn X DY (dh DY WG WU WD GA UP) G)) := by
  unfold dxB k0_pay5
  rw [pay3]
  simp only [pay4, shapeCast_self, m_bcastRow (show (1024 : Nat) ≠ 1 by decide), m_bcastCol (show (256 : Nat) ≠ 1 by decide),
    m_mulf, scalar_ofBits, ofBits_1024, m_broadcast]
  erw [rowSum]
  simp only [m_ofCol]
  rw [m_divf _ _ fun _ _ => by norm_num]
  simp only [m_bcastCol (show (256 : Nat) ≠ 1 by decide), m_mulf, m_subf, m_addf]
  rfl

theorem dgain_value (A : Fin 1024 → ℝ) : dgainB (F := Ideal) (up (mat DY)) (up (mat X)) (up (mat GA)) (up (mat UP))
    (up (mat fun f k => WG k f)) (up (mat fun f k => WU k f)) (up (mat WD)) (up (mat fun _ j => A j))
      = up (mat fun _ k => A k + ∑ i, dgc X (dh DY WG WU WD GA UP) i k) := by
  unfold dgainB k0_pay6
  rw [pay3]
  simp only [pay4, shapeCast_self, m_bcastCol (show (256 : Nat) ≠ 1 by decide), m_mulf]
  erw [colSum]
  simp only [m_ofRow, m_addf]
  rfl

theorem zero_value : k0_pay7 (F := Ideal) = up (mat fun _ _ => 0) := by
  unfold k0_pay7
  simp only [scalar_ofBits, ofBits_zero, m_broadcast]

end Cert.Ffn.Block

end
-- ==== Proof.LiftHost.lean ====
/- The host program's operations on real matrices, in the form in which they are printed: constants as one-number
   arrays, products, and the sums over the rows or the columns of a matrix. -/
module

public import proofs.«01_k».proof.Proof.Lift

@[expose] public section

noncomputable section

namespace Cert.Lift

open Idealize.ShloMosaic Idealize.ShloMosaic.ValueIdx

variable {s : Shape} {M N K : Nat}

theorem c_zero : (constant (F := Ideal) s .f32 0x00000000#32 : FVec Ideal s .f32) = up fun _ => 0 := up_constant _ _ ofBits_zero
theorem c_one : (constant (F := Ideal) s .f32 0x3F800000#32 : FVec Ideal s .f32) = up fun _ => 1 := up_constant _ _ ofBits_one
theorem c_half : (constant (F := Ideal) s .f32 0x3F000000#32 : FVec Ideal s .f32) = up fun _ => 1 / 2 := up_constant _ _ ofBits_half
theorem c_negHalf : (constant (F := Ideal) s .f32 0xBF000000#32 : FVec Ideal s .f32) = up fun _ => -(1 / 2) := up_constant _ _ ofBits_negHalf
theorem c_1024 : (constant (F := Ideal) s .f32 0x44800000#32 : FVec Ideal s .f32) = up fun _ => 1024 := up_constant _ _ ofBits_1024
theorem c_eps : (constant (F := Ideal) s .f32 0x358637BD#32 : FVec Ideal s .f32) = up fun _ => eps := up_constant _ _ ofBits_eps

/-- A sum of the host along the rows of a matrix, from zero. -/
theorem h_rowSum {u : Shape} {φ : FTy} (A : Fin M → Fin N → ℝ) (h : (⟨2, ![M, N]⟩ : Shape).ReducesTo [1] ⟨1, ![M]⟩) (hu : 0 < u.numel) :
    (Host.reduceAdd (up (mat A) : FVec Ideal ⟨2, ![M, N]⟩ φ) (up (fun _ : u.Idx => 0)) h hu : FVec Ideal ⟨1, ![M]⟩ φ)
      = up (vec fun i => ∑ k, A i k) := m_hostRowSum A h hu ⟨h.1, Nat.one_pos, h.2⟩

/-- A sum of the host along the columns of a matrix, from zero. -/
theorem h_colSum {u : Shape} {φ : FTy} (A : Fin M → Fin N → ℝ) (h : (⟨2, ![M, N]⟩ : Shape).ReducesTo [0] ⟨1, ![N]⟩) (hu : 0 < u.numel) :
    (Host.reduceAdd (up (mat A) : FVec Ideal ⟨2, ![M, N]⟩ φ) (up (fun _ : u.Idx => 0)) h hu : FVec Ideal ⟨1, ![N]⟩ φ)
      = up (vec fun k => ∑ i, A i k) := m_hostColSum A h hu ⟨h.1, Nat.one_pos, h.2⟩

/-- A vector of row values, repeated along the columns. -/
theorem m_inDimRows (hM : M ≠ 1) (A : Fin M → ℝ) (h : (⟨1, ![M]⟩ : Shape).BroadcastsInDim ⟨2, ![M, N]⟩ ![0]) :
    broadcastInDim ⟨2, ![M, N]⟩ ![0] h (up (vec A)) = up (mat fun i _ => A i) := by
  funext j
  refine broadcastInDim_apply ![0] h (up (vec A)) j (ix1 (j 0)) fun a => ?_
  match a with
  | ⟨0, _⟩ => exact (if_neg hM).symm

/-- A plain product of the host. -/
theorem h_dot {φ₁ φ₂ : FTy} (prec : Option ContractPrecision) (A : Fin M → Fin K → ℝ) (B : Fin K → Fin N → ℝ) :
    Host.dotGeneral (F := Ideal) (φ₁ := φ₁) (φ₂ := φ₂) (DotDims.plain M K N) prec (up (mat A)) (up (mat B))
      = up (mat fun i j => ∑ k, A i k * B k j) := m_dot prec .single A B

/-- A product of the host with a transposed matrix. -/
theorem h_dotT {φ₁ φ₂ : FTy} (prec : Option ContractPrecision) (A : Fin M → Fin K → ℝ) (B : Fin N → Fin K → ℝ) :
    Host.dotGeneral (F := Ideal) (φ₁ := φ₁) (φ₂ := φ₂) (DotDims.transposedRhs M K N) prec (up (mat A)) (up (mat B))
      = up (mat fun i j => ∑ k, A i k * B j k) := m_dotT prec .single A B

theorem m_hostNegf {φ : FTy} (A : Fin M → Fin N → ℝ) :
    (Host.negf (up (mat A) : FVec Ideal ⟨2, ![M, N]⟩ φ) : FVec Ideal ⟨2, ![M, N]⟩ φ) = up (mat fun i j => -A i j) := rfl

end Cert.Lift

end
-- ==== Proof.FfnHost.lean ====
/- What the feed-forward backward kernel's operands hold when the kernel starts, on finite arguments: the host's lines
   (the normalised input, the gate and up products, the transposed weights) as real matrices. -/
module

public import proofs.«01_k».proof.Proof.Gen.KernelIdeal.Value
public import proofs.«01_k».proof.Proof.LiftHost
public import proofs.«01_k».proof.Proof.FfnSpec

@[expose] public section

noncomputable section

namespace Cert.Ffn.Host

open Cert.KernelIdeal Cert.KernelIdeal.Gen Cert.Lift Idealize.ShloMosaic Idealize.ShloMosaic.TcCoe

theorem dotH : dot_S8192x1024_S1024x2816_S8192x2816_1_0_0_1_n_n = DotDims.plain 8192 1024 2816 := rfl

variable (m : (ℓ : Loc nD τ sig) → Buf (Elt Ideal) ℓ) (c : Dev nD)
variable {X : Fin 8192 → Fin 1024 → ℝ} {G : Fin 1024 → ℝ} {WG WU : Fin 1024 → Fin 2816 → ℝ}

/-- The host's normed input: the rows divided by their root mean square, times the gain. -/
theorem norm_value (X : Fin 8192 → Fin 1024 → ℝ) (G : Fin 1024 → ℝ) :
    mulf (F := Ideal) (φ := .f32)
      (mulf (up (mat X) : FVec Ideal S8192x1024 .f32)
        (broadcastInDim S8192x1024 ![0, 1] bcast_S8192x1_S8192x1024_0_1
          (Host.rsqrt
            (addf
              (Host.divf
                (broadcastInDim S8192x1 ![0] bcast_S8192_S8192x1_0
                  (Host.reduceAdd (mulf (up (mat X)) (up (mat X))) (constant S_ FTy.f32 0#32)
                    reducesTo_S8192x1024_S8192_d1 h_S_))
                (broadcastInDim S8192x1 ![] bcast_S_S8192x1 (constant S_ FTy.f32 1149239296#32)))
              (broadcastInDim S8192x1 ![] bcast_S_S8192x1 (constant S_ FTy.f32 897988541#32))))))
      (broadcastInDim S8192x1024 ![0, 1] bcast_S1x1024_S8192x1024_0_1
        (broadcastInDim S1x1024 ![1] bcast_S1024_S1x1024_1 (up (vec G))))
      = up (mat (hn X G)) := by
  rw [c_zero, c_1024, c_eps, m_inDimScalar, m_inDimScalar, m_mulf, h_rowSum, m_inDimCol (by norm_num),
    m_hostDivf _ _ fun _ _ => by norm_num, m_addf, m_hostRsqrt (fun i _ => (∑ k, X i k * X i k) / 1024 + eps) fun i _ => ms_pos X i, m_bcastInDimCol (by norm_num),
    m_mulf, m_inDimRow (by norm_num), m_bcastInDimRow (by norm_num), m_mulf]
  rfl

/-- The gain as a one-row matrix. -/
theorem gain_row (hG : m ((c : Thread nD τ).loc main_arg1) = up (s := S1024) (vec G)) :
    V m c main_v13 = up (s := S1x1024) (mat fun _ k => G k) := by
  unfold_abbrev_sides
  after_results
  simp only [hG]
  exact m_inDimRow (by norm_num) G _

/-- The gate's pre-activations. -/
theorem gate (hX : m ((c : Thread nD τ).loc main_arg0) = up (s := S8192x1024) (mat X))
    (hG : m ((c : Thread nD τ).loc main_arg1) = up (s := S1024) (vec G))
    (hW : m ((c : Thread nD τ).loc main_arg2) = up (s := S1024x2816) (mat WG)) :
    V m c main_v15 = up (s := S8192x2816) (mat (pre X G WG)) := by
  unfold_abbrev_sides
  after_results
  simp only [hX, hG, hW]
  rw [norm_value, dotH, h_dot]
  rfl

/-- The up projection's pre-activations. -/
theorem up_pre (hX : m ((c : Thread nD τ).loc main_arg0) = up (s := S8192x1024) (mat X))
    (hG : m ((c : Thread nD τ).loc main_arg1) = up (s := S1024) (vec G))
    (hW : m ((c : Thread nD τ).loc main_arg3) = up (s := S1024x2816) (mat WU)) :
    V m c main_v17 = up (s := S8192x2816) (mat (pre X G WU)) := by
  unfold_abbrev_sides
  after_results
  simp only [hX, hG, hW]
  rw [norm_value, dotH, h_dot]
  rfl

/-- The gate's weight, transposed. -/
theorem gateT (hW : m ((c : Thread nD τ).loc main_arg2) = up (s := S1024x2816) (mat WG)) :
    V m c main_v19 = up (s := S2816x1024) (mat fun f k => WG k f) := by
  unfold_abbrev_sides
  after_results
  simp only [hW]
  rw [m_transpose]
  rfl

/-- The up projection's weight, transposed. -/
theorem up_T (hW : m ((c : Thread nD τ).loc main_arg3) = up (s := S1024x2816) (mat WU)) :
    V m c main_v21 = up (s := S2816x1024) (mat fun f k => WU k f) := by
  unfold_abbrev_sides
  after_results
  simp only [hW]
  rw [m_transpose]
  rfl

/-- The down projection's weight. -/
theorem down {WD : Fin 2816 → Fin 1024 → ℝ} (hW : m ((c : Thread nD τ).loc main_arg4) = up (s := S2816x1024) (mat WD)) :
    V m c main_v22 = up (s := S2816x1024) (mat WD) := by
  unfold_abbrev_sides
  after_results
  simp only [hW]
  rfl

end Cert.Ffn.Host

end
-- ==== Proof.RowBlocks.lean ====
/- Arrays cut into blocks of consecutive rows: a block's rows, and the sum over all rows as the running sum over blocks. -/
module

public import proofs.«01_k».proof.Proof.Lift

@[expose] public section

noncomputable section

namespace Cert.Rows

open Idealize.ShloMosaic Idealize.ShloMosaic.ValueIdx

variable {α : Type} [AddCommMonoid α]

/-- Row `a` of block `t`, of `n` blocks of `B` rows. -/
def row {n : Nat} (B R : Nat) (h : n * B = R) (t : Fin n) (a : Fin B) : Fin R :=
  ⟨B * t.val + a.val, by
    have h1 : B * (t.val + 1) ≤ B * n := Nat.mul_le_mul_left B t.isLt
    have h2 := a.isLt
    rw [Nat.mul_add, Nat.mul_one, Nat.mul_comm B n, h] at h1
    omega⟩

/-! A coordinate of a block's index in its array, where the block is number `i` along that axis. -/

/-- Block `t`: its row. -/
theorem at_row {n B R : Nat} (h : n * B = R) (t : Fin n) (a : Fin B) {i : Nat} (e : i = t.val) (v : Fin R) (hv : v.val = i * B + 1 * a.val) : v = row B R h t a :=
  Fin.ext (by rw [hv, e, Nat.mul_comm, Nat.one_mul]; rfl)

/-- The only block: the coordinate itself. -/
theorem at_same {B : Nat} (a : Fin B) {i : Nat} (e : i = 0) (v : Fin B) (hv : v.val = i * B + 1 * a.val) : v = a :=
  Fin.ext (by rw [hv, e, Nat.zero_mul, Nat.one_mul, Nat.zero_add])

/-- A real entry read at equal indices. -/
theorem at_both {M N : Nat} (A : Fin M → Fin N → ℝ) {a a' : Fin M} {b b' : Fin N} (h : a = a') (h' : b = b') : ((A a b : ℝ) : EReal) = ((A a' b' : ℝ) : EReal) :=
  congrArg₂ (fun a b => ((A a b : ℝ) : EReal)) h h'

/-- Every index of an array lies in a block. -/
theorem hit {n B R N : Nat} (h : n * B = R) (hB : 0 < B) {e : Fin n → (⟨2, ![B, N]⟩ : Shape).Idx → (⟨2, ![R, N]⟩ : Shape).Idx}
    (h0 : ∀ t j, e t j 0 = row B R h t (j 0)) (h1 : ∀ t j, e t j 1 = j 1) (i : (⟨2, ![R, N]⟩ : Shape).Idx) : ∃ t j, e t j = i := by
  have hi : (i 0).val < n * B := h ▸ (i 0).isLt
  refine ⟨⟨(i 0).val / B, Nat.div_lt_of_lt_mul (by rwa [Nat.mul_comm])⟩, ix2 (⟨(i 0).val % B, Nat.mod_lt _ hB⟩ : Fin B) (i 1), ?_⟩
  funext a
  match a with
  | ⟨0, _⟩ => exact (h0 _ _).trans (Fin.ext (Nat.div_add_mod _ B))
  | ⟨1, _⟩ => exact h1 _ _

/-- A function of the rows below `R`, extended by zero. -/
def ext {R : Nat} (f : Fin R → α) (r : ℕ) : α := if h : r < R then f ⟨r, h⟩ else 0

theorem ext_val {R : Nat} (f : Fin R → α) (i : Fin R) : ext f i.val = f i := dif_pos i.isLt

/-- The sum over the first `n` blocks' rows. -/
def part {R : Nat} (B : Nat) (f : Fin R → α) (n : ℕ) : α := ∑ r ∈ Finset.range (B * n), ext f r

theorem part_zero {R : Nat} (B : Nat) (f : Fin R → α) : part B f 0 = 0 := by simp [part]

/-- One more block adds its rows' terms. -/
theorem part_succ {R n : Nat} (B : Nat) (h : n * B = R) (f : Fin R → α) (t : Fin n) :
    part B f (t.val + 1) = part B f t.val + ∑ a, f (row B R h t a) := by
  unfold part
  rw [Nat.mul_add, Nat.mul_one, Finset.sum_range_add, Finset.sum_range (n := B)]
  exact congrArg (_ + ·) (Finset.sum_congr rfl fun a _ => ext_val f (row B R h t a))

/-- All blocks together are all rows. -/
theorem part_all {R : Nat} (B n : Nat) (h : n * B = R) (f : Fin R → α) : part B f n = ∑ i, f i := by
  unfold part
  rw [Nat.mul_comm, h, Finset.sum_range]
  exact Finset.sum_congr rfl fun i _ => ext_val f i

end Cert.Rows

end
-- ==== Proof.FfnArrays.lean ====
/- The result arrays of the feed-forward backward kernel, on finite arguments: each grid point's blocks are 256 rows of the
   arrays, so the first five results are the functions of `FfnSpec` over all 8192 rows; the gain's gradient runs over the
   grid and ends as the sum of all rows. -/
module

public import proofs.«01_k».proof.Proof.FfnValue
public import proofs.«01_k».proof.Proof.FfnHost
public import proofs.«01_k».proof.Proof.RowBlocks

@[expose] public section

noncomputable section

namespace Cert.Ffn.Arrays

open Cert.KernelIdeal Cert.KernelIdeal.Gen Cert.KernelIdeal.Value Cert.Lift Cert.Rows Cert.Ffn.Block
open Idealize.ShloMosaic Idealize.ShloMosaic.TcCoe Idealize.ShloMosaic.ValueIdx Idealize.SL.Sem

/-- Point `t`'s rows of an array of 8192 rows. -/
def rows {N : Nat} (t : Fin cfg0.N) (A : Fin 8192 → Fin N → ℝ) (a : Fin 256) (k : Fin N) : ℝ := A (row (n := 32) 256 8192 rfl t a) k

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = t.val ∧ win0_3.index t (1 : Fin 2) = 0 := by decide +kernel
theorem idx4 : ∀ t : Fin grid0.N, win0_4.index t (0 : Fin 2) = t.val ∧ win0_4.index t (1 : Fin 2) = 0 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 2) = 0 ∧ win0_6.index t (1 : Fin 2) = 0 := by decide +kernel
theorem idx7 : ∀ t : Fin grid0.N, win0_7.index t (0 : Fin 2) = 0 ∧ win0_7.index t (1 : Fin 2) = 0 := by decide +kernel
theorem idx8 : ∀ t : Fin grid0.N, win0_8.index t (0 : Fin 2) = t.val ∧ win0_8.index t (1 : Fin 2) = 0 := by decide +kernel
theorem idx9 : ∀ t : Fin grid0.N, win0_9.index t (0 : Fin 2) = t.val ∧ win0_9.index t (1 : Fin 2) = 0 := by decide +kernel
theorem idx10 : ∀ t : Fin grid0.N, win0_10.index t (0 : Fin 2) = t.val ∧ win0_10.index t (1 : Fin 2) = 0 := by decide +kernel
theorem idx11 : ∀ t : Fin grid0.N, win0_11.index t (0 : Fin 2) = t.val ∧ win0_11.index t (1 : Fin 2) = 0 := by decide +kernel
theorem idx12 : ∀ t : Fin grid0.N, win0_12.index t (0 : Fin 2) = t.val ∧ win0_12.index t (1 : Fin 2) = 0 := by decide +kernel
theorem idx13 : ∀ t : Fin grid0.N, win0_13.index t (0 : Fin 2) = 0 ∧ win0_13.index t (1 : Fin 2) = 0 := by decide +kernel

/-! The index of a block in its array: rows `256 t` on, or the whole array. -/

theorem emb0_0 (t : Fin cfg0.N) (j : S256x1024.Idx) : (((cfg0.win 0).blk t).view.emb j) (0 : Fin 2) = row (n := 32) 256 8192 rfl t (j 0) :=
  at_row rfl t (j 0) (idx0 t).1 _ rfl
theorem emb0_1 (t : Fin cfg0.N) (j : S256x1024.Idx) : (((cfg0.win 0).blk t).view.emb j) (1 : Fin 2) = j 1 := at_same (j 1) (idx0 t).2 _ rfl
theorem emb1_0 (t : Fin cfg0.N) (j : S256x1024.Idx) : (((cfg0.win 1).blk t).view.emb j) (0 : Fin 2) = row (n := 32) 256 8192 rfl t (j 0) :=
  at_row rfl t (j 0) (idx1 t).1 _ rfl
theorem emb1_1 (t : Fin cfg0.N) (j : S256x1024.Idx) : (((cfg0.win 1).blk t).view.emb j) (1 : Fin 2) = j 1 := at_same (j 1) (idx1 t).2 _ rfl
theorem emb2_0 (t : Fin cfg0.N) (j : S1x1024.Idx) : (((cfg0.win 2).blk t).view.emb j) (0 : Fin 2) = j 0 := at_same (j 0) (idx2 t).1 _ rfl
theorem emb2_1 (t : Fin cfg0.N) (j : S1x1024.Idx) : (((cfg0.win 2).blk t).view.emb j) (1 : Fin 2) = j 1 := at_same (j 1) (idx2 t).2 _ rfl
theorem emb3_0 (t : Fin cfg0.N) (j : S256x2816.Idx) : (((cfg0.win 3).blk t).view.emb j) (0 : Fin 2) = row (n := 32) 256 8192 rfl t (j 0) :=
  at_row rfl t (j 0) (idx3 t).1 _ rfl
theorem emb3_1 (t : Fin cfg0.N) (j : S256x2816.Idx) : (((cfg0.win 3).blk t).view.emb j) (1 : Fin 2) = j 1 := at_same (j 1) (idx3 t).2 _ rfl
theorem emb4_0 (t : Fin cfg0.N) (j : S256x2816.Idx) : (((cfg0.win 4).blk t).view.emb j) (0 : Fin 2) = row (n := 32) 256 8192 rfl t (j 0) :=
  at_row rfl t (j 0) (idx4 t).1 _ rfl
theorem emb4_1 (t : Fin cfg0.N) (j : S256x2816.Idx) : (((cfg0.win 4).blk t).view.emb j) (1 : Fin 2) = j 1 := at_same (j 1) (idx4 t).2 _ rfl
theorem emb5_0 (t : Fin cfg0.N) (j : S2816x1024.Idx) : (((cfg0.win 5).blk t).view.emb j) (0 : Fin 2) = j 0 := at_same (j 0) (idx5 t).1 _ rfl
theorem emb5_1 (t : Fin cfg0.N) (j : S2816x1024.Idx) : (((cfg0.win 5).blk t).view.emb j) (1 : Fin 2) = j 1 := at_same (j 1) (idx5 t).2 _ rfl
theorem emb6_0 (t : Fin cfg0.N) (j : S2816x1024.Idx) : (((cfg0.win 6).blk t).view.emb j) (0 : Fin 2) = j 0 := at_same (j 0) (idx6 t).1 _ rfl
theorem emb6_1 (t : Fin cfg0.N) (j : S2816x1024.Idx) : (((cfg0.win 6).blk t).view.emb j) (1 : Fin 2) = j 1 := at_same (j 1) (idx6 t).2 _ rfl
theorem emb7_0 (t : Fin cfg0.N) (j : S2816x1024.Idx) : (((cfg0.win 7).blk t).view.emb j) (0 : Fin 2) = j 0 := at_same (j 0) (idx7 t).1 _ rfl
theorem emb7_1 (t : Fin cfg0.N) (j : S2816x1024.Idx) : (((cfg0.win 7).blk t).view.emb j) (1 : Fin 2) = j 1 := at_same (j 1) (idx7 t).2 _ rfl
theorem emb8_0 (t : Fin cfg0.N) (j : S256x1024.Idx) : (((cfg0.win 8).blk t).view.emb j) (0 : Fin 2) = row (n := 32) 256 8192 rfl t (j 0) :=
  at_row rfl t (j 0) (idx8 t).1 _ rfl
theorem emb8_1 (t : Fin cfg0.N) (j : S256x1024.Idx) : (((cfg0.win 8).blk t).view.emb j) (1 : Fin 2) = j 1 := at_same (j 1) (idx8 t).2 _ rfl
theorem emb9_0 (t : Fin cfg0.N) (j : S256x2816.Idx) : (((cfg0.win 9).blk t).view.emb j) (0 : Fin 2) = row (n := 32) 256 8192 rfl t (j 0) :=
  at_row rfl t (j 0) (idx9 t).1 _ rfl
theorem emb9_1 (t : Fin cfg0.N) (j : S256x2816.Idx) : (((cfg0.win 9).blk t).view.emb j) (1 : Fin 2) = j 1 := at_same (j 1) (idx9 t).2 _ rfl
theorem emb10_0 (t : Fin cfg0.N) (j : S256x2816.Idx) : (((cfg0.win 10).blk t).view.emb j) (0 : Fin 2) = row (n := 32) 256 8192 rfl t (j 0) :=
  at_row rfl t (j 0) (idx10 t).1 _ rfl
theorem emb10_1 (t : Fin cfg0.N) (j : S256x2816.Idx) : (((cfg0.win 10).blk t).view.emb j) (1 : Fin 2) = j 1 := at_same (j 1) (idx10 t).2 _ rfl
theorem emb11_0 (t : Fin cfg0.N) (j : S256x2816.Idx) : (((cfg0.win 11).blk t).view.emb j) (0 : Fin 2) = row (n := 32) 256 8192 rfl t (j 0) :=
  at_row rfl t (j 0) (idx11 t).1 _ rfl
theorem emb11_1 (t : Fin cfg0.N) (j : S256x2816.Idx) : (((cfg0.win 11).blk t).view.emb j) (1 : Fin 2) = j 1 := at_same (j 1) (idx11 t).2 _ rfl
theorem emb12_0 (t : Fin cfg0.N) (j : S256x1024.Idx) : (((cfg0.win 12).blk t).view.emb j) (0 : Fin 2) = row (n := 32) 256 8192 rfl t (j 0) :=
  at_row rfl t (j 0) (idx12 t).1 _ rfl
theorem emb12_1 (t : Fin cfg0.N) (j : S256x1024.Idx) : (((cfg0.win 12).blk t).view.emb j) (1 : Fin 2) = j 1 := at_same (j 1) (idx12 t).2 _ rfl
theorem emb13_0 (t : Fin cfg0.N) (j : S1x1024.Idx) : (((cfg0.win 13).blk t).view.emb j) (0 : Fin 2) = j 0 := at_same (j 0) (idx13 t).1 _ rfl
theorem emb13_1 (t : Fin cfg0.N) (j : S1x1024.Idx) : (((cfg0.win 13).blk t).view.emb j) (1 : Fin 2) = j 1 := at_same (j 1) (idx13 t).2 _ rfl

variable (m : (ℓ : Loc nD τ sig) → Buf (Elt Ideal) ℓ) (c : Dev nD) (t : Fin cfg0.N)

/-! The input blocks. -/

theorem iblk0 {A : Fin 8192 → Fin 1024 → ℝ} (h : V m c main_arg5 = up (s := S8192x1024) (mat A)) :
    iblk m c 0 t = up (s := S256x1024) (mat (rows t A)) :=
  funext fun j => (congrFun h (((cfg0.win 0).blk t).view.emb j)).trans (at_both A (emb0_0 t j) (emb0_1 t j))
theorem iblk1 {A : Fin 8192 → Fin 1024 → ℝ} (h : V m c main_arg0 = up (s := S8192x1024) (mat A)) :
    iblk m c 1 t = up (s := S256x1024) (mat (rows t A)) :=
  funext fun j => (congrFun h (((cfg0.win 1).blk t).view.emb j)).trans (at_both A (emb1_0 t j) (emb1_1 t j))
theorem iblk3 {A : Fin 8192 → Fin 2816 → ℝ} (h : V m c main_v15 = up (s := S8192x2816) (mat A)) :
    iblk m c 3 t = up (s := S256x2816) (mat (rows t A)) :=
  funext fun j => (congrFun h (((cfg0.win 3).blk t).view.emb j)).trans (at_both A (emb3_0 t j) (emb3_1 t j))
theorem iblk4 {A : Fin 8192 → Fin 2816 → ℝ} (h : V m c main_v17 = up (s := S8192x2816) (mat A)) :
    iblk m c 4 t = up (s := S256x2816) (mat (rows t A)) :=
  funext fun j => (congrFun h (((cfg0.win 4).blk t).view.emb j)).trans (at_both A (emb4_0 t j) (emb4_1 t j))
theorem iblk2 {A : Fin 1 → Fin 1024 → ℝ} (h : V m c main_v13 = up (s := S1x1024) (mat A)) :
    iblk m c 2 t = up (s := S1x1024) (mat (A)) :=
  funext fun j => (congrFun h (((cfg0.win 2).blk t).view.emb j)).trans (at_both A (emb2_0 t j) (emb2_1 t j))
theorem iblk5 {A : Fin 2816 → Fin 1024 → ℝ} (h : V m c main_v19 = up (s := S2816x1024) (mat A)) :
    iblk m c 5 t = up (s := S2816x1024) (mat (A)) :=
  funext fun j => (congrFun h (((cfg0.win 5).blk t).view.emb j)).trans (at_both A (emb5_0 t j) (emb5_1 t j))
theorem iblk6 {A : Fin 2816 → Fin 1024 → ℝ} (h : V m c main_v21 = up (s := S2816x1024) (mat A)) :
    iblk m c 6 t = up (s := S2816x1024) (mat (A)) :=
  funext fun j => (congrFun h (((cfg0.win 6).blk t).view.emb j)).trans (at_both A (emb6_0 t j) (emb6_1 t j))
theorem iblk7 {A : Fin 2816 → Fin 1024 → ℝ} (h : V m c main_v22 = up (s := S2816x1024) (mat A)) :
    iblk m c 7 t = up (s := S2816x1024) (mat (A)) :=
  funext fun j => (congrFun h (((cfg0.win 7).blk t).view.emb j)).trans (at_both A (emb7_0 t j) (emb7_1 t j))

/-! An output block cut from a point's rows of an array is the array's block. -/

theorem cut8 (A : Fin 8192 → Fin 1024 → ℝ) : (cfg0.win 8).cut (grid0.coords t) (up (s := S256x1024) (mat (rows t A)))
    = ((cfg0.win 8).blk t).view.read (Elt Ideal) (up (s := S8192x1024) (mat A)) :=
  funext fun j => (at_both A (emb8_0 t j) (emb8_1 t j)).symm
theorem cover8 (i : S8192x1024.Idx) : ∃ t : Fin cfg0.N, (cfg0.win 8).flush t = true ∧ i ∈ ((cfg0.win 8).blk t).view.set := by
  obtain ⟨t, j, e⟩ := hit (n := 32) (B := 256) (R := 8192) (N := 1024) rfl (by norm_num) emb8_0 emb8_1 i
  exact ⟨t, flush0_8 t, Set.mem_of_eq_of_mem e.symm (((cfg0.win 8).blk t).view.emb_mem_set j)⟩
theorem cut9 (A : Fin 8192 → Fin 2816 → ℝ) : (cfg0.win 9).cut (grid0.coords t) (up (s := S256x2816) (mat (rows t A)))
    = ((cfg0.win 9).blk t).view.read (Elt Ideal) (up (s := S8192x2816) (mat A)) :=
  funext fun j => (at_both A (emb9_0 t j) (emb9_1 t j)).symm
theorem cover9 (i : S8192x2816.Idx) : ∃ t : Fin cfg0.N, (cfg0.win 9).flush t = true ∧ i ∈ ((cfg0.win 9).blk t).view.set := by
  obtain ⟨t, j, e⟩ := hit (n := 32) (B := 256) (R := 8192) (N := 2816) rfl (by norm_num) emb9_0 emb9_1 i
  exact ⟨t, flush0_9 t, Set.mem_of_eq_of_mem e.symm (((cfg0.win 9).blk t).view.emb_mem_set j)⟩
theorem cut10 (A : Fin 8192 → Fin 2816 → ℝ) : (cfg0.win 10).cut (grid0.coords t) (up (s := S256x2816) (mat (rows t A)))
    = ((cfg0.win 10).blk t).view.read (Elt Ideal) (up (s := S8192x2816) (mat A)) :=
  funext fun j => (at_both A (emb10_0 t j) (emb10_1 t j)).symm
theorem cover10 (i : S8192x2816.Idx) : ∃ t : Fin cfg0.N, (cfg0.win 10).flush t = true ∧ i ∈ ((cfg0.win 10).blk t).view.set := by
  obtain ⟨t, j, e⟩ := hit (n := 32) (B := 256) (R := 8192) (N := 2816) rfl (by norm_num) emb10_0 emb10_1 i
  exact ⟨t, flush0_10 t, Set.mem_of_eq_of_mem e.symm (((cfg0.win 10).blk t).view.emb_mem_set j)⟩
theorem cut11 (A : Fin 8192 → Fin 2816 → ℝ) : (cfg0.win 11).cut (grid0.coords t) (up (s := S256x2816) (mat (rows t A)))
    = ((cfg0.win 11).blk t).view.read (Elt Ideal) (up (s := S8192x2816) (mat A)) :=
  funext fun j => (at_both A (emb11_0 t j) (emb11_1 t j)).symm
theorem cover11 (i : S8192x2816.Idx) : ∃ t : Fin cfg0.N, (cfg0.win 11).flush t = true ∧ i ∈ ((cfg0.win 11).blk t).view.set := by
  obtain ⟨t, j, e⟩ := hit (n := 32) (B := 256) (R := 8192) (N := 2816) rfl (by norm_num) emb11_0 emb11_1 i
  exact ⟨t, flush0_11 t, Set.mem_of_eq_of_mem e.symm (((cfg0.win 11).blk t).view.emb_mem_set j)⟩
theorem cut12 (A : Fin 8192 → Fin 1024 → ℝ) : (cfg0.win 12).cut (grid0.coords t) (up (s := S256x1024) (mat (rows t A)))
    = ((cfg0.win 12).blk t).view.read (Elt Ideal) (up (s := S8192x1024) (mat A)) :=
  funext fun j => (at_both A (emb12_0 t j) (emb12_1 t j)).symm
theorem cover12 (i : S8192x1024.Idx) : ∃ t : Fin cfg0.N, (cfg0.win 12).flush t = true ∧ i ∈ ((cfg0.win 12).blk t).view.set := by
  obtain ⟨t, j, e⟩ := hit (n := 32) (B := 256) (R := 8192) (N := 1024) rfl (by norm_num) emb12_0 emb12_1 i
  exact ⟨t, flush0_12 t, Set.mem_of_eq_of_mem e.symm (((cfg0.win 12).blk t).view.emb_mem_set j)⟩
theorem cut13 (A : Fin 1024 → ℝ) : (cfg0.win 13).cut (grid0.coords t) (up (s := S1x1024) (mat fun _ k => A k))
    = ((cfg0.win 13).blk t).view.read (Elt Ideal) (up (s := S1x1024) (mat fun _ k => A k)) :=
  funext fun j => (congrArg (fun b => ((A b : ℝ) : EReal)) (emb13_1 t j)).symm
theorem cover13 (i : S1x1024.Idx) : ∃ t : Fin cfg0.N, (cfg0.win 13).flush t = true ∧ i ∈ ((cfg0.win 13).blk t).view.set := by
  refine ⟨(⟨31, by decide⟩ : Fin cfg0.N), (flush0_13 _).mpr rfl, ?_⟩
  exact Set.mem_of_eq_of_mem (funext fun a => match a with | ⟨0, _⟩ => (emb13_0 _ i).symm | ⟨1, _⟩ => (emb13_1 _ i).symm) (((cfg0.win 13).blk (⟨31, by decide⟩ : Fin cfg0.N)).view.emb_mem_set i)

section

variable {X DY : Fin 8192 → Fin 1024 → ℝ} {G : Fin 1024 → ℝ} {WG WU : Fin 1024 → Fin 2816 → ℝ} {WD : Fin 2816 → Fin 1024 → ℝ}
  (hX : m ((c : Thread nD τ).loc main_arg0) = up (s := S8192x1024) (mat X))
  (hG : m ((c : Thread nD τ).loc main_arg1) = up (s := S1024) (vec G))
  (hWG : m ((c : Thread nD τ).loc main_arg2) = up (s := S1024x2816) (mat WG))
  (hWU : m ((c : Thread nD τ).loc main_arg3) = up (s := S1024x2816) (mat WU))
  (hWD : m ((c : Thread nD τ).loc main_arg4) = up (s := S2816x1024) (mat WD))
  (hDY : m ((c : Thread nD τ).loc main_arg5) = up (s := S8192x1024) (mat DY))
include hX hG hWG hWU hWD hDY

/-! The input blocks on finite arguments. -/

theorem b0 : iblk m c 0 t = up (s := S256x1024) (mat (rows t DY)) := iblk0 m c t ((V_main_arg5 m c).trans hDY)
theorem b1 : iblk m c 1 t = up (s := S256x1024) (mat (rows t X)) := iblk1 m c t ((V_main_arg0 m c).trans hX)
theorem b2 : iblk m c 2 t = up (s := S1x1024) (mat fun _ k => G k) := iblk2 m c t (Host.gain_row m c hG)
theorem b3 : iblk m c 3 t = up (s := S256x2816) (mat (rows t (pre X G WG))) := iblk3 m c t (Host.gate m c hX hG hWG)
theorem b4 : iblk m c 4 t = up (s := S256x2816) (mat (rows t (pre X G WU))) := iblk4 m c t (Host.up_pre m c hX hG hWU)
theorem b5 : iblk m c 5 t = up (s := S2816x1024) (mat fun f k => WG k f) := iblk5 m c t (Host.gateT m c hWG)
theorem b6 : iblk m c 6 t = up (s := S2816x1024) (mat fun f k => WU k f) := iblk6 m c t (Host.up_T m c hWU)
theorem b7 : iblk m c 7 t = up (s := S2816x1024) (mat WD) := iblk7 m c t (Host.down m c hWD)

/-! What each point writes back. -/

theorem flushed8_eq : (dats m 0 c).flushed 8 t = ((cfg0.win 8).blk t).view.read (Elt Ideal) (up (s := S8192x1024) (mat (dxn X DY (dh DY WG WU WD (pre X G WG) (pre X G WU)) G))) := by
  by_cases h0 : t.val % 32 = 0
  · rw [flushed8_A m c t h0, out_A_8, b0 m c t hX hG hWG hWU hWD hDY, b1 m c t hX hG hWG hWU hWD hDY, b2 m c t hX hG hWG hWU hWD hDY, b3 m c t hX hG hWG hWU hWD hDY, b4 m c t hX hG hWG hWU hWD hDY, b5 m c t hX hG hWG hWU hWD hDY, b6 m c t hX hG hWG hWU hWD hDY, b7 m c t hX hG hWG hWU hWD hDY, dx_value]
    exact cut8 t (dxn X DY (dh DY WG WU WD (pre X G WG) (pre X G WU)) G)
  · rw [flushed8_B m c t h0, out_B_8, b0 m c t hX hG hWG hWU hWD hDY, b1 m c t hX hG hWG hWU hWD hDY, b2 m c t hX hG hWG hWU hWD hDY, b3 m c t hX hG hWG hWU hWD hDY, b4 m c t hX hG hWG hWU hWD hDY, b5 m c t hX hG hWG hWU hWD hDY, b6 m c t hX hG hWG hWU hWD hDY, b7 m c t hX hG hWG hWU hWD hDY, dx_value]
    exact cut8 t (dxn X DY (dh DY WG WU WD (pre X G WG) (pre X G WU)) G)
theorem flushed9_eq : (dats m 0 c).flushed 9 t = ((cfg0.win 9).blk t).view.read (Elt Ideal) (up (s := S8192x2816) (mat (act (pre X G WG) (pre X G WU)))) := by
  by_cases h0 : t.val % 32 = 0
  · rw [flushed9_A m c t h0, out_A_9, b3 m c t hX hG hWG hWU hWD hDY, b4 m c t hX hG hWG hWU hWD hDY, pay14]
    exact cut9 t (act (pre X G WG) (pre X G WU))
  · rw [flushed9_B m c t h0, out_B_9, b3 m c t hX hG hWG hWU hWD hDY, b4 m c t hX hG hWG hWU hWD hDY, pay14]
    exact cut9 t (act (pre X G WG) (pre X G WU))
theorem flushed10_eq : (dats m 0 c).flushed 10 t = ((cfg0.win 10).blk t).view.read (Elt Ideal) (up (s := S8192x2816) (mat (dg DY WD (pre X G WG) (pre X G WU)))) := by
  by_cases h0 : t.val % 32 = 0
  · rw [flushed10_A m c t h0, out_A_10, b0 m c t hX hG hWG hWU hWD hDY, b3 m c t hX hG hWG hWU hWD hDY, b4 m c t hX hG hWG hWU hWD hDY, b7 m c t hX hG hWG hWU hWD hDY, dg_value]
    exact cut10 t (dg DY WD (pre X G WG) (pre X G WU))
  · rw [flushed10_B m c t h0, out_B_10, b0 m c t hX hG hWG hWU hWD hDY, b3 m c t hX hG hWG hWU hWD hDY, b4 m c t hX hG hWG hWU hWD hDY, b7 m c t hX hG hWG hWU hWD hDY, dg_value]
    exact cut10 t (dg DY WD (pre X G WG) (pre X G WU))
theorem flushed11_eq : (dats m 0 c).flushed 11 t = ((cfg0.win 11).blk t).view.read (Elt Ideal) (up (s := S8192x2816) (mat (du DY WD (pre X G WG)))) := by
  by_cases h0 : t.val % 32 = 0
  · rw [flushed11_A m c t h0, out_A_11, b0 m c t hX hG hWG hWU hWD hDY, b3 m c t hX hG hWG hWU hWD hDY, b7 m c t hX hG hWG hWU hWD hDY, du_value]
    exact cut11 t (du DY WD (pre X G WG))
  · rw [flushed11_B m c t h0, out_B_11, b0 m c t hX hG hWG hWU hWD hDY, b3 m c t hX hG hWG hWU hWD hDY, b7 m c t hX hG hWG hWU hWD hDY, du_value]
    exact cut11 t (du DY WD (pre X G WG))
theorem flushed12_eq : (dats m 0 c).flushed 12 t = ((cfg0.win 12).blk t).view.read (Elt Ideal) (up (s := S8192x1024) (mat (dyh DY))) := by
  by_cases h0 : t.val % 32 = 0
  · rw [flushed12_A m c t h0, out_A_12, b0 m c t hX hG hWG hWU hWD hDY, pay8]
    exact cut12 t (dyh DY)
  · rw [flushed12_B m c t h0, out_B_12, b0 m c t hX hG hWG hWU hWD hDY, pay8]
    exact cut12 t (dyh DY)

/-! The result arrays. -/

/-- Result 0: the gradient of the rows. -/
theorem final8 : (dats m 0 c).arrAt 8 cfg0.N = up (s := S8192x1024) (mat (dxn X DY (dh DY WG WU WD (pre X G WG) (pre X G WU)) G)) :=
  (dats m 0 c).arrAt_eq_of_cover 8 _ (fun t _ => flushed8_eq m c t hX hG hWG hWU hWD hDY) cover8
/-- Result 1: the hidden activation. -/
theorem final9 : (dats m 0 c).arrAt 9 cfg0.N = up (s := S8192x2816) (mat (act (pre X G WG) (pre X G WU))) :=
  (dats m 0 c).arrAt_eq_of_cover 9 _ (fun t _ => flushed9_eq m c t hX hG hWG hWU hWD hDY) cover9
/-- Result 2: the gradient of the gate's pre-activation. -/
theorem final10 : (dats m 0 c).arrAt 10 cfg0.N = up (s := S8192x2816) (mat (dg DY WD (pre X G WG) (pre X G WU))) :=
  (dats m 0 c).arrAt_eq_of_cover 10 _ (fun t _ => flushed10_eq m c t hX hG hWG hWU hWD hDY) cover10
/-- Result 3: the gradient of the up projection. -/
theorem final11 : (dats m 0 c).arrAt 11 cfg0.N = up (s := S8192x2816) (mat (du DY WD (pre X G WG))) :=
  (dats m 0 c).arrAt_eq_of_cover 11 _ (fun t _ => flushed11_eq m c t hX hG hWG hWU hWD hDY) cover11
/-- Result 4: half the incoming gradient. -/
theorem final12 : (dats m 0 c).arrAt 12 cfg0.N = up (s := S8192x1024) (mat (dyh DY)) :=
  (dats m 0 c).arrAt_eq_of_cover 12 _ (fun t _ => flushed12_eq m c t hX hG hWG hWU hWD hDY) cover12

/-- The gain's gradient after point `n`: the sum over the rows of the blocks up to it. -/
theorem chain : ∀ (n : ℕ) (hn : n < cfg0.N), (outsAt0 m c n hn).2.2.2.2.2
    = up (s := S1x1024) (mat fun _ k => part 256 (fun i => dgc X (dh DY WG WU WD (pre X G WG) (pre X G WU)) i k) (n + 1))
  | 0, hn => by
    have h := outsAt0_A m c ⟨0, hn⟩ (Nat.zero_mod _)
    rw [h]
    dsimp only
    rw [out_A_13, b0 m c ⟨0, hn⟩ hX hG hWG hWU hWD hDY, b1 m c ⟨0, hn⟩ hX hG hWG hWU hWD hDY, b3 m c ⟨0, hn⟩ hX hG hWG hWU hWD hDY, b4 m c ⟨0, hn⟩ hX hG hWG hWU hWD hDY, b5 m c ⟨0, hn⟩ hX hG hWG hWU hWD hDY, b6 m c ⟨0, hn⟩ hX hG hWG hWU hWD hDY, b7 m c ⟨0, hn⟩ hX hG hWG hWU hWD hDY, zero_value]
    refine (dgain_value _ _ _ _ _ _ _ fun _ => 0).trans (congrArg up (congrArg mat (funext fun _ => funext fun k => ?_)))
    rw [part_succ (n := 32) 256 rfl _ ⟨0, hn⟩, part_zero]
    rfl
  | n + 1, hn => by
    have hlt : n + 1 < 32 := hn
    have h := outsAt0_B m c ⟨n + 1, hn⟩ (by show ¬(n + 1) % 32 = 0; omega)
    rw [h]
    dsimp only
    rw [out_B_13, b0 m c ⟨n + 1, hn⟩ hX hG hWG hWU hWD hDY, b1 m c ⟨n + 1, hn⟩ hX hG hWG hWU hWD hDY, b3 m c ⟨n + 1, hn⟩ hX hG hWG hWU hWD hDY, b4 m c ⟨n + 1, hn⟩ hX hG hWG hWU hWD hDY, b5 m c ⟨n + 1, hn⟩ hX hG hWG hWU hWD hDY, b6 m c ⟨n + 1, hn⟩ hX hG hWG hWU hWD hDY, b7 m c ⟨n + 1, hn⟩ hX hG hWG hWU hWD hDY]
    have e := chain n (Nat.lt_of_succ_lt hn)
    refine (congrArg (dgainB _ _ _ _ _ _ _) e).trans ?_
    refine (dgain_value _ _ _ _ _ _ _ _).trans (congrArg up (congrArg mat (funext fun _ => funext fun k => ?_)))
    rw [part_succ (n := 32) 256 rfl _ ⟨n + 1, hn⟩]
    rfl

/-- Result 5: the gain's gradient, the sum over all rows. -/
theorem final13 : (dats m 0 c).arrAt 13 cfg0.N = up (s := S1x1024) (mat fun _ k => ∑ i, dgc X (dh DY WG WU WD (pre X G WG) (pre X G WU)) i k) := by
  refine (dats m 0 c).arrAt_eq_of_cover 13 _ (fun t hf => ?_) cover13
  have h31 := (flush0_13 t).mp hf
  have hlt : t.val < 32 := t.isLt
  have ht : t.val + 1 = 32 := by omega
  rw [flushed13, chain m c hX hG hWG hWU hWD hDY, ht, ← cut13 t]
  refine congrArg (fun f => (cfg0.win 13).cut (grid0.coords t) (up (s := S1x1024) (mat fun (_ : Fin 1) k => f k))) (funext fun k => ?_)
  exact part_all 256 32 rfl _

end

end Cert.Ffn.Arrays

end
-- ==== Proof.FfnReference.lean ====
/- What the feed-forward part's reference computes, on finite arguments: its stages one by one as real matrices, ending in
   the functions of `FfnSpec`. -/
module

public import proofs.«01_k».proof.Proof.Gen.ReferenceIdeal.Run
public import proofs.«01_k».proof.Proof.Gen.ReferenceIdeal.Read
public import proofs.«01_k».proof.Proof.LiftHost
public import proofs.«01_k».proof.Proof.FfnSpec

@[expose] public section

noncomputable section

namespace Cert.Ffn.Reference

open Cert.ReferenceIdeal Cert.ReferenceIdeal.Gen Cert.ReferenceIdeal.Read Cert.Lift Idealize.ShloMosaic Idealize.ShloMosaic.TcCoe

variable {X DY : Fin 8192 → Fin 1024 → ℝ} {G : Fin 1024 → ℝ} {WG WU : Fin 1024 → Fin 2816 → ℝ} {WD : Fin 2816 → Fin 1024 → ℝ}

/-! The products' dimension numbers are those of a plain product or of one with a transposed matrix. -/

theorem dotP : dot_S8192x1024_S1024x2816_S8192x2816_1_0_0_1_n_n = DotDims.plain 8192 1024 2816 := rfl
theorem dotWD : dot_S8192x1024_S2816x1024_S8192x2816_1_1_0_0_n_n = DotDims.transposedRhs 8192 1024 2816 := rfl
theorem dotWG : dot_S8192x2816_S1024x2816_S8192x1024_1_1_0_0_n_n = DotDims.transposedRhs 8192 2816 1024 := rfl

theorem n1 : (8192 : Nat) ≠ 1 := by decide
theorem n2 : (1024 : Nat) ≠ 1 := by decide

/-! The constants, repeated over their arrays. -/

theorem k_v3 : val_main_v3 (F := Ideal) = up (s := S8192x1) (mat fun _ _ => 1024) := by
  unfold val_main_v3 val_main_cst_0
  rw [c_1024]
  rfl
theorem k_v5 : val_main_v5 (F := Ideal) = up (s := S8192x1) (mat fun _ _ => eps) := by
  unfold val_main_v5 val_main_cst_1
  rw [c_eps]
  rfl
theorem k_v9 : val_main_v9 (F := Ideal) = up (s := S8192x1) (mat fun _ _ => -(1 / 2)) := by
  unfold val_main_v9 val_main_cst_2
  rw [c_negHalf]
  rfl
theorem k_call0_v2 : val_main_call0_v2 (F := Ideal) = up (s := S8192x2816) (mat fun _ _ => 1) := by
  unfold val_main_call0_v2 val_main_call0_cst
  rw [c_one]
  rfl
theorem k_call0_v4 : val_main_call0_v4 (F := Ideal) = up (s := S8192x2816) (mat fun _ _ => 1) := by
  unfold val_main_call0_v4 val_main_call0_cst_0
  rw [c_one]
  rfl
theorem k_call0_v6 : val_main_call0_v6 (F := Ideal) = up (s := S8192x2816) (mat fun _ _ => 1) := by
  unfold val_main_call0_v6 val_main_call0_cst_1
  rw [c_one]
  rfl
theorem k_v21 : val_main_v21 (F := Ideal) = up (s := S8192x1024) (mat fun _ _ => 1 / 2) := by
  unfold val_main_v21 val_main_cst_3
  rw [c_half]
  rfl
theorem k_v25 : val_main_v25 (F := Ideal) = up (s := S8192x1024) (mat fun _ _ => 1 / 2) := by
  unfold val_main_v25 val_main_cst_4
  rw [c_half]
  rfl
theorem k_v47 : val_main_v47 (F := Ideal) = up (s := S8192x1) (mat fun _ _ => 1024) := by
  unfold val_main_v47 val_main_cst_8
  rw [c_1024]
  rfl
theorem k_v58 : val_main_v58 (F := Ideal) = up (s := S8192x1) (mat fun _ _ => 1024) := by
  unfold val_main_v58 val_main_cst_11
  rw [c_1024]
  rfl
theorem k_v60 : val_main_v60 (F := Ideal) = up (s := S8192x1) (mat fun _ _ => eps) := by
  unfold val_main_v60 val_main_cst_12
  rw [c_eps]
  rfl
theorem k_call2_v2 : val_main_call2_v2 (F := Ideal) = up (s := S8192x2816) (mat fun _ _ => 1) := by
  unfold val_main_call2_v2 val_main_call2_cst
  rw [c_one]
  rfl
theorem k_call2_v4 : val_main_call2_v4 (F := Ideal) = up (s := S8192x2816) (mat fun _ _ => 1) := by
  unfold val_main_call2_v4 val_main_call2_cst_0
  rw [c_one]
  rfl
theorem k_call3_v2 : val_main_call3_v2 (F := Ideal) = up (s := S8192x2816) (mat fun _ _ => 1) := by
  unfold val_main_call3_v2 val_main_call3_cst
  rw [c_one]
  rfl
theorem k_call3_v4 : val_main_call3_v4 (F := Ideal) = up (s := S8192x2816) (mat fun _ _ => 1) := by
  unfold val_main_call3_v4 val_main_call3_cst_0
  rw [c_one]
  rfl
theorem k_call3_v6 : val_main_call3_v6 (F := Ideal) = up (s := S8192x2816) (mat fun _ _ => 1) := by
  unfold val_main_call3_v6 val_main_call3_cst_1
  rw [c_one]
  rfl
theorem k_v75 : val_main_v75 (F := Ideal) = up (s := S8192x1024) (mat fun _ _ => 1 / 2) := by
  unfold val_main_v75 val_main_cst_13
  rw [c_half]
  rfl
theorem k_v77 : val_main_v77 (F := Ideal) = up (s := S8192x1024) (mat fun _ _ => 1 / 2) := by
  unfold val_main_v77 val_main_cst_14
  rw [c_half]
  rfl
theorem k_v86 : val_main_v86 (F := Ideal) = up (s := S8192x1024) (mat fun _ _ => 1 / 2) := by
  unfold val_main_v86 val_main_cst_15
  rw [c_half]
  rfl

/-- The rows' mean squares plus epsilon. -/
theorem r_v6 : val_main_v6 (F := Ideal) (up (mat X)) = up (mat fun i _ => ms X i) := by
  unfold val_main_v6 val_main_v4 val_main_v2 val_main_v1 val_main_v0 val_main_cst
  simp only [c_zero, k_v3, k_v5, m_mulf, m_addf, h_rowSum, m_inDimCol n1]
  rw [m_hostDivf _ _ fun _ _ => by norm_num, m_addf]
  rfl
/-- Their reciprocal roots. -/
theorem r_v7 : val_main_v7 (F := Ideal) (up (mat X)) = up (mat fun i _ => rs X i) := by
  unfold val_main_v7
  rw [r_v6]
  exact m_hostRsqrt _ fun i _ => ms_pos X i
/-- The normed rows. -/
theorem r_v12 : val_main_v12 (F := Ideal) (up (mat X)) = up (mat fun i k => X i k * rs X i) := by
  unfold val_main_v12 val_main_v11
  simp only [m_mulf, m_bcastInDimCol n1, r_v7]
  try rfl
/-- … times the gain. -/
theorem r_v15 : val_main_v15 (F := Ideal) (up (mat X)) (up (vec G)) = up (mat (hn X G)) := by
  unfold val_main_v15 val_main_v14 val_main_v13
  simp only [m_mulf, m_inDimRow n2, m_bcastInDimRow n2, r_v12]
  try rfl
/-- The gate's pre-activations. -/
theorem r_v16 : val_main_v16 (F := Ideal) (up (mat X)) (up (vec G)) (up (mat WG)) = up (mat (pre X G WG)) := by
  unfold val_main_v16
  simp only [dotP, h_dot, r_v15]
  try rfl
/-- The up projection. -/
theorem r_v17 : val_main_v17 (F := Ideal) (up (mat X)) (up (vec G)) (up (mat WU)) = up (mat (pre X G WU)) := by
  unfold val_main_v17
  simp only [dotP, h_dot, r_v15]
  try rfl
/-- The rows' mean squares plus epsilon. -/
theorem r_v61 : val_main_v61 (F := Ideal) (up (mat X)) = up (mat fun i _ => ms X i) := by
  unfold val_main_v61 val_main_v59 val_main_v57 val_main_v56 val_main_v55 val_main_cst_10
  simp only [c_zero, k_v58, k_v60, m_mulf, m_addf, h_rowSum, m_inDimCol n1]
  rw [m_hostDivf _ _ fun _ _ => by norm_num, m_addf]
  rfl
/-- Their reciprocal roots. -/
theorem r_v62 : val_main_v62 (F := Ideal) (up (mat X)) = up (mat fun i _ => rs X i) := by
  unfold val_main_v62
  rw [r_v61]
  exact m_hostRsqrt _ fun i _ => ms_pos X i
/-- The normed rows. -/
theorem r_v64 : val_main_v64 (F := Ideal) (up (mat X)) = up (mat fun i k => X i k * rs X i) := by
  unfold val_main_v64 val_main_v63
  simp only [m_mulf, m_bcastInDimCol n1, r_v62]
  try rfl
/-- … times the gain. -/
theorem r_v67 : val_main_v67 (F := Ideal) (up (mat X)) (up (vec G)) = up (mat (hn X G)) := by
  unfold val_main_v67 val_main_v66 val_main_v65
  simp only [m_mulf, m_inDimRow n2, m_bcastInDimRow n2, r_v64]
  try rfl
/-- The gate's pre-activations. -/
theorem r_v68 : val_main_v68 (F := Ideal) (up (mat X)) (up (vec G)) (up (mat WG)) = up (mat (pre X G WG)) := by
  unfold val_main_v68
  simp only [dotP, h_dot, r_v67]
  try rfl
/-- The up projection. -/
theorem r_v69 : val_main_v69 (F := Ideal) (up (mat X)) (up (vec G)) (up (mat WU)) = up (mat (pre X G WU)) := by
  unfold val_main_v69
  simp only [dotP, h_dot, r_v67]
  try rfl
/-- The logistic function of the gate. -/
theorem r_v18_2 : val_main_v18_2 (F := Ideal) (up (mat X)) (up (vec G)) (up (mat WG)) = up (mat fun i f => sg (pre X G WG i f)) := by
  unfold val_main_v18_2 val_main_call0_v3 val_main_call0_v1 val_main_call0_v0
  simp only [k_call0_v2, k_call0_v4, m_addf, m_hostNegf, m_hostExp, r_v16]
  rw [m_hostDivf _ _ fun i f => sg_den _]
  rfl
/-- Its derivative. -/
theorem r_v18_1 : val_main_v18_1 (F := Ideal) (up (mat X)) (up (vec G)) (up (mat WG)) = up (mat fun i f => sg (pre X G WG i f) * (1 - sg (pre X G WG i f))) := by
  unfold val_main_v18_1 val_main_call0_v7
  simp only [k_call0_v6, m_mulf, m_subf, r_v18_2]
  try rfl
/-- The gate times its logistic function. -/
theorem r_v18_0 : val_main_v18_0 (F := Ideal) (up (mat X)) (up (vec G)) (up (mat WG)) = up (mat fun i f => pre X G WG i f * sg (pre X G WG i f)) := by
  unfold val_main_v18_0
  simp only [m_mulf, r_v16, r_v18_2]
  try rfl
/-- Half the incoming gradient. -/
theorem r_v26 : val_main_v26 (F := Ideal) (up (mat DY)) = up (mat (dyh DY)) := by
  unfold val_main_v26 val_main_v24
  simp only [k_v25, m_mulf, m_ofCol, m_ofRow, shapeCast_self]
  try rfl
/-- The gradient of the hidden activation. -/
theorem r_v27 : val_main_v27 (F := Ideal) (up (mat WD)) (up (mat DY)) = up (mat (da DY WD)) := by
  unfold val_main_v27
  simp only [dotWD, h_dotT, r_v26]
  try rfl
/-- The gradient of the up projection. -/
theorem r_v28 : val_main_v28 (F := Ideal) (up (mat X)) (up (vec G)) (up (mat WG)) (up (mat WD)) (up (mat DY)) = up (mat (du DY WD (pre X G WG))) := by
  unfold val_main_v28
  simp only [m_mulf, r_v18_0, r_v27]
  exact congrArg up (congrArg mat (funext fun i => funext fun f => mul_comm _ _))
/-- The gradient of the gate's pre-activation. -/
theorem r_v30 : val_main_v30 (F := Ideal) (up (mat X)) (up (vec G)) (up (mat WG)) (up (mat WU)) (up (mat WD)) (up (mat DY)) = up (mat (dg DY WD (pre X G WG) (pre X G WU))) := by
  unfold val_main_v30 val_main_call1_v2 val_main_call1_v1 val_main_call1_v0 val_main_v29
  simp only [m_mulf, m_addf, r_v16, r_v17, r_v18_2, r_v18_1, r_v27]
  exact congrArg up (congrArg mat (funext fun i => funext fun f => by unfold dg; ring))
/-- The gradient of the normed rows. -/
theorem r_v33 : val_main_v33 (F := Ideal) (up (mat X)) (up (vec G)) (up (mat WG)) (up (mat WU)) (up (mat WD)) (up (mat DY)) = up (mat (dh DY WG WU WD (pre X G WG) (pre X G WU))) := by
  unfold val_main_v33 val_main_v32 val_main_v31
  simp only [m_addf, dotWG, h_dotT, r_v28, r_v30]
  exact congrArg up (congrArg mat (funext fun i => funext fun k => add_comm _ _))
/-- The gain's gradient. -/
theorem r_v89 : val_main_v89 (F := Ideal) (up (mat X)) (up (vec G)) (up (mat WG)) (up (mat WU)) (up (mat WD)) (up (mat DY)) = up (mat fun _ k => ∑ i, dgc X (dh DY WG WU WD (pre X G WG) (pre X G WU)) i k) := by
  unfold val_main_v89 val_main_v39 val_main_v36 val_main_v35 val_main_v34 val_main_cst_6 val_main_cst_5
  simp only [c_zero, m_mulf, h_colSum, m_inDimRow n2, m_ofCol, m_ofRow, shapeCast_self, r_v12, r_v33]
  refine congrArg up (congrArg mat (funext fun _ => funext fun k => ?_))
  rw [Fin.sum_univ_one]
  refine Finset.sum_congr rfl fun i _ => ?_
  unfold dgc
  ring
/-- The derivative of the reciprocal root, at a positive mean square. -/
theorem rs_div (i : Fin 8192) : rs X i / ms X i = rs X i * rs X i * rs X i := by
  have h := Real.mul_self_sqrt (ms_pos X i).le
  have hs : Real.sqrt (ms X i) ≠ 0 := (Real.sqrt_pos.mpr (ms_pos X i)).ne'
  unfold rs
  rw [div_eq_mul_inv, mul_assoc]
  refine congrArg ((Real.sqrt (ms X i))⁻¹ * ·) ?_
  rw [← mul_inv, h]

/-- Half of the mean square's share of the rows' gradient. -/
theorem r_v50 : val_main_v50 (F := Ideal) (up (mat X)) (up (vec G)) (up (mat WG)) (up (mat WU)) (up (mat WD)) (up (mat DY)) = up (mat fun i _ => (∑ j, X i j * (dh DY WG WU WD (pre X G WG) (pre X G WU) i j * G j)) * (-(1 / 2) * (rs X i * rs X i * rs X i)) / 1024) := by
  unfold val_main_v50 val_main_v49 val_main_v48 val_main_v46 val_main_v42 val_main_v41 val_main_v40 val_main_v38 val_main_v37 val_main_v10 val_main_v8 val_main_v13 val_main_cst_9 val_main_cst_7
  rw [r_v7, r_v6, m_hostDivf _ _ fun i _ => (ms_pos X i).ne']
  simp only [c_zero, k_v9, k_v47, m_mulf, h_rowSum, m_inDimRow n2, m_inDimRows n1, m_bcastInDimRow n2, m_ofCol, m_ofRow, shapeCast_self, r_v33, rs_div]
  rw [m_hostDivf _ _ fun _ _ => by norm_num, h_rowSum, m_inDimRows n1]
  refine congrArg up (congrArg mat (funext fun i => funext fun k => ?_))
  rw [Fin.sum_univ_one]
/-- The rows' gradient. -/
theorem r_v54 : val_main_v54 (F := Ideal) (up (mat X)) (up (vec G)) (up (mat WG)) (up (mat WU)) (up (mat WD)) (up (mat DY)) = up (mat (dxn X DY (dh DY WG WU WD (pre X G WG) (pre X G WU)) G)) := by
  unfold val_main_v54 val_main_v53 val_main_v52 val_main_v51 val_main_v45 val_main_v44 val_main_v43 val_main_v38 val_main_v37 val_main_v13
  simp only [m_mulf, m_addf, m_inDimRow n2, m_bcastInDimCol n1, m_bcastInDimRow n2, r_v50, r_v33, r_v7]
  refine congrArg up (congrArg mat (funext fun i => funext fun k => ?_))
  unfold dxn
  have e : (∑ j, dh DY WG WU WD (pre X G WG) (pre X G WU) i j * G j * X i j) = ∑ j, X i j * (dh DY WG WU WD (pre X G WG) (pre X G WU) i j * G j) :=
    Finset.sum_congr rfl fun j _ => mul_comm _ _
  rw [e]
  ring
/-- The hidden activation. -/
theorem r_v71 : val_main_v71 (F := Ideal) (up (mat X)) (up (vec G)) (up (mat WG)) (up (mat WU)) = up (mat (act (pre X G WG) (pre X G WU))) := by
  unfold val_main_v71 val_main_v70 val_main_call2_v5 val_main_call2_v3 val_main_call2_v1 val_main_call2_v0
  simp only [k_call2_v2, k_call2_v4, m_mulf, m_addf, m_hostNegf, m_hostExp, r_v68, r_v69]
  rw [m_hostDivf _ _ fun i f => sg_den _, m_mulf, m_mulf]
  rfl
/-- The logistic function of the gate. -/
theorem r_v72_2 : val_main_v72_2 (F := Ideal) (up (mat X)) (up (vec G)) (up (mat WG)) = up (mat fun i f => sg (pre X G WG i f)) := by
  unfold val_main_v72_2 val_main_call3_v3 val_main_call3_v1 val_main_call3_v0
  simp only [k_call3_v2, k_call3_v4, m_addf, m_hostNegf, m_hostExp, r_v68]
  rw [m_hostDivf _ _ fun i f => sg_den _]
  rfl
/-- Its derivative. -/
theorem r_v72_1 : val_main_v72_1 (F := Ideal) (up (mat X)) (up (vec G)) (up (mat WG)) = up (mat fun i f => sg (pre X G WG i f) * (1 - sg (pre X G WG i f))) := by
  unfold val_main_v72_1 val_main_call3_v7
  simp only [k_call3_v6, m_mulf, m_subf, r_v72_2]
  try rfl
/-- The gate times its logistic function. -/
theorem r_v72_0 : val_main_v72_0 (F := Ideal) (up (mat X)) (up (vec G)) (up (mat WG)) = up (mat fun i f => pre X G WG i f * sg (pre X G WG i f)) := by
  unfold val_main_v72_0
  simp only [m_mulf, r_v68, r_v72_2]
  try rfl
/-- Half the incoming gradient. -/
theorem r_v78 : val_main_v78 (F := Ideal) (up (mat DY)) = up (mat (dyh DY)) := by
  unfold val_main_v78
  simp only [k_v77, m_mulf]
  try rfl
/-- The gradient of the hidden activation. -/
theorem r_v79 : val_main_v79 (F := Ideal) (up (mat WD)) (up (mat DY)) = up (mat (da DY WD)) := by
  unfold val_main_v79
  simp only [dotWD, h_dotT, r_v78]
  try rfl
/-- The gradient of the up projection. -/
theorem r_v80 : val_main_v80 (F := Ideal) (up (mat X)) (up (vec G)) (up (mat WG)) (up (mat WD)) (up (mat DY)) = up (mat (du DY WD (pre X G WG))) := by
  unfold val_main_v80
  simp only [m_mulf, r_v72_0, r_v79]
  exact congrArg up (congrArg mat (funext fun i => funext fun f => mul_comm _ _))
/-- The gradient of the gate's pre-activation. -/
theorem r_v82 : val_main_v82 (F := Ideal) (up (mat X)) (up (vec G)) (up (mat WG)) (up (mat WU)) (up (mat WD)) (up (mat DY)) = up (mat (dg DY WD (pre X G WG) (pre X G WU))) := by
  unfold val_main_v82 val_main_call4_v2 val_main_call4_v1 val_main_call4_v0 val_main_v81
  simp only [m_mulf, m_addf, r_v68, r_v69, r_v72_2, r_v72_1, r_v79]
  exact congrArg up (congrArg mat (funext fun i => funext fun f => by unfold dg; ring))
/-- Result 1. -/
theorem r_v83 : val_main_v83 (F := Ideal) (up (mat X)) (up (vec G)) (up (mat WG)) (up (mat WU)) = up (mat (act (pre X G WG) (pre X G WU))) := by
  unfold val_main_v83
  rw [r_v71]
  rfl
/-- Result 2. -/
theorem r_v84 : val_main_v84 (F := Ideal) (up (mat X)) (up (vec G)) (up (mat WG)) (up (mat WU)) (up (mat WD)) (up (mat DY)) = up (mat (dg DY WD (pre X G WG) (pre X G WU))) := by
  unfold val_main_v84
  rw [r_v82]
  rfl
/-- Result 3. -/
theorem r_v85 : val_main_v85 (F := Ideal) (up (mat X)) (up (vec G)) (up (mat WG)) (up (mat WD)) (up (mat DY)) = up (mat (du DY WD (pre X G WG))) := by
  unfold val_main_v85
  rw [r_v80]
  rfl
/-- Result 4. -/
theorem r_v88 : val_main_v88 (F := Ideal) (up (mat DY)) = up (mat (dyh DY)) := by
  unfold val_main_v88 val_main_v87
  simp only [k_v86, m_mulf, up_truncf]
  try rfl

end Cert.Ffn.Reference

end
-- ==== Proof.Finite.lean ====
/- A precondition's "every element is finite" — an all-reduction of `|x| < +∞` — gives an array of reals. -/
module

public import proofs.«01_k».proof.Proof.Lift
public import Idealize.ShloMosaic.Lib.ReduceAll

@[expose] public section

noncomputable section

namespace Cert.Lift

open Idealize.ShloMosaic

theorem ofBits_inf : Ideal.ofBits .f32 0x7F800000#32 = ⊤ := by simp [Ideal.ofBits, Ideal.ieee]

/-- An extended real of absolute value below infinity is neither infinity. -/
theorem finite_of_abs {x : EReal} (h : Ideal.cmp .olt (max x (-x)) (Ideal.ofBits .f32 0x7F800000#32) = 1#1) : x ≠ ⊤ ∧ x ≠ ⊥ := by
  rw [ofBits_inf] at h
  have hlt : max x (-x) < ⊤ := by
    by_contra hn
    simp [Ideal.cmp, hn] at h
  constructor
  · rintro rfl; simp at hlt
  · rintro rfl; simp at hlt

/-- An array whose elements all have absolute value below infinity is an array of reals. -/
theorem reals_of_all {s t u : Shape} [Subsingleton t.Idx] {axes : List (Fin s.rank)} (x : FVec Ideal s .f32)
    (init : u.Idx → BitVec 1) (h : s.ReducesTo axes t) (hu : 0 < u.numel) (j : t.Idx)
    (b : (⟨0, ![]⟩ : Shape).BroadcastsInDim s ![])
    (e : Host.reduce IntOp.andi (cmpf .olt (Host.absf x) (broadcastInDim s ![] b (constant (F := Ideal) ⟨0, ![]⟩ .f32 0x7F800000#32))) init h hu j = 1#1) :
    ∃ B : s.Idx → ℝ, x = up B :=
  exists_up x fun i => finite_of_abs (Host.reduce_andi_all _ init h hu j e i)

/-- Both of two bits are one where their conjunction is. -/
theorem and_one {a b : BitVec 1} (h : IntOp.andi a b = 1#1) : a = 1#1 ∧ b = 1#1 := by
  revert a b
  decide

end Cert.Lift

end
-- ==== Proof.FfnPre.lean ====
/- The precondition of the feed-forward part: its six arguments are matrices (the gain a vector) of reals. -/
module

public import proofs.«01_k».proof.Proof.Finite
public import proofs.«01_k».proof.Proof.Gen.Pre_finite

@[expose] public section

noncomputable section

namespace Cert.Ffn.Pre

open Cert.Pre_finite Cert.Pre_finite.Gen Cert.Lift Idealize.ShloMosaic

instance : Subsingleton S_.Idx := ⟨fun a b => funext fun i => i.elim0⟩

/-- Arguments that meet the precondition are real. -/
theorem reals {x : FVec Ideal S8192x1024 .f32} {g : FVec Ideal S1024 .f32} {wg wu : FVec Ideal S1024x2816 .f32}
    {wd : FVec Ideal S2816x1024 .f32} {dy : FVec Ideal S8192x1024 .f32}
    (h : Cert.Pre_finite.fn (F := Ideal) x g wg wu wd dy = fun _ => 1#1) :
    ∃ (X : Fin 8192 → Fin 1024 → ℝ) (G : Fin 1024 → ℝ) (WG WU : Fin 1024 → Fin 2816 → ℝ) (WD : Fin 2816 → Fin 1024 → ℝ)
      (DY : Fin 8192 → Fin 1024 → ℝ),
      x = up (mat X) ∧ g = up (vec G) ∧ wg = up (mat WG) ∧ wu = up (mat WU) ∧ wd = up (mat WD) ∧ dy = up (mat DY) := by
  have e := congrFun h (fun i => i.elim0)
  unfold Cert.Pre_finite.fn Cert.Pre_finite.fn_part1 at e
  dsimp only at e
  obtain ⟨e, e5⟩ := and_one e
  obtain ⟨e, e4⟩ := and_one e
  obtain ⟨e, e3⟩ := and_one e
  obtain ⟨e, e2⟩ := and_one e
  obtain ⟨e0, e1⟩ := and_one e
  obtain ⟨X, hX⟩ := reals_of_all _ _ _ _ _ _ e0
  obtain ⟨G, hG⟩ := reals_of_all _ _ _ _ _ _ e1
  obtain ⟨WG, hWG⟩ := reals_of_all _ _ _ _ _ _ e2
  obtain ⟨WU, hWU⟩ := reals_of_all _ _ _ _ _ _ e3
  obtain ⟨WD, hWD⟩ := reals_of_all _ _ _ _ _ _ e4
  obtain ⟨DY, hDY⟩ := reals_of_all _ _ _ _ _ _ e5
  exact ⟨_, _, _, _, _, _, hX.trans (congrArg up (mat_eq X)), hG.trans (congrArg up (vec_eq G)), hWG.trans (congrArg up (mat_eq WG)),
    hWU.trans (congrArg up (mat_eq WU)), hWD.trans (congrArg up (mat_eq WD)), hDY.trans (congrArg up (mat_eq DY))⟩

end Cert.Ffn.Pre

end
-- ==== Proof.FfnClaims.lean ====
/- The claims about the feed-forward backward kernel, from the arrays of the kernel's run and of the reference's run. -/
module

public import proofs.«01_k».proof.Defs
public import proofs.«01_k».proof.Proof.FfnArrays
public import proofs.«01_k».proof.Proof.FfnReference
public import proofs.«01_k».proof.Proof.FfnPre

@[expose] public section

noncomputable section

namespace Cert.Ffn.Claims

open Idealize.ShloMosaic Idealize.SL.Sem Cert.Lift

/-- The reference runs, keeps its arguments, and declares no semaphore. -/
theorem frame_r : Cert.quiescent_ReferenceIdeal := by
  intro m ρ _
  exact (θ_run Cert.ReferenceIdeal.defs _ _).mono
    (fun r h => ⟨fun c => (h c).2.2.2.2.2.2, sem_eq_zero_of_no_sems (by decide) r.2⟩) (Cert.ReferenceIdeal.Value.run m ρ)

/-- On finite arguments the kernel's six results are the reference's. -/
theorem algebraic : Cert.algebraic_KernelIdeal_ReferenceIdeal_pre_finite := by
  intro m ρ m' ρ' hpre hagree
  refine ⟨fun c => (Cert.KernelIdeal.Gen.dats m 0 c).arrAt 8 Cert.KernelIdeal.cfg0.N, fun c => (Cert.KernelIdeal.Gen.dats m 0 c).arrAt 9 Cert.KernelIdeal.cfg0.N,
    fun c => (Cert.KernelIdeal.Gen.dats m 0 c).arrAt 10 Cert.KernelIdeal.cfg0.N, fun c => (Cert.KernelIdeal.Gen.dats m 0 c).arrAt 11 Cert.KernelIdeal.cfg0.N,
    fun c => (Cert.KernelIdeal.Gen.dats m 0 c).arrAt 12 Cert.KernelIdeal.cfg0.N, fun c => (Cert.KernelIdeal.Gen.dats m 0 c).arrAt 13 Cert.KernelIdeal.cfg0.N,
    Cert.KernelIdeal.Value.run_blocks m ρ, ?_⟩
  refine (θ_run Cert.ReferenceIdeal.defs _ _).mono (fun r h c => ?_) (Cert.ReferenceIdeal.Value.run m' ρ')
  obtain ⟨X, G, WG, WU, WD, DY, hX, hG, hWG, hWU, hWD, hDY⟩ := Cert.Ffn.Pre.reals (hpre c)
  obtain ⟨a0, a1, a2, a3, a4, a5⟩ := hagree c
  obtain ⟨r0, r1, r2, r3, r4, r5, k⟩ := h c
  have x0 := a0.trans hX; have x1 := a1.trans hG; have x2 := a2.trans hWG
  have x3 := a3.trans hWU; have x4 := a4.trans hWD; have x5 := a5.trans hDY
  refine ⟨?_, ?_, ?_, ?_, ?_, ?_, k⟩
  · rw [r0, Cert.ReferenceIdeal.Read.val_main_v54_eq, x0, x1, x2, x3, x4, x5, Cert.Ffn.Reference.r_v54]
    exact (Cert.Ffn.Arrays.final8 m c hX hG hWG hWU hWD hDY).symm
  · rw [r1, Cert.ReferenceIdeal.Read.val_main_v83_eq, x0, x1, x2, x3, Cert.Ffn.Reference.r_v83]
    exact (Cert.Ffn.Arrays.final9 m c hX hG hWG hWU hWD hDY).symm
  · rw [r2, Cert.ReferenceIdeal.Read.val_main_v84_eq, x0, x1, x2, x3, x4, x5, Cert.Ffn.Reference.r_v84]
    exact (Cert.Ffn.Arrays.final10 m c hX hG hWG hWU hWD hDY).symm
  · rw [r3, Cert.ReferenceIdeal.Read.val_main_v85_eq, x0, x1, x2, x4, x5, Cert.Ffn.Reference.r_v85]
    exact (Cert.Ffn.Arrays.final11 m c hX hG hWG hWU hWD hDY).symm
  · rw [r4, Cert.ReferenceIdeal.Read.val_main_v88_eq, x5, Cert.Ffn.Reference.r_v88]
    exact (Cert.Ffn.Arrays.final12 m c hX hG hWG hWU hWD hDY).symm
  · rw [r5, Cert.ReferenceIdeal.Read.val_main_v89_eq, x0, x1, x2, x3, x4, x5, Cert.Ffn.Reference.r_v89]
    exact (Cert.Ffn.Arrays.final13 m c hX hG hWG hWU hWD hDY).symm

end Cert.Ffn.Claims

end
-- ==== Proof.Fwd2Block.lean ====
/- What one grid point of the feed-forward forward kernel leaves in its output blocks, as a function of the input
   blocks that it reads: the covering stores of the point read back as values. -/
module

public import proofs.«01_k».proof.Proof.Gen.Kernel2Ideal.Value

@[expose] public section

noncomputable section

namespace Cert.Fwd2.Block

open Cert.Kernel2Ideal Cert.Kernel2Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl

section

variable (c : Dev nD) (i : grid0.Coords)
  (a2 : Memref sig .tc .vmem S512x1024 .f32) (h2 : a2.IsWhole)
  (a3 : Memref sig .tc .vmem S1x1024 .f32) (h3 : a3.IsWhole)
  (a4 : Memref sig .tc .vmem S2816x1024 .bf16) (h4 : a4.IsWhole)
  (a5 : Memref sig .tc .vmem S2816x1024 .bf16) (h5 : a5.IsWhole)
  (a6 : Memref sig .tc .vmem S2816x1024 .bf16) (h6 : a6.IsWhole)
  (a7 : Memref sig .tc .vmem S512x1024 .f32) (h7 : a7.IsWhole)
  (a8 : Memref sig .tc .vmem S512x1024 .bf16) (h8 : a8.IsWhole)
  (a9 : Memref sig .tc .vmem S512x2816 .bf16) (h9 : a9.IsWhole)
  (a10 : Memref sig .tc .vmem S512x2816 .bf16) (h10 : a10.IsWhole)
  (a11 : Memref sig .tc .vmem S512x1024 .f32) (h11 : a11.IsWhole)
  (hc0 : cond0_0 i) (hc1 : cond0_1 i)
  (x : Vec F S512x1024 .f32) (g : Vec F S1x1024 .f32) (wg wu wd : Vec F S2816x1024 .bf16)

/-- The output rows. -/
theorem out_A_5  : out0_A_5 c i a2 h2 a3 h3 a4 h4 a5 h5 a6 h6 a7 h7 a8 h8 a9 h9 a10 h10 a11 h11 hc0 hc1 x g wg wu wd = k0_pay7 (k0_pay1 x g) wg wu wd x := by
  unfold out0_A_5
  rw [View.read_writes_junk_eq_canon]
  unfold kernelRun0_A
  dsimp only
  sl_unfold_words
  simp only [View.canon_unit_zero (S := S512x1024) hz, View.readCov_unit_zero (S := S512x1024) _ hz, View.readAt_eq_ld,
    h2.read_unread, h3.read_unread, h4.read_unread, h5.read_unread, h6.read_unread, View.ld_unit_zero (S := S512x1024) hz, View.ld_unit_zero (S := S1x1024) hz, View.ld_unit_zero (S := S2816x1024) hz, View.ld_unit_zero (S := S512x2816) hz]
/-- The normalised rows. -/
theorem out_A_6  : out0_A_6 c i a2 h2 a3 h3 a4 h4 a5 h5 a6 h6 a7 h7 a8 h8 a9 h9 a10 h10 a11 h11 hc0 hc1 x g wg wu wd = k0_pay1 x g := by
  unfold out0_A_6
  rw [View.read_writes_junk_eq_canon]
  unfold kernelRun0_A
  dsimp only
  sl_unfold_words
  simp only [View.canon_unit_zero (S := S512x1024) hz, View.readCov_unit_zero (S := S512x1024) _ hz, View.readAt_eq_ld,
    h2.read_unread, h3.read_unread, h4.read_unread, h5.read_unread, h6.read_unread, View.ld_unit_zero (S := S512x1024) hz, View.ld_unit_zero (S := S1x1024) hz, View.ld_unit_zero (S := S2816x1024) hz, View.ld_unit_zero (S := S512x2816) hz]
/-- The gate's pre-activation. -/
theorem out_A_7  : out0_A_7 c i a2 h2 a3 h3 a4 h4 a5 h5 a6 h6 a7 h7 a8 h8 a9 h9 a10 h10 a11 h11 hc0 hc1 x g wg wu wd = k0_pay5 (k0_pay1 x g) wg := by
  unfold out0_A_7
  rw [View.read_writes_junk_eq_canon]
  unfold kernelRun0_A
  dsimp only
  sl_unfold_words
  simp only [View.canon_unit_zero (S := S512x2816) hz, View.readCov_unit_zero (S := S512x1024) _ hz, View.readAt_eq_ld,
    h2.read_unread, h3.read_unread, h4.read_unread, h5.read_unread, h6.read_unread, View.ld_unit_zero (S := S512x1024) hz, View.ld_unit_zero (S := S1x1024) hz, View.ld_unit_zero (S := S2816x1024) hz, View.ld_unit_zero (S := S512x2816) hz]
/-- The up projection. -/
theorem out_A_8  : out0_A_8 c i a2 h2 a3 h3 a4 h4 a5 h5 a6 h6 a7 h7 a8 h8 a9 h9 a10 h10 a11 h11 hc0 hc1 x g wg wu wd = k0_pay6 (k0_pay1 x g) wu := by
  unfold out0_A_8
  rw [View.read_writes_junk_eq_canon]
  unfold kernelRun0_A
  dsimp only
  sl_unfold_words
  simp only [View.canon_unit_zero (S := S512x2816) hz, View.readCov_unit_zero (S := S512x1024) _ hz, View.readAt_eq_ld,
    h2.read_unread, h3.read_unread, h4.read_unread, h5.read_unread, h6.read_unread, View.ld_unit_zero (S := S512x1024) hz, View.ld_unit_zero (S := S1x1024) hz, View.ld_unit_zero (S := S2816x1024) hz, View.ld_unit_zero (S := S512x2816) hz]

end

end Cert.Fwd2.Block

end
-- ==== Proof.EMat.lean ====
/- MATRICES OF EXTENDED REALS, infinite entries included, and what each operation of a program gives on them: the same
   operation on the entries. No entry needs to be finite: the operations that only move entries, the entrywise ones, and
   products and sums, which need no more than that addition and multiplication commute and associate. -/
module

public import proofs.«01_k».proof.Proof.LiftHost
public import Idealize.ShloMosaic.Lib.ValueIdxRank1

@[expose] public section

noncomputable section

namespace Cert.EMat

open Idealize.ShloMosaic Idealize.ShloMosaic.ValueIdx Cert.Lift

variable {s u : Shape} {φ ψ : FTy} {M K N : Nat}

/-- A matrix of extended reals by its rows and columns. -/
def emat (A : Fin M → Fin N → EReal) : (⟨2, ![M, N]⟩ : Shape).Idx → EReal := mat A

/-- A row of extended reals. -/
def evec (A : Fin N → EReal) : (⟨1, ![N]⟩ : Shape).Idx → EReal := vec A

/-- One extended real at every place of an array. -/
def eall (s : Shape) (x : EReal) : s.Idx → EReal := fun _ => x

theorem emat_eq (A : (⟨2, ![M, N]⟩ : Shape).Idx → EReal) : A = emat fun i j => A (ix2 i j) := mat_eq A
theorem evec_eq (A : (⟨1, ![N]⟩ : Shape).Idx → EReal) : A = evec fun i => A (ix1 i) := vec_eq A

/-! ## Entry by entry -/

section

variable (A B : Fin M → Fin N → EReal) (a b : Fin N → EReal)

theorem e_mulf : (mulf (emat A : FVec Ideal ⟨2, ![M, N]⟩ φ) (emat B) : FVec Ideal ⟨2, ![M, N]⟩ φ) = emat fun i j => A i j * B i j := rfl
theorem e_addf : (addf (emat A : FVec Ideal ⟨2, ![M, N]⟩ φ) (emat B) : FVec Ideal ⟨2, ![M, N]⟩ φ) = emat fun i j => A i j + B i j := rfl
theorem e_subf : (subf (emat A : FVec Ideal ⟨2, ![M, N]⟩ φ) (emat B) : FVec Ideal ⟨2, ![M, N]⟩ φ) = emat fun i j => A i j - B i j := rfl
theorem e_divf : (divf (emat A : FVec Ideal ⟨2, ![M, N]⟩ φ) (emat B) : FVec Ideal ⟨2, ![M, N]⟩ φ)
    = emat fun i j => Ideal.div (A i j) (B i j) := rfl
theorem e_hostDivf : (Host.divf (emat A : FVec Ideal ⟨2, ![M, N]⟩ φ) (emat B) : FVec Ideal ⟨2, ![M, N]⟩ φ)
    = emat fun i j => Ideal.div (A i j) (B i j) := rfl
theorem e_exp : (exp (emat A : FVec Ideal ⟨2, ![M, N]⟩ φ) : FVec Ideal ⟨2, ![M, N]⟩ φ) = emat fun i j => Ideal.exp (A i j) := rfl
theorem e_hostExp : (Host.exp (emat A : FVec Ideal ⟨2, ![M, N]⟩ φ) : FVec Ideal ⟨2, ![M, N]⟩ φ) = emat fun i j => Ideal.exp (A i j) := rfl
theorem e_hostNegf : (Host.negf (emat A : FVec Ideal ⟨2, ![M, N]⟩ φ) : FVec Ideal ⟨2, ![M, N]⟩ φ) = emat fun i j => -A i j := rfl
theorem e_rsqrt : (rsqrt (emat A : FVec Ideal ⟨2, ![M, N]⟩ φ) : FVec Ideal ⟨2, ![M, N]⟩ φ) = emat fun i j => Ideal.rsqrt (A i j) := rfl
theorem e_hostRsqrt : (Host.rsqrt (emat A : FVec Ideal ⟨2, ![M, N]⟩ φ) : FVec Ideal ⟨2, ![M, N]⟩ φ) = emat fun i j => Ideal.rsqrt (A i j) := rfl
theorem e_truncf (h : ψ.bits < φ.bits) : (truncf ψ (emat A : FVec Ideal ⟨2, ![M, N]⟩ φ) h : FVec Ideal ⟨2, ![M, N]⟩ ψ) = emat A := rfl
theorem e_extf (h : φ.bits < ψ.bits) : (extf ψ (emat A : FVec Ideal ⟨2, ![M, N]⟩ φ) h : FVec Ideal ⟨2, ![M, N]⟩ ψ) = emat A := rfl
theorem v_hostDivf : (Host.divf (evec a : FVec Ideal ⟨1, ![N]⟩ φ) (evec b) : FVec Ideal ⟨1, ![N]⟩ φ) = evec fun i => Ideal.div (a i) (b i) := rfl

end

/-- One number everywhere. -/
theorem e_broadcast (r : EReal) : (broadcast ⟨2, ![M, N]⟩ r : (⟨2, ![M, N]⟩ : Shape).Idx → EReal) = emat fun _ _ => r := rfl

/-- A number of the host repeated everywhere. -/
theorem e_inDimScalar (r : EReal) (h : (⟨0, ![]⟩ : Shape).BroadcastsInDim ⟨2, ![M, N]⟩ ![]) :
    broadcastInDim ⟨2, ![M, N]⟩ ![] h (eall ⟨0, ![]⟩ r) = emat fun _ _ => r := rfl

theorem v_inDimScalar (r : EReal) (h : (⟨0, ![]⟩ : Shape).BroadcastsInDim ⟨1, ![N]⟩ ![]) :
    broadcastInDim ⟨1, ![N]⟩ ![] h (eall ⟨0, ![]⟩ r) = evec fun _ => r := rfl

/-- A constant array whose word denotes `x`. -/
theorem e_constant (b : BitVec φ.bits) (x : EReal) (h : Ideal.ofBits φ b = x) :
    (constant (F := Ideal) s φ b : FVec Ideal s φ) = eall s x := funext fun _ => h

theorem e_mulAll (x y : EReal) : (mulf (eall s x : FVec Ideal s φ) (eall s y) : FVec Ideal s φ) = eall s (x * y) := rfl

/-! ## Moving entries -/

section

theorem e_ofCol (A : Fin M → EReal) (h : (⟨1, ![M]⟩ : Shape).ShapeCasts ⟨2, ![M, 1]⟩) :
    shapeCast ⟨2, ![M, 1]⟩ (evec A) h = emat fun i _ => A i := mat_ofCol A h
theorem e_ofRow (A : Fin N → EReal) (h : (⟨1, ![N]⟩ : Shape).ShapeCasts ⟨2, ![1, N]⟩) :
    shapeCast ⟨2, ![1, N]⟩ (evec A) h = emat fun _ j => A j := mat_ofRow A h
theorem e_bcastRow (hN : N ≠ 1) (A : Fin 1 → Fin N → EReal) (h : (⟨2, ![1, N]⟩ : Shape).Broadcasts ⟨2, ![M, N]⟩) :
    broadcastTo ⟨2, ![M, N]⟩ (emat A) h = emat fun _ j => A 0 j := mat_bcastRow hN A h
theorem e_bcastCol (hM : M ≠ 1) (A : Fin M → Fin 1 → EReal) (h : (⟨2, ![M, 1]⟩ : Shape).Broadcasts ⟨2, ![M, N]⟩) :
    broadcastTo ⟨2, ![M, N]⟩ (emat A) h = emat fun i _ => A i 0 := mat_bcastCol hM A h
theorem e_bcastInDimRow (hN : N ≠ 1) (A : Fin 1 → Fin N → EReal)
    (h : (⟨2, ![1, N]⟩ : Shape).BroadcastsInDim ⟨2, ![M, N]⟩ ![0, 1]) :
    broadcastInDim ⟨2, ![M, N]⟩ ![0, 1] h (emat A) = emat fun _ j => A 0 j := mat_bcastInDimRow hN A h
theorem e_bcastInDimCol (hM : M ≠ 1) (A : Fin M → Fin 1 → EReal)
    (h : (⟨2, ![M, 1]⟩ : Shape).BroadcastsInDim ⟨2, ![M, N]⟩ ![0, 1]) :
    broadcastInDim ⟨2, ![M, N]⟩ ![0, 1] h (emat A) = emat fun i _ => A i 0 := mat_bcastInDimCol hM A h
theorem e_inDimRow (hN : N ≠ 1) (A : Fin N → EReal) (h : (⟨1, ![N]⟩ : Shape).BroadcastsInDim ⟨2, ![1, N]⟩ ![1]) :
    broadcastInDim ⟨2, ![1, N]⟩ ![1] h (evec A) = emat fun _ j => A j := mat_inDimRow hN A h
theorem e_inDimCol (hM : M ≠ 1) (A : Fin M → EReal) (h : (⟨1, ![M]⟩ : Shape).BroadcastsInDim ⟨2, ![M, 1]⟩ ![0]) :
    broadcastInDim ⟨2, ![M, 1]⟩ ![0] h (evec A) = emat fun i _ => A i := mat_inDimCol hM A h
theorem e_inDimRows (hM : M ≠ 1) (A : Fin M → EReal) (h : (⟨1, ![M]⟩ : Shape).BroadcastsInDim ⟨2, ![M, N]⟩ ![0]) :
    broadcastInDim ⟨2, ![M, N]⟩ ![0] h (evec A) = emat fun i _ => A i := by
  funext j
  refine broadcastInDim_apply ![0] h (evec A) j (ix1 (j 0)) fun a => ?_
  match a with
  | ⟨0, _⟩ => exact (if_neg hM).symm
theorem e_transpose (A : Fin M → Fin N → EReal) (h : (⟨2, ![M, N]⟩ : Shape).Transposes [1, 0] ⟨2, ![N, M]⟩) :
    transpose ⟨2, ![N, M]⟩ [1, 0] (emat A) h = emat fun i j => A j i := mat_transpose A h

end

/-! ## Products -/

section

variable {φ₁ φ₂ : FTy} (prec : Option ContractPrecision)

/-- The product of a transposed matrix and a matrix: both operands' rows are summed over. -/
def transposedLhs (M K N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos,
    fun b => by fin_cases b <;> rfl⟩

/-- The summed index of such a product is one row. -/
def transposedLhsContr (M K N : Nat) : (transposedLhs M K N).contr.Idx ≃ Fin K := contrEquiv1 _ K rfl rfl

theorem mat_transposedLhs (A : Fin K → Fin M → EReal) (B : Fin K → Fin N → EReal) :
    (fun j => ∑ k : (transposedLhs M K N).contr.Idx, emat A ((transposedLhs M K N).lhsIdx j k)
        * emat B ((transposedLhs M K N).rhsIdx j k))
      = emat fun i j => ∑ k, A k i * B k j := by
  funext j
  rw [← Equiv.sum_comp (transposedLhsContr M K N).symm]
  refine Finset.sum_congr rfl fun k _ => ?_
  have hk : (transposedLhsContr M K N).symm k ⟨0, Nat.one_pos⟩ = k :=
    Fin.ext (contrEquiv1_symm_val _ K rfl rfl k)
  exact congrArg₂ (· * ·) (congrArg (A · (j 0)) hk) (congrArg (B · (j 1)) hk)

/-- A plain product into a zero accumulator. -/
theorem e_matmul (A : Fin M → Fin K → EReal) (B : Fin K → Fin N → EReal) :
    (matmul (F := Ideal) (φ₁ := φ₁) (φ₂ := φ₂) (DotDims.plain M K N) prec (emat A) (emat B)
      (constant ⟨2, ![M, N]⟩ .f32 0x00000000#32) : FVec Ideal ⟨2, ![M, N]⟩ .f32) = emat fun i j => ∑ k, A i k * B k j := by
  refine Eq.trans (funext fun j => ?_) (mat_plain A B)
  refine (Ideal.matmul_apply (φ₁ := φ₁) (φ₂ := φ₂) _ prec _ _ _ j).trans ?_
  exact (congrArg (· + _) Ideal.ofBits_zero_f32).trans (zero_add _)

/-- A product with a transposed matrix into a zero accumulator. -/
theorem e_matmulT (A : Fin M → Fin K → EReal) (B : Fin N → Fin K → EReal) :
    (matmul (F := Ideal) (φ₁ := φ₁) (φ₂ := φ₂) (DotDims.transposedRhs M K N) prec (emat A) (emat B)
      (constant ⟨2, ![M, N]⟩ .f32 0x00000000#32) : FVec Ideal ⟨2, ![M, N]⟩ .f32) = emat fun i j => ∑ k, A i k * B j k := by
  refine Eq.trans (funext fun j => ?_) (mat_transposedRhs A B)
  refine (Ideal.matmul_apply (φ₁ := φ₁) (φ₂ := φ₂) _ prec _ _ _ j).trans ?_
  exact (congrArg (· + _) Ideal.ofBits_zero_f32).trans (zero_add _)

/-- A product of a transposed matrix into a zero accumulator. -/
theorem e_matmulTl (A : Fin K → Fin M → EReal) (B : Fin K → Fin N → EReal) :
    (matmul (F := Ideal) (φ₁ := φ₁) (φ₂ := φ₂) (transposedLhs M K N) prec (emat A) (emat B)
      (constant ⟨2, ![M, N]⟩ .f32 0x00000000#32) : FVec Ideal ⟨2, ![M, N]⟩ .f32) = emat fun i j => ∑ k, A k i * B k j := by
  refine Eq.trans (funext fun j => ?_) (mat_transposedLhs A B)
  refine (Ideal.matmul_apply (φ₁ := φ₁) (φ₂ := φ₂) _ prec _ _ _ j).trans ?_
  exact (congrArg (· + _) Ideal.ofBits_zero_f32).trans (zero_add _)

/-- A plain product of the host. -/
theorem e_dot (A : Fin M → Fin K → EReal) (B : Fin K → Fin N → EReal) :
    Host.dotGeneral (F := Ideal) (φ₁ := φ₁) (φ₂ := φ₂) (DotDims.plain M K N) prec (emat A) (emat B)
      = emat fun i j => ∑ k, A i k * B k j :=
  Eq.trans (funext fun j => Ideal.dotGeneral_apply (φ₁ := φ₁) (φ₂ := φ₂) _ prec .single _ _ j) (mat_plain A B)

/-- A product of the host with a transposed matrix. -/
theorem e_dotT (A : Fin M → Fin K → EReal) (B : Fin N → Fin K → EReal) :
    Host.dotGeneral (F := Ideal) (φ₁ := φ₁) (φ₂ := φ₂) (DotDims.transposedRhs M K N) prec (emat A) (emat B)
      = emat fun i j => ∑ k, A i k * B j k :=
  Eq.trans (funext fun j => Ideal.dotGeneral_apply (φ₁ := φ₁) (φ₂ := φ₂) _ prec .single _ _ j) (mat_transposedRhs A B)

/-- A product of the host of a transposed matrix. -/
theorem e_dotTl (A : Fin K → Fin M → EReal) (B : Fin K → Fin N → EReal) :
    Host.dotGeneral (F := Ideal) (φ₁ := φ₁) (φ₂ := φ₂) (transposedLhs M K N) prec (emat A) (emat B)
      = emat fun i j => ∑ k, A k i * B k j :=
  Eq.trans (funext fun j => Ideal.dotGeneral_apply (φ₁ := φ₁) (φ₂ := φ₂) _ prec .single _ _ j) (mat_transposedLhs A B)

end

/-! ## Sums -/

theorem e_rowSum (A : Fin M → Fin N → EReal) (acc : BitVec φ.bits) (h : (⟨2, ![M, N]⟩ : Shape).Reduces [1] ⟨1, ![M]⟩)
    (hφ : FKind.Formats φ) (hacc : acc = FKind.add.neutral φ hφ) :
    (multiReduction .add [1] ⟨1, ![M]⟩ (emat A : FVec Ideal ⟨2, ![M, N]⟩ φ) acc h hφ hacc : FVec Ideal ⟨1, ![M]⟩ φ)
      = evec fun i => ∑ k, A i k := (funext fun j => Ideal.multiReduction_add_single _ _ h hφ hacc j).trans (mat_rowSum A h)

/-- A sum of the host along the rows, from zero. -/
theorem e_hostRowSum (A : Fin M → Fin N → EReal) (h' : (⟨2, ![M, N]⟩ : Shape).ReducesTo [1] ⟨1, ![M]⟩) (hu : 0 < u.numel) :
    (Host.reduceAdd (emat A : FVec Ideal ⟨2, ![M, N]⟩ φ) (eall u 0) h' hu : FVec Ideal ⟨1, ![M]⟩ φ) = evec fun i => ∑ k, A i k := by
  have h : (⟨2, ![M, N]⟩ : Shape).Reduces [1] ⟨1, ![M]⟩ := ⟨h'.1, Nat.one_pos, h'.2⟩
  refine Eq.trans (funext fun j => ?_) (mat_rowSum A h)
  rw [hostReduceAdd_apply, Ideal.hostReduceAdd_single h' h]
  exact zero_add _

/-- A sum of the host over a whole row, from zero. -/
theorem v_hostTotal (A : Fin N → EReal) (h : (⟨1, ![N]⟩ : Shape).ReducesTo [0] ⟨0, ![]⟩) (hu : 0 < u.numel) :
    (Host.reduceAdd (evec A : FVec Ideal ⟨1, ![N]⟩ φ) (eall u 0) h hu : FVec Ideal ⟨0, ![]⟩ φ) = eall ⟨0, ![]⟩ (∑ i, A i) := by
  funext j
  rw [hostReduceAdd_apply, Ideal.hostReduceAdd_total h (fun b => b.elim0)]
  refine (zero_add _).trans ?_
  exact (Equiv.sum_comp (idxEquiv1 (n := N)).symm (evec A)).symm.trans rfl

/-- A finite nonnegative number goes into a finite sum, whatever its terms. -/
theorem mul_sum {ι : Type*} (c : EReal) (h0 : 0 ≤ c) (ht : c ≠ ⊤) (S : Finset ι) (f : ι → EReal) :
    c * ∑ k ∈ S, f k = ∑ k ∈ S, c * f k := by
  classical
  induction S using Finset.induction_on with
  | empty => simp
  | insert a S ha ih => rw [Finset.sum_insert ha, Finset.sum_insert ha, EReal.left_distrib_of_nonneg_of_ne_top h0 ht, ih]

end Cert.EMat

end
-- ==== Proof.FwdSpec.lean ====
/- The feed-forward layer of one row over the extended reals: the row scaled by its root mean square and the gain, the two
   projections, the gated activation, and half of its down projection added to the row. -/
module

public import proofs.«01_k».proof.Proof.EMat

@[expose] public section

noncomputable section

namespace Cert.Fwd

open Idealize.ShloMosaic

/-- The numbers the programs write as 32-bit words: the row's length, the small number added to the mean square, one, a half. -/
def len : EReal := Ideal.ofBits .f32 0x44800000#32
def eps : EReal := Ideal.ofBits .f32 0x358637BD#32
def one : EReal := Ideal.ofBits .f32 0x3F800000#32
def half : EReal := Ideal.ofBits .f32 0x3F000000#32

/-- The reciprocal root mean square of a row. -/
def scale (x : Fin 1024 → EReal) : EReal := Ideal.rsqrt (Ideal.div (∑ k, x k * x k) len + eps)

/-- The row normalised. -/
def norm (g x : Fin 1024 → EReal) (j : Fin 1024) : EReal := x j * scale x * g j

/-- A projection of a row. -/
def pre (W : Fin 2816 → Fin 1024 → EReal) (h : Fin 1024 → EReal) (f : Fin 2816) : EReal := ∑ k, h k * W f k

def silu (a : EReal) : EReal := a * Ideal.div one (one + Ideal.exp (-a))

/-- The gated activation of a normalised row. -/
def act (G U : Fin 2816 → Fin 1024 → EReal) (h : Fin 1024 → EReal) (f : Fin 2816) : EReal := silu (pre G h f) * pre U h f

/-- The layer's output of a row `x` whose normalised row is `h`. -/
def out (G U D : Fin 2816 → Fin 1024 → EReal) (x h : Fin 1024 → EReal) (j : Fin 1024) : EReal :=
  x j + half * ∑ f, act G U h f * D f j

end Cert.Fwd

end
-- ==== Proof.Fwd2Value.lean ====
/- What one grid point of the feed-forward forward kernel computes from its blocks, over the extended reals: the payloads of its
   stores at matrices given entry by entry. -/
module

public import proofs.«01_k».proof.Proof.FwdSpec
public import proofs.«01_k».proof.Proof.Gen.Kernel2Ideal.Value

@[expose] public section

noncomputable section

namespace Cert.Fwd2.Value

open Cert.Kernel2Ideal Cert.Kernel2Ideal.Gen Idealize.ShloMosaic Cert.EMat Cert.Fwd
open Idealize.ShloMosaic.ValueIdx (sum_idx2)

theorem dot_in : dot_S512x1024_S2816x1024_S512x2816_1_1_0_0_n_n = DotDims.transposedRhs 512 1024 2816 := rfl
theorem dot_out : dot_S512x2816_S2816x1024_S512x1024_1_0_0_1_n_n = DotDims.plain 512 2816 1024 := rfl

theorem rowSum (A : Fin 512 → Fin 1024 → EReal) :
    (multiReduction .add [1] S512 (emat A : FVec Ideal S512x1024 .f32) 0x00000000#32 reduces_S512x1024_S512 (.inl rfl) rfl : FVec Ideal S512 .f32)
      = evec fun i => ∑ k, A i k := e_rowSum A _ _ _ _

theorem col (A : Fin 512 → EReal) : shapeCast S512x1 (evec A) shapeCasts_S512_S512x1 = emat fun i _ => A i := e_ofCol A _

theorem bcCol (A : Fin 512 → Fin 1 → EReal) :
    broadcastTo S512x1024 (emat A) broadcasts_S512x1_S512x1024 = emat fun i _ => A i 0 := e_bcastCol (by norm_num) A _

theorem bcRow (A : Fin 1 → Fin 1024 → EReal) :
    broadcastTo S512x1024 (emat A) broadcasts_S1x1024_S512x1024 = emat fun _ j => A 0 j := e_bcastRow (by norm_num) A _

/-- The normalised rows. -/
theorem h_value (X : Fin 512 → Fin 1024 → EReal) (g : Fin 1 → Fin 1024 → EReal) :
    k0_pay1 (F := Ideal) (emat X) (emat g) = (emat fun i => norm (g 0) (X i) : S512x1024.Idx → EReal) := by
  unfold k0_pay1
  dsimp only
  rw [shapeCast_self, e_mulf]
  erw [rowSum, col]
  rw [bcRow, e_broadcast, e_divf, e_broadcast, e_addf, e_rsqrt, bcCol]
  rfl

/-- The gate's pre-activation. -/
theorem gate_raw (h : Fin 512 → Fin 1024 → EReal) (G : Fin 2816 → Fin 1024 → EReal) :
    k0_pay3 (F := Ideal) (emat h) (emat G) = (emat fun i => pre G (h i) : S512x2816.Idx → EReal) := by
  unfold k0_pay3 k0_pay2
  dsimp only
  rw [shapeCast_self, shapeCast_self, dot_in]
  exact e_matmulT none h G

/-- The up projection. -/
theorem up_raw (h : Fin 512 → Fin 1024 → EReal) (U : Fin 2816 → Fin 1024 → EReal) :
    k0_pay4 (F := Ideal) (emat h) (emat U) = (emat fun i => pre U (h i) : S512x2816.Idx → EReal) := by
  unfold k0_pay4 k0_pay2
  dsimp only
  rw [shapeCast_self, shapeCast_self, dot_in]
  exact e_matmulT none h U

theorem gate_value (h : Fin 512 → Fin 1024 → EReal) (G : Fin 2816 → Fin 1024 → EReal) :
    k0_pay5 (F := Ideal) (emat h) (emat G) = (emat fun i => pre G (h i) : S512x2816.Idx → EReal) := by
  unfold k0_pay5
  rw [gate_raw]
  rfl

theorem up_value (h : Fin 512 → Fin 1024 → EReal) (U : Fin 2816 → Fin 1024 → EReal) :
    k0_pay6 (F := Ideal) (emat h) (emat U) = (emat fun i => pre U (h i) : S512x2816.Idx → EReal) := by
  unfold k0_pay6
  rw [up_raw]
  rfl

/-- The activation's rows: a zero minus a number is its negative. -/
theorem act_eq (A B : Fin 512 → Fin 2816 → EReal) :
    (truncf .bf16 (mulf (mulf (emat A) (divf (broadcast S512x2816 (FloatOps.ofBits .f32 0x3F800000#32 : Ideal .f32))
      (addf (broadcast S512x2816 (FloatOps.ofBits .f32 0x3F800000#32 : Ideal .f32))
        (exp (subf (broadcast S512x2816 (FloatOps.ofBits .f32 0x00000000#32 : Ideal .f32)) (emat A : FVec Ideal S512x2816 .f32)))))) (emat B)) bitsLt_bf16_f32
        : FVec Ideal S512x2816 .bf16) = emat fun i j => silu (A i j) * B i j := by
  funext q
  show A (q 0) (q 1) * Ideal.div one (one + Ideal.exp (Ideal.ofBits .f32 0x00000000#32 - A (q 0) (q 1))) * B (q 0) (q 1) = _
  rw [Ideal.ofBits_zero_f32, zero_sub]
  rfl

/-- The layer's output. -/
theorem y_value (h X : Fin 512 → Fin 1024 → EReal) (G U D : Fin 2816 → Fin 1024 → EReal) :
    k0_pay7 (F := Ideal) (emat h) (emat G) (emat U) (emat D) (emat X)
      = (emat fun i => out G U D (X i) (h i) : S512x1024.Idx → EReal) := by
  unfold k0_pay7
  dsimp only
  rw [gate_raw, up_raw, shapeCast_self, dot_out]
  rw [act_eq]
  rw [e_matmul]
  rfl

end Cert.Fwd2.Value

end
-- ==== Proof.Fwd2Arrays.lean ====
/- The result arrays of the feed-forward forward kernel: each grid point's blocks are 512 rows of the arrays, so the
   results are the functions of `FwdSpec` of each of the 8192 rows. -/
module

public import proofs.«01_k».proof.Proof.Fwd2Block
public import proofs.«01_k».proof.Proof.Fwd2Value
public import proofs.«01_k».proof.Proof.RowBlocks

@[expose] public section

noncomputable section

namespace Cert.Fwd2.Arrays

open Cert.Kernel2Ideal Cert.Kernel2Ideal.Gen Cert.Kernel2Ideal.Value Cert.EMat Cert.Rows Cert.Fwd Cert.Fwd2.Block Cert.Fwd2.Value
open Idealize.ShloMosaic Idealize.ShloMosaic.TcCoe Idealize.ShloMosaic.ValueIdx Idealize.SL.Sem

/-- Point `t`'s rows of an array of 8192 rows. -/
def rows {N : Nat} (t : Fin cfg0.N) (A : Fin 8192 → Fin N → EReal) (a : Fin 512) : Fin N → EReal := A (row (n := 16) 512 8192 rfl t a)

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = t.val ∧ win0_5.index t (1 : Fin 2) = 0 := by decide +kernel
theorem idx6 : ∀ t : Fin grid0.N, win0_6.index t (0 : Fin 2) = t.val ∧ win0_6.index t (1 : Fin 2) = 0 := by decide +kernel
theorem idx7 : ∀ t : Fin grid0.N, win0_7.index t (0 : Fin 2) = t.val ∧ win0_7.index t (1 : Fin 2) = 0 := by decide +kernel
theorem idx8 : ∀ t : Fin grid0.N, win0_8.index t (0 : Fin 2) = t.val ∧ win0_8.index t (1 : Fin 2) = 0 := by decide +kernel

/-! The index of a block in its array: rows `512 t` on, or the whole array. -/

theorem emb0 (t : Fin cfg0.N) (j : S512x1024.Idx) : ((cfg0.win 0).blk t).view.emb j = (ix2 (row (n := 16) 512 8192 rfl t (j 0)) (j 1) : S8192x1024.Idx) :=
  funext fun a => match a with | ⟨0, _⟩ => at_row rfl t (j 0) (idx0 t).1 _ rfl | ⟨1, _⟩ => at_same (j 1) (idx0 t).2 _ rfl
theorem emb1 (t : Fin cfg0.N) (j : S1x1024.Idx) : ((cfg0.win 1).blk t).view.emb j = j :=
  funext fun a => match a with | ⟨0, _⟩ => at_same (j 0) (idx1 t).1 _ rfl | ⟨1, _⟩ => at_same (j 1) (idx1 t).2 _ rfl
theorem emb2 (t : Fin cfg0.N) (j : S2816x1024.Idx) : ((cfg0.win 2).blk t).view.emb j = j :=
  funext fun a => match a with | ⟨0, _⟩ => at_same (j 0) (idx2 t).1 _ rfl | ⟨1, _⟩ => at_same (j 1) (idx2 t).2 _ rfl
theorem emb3 (t : Fin cfg0.N) (j : S2816x1024.Idx) : ((cfg0.win 3).blk t).view.emb j = j :=
  funext fun a => match a with | ⟨0, _⟩ => at_same (j 0) (idx3 t).1 _ rfl | ⟨1, _⟩ => at_same (j 1) (idx3 t).2 _ rfl
theorem emb4 (t : Fin cfg0.N) (j : S2816x1024.Idx) : ((cfg0.win 4).blk t).view.emb j = j :=
  funext fun a => match a with | ⟨0, _⟩ => at_same (j 0) (idx4 t).1 _ rfl | ⟨1, _⟩ => at_same (j 1) (idx4 t).2 _ rfl
theorem emb5 (t : Fin cfg0.N) (j : S512x1024.Idx) : ((cfg0.win 5).blk t).view.emb j = (ix2 (row (n := 16) 512 8192 rfl t (j 0)) (j 1) : S8192x1024.Idx) :=
  funext fun a => match a with | ⟨0, _⟩ => at_row rfl t (j 0) (idx5 t).1 _ rfl | ⟨1, _⟩ => at_same (j 1) (idx5 t).2 _ rfl
theorem emb6 (t : Fin cfg0.N) (j : S512x1024.Idx) : ((cfg0.win 6).blk t).view.emb j = (ix2 (row (n := 16) 512 8192 rfl t (j 0)) (j 1) : S8192x1024.Idx) :=
  funext fun a => match a with | ⟨0, _⟩ => at_row rfl t (j 0) (idx6 t).1 _ rfl | ⟨1, _⟩ => at_same (j 1) (idx6 t).2 _ rfl
theorem emb7 (t : Fin cfg0.N) (j : S512x2816.Idx) : ((cfg0.win 7).blk t).view.emb j = (ix2 (row (n := 16) 512 8192 rfl t (j 0)) (j 1) : S8192x2816.Idx) :=
  funext fun a => match a with | ⟨0, _⟩ => at_row rfl t (j 0) (idx7 t).1 _ rfl | ⟨1, _⟩ => at_same (j 1) (idx7 t).2 _ rfl
theorem emb8 (t : Fin cfg0.N) (j : S512x2816.Idx) : ((cfg0.win 8).blk t).view.emb j = (ix2 (row (n := 16) 512 8192 rfl t (j 0)) (j 1) : S8192x2816.Idx) :=
  funext fun a => match a with | ⟨0, _⟩ => at_row rfl t (j 0) (idx8 t).1 _ rfl | ⟨1, _⟩ => at_same (j 1) (idx8 t).2 _ rfl

variable (m : (ℓ : Loc nD τ sig) → Buf (Elt Ideal) ℓ) (c : Dev nD) (t : Fin cfg0.N)

/-! The input blocks. -/

theorem iblk0 {A : Fin 8192 → Fin 1024 → EReal} (h : V m c main_arg0 = (emat A : S8192x1024.Idx → EReal)) :
    iblk m c 0 t = (emat (rows t A) : S512x1024.Idx → EReal) :=
  funext fun j => (congrFun h (((cfg0.win 0).blk t).view.emb j)).trans (congrArg (emat A) (emb0 t j))
theorem iblk1 {A : Fin 1 → Fin 1024 → EReal} (h : V m c main_v0 = (emat A : S1x1024.Idx → EReal)) :
    iblk m c 1 t = (emat (A) : S1x1024.Idx → EReal) :=
  funext fun j => (congrFun h (((cfg0.win 1).blk t).view.emb j)).trans (congrArg (emat A) (emb1 t j))
theorem iblk2 {A : Fin 2816 → Fin 1024 → EReal} (h : V m c main_v2 = (emat A : S2816x1024.Idx → EReal)) :
    iblk m c 2 t = (emat (A) : S2816x1024.Idx → EReal) :=
  funext fun j => (congrFun h (((cfg0.win 2).blk t).view.emb j)).trans (congrArg (emat A) (emb2 t j))
theorem iblk3 {A : Fin 2816 → Fin 1024 → EReal} (h : V m c main_v4 = (emat A : S2816x1024.Idx → EReal)) :
    iblk m c 3 t = (emat (A) : S2816x1024.Idx → EReal) :=
  funext fun j => (congrFun h (((cfg0.win 3).blk t).view.emb j)).trans (congrArg (emat A) (emb3 t j))
theorem iblk4 {A : Fin 2816 → Fin 1024 → EReal} (h : V m c main_v5 = (emat A : S2816x1024.Idx → EReal)) :
    iblk m c 4 t = (emat (A) : S2816x1024.Idx → EReal) :=
  funext fun j => (congrFun h (((cfg0.win 4).blk t).view.emb j)).trans (congrArg (emat A) (emb4 t j))

/-! A point's rows of an array are what the array holds at the output block. -/

theorem cut5 (A : Fin 8192 → Fin 1024 → EReal) : (cfg0.win 5).cut (grid0.coords t) (emat (rows t A) : S512x1024.Idx → EReal)
    = ((cfg0.win 5).blk t).view.read (Elt Ideal) (emat A : S8192x1024.Idx → EReal) :=
  funext fun j => (congrArg (emat A) (emb5 t j)).symm
theorem cover5 (i : S8192x1024.Idx) : ∃ t : Fin cfg0.N, (cfg0.win 5).flush t = true ∧ i ∈ ((cfg0.win 5).blk t).view.set := by
  obtain ⟨t, j, e⟩ := hit (n := 16) (B := 512) (R := 8192) (N := 1024) rfl (by norm_num) (fun t j => congrFun (emb5 t j) 0) (fun t j => congrFun (emb5 t j) 1) i
  exact ⟨t, flush0_5 t, Set.mem_of_eq_of_mem e.symm (((cfg0.win 5).blk t).view.emb_mem_set j)⟩
theorem cut6 (A : Fin 8192 → Fin 1024 → EReal) : (cfg0.win 6).cut (grid0.coords t) (emat (rows t A) : S512x1024.Idx → EReal)
    = ((cfg0.win 6).blk t).view.read (Elt Ideal) (emat A : S8192x1024.Idx → EReal) :=
  funext fun j => (congrArg (emat A) (emb6 t j)).symm
theorem cover6 (i : S8192x1024.Idx) : ∃ t : Fin cfg0.N, (cfg0.win 6).flush t = true ∧ i ∈ ((cfg0.win 6).blk t).view.set := by
  obtain ⟨t, j, e⟩ := hit (n := 16) (B := 512) (R := 8192) (N := 1024) rfl (by norm_num) (fun t j => congrFun (emb6 t j) 0) (fun t j => congrFun (emb6 t j) 1) i
  exact ⟨t, flush0_6 t, Set.mem_of_eq_of_mem e.symm (((cfg0.win 6).blk t).view.emb_mem_set j)⟩
theorem cut7 (A : Fin 8192 → Fin 2816 → EReal) : (cfg0.win 7).cut (grid0.coords t) (emat (rows t A) : S512x2816.Idx → EReal)
    = ((cfg0.win 7).blk t).view.read (Elt Ideal) (emat A : S8192x2816.Idx → EReal) :=
  funext fun j => (congrArg (emat A) (emb7 t j)).symm
theorem cover7 (i : S8192x2816.Idx) : ∃ t : Fin cfg0.N, (cfg0.win 7).flush t = true ∧ i ∈ ((cfg0.win 7).blk t).view.set := by
  obtain ⟨t, j, e⟩ := hit (n := 16) (B := 512) (R := 8192) (N := 2816) rfl (by norm_num) (fun t j => congrFun (emb7 t j) 0) (fun t j => congrFun (emb7 t j) 1) i
  exact ⟨t, flush0_7 t, Set.mem_of_eq_of_mem e.symm (((cfg0.win 7).blk t).view.emb_mem_set j)⟩
theorem cut8 (A : Fin 8192 → Fin 2816 → EReal) : (cfg0.win 8).cut (grid0.coords t) (emat (rows t A) : S512x2816.Idx → EReal)
    = ((cfg0.win 8).blk t).view.read (Elt Ideal) (emat A : S8192x2816.Idx → EReal) :=
  funext fun j => (congrArg (emat A) (emb8 t j)).symm
theorem cover8 (i : S8192x2816.Idx) : ∃ t : Fin cfg0.N, (cfg0.win 8).flush t = true ∧ i ∈ ((cfg0.win 8).blk t).view.set := by
  obtain ⟨t, j, e⟩ := hit (n := 16) (B := 512) (R := 8192) (N := 2816) rfl (by norm_num) (fun t j => congrFun (emb8 t j) 0) (fun t j => congrFun (emb8 t j) 1) i
  exact ⟨t, flush0_8 t, Set.mem_of_eq_of_mem e.symm (((cfg0.win 8).blk t).view.emb_mem_set j)⟩

section

variable {X : Fin 8192 → Fin 1024 → EReal} {G : Fin 1024 → EReal} {WG WU : Fin 1024 → Fin 2816 → EReal} {WD : Fin 2816 → Fin 1024 → EReal}
  (hX : m ((c : Thread nD τ).loc main_arg0) = (emat X : S8192x1024.Idx → EReal))
  (hG : m ((c : Thread nD τ).loc main_arg1) = (evec G : S1024.Idx → EReal))
  (hWG : m ((c : Thread nD τ).loc main_arg2) = (emat WG : S1024x2816.Idx → EReal))
  (hWU : m ((c : Thread nD τ).loc main_arg3) = (emat WU : S1024x2816.Idx → EReal))
  (hWD : m ((c : Thread nD τ).loc main_arg4) = (emat WD : S2816x1024.Idx → EReal))
include hX hG hWG hWU hWD

/-! The input blocks, from the arguments. -/

theorem b0 : iblk m c 0 t = (emat (rows t X) : S512x1024.Idx → EReal) := iblk0 m c t ((V_main_arg0 m c).trans hX)
theorem b1 : iblk m c 1 t = (emat fun _ k => G k : S1x1024.Idx → EReal) := iblk1 m c t (by
  unfold_abbrev_sides
  after_results
  simp only [hG]
  exact e_inDimRow (by norm_num) G _)
theorem b2 : iblk m c 2 t = (emat fun f k => WG k f : S2816x1024.Idx → EReal) := iblk2 m c t (by
  unfold_abbrev_sides
  after_results
  simp only [hWG]
  exact e_transpose WG _)
theorem b3 : iblk m c 3 t = (emat fun f k => WU k f : S2816x1024.Idx → EReal) := iblk3 m c t (by
  unfold_abbrev_sides
  after_results
  simp only [hWU]
  exact e_transpose WU _)
theorem b4 : iblk m c 4 t = (emat WD : S2816x1024.Idx → EReal) := iblk4 m c t (by
  unfold_abbrev_sides
  after_results
  exact hWD)

/-! What each point writes back. -/

theorem flushed5_eq : (dats m 0 c).flushed 5 t = ((cfg0.win 5).blk t).view.read (Elt Ideal) (emat (fun i => out (fun f k => WG k f) (fun f k => WU k f) WD (X i) (norm G (X i))) : S8192x1024.Idx → EReal) := by
  rw [flushed5_A m c t, out_A_5, b0 m c t hX hG hWG hWU hWD, b1 m c t hX hG hWG hWU hWD, b2 m c t hX hG hWG hWU hWD, b3 m c t hX hG hWG hWU hWD, b4 m c t hX hG hWG hWU hWD, h_value, y_value]
  exact cut5 t (fun i => out (fun f k => WG k f) (fun f k => WU k f) WD (X i) (norm G (X i)))
theorem flushed6_eq : (dats m 0 c).flushed 6 t = ((cfg0.win 6).blk t).view.read (Elt Ideal) (emat (fun i => norm G (X i)) : S8192x1024.Idx → EReal) := by
  rw [flushed6_A m c t, out_A_6, b0 m c t hX hG hWG hWU hWD, b1 m c t hX hG hWG hWU hWD, h_value]
  exact cut6 t (fun i => norm G (X i))
theorem flushed7_eq : (dats m 0 c).flushed 7 t = ((cfg0.win 7).blk t).view.read (Elt Ideal) (emat (fun i => pre (fun f k => WG k f) (norm G (X i))) : S8192x2816.Idx → EReal) := by
  rw [flushed7_A m c t, out_A_7, b0 m c t hX hG hWG hWU hWD, b1 m c t hX hG hWG hWU hWD, b2 m c t hX hG hWG hWU hWD, h_value, gate_value]
  exact cut7 t (fun i => pre (fun f k => WG k f) (norm G (X i)))
theorem flushed8_eq : (dats m 0 c).flushed 8 t = ((cfg0.win 8).blk t).view.read (Elt Ideal) (emat (fun i => pre (fun f k => WU k f) (norm G (X i))) : S8192x2816.Idx → EReal) := by
  rw [flushed8_A m c t, out_A_8, b0 m c t hX hG hWG hWU hWD, b1 m c t hX hG hWG hWU hWD, b3 m c t hX hG hWG hWU hWD, h_value, up_value]
  exact cut8 t (fun i => pre (fun f k => WU k f) (norm G (X i)))

/-! The result arrays. -/

/-- Result 0: the output rows. -/
theorem final5 : (dats m 0 c).arrAt 5 cfg0.N = (emat (fun i => out (fun f k => WG k f) (fun f k => WU k f) WD (X i) (norm G (X i))) : S8192x1024.Idx → EReal) :=
  (dats m 0 c).arrAt_eq_of_cover 5 _ (fun t _ => flushed5_eq m c t hX hG hWG hWU hWD) cover5
/-- Result 1: the normalised rows. -/
theorem final6 : (dats m 0 c).arrAt 6 cfg0.N = (emat (fun i => norm G (X i)) : S8192x1024.Idx → EReal) :=
  (dats m 0 c).arrAt_eq_of_cover 6 _ (fun t _ => flushed6_eq m c t hX hG hWG hWU hWD) cover6
/-- Result 2: the gate's pre-activation. -/
theorem final7 : (dats m 0 c).arrAt 7 cfg0.N = (emat (fun i => pre (fun f k => WG k f) (norm G (X i))) : S8192x2816.Idx → EReal) :=
  (dats m 0 c).arrAt_eq_of_cover 7 _ (fun t _ => flushed7_eq m c t hX hG hWG hWU hWD) cover7
/-- Result 3: the up projection. -/
theorem final8 : (dats m 0 c).arrAt 8 cfg0.N = (emat (fun i => pre (fun f k => WU k f) (norm G (X i))) : S8192x2816.Idx → EReal) :=
  (dats m 0 c).arrAt_eq_of_cover 8 _ (fun t _ => flushed8_eq m c t hX hG hWG hWU hWD) cover8

end

end Cert.Fwd2.Arrays

end
-- ==== Proof.Rms.lean ====
/- AN RMS NORM AND ITS GRADIENTS over the real numbers, for rows of any number and width: the mathematics, and the lines of a
   kernel and of a host program that compute it on finite arrays. -/
module

public import proofs.«01_k».proof.Proof.LiftHost
public import Idealize.ShloMosaic.Lib.Pipeline.Value

@[expose] public section

noncomputable section

namespace Cert.Rms

open Cert.Lift Idealize.ShloMosaic

variable {M N : Nat}

/-- A row's mean square (the sum of squares over `n`), plus epsilon. -/
def ms (n : ℝ) (X : Fin M → Fin N → ℝ) (i : Fin M) : ℝ := (∑ k, X i k * X i k) / n + eps

theorem ms_pos {n : ℝ} (hn : 0 < n) (X : Fin M → Fin N → ℝ) (i : Fin M) : 0 < ms n X i :=
  add_pos_of_nonneg_of_pos (div_nonneg (Finset.sum_nonneg fun _ _ => mul_self_nonneg _) hn.le) eps_pos

/-- The reciprocal of a row's root mean square. -/
def rs (n : ℝ) (X : Fin M → Fin N → ℝ) (i : Fin M) : ℝ := (Real.sqrt (ms n X i))⁻¹

/-- The gradient of the rows, for a gradient `DH` of the normed rows times the gain. -/
def dx (n : ℝ) (X DH : Fin M → Fin N → ℝ) (G : Fin N → ℝ) (i : Fin M) (k : Fin N) : ℝ :=
  rs n X i * (DH i k * G k) - X i k * (rs n X i * rs n X i * rs n X i) * ((∑ j, DH i j * G j * X i j) / n)

/-- A row's share of the gain's gradient. -/
def dgc (n : ℝ) (X DH : Fin M → Fin N → ℝ) (i : Fin M) (k : Fin N) : ℝ := DH i k * X i k * rs n X i

/-- The reciprocal root over the mean square is its cube. -/
theorem rs_div {n : ℝ} (hn : 0 < n) (X : Fin M → Fin N → ℝ) (i : Fin M) :
    rs n X i / ms n X i = rs n X i * rs n X i * rs n X i := by
  have h := ms_pos hn X i
  have e : rs n X i * rs n X i = (ms n X i)⁻¹ := by
    unfold rs
    rw [← mul_inv, Real.mul_self_sqrt h.le]
  rw [e, div_eq_inv_mul]

/-! Columns `o` on of a matrix. -/

/-- `L` columns of a matrix, from column `o`. -/
def cols {α : Type} {L : Nat} (o : Nat) (h : o + L ≤ N) (A : Fin M → Fin N → α) (i : Fin M) (k : Fin L) : α :=
  A i ⟨o + k.val, by omega⟩

theorem m_cols {L : Nat} (o : Nat) (h : o + L ≤ N) (A : Fin M → Fin N → ℝ) (hs : (⟨2, ![M, N]⟩ : Shape).Slices ![0, o] ⟨2, ![M, L]⟩) :
    extractStridedSlice ⟨2, ![M, L]⟩ ![0, o] (up (mat A)) hs = up (mat (cols o h A)) := by
  funext j
  refine extractStridedSlice_apply _ _ hs j (ValueIdx.ix2 (j 0) ⟨o + (j 1).val, by have h1 : (j 1).val < L := (j 1).isLt; omega⟩) fun a => ?_
  match a with
  | ⟨0, _⟩ => exact (Nat.zero_add _).symm
  | ⟨1, _⟩ => rfl

/-! The constant 512. -/

theorem ofBits_512 : Ideal.ofBits .f32 0x44000000#32 = ((512 : ℝ) : EReal) := by
  simp [Ideal.ofBits, Ideal.ieee, -EReal.coe_mul, -EReal.coe_neg]; norm_num

theorem c_512 {s : Shape} : (constant (F := Ideal) s .f32 0x44000000#32 : FVec Ideal s .f32) = up fun _ => 512 := up_constant _ _ ofBits_512

section Kernel

/-! A kernel's lines, on a block of rows. -/

variable (n : ℝ) (hn : 0 < n) (hM : M ≠ 1) (X DH : Fin M → Fin N → ℝ) (G : Fin N → ℝ)
  (hr : (⟨2, ![M, N]⟩ : Shape).Reduces [1] ⟨1, ![M]⟩) (hc : (⟨1, ![M]⟩ : Shape).ShapeCasts ⟨2, ![M, 1]⟩)
  (hb : (⟨2, ![M, 1]⟩ : Shape).Broadcasts ⟨2, ![M, N]⟩)
  (hφ : FKind.Formats .f32) (hacc : (0x00000000#32 : BitVec (FTy.f32).bits) = FKind.add.neutral .f32 hφ)
include hn

/-- The reciprocal roots of a block's rows. -/
theorem k_rs :
    rsqrt (addf (divf (shapeCast ⟨2, ![M, 1]⟩
        (multiReduction .add [1] ⟨1, ![M]⟩ (mulf (up (mat X)) (up (mat X)) : FVec Ideal ⟨2, ![M, N]⟩ .f32) 0x00000000#32 hr hφ hacc) hc)
        (broadcast ⟨2, ![M, 1]⟩ ((n : ℝ) : EReal))) (broadcast ⟨2, ![M, 1]⟩ ((eps : ℝ) : EReal)) : FVec Ideal ⟨2, ![M, 1]⟩ .f32)
      = up (mat fun i _ => rs n X i) := by
  rw [m_mulf, m_rowSum, m_ofCol, m_broadcast, m_broadcast, m_divf _ _ fun _ _ => hn.ne', m_addf]
  exact m_rsqrt (fun i _ => ms n X i) fun i _ => ms_pos hn X i

include hM

/-- The gradient of a block's rows. -/
theorem k_dx :
    subf (mulf (broadcastTo ⟨2, ![M, N]⟩ (up (mat fun i (_ : Fin 1) => rs n X i)) hb) (up (mat fun i k => DH i k * G k)))
      (mulf (mulf (up (mat X)) (broadcastTo ⟨2, ![M, N]⟩ (mulf (mulf (up (mat fun i (_ : Fin 1) => rs n X i))
          (up (mat fun i _ => rs n X i))) (up (mat fun i _ => rs n X i)) : FVec Ideal ⟨2, ![M, 1]⟩ .f32) hb))
        (broadcastTo ⟨2, ![M, N]⟩ (divf (shapeCast ⟨2, ![M, 1]⟩ (multiReduction .add [1] ⟨1, ![M]⟩
          (mulf (up (mat fun i k => DH i k * G k)) (up (mat X)) : FVec Ideal ⟨2, ![M, N]⟩ .f32) 0x00000000#32 hr hφ hacc) hc)
          (broadcast ⟨2, ![M, 1]⟩ ((n : ℝ) : EReal)) : FVec Ideal ⟨2, ![M, 1]⟩ .f32) hb) : FVec Ideal ⟨2, ![M, N]⟩ .f32)
      = (up (mat (dx n X DH G)) : FVec Ideal ⟨2, ![M, N]⟩ .f32) := by
  rw [m_mulf, m_mulf, m_bcastCol hM, m_bcastCol hM, m_mulf, m_mulf, m_mulf, m_rowSum, m_ofCol, m_broadcast, m_divf _ _ fun _ _ => hn.ne',
    m_bcastCol hM, m_mulf, m_subf]
  rfl

end Kernel

section Host

/-! A host program's lines, on all rows. -/

variable (n : ℝ) (hn : 0 < n) (hM : M ≠ 1) (X DH : Fin M → Fin N → ℝ) (G : Fin N → ℝ) {u : Shape} (hu : 0 < u.numel)
  (hr : (⟨2, ![M, N]⟩ : Shape).ReducesTo [1] ⟨1, ![M]⟩) (hr1 : (⟨2, ![M, 1]⟩ : Shape).ReducesTo [1] ⟨1, ![M]⟩)
  (hd : (⟨1, ![M]⟩ : Shape).BroadcastsInDim ⟨2, ![M, 1]⟩ ![0]) (hd' : (⟨1, ![M]⟩ : Shape).BroadcastsInDim ⟨2, ![M, N]⟩ ![0])
  (hc : (⟨1, ![M]⟩ : Shape).ShapeCasts ⟨2, ![M, 1]⟩) (hb : (⟨2, ![M, 1]⟩ : Shape).BroadcastsInDim ⟨2, ![M, N]⟩ ![0, 1])
include hn hM

/-- The mean squares of the rows, plus epsilon. -/
theorem h_ms :
    addf (Host.divf (broadcastInDim ⟨2, ![M, 1]⟩ ![0] hd
        (Host.reduceAdd (mulf (up (mat X)) (up (mat X)) : FVec Ideal ⟨2, ![M, N]⟩ .f32) (up fun _ : u.Idx => 0) hr hu))
        (up (mat fun _ _ => n))) (up (mat fun _ _ => eps)) = (up (mat fun i _ => ms n X i) : FVec Ideal ⟨2, ![M, 1]⟩ .f32) := by
  rw [m_mulf, h_rowSum, m_inDimCol hM, m_hostDivf _ _ fun _ _ => hn.ne', m_addf]
  rfl

omit hM in
/-- Their reciprocal roots. -/
theorem h_rs : (Host.rsqrt (up (mat fun i _ => ms n X i) : FVec Ideal ⟨2, ![M, 1]⟩ .f32) : FVec Ideal ⟨2, ![M, 1]⟩ .f32) = (up (mat fun i _ => rs n X i) : FVec Ideal ⟨2, ![M, 1]⟩ .f32) :=
  m_hostRsqrt _ fun i _ => ms_pos hn X i

omit hM in
/-- The derivative of the reciprocal root, at the mean squares. -/
theorem h_drs :
    (mulf (up (mat fun _ _ => -(1 / 2))) (Host.divf (up (mat fun i _ => rs n X i)) (up (mat fun i _ => ms n X i)) : FVec Ideal ⟨2, ![M, 1]⟩ .f32) : FVec Ideal ⟨2, ![M, 1]⟩ .f32)
      = (up (mat fun i _ => -(1 / 2) * (rs n X i * rs n X i * rs n X i)) : FVec Ideal ⟨2, ![M, 1]⟩ .f32) := by
  rw [m_hostDivf _ _ fun i _ => (ms_pos hn X i).ne', m_mulf]
  exact congrArg up (congrArg mat (funext fun i => funext fun _ => congrArg (_ * ·) (rs_div hn X i)))

/-- The gradient of the rows: through the normed rows directly, and through the mean square twice. -/
theorem h_dx :
    addf (addf (mulf (up (mat fun i k => DH i k * G k) : FVec Ideal ⟨2, ![M, N]⟩ .f32) (broadcastInDim ⟨2, ![M, N]⟩ ![0, 1] hb (up (mat fun i (_ : Fin 1) => rs n X i))))
        (mulf (up (mat X)) (broadcastInDim ⟨2, ![M, N]⟩ ![0] hd' (Host.reduceAdd (Host.divf (mulf (shapeCast ⟨2, ![M, 1]⟩
          (Host.reduceAdd (mulf (up (mat X)) (up (mat fun i k => DH i k * G k)) : FVec Ideal ⟨2, ![M, N]⟩ .f32) (up fun _ : u.Idx => 0) hr hu) hc)
          (up (mat fun i _ => -(1 / 2) * (rs n X i * rs n X i * rs n X i))) : FVec Ideal ⟨2, ![M, 1]⟩ .f32) (up (mat fun _ _ => n)) : FVec Ideal ⟨2, ![M, 1]⟩ .f32)
          (up fun _ : u.Idx => 0) hr1 hu))))
      (mulf (broadcastInDim ⟨2, ![M, N]⟩ ![0] hd' (Host.reduceAdd (Host.divf (mulf (shapeCast ⟨2, ![M, 1]⟩
          (Host.reduceAdd (mulf (up (mat X)) (up (mat fun i k => DH i k * G k)) : FVec Ideal ⟨2, ![M, N]⟩ .f32) (up fun _ : u.Idx => 0) hr hu) hc)
          (up (mat fun i _ => -(1 / 2) * (rs n X i * rs n X i * rs n X i))) : FVec Ideal ⟨2, ![M, 1]⟩ .f32) (up (mat fun _ _ => n)) : FVec Ideal ⟨2, ![M, 1]⟩ .f32)
          (up fun _ : u.Idx => 0) hr1 hu)) (up (mat X)))
      = (up (mat (dx n X DH G)) : FVec Ideal ⟨2, ![M, N]⟩ .f32) := by
  rw [m_bcastInDimCol hM, m_mulf, m_mulf, h_rowSum, m_ofCol, m_mulf, m_hostDivf _ _ fun _ _ => hn.ne', h_rowSum, m_inDimRows hM,
    m_mulf, m_mulf, m_addf, m_addf]
  refine congrArg up (congrArg mat (funext fun i => funext fun k => ?_))
  rw [Fin.sum_univ_one]
  unfold dx
  have e : (∑ j, DH i j * G j * X i j) = ∑ j, X i j * (DH i j * G j) := Finset.sum_congr rfl fun j _ => mul_comm _ _
  rw [e]
  ring

/-- The gain's gradient: the sum of the rows' shares, as one row. -/
theorem h_dg (hN : N ≠ 1) (hrc : (⟨2, ![M, N]⟩ : Shape).ReducesTo [0] ⟨1, ![N]⟩) (hr0 : (⟨2, ![1, N]⟩ : Shape).ReducesTo [0] ⟨1, ![N]⟩)
    (hcn : (⟨1, ![N]⟩ : Shape).ShapeCasts ⟨2, ![1, N]⟩) (hdn : (⟨1, ![N]⟩ : Shape).BroadcastsInDim ⟨2, ![1, N]⟩ ![1]) :
    broadcastInDim ⟨2, ![1, N]⟩ ![1] hdn (Host.reduceAdd (shapeCast ⟨2, ![1, N]⟩ (Host.reduceAdd
      (mulf (mulf (up (mat X)) (broadcastInDim ⟨2, ![M, N]⟩ ![0, 1] hb (up (mat fun i (_ : Fin 1) => rs n X i)))) (up (mat DH)) : FVec Ideal ⟨2, ![M, N]⟩ .f32)
      (up fun _ : u.Idx => 0) hrc hu) hcn : FVec Ideal ⟨2, ![1, N]⟩ .f32) (up fun _ : u.Idx => 0) hr0 hu)
      = (up (mat fun _ k => ∑ i, dgc n X DH i k) : FVec Ideal ⟨2, ![1, N]⟩ .f32) := by
  rw [m_bcastInDimCol hM, m_mulf, m_mulf, h_colSum, m_ofRow, h_colSum, m_inDimRow hN]
  refine congrArg up (congrArg mat (funext fun _ => funext fun k => ?_))
  rw [Fin.sum_univ_one]
  exact Finset.sum_congr rfl fun i _ => by unfold dgc; ring

end Host

end Cert.Rms

end
-- ==== Proof.Columns.lean ====
/- COLUMNS OF A MATRIX of extended reals: loading them, storing them at their place, cutting them out, and joining two
   matrices by columns. -/
module

public import proofs.«01_k».proof.Proof.EMat
public import proofs.«01_k».proof.Proof.Rms

@[expose] public section

noncomputable section

namespace Cert.Cols

open Cert.EMat Cert.Rms Idealize.ShloMosaic Idealize.ShloMosaic.ValueIdx Idealize.SL.Sem

variable {M N L : Nat}

/-- A store of columns of a matrix, at those columns. -/
theorem piece_at (P : Fin M → Fin N → EReal) (B : Fin M → Fin L → EReal) (o : Nat)
    (inb : ∀ a, (![0, o] : Fin 2 → Nat) a + (![M, L] : Fin 2 → Nat) a ≤ (⟨2, ![M, N]⟩ : Shape).size a)
    (hB : ∀ i (k : Fin L) (hk : o + k.val < N), B i k = P i ⟨o + k.val, hk⟩)
    (x : (Rect.unit (s := ⟨2, ![M, N]⟩) ![0, o] ![M, L] inb).shape.Idx) :
    emat B x = emat P ((Rect.unit (s := ⟨2, ![M, N]⟩) ![0, o] ![M, L] inb).emb x) := by
  have h1 : (x 1).val < L := (x 1).isLt
  have h2 : o + L ≤ N := inb 1
  show B (x 0) (x 1) = emat P ((Rect.unit (s := ⟨2, ![M, N]⟩) ![0, o] ![M, L] inb).emb x)
  rw [hB (x 0) (x 1) (by omega)]
  refine (congrArg (emat P) (funext fun a => Fin.ext ?_) : emat P (ix2 (x 0) ⟨o + (x 1).val, by omega⟩) = _)
  match a with
  | ⟨0, _⟩ => show (x 0).val = 0 + 1 * (x 0).val; omega
  | ⟨1, _⟩ => show o + (x 1).val = o + 1 * (x 1).val; omega

/-- The load of columns of a matrix. -/
theorem ld_cols (P : Fin M → Fin N → EReal) (o : Nat) (h : o + L ≤ N)
    (inb : ∀ a, (![0, o] : Fin 2 → Nat) a + (![M, L] : Fin 2 → Nat) a ≤ (⟨2, ![M, N]⟩ : Shape).size a) :
    (View.ld (Val := Elt Ideal) (e' := .f32) (emat P) (Rect.unit (s := ⟨2, ![M, N]⟩) ![0, o] ![M, L] inb) : (⟨2, ![M, L]⟩ : Shape).Idx → EReal) = emat (cols o h P) :=
  funext fun x => (piece_at P (cols o h P) o inb (fun _ _ _ => rfl) x).symm

/-- A slice of columns. -/
theorem e_cols (o : Nat) (h : o + L ≤ N) (A : Fin M → Fin N → EReal) (hs : (⟨2, ![M, N]⟩ : Shape).Slices ![0, o] ⟨2, ![M, L]⟩) :
    extractStridedSlice ⟨2, ![M, L]⟩ ![0, o] (emat A) hs = emat (cols o h A) := by
  funext j
  refine extractStridedSlice_apply _ _ hs j (ix2 (j 0) ⟨o + (j 1).val, by have h1 : (j 1).val < L := (j 1).isLt; omega⟩) fun a => ?_
  match a with
  | ⟨0, _⟩ => exact (Nat.zero_add _).symm
  | ⟨1, _⟩ => rfl

/-- A slice of a row. -/
theorem v_part (o : Nat) (h : o + L ≤ N) (A : Fin N → EReal) (hs : (⟨1, ![N]⟩ : Shape).Slices ![o] ⟨1, ![L]⟩) :
    extractStridedSlice ⟨1, ![L]⟩ ![o] (evec A) hs = evec fun k => A ⟨o + k.val, by omega⟩ := by
  funext j
  refine extractStridedSlice_apply _ _ hs j (ix1 ⟨o + (j 0).val, by have h1 : (j 0).val < L := (j 0).isLt; omega⟩) fun a => ?_
  match a with
  | ⟨0, _⟩ => rfl

/-- Two matrices joined by columns: a column is one of the first or of the second. -/
theorem join (hN : N = L + L) (A B : Fin M → Fin L → EReal) (P : Fin M → Fin N → EReal)
    (h : Shape.Concatenates [(⟨2, ![M, L]⟩ : Shape), ⟨2, ![M, L]⟩] ⟨2, ![M, N]⟩ 1)
    (hA : ∀ i (k : Fin L) (hk : 0 + k.val < N), A i k = P i ⟨0 + k.val, hk⟩)
    (hB : ∀ i (k : Fin L) (hk : L + k.val < N), B i k = P i ⟨L + k.val, hk⟩) :
    concatenate ⟨2, ![M, N]⟩ 1 [⟨⟨2, ![M, L]⟩, (emat A : (⟨2, ![M, L]⟩ : Shape).Idx → EReal)⟩, ⟨⟨2, ![M, L]⟩, (emat B : (⟨2, ![M, L]⟩ : Shape).Idx → EReal)⟩] h
      = (emat P : (⟨2, ![M, N]⟩ : Shape).Idx → EReal) := by
  funext y
  have hy : (y 1).val < N := (y 1).isLt
  by_cases hl : (y 1).val < L
  · refine (concatenate_pair_apply_left 1 (emat A) (emat B) _ y rfl (ix2 (y 0) (⟨(y 1).val, hl⟩ : Fin L)) fun b => ?_).trans ?_
    · match b with
      | ⟨0, _⟩ => rfl
      | ⟨1, _⟩ => rfl
    · refine (hA (y 0) ⟨(y 1).val, hl⟩ (by show 0 + (y 1).val < N; omega)).trans ?_
      exact congrArg (P (y 0)) (Fin.ext (Nat.zero_add _))
  · refine (concatenate_pair_apply_right 1 (emat A) (emat B) _ y rfl rfl (ix2 (y 0) (⟨(y 1).val - L, by omega⟩ : Fin L)) (fun b hb => ?_) ?_).trans ?_
    · match b with
      | ⟨0, _⟩ => rfl
      | ⟨1, _⟩ => exact absurd rfl hb
    · show (y 1).val - L + L = (y 1).val
      omega
    · refine (hB (y 0) ⟨(y 1).val - L, by omega⟩ (by show L + ((y 1).val - L) < N; omega)).trans ?_
      exact congrArg (P (y 0)) (Fin.ext (by show L + ((y 1).val - L) = (y 1).val; omega))

end Cert.Cols

end
-- ==== Proof.ENorm.lean ====
/- RMS NORMS OVER THE EXTENDED REALS, of whole rows and of pairs of heads: each row of 128 columns holds two heads of 64 columns,
   each normed by itself. The mathematics, the lines of a kernel (which norms both heads of a block at once under a mask), and
   the lines of a host program. -/
module

public import proofs.«01_k».proof.Proof.Columns

@[expose] public section

noncomputable section

namespace Cert.ENorm

open Cert.EMat Cert.Rms Idealize.ShloMosaic Idealize.ShloMosaic.ValueIdx

variable {M N : Nat}

/-- The small number that is added to a mean square, written as a 32-bit word. -/
def eps : EReal := Ideal.ofBits .f32 0x358637BD#32

/-- The reciprocal root mean square of a row (the sum of squares over `n`). -/
def scale (n : EReal) (x : Fin N → EReal) : EReal := Ideal.rsqrt (Ideal.div (∑ k, x k * x k) n + eps)

/-- A row normed, with gains `g`. -/
def norm (n : EReal) (g x : Fin N → EReal) (j : Fin N) : EReal := x j * scale n x * g j

/-- The width of a head, as a number. -/
def c64 : EReal := Ideal.ofBits .f32 0x42800000#32

/-- The head of a pair that starts at column `o`. -/
def head (o : Nat) (ho : o + 64 ≤ 128) (x : Fin 128 → EReal) (k : Fin 64) : EReal := x ⟨o + k.val, by omega⟩

/-- A pair of heads, each normed by itself, with gains `g`. -/
def pair (g x : Fin 128 → EReal) (k : Fin 128) : EReal :=
  x k * (if k.val < 64 then scale c64 (head 0 (by norm_num) x) else scale c64 (head 64 (by norm_num) x)) * g k

theorem pair_lo (g x : Fin 128 → EReal) (k : Fin 64) (hk : 0 + k.val < 128) :
    norm c64 (head 0 (by norm_num) g) (head 0 (by norm_num) x) k = pair g x ⟨0 + k.val, hk⟩ := by
  unfold pair
  rw [if_pos (by show 0 + k.val < 64; omega)]
  rfl
theorem pair_hi (g x : Fin 128 → EReal) (k : Fin 64) (hk : 64 + k.val < 128) :
    norm c64 (head 64 (by norm_num) g) (head 64 (by norm_num) x) k = pair g x ⟨64 + k.val, hk⟩ := by
  unfold pair
  rw [if_neg (by show ¬ 64 + k.val < 64; omega)]
  rfl

/-! The sum over the columns of one head is the sum over all columns with the other head's put to zero. -/

theorem sum_lo (f : Fin 128 → EReal) : ∑ j : Fin 128, (if j.val < 64 then f j else 0) = ∑ l : Fin 64, f ⟨0 + l.val, by omega⟩ := by
  refine (Fin.sum_univ_add (a := 64) (b := 64) _).trans ?_
  rw [Finset.sum_eq_zero (s := (Finset.univ : Finset (Fin 64)))
    (f := fun i : Fin 64 => if (Fin.natAdd 64 i).val < 64 then f (Fin.natAdd 64 i) else 0) fun i _ => if_neg (by simp), add_zero]
  refine Finset.sum_congr rfl fun l _ => ?_
  rw [if_pos (by simp)]
  exact congrArg f (Fin.ext (by simp))
theorem sum_hi (f : Fin 128 → EReal) : ∑ j : Fin 128, (if j.val < 64 then 0 else f j) = ∑ l : Fin 64, f ⟨64 + l.val, by omega⟩ := by
  refine (Fin.sum_univ_add (a := 64) (b := 64) _).trans ?_
  rw [Finset.sum_eq_zero (s := (Finset.univ : Finset (Fin 64)))
    (f := fun i : Fin 64 => if (Fin.castAdd 64 i).val < 64 then 0 else f (Fin.castAdd 64 i)) fun i _ => if_pos (by simp), zero_add]
  exact Finset.sum_congr rfl fun l _ => if_neg (by simp)

section Kernel

/-! A kernel's lines, on a block of rows. -/

variable (hM : M ≠ 1) (hc : (⟨1, ![M]⟩ : Shape).ShapeCasts ⟨2, ![M, 1]⟩)
  (hφ : FKind.Formats .f32) (hacc : (0x00000000#32 : BitVec (FTy.f32).bits) = FKind.add.neutral .f32 hφ)
include hM

/-- The rows normed. -/
theorem k_norm (hN : N ≠ 1) (b : BitVec 32) (X : Fin M → Fin N → EReal) (g : Fin 1 → Fin N → EReal)
    (hr : (⟨2, ![M, N]⟩ : Shape).Reduces [1] ⟨1, ![M]⟩)
    (hb : (⟨2, ![M, 1]⟩ : Shape).Broadcasts ⟨2, ![M, N]⟩) (hg : (⟨2, ![1, N]⟩ : Shape).Broadcasts ⟨2, ![M, N]⟩) :
    (mulf (mulf (emat X) (broadcastTo ⟨2, ![M, N]⟩ (rsqrt (addf (divf (shapeCast ⟨2, ![M, 1]⟩
        (multiReduction .add [1] ⟨1, ![M]⟩ (mulf (emat X) (emat X) : FVec Ideal ⟨2, ![M, N]⟩ .f32) 0x00000000#32 hr hφ hacc) hc)
        (broadcast ⟨2, ![M, 1]⟩ (Scalar.ofBits (F := Ideal) .f32 b))) (broadcast ⟨2, ![M, 1]⟩ (Scalar.ofBits (F := Ideal) .f32 0x358637BD#32))
        : FVec Ideal ⟨2, ![M, 1]⟩ .f32) : FVec Ideal ⟨2, ![M, 1]⟩ .f32) hb)) (broadcastTo ⟨2, ![M, N]⟩ (emat g) hg) : FVec Ideal ⟨2, ![M, N]⟩ .f32)
      = emat fun i => norm (Ideal.ofBits .f32 b) (g 0) (X i) := by
  rw [e_mulf, e_rowSum, e_ofCol, e_broadcast, e_broadcast, e_divf, e_addf, e_rsqrt, e_bcastCol hM, e_bcastRow hN]
  rfl

variable (m : IVec (⟨2, ![M, 128]⟩ : Shape) 1) (hm : ∀ i, m i = BitVec.ofBool (decide ((i 1).val < 64)))

omit hM in
include hm in
theorem e_select (A B : Fin M → Fin 128 → EReal) :
    (select m (emat A) (emat B) : FVec Ideal ⟨2, ![M, 128]⟩ .f32) = emat fun i k => if k.val < 64 then A i k else B i k := by
  funext i
  show Scalar.select (m i) (A (i 0) (i 1)) (B (i 0) (i 1)) = if (i 1).val < 64 then A (i 0) (i 1) else B (i 0) (i 1)
  rw [hm]
  by_cases h : (i 1).val < 64
  · rw [if_pos h, decide_eq_true h]
    rfl
  · rw [if_neg h, decide_eq_false h]
    rfl

include hm in
/-- The pairs normed: the mask `m` is one on the first head's columns. -/
theorem k_pair (X : Fin M → Fin 128 → EReal) (g : Fin 1 → Fin 128 → EReal) (hr : (⟨2, ![M, 128]⟩ : Shape).Reduces [1] ⟨1, ![M]⟩)
    (hb : (⟨2, ![M, 1]⟩ : Shape).Broadcasts ⟨2, ![M, 128]⟩) (hg : (⟨2, ![1, 128]⟩ : Shape).Broadcasts ⟨2, ![M, 128]⟩) :
    (mulf (mulf (emat X) (select m
      (broadcastTo ⟨2, ![M, 128]⟩ (rsqrt (addf (divf (shapeCast ⟨2, ![M, 1]⟩ (multiReduction .add [1] ⟨1, ![M]⟩
        (select m (mulf (emat X) (emat X) : FVec Ideal ⟨2, ![M, 128]⟩ .f32) (broadcast ⟨2, ![M, 128]⟩ (Scalar.ofBits (F := Ideal) .f32 0x00000000#32)) : FVec Ideal ⟨2, ![M, 128]⟩ .f32)
        0x00000000#32 hr hφ hacc) hc) (broadcast ⟨2, ![M, 1]⟩ (Scalar.ofBits (F := Ideal) .f32 0x42800000#32))) (broadcast ⟨2, ![M, 1]⟩ (Scalar.ofBits (F := Ideal) .f32 0x358637BD#32))
        : FVec Ideal ⟨2, ![M, 1]⟩ .f32) : FVec Ideal ⟨2, ![M, 1]⟩ .f32) hb)
      (broadcastTo ⟨2, ![M, 128]⟩ (rsqrt (addf (divf (shapeCast ⟨2, ![M, 1]⟩ (multiReduction .add [1] ⟨1, ![M]⟩
        (select m (broadcast ⟨2, ![M, 128]⟩ (Scalar.ofBits (F := Ideal) .f32 0x00000000#32)) (mulf (emat X) (emat X) : FVec Ideal ⟨2, ![M, 128]⟩ .f32) : FVec Ideal ⟨2, ![M, 128]⟩ .f32)
        0x00000000#32 hr hφ hacc) hc) (broadcast ⟨2, ![M, 1]⟩ (Scalar.ofBits (F := Ideal) .f32 0x42800000#32))) (broadcast ⟨2, ![M, 1]⟩ (Scalar.ofBits (F := Ideal) .f32 0x358637BD#32))
        : FVec Ideal ⟨2, ![M, 1]⟩ .f32) : FVec Ideal ⟨2, ![M, 1]⟩ .f32) hb) : FVec Ideal ⟨2, ![M, 128]⟩ .f32)) (broadcastTo ⟨2, ![M, 128]⟩ (emat g) hg)
        : FVec Ideal ⟨2, ![M, 128]⟩ .f32)
      = emat fun i => pair (g 0) (X i) := by
  have h0 : (Scalar.ofBits (F := Ideal) .f32 0x00000000#32 : EReal) = 0 := Ideal.ofBits_zero_f32
  rw [h0, e_mulf, e_broadcast, e_select m hm, e_select m hm, e_rowSum, e_rowSum, e_ofCol, e_ofCol, e_broadcast, e_broadcast, e_divf, e_divf,
    e_addf, e_addf, e_rsqrt, e_rsqrt, e_bcastCol hM, e_bcastCol hM, e_select m hm, e_bcastRow (by norm_num), e_mulf, e_mulf]
  refine congrArg emat (funext fun i => funext fun k => ?_)
  show X i k * (if k.val < 64 then _ else _) * g 0 k = pair (g 0) (X i) k
  unfold pair scale
  rw [sum_lo (fun j => X i j * X i j), sum_hi (fun j => X i j * X i j)]
  rfl

end Kernel

/-- The rows normed, by the lines of a host program. -/
theorem h_norm {u : Shape} (hM : M ≠ 1) (hN : N ≠ 1) (b : BitVec 32) (X : Fin M → Fin N → EReal) (G : Fin N → EReal) (hu : 0 < u.numel)
    (hr : (⟨2, ![M, N]⟩ : Shape).ReducesTo [1] ⟨1, ![M]⟩) (hc : (⟨1, ![M]⟩ : Shape).BroadcastsInDim ⟨2, ![M, 1]⟩ ![0])
    (hs : (⟨0, ![]⟩ : Shape).BroadcastsInDim ⟨2, ![M, 1]⟩ ![]) (hb : (⟨2, ![M, 1]⟩ : Shape).BroadcastsInDim ⟨2, ![M, N]⟩ ![0, 1])
    (hg : (⟨1, ![N]⟩ : Shape).BroadcastsInDim ⟨2, ![1, N]⟩ ![1]) (hgb : (⟨2, ![1, N]⟩ : Shape).BroadcastsInDim ⟨2, ![M, N]⟩ ![0, 1]) :
    (mulf (mulf (emat X) (broadcastInDim ⟨2, ![M, N]⟩ ![0, 1] hb (Host.rsqrt (addf (Host.divf (broadcastInDim ⟨2, ![M, 1]⟩ ![0] hc
        (Host.reduceAdd (mulf (emat X) (emat X) : FVec Ideal ⟨2, ![M, N]⟩ .f32) (constant (F := Ideal) u .f32 0x00000000#32) hr hu : FVec Ideal ⟨1, ![M]⟩ .f32))
        (broadcastInDim ⟨2, ![M, 1]⟩ ![] hs (constant (F := Ideal) ⟨0, ![]⟩ .f32 b))) (broadcastInDim ⟨2, ![M, 1]⟩ ![] hs (constant (F := Ideal) ⟨0, ![]⟩ .f32 0x358637BD#32))
        : FVec Ideal ⟨2, ![M, 1]⟩ .f32) : FVec Ideal ⟨2, ![M, 1]⟩ .f32))) (broadcastInDim ⟨2, ![M, N]⟩ ![0, 1] hgb (broadcastInDim ⟨2, ![1, N]⟩ ![1] hg (evec G)))
        : FVec Ideal ⟨2, ![M, N]⟩ .f32)
      = emat fun i => norm (Ideal.ofBits .f32 b) G (X i) := by
  rw [e_mulf, e_constant (s := u) _ 0 Ideal.ofBits_zero_f32, e_constant (φ := .f32) (s := ⟨0, ![]⟩) b _ rfl, e_constant (φ := .f32) (s := ⟨0, ![]⟩) 0x358637BD#32 eps rfl,
    e_hostRowSum, e_inDimCol hM, e_inDimScalar, e_inDimScalar, e_hostDivf, e_addf, e_hostRsqrt, e_bcastInDimCol hM, e_inDimRow hN, e_bcastInDimRow hN]
  rfl

end Cert.ENorm

end
-- ==== Proof.Fwd2Reference.lean ====
/- The reference of the feed-forward forward kernel, over the extended reals: its results as the functions of
   `FwdSpec` of each row. -/
module

public import proofs.«01_k».proof.Proof.FwdSpec
public import proofs.«01_k».proof.Proof.ENorm
public import proofs.«01_k».proof.Proof.Gen.Reference2Ideal.Read

@[expose] public section

noncomputable section

namespace Cert.Fwd2.Reference

open Idealize.ShloMosaic Cert.EMat Cert.Fwd Cert.Reference2Ideal Cert.Reference2Ideal.Gen Cert.Reference2Ideal.Read

variable (X : Fin 8192 → Fin 1024 → EReal) (G : Fin 1024 → EReal) (WG WU : Fin 1024 → Fin 2816 → EReal) (WD : Fin 2816 → Fin 1024 → EReal)

theorem dot_in : dot_S8192x1024_S1024x2816_S8192x2816_1_0_0_1_n_n = DotDims.plain 8192 1024 2816 := rfl
theorem dot_out : dot_S8192x2816_S2816x1024_S8192x1024_1_0_0_1_n_n = DotDims.plain 8192 2816 1024 := rfl

/-- The rows normalised. -/
theorem r_v12 : val_main_v12 (F := Ideal) (emat X) (evec G) = (emat fun i => norm G (X i) : S8192x1024.Idx → EReal) := by
  unfold val_main_v12 val_main_v11 val_main_v10 val_main_v9 val_main_v8 val_main_v7 val_main_v6 val_main_v5 val_main_v4 val_main_v3 val_main_v2 val_main_v1 val_main_v0 val_main_cst val_main_cst_0 val_main_cst_1
  exact Cert.ENorm.h_norm (by norm_num) (by norm_num) _ X G _ _ _ _ _ _ _

/-- The gate's pre-activation. -/
theorem r_v13 : val_main_v13 (F := Ideal) (emat X) (evec G) (emat WG) = (emat fun i => pre (fun f k => WG k f) (norm G (X i)) : S8192x2816.Idx → EReal) := by
  unfold val_main_v13
  rw [r_v12, dot_in]
  exact e_dot none _ _

/-- The up projection. -/
theorem r_v14 : val_main_v14 (F := Ideal) (emat X) (evec G) (emat WU) = (emat fun i => pre (fun f k => WU k f) (norm G (X i)) : S8192x2816.Idx → EReal) := by
  unfold val_main_v14
  rw [r_v12, dot_in]
  exact e_dot none _ _

/-- The rows normalised, inside the layer. -/
theorem r_v27 : val_main_v27 (F := Ideal) (emat X) (evec G) = (emat fun i => norm G (X i) : S8192x1024.Idx → EReal) := by
  unfold val_main_v27 val_main_v26 val_main_v25 val_main_v24 val_main_v23 val_main_v22 val_main_v21 val_main_v20 val_main_v19 val_main_v18 val_main_v17 val_main_v16 val_main_v15 val_main_cst_2 val_main_cst_3 val_main_cst_4
  exact Cert.ENorm.h_norm (by norm_num) (by norm_num) _ X G _ _ _ _ _ _ _

/-- The gate's pre-activation, inside the layer. -/
theorem r_v28 : val_main_v28 (F := Ideal) (emat X) (evec G) (emat WG) = (emat fun i => pre (fun f k => WG k f) (norm G (X i)) : S8192x2816.Idx → EReal) := by
  unfold val_main_v28
  rw [r_v27, dot_in]
  exact e_dot none _ _

/-- The up projection, inside the layer. -/
theorem r_v29 : val_main_v29 (F := Ideal) (emat X) (evec G) (emat WU) = (emat fun i => pre (fun f k => WU k f) (norm G (X i)) : S8192x2816.Idx → EReal) := by
  unfold val_main_v29
  rw [r_v27, dot_in]
  exact e_dot none _ _

/-- The gated activation. -/
theorem r_v31 : val_main_v31 (F := Ideal) (emat X) (evec G) (emat WG) (emat WU)
    = (emat fun i => act (fun f k => WG k f) (fun f k => WU k f) (norm G (X i)) : S8192x2816.Idx → EReal) := by
  have h2 : val_main_call0_v2 (F := Ideal) = (emat fun _ _ => one : S8192x2816.Idx → EReal) := rfl
  have h4 : val_main_call0_v4 (F := Ideal) = (emat fun _ _ => one : S8192x2816.Idx → EReal) := rfl
  unfold val_main_v31 val_main_v30 val_main_call0_v5 val_main_call0_v3 val_main_call0_v1 val_main_call0_v0
  rw [r_v28, r_v29, h2, h4]
  rfl

/-- The output rows. -/
theorem r_v35 : val_main_v35 (F := Ideal) (emat X) (evec G) (emat WG) (emat WU) (emat WD)
    = (emat fun i => out (fun f k => WG k f) (fun f k => WU k f) WD (X i) (norm G (X i)) : S8192x1024.Idx → EReal) := by
  have h32 : val_main_v32 (F := Ideal) (emat X) (evec G) (emat WG) (emat WU) (emat WD)
      = (emat fun i j => ∑ f, act (fun f k => WG k f) (fun f k => WU k f) (norm G (X i)) f * WD f j : S8192x1024.Idx → EReal) := by
    unfold val_main_v32
    rw [r_v31, dot_out]
    exact e_dot none _ _
  have h33 : val_main_v33 (F := Ideal) = (emat fun _ _ => half : S8192x1024.Idx → EReal) := rfl
  unfold val_main_v35 val_main_v34
  rw [h32, h33]
  rfl

/-- Result: the normalised rows. -/
theorem r_v36 : val_main_v36 (F := Ideal) (emat X) (evec G) = (emat fun i => norm G (X i) : S8192x1024.Idx → EReal) := by
  unfold val_main_v36
  rw [r_v12]
  rfl

/-- Result: the gate's pre-activation. -/
theorem r_v37 : val_main_v37 (F := Ideal) (emat X) (evec G) (emat WG) = (emat fun i => pre (fun f k => WG k f) (norm G (X i)) : S8192x2816.Idx → EReal) := by
  unfold val_main_v37
  rw [r_v13]
  rfl

/-- Result: the up projection. -/
theorem r_v38 : val_main_v38 (F := Ideal) (emat X) (evec G) (emat WU) = (emat fun i => pre (fun f k => WU k f) (norm G (X i)) : S8192x2816.Idx → EReal) := by
  unfold val_main_v38
  rw [r_v14]
  rfl

end Cert.Fwd2.Reference

end
-- ==== Proof.Fwd2Claims.lean ====
/- The claims about the feed-forward forward kernel: over the extended reals its results are the reference's, of any
   arguments. -/
module

public import proofs.«01_k».proof.Defs
public import proofs.«01_k».proof.Proof.Fwd2Arrays
public import proofs.«01_k».proof.Proof.Fwd2Reference

@[expose] public section

noncomputable section

namespace Cert.Fwd2.Claims

open Idealize.ShloMosaic Idealize.SL.Sem Cert.EMat

/-- The reference runs, keeps its arguments, and declares no semaphore. -/
theorem frame_r : Cert.quiescent_Reference2Ideal := by
  intro m ρ _
  exact (θ_run Cert.Reference2Ideal.defs _ _).mono
    (fun r h => ⟨fun c => (h c).2.2.2.2, sem_eq_zero_of_no_sems (by decide) r.2⟩) (Cert.Reference2Ideal.Value.run m ρ)

/-- The kernel's results are the reference's. -/
theorem algebraic : Cert.algebraic_Kernel2Ideal_Reference2Ideal := by
  intro m ρ m' ρ' _ hagree
  refine ⟨fun c => (Cert.Kernel2Ideal.Gen.dats m 0 c).arrAt 5 Cert.Kernel2Ideal.cfg0.N, fun c => (Cert.Kernel2Ideal.Gen.dats m 0 c).arrAt 6 Cert.Kernel2Ideal.cfg0.N, fun c => (Cert.Kernel2Ideal.Gen.dats m 0 c).arrAt 7 Cert.Kernel2Ideal.cfg0.N, fun c => (Cert.Kernel2Ideal.Gen.dats m 0 c).arrAt 8 Cert.Kernel2Ideal.cfg0.N, Cert.Kernel2Ideal.Value.run_blocks m ρ, ?_⟩
  refine (θ_run Cert.Reference2Ideal.defs _ _).mono (fun r h c => ?_) (Cert.Reference2Ideal.Value.run m' ρ')
  obtain ⟨a0, a1, a2, a3, a4⟩ := hagree c
  obtain ⟨r0, r1, r2, r3, k⟩ := h c
  have hX := emat_eq (M := 8192) (N := 1024) (m ((c.tc : Thread Cert.Kernel2Ideal.nD Cert.Kernel2Ideal.τ).loc Cert.Kernel2Ideal.main_arg0))
  have x0 := a0.trans hX
  have hG := evec_eq (N := 1024) (m ((c.tc : Thread Cert.Kernel2Ideal.nD Cert.Kernel2Ideal.τ).loc Cert.Kernel2Ideal.main_arg1))
  have x1 := a1.trans hG
  have hWG := emat_eq (M := 1024) (N := 2816) (m ((c.tc : Thread Cert.Kernel2Ideal.nD Cert.Kernel2Ideal.τ).loc Cert.Kernel2Ideal.main_arg2))
  have x2 := a2.trans hWG
  have hWU := emat_eq (M := 1024) (N := 2816) (m ((c.tc : Thread Cert.Kernel2Ideal.nD Cert.Kernel2Ideal.τ).loc Cert.Kernel2Ideal.main_arg3))
  have x3 := a3.trans hWU
  have hWD := emat_eq (M := 2816) (N := 1024) (m ((c.tc : Thread Cert.Kernel2Ideal.nD Cert.Kernel2Ideal.τ).loc Cert.Kernel2Ideal.main_arg4))
  have x4 := a4.trans hWD
  refine ⟨?_, ?_, ?_, ?_, k⟩
  · rw [r0, Cert.Reference2Ideal.Read.val_main_v35_eq, x0, x1, x2, x3, x4, Cert.Fwd2.Reference.r_v35]
    exact (Cert.Fwd2.Arrays.final5 m c hX hG hWG hWU hWD).symm
  · rw [r1, Cert.Reference2Ideal.Read.val_main_v36_eq, x0, x1, Cert.Fwd2.Reference.r_v36]
    exact (Cert.Fwd2.Arrays.final6 m c hX hG hWG hWU hWD).symm
  · rw [r2, Cert.Reference2Ideal.Read.val_main_v37_eq, x0, x1, x2, Cert.Fwd2.Reference.r_v37]
    exact (Cert.Fwd2.Arrays.final7 m c hX hG hWG hWU hWD).symm
  · rw [r3, Cert.Reference2Ideal.Read.val_main_v38_eq, x0, x1, x3, Cert.Fwd2.Reference.r_v38]
    exact (Cert.Fwd2.Arrays.final8 m c hX hG hWG hWU hWD).symm

end Cert.Fwd2.Claims

end
-- ==== Proof.Fwd3Block.lean ====
/- What one grid point of the feed-forward forward kernel with the loss leaves in its output blocks, as a function of the input
   blocks that it reads: the covering stores of the point read back as values. -/
module

public import proofs.«01_k».proof.Proof.Gen.Kernel3Ideal.Value

@[expose] public section

noncomputable section

namespace Cert.Fwd3.Block

open Cert.Kernel3Ideal Cert.Kernel3Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl

section

variable (c : Dev nD) (i : grid0.Coords)
  (a2 : Memref sig .tc .vmem S512x1024 .f32) (h2 : a2.IsWhole)
  (a3 : Memref sig .tc .vmem S1x1024 .f32) (h3 : a3.IsWhole)
  (a4 : Memref sig .tc .vmem S2816x1024 .bf16) (h4 : a4.IsWhole)
  (a5 : Memref sig .tc .vmem S2816x1024 .bf16) (h5 : a5.IsWhole)
  (a6 : Memref sig .tc .vmem S2816x1024 .bf16) (h6 : a6.IsWhole)
  (a7 : Memref sig .tc .vmem S512x1024 .f32) (h7 : a7.IsWhole)
  (a8 : Memref sig .tc .vmem S512x1024 .f32) (h8 : a8.IsWhole)
  (a9 : Memref sig .tc .vmem S512x1024 .bf16) (h9 : a9.IsWhole)
  (a10 : Memref sig .tc .vmem S512x2816 .bf16) (h10 : a10.IsWhole)
  (a11 : Memref sig .tc .vmem S512x2816 .bf16) (h11 : a11.IsWhole)
  (a12 : Memref sig .tc .vmem S1x128 .f32) (h12 : a12.IsWhole)
  (a13 : Memref sig .tc .vmem S512x1024 .f32) (h13 : a13.IsWhole)
  (hc0 : cond0_0 i) (hc1 : cond0_1 i)
  (x : Vec F S512x1024 .f32) (g : Vec F S1x1024 .f32) (wg wu wd : Vec F S2816x1024 .bf16) (y : Vec F S512x1024 .f32) (acc : Vec F S1x128 .f32)

/-- The gradient of the loss in the output rows. -/
theorem out_A_6 (hc2 : cond0_2 i) : out0_A_6 c i a2 h2 a3 h3 a4 h4 a5 h5 a6 h6 a7 h7 a8 h8 a9 h9 a10 h10 a11 h11 a12 h12 a13 h13 hc0 hc1 hc2 x g wg wu wd y = k0_pay9 (k0_pay1 x g) wg wu wd x y := by
  unfold out0_A_6
  rw [View.read_writes_junk_eq_canon]
  unfold kernelRun0_A
  dsimp only
  sl_unfold_words
  simp only [View.canon_unit_zero (S := S512x1024) hz, View.readCov_unit_zero (S := S512x1024) _ hz, View.readCov_unit_zero (S := S1x128) _ hz, View.readAt_eq_ld,
    h2.read_unread, h3.read_unread, h4.read_unread, h5.read_unread, h6.read_unread, h7.read_unread, View.ld_unit_zero (S := S512x1024) hz, View.ld_unit_zero (S := S1x1024) hz, View.ld_unit_zero (S := S2816x1024) hz, View.ld_unit_zero (S := S512x2816) hz, View.ld_unit_zero (S := S1x128) hz]
/-- The normalised rows. -/
theorem out_A_7 (hc2 : cond0_2 i) : out0_A_7 c i a2 h2 a3 h3 a4 h4 a5 h5 a6 h6 a7 h7 a8 h8 a9 h9 a10 h10 a11 h11 a12 h12 a13 h13 hc0 hc1 hc2 x g wg wu wd y = k0_pay1 x g := by
  unfold out0_A_7
  rw [View.read_writes_junk_eq_canon]
  unfold kernelRun0_A
  dsimp only
  sl_unfold_words
  simp only [View.canon_unit_zero (S := S512x1024) hz, View.readCov_unit_zero (S := S512x1024) _ hz, View.readCov_unit_zero (S := S1x128) _ hz, View.readAt_eq_ld,
    h2.read_unread, h3.read_unread, h4.read_unread, h5.read_unread, h6.read_unread, h7.read_unread, View.ld_unit_zero (S := S512x1024) hz, View.ld_unit_zero (S := S1x1024) hz, View.ld_unit_zero (S := S2816x1024) hz, View.ld_unit_zero (S := S512x2816) hz, View.ld_unit_zero (S := S1x128) hz]
/-- The gate's pre-activation. -/
theorem out_A_8 (hc2 : cond0_2 i) : out0_A_8 c i a2 h2 a3 h3 a4 h4 a5 h5 a6 h6 a7 h7 a8 h8 a9 h9 a10 h10 a11 h11 a12 h12 a13 h13 hc0 hc1 hc2 x g wg wu wd y = k0_pay5 (k0_pay1 x g) wg := by
  unfold out0_A_8
  rw [View.read_writes_junk_eq_canon]
  unfold kernelRun0_A
  dsimp only
  sl_unfold_words
  simp only [View.canon_unit_zero (S := S512x2816) hz, View.readCov_unit_zero (S := S512x1024) _ hz, View.readCov_unit_zero (S := S1x128) _ hz, View.readAt_eq_ld,
    h2.read_unread, h3.read_unread, h4.read_unread, h5.read_unread, h6.read_unread, h7.read_unread, View.ld_unit_zero (S := S512x1024) hz, View.ld_unit_zero (S := S1x1024) hz, View.ld_unit_zero (S := S2816x1024) hz, View.ld_unit_zero (S := S512x2816) hz, View.ld_unit_zero (S := S1x128) hz]
/-- The up projection. -/
theorem out_A_9 (hc2 : cond0_2 i) : out0_A_9 c i a2 h2 a3 h3 a4 h4 a5 h5 a6 h6 a7 h7 a8 h8 a9 h9 a10 h10 a11 h11 a12 h12 a13 h13 hc0 hc1 hc2 x g wg wu wd y = k0_pay6 (k0_pay1 x g) wu := by
  unfold out0_A_9
  rw [View.read_writes_junk_eq_canon]
  unfold kernelRun0_A
  dsimp only
  sl_unfold_words
  simp only [View.canon_unit_zero (S := S512x2816) hz, View.readCov_unit_zero (S := S512x1024) _ hz, View.readCov_unit_zero (S := S1x128) _ hz, View.readAt_eq_ld,
    h2.read_unread, h3.read_unread, h4.read_unread, h5.read_unread, h6.read_unread, h7.read_unread, View.ld_unit_zero (S := S512x1024) hz, View.ld_unit_zero (S := S1x1024) hz, View.ld_unit_zero (S := S2816x1024) hz, View.ld_unit_zero (S := S512x2816) hz, View.ld_unit_zero (S := S1x128) hz]
/-- The running loss. -/
theorem out_A_10 (hc2 : cond0_2 i) : out0_A_10 c i a2 h2 a3 h3 a4 h4 a5 h5 a6 h6 a7 h7 a8 h8 a9 h9 a10 h10 a11 h11 a12 h12 a13 h13 hc0 hc1 hc2 x g wg wu wd y = k0_pay10 (k0_pay1 x g) wg wu wd x y k0_pay7 := by
  unfold out0_A_10
  rw [View.read_writes_junk_eq_canon]
  unfold kernelRun0_A
  dsimp only
  sl_unfold_words
  simp only [View.canon_unit_zero (S := S1x128) hz, View.canon_cons_unit_zero (S := S1x128) hz, View.readCov_unit_zero (S := S512x1024) _ hz, View.readCov_unit_zero (S := S1x128) _ hz, View.readAt_eq_ld,
    h2.read_unread, h3.read_unread, h4.read_unread, h5.read_unread, h6.read_unread, h7.read_unread, View.ld_unit_zero (S := S512x1024) hz, View.ld_unit_zero (S := S1x1024) hz, View.ld_unit_zero (S := S2816x1024) hz, View.ld_unit_zero (S := S512x2816) hz, View.ld_unit_zero (S := S1x128) hz]
/-- The gradient of the loss in the output rows. -/
theorem out_B_6 (hc2 : ¬cond0_2 i) : out0_B_6 c i a2 h2 a3 h3 a4 h4 a5 h5 a6 h6 a7 h7 a8 h8 a9 h9 a10 h10 a11 h11 a12 h12 a13 h13 hc0 hc1 hc2 x g wg wu wd y acc = k0_pay9 (k0_pay1 x g) wg wu wd x y := by
  unfold out0_B_6
  rw [View.read_writes_junk_eq_canon]
  unfold kernelRun0_B
  dsimp only
  sl_unfold_words
  simp only [View.canon_unit_zero (S := S512x1024) hz, View.readCov_unit_zero (S := S512x1024) _ hz, View.readCov_unit_zero (S := S1x128) _ hz, View.readAt_eq_ld,
    h2.read_unread, h3.read_unread, h4.read_unread, h5.read_unread, h6.read_unread, h7.read_unread, h12.read_unread, View.ld_unit_zero (S := S512x1024) hz, View.ld_unit_zero (S := S1x1024) hz, View.ld_unit_zero (S := S2816x1024) hz, View.ld_unit_zero (S := S512x2816) hz, View.ld_unit_zero (S := S1x128) hz]
/-- The normalised rows. -/
theorem out_B_7 (hc2 : ¬cond0_2 i) : out0_B_7 c i a2 h2 a3 h3 a4 h4 a5 h5 a6 h6 a7 h7 a8 h8 a9 h9 a10 h10 a11 h11 a12 h12 a13 h13 hc0 hc1 hc2 x g wg wu wd y acc = k0_pay1 x g := by
  unfold out0_B_7
  rw [View.read_writes_junk_eq_canon]
  unfold kernelRun0_B
  dsimp only
  sl_unfold_words
  simp only [View.canon_unit_zero (S := S512x1024) hz, View.readCov_unit_zero (S := S512x1024) _ hz, View.readCov_unit_zero (S := S1x128) _ hz, View.readAt_eq_ld,
    h2.read_unread, h3.read_unread, h4.read_unread, h5.read_unread, h6.read_unread, h7.read_unread, h12.read_unread, View.ld_unit_zero (S := S512x1024) hz, View.ld_unit_zero (S := S1x1024) hz, View.ld_unit_zero (S := S2816x1024) hz, View.ld_unit_zero (S := S512x2816) hz, View.ld_unit_zero (S := S1x128) hz]
/-- The gate's pre-activation. -/
theorem out_B_8 (hc2 : ¬cond0_2 i) : out0_B_8 c i a2 h2 a3 h3 a4 h4 a5 h5 a6 h6 a7 h7 a8 h8 a9 h9 a10 h10 a11 h11 a12 h12 a13 h13 hc0 hc1 hc2 x g wg wu wd y acc = k0_pay5 (k0_pay1 x g) wg := by
  unfold out0_B_8
  rw [View.read_writes_junk_eq_canon]
  unfold kernelRun0_B
  dsimp only
  sl_unfold_words
  simp only [View.canon_unit_zero (S := S512x2816) hz, View.readCov_unit_zero (S := S512x1024) _ hz, View.readCov_unit_zero (S := S1x128) _ hz, View.readAt_eq_ld,
    h2.read_unread, h3.read_unread, h4.read_unread, h5.read_unread, h6.read_unread, h7.read_unread, h12.read_unread, View.ld_unit_zero (S := S512x1024) hz, View.ld_unit_zero (S := S1x1024) hz, View.ld_unit_zero (S := S2816x1024) hz, View.ld_unit_zero (S := S512x2816) hz, View.ld_unit_zero (S := S1x128) hz]
/-- The up projection. -/
theorem out_B_9 (hc2 : ¬cond0_2 i) : out0_B_9 c i a2 h2 a3 h3 a4 h4 a5 h5 a6 h6 a7 h7 a8 h8 a9 h9 a10 h10 a11 h11 a12 h12 a13 h13 hc0 hc1 hc2 x g wg wu wd y acc = k0_pay6 (k0_pay1 x g) wu := by
  unfold out0_B_9
  rw [View.read_writes_junk_eq_canon]
  unfold kernelRun0_B
  dsimp only
  sl_unfold_words
  simp only [View.canon_unit_zero (S := S512x2816) hz, View.readCov_unit_zero (S := S512x1024) _ hz, View.readCov_unit_zero (S := S1x128) _ hz, View.readAt_eq_ld,
    h2.read_unread, h3.read_unread, h4.read_unread, h5.read_unread, h6.read_unread, h7.read_unread, h12.read_unread, View.ld_unit_zero (S := S512x1024) hz, View.ld_unit_zero (S := S1x1024) hz, View.ld_unit_zero (S := S2816x1024) hz, View.ld_unit_zero (S := S512x2816) hz, View.ld_unit_zero (S := S1x128) hz]
/-- The running loss. -/
theorem out_B_10 (hc2 : ¬cond0_2 i) : out0_B_10 c i a2 h2 a3 h3 a4 h4 a5 h5 a6 h6 a7 h7 a8 h8 a9 h9 a10 h10 a11 h11 a12 h12 a13 h13 hc0 hc1 hc2 x g wg wu wd y acc = k0_pay10 (k0_pay1 x g) wg wu wd x y acc := by
  unfold out0_B_10
  rw [View.read_writes_junk_eq_canon]
  unfold kernelRun0_B
  dsimp only
  sl_unfold_words
  simp only [View.canon_unit_zero (S := S1x128) hz, View.canon_cons_unit_zero (S := S1x128) hz, View.readCov_unit_zero (S := S512x1024) _ hz, View.readCov_unit_zero (S := S1x128) _ hz, View.readAt_eq_ld,
    h2.read_unread, h3.read_unread, h4.read_unread, h5.read_unread, h6.read_unread, h7.read_unread, h12.read_unread, View.ld_unit_zero (S := S512x1024) hz, View.ld_unit_zero (S := S1x1024) hz, View.ld_unit_zero (S := S2816x1024) hz, View.ld_unit_zero (S := S512x2816) hz, View.ld_unit_zero (S := S1x128) hz]

end

end Cert.Fwd3.Block

end
-- ==== Proof.Fwd3Value.lean ====
/- What one grid point of the feed-forward forward kernel with the loss computes from its blocks, over the extended reals: the payloads of its
   stores at matrices given entry by entry. -/
module

public import proofs.«01_k».proof.Proof.FwdSpec
public import proofs.«01_k».proof.Proof.Gen.Kernel3Ideal.Value

@[expose] public section

noncomputable section

namespace Cert.Fwd3.Value

open Cert.Kernel3Ideal Cert.Kernel3Ideal.Gen Idealize.ShloMosaic Cert.EMat Cert.Fwd
open Idealize.ShloMosaic.ValueIdx (sum_idx2)

theorem dot_in : dot_S512x1024_S2816x1024_S512x2816_1_1_0_0_n_n = DotDims.transposedRhs 512 1024 2816 := rfl
theorem dot_out : dot_S512x2816_S2816x1024_S512x1024_1_0_0_1_n_n = DotDims.plain 512 2816 1024 := rfl

theorem rowSum (A : Fin 512 → Fin 1024 → EReal) :
    (multiReduction .add [1] S512 (emat A : FVec Ideal S512x1024 .f32) 0x00000000#32 reduces_S512x1024_S512 (.inl rfl) rfl : FVec Ideal S512 .f32)
      = evec fun i => ∑ k, A i k := e_rowSum A _ _ _ _

theorem col (A : Fin 512 → EReal) : shapeCast S512x1 (evec A) shapeCasts_S512_S512x1 = emat fun i _ => A i := e_ofCol A _

theorem bcCol (A : Fin 512 → Fin 1 → EReal) :
    broadcastTo S512x1024 (emat A) broadcasts_S512x1_S512x1024 = emat fun i _ => A i 0 := e_bcastCol (by norm_num) A _

theorem bcRow (A : Fin 1 → Fin 1024 → EReal) :
    broadcastTo S512x1024 (emat A) broadcasts_S1x1024_S512x1024 = emat fun _ j => A 0 j := e_bcastRow (by norm_num) A _

/-- The normalised rows. -/
theorem h_value (X : Fin 512 → Fin 1024 → EReal) (g : Fin 1 → Fin 1024 → EReal) :
    k0_pay1 (F := Ideal) (emat X) (emat g) = (emat fun i => norm (g 0) (X i) : S512x1024.Idx → EReal) := by
  unfold k0_pay1
  dsimp only
  rw [shapeCast_self, e_mulf]
  erw [rowSum, col]
  rw [bcRow, e_broadcast, e_divf, e_broadcast, e_addf, e_rsqrt, bcCol]
  rfl

/-- The gate's pre-activation. -/
theorem gate_raw (h : Fin 512 → Fin 1024 → EReal) (G : Fin 2816 → Fin 1024 → EReal) :
    k0_pay3 (F := Ideal) (emat h) (emat G) = (emat fun i => pre G (h i) : S512x2816.Idx → EReal) := by
  unfold k0_pay3 k0_pay2
  dsimp only
  rw [shapeCast_self, shapeCast_self, dot_in]
  exact e_matmulT none h G

/-- The up projection. -/
theorem up_raw (h : Fin 512 → Fin 1024 → EReal) (U : Fin 2816 → Fin 1024 → EReal) :
    k0_pay4 (F := Ideal) (emat h) (emat U) = (emat fun i => pre U (h i) : S512x2816.Idx → EReal) := by
  unfold k0_pay4 k0_pay2
  dsimp only
  rw [shapeCast_self, shapeCast_self, dot_in]
  exact e_matmulT none h U

theorem gate_value (h : Fin 512 → Fin 1024 → EReal) (G : Fin 2816 → Fin 1024 → EReal) :
    k0_pay5 (F := Ideal) (emat h) (emat G) = (emat fun i => pre G (h i) : S512x2816.Idx → EReal) := by
  unfold k0_pay5
  rw [gate_raw]
  rfl

theorem up_value (h : Fin 512 → Fin 1024 → EReal) (U : Fin 2816 → Fin 1024 → EReal) :
    k0_pay6 (F := Ideal) (emat h) (emat U) = (emat fun i => pre U (h i) : S512x2816.Idx → EReal) := by
  unfold k0_pay6
  rw [up_raw]
  rfl

/-- The activation's rows: a zero minus a number is its negative. -/
theorem act_eq (A B : Fin 512 → Fin 2816 → EReal) :
    (truncf .bf16 (mulf (mulf (emat A) (divf (broadcast S512x2816 (FloatOps.ofBits .f32 0x3F800000#32 : Ideal .f32))
      (addf (broadcast S512x2816 (FloatOps.ofBits .f32 0x3F800000#32 : Ideal .f32))
        (exp (subf (broadcast S512x2816 (FloatOps.ofBits .f32 0x00000000#32 : Ideal .f32)) (emat A : FVec Ideal S512x2816 .f32)))))) (emat B)) bitsLt_bf16_f32
        : FVec Ideal S512x2816 .bf16) = emat fun i j => silu (A i j) * B i j := by
  funext q
  show A (q 0) (q 1) * Ideal.div one (one + Ideal.exp (Ideal.ofBits .f32 0x00000000#32 - A (q 0) (q 1))) * B (q 0) (q 1) = _
  rw [Ideal.ofBits_zero_f32, zero_sub]
  rfl

/-- The distance to the target. -/
def err (G U D : Fin 2816 → Fin 1024 → EReal) (x h y : Fin 1024 → EReal) (j : Fin 1024) : EReal := out G U D x h j - y j

theorem e_value (h X Y : Fin 512 → Fin 1024 → EReal) (G U D : Fin 2816 → Fin 1024 → EReal) :
    k0_pay8 (F := Ideal) (emat h) (emat G) (emat U) (emat D) (emat X) (emat Y)
      = (emat fun i => err G U D (X i) (h i) (Y i) : S512x1024.Idx → EReal) := by
  unfold k0_pay8
  dsimp only
  rw [gate_raw, up_raw, shapeCast_self, dot_out]
  rw [act_eq]
  rw [e_matmul]
  rfl

/-- The gradient of the loss in the output. -/
theorem dy_value (h X Y : Fin 512 → Fin 1024 → EReal) (G U D : Fin 2816 → Fin 1024 → EReal) :
    k0_pay9 (F := Ideal) (emat h) (emat G) (emat U) (emat D) (emat X) (emat Y)
      = (emat fun i j => err G U D (X i) (h i) (Y i) j * Ideal.ofBits .f32 0x3A800000#32 : S512x1024.Idx → EReal) := by
  unfold k0_pay9
  dsimp only
  rw [e_value]
  rfl

/-- The sum of a whole block. -/
theorem total (A : Fin 512 → Fin 1024 → EReal) :
    extractAt ![0, 0, 0] (shapeCast S1x1x1 (multiReduction .add [1, 2] S1 (shapeCast S1x512x1024 (emat A : FVec Ideal S512x1024 .f32)
      shapeCasts_S512x1024_S1x512x1024) 0x00000000#32 reduces_S1x512x1024_S1 (.inl rfl) rfl : FVec Ideal S1 .f32) shapeCasts_S1_S1x1x1)
      inpos_S1x1x1_p0_0_0 = ∑ i, ∑ j, A i j := by
  refine (Ideal.multiReduction_add_total (shapeCast S1x512x1024 (emat A : FVec Ideal S512x1024 .f32) shapeCasts_S512x1024_S1x512x1024)
    0x00000000#32 reduces_S1x512x1024_S1 (by decide) (.inl rfl) rfl _).trans ?_
  refine (Equiv.sum_comp (Shape.reshapeEquiv shapeCasts_S512x1024_S1x512x1024) (emat A : S512x1024.Idx → EReal)).trans ?_
  exact sum_idx2 (n0 := 512) (n1 := 1024) _

/-- The running loss: what was there, and the block's squares times the constant. -/
theorem loss_value (h X Y : Fin 512 → Fin 1024 → EReal) (G U D : Fin 2816 → Fin 1024 → EReal) (L : Fin 1 → Fin 128 → EReal) :
    k0_pay10 (F := Ideal) (emat h) (emat G) (emat U) (emat D) (emat X) (emat Y) (emat L)
      = (emat fun i q => L i q + Ideal.ofBits .f32 0x3A000000#32
          * ∑ a, ∑ j, err G U D (X a) (h a) (Y a) j * err G U D (X a) (h a) (Y a) j : S1x128.Idx → EReal) := by
  unfold k0_pay10
  dsimp only
  rw [shapeCast_self, e_value, e_mulf]
  erw [total]
  rfl

/-- The loss starts at zero. -/
theorem loss_zero : (k0_pay7 (F := Ideal) : FVec Ideal S1x128 .f32) = (emat fun _ _ => 0 : S1x128.Idx → EReal) :=
  funext fun _ => Ideal.ofBits_zero_f32

end Cert.Fwd3.Value

end
-- ==== Proof.Fwd3Arrays.lean ====
/- The result arrays of the feed-forward forward kernel with the loss: each grid point's blocks are 512 rows of the arrays, so the
   results are the functions of `FwdSpec` of each of the 8192 rows; the loss runs over the grid and ends as a sum over all rows. -/
module

public import proofs.«01_k».proof.Proof.Fwd3Block
public import proofs.«01_k».proof.Proof.Fwd3Value
public import proofs.«01_k».proof.Proof.RowBlocks

@[expose] public section

noncomputable section

namespace Cert.Fwd3.Arrays

open Cert.Kernel3Ideal Cert.Kernel3Ideal.Gen Cert.Kernel3Ideal.Value Cert.EMat Cert.Rows Cert.Fwd Cert.Fwd3.Block Cert.Fwd3.Value
open Idealize.ShloMosaic Idealize.ShloMosaic.TcCoe Idealize.ShloMosaic.ValueIdx Idealize.SL.Sem

/-- The constant of the loss: a half over the row's length. -/
def lossC : EReal := Ideal.ofBits .f32 0x3A000000#32

theorem lossC_eq : lossC = ((1 / 2048 : ℝ) : EReal) := by
  unfold lossC
  simp [Ideal.ofBits, Ideal.ieee, -EReal.coe_mul, -EReal.coe_neg]; norm_num

/-- The constant goes into a sum. -/
theorem loss_sum (f : Fin 512 → EReal) : Ideal.ofBits .f32 0x3A000000#32 * ∑ a, f a = ∑ a, lossC * f a :=
  mul_sum lossC (by rw [lossC_eq]; exact EReal.coe_nonneg.mpr (by norm_num)) (by rw [lossC_eq]; exact EReal.coe_ne_top _) _ _

/-- Point `t`'s rows of an array of 8192 rows. -/
def rows {N : Nat} (t : Fin cfg0.N) (A : Fin 8192 → Fin N → EReal) (a : Fin 512) : Fin N → EReal := A (row (n := 16) 512 8192 rfl t a)

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = t.val ∧ win0_5.index t (1 : Fin 2) = 0 := by decide +kernel
theorem idx6 : ∀ t : Fin grid0.N, win0_6.index t (0 : Fin 2) = t.val ∧ win0_6.index t (1 : Fin 2) = 0 := by decide +kernel
theorem idx7 : ∀ t : Fin grid0.N, win0_7.index t (0 : Fin 2) = t.val ∧ win0_7.index t (1 : Fin 2) = 0 := by decide +kernel
theorem idx8 : ∀ t : Fin grid0.N, win0_8.index t (0 : Fin 2) = t.val ∧ win0_8.index t (1 : Fin 2) = 0 := by decide +kernel
theorem idx9 : ∀ t : Fin grid0.N, win0_9.index t (0 : Fin 2) = t.val ∧ win0_9.index t (1 : Fin 2) = 0 := by decide +kernel
theorem idx10 : ∀ t : Fin grid0.N, win0_10.index t (0 : Fin 2) = 0 ∧ win0_10.index t (1 : Fin 2) = 0 := by decide +kernel

/-! The index of a block in its array: rows `512 t` on, or the whole array. -/

theorem emb0 (t : Fin cfg0.N) (j : S512x1024.Idx) : ((cfg0.win 0).blk t).view.emb j = (ix2 (row (n := 16) 512 8192 rfl t (j 0)) (j 1) : S8192x1024.Idx) :=
  funext fun a => match a with | ⟨0, _⟩ => at_row rfl t (j 0) (idx0 t).1 _ rfl | ⟨1, _⟩ => at_same (j 1) (idx0 t).2 _ rfl
theorem emb1 (t : Fin cfg0.N) (j : S1x1024.Idx) : ((cfg0.win 1).blk t).view.emb j = j :=
  funext fun a => match a with | ⟨0, _⟩ => at_same (j 0) (idx1 t).1 _ rfl | ⟨1, _⟩ => at_same (j 1) (idx1 t).2 _ rfl
theorem emb2 (t : Fin cfg0.N) (j : S2816x1024.Idx) : ((cfg0.win 2).blk t).view.emb j = j :=
  funext fun a => match a with | ⟨0, _⟩ => at_same (j 0) (idx2 t).1 _ rfl | ⟨1, _⟩ => at_same (j 1) (idx2 t).2 _ rfl
theorem emb3 (t : Fin cfg0.N) (j : S2816x1024.Idx) : ((cfg0.win 3).blk t).view.emb j = j :=
  funext fun a => match a with | ⟨0, _⟩ => at_same (j 0) (idx3 t).1 _ rfl | ⟨1, _⟩ => at_same (j 1) (idx3 t).2 _ rfl
theorem emb4 (t : Fin cfg0.N) (j : S2816x1024.Idx) : ((cfg0.win 4).blk t).view.emb j = j :=
  funext fun a => match a with | ⟨0, _⟩ => at_same (j 0) (idx4 t).1 _ rfl | ⟨1, _⟩ => at_same (j 1) (idx4 t).2 _ rfl
theorem emb5 (t : Fin cfg0.N) (j : S512x1024.Idx) : ((cfg0.win 5).blk t).view.emb j = (ix2 (row (n := 16) 512 8192 rfl t (j 0)) (j 1) : S8192x1024.Idx) :=
  funext fun a => match a with | ⟨0, _⟩ => at_row rfl t (j 0) (idx5 t).1 _ rfl | ⟨1, _⟩ => at_same (j 1) (idx5 t).2 _ rfl
theorem emb6 (t : Fin cfg0.N) (j : S512x1024.Idx) : ((cfg0.win 6).blk t).view.emb j = (ix2 (row (n := 16) 512 8192 rfl t (j 0)) (j 1) : S8192x1024.Idx) :=
  funext fun a => match a with | ⟨0, _⟩ => at_row rfl t (j 0) (idx6 t).1 _ rfl | ⟨1, _⟩ => at_same (j 1) (idx6 t).2 _ rfl
theorem emb7 (t : Fin cfg0.N) (j : S512x1024.Idx) : ((cfg0.win 7).blk t).view.emb j = (ix2 (row (n := 16) 512 8192 rfl t (j 0)) (j 1) : S8192x1024.Idx) :=
  funext fun a => match a with | ⟨0, _⟩ => at_row rfl t (j 0) (idx7 t).1 _ rfl | ⟨1, _⟩ => at_same (j 1) (idx7 t).2 _ rfl
theorem emb8 (t : Fin cfg0.N) (j : S512x2816.Idx) : ((cfg0.win 8).blk t).view.emb j = (ix2 (row (n := 16) 512 8192 rfl t (j 0)) (j 1) : S8192x2816.Idx) :=
  funext fun a => match a with | ⟨0, _⟩ => at_row rfl t (j 0) (idx8 t).1 _ rfl | ⟨1, _⟩ => at_same (j 1) (idx8 t).2 _ rfl
theorem emb9 (t : Fin cfg0.N) (j : S512x2816.Idx) : ((cfg0.win 9).blk t).view.emb j = (ix2 (row (n := 16) 512 8192 rfl t (j 0)) (j 1) : S8192x2816.Idx) :=
  funext fun a => match a with | ⟨0, _⟩ => at_row rfl t (j 0) (idx9 t).1 _ rfl | ⟨1, _⟩ => at_same (j 1) (idx9 t).2 _ rfl
theorem emb10 (t : Fin cfg0.N) (j : S1x128.Idx) : ((cfg0.win 10).blk t).view.emb j = j :=
  funext fun a => match a with | ⟨0, _⟩ => at_same (j 0) (idx10 t).1 _ rfl | ⟨1, _⟩ => at_same (j 1) (idx10 t).2 _ rfl

variable (m : (ℓ : Loc nD τ sig) → Buf (Elt Ideal) ℓ) (c : Dev nD) (t : Fin cfg0.N)

/-! The input blocks. -/

theorem iblk0 {A : Fin 8192 → Fin 1024 → EReal} (h : V m c main_arg0 = (emat A : S8192x1024.Idx → EReal)) :
    iblk m c 0 t = (emat (rows t A) : S512x1024.Idx → EReal) :=
  funext fun j => (congrFun h (((cfg0.win 0).blk t).view.emb j)).trans (congrArg (emat A) (emb0 t j))
theorem iblk1 {A : Fin 1 → Fin 1024 → EReal} (h : V m c main_v0 = (emat A : S1x1024.Idx → EReal)) :
    iblk m c 1 t = (emat (A) : S1x1024.Idx → EReal) :=
  funext fun j => (congrFun h (((cfg0.win 1).blk t).view.emb j)).trans (congrArg (emat A) (emb1 t j))
theorem iblk2 {A : Fin 2816 → Fin 1024 → EReal} (h : V m c main_v2 = (emat A : S2816x1024.Idx → EReal)) :
    iblk m c 2 t = (emat (A) : S2816x1024.Idx → EReal) :=
  funext fun j => (congrFun h (((cfg0.win 2).blk t).view.emb j)).trans (congrArg (emat A) (emb2 t j))
theorem iblk3 {A : Fin 2816 → Fin 1024 → EReal} (h : V m c main_v4 = (emat A : S2816x1024.Idx → EReal)) :
    iblk m c 3 t = (emat (A) : S2816x1024.Idx → EReal) :=
  funext fun j => (congrFun h (((cfg0.win 3).blk t).view.emb j)).trans (congrArg (emat A) (emb3 t j))
theorem iblk4 {A : Fin 2816 → Fin 1024 → EReal} (h : V m c main_v5 = (emat A : S2816x1024.Idx → EReal)) :
    iblk m c 4 t = (emat (A) : S2816x1024.Idx → EReal) :=
  funext fun j => (congrFun h (((cfg0.win 4).blk t).view.emb j)).trans (congrArg (emat A) (emb4 t j))
theorem iblk5 {A : Fin 8192 → Fin 1024 → EReal} (h : V m c main_arg5 = (emat A : S8192x1024.Idx → EReal)) :
    iblk m c 5 t = (emat (rows t A) : S512x1024.Idx → EReal) :=
  funext fun j => (congrFun h (((cfg0.win 5).blk t).view.emb j)).trans (congrArg (emat A) (emb5 t j))

/-! A point's rows of an array are what the array holds at the output block. -/

theorem cut6 (A : Fin 8192 → Fin 1024 → EReal) : (cfg0.win 6).cut (grid0.coords t) (emat (rows t A) : S512x1024.Idx → EReal)
    = ((cfg0.win 6).blk t).view.read (Elt Ideal) (emat A : S8192x1024.Idx → EReal) :=
  funext fun j => (congrArg (emat A) (emb6 t j)).symm
theorem cover6 (i : S8192x1024.Idx) : ∃ t : Fin cfg0.N, (cfg0.win 6).flush t = true ∧ i ∈ ((cfg0.win 6).blk t).view.set := by
  obtain ⟨t, j, e⟩ := hit (n := 16) (B := 512) (R := 8192) (N := 1024) rfl (by norm_num) (fun t j => congrFun (emb6 t j) 0) (fun t j => congrFun (emb6 t j) 1) i
  exact ⟨t, flush0_6 t, Set.mem_of_eq_of_mem e.symm (((cfg0.win 6).blk t).view.emb_mem_set j)⟩
theorem cut7 (A : Fin 8192 → Fin 1024 → EReal) : (cfg0.win 7).cut (grid0.coords t) (emat (rows t A) : S512x1024.Idx → EReal)
    = ((cfg0.win 7).blk t).view.read (Elt Ideal) (emat A : S8192x1024.Idx → EReal) :=
  funext fun j => (congrArg (emat A) (emb7 t j)).symm
theorem cover7 (i : S8192x1024.Idx) : ∃ t : Fin cfg0.N, (cfg0.win 7).flush t = true ∧ i ∈ ((cfg0.win 7).blk t).view.set := by
  obtain ⟨t, j, e⟩ := hit (n := 16) (B := 512) (R := 8192) (N := 1024) rfl (by norm_num) (fun t j => congrFun (emb7 t j) 0) (fun t j => congrFun (emb7 t j) 1) i
  exact ⟨t, flush0_7 t, Set.mem_of_eq_of_mem e.symm (((cfg0.win 7).blk t).view.emb_mem_set j)⟩
theorem cut8 (A : Fin 8192 → Fin 2816 → EReal) : (cfg0.win 8).cut (grid0.coords t) (emat (rows t A) : S512x2816.Idx → EReal)
    = ((cfg0.win 8).blk t).view.read (Elt Ideal) (emat A : S8192x2816.Idx → EReal) :=
  funext fun j => (congrArg (emat A) (emb8 t j)).symm
theorem cover8 (i : S8192x2816.Idx) : ∃ t : Fin cfg0.N, (cfg0.win 8).flush t = true ∧ i ∈ ((cfg0.win 8).blk t).view.set := by
  obtain ⟨t, j, e⟩ := hit (n := 16) (B := 512) (R := 8192) (N := 2816) rfl (by norm_num) (fun t j => congrFun (emb8 t j) 0) (fun t j => congrFun (emb8 t j) 1) i
  exact ⟨t, flush0_8 t, Set.mem_of_eq_of_mem e.symm (((cfg0.win 8).blk t).view.emb_mem_set j)⟩
theorem cut9 (A : Fin 8192 → Fin 2816 → EReal) : (cfg0.win 9).cut (grid0.coords t) (emat (rows t A) : S512x2816.Idx → EReal)
    = ((cfg0.win 9).blk t).view.read (Elt Ideal) (emat A : S8192x2816.Idx → EReal) :=
  funext fun j => (congrArg (emat A) (emb9 t j)).symm
theorem cover9 (i : S8192x2816.Idx) : ∃ t : Fin cfg0.N, (cfg0.win 9).flush t = true ∧ i ∈ ((cfg0.win 9).blk t).view.set := by
  obtain ⟨t, j, e⟩ := hit (n := 16) (B := 512) (R := 8192) (N := 2816) rfl (by norm_num) (fun t j => congrFun (emb9 t j) 0) (fun t j => congrFun (emb9 t j) 1) i
  exact ⟨t, flush0_9 t, Set.mem_of_eq_of_mem e.symm (((cfg0.win 9).blk t).view.emb_mem_set j)⟩
theorem cut10 (A : Fin 1 → Fin 128 → EReal) : (cfg0.win 10).cut (grid0.coords t) (emat A : S1x128.Idx → EReal)
    = ((cfg0.win 10).blk t).view.read (Elt Ideal) (emat A : S1x128.Idx → EReal) :=
  funext fun j => (congrArg (emat A) (emb10 t j)).symm
theorem cover10 (i : S1x128.Idx) : ∃ t : Fin cfg0.N, (cfg0.win 10).flush t = true ∧ i ∈ ((cfg0.win 10).blk t).view.set := by
  refine ⟨(⟨15, by decide⟩ : Fin cfg0.N), (flush0_10 _).mpr rfl, ?_⟩
  exact Set.mem_of_eq_of_mem (emb10 _ i).symm (((cfg0.win 10).blk (⟨15, by decide⟩ : Fin cfg0.N)).view.emb_mem_set i)

section

variable {X : Fin 8192 → Fin 1024 → EReal} {G : Fin 1024 → EReal} {WG WU : Fin 1024 → Fin 2816 → EReal} {WD : Fin 2816 → Fin 1024 → EReal} {Y : Fin 8192 → Fin 1024 → EReal}
  (hX : m ((c : Thread nD τ).loc main_arg0) = (emat X : S8192x1024.Idx → EReal))
  (hG : m ((c : Thread nD τ).loc main_arg1) = (evec G : S1024.Idx → EReal))
  (hWG : m ((c : Thread nD τ).loc main_arg2) = (emat WG : S1024x2816.Idx → EReal))
  (hWU : m ((c : Thread nD τ).loc main_arg3) = (emat WU : S1024x2816.Idx → EReal))
  (hWD : m ((c : Thread nD τ).loc main_arg4) = (emat WD : S2816x1024.Idx → EReal))
  (hY : m ((c : Thread nD τ).loc main_arg5) = (emat Y : S8192x1024.Idx → EReal))
include hX hG hWG hWU hWD hY

/-! The input blocks, from the arguments. -/

theorem b0 : iblk m c 0 t = (emat (rows t X) : S512x1024.Idx → EReal) := iblk0 m c t ((V_main_arg0 m c).trans hX)
theorem b1 : iblk m c 1 t = (emat fun _ k => G k : S1x1024.Idx → EReal) := iblk1 m c t (by
  unfold_abbrev_sides
  after_results
  simp only [hG]
  exact e_inDimRow (by norm_num) G _)
theorem b2 : iblk m c 2 t = (emat fun f k => WG k f : S2816x1024.Idx → EReal) := iblk2 m c t (by
  unfold_abbrev_sides
  after_results
  simp only [hWG]
  exact e_transpose WG _)
theorem b3 : iblk m c 3 t = (emat fun f k => WU k f : S2816x1024.Idx → EReal) := iblk3 m c t (by
  unfold_abbrev_sides
  after_results
  simp only [hWU]
  exact e_transpose WU _)
theorem b4 : iblk m c 4 t = (emat WD : S2816x1024.Idx → EReal) := iblk4 m c t (by
  unfold_abbrev_sides
  after_results
  exact hWD)
theorem b5 : iblk m c 5 t = (emat (rows t Y) : S512x1024.Idx → EReal) := iblk5 m c t ((V_main_arg5 m c).trans hY)

/-! What each point writes back. -/

theorem flushed6_eq : (dats m 0 c).flushed 6 t = ((cfg0.win 6).blk t).view.read (Elt Ideal) (emat (fun i j => err (fun f k => WG k f) (fun f k => WU k f) WD (X i) (norm G (X i)) (Y i) j * Ideal.ofBits .f32 0x3A800000#32) : S8192x1024.Idx → EReal) := by
  by_cases h2 : t.val % 16 = 0
  · rw [flushed6_A m c t h2, out_A_6, b0 m c t hX hG hWG hWU hWD hY, b1 m c t hX hG hWG hWU hWD hY, b2 m c t hX hG hWG hWU hWD hY, b3 m c t hX hG hWG hWU hWD hY, b4 m c t hX hG hWG hWU hWD hY, b5 m c t hX hG hWG hWU hWD hY, h_value, dy_value]
    exact cut6 t (fun i j => err (fun f k => WG k f) (fun f k => WU k f) WD (X i) (norm G (X i)) (Y i) j * Ideal.ofBits .f32 0x3A800000#32)
  · rw [flushed6_B m c t h2, out_B_6, b0 m c t hX hG hWG hWU hWD hY, b1 m c t hX hG hWG hWU hWD hY, b2 m c t hX hG hWG hWU hWD hY, b3 m c t hX hG hWG hWU hWD hY, b4 m c t hX hG hWG hWU hWD hY, b5 m c t hX hG hWG hWU hWD hY, h_value, dy_value]
    exact cut6 t (fun i j => err (fun f k => WG k f) (fun f k => WU k f) WD (X i) (norm G (X i)) (Y i) j * Ideal.ofBits .f32 0x3A800000#32)
theorem flushed7_eq : (dats m 0 c).flushed 7 t = ((cfg0.win 7).blk t).view.read (Elt Ideal) (emat (fun i => norm G (X i)) : S8192x1024.Idx → EReal) := by
  by_cases h2 : t.val % 16 = 0
  · rw [flushed7_A m c t h2, out_A_7, b0 m c t hX hG hWG hWU hWD hY, b1 m c t hX hG hWG hWU hWD hY, h_value]
    exact cut7 t (fun i => norm G (X i))
  · rw [flushed7_B m c t h2, out_B_7, b0 m c t hX hG hWG hWU hWD hY, b1 m c t hX hG hWG hWU hWD hY, h_value]
    exact cut7 t (fun i => norm G (X i))
theorem flushed8_eq : (dats m 0 c).flushed 8 t = ((cfg0.win 8).blk t).view.read (Elt Ideal) (emat (fun i => pre (fun f k => WG k f) (norm G (X i))) : S8192x2816.Idx → EReal) := by
  by_cases h2 : t.val % 16 = 0
  · rw [flushed8_A m c t h2, out_A_8, b0 m c t hX hG hWG hWU hWD hY, b1 m c t hX hG hWG hWU hWD hY, b2 m c t hX hG hWG hWU hWD hY, h_value, gate_value]
    exact cut8 t (fun i => pre (fun f k => WG k f) (norm G (X i)))
  · rw [flushed8_B m c t h2, out_B_8, b0 m c t hX hG hWG hWU hWD hY, b1 m c t hX hG hWG hWU hWD hY, b2 m c t hX hG hWG hWU hWD hY, h_value, gate_value]
    exact cut8 t (fun i => pre (fun f k => WG k f) (norm G (X i)))
theorem flushed9_eq : (dats m 0 c).flushed 9 t = ((cfg0.win 9).blk t).view.read (Elt Ideal) (emat (fun i => pre (fun f k => WU k f) (norm G (X i))) : S8192x2816.Idx → EReal) := by
  by_cases h2 : t.val % 16 = 0
  · rw [flushed9_A m c t h2, out_A_9, b0 m c t hX hG hWG hWU hWD hY, b1 m c t hX hG hWG hWU hWD hY, b3 m c t hX hG hWG hWU hWD hY, h_value, up_value]
    exact cut9 t (fun i => pre (fun f k => WU k f) (norm G (X i)))
  · rw [flushed9_B m c t h2, out_B_9, b0 m c t hX hG hWG hWU hWD hY, b1 m c t hX hG hWG hWU hWD hY, b3 m c t hX hG hWG hWU hWD hY, h_value, up_value]
    exact cut9 t (fun i => pre (fun f k => WU k f) (norm G (X i)))

/-! The result arrays. -/

/-- Result 0: the gradient of the loss in the output rows. -/
theorem final6 : (dats m 0 c).arrAt 6 cfg0.N = (emat (fun i j => err (fun f k => WG k f) (fun f k => WU k f) WD (X i) (norm G (X i)) (Y i) j * Ideal.ofBits .f32 0x3A800000#32) : S8192x1024.Idx → EReal) :=
  (dats m 0 c).arrAt_eq_of_cover 6 _ (fun t _ => flushed6_eq m c t hX hG hWG hWU hWD hY) cover6
/-- Result 1: the normalised rows. -/
theorem final7 : (dats m 0 c).arrAt 7 cfg0.N = (emat (fun i => norm G (X i)) : S8192x1024.Idx → EReal) :=
  (dats m 0 c).arrAt_eq_of_cover 7 _ (fun t _ => flushed7_eq m c t hX hG hWG hWU hWD hY) cover7
/-- Result 2: the gate's pre-activation. -/
theorem final8 : (dats m 0 c).arrAt 8 cfg0.N = (emat (fun i => pre (fun f k => WG k f) (norm G (X i))) : S8192x2816.Idx → EReal) :=
  (dats m 0 c).arrAt_eq_of_cover 8 _ (fun t _ => flushed8_eq m c t hX hG hWG hWU hWD hY) cover8
/-- Result 3: the up projection. -/
theorem final9 : (dats m 0 c).arrAt 9 cfg0.N = (emat (fun i => pre (fun f k => WU k f) (norm G (X i))) : S8192x2816.Idx → EReal) :=
  (dats m 0 c).arrAt_eq_of_cover 9 _ (fun t _ => flushed9_eq m c t hX hG hWG hWU hWD hY) cover9

/-- The running loss after point `n`: the constant times the squares of the rows of the blocks up to it. -/
theorem chain : ∀ (n : ℕ) (hn : n < cfg0.N), (outsAt0 m c n hn).2.2.2.2
    = (emat fun _ _ => part 512 (fun i => lossC * ∑ j, err (fun f k => WG k f) (fun f k => WU k f) WD (X i) (norm G (X i)) (Y i) j * err (fun f k => WG k f) (fun f k => WU k f) WD (X i) (norm G (X i)) (Y i) j) (n + 1) : S1x128.Idx → EReal)
  | 0, hn => by
    have h := outsAt0_A m c ⟨0, hn⟩ (Nat.zero_mod _)
    rw [h]
    dsimp only
    rw [out_A_10, b0 m c ⟨0, hn⟩ hX hG hWG hWU hWD hY, b1 m c ⟨0, hn⟩ hX hG hWG hWU hWD hY, b2 m c ⟨0, hn⟩ hX hG hWG hWU hWD hY, b3 m c ⟨0, hn⟩ hX hG hWG hWU hWD hY, b4 m c ⟨0, hn⟩ hX hG hWG hWU hWD hY, b5 m c ⟨0, hn⟩ hX hG hWG hWU hWD hY, h_value, loss_zero]
    refine (loss_value _ _ _ _ _ _ fun _ _ => 0).trans (congrArg emat (funext fun _ => funext fun _ => ?_))
    rw [part_succ (n := 16) 512 rfl _ ⟨0, hn⟩, part_zero]
    exact congrArg ((0 : EReal) + ·) (loss_sum _)
  | n + 1, hn => by
    have hlt : n + 1 < 16 := hn
    have h := outsAt0_B m c ⟨n + 1, hn⟩ (by show ¬(n + 1) % 16 = 0; omega)
    rw [h]
    dsimp only
    rw [out_B_10, b0 m c ⟨n + 1, hn⟩ hX hG hWG hWU hWD hY, b1 m c ⟨n + 1, hn⟩ hX hG hWG hWU hWD hY, b2 m c ⟨n + 1, hn⟩ hX hG hWG hWU hWD hY, b3 m c ⟨n + 1, hn⟩ hX hG hWG hWU hWD hY, b4 m c ⟨n + 1, hn⟩ hX hG hWG hWU hWD hY, b5 m c ⟨n + 1, hn⟩ hX hG hWG hWU hWD hY, h_value]
    have e := chain n (Nat.lt_of_succ_lt hn)
    refine (congrArg (k0_pay10 (F := Ideal) _ _ _ _ _ _) e).trans ?_
    refine (loss_value _ _ _ _ _ _ _).trans (congrArg emat (funext fun _ => funext fun _ => ?_))
    rw [part_succ (n := 16) 512 rfl _ ⟨n + 1, hn⟩]
    exact congrArg (part 512 (fun i => lossC * ∑ j, err (fun f k => WG k f) (fun f k => WU k f) WD (X i) (norm G (X i)) (Y i) j * err (fun f k => WG k f) (fun f k => WU k f) WD (X i) (norm G (X i)) (Y i) j) (n + 1) + ·) (loss_sum _)

/-- Result 4: the loss, the same number everywhere. -/
theorem final10 : (dats m 0 c).arrAt 10 cfg0.N = (emat fun _ _ => ∑ i, (fun i => lossC * ∑ j, err (fun f k => WG k f) (fun f k => WU k f) WD (X i) (norm G (X i)) (Y i) j * err (fun f k => WG k f) (fun f k => WU k f) WD (X i) (norm G (X i)) (Y i) j) i : S1x128.Idx → EReal) := by
  refine (dats m 0 c).arrAt_eq_of_cover 10 _ (fun t hf => ?_) cover10
  have h15 := (flush0_10 t).mp hf
  have hlt : t.val < 16 := t.isLt
  have ht : t.val + 1 = 16 := by omega
  rw [flushed10, chain m c hX hG hWG hWU hWD hY, ht, part_all 512 16 rfl]
  exact cut10 t _

end

end Cert.Fwd3.Arrays

end
-- ==== Proof.Fwd3Reference.lean ====
/- The reference of the feed-forward forward kernel with the loss, over the extended reals: its results as the functions of
   `FwdSpec` of each row. -/
module

public import proofs.«01_k».proof.Proof.FwdSpec
public import proofs.«01_k».proof.Proof.ENorm
public import proofs.«01_k».proof.Proof.Gen.Reference3Ideal.Read

@[expose] public section

noncomputable section

namespace Cert.Fwd3.Reference

open Idealize.ShloMosaic Cert.EMat Cert.Fwd Cert.Reference3Ideal Cert.Reference3Ideal.Gen Cert.Reference3Ideal.Read

variable (X : Fin 8192 → Fin 1024 → EReal) (G : Fin 1024 → EReal) (WG WU : Fin 1024 → Fin 2816 → EReal) (WD : Fin 2816 → Fin 1024 → EReal)

theorem dot_in : dot_S8192x1024_S1024x2816_S8192x2816_1_0_0_1_n_n = DotDims.plain 8192 1024 2816 := rfl
theorem dot_out : dot_S8192x2816_S2816x1024_S8192x1024_1_0_0_1_n_n = DotDims.plain 8192 2816 1024 := rfl

/-- The rows normalised. -/
theorem r_v12 : val_main_v12 (F := Ideal) (emat X) (evec G) = (emat fun i => norm G (X i) : S8192x1024.Idx → EReal) := by
  unfold val_main_v12 val_main_v11 val_main_v10 val_main_v9 val_main_v8 val_main_v7 val_main_v6 val_main_v5 val_main_v4 val_main_v3 val_main_v2 val_main_v1 val_main_v0 val_main_cst val_main_cst_0 val_main_cst_1
  exact Cert.ENorm.h_norm (by norm_num) (by norm_num) _ X G _ _ _ _ _ _ _

/-- The gate's pre-activation. -/
theorem r_v13 : val_main_v13 (F := Ideal) (emat X) (evec G) (emat WG) = (emat fun i => pre (fun f k => WG k f) (norm G (X i)) : S8192x2816.Idx → EReal) := by
  unfold val_main_v13
  rw [r_v12, dot_in]
  exact e_dot none _ _

/-- The up projection. -/
theorem r_v14 : val_main_v14 (F := Ideal) (emat X) (evec G) (emat WU) = (emat fun i => pre (fun f k => WU k f) (norm G (X i)) : S8192x2816.Idx → EReal) := by
  unfold val_main_v14
  rw [r_v12, dot_in]
  exact e_dot none _ _

/-- The rows normalised, inside the layer. -/
theorem r_v27 : val_main_v27 (F := Ideal) (emat X) (evec G) = (emat fun i => norm G (X i) : S8192x1024.Idx → EReal) := by
  unfold val_main_v27 val_main_v26 val_main_v25 val_main_v24 val_main_v23 val_main_v22 val_main_v21 val_main_v20 val_main_v19 val_main_v18 val_main_v17 val_main_v16 val_main_v15 val_main_cst_2 val_main_cst_3 val_main_cst_4
  exact Cert.ENorm.h_norm (by norm_num) (by norm_num) _ X G _ _ _ _ _ _ _

/-- The gate's pre-activation, inside the layer. -/
theorem r_v28 : val_main_v28 (F := Ideal) (emat X) (evec G) (emat WG) = (emat fun i => pre (fun f k => WG k f) (norm G (X i)) : S8192x2816.Idx → EReal) := by
  unfold val_main_v28
  rw [r_v27, dot_in]
  exact e_dot none _ _

/-- The up projection, inside the layer. -/
theorem r_v29 : val_main_v29 (F := Ideal) (emat X) (evec G) (emat WU) = (emat fun i => pre (fun f k => WU k f) (norm G (X i)) : S8192x2816.Idx → EReal) := by
  unfold val_main_v29
  rw [r_v27, dot_in]
  exact e_dot none _ _

/-- The gated activation. -/
theorem r_v31 : val_main_v31 (F := Ideal) (emat X) (evec G) (emat WG) (emat WU)
    = (emat fun i => act (fun f k => WG k f) (fun f k => WU k f) (norm G (X i)) : S8192x2816.Idx → EReal) := by
  have h2 : val_main_call0_v2 (F := Ideal) = (emat fun _ _ => one : S8192x2816.Idx → EReal) := rfl
  have h4 : val_main_call0_v4 (F := Ideal) = (emat fun _ _ => one : S8192x2816.Idx → EReal) := rfl
  unfold val_main_v31 val_main_v30 val_main_call0_v5 val_main_call0_v3 val_main_call0_v1 val_main_call0_v0
  rw [r_v28, r_v29, h2, h4]
  rfl

/-- The output rows. -/
theorem r_v35 : val_main_v35 (F := Ideal) (emat X) (evec G) (emat WG) (emat WU) (emat WD)
    = (emat fun i => out (fun f k => WG k f) (fun f k => WU k f) WD (X i) (norm G (X i)) : S8192x1024.Idx → EReal) := by
  have h32 : val_main_v32 (F := Ideal) (emat X) (evec G) (emat WG) (emat WU) (emat WD)
      = (emat fun i j => ∑ f, act (fun f k => WG k f) (fun f k => WU k f) (norm G (X i)) f * WD f j : S8192x1024.Idx → EReal) := by
    unfold val_main_v32
    rw [r_v31, dot_out]
    exact e_dot none _ _
  have h33 : val_main_v33 (F := Ideal) = (emat fun _ _ => half : S8192x1024.Idx → EReal) := rfl
  unfold val_main_v35 val_main_v34
  rw [h32, h33]
  rfl

/-- Result: the normalised rows. -/
theorem r_v51 : val_main_v51 (F := Ideal) (emat X) (evec G) = (emat fun i => norm G (X i) : S8192x1024.Idx → EReal) := by
  unfold val_main_v51
  rw [r_v12]
  rfl

/-- Result: the gate's pre-activation. -/
theorem r_v52 : val_main_v52 (F := Ideal) (emat X) (evec G) (emat WG) = (emat fun i => pre (fun f k => WG k f) (norm G (X i)) : S8192x2816.Idx → EReal) := by
  unfold val_main_v52
  rw [r_v13]
  rfl

/-- Result: the up projection. -/
theorem r_v53 : val_main_v53 (F := Ideal) (emat X) (evec G) (emat WU) = (emat fun i => pre (fun f k => WU k f) (norm G (X i)) : S8192x2816.Idx → EReal) := by
  unfold val_main_v53
  rw [r_v14]
  rfl

variable (Y : Fin 8192 → Fin 1024 → EReal)

/-- The distance of a row's output to the target. -/
def err (i : Fin 8192) (j : Fin 1024) : EReal := out (fun f k => WG k f) (fun f k => WU k f) WD (X i) (norm G (X i)) j - Y i j

theorem r_v36 : val_main_v36 (F := Ideal) (emat X) (evec G) (emat WG) (emat WU) (emat WD) (emat Y) = (emat fun i => err X G WG WU WD Y i : S8192x1024.Idx → EReal) := by
  unfold val_main_v36
  rw [r_v35]
  rfl

theorem half_eq : half = ((1 / 2 : ℝ) : EReal) := Cert.Lift.ofBits_half
theorem len_eq : len = ((1024 : ℝ) : EReal) := Cert.Lift.ofBits_1024
theorem one_eq : one = ((1 : ℝ) : EReal) := Cert.Lift.ofBits_one
theorem two_eq : Ideal.ofBits .f32 0x40000000#32 = ((2 : ℝ) : EReal) := by
  simp [Ideal.ofBits, Ideal.ieee, -EReal.coe_mul, -EReal.coe_neg]; norm_num
theorem inv_len : Ideal.ofBits .f32 0x3A800000#32 = ((1 / 1024 : ℝ) : EReal) := by
  simp [Ideal.ofBits, Ideal.ieee, -EReal.coe_mul, -EReal.coe_neg]; norm_num
theorem half_inv : Ideal.ofBits .f32 0x3A000000#32 = ((1 / 2048 : ℝ) : EReal) := by
  simp [Ideal.ofBits, Ideal.ieee, -EReal.coe_mul, -EReal.coe_neg]; norm_num

/-- Dividing by the length is multiplying by its inverse. -/
theorem div_len (a : EReal) : Ideal.div a len = a * ((1 / 1024 : ℝ) : EReal) := by
  rw [len_eq]
  exact (Ideal.div_coe (by norm_num : (1024 : ℝ) ≠ 0) a).trans (by norm_num)

/-- Result: the gradient of the loss in the output rows. -/
theorem r_v50 : val_main_v50 (F := Ideal) (emat X) (evec G) (emat WG) (emat WU) (emat WD) (emat Y)
    = (emat fun i j => err X G WG WU WD Y i j * Ideal.ofBits .f32 0x3A800000#32 : S8192x1024.Idx → EReal) := by
  have h48 : val_main_v48 (F := Ideal) = (evec fun _ => Ideal.div (half * one) len : S8192.Idx → EReal) := rfl
  have h49 : val_main_v49 (F := Ideal) = (emat fun _ _ => Ideal.div (half * one) len : S8192x1024.Idx → EReal) := by
    unfold val_main_v49
    rw [h48]
    exact e_inDimRows (by norm_num) _ _
  have h39 : val_main_v39 (F := Ideal) (emat X) (evec G) (emat WG) (emat WU) (emat WD) (emat Y) = (emat fun i j => Ideal.ofBits .f32 0x40000000#32 * err X G WG WU WD Y i j : S8192x1024.Idx → EReal) := by
    unfold val_main_v39
    rw [r_v36]
    rfl
  unfold val_main_v50
  rw [h49, h39, e_mulf]
  refine congrArg emat (funext fun i => funext fun j => ?_)
  rw [div_len, half_eq, one_eq, two_eq, inv_len, ← EReal.coe_mul, ← EReal.coe_mul, ← mul_assoc, ← EReal.coe_mul, mul_comm]
  norm_num

/-- Result: the loss. -/
theorem r_v54 : val_main_v54 (F := Ideal) (emat X) (evec G) (emat WG) (emat WU) (emat WD) (emat Y)
    = (emat fun _ _ => ∑ i, Ideal.ofBits .f32 0x3A000000#32 * ∑ j, err X G WG WU WD Y i j * err X G WG WU WD Y i j : S1x128.Idx → EReal) := by
  have c0 : val_main_cst_7 (F := Ideal) = eall S_ 0 := funext fun _ => Ideal.ofBits_zero_f32
  have c1 : val_main_cst_9 (F := Ideal) = eall S_ 0 := funext fun _ => Ideal.ofBits_zero_f32
  have h40 : val_main_v40 (F := Ideal) (emat X) (evec G) (emat WG) (emat WU) (emat WD) (emat Y) = (evec fun i => ∑ j, err X G WG WU WD Y i j * err X G WG WU WD Y i j : S8192.Idx → EReal) := by
    unfold val_main_v40 val_main_v37
    rw [r_v36, c0, e_mulf]
    exact e_hostRowSum _ _ _
  have h41 : val_main_v41 (F := Ideal) = (evec fun _ => len : S8192.Idx → EReal) := rfl
  have h42 : val_main_v42 (F := Ideal) (emat X) (evec G) (emat WG) (emat WU) (emat WD) (emat Y) = (evec fun i => Ideal.div (∑ j, err X G WG WU WD Y i j * err X G WG WU WD Y i j) len : S8192.Idx → EReal) := by
    unfold val_main_v42
    rw [h40, h41]
    rfl
  have h43 : val_main_v43 (F := Ideal) (emat X) (evec G) (emat WG) (emat WU) (emat WD) (emat Y) = eall S_ (∑ i, Ideal.div (∑ j, err X G WG WU WD Y i j * err X G WG WU WD Y i j) len) := by
    unfold val_main_v43
    rw [h42, c1]
    exact v_hostTotal _ _ _
  have h44 : val_main_v44 (F := Ideal) (emat X) (evec G) (emat WG) (emat WU) (emat WD) (emat Y) = eall S_ (half * ∑ i, Ideal.div (∑ j, err X G WG WU WD Y i j * err X G WG WU WD Y i j) len) := by
    unfold val_main_v44
    rw [h43]
    rfl
  unfold val_main_v54
  rw [h44]
  refine (e_inDimScalar _ _).trans (congrArg emat (funext fun _ => funext fun _ => ?_))
  rw [mul_sum half (by rw [half_eq]; exact EReal.coe_nonneg.mpr (by norm_num)) (by rw [half_eq]; exact EReal.coe_ne_top _)]
  refine Finset.sum_congr rfl fun i _ => ?_
  rw [div_len, half_eq, half_inv, mul_comm, mul_assoc, ← EReal.coe_mul, mul_comm]
  norm_num

end Cert.Fwd3.Reference

end
-- ==== Proof.Fwd3Claims.lean ====
/- The claims about the feed-forward forward kernel with the loss: over the extended reals its results are the reference's, of any
   arguments. -/
module

public import proofs.«01_k».proof.Defs
public import proofs.«01_k».proof.Proof.Fwd3Arrays
public import proofs.«01_k».proof.Proof.Fwd3Reference

@[expose] public section

noncomputable section

namespace Cert.Fwd3.Claims

open Idealize.ShloMosaic Idealize.SL.Sem Cert.EMat

/-- The reference runs, keeps its arguments, and declares no semaphore. -/
theorem frame_r : Cert.quiescent_Reference3Ideal := by
  intro m ρ _
  exact (θ_run Cert.Reference3Ideal.defs _ _).mono
    (fun r h => ⟨fun c => (h c).2.2.2.2.2, sem_eq_zero_of_no_sems (by decide) r.2⟩) (Cert.Reference3Ideal.Value.run m ρ)

/-- The kernel's results are the reference's. -/
theorem algebraic : Cert.algebraic_Kernel3Ideal_Reference3Ideal := by
  intro m ρ m' ρ' _ hagree
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N, fun c => (Cert.Kernel3Ideal.Gen.dats m 0 c).arrAt 8 Cert.Kernel3Ideal.cfg0.N, fun c => (Cert.Kernel3Ideal.Gen.dats m 0 c).arrAt 9 Cert.Kernel3Ideal.cfg0.N, fun c => (Cert.Kernel3Ideal.Gen.dats m 0 c).arrAt 10 Cert.Kernel3Ideal.cfg0.N, Cert.Kernel3Ideal.Value.run_blocks m ρ, ?_⟩
  refine (θ_run Cert.Reference3Ideal.defs _ _).mono (fun r h c => ?_) (Cert.Reference3Ideal.Value.run m' ρ')
  obtain ⟨a0, a1, a2, a3, a4, a5⟩ := hagree c
  obtain ⟨r0, r1, r2, r3, r4, k⟩ := h c
  have hX := emat_eq (M := 8192) (N := 1024) (m ((c.tc : Thread Cert.Kernel3Ideal.nD Cert.Kernel3Ideal.τ).loc Cert.Kernel3Ideal.main_arg0))
  have x0 := a0.trans hX
  have hG := evec_eq (N := 1024) (m ((c.tc : Thread Cert.Kernel3Ideal.nD Cert.Kernel3Ideal.τ).loc Cert.Kernel3Ideal.main_arg1))
  have x1 := a1.trans hG
  have hWG := emat_eq (M := 1024) (N := 2816) (m ((c.tc : Thread Cert.Kernel3Ideal.nD Cert.Kernel3Ideal.τ).loc Cert.Kernel3Ideal.main_arg2))
  have x2 := a2.trans hWG
  have hWU := emat_eq (M := 1024) (N := 2816) (m ((c.tc : Thread Cert.Kernel3Ideal.nD Cert.Kernel3Ideal.τ).loc Cert.Kernel3Ideal.main_arg3))
  have x3 := a3.trans hWU
  have hWD := emat_eq (M := 2816) (N := 1024) (m ((c.tc : Thread Cert.Kernel3Ideal.nD Cert.Kernel3Ideal.τ).loc Cert.Kernel3Ideal.main_arg4))
  have x4 := a4.trans hWD
  have hY := emat_eq (M := 8192) (N := 1024) (m ((c.tc : Thread Cert.Kernel3Ideal.nD Cert.Kernel3Ideal.τ).loc Cert.Kernel3Ideal.main_arg5))
  have x5 := a5.trans hY
  refine ⟨?_, ?_, ?_, ?_, ?_, k⟩
  · rw [r0, Cert.Reference3Ideal.Read.val_main_v50_eq, x0, x1, x2, x3, x4, x5, Cert.Fwd3.Reference.r_v50]
    exact (Cert.Fwd3.Arrays.final6 m c hX hG hWG hWU hWD hY).symm
  · rw [r1, Cert.Reference3Ideal.Read.val_main_v51_eq, x0, x1, Cert.Fwd3.Reference.r_v51]
    exact (Cert.Fwd3.Arrays.final7 m c hX hG hWG hWU hWD hY).symm
  · rw [r2, Cert.Reference3Ideal.Read.val_main_v52_eq, x0, x1, x2, Cert.Fwd3.Reference.r_v52]
    exact (Cert.Fwd3.Arrays.final8 m c hX hG hWG hWU hWD hY).symm
  · rw [r3, Cert.Reference3Ideal.Read.val_main_v53_eq, x0, x1, x3, Cert.Fwd3.Reference.r_v53]
    exact (Cert.Fwd3.Arrays.final9 m c hX hG hWG hWU hWD hY).symm
  · rw [r4, Cert.Reference3Ideal.Read.val_main_v54_eq, x0, x1, x2, x3, x4, x5, Cert.Fwd3.Reference.r_v54]
    exact (Cert.Fwd3.Arrays.final10 m c hX hG hWG hWU hWD hY).symm

end Cert.Fwd3.Claims

end
-- ==== Proof.WGradBlock.lean ====
/- What one grid point of the weight-gradient kernel of a feed-forward weight leaves in its accumulator and, at the last
   of a tile's points, in its output block: the running product of the two operands' blocks, read back from the stores. -/
module

public import proofs.«01_k».proof.Proof.Gen.Kernel4Ideal.Value
public import proofs.«01_k».proof.Proof.EMat

@[expose] public section

noncomputable section

namespace Cert.WGrad.Block

open Cert.Kernel4Ideal Cert.Kernel4Ideal.Gen Idealize.ShloMosaic Idealize.ShloMosaic.TcCoe Idealize.SL.Sem Cert.EMat

theorem hz : (![0, 0] : Fin 2 → Nat) = fun _ => 0 := funext fun a => by fin_cases a <;> rfl

section

variable {F : FTy → Type} [FloatOps F]
variable (c : Dev nD) (i : grid0.Coords)
  (a3 : Memref sig .tc .vmem S2048x1408 .bf16) (h3 : a3.IsWhole)
  (a4 : Memref sig .tc .vmem S2048x1024 .bf16) (h4 : a4.IsWhole)
  (a5 : Memref sig .tc .vmem S1408x1024 .bf16) (h5 : a5.IsWhole)
  (a6 : Memref sig .tc .vmem S1408x1024 .f32) (h6 : a6.IsWhole)
  (x : Vec F S2048x1408 .bf16) (y : Vec F S2048x1024 .bf16)

/-- The accumulator after a tile's first point: the first product. -/
theorem acc_A (hc0 : cond0_0 i) (hc1 : ¬cond0_1 i) :
    sout0_A_0 c i a3 h3 a4 h4 a5 h5 a6 h6 hc0 hc1 x y = k0_pay2 k0_pay1 x y := by
  unfold sout0_A_0
  rw [View.read_writes_junk_eq_canon]
  unfold kernelRun0_A
  dsimp only
  sl_unfold_words
  simp only [View.canon_unit_zero (S := S1408x1024) hz, View.readCov_unit_zero (S := S1408x1024) _ hz, View.canon_cons_unit_zero (S := S1408x1024) hz,
    View.readAt_eq_ld, h3.read_unread, h4.read_unread, h6.read_unread, View.ld_unit_zero (S := S2048x1408) hz, View.ld_unit_zero (S := S2048x1024) hz, View.ld_unit_zero (S := S1408x1024) hz]

/-- The accumulator after a middle point: one more product. -/
theorem acc_B (hc0 : ¬cond0_0 i) (hc1 : ¬cond0_1 i) (acc : Vec F S1408x1024 .f32) :
    sout0_B_0 c i a3 h3 a4 h4 a5 h5 a6 h6 hc0 hc1 x y acc = k0_pay2 acc x y := by
  unfold sout0_B_0
  rw [View.read_writes_junk_eq_canon]
  unfold kernelRun0_B
  dsimp only
  sl_unfold_words
  simp only [View.canon_unit_zero (S := S1408x1024) hz, View.readCov_unit_zero (S := S1408x1024) _ hz, View.canon_cons_unit_zero (S := S1408x1024) hz,
    View.readAt_eq_ld, h3.read_unread, h4.read_unread, h6.read_unread, View.ld_unit_zero (S := S2048x1408) hz, View.ld_unit_zero (S := S2048x1024) hz, View.ld_unit_zero (S := S1408x1024) hz]

/-- The accumulator after a tile's last point. -/
theorem acc_C (hc0 : ¬cond0_0 i) (hc1 : cond0_1 i) (acc : Vec F S1408x1024 .f32) :
    sout0_C_0 c i a3 h3 a4 h4 a5 h5 a6 h6 hc0 hc1 x y acc = k0_pay2 acc x y := by
  unfold sout0_C_0
  rw [View.read_writes_junk_eq_canon]
  unfold kernelRun0_C
  dsimp only
  sl_unfold_words
  simp only [View.canon_unit_zero (S := S1408x1024) hz, View.readCov_unit_zero (S := S1408x1024) _ hz, View.canon_cons_unit_zero (S := S1408x1024) hz,
    View.readAt_eq_ld, h3.read_unread, h4.read_unread, h6.read_unread, View.ld_unit_zero (S := S2048x1408) hz, View.ld_unit_zero (S := S2048x1024) hz, View.ld_unit_zero (S := S1408x1024) hz]

/-- The output block after a tile's last point: the accumulator, rounded. -/
theorem out_C (hc0 : ¬cond0_0 i) (hc1 : cond0_1 i) (acc : Vec F S1408x1024 .f32) :
    out0_C_2 c i a3 h3 a4 h4 a5 h5 a6 h6 hc0 hc1 x y acc = k0_pay3 (k0_pay2 acc x y) := by
  unfold out0_C_2
  rw [View.read_writes_junk_eq_canon]
  unfold kernelRun0_C
  dsimp only
  sl_unfold_words
  simp only [View.canon_unit_zero (S := S1408x1024) hz, View.readCov_unit_zero (S := S1408x1024) _ hz, View.canon_cons_unit_zero (S := S1408x1024) hz,
    View.readAt_eq_ld, h3.read_unread, h4.read_unread, h6.read_unread, View.ld_unit_zero (S := S2048x1408) hz, View.ld_unit_zero (S := S2048x1024) hz, View.ld_unit_zero (S := S1408x1024) hz]

end

/-! ## On extended reals -/

theorem dot_eq : dot_S2048x1408_S2048x1024_S1408x1024_0_0_1_1_n_n = transposedLhs 1408 2048 1024 := rfl

/-- The accumulator's start. -/
theorem zero_value : k0_pay1 (F := Ideal) = emat fun _ _ => 0 := by
  unfold k0_pay1
  funext i
  exact Ideal.ofBits_zero_f32

/-- One point's step: the two blocks' product over their 2048 rows is added. -/
theorem step_value (A : Fin 1408 → Fin 1024 → EReal) (X : Fin 2048 → Fin 1408 → EReal) (Y : Fin 2048 → Fin 1024 → EReal) :
    k0_pay2 (F := Ideal) (emat A) (emat X) (emat Y) = emat fun i j => A i j + ∑ r, X r i * Y r j := by
  unfold k0_pay2
  simp only [shapeCast_self, dot_eq, e_matmulTl, e_addf]

/-- The rounding of the result leaves its extended reals. -/
theorem out_value (A : Fin 1408 → Fin 1024 → EReal) : k0_pay3 (F := Ideal) (emat A) = emat A := rfl

end Cert.WGrad.Block

end
-- ==== Proof.TileSum.lean ====
/- The product of two arrays over their 8192 rows, taken 2048 rows at a time: the running sum that a tile's accumulator
   holds, for any tile of columns, and the reference's product as the same sum. -/
module

public import proofs.«01_k».proof.Proof.EMat
public import proofs.«01_k».proof.Proof.RowBlocks

@[expose] public section

noncomputable section

namespace Cert.TileSum

open Cert.EMat Cert.Rows Idealize.ShloMosaic Idealize.ShloMosaic.ValueIdx

variable {M N T : Nat} (A : Fin 8192 → Fin M → EReal) (B : Fin 8192 → Fin N → EReal)

/-- The gradient of a product in its weight: the columns of one array against those of another, over all rows. -/
def grad (i : Fin M) (j : Fin N) : EReal := ∑ r, A r i * B r j

/-- The row that row `r` of point `n`'s blocks is. -/
def rowOf (n : ℕ) (r : Fin 2048) : Fin 8192 := row (n := 4) 2048 8192 rfl ⟨n % 4, Nat.mod_lt _ (by norm_num)⟩ r

/-- A tile's products over its first `q` blocks of rows; `col` says which columns of the left array are the tile's. -/
def tile (col : Fin T → Fin M) (q : ℕ) : Fin T → Fin N → EReal :=
  fun a b => part 2048 (fun r => A r (col a) * B r b) q

theorem tile_zero (col : Fin T → Fin M) : tile A B col 0 = fun _ _ => 0 :=
  funext fun _ => funext fun _ => part_zero 2048 _

/-- The next block of rows adds its products. -/
theorem tile_succ (col : Fin T → Fin M) (n : ℕ) :
    (fun a b => tile A B col (n % 4) a b + ∑ r, A (rowOf n r) (col a) * B (rowOf n r) b) = tile A B col (n % 4 + 1) := by
  funext a b
  exact (part_succ (n := 4) 2048 rfl _ ⟨n % 4, Nat.mod_lt _ (by norm_num)⟩).symm

/-- After the four blocks of rows a tile is its part of the gradient. -/
theorem tile_all (col : Fin T → Fin M) : tile A B col (3 + 1) = fun a b => grad A B (col a) b := by
  funext a b
  exact part_all 2048 4 rfl fun r => A r (col a) * B r b

/-- A sequence of accumulators that starts each run of four points with the first product and adds one product at every
    other point holds, after point `n`, the sum over the run's blocks of rows so far. -/
theorem chain {K : ℕ} (col : ℕ → Fin T → Fin M) (hcol : ∀ n, ¬(n + 1) % 4 = 0 → col (n + 1) = col n)
    (acc : (n : ℕ) → n < K → Fin T → Fin N → EReal)
    (first : ∀ n (hn : n < K), n % 4 = 0 →
      acc n hn = fun a b => 0 + ∑ r, A (rowOf n r) (col n a) * B (rowOf n r) b)
    (later : ∀ n (hn : n + 1 < K), ¬(n + 1) % 4 = 0 →
      acc (n + 1) hn = fun a b => acc n (Nat.lt_of_succ_lt hn) a b
        + ∑ r, A (rowOf (n + 1) r) (col (n + 1) a) * B (rowOf (n + 1) r) b) :
    ∀ n (hn : n < K), acc n hn = tile A B (col n) (n % 4 + 1) := by
  have start : ∀ n (hn : n < K), n % 4 = 0 → acc n hn = tile A B (col n) (n % 4 + 1) := by
    intro n hn h0
    rw [first n hn h0, ← tile_succ, h0, tile_zero]
  intro n
  induction n with
  | zero => intro hn; exact start 0 hn rfl
  | succ n ih =>
    intro hn
    by_cases h0 : (n + 1) % 4 = 0
    · exact start _ hn h0
    · have h : n % 4 + 1 = (n + 1) % 4 := by omega
      rw [later n hn h0, ih, ← hcol n h0, h, tile_succ]

/-- The reference's product, taken the other way round, is the gradient's transpose. -/
theorem grad_swap : (fun i j => ∑ r, B r i * A r j) = fun i j => grad A B j i :=
  funext fun _ => funext fun _ => Finset.sum_congr rfl fun _ _ => mul_comm _ _

/-- An array as the matrix of its entries. -/
def entries (a : (⟨2, ![M, N]⟩ : Shape).Idx → EReal) (i : Fin M) (j : Fin N) : EReal := a (ix2 i j)

theorem emat_entries (a : (⟨2, ![M, N]⟩ : Shape).Idx → EReal) : emat (entries a) = a := (emat_eq a).symm

theorem entries_emat (G : Fin M → Fin N → EReal) : entries (emat G) = G := rfl

end Cert.TileSum

end
-- ==== Proof.WGradArrays.lean ====
/- The result array of the weight-gradient kernel of a feed-forward weight: a tile of 1408 columns of the left operand
   takes four grid points, and each of these adds the product over 2048 of the 8192 rows, so that a tile ends as the sum
   over all rows. -/
module

public import proofs.«01_k».proof.Proof.WGradBlock
public import proofs.«01_k».proof.Proof.TileSum

@[expose] public section

noncomputable section

namespace Cert.WGrad.Arrays

open Cert.Kernel4Ideal Cert.Kernel4Ideal.Gen Cert.Kernel4Ideal.Value Cert.EMat Cert.Rows Cert.TileSum Cert.WGrad.Block
open Idealize.ShloMosaic Idealize.ShloMosaic.TcCoe Idealize.ShloMosaic.ValueIdx Idealize.SL.Sem

/-- The column of the left operand that column `a` of point `n`'s block is. -/
def col (n : ℕ) (a : Fin 1408) : Fin 2816 := ⟨1408 * (n / 4 % 2) + a.val, by have := a.isLt; omega⟩

theorem col_run (n : ℕ) (h : ¬(n + 1) % 4 = 0) : col (n + 1) = col n := by
  have h1 : (n + 1) / 4 = n / 4 := by omega
  unfold col
  simp only [h1]

theorem idx0 : ∀ t : Fin grid0.N, win0_0.index t (0 : Fin 2) = t.val % 4 ∧ win0_0.index t (1 : Fin 2) = t.val / 4 := by decide +kernel
theorem idx1 : ∀ t : Fin grid0.N, win0_1.index t (0 : Fin 2) = t.val % 4 ∧ win0_1.index t (1 : Fin 2) = 0 := by decide +kernel
theorem idx2 : ∀ t : Fin grid0.N, win0_2.index t (0 : Fin 2) = t.val / 4 ∧ win0_2.index t (1 : Fin 2) = 0 := by decide +kernel

/-! The index of a block's entry in its array. -/

theorem pts (t : Fin cfg0.N) : t.val < 8 := t.isLt

theorem emb0_0 (t : Fin cfg0.N) (j : S2048x1408.Idx) : (((cfg0.win 0).blk t).view.emb j) (0 : Fin 2) = rowOf t.val (j 0) :=
  Rows.at_row rfl ⟨t.val % 4, Nat.mod_lt _ (by norm_num)⟩ (j 0) (idx0 t).1 _ rfl
theorem emb0_1 (t : Fin cfg0.N) (j : S2048x1408.Idx) : (((cfg0.win 0).blk t).view.emb j) (1 : Fin 2) = col t.val (j 1) := by
  obtain ⟨e0, e1⟩ := idx0 t
  have := pts t
  apply Fin.ext
  show win0_0.index t (1 : Fin 2) * 1408 + 1 * (j 1).val = 1408 * (t.val / 4 % 2) + (j 1).val
  omega
theorem emb1_0 (t : Fin cfg0.N) (j : S2048x1024.Idx) : (((cfg0.win 1).blk t).view.emb j) (0 : Fin 2) = rowOf t.val (j 0) :=
  Rows.at_row rfl ⟨t.val % 4, Nat.mod_lt _ (by norm_num)⟩ (j 0) (idx1 t).1 _ rfl
theorem emb1_1 (t : Fin cfg0.N) (j : S2048x1024.Idx) : (((cfg0.win 1).blk t).view.emb j) (1 : Fin 2) = j 1 := Rows.at_same (j 1) (idx1 t).2 _ rfl
theorem emb2_0 (t : Fin cfg0.N) (j : S1408x1024.Idx) : (((cfg0.win 2).blk t).view.emb j) (0 : Fin 2) = col t.val (j 0) := by
  obtain ⟨e0, e1⟩ := idx2 t
  have := pts t
  apply Fin.ext
  show win0_2.index t (0 : Fin 2) * 1408 + 1 * (j 0).val = 1408 * (t.val / 4 % 2) + (j 0).val
  omega
theorem emb2_1 (t : Fin cfg0.N) (j : S1408x1024.Idx) : (((cfg0.win 2).blk t).view.emb j) (1 : Fin 2) = j 1 := Rows.at_same (j 1) (idx2 t).2 _ rfl

variable (m : (ℓ : Loc nD τ sig) → Buf (Elt Ideal) ℓ) (c : Dev nD)
  {A : Fin 8192 → Fin 2816 → EReal} {B : Fin 8192 → Fin 1024 → EReal}
  (hA : m ((c : Thread nD τ).loc main_arg0) = (emat A : S8192x2816.Idx → EReal))
  (hB : m ((c : Thread nD τ).loc main_arg1) = (emat B : S8192x1024.Idx → EReal))

include hA in
/-- The left operand's block. -/
theorem b0 (t : Fin cfg0.N) : iblk m c 0 t = (emat fun r a => A (rowOf t.val r) (col t.val a) : S2048x1408.Idx → EReal) := by
  have h : V m c main_v0 = (emat A : S8192x2816.Idx → EReal) := by
    unfold_abbrev_sides
    after_results
    exact hA
  funext j
  show V m c main_v0 (((cfg0.win 0).blk t).view.emb j) = _
  rw [h]
  exact congrArg₂ A (emb0_0 t j) (emb0_1 t j)

include hB in
/-- The right operand's block. -/
theorem b1 (t : Fin cfg0.N) : iblk m c 1 t = (emat fun r a => B (rowOf t.val r) a : S2048x1024.Idx → EReal) := by
  have h : V m c main_v1 = (emat B : S8192x1024.Idx → EReal) := by
    unfold_abbrev_sides
    after_results
    exact hB
  funext j
  show V m c main_v1 (((cfg0.win 1).blk t).view.emb j) = _
  rw [h]
  exact congrArg₂ B (emb1_0 t j) (emb1_1 t j)

include hA hB in
/-- The accumulator after a tile's first point. -/
theorem first (n : ℕ) (hn : n < cfg0.N) (h0 : n % 4 = 0) : (outsAt0 m c n hn).2
    = (emat (fun a b => 0 + ∑ r, A (rowOf n r) (col n a) * B (rowOf n r) b) : S1408x1024.Idx → EReal) := by
  have h := outsAt0_A m c ⟨n, hn⟩ h0 (by show ¬n % 4 = 3; omega)
  rw [h]
  dsimp only
  rw [acc_A, b0 m c hA ⟨n, hn⟩, b1 m c hB ⟨n, hn⟩, zero_value, step_value]

include hA hB in
/-- The accumulator after any other point, from the one before. -/
theorem later (n : ℕ) (hn : n + 1 < cfg0.N) (h0 : ¬(n + 1) % 4 = 0) (P : Fin 1408 → Fin 1024 → EReal)
    (e : (outsAt0 m c n (Nat.lt_of_succ_lt hn)).2 = (emat P : S1408x1024.Idx → EReal)) : (outsAt0 m c (n + 1) hn).2
      = (emat (fun a b => P a b + ∑ r, A (rowOf (n + 1) r) (col (n + 1) a) * B (rowOf (n + 1) r) b) : S1408x1024.Idx → EReal) := by
  by_cases h3 : (n + 1) % 4 = 3
  · have h := outsAt0_C m c ⟨n + 1, hn⟩ h0 h3
    rw [h]
    dsimp only
    rw [acc_C, b0 m c hA ⟨n + 1, hn⟩, b1 m c hB ⟨n + 1, hn⟩]
    exact (congrArg (k0_pay2 (F := Ideal) · _ _) e).trans (step_value _ _ _)
  · have h := outsAt0_B m c ⟨n + 1, hn⟩ h0 h3
    rw [h]
    dsimp only
    rw [acc_B, b0 m c hA ⟨n + 1, hn⟩, b1 m c hB ⟨n + 1, hn⟩]
    exact (congrArg (k0_pay2 (F := Ideal) · _ _) e).trans (step_value _ _ _)

include hA hB in
/-- The accumulator after point `n`: the tile's products over the blocks of rows so far. -/
theorem acc_at (n : ℕ) (hn : n < cfg0.N) :
    (outsAt0 m c n hn).2 = (emat (tile A B (col n) (n % 4 + 1)) : S1408x1024.Idx → EReal) := by
  have h := chain (K := cfg0.N) A B col col_run (fun n hn => entries (outsAt0 m c n hn).2)
    (fun n hn h0 => congrArg entries (first m c hA hB n hn h0))
    (fun n hn h0 => congrArg entries (later m c hA hB n hn h0 _ (emat_entries _).symm)) n hn
  exact (emat_entries _).symm.trans (congrArg emat h)

/-- A block of the result array. -/
theorem read2 (t : Fin cfg0.N) (G : Fin 2816 → Fin 1024 → EReal) :
    ((cfg0.win 2).blk t).view.read (Elt Ideal) (emat G : S2816x1024.Idx → EReal)
      = (emat fun a b => G (col t.val a) b : S1408x1024.Idx → EReal) := by
  funext j
  exact congrArg₂ G (emb2_0 t j) (emb2_1 t j)

include hA hB in
/-- What a tile's last point writes back. -/
theorem flushed_eq (t : Fin cfg0.N) (hf : (cfg0.win 2).flush t = true) : (dats m 0 c).flushed 2 t
    = ((cfg0.win 2).blk t).view.read (Elt Ideal) (emat (grad A B) : S2816x1024.Idx → EReal) := by
  have h3 : t.val % 4 = 3 := (flush0_2 t).mp hf
  have h0 : ¬t.val % 4 = 0 := by omega
  have e := acc_at m c hA hB t.val t.isLt
  rw [outsAt0_C m c t h0 h3] at e
  dsimp only at e
  rw [acc_C] at e
  rw [flushed2_C m c t h0 h3, out_C, e, out_value, h3]
  exact (congrArg emat (tile_all A B (col t.val))).trans (read2 t (grad A B)).symm

/-- Every entry of the result is in a written block. -/
theorem cover (i : S2816x1024.Idx) : ∃ t : Fin cfg0.N, (cfg0.win 2).flush t = true ∧ i ∈ ((cfg0.win 2).blk t).view.set := by
  have h0 : (i 0).val < 2816 := (i 0).isLt
  have h1 : (i 1).val < 1024 := (i 1).isLt
  exact (covered_iff2 i).2 (by omega)

include hA hB in
/-- The result array after the run. -/
theorem final : (dats m 0 c).arrAt 2 cfg0.N = (emat (grad A B) : S2816x1024.Idx → EReal) :=
  (dats m 0 c).arrAt_eq_of_cover 2 _ (fun t hf => flushed_eq m c hA hB t hf) cover

end Cert.WGrad.Arrays

end
-- ==== Proof.WGradClaims.lean ====
/- The claims about the weight-gradient kernel of a feed-forward weight: over the extended reals its result is the
   reference's, of any arguments. -/
module

public import proofs.«01_k».proof.Defs
public import proofs.«01_k».proof.Proof.WGradArrays
public import proofs.«01_k».proof.Proof.Gen.Reference4Ideal.Read

@[expose] public section

noncomputable section

namespace Cert.WGrad.Claims

open Idealize.ShloMosaic Idealize.SL.Sem Cert.EMat Cert.TileSum Cert.WGrad.Arrays Cert.Reference4Ideal Cert.Reference4Ideal.Read

theorem dot_eq : dot_S8192x1024_S8192x2816_S1024x2816_0_0_1_1_n_n = transposedLhs 1024 8192 2816 := rfl

/-- The reference's value: the gradient of the product in the right factor. -/
theorem reference_value (A : Fin 8192 → Fin 2816 → EReal) (B : Fin 8192 → Fin 1024 → EReal) :
    val_main_v4 (F := Ideal) (emat A) (emat B) = (emat (grad A B) : S2816x1024.Idx → EReal) := by
  have h2 : val_main_v2 (F := Ideal) (emat A) (emat B) = (emat fun i j => grad A B j i : S1024x2816.Idx → EReal) := by
    unfold val_main_v2
    rw [dot_eq]
    exact (e_dotTl none _ _).trans (congrArg emat (grad_swap A B))
  have h3 : val_main_v3 (F := Ideal) (emat A) (emat B) = (emat (grad A B) : S2816x1024.Idx → EReal) := by
    unfold val_main_v3
    rw [h2]
    exact e_transpose _ _
  unfold val_main_v4
  rw [h3]
  exact e_truncf _ _

/-- The reference runs, keeps its arguments, and declares no semaphore. -/
theorem frame_r : Cert.quiescent_Reference4Ideal := by
  intro m ρ _
  exact (θ_run Cert.Reference4Ideal.defs _ _).mono
    (fun r h => ⟨fun c => (h c).2, sem_eq_zero_of_no_sems (by decide) r.2⟩) (Cert.Reference4Ideal.Value.run m ρ)

/-- The kernel's result is the reference's. -/
theorem algebraic : Cert.algebraic_Kernel4Ideal_Reference4Ideal := by
  intro m ρ m' ρ' _ hagree
  refine ⟨fun c => Cert.Kernel4Ideal.Value.G2 m c, Cert.Kernel4Ideal.Value.run m ρ, ?_⟩
  refine (θ_run Cert.Reference4Ideal.defs _ _).mono (fun r h c => ?_) (Cert.Reference4Ideal.Value.run m' ρ')
  obtain ⟨a0, a1⟩ := hagree c
  obtain ⟨r0, k⟩ := h c
  have hA := emat_eq (M := 8192) (N := 2816) (m ((c.tc : Thread Cert.Kernel4Ideal.nD Cert.Kernel4Ideal.τ).loc Cert.Kernel4Ideal.main_arg0))
  have hB := emat_eq (M := 8192) (N := 1024) (m ((c.tc : Thread Cert.Kernel4Ideal.nD Cert.Kernel4Ideal.τ).loc Cert.Kernel4Ideal.main_arg1))
  have x0 := a0.trans hA
  have x1 := a1.trans hB
  refine ⟨?_, k⟩
  rw [r0, val_main_v4_eq, x0, x1, reference_value]
  exact (final m c hA hB).symm.trans (Cert.Kernel4Ideal.Value.final2 m c)

end Cert.WGrad.Claims

end
-- ==== Proof.OutBwdBlock.lean ====
/- What one grid point of the output projection's backward kernel leaves in its four output blocks, as a function of the six
   input blocks that it reads (the incoming gradient, the two halves' outputs, their gains, the weight): the covering stores
   of each case of the point read back as values. -/
module

public import proofs.«01_k».proof.Proof.Gen.Kernel5Ideal.Value

@[expose] public section

noncomputable section

namespace Cert.OutBwd.Block

open Cert.Kernel5Ideal Cert.Kernel5Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl

section

variable (c : Dev nD) (i : grid0.Coords)
  (a1 : Memref sig .tc .vmem S1024x1024 .f32) (h1 : a1.IsWhole)
  (a2 : Memref sig .tc .vmem S1024x512 .f32) (h2 : a2.IsWhole)
  (a3 : Memref sig .tc .vmem S1024x512 .f32) (h3 : a3.IsWhole)
  (a4 : Memref sig .tc .vmem S1x512 .f32) (h4 : a4.IsWhole)
  (a5 : Memref sig .tc .vmem S1x512 .f32) (h5 : a5.IsWhole)
  (a6 : Memref sig .tc .vmem S1024x1024 .bf16) (h6 : a6.IsWhole)
  (a7 : Memref sig .tc .vmem S1024x512 .f32) (h7 : a7.IsWhole)
  (a8 : Memref sig .tc .vmem S1024x512 .f32) (h8 : a8.IsWhole)
  (a9 : Memref sig .tc .vmem S1x512 .f32) (h9 : a9.IsWhole)
  (a10 : Memref sig .tc .vmem S1x512 .f32) (h10 : a10.IsWhole)
  (dx : Vec F S1024x1024 .f32) (od om : Vec F S1024x512 .f32) (gd gm : Vec F S1x512 .f32) (w : Vec F S1024x1024 .bf16)

/-- Window 6 at the first point: the gradient of the dilated half. -/
theorem out_A_6 (hc0 : cond0_0 i) :
    out0_A_6 c i a1 h1 a2 h2 a3 h3 a4 h4 a5 h5 a6 h6 a7 h7 a8 h8 a9 h9 a10 h10 hc0 dx od om gd gm w = k0_pay7 dx w od gd := by
  unfold out0_A_6
  rw [View.read_writes_junk_eq_canon]
  unfold kernelRun0_A
  dsimp only
  sl_unfold_words
  simp only [View.canon_unit_zero (S := S1024x512) hz, View.readCov_unit_zero (S := S1x512) _ hz, View.readAt_eq_ld, h1.read_unread, h2.read_unread, h3.read_unread, h4.read_unread, h5.read_unread, h6.read_unread, h9.read_unread, h10.read_unread,
    View.ld_unit_zero (S := S1024x1024) hz, View.ld_unit_zero (S := S1024x512) hz, View.ld_unit_zero (S := S1x512) hz]
/-- Window 7 at the first point: the gradient of the latent half. -/
theorem out_A_7 (hc0 : cond0_0 i) :
    out0_A_7 c i a1 h1 a2 h2 a3 h3 a4 h4 a5 h5 a6 h6 a7 h7 a8 h8 a9 h9 a10 h10 hc0 dx od om gd gm w = k0_pay11 (k0_pay4 dx w) om gm := by
  unfold out0_A_7
  rw [View.read_writes_junk_eq_canon]
  unfold kernelRun0_A
  dsimp only
  sl_unfold_words
  simp only [View.canon_unit_zero (S := S1024x512) hz, View.readCov_unit_zero (S := S1x512) _ hz, View.readAt_eq_ld, h1.read_unread, h2.read_unread, h3.read_unread, h4.read_unread, h5.read_unread, h6.read_unread, h9.read_unread, h10.read_unread,
    View.ld_unit_zero (S := S1024x1024) hz, View.ld_unit_zero (S := S1024x512) hz, View.ld_unit_zero (S := S1x512) hz]
/-- Window 8 at the first point: the running gradient of the dilated gain. -/
theorem out_A_8 (hc0 : cond0_0 i) :
    out0_A_8 c i a1 h1 a2 h2 a3 h3 a4 h4 a5 h5 a6 h6 a7 h7 a8 h8 a9 h9 a10 h10 hc0 dx od om gd gm w = k0_pay13 (k0_pay8 dx w od) k0_pay2 := by
  unfold out0_A_8
  rw [View.read_writes_junk_eq_canon]
  unfold kernelRun0_A
  dsimp only
  sl_unfold_words
  simp only [View.canon_cons_unit_zero (S := S1x512) hz, View.canon_unit_zero (S := S1x512) hz, View.readCov_unit_zero (S := S1x512) _ hz, View.readAt_eq_ld, h1.read_unread, h2.read_unread, h3.read_unread, h4.read_unread, h5.read_unread, h6.read_unread, h9.read_unread, h10.read_unread,
    View.ld_unit_zero (S := S1024x1024) hz, View.ld_unit_zero (S := S1024x512) hz, View.ld_unit_zero (S := S1x512) hz]
/-- Window 9 at the first point: the running gradient of the latent gain. -/
theorem out_A_9 (hc0 : cond0_0 i) :
    out0_A_9 c i a1 h1 a2 h2 a3 h3 a4 h4 a5 h5 a6 h6 a7 h7 a8 h8 a9 h9 a10 h10 hc0 dx od om gd gm w = k0_pay1 (k0_pay12 (k0_pay4 dx w) om) k0_pay3 := by
  unfold out0_A_9
  rw [View.read_writes_junk_eq_canon]
  unfold kernelRun0_A
  dsimp only
  sl_unfold_words
  simp only [View.canon_cons_unit_zero (S := S1x512) hz, View.canon_unit_zero (S := S1x512) hz, View.readCov_unit_zero (S := S1x512) _ hz, View.readAt_eq_ld, h1.read_unread, h2.read_unread, h3.read_unread, h4.read_unread, h5.read_unread, h6.read_unread, h9.read_unread, h10.read_unread,
    View.ld_unit_zero (S := S1024x1024) hz, View.ld_unit_zero (S := S1024x512) hz, View.ld_unit_zero (S := S1x512) hz]
/-- Window 6 at a later point: the gradient of the dilated half. -/
theorem out_B_6 (hc0 : ¬cond0_0 i) (xo8 xo9 : Vec F S1x512 .f32) :
    out0_B_6 c i a1 h1 a2 h2 a3 h3 a4 h4 a5 h5 a6 h6 a7 h7 a8 h8 a9 h9 a10 h10 hc0 dx od om gd gm w xo8 xo9 = k0_pay7 dx w od gd := by
  unfold out0_B_6
  rw [View.read_writes_junk_eq_canon]
  unfold kernelRun0_B
  dsimp only
  sl_unfold_words
  simp only [View.canon_unit_zero (S := S1024x512) hz, View.readCov_unit_zero (S := S1x512) _ hz, View.readAt_eq_ld, h1.read_unread, h2.read_unread, h3.read_unread, h4.read_unread, h5.read_unread, h6.read_unread, h9.read_unread, h10.read_unread,
    View.ld_unit_zero (S := S1024x1024) hz, View.ld_unit_zero (S := S1024x512) hz, View.ld_unit_zero (S := S1x512) hz]
/-- Window 7 at a later point: the gradient of the latent half. -/
theorem out_B_7 (hc0 : ¬cond0_0 i) (xo8 xo9 : Vec F S1x512 .f32) :
    out0_B_7 c i a1 h1 a2 h2 a3 h3 a4 h4 a5 h5 a6 h6 a7 h7 a8 h8 a9 h9 a10 h10 hc0 dx od om gd gm w xo8 xo9 = k0_pay11 (k0_pay4 dx w) om gm := by
  unfold out0_B_7
  rw [View.read_writes_junk_eq_canon]
  unfold kernelRun0_B
  dsimp only
  sl_unfold_words
  simp only [View.canon_unit_zero (S := S1024x512) hz, View.readCov_unit_zero (S := S1x512) _ hz, View.readAt_eq_ld, h1.read_unread, h2.read_unread, h3.read_unread, h4.read_unread, h5.read_unread, h6.read_unread, h9.read_unread, h10.read_unread,
    View.ld_unit_zero (S := S1024x1024) hz, View.ld_unit_zero (S := S1024x512) hz, View.ld_unit_zero (S := S1x512) hz]
/-- Window 8 at a later point: the running gradient of the dilated gain. -/
theorem out_B_8 (hc0 : ¬cond0_0 i) (xo8 xo9 : Vec F S1x512 .f32) :
    out0_B_8 c i a1 h1 a2 h2 a3 h3 a4 h4 a5 h5 a6 h6 a7 h7 a8 h8 a9 h9 a10 h10 hc0 dx od om gd gm w xo8 xo9 = k0_pay13 (k0_pay8 dx w od) xo8 := by
  unfold out0_B_8
  rw [View.read_writes_junk_eq_canon]
  unfold kernelRun0_B
  dsimp only
  sl_unfold_words
  simp only [View.canon_unit_zero (S := S1x512) hz, View.readCov_unit_zero (S := S1x512) _ hz, View.readAt_eq_ld, h1.read_unread, h2.read_unread, h3.read_unread, h4.read_unread, h5.read_unread, h6.read_unread, h9.read_unread, h10.read_unread,
    View.ld_unit_zero (S := S1024x1024) hz, View.ld_unit_zero (S := S1024x512) hz, View.ld_unit_zero (S := S1x512) hz]
/-- Window 9 at a later point: the running gradient of the latent gain. -/
theorem out_B_9 (hc0 : ¬cond0_0 i) (xo8 xo9 : Vec F S1x512 .f32) :
    out0_B_9 c i a1 h1 a2 h2 a3 h3 a4 h4 a5 h5 a6 h6 a7 h7 a8 h8 a9 h9 a10 h10 hc0 dx od om gd gm w xo8 xo9 = k0_pay1 (k0_pay12 (k0_pay4 dx w) om) xo9 := by
  unfold out0_B_9
  rw [View.read_writes_junk_eq_canon]
  unfold kernelRun0_B
  dsimp only
  sl_unfold_words
  simp only [View.canon_unit_zero (S := S1x512) hz, View.readCov_unit_zero (S := S1x512) _ hz, View.readAt_eq_ld, h1.read_unread, h2.read_unread, h3.read_unread, h4.read_unread, h5.read_unread, h6.read_unread, h9.read_unread, h10.read_unread,
    View.ld_unit_zero (S := S1024x1024) hz, View.ld_unit_zero (S := S1024x512) hz, View.ld_unit_zero (S := S1x512) hz]

end

end Cert.OutBwd.Block

end
-- ==== Proof.OutBwdValue.lean ====
/- What one grid point of the output projection's backward kernel computes on finite blocks: the gradient of the joined halves is
   a product with the weight, each half of it goes back through that half's RMS norm. -/
module

public import proofs.«01_k».proof.Proof.OutBwdBlock
public import proofs.«01_k».proof.Proof.Rms

@[expose] public section

noncomputable section

namespace Cert.OutBwd

open Cert.Lift

variable {M : Nat}

/-- The gradient of the joined, normed halves: the incoming gradient times the weight's transpose. -/
def dj (DX : Fin M → Fin 1024 → ℝ) (W : Fin 1024 → Fin 1024 → ℝ) (i : Fin M) (k : Fin 1024) : ℝ := ∑ j, DX i j * W k j

/-- Its first half: the gradient of the dilated attention's normed output. -/
def lo (DX : Fin M → Fin 1024 → ℝ) (W : Fin 1024 → Fin 1024 → ℝ) : Fin M → Fin 512 → ℝ := Cert.Rms.cols 0 (by norm_num) (dj DX W)

/-- Its second half: the gradient of the latent attention's normed output. -/
def hi (DX : Fin M → Fin 1024 → ℝ) (W : Fin 1024 → Fin 1024 → ℝ) : Fin M → Fin 512 → ℝ := Cert.Rms.cols 512 (by norm_num) (dj DX W)

end Cert.OutBwd

namespace Cert.OutBwd.Block

open Cert.Kernel5Ideal Cert.Kernel5Ideal.Gen Cert.Lift Cert.Rms Idealize.ShloMosaic Idealize.ShloMosaic.TcCoe

theorem dotT : dot_S1024x1024_S1024x1024_S1024x1024_1_1_0_0_n_n = DotDims.transposedRhs 1024 1024 1024 := rfl

theorem h512 : (0 : ℝ) < 512 := by norm_num
theorem n512 : (512 : Nat) ≠ 1 := by decide
theorem n1024 : (1024 : Nat) ≠ 1 := by decide

/-- The sums of a block's columns. -/
theorem colSum (A : Fin 1024 → Fin 512 → ℝ) :
    multiReduction (F := Ideal) (φ := .f32) .add [0] S512 (up (mat A)) 0x00000000#32 reduces_S1024x512_S512 (.inl rfl) rfl
      = up (vec fun k => ∑ i, A i k) := m_colSum A _ _ _ _

variable (DX : Fin 1024 → Fin 1024 → ℝ) (X : Fin 1024 → Fin 512 → ℝ) (G : Fin 512 → ℝ) (W : Fin 1024 → Fin 1024 → ℝ)

theorem pay4 : k0_pay4 (F := Ideal) (up (mat DX)) (up (mat W)) = up (mat (dj DX W)) := by
  unfold k0_pay4
  simp only [shapeCast_self, up_truncf, dotT, m_matmulT]
  rfl

theorem pay5 : k0_pay5 (F := Ideal) (up (mat DX)) (up (mat W)) = up (mat (lo DX W)) := by
  unfold k0_pay5
  rw [pay4]
  exact m_cols 0 (by norm_num) _ _

theorem pay9 : k0_pay9 (F := Ideal) (up (mat (dj DX W))) = up (mat (hi DX W)) := by
  unfold k0_pay9
  exact m_cols 512 (by norm_num) _ _

theorem pay6 : k0_pay6 (F := Ideal) (up (mat X)) = up (mat fun i _ => rs 512 X i) := by
  unfold k0_pay6
  simp only [scalar_ofBits, ofBits_512, ofBits_eps]
  exact k_rs 512 h512 X _ _ _ _

theorem pay10 : k0_pay10 (F := Ideal) (up (mat X)) = up (mat fun i _ => rs 512 X i) := by
  unfold k0_pay10
  simp only [scalar_ofBits, ofBits_512, ofBits_eps]
  exact k_rs 512 h512 X _ _ _ _

/-- The gradient of the dilated half's rows. -/
theorem lo_value : k0_pay7 (F := Ideal) (up (mat DX)) (up (mat W)) (up (mat X)) (up (mat fun _ j => G j)) = up (mat (dx 512 X (lo DX W) G)) := by
  unfold k0_pay7
  simp only [pay5, pay6, shapeCast_self, m_bcastRow n512, m_mulf (lo DX W), scalar_ofBits, ofBits_512]
  exact k_dx 512 h512 n1024 X (lo DX W) G _ _ _ _ _

/-- The gradient of the latent half's rows. -/
theorem hi_value : k0_pay11 (F := Ideal) (k0_pay4 (F := Ideal) (up (mat DX)) (up (mat W))) (up (mat X)) (up (mat fun _ j => G j))
    = up (mat (dx 512 X (hi DX W) G)) := by
  rw [pay4]
  unfold k0_pay11
  simp only [pay9, pay10, shapeCast_self, m_bcastRow n512, m_mulf (hi DX W), scalar_ofBits, ofBits_512]
  exact k_dx 512 h512 n1024 X (hi DX W) G _ _ _ _ _

/-- The dilated gain's running gradient. -/
theorem lo_gain (A : Fin 512 → ℝ) : k0_pay13 (F := Ideal) (k0_pay8 (F := Ideal) (up (mat DX)) (up (mat W)) (up (mat X))) (up (mat fun _ j => A j))
    = up (mat fun _ k => A k + ∑ i, dgc 512 X (lo DX W) i k) := by
  unfold k0_pay13 k0_pay8
  simp only [pay5, pay6, shapeCast_self, m_bcastCol n1024, m_mulf]
  erw [colSum]
  simp only [m_ofRow, m_addf]
  rfl

/-- The latent gain's running gradient. -/
theorem hi_gain (A : Fin 512 → ℝ) : k0_pay1 (F := Ideal) (k0_pay12 (F := Ideal) (k0_pay4 (F := Ideal) (up (mat DX)) (up (mat W))) (up (mat X)))
    (up (mat fun _ j => A j)) = up (mat fun _ k => A k + ∑ i, dgc 512 X (hi DX W) i k) := by
  rw [pay4]
  unfold k0_pay1 k0_pay12
  simp only [pay9, pay10, shapeCast_self, m_bcastCol n1024, m_mulf]
  erw [colSum]
  simp only [m_ofRow, m_addf]
  rfl

theorem zero_lo : k0_pay2 (F := Ideal) = up (mat fun _ _ => 0) := by
  unfold k0_pay2
  simp only [scalar_ofBits, ofBits_zero, m_broadcast]
theorem zero_hi : k0_pay3 (F := Ideal) = up (mat fun _ _ => 0) := by
  unfold k0_pay3
  simp only [scalar_ofBits, ofBits_zero, m_broadcast]

end Cert.OutBwd.Block

end
-- ==== Proof.OutBwdArrays.lean ====
/- The result arrays of the output projection's backward kernel, on finite arguments: each grid point's blocks are 1024 rows of
   the arrays, so the two halves' gradients are those of all 8192 rows; the gains' gradients run over the grid and end as the
   sums over all rows. -/
module

public import proofs.«01_k».proof.Proof.OutBwdValue
public import proofs.«01_k».proof.Proof.RowBlocks

@[expose] public section

noncomputable section

namespace Cert.OutBwd.Arrays

open Cert.Kernel5Ideal Cert.Kernel5Ideal.Gen Cert.Kernel5Ideal.Value Cert.Lift Cert.Rms Cert.Rows Cert.OutBwd.Block
open Idealize.ShloMosaic Idealize.ShloMosaic.TcCoe Idealize.ShloMosaic.ValueIdx Idealize.SL.Sem

/-- Point `t`'s rows of an array of 8192 rows. -/
def rows {N : Nat} (t : Fin cfg0.N) (A : Fin 8192 → Fin N → ℝ) (a : Fin 1024) (k : Fin N) : ℝ := A (row (n := 8) 1024 8192 rfl t a) k

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = t.val ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 2) = t.val ∧ win0_6.index t (1 : Fin 2) = 0 := by decide +kernel
theorem idx7 : ∀ t : Fin grid0.N, win0_7.index t (0 : Fin 2) = t.val ∧ win0_7.index t (1 : Fin 2) = 0 := by decide +kernel
theorem idx8 : ∀ t : Fin grid0.N, win0_8.index t (0 : Fin 2) = 0 ∧ win0_8.index t (1 : Fin 2) = 0 := by decide +kernel
theorem idx9 : ∀ t : Fin grid0.N, win0_9.index t (0 : Fin 2) = 0 ∧ win0_9.index t (1 : Fin 2) = 0 := by decide +kernel

/-! The index of a block in its array: rows `1024 t` on, or the whole array. -/

theorem emb0_0 (t : Fin cfg0.N) (j : S1024x1024.Idx) : (((cfg0.win 0).blk t).view.emb j) (0 : Fin 2) = row (n := 8) 1024 8192 rfl t (j 0) :=
  at_row rfl t (j 0) (idx0 t).1 _ rfl
theorem emb0_1 (t : Fin cfg0.N) (j : S1024x1024.Idx) : (((cfg0.win 0).blk t).view.emb j) (1 : Fin 2) = j 1 := at_same (j 1) (idx0 t).2 _ rfl
theorem emb1_0 (t : Fin cfg0.N) (j : S1024x512.Idx) : (((cfg0.win 1).blk t).view.emb j) (0 : Fin 2) = row (n := 8) 1024 8192 rfl t (j 0) :=
  at_row rfl t (j 0) (idx1 t).1 _ rfl
theorem emb1_1 (t : Fin cfg0.N) (j : S1024x512.Idx) : (((cfg0.win 1).blk t).view.emb j) (1 : Fin 2) = j 1 := at_same (j 1) (idx1 t).2 _ rfl
theorem emb2_0 (t : Fin cfg0.N) (j : S1024x512.Idx) : (((cfg0.win 2).blk t).view.emb j) (0 : Fin 2) = row (n := 8) 1024 8192 rfl t (j 0) :=
  at_row rfl t (j 0) (idx2 t).1 _ rfl
theorem emb2_1 (t : Fin cfg0.N) (j : S1024x512.Idx) : (((cfg0.win 2).blk t).view.emb j) (1 : Fin 2) = j 1 := at_same (j 1) (idx2 t).2 _ rfl
theorem emb3_0 (t : Fin cfg0.N) (j : S1x512.Idx) : (((cfg0.win 3).blk t).view.emb j) (0 : Fin 2) = j 0 := at_same (j 0) (idx3 t).1 _ rfl
theorem emb3_1 (t : Fin cfg0.N) (j : S1x512.Idx) : (((cfg0.win 3).blk t).view.emb j) (1 : Fin 2) = j 1 := at_same (j 1) (idx3 t).2 _ rfl
theorem emb4_0 (t : Fin cfg0.N) (j : S1x512.Idx) : (((cfg0.win 4).blk t).view.emb j) (0 : Fin 2) = j 0 := at_same (j 0) (idx4 t).1 _ rfl
theorem emb4_1 (t : Fin cfg0.N) (j : S1x512.Idx) : (((cfg0.win 4).blk t).view.emb j) (1 : Fin 2) = j 1 := at_same (j 1) (idx4 t).2 _ rfl
theorem emb5_0 (t : Fin cfg0.N) (j : S1024x1024.Idx) : (((cfg0.win 5).blk t).view.emb j) (0 : Fin 2) = j 0 := at_same (j 0) (idx5 t).1 _ rfl
theorem emb5_1 (t : Fin cfg0.N) (j : S1024x1024.Idx) : (((cfg0.win 5).blk t).view.emb j) (1 : Fin 2) = j 1 := at_same (j 1) (idx5 t).2 _ rfl
theorem emb6_0 (t : Fin cfg0.N) (j : S1024x512.Idx) : (((cfg0.win 6).blk t).view.emb j) (0 : Fin 2) = row (n := 8) 1024 8192 rfl t (j 0) :=
  at_row rfl t (j 0) (idx6 t).1 _ rfl
theorem emb6_1 (t : Fin cfg0.N) (j : S1024x512.Idx) : (((cfg0.win 6).blk t).view.emb j) (1 : Fin 2) = j 1 := at_same (j 1) (idx6 t).2 _ rfl
theorem emb7_0 (t : Fin cfg0.N) (j : S1024x512.Idx) : (((cfg0.win 7).blk t).view.emb j) (0 : Fin 2) = row (n := 8) 1024 8192 rfl t (j 0) :=
  at_row rfl t (j 0) (idx7 t).1 _ rfl
theorem emb7_1 (t : Fin cfg0.N) (j : S1024x512.Idx) : (((cfg0.win 7).blk t).view.emb j) (1 : Fin 2) = j 1 := at_same (j 1) (idx7 t).2 _ rfl
theorem emb8_0 (t : Fin cfg0.N) (j : S1x512.Idx) : (((cfg0.win 8).blk t).view.emb j) (0 : Fin 2) = j 0 := at_same (j 0) (idx8 t).1 _ rfl
theorem emb8_1 (t : Fin cfg0.N) (j : S1x512.Idx) : (((cfg0.win 8).blk t).view.emb j) (1 : Fin 2) = j 1 := at_same (j 1) (idx8 t).2 _ rfl
theorem emb9_0 (t : Fin cfg0.N) (j : S1x512.Idx) : (((cfg0.win 9).blk t).view.emb j) (0 : Fin 2) = j 0 := at_same (j 0) (idx9 t).1 _ rfl
theorem emb9_1 (t : Fin cfg0.N) (j : S1x512.Idx) : (((cfg0.win 9).blk t).view.emb j) (1 : Fin 2) = j 1 := at_same (j 1) (idx9 t).2 _ rfl

variable (m : (ℓ : Loc nD τ sig) → Buf (Elt Ideal) ℓ) (c : Dev nD) (t : Fin cfg0.N)

/-! The input blocks. -/

theorem iblk0 {A : Fin 8192 → Fin 1024 → ℝ} (h : V m c main_arg5 = up (s := S8192x1024) (mat A)) :
    iblk m c 0 t = up (s := S1024x1024) (mat (rows t A)) :=
  funext fun j => (congrFun h (((cfg0.win 0).blk t).view.emb j)).trans (at_both A (emb0_0 t j) (emb0_1 t j))
theorem iblk1 {A : Fin 8192 → Fin 512 → ℝ} (h : V m c main_arg0 = up (s := S8192x512) (mat A)) :
    iblk m c 1 t = up (s := S1024x512) (mat (rows t A)) :=
  funext fun j => (congrFun h (((cfg0.win 1).blk t).view.emb j)).trans (at_both A (emb1_0 t j) (emb1_1 t j))
theorem iblk2 {A : Fin 8192 → Fin 512 → ℝ} (h : V m c main_arg1 = up (s := S8192x512) (mat A)) :
    iblk m c 2 t = up (s := S1024x512) (mat (rows t A)) :=
  funext fun j => (congrFun h (((cfg0.win 2).blk t).view.emb j)).trans (at_both A (emb2_0 t j) (emb2_1 t j))
theorem iblk3 {A : Fin 1 → Fin 512 → ℝ} (h : V m c main_v0 = up (s := S1x512) (mat A)) :
    iblk m c 3 t = up (s := S1x512) (mat (A)) :=
  funext fun j => (congrFun h (((cfg0.win 3).blk t).view.emb j)).trans (at_both A (emb3_0 t j) (emb3_1 t j))
theorem iblk4 {A : Fin 1 → Fin 512 → ℝ} (h : V m c main_v1 = up (s := S1x512) (mat A)) :
    iblk m c 4 t = up (s := S1x512) (mat (A)) :=
  funext fun j => (congrFun h (((cfg0.win 4).blk t).view.emb j)).trans (at_both A (emb4_0 t j) (emb4_1 t j))
theorem iblk5 {A : Fin 1024 → Fin 1024 → ℝ} (h : V m c main_v2 = up (s := S1024x1024) (mat A)) :
    iblk m c 5 t = up (s := S1024x1024) (mat (A)) :=
  funext fun j => (congrFun h (((cfg0.win 5).blk t).view.emb j)).trans (at_both A (emb5_0 t j) (emb5_1 t j))

/-! An output block cut from a point's rows of an array is the array's block. -/

theorem cut6 (A : Fin 8192 → Fin 512 → ℝ) : (cfg0.win 6).cut (grid0.coords t) (up (s := S1024x512) (mat (rows t A)))
    = ((cfg0.win 6).blk t).view.read (Elt Ideal) (up (s := S8192x512) (mat A)) :=
  funext fun j => (at_both A (emb6_0 t j) (emb6_1 t j)).symm
theorem cover6 (i : S8192x512.Idx) : ∃ t : Fin cfg0.N, (cfg0.win 6).flush t = true ∧ i ∈ ((cfg0.win 6).blk t).view.set := by
  obtain ⟨t, j, e⟩ := hit (n := 8) (B := 1024) (R := 8192) (N := 512) rfl (by norm_num) emb6_0 emb6_1 i
  exact ⟨t, flush0_6 t, Set.mem_of_eq_of_mem e.symm (((cfg0.win 6).blk t).view.emb_mem_set j)⟩
theorem cut7 (A : Fin 8192 → Fin 512 → ℝ) : (cfg0.win 7).cut (grid0.coords t) (up (s := S1024x512) (mat (rows t A)))
    = ((cfg0.win 7).blk t).view.read (Elt Ideal) (up (s := S8192x512) (mat A)) :=
  funext fun j => (at_both A (emb7_0 t j) (emb7_1 t j)).symm
theorem cover7 (i : S8192x512.Idx) : ∃ t : Fin cfg0.N, (cfg0.win 7).flush t = true ∧ i ∈ ((cfg0.win 7).blk t).view.set := by
  obtain ⟨t, j, e⟩ := hit (n := 8) (B := 1024) (R := 8192) (N := 512) rfl (by norm_num) emb7_0 emb7_1 i
  exact ⟨t, flush0_7 t, Set.mem_of_eq_of_mem e.symm (((cfg0.win 7).blk t).view.emb_mem_set j)⟩
theorem cut8 (A : Fin 512 → ℝ) : (cfg0.win 8).cut (grid0.coords t) (up (s := S1x512) (mat fun _ k => A k))
    = ((cfg0.win 8).blk t).view.read (Elt Ideal) (up (s := S1x512) (mat fun _ k => A k)) :=
  funext fun j => (congrArg (fun b => ((A b : ℝ) : EReal)) (emb8_1 t j)).symm
theorem cover8 (i : S1x512.Idx) : ∃ t : Fin cfg0.N, (cfg0.win 8).flush t = true ∧ i ∈ ((cfg0.win 8).blk t).view.set := by
  refine ⟨(⟨7, by decide⟩ : Fin cfg0.N), (flush0_8 _).mpr rfl, ?_⟩
  exact Set.mem_of_eq_of_mem (funext fun a => match a with | ⟨0, _⟩ => (emb8_0 _ i).symm | ⟨1, _⟩ => (emb8_1 _ i).symm) (((cfg0.win 8).blk (⟨7, by decide⟩ : Fin cfg0.N)).view.emb_mem_set i)
theorem cut9 (A : Fin 512 → ℝ) : (cfg0.win 9).cut (grid0.coords t) (up (s := S1x512) (mat fun _ k => A k))
    = ((cfg0.win 9).blk t).view.read (Elt Ideal) (up (s := S1x512) (mat fun _ k => A k)) :=
  funext fun j => (congrArg (fun b => ((A b : ℝ) : EReal)) (emb9_1 t j)).symm
theorem cover9 (i : S1x512.Idx) : ∃ t : Fin cfg0.N, (cfg0.win 9).flush t = true ∧ i ∈ ((cfg0.win 9).blk t).view.set := by
  refine ⟨(⟨7, by decide⟩ : Fin cfg0.N), (flush0_9 _).mpr rfl, ?_⟩
  exact Set.mem_of_eq_of_mem (funext fun a => match a with | ⟨0, _⟩ => (emb9_0 _ i).symm | ⟨1, _⟩ => (emb9_1 _ i).symm) (((cfg0.win 9).blk (⟨7, by decide⟩ : Fin cfg0.N)).view.emb_mem_set i)

section

variable {XD XM : Fin 8192 → Fin 512 → ℝ} {GD GM : Fin 512 → ℝ} {W : Fin 1024 → Fin 1024 → ℝ} {DX : Fin 8192 → Fin 1024 → ℝ}
  (hD : m ((c : Thread nD τ).loc main_arg0) = up (s := S8192x512) (mat XD))
  (hM : m ((c : Thread nD τ).loc main_arg1) = up (s := S8192x512) (mat XM))
  (hGD : m ((c : Thread nD τ).loc main_arg2) = up (s := S512) (vec GD))
  (hGM : m ((c : Thread nD τ).loc main_arg3) = up (s := S512) (vec GM))
  (hW : m ((c : Thread nD τ).loc main_arg4) = up (s := S1024x1024) (mat W))
  (hDX : m ((c : Thread nD τ).loc main_arg5) = up (s := S8192x1024) (mat DX))

/-! The host's lines before the kernel: the gains as one-row matrices, the weight cast. -/

include hGD in
theorem gain_lo : V m c main_v0 = up (s := S1x512) (mat fun _ k => GD k) := by
  unfold_abbrev_sides
  after_results
  simp only [hGD]
  exact m_inDimRow n512 GD _
include hGM in
theorem gain_hi : V m c main_v1 = up (s := S1x512) (mat fun _ k => GM k) := by
  unfold_abbrev_sides
  after_results
  simp only [hGM]
  exact m_inDimRow n512 GM _
include hW in
theorem weight : V m c main_v2 = up (s := S1024x1024) (mat W) := by
  unfold_abbrev_sides
  after_results
  simp only [hW]
  exact up_truncf _ _

/-! The input blocks on finite arguments. -/

include hDX in
theorem b0 : iblk m c 0 t = up (s := S1024x1024) (mat (rows t DX)) := iblk0 m c t ((V_main_arg5 m c).trans hDX)
include hD in
theorem b1 : iblk m c 1 t = up (s := S1024x512) (mat (rows t XD)) := iblk1 m c t ((V_main_arg0 m c).trans hD)
include hM in
theorem b2 : iblk m c 2 t = up (s := S1024x512) (mat (rows t XM)) := iblk2 m c t ((V_main_arg1 m c).trans hM)
include hGD in
theorem b3 : iblk m c 3 t = up (s := S1x512) (mat fun _ k => GD k) := iblk3 m c t (gain_lo m c hGD)
include hGM in
theorem b4 : iblk m c 4 t = up (s := S1x512) (mat fun _ k => GM k) := iblk4 m c t (gain_hi m c hGM)
include hW in
theorem b5 : iblk m c 5 t = up (s := S1024x1024) (mat W) := iblk5 m c t (weight m c hW)

include hD hM hGD hGM hW hDX

/-! What each point writes back. -/

theorem flushed6_eq : (dats m 0 c).flushed 6 t = ((cfg0.win 6).blk t).view.read (Elt Ideal) (up (s := S8192x512) (mat (dx 512 XD (lo DX W) GD))) := by
  by_cases h0 : t.val % 8 = 0
  · rw [flushed6_A m c t h0, out_A_6, b0 m c t hDX, b1 m c t hD, b3 m c t hGD, b5 m c t hW, lo_value]
    exact cut6 t (dx 512 XD (lo DX W) GD)
  · rw [flushed6_B m c t h0, out_B_6, b0 m c t hDX, b1 m c t hD, b3 m c t hGD, b5 m c t hW, lo_value]
    exact cut6 t (dx 512 XD (lo DX W) GD)

/-- Result 0: the gradient of the dilated half. -/
theorem final6 : (dats m 0 c).arrAt 6 cfg0.N = up (s := S8192x512) (mat (dx 512 XD (lo DX W) GD)) :=
  (dats m 0 c).arrAt_eq_of_cover 6 _ (fun t _ => flushed6_eq m c t hD hM hGD hGM hW hDX) cover6

theorem flushed7_eq : (dats m 0 c).flushed 7 t = ((cfg0.win 7).blk t).view.read (Elt Ideal) (up (s := S8192x512) (mat (dx 512 XM (hi DX W) GM))) := by
  by_cases h0 : t.val % 8 = 0
  · rw [flushed7_A m c t h0, out_A_7, b0 m c t hDX, b2 m c t hM, b4 m c t hGM, b5 m c t hW, hi_value]
    exact cut7 t (dx 512 XM (hi DX W) GM)
  · rw [flushed7_B m c t h0, out_B_7, b0 m c t hDX, b2 m c t hM, b4 m c t hGM, b5 m c t hW, hi_value]
    exact cut7 t (dx 512 XM (hi DX W) GM)

/-- Result 1: the gradient of the latent half. -/
theorem final7 : (dats m 0 c).arrAt 7 cfg0.N = up (s := S8192x512) (mat (dx 512 XM (hi DX W) GM)) :=
  (dats m 0 c).arrAt_eq_of_cover 7 _ (fun t _ => flushed7_eq m c t hD hM hGD hGM hW hDX) cover7

/-- The dilated gain's gradient after point `n`: the sum over the rows of the blocks up to it. -/
theorem chain8 : ∀ (n : ℕ) (hn : n < cfg0.N), (outsAt0 m c n hn).2.2.1
    = up (s := S1x512) (mat fun _ k => part 1024 (fun i => dgc 512 XD (lo DX W) i k) (n + 1))
  | 0, hn => by
    have h := outsAt0_A m c ⟨0, hn⟩ (Nat.zero_mod _)
    rw [h]
    dsimp only
    rw [out_A_8, b0 m c ⟨0, hn⟩ hDX, b1 m c ⟨0, hn⟩ hD, b5 m c ⟨0, hn⟩ hW, zero_lo]
    refine (lo_gain _ _ _ fun _ => 0).trans (congrArg up (congrArg mat (funext fun _ => funext fun k => ?_)))
    rw [part_succ (n := 8) 1024 rfl _ ⟨0, hn⟩, part_zero]
    rfl
  | n + 1, hn => by
    have hlt : n + 1 < 8 := hn
    have h := outsAt0_B m c ⟨n + 1, hn⟩ (by show ¬(n + 1) % 8 = 0; omega)
    rw [h]
    dsimp only
    rw [out_B_8, b0 m c ⟨n + 1, hn⟩ hDX, b1 m c ⟨n + 1, hn⟩ hD, b5 m c ⟨n + 1, hn⟩ hW]
    have e := chain8 n (Nat.lt_of_succ_lt hn)
    refine (congrArg (k0_pay13 _) e).trans ?_
    refine (lo_gain _ _ _ _).trans (congrArg up (congrArg mat (funext fun _ => funext fun k => ?_)))
    rw [part_succ (n := 8) 1024 rfl _ ⟨n + 1, hn⟩]
    rfl

/-- Result 2: the dilated gain's gradient, the sum over all rows. -/
theorem final8 : (dats m 0 c).arrAt 8 cfg0.N = up (s := S1x512) (mat fun _ k => ∑ i, dgc 512 XD (lo DX W) i k) := by
  refine (dats m 0 c).arrAt_eq_of_cover 8 _ (fun t hf => ?_) cover8
  have h7 := (flush0_8 t).mp hf
  have hlt : t.val < 8 := t.isLt
  have ht : t.val + 1 = 8 := by omega
  rw [flushed8, chain8 m c hD hM hGD hGM hW hDX, ht, ← cut8 t]
  refine congrArg (fun f => (cfg0.win 8).cut (grid0.coords t) (up (s := S1x512) (mat fun (_ : Fin 1) k => f k))) (funext fun k => ?_)
  exact part_all 1024 8 rfl _

/-- The latent gain's gradient after point `n`: the sum over the rows of the blocks up to it. -/
theorem chain9 : ∀ (n : ℕ) (hn : n < cfg0.N), (outsAt0 m c n hn).2.2.2
    = up (s := S1x512) (mat fun _ k => part 1024 (fun i => dgc 512 XM (hi DX W) i k) (n + 1))
  | 0, hn => by
    have h := outsAt0_A m c ⟨0, hn⟩ (Nat.zero_mod _)
    rw [h]
    dsimp only
    rw [out_A_9, b0 m c ⟨0, hn⟩ hDX, b2 m c ⟨0, hn⟩ hM, b5 m c ⟨0, hn⟩ hW, zero_hi]
    refine (hi_gain _ _ _ fun _ => 0).trans (congrArg up (congrArg mat (funext fun _ => funext fun k => ?_)))
    rw [part_succ (n := 8) 1024 rfl _ ⟨0, hn⟩, part_zero]
    rfl
  | n + 1, hn => by
    have hlt : n + 1 < 8 := hn
    have h := outsAt0_B m c ⟨n + 1, hn⟩ (by show ¬(n + 1) % 8 = 0; omega)
    rw [h]
    dsimp only
    rw [out_B_9, b0 m c ⟨n + 1, hn⟩ hDX, b2 m c ⟨n + 1, hn⟩ hM, b5 m c ⟨n + 1, hn⟩ hW]
    have e := chain9 n (Nat.lt_of_succ_lt hn)
    refine (congrArg (k0_pay1 _) e).trans ?_
    refine (hi_gain _ _ _ _).trans (congrArg up (congrArg mat (funext fun _ => funext fun k => ?_)))
    rw [part_succ (n := 8) 1024 rfl _ ⟨n + 1, hn⟩]
    rfl

/-- Result 3: the latent gain's gradient, the sum over all rows. -/
theorem final9 : (dats m 0 c).arrAt 9 cfg0.N = up (s := S1x512) (mat fun _ k => ∑ i, dgc 512 XM (hi DX W) i k) := by
  refine (dats m 0 c).arrAt_eq_of_cover 9 _ (fun t hf => ?_) cover9
  have h7 := (flush0_9 t).mp hf
  have hlt : t.val < 8 := t.isLt
  have ht : t.val + 1 = 8 := by omega
  rw [flushed9, chain9 m c hD hM hGD hGM hW hDX, ht, ← cut9 t]
  refine congrArg (fun f => (cfg0.win 9).cut (grid0.coords t) (up (s := S1x512) (mat fun (_ : Fin 1) k => f k))) (funext fun k => ?_)
  exact part_all 1024 8 rfl _

end

end Cert.OutBwd.Arrays

end
-- ==== Proof.OutBwdReference.lean ====
/- What the output projection's reference computes, on finite arguments: the two halves run through the same lines, which are
   those of an RMS norm and its gradients. -/
module

public import proofs.«01_k».proof.Proof.Gen.Reference5Ideal.Run
public import proofs.«01_k».proof.Proof.Gen.Reference5Ideal.Read
public import proofs.«01_k».proof.Proof.Rms
public import proofs.«01_k».proof.Proof.OutBwdValue

@[expose] public section

noncomputable section

namespace Cert.OutBwd.Reference

open Cert.Reference5Ideal Cert.Reference5Ideal.Gen Cert.Reference5Ideal.Read Cert.Lift Cert.Rms Idealize.ShloMosaic Idealize.ShloMosaic.TcCoe

variable (XD XM : Fin 8192 → Fin 512 → ℝ) (GD GM : Fin 512 → ℝ) (W : Fin 1024 → Fin 1024 → ℝ) (DX : Fin 8192 → Fin 1024 → ℝ)

theorem dotT : dot_S8192x1024_S1024x1024_S8192x1024_1_1_0_0_n_n = DotDims.transposedRhs 8192 1024 1024 := rfl

theorem h512 : (0 : ℝ) < 512 := by norm_num
theorem n512 : (512 : Nat) ≠ 1 := by decide
theorem n8192 : (8192 : Nat) ≠ 1 := by decide

/-- The gradient of the joined halves. -/
theorem r_v34 : val_main_v34 (F := Ideal) (up (mat W)) (up (mat DX)) = up (mat (dj DX W)) := by
  unfold val_main_v34
  rw [dotT]
  exact h_dotT none DX W
theorem r_v35 : val_main_v35 (F := Ideal) (up (mat W)) (up (mat DX)) = up (mat (lo DX W)) := by
  unfold val_main_v35
  rw [r_v34]
  exact m_cols 0 (by norm_num) _ _
theorem r_v36 : val_main_v36 (F := Ideal) (up (mat W)) (up (mat DX)) = up (mat (hi DX W)) := by
  unfold val_main_v36
  rw [r_v34]
  exact m_cols 512 (by norm_num) _ _

/-! The constants, repeated over their arrays. -/

theorem k_v3 : val_main_v3 (F := Ideal) = up (s := S8192x1) (mat fun _ _ => 512) := by
  unfold val_main_v3 val_main_cst_0
  rw [c_512]
  rfl
theorem k_v5 : val_main_v5 (F := Ideal) = up (s := S8192x1) (mat fun _ _ => eps) := by
  unfold val_main_v5 val_main_cst_1
  rw [c_eps]
  rfl
theorem k_v9 : val_main_v9 (F := Ideal) = up (s := S8192x1) (mat fun _ _ => -(1 / 2)) := by
  unfold val_main_v9 val_main_cst_2
  rw [c_negHalf]
  rfl
theorem k_v19 : val_main_v19 (F := Ideal) = up (s := S8192x1) (mat fun _ _ => 512) := by
  unfold val_main_v19 val_main_cst_4
  rw [c_512]
  rfl
theorem k_v21 : val_main_v21 (F := Ideal) = up (s := S8192x1) (mat fun _ _ => eps) := by
  unfold val_main_v21 val_main_cst_5
  rw [c_eps]
  rfl
theorem k_v25 : val_main_v25 (F := Ideal) = up (s := S8192x1) (mat fun _ _ => -(1 / 2)) := by
  unfold val_main_v25 val_main_cst_6
  rw [c_negHalf]
  rfl
theorem k_v49 : val_main_v49 (F := Ideal) = up (s := S8192x1) (mat fun _ _ => 512) := by
  unfold val_main_v49 val_main_cst_10
  rw [c_512]
  rfl
theorem k_v69 : val_main_v69 (F := Ideal) = up (s := S8192x1) (mat fun _ _ => 512) := by
  unfold val_main_v69 val_main_cst_15
  rw [c_512]
  rfl

/-! The dilated half. -/

theorem r_v6 : val_main_v6 (F := Ideal) (up (mat XD)) = up (mat fun i _ => ms 512 XD i) := by
  unfold val_main_v6 val_main_v4 val_main_v2 val_main_v1 val_main_v0 val_main_cst
  rw [k_v3, k_v5, c_zero]
  exact h_ms 512 h512 n8192 XD _ _ _
theorem r_v7 : val_main_v7 (F := Ideal) (up (mat XD)) = up (mat fun i _ => rs 512 XD i) := by
  unfold val_main_v7
  rw [r_v6]
  exact h_rs 512 h512 XD
theorem r_v10 : val_main_v10 (F := Ideal) (up (mat XD)) = up (mat fun i _ => -(1 / 2) * (rs 512 XD i * rs 512 XD i * rs 512 XD i)) := by
  unfold val_main_v10 val_main_v8
  rw [r_v6, r_v7, k_v9]
  exact h_drs 512 h512 XD
theorem r_v61 : val_main_v61 (F := Ideal) (up (vec GD)) (up (mat W)) (up (mat DX)) = up (mat fun i k => lo DX W i k * GD k) := by
  unfold val_main_v61 val_main_v60 val_main_v13
  rw [r_v35, m_inDimRow n512, m_bcastInDimRow n512]
  exact m_mulf _ _
/-- The gradient of the dilated half's rows. -/
theorem r_v76 : val_main_v76 (F := Ideal) (up (mat XD)) (up (vec GD)) (up (mat W)) (up (mat DX)) = up (mat (dx 512 XD (lo DX W) GD)) := by
  unfold val_main_v76 val_main_v75 val_main_v74 val_main_v73 val_main_v72 val_main_v71 val_main_v70 val_main_v68 val_main_v67 val_main_v66 val_main_v65 val_main_v64 val_main_v63 val_main_cst_14 val_main_cst_16
  rw [r_v61, r_v7, r_v10, k_v69, c_zero]
  exact h_dx 512 h512 n8192 XD (lo DX W) GD _ _ _ _ _ _
/-- The dilated gain's gradient. -/
theorem r_v77 : val_main_v77 (F := Ideal) (up (mat XD)) (up (mat W)) (up (mat DX)) = up (mat fun _ k => ∑ i, dgc 512 XD (lo DX W) i k) := by
  unfold val_main_v77 val_main_v62 val_main_v59 val_main_v58 val_main_v57 val_main_v12 val_main_v11 val_main_cst_12 val_main_cst_13
  rw [r_v35, r_v7, c_zero]
  exact h_dg 512 h512 n8192 XD (lo DX W) _ _ n512 _ _ _ _

/-! The latent half. -/

theorem r_v22 : val_main_v22 (F := Ideal) (up (mat XM)) = up (mat fun i _ => ms 512 XM i) := by
  unfold val_main_v22 val_main_v20 val_main_v18 val_main_v17 val_main_v16 val_main_cst_3
  rw [k_v19, k_v21, c_zero]
  exact h_ms 512 h512 n8192 XM _ _ _
theorem r_v23 : val_main_v23 (F := Ideal) (up (mat XM)) = up (mat fun i _ => rs 512 XM i) := by
  unfold val_main_v23
  rw [r_v22]
  exact h_rs 512 h512 XM
theorem r_v26 : val_main_v26 (F := Ideal) (up (mat XM)) = up (mat fun i _ => -(1 / 2) * (rs 512 XM i * rs 512 XM i * rs 512 XM i)) := by
  unfold val_main_v26 val_main_v24
  rw [r_v22, r_v23, k_v25]
  exact h_drs 512 h512 XM
theorem r_v41 : val_main_v41 (F := Ideal) (up (vec GM)) (up (mat W)) (up (mat DX)) = up (mat fun i k => hi DX W i k * GM k) := by
  unfold val_main_v41 val_main_v40 val_main_v29
  rw [r_v36, m_inDimRow n512, m_bcastInDimRow n512]
  exact m_mulf _ _
/-- The gradient of the latent half's rows. -/
theorem r_v56 : val_main_v56 (F := Ideal) (up (mat XM)) (up (vec GM)) (up (mat W)) (up (mat DX)) = up (mat (dx 512 XM (hi DX W) GM)) := by
  unfold val_main_v56 val_main_v55 val_main_v54 val_main_v53 val_main_v52 val_main_v51 val_main_v50 val_main_v48 val_main_v47 val_main_v46 val_main_v45 val_main_v44 val_main_v43 val_main_cst_9 val_main_cst_11
  rw [r_v41, r_v23, r_v26, k_v49, c_zero]
  exact h_dx 512 h512 n8192 XM (hi DX W) GM _ _ _ _ _ _
/-- The latent gain's gradient. -/
theorem r_v78 : val_main_v78 (F := Ideal) (up (mat XM)) (up (mat W)) (up (mat DX)) = up (mat fun _ k => ∑ i, dgc 512 XM (hi DX W) i k) := by
  unfold val_main_v78 val_main_v42 val_main_v39 val_main_v38 val_main_v37 val_main_v28 val_main_v27 val_main_cst_7 val_main_cst_8
  rw [r_v36, r_v23, c_zero]
  exact h_dg 512 h512 n8192 XM (hi DX W) _ _ n512 _ _ _ _

end Cert.OutBwd.Reference

end
-- ==== Proof.OutBwdPre.lean ====
/- The precondition of the output projection's part: its six arguments are matrices (the gains vectors) of reals. -/
module

public import proofs.«01_k».proof.Proof.Finite
public import proofs.«01_k».proof.Proof.Gen.Pre_finite5

@[expose] public section

noncomputable section

namespace Cert.OutBwd.Pre

open Cert.Pre_finite5 Cert.Pre_finite5.Gen Cert.Lift Idealize.ShloMosaic

instance : Subsingleton S_.Idx := ⟨fun a b => funext fun i => i.elim0⟩

/-- Arguments that meet the precondition are real. -/
theorem reals {x0 x1 : FVec Ideal S8192x512 .f32} {x2 x3 : FVec Ideal S512 .f32} {x4 : FVec Ideal S1024x1024 .f32}
    {x5 : FVec Ideal S8192x1024 .f32} (h : Cert.Pre_finite5.fn (F := Ideal) x0 x1 x2 x3 x4 x5 = fun _ => 1#1) :
    ∃ (XD XM : Fin 8192 → Fin 512 → ℝ) (GD GM : Fin 512 → ℝ) (W : Fin 1024 → Fin 1024 → ℝ) (DX : Fin 8192 → Fin 1024 → ℝ),
      x0 = up (mat XD) ∧ x1 = up (mat XM) ∧ x2 = up (vec GD) ∧ x3 = up (vec GM) ∧ x4 = up (mat W) ∧ x5 = up (mat DX) := by
  have e := congrFun h (fun i => i.elim0)
  unfold Cert.Pre_finite5.fn Cert.Pre_finite5.fn_part1 at e
  dsimp only at e
  obtain ⟨e, e5⟩ := and_one e
  obtain ⟨e, e4⟩ := and_one e
  obtain ⟨e, e3⟩ := and_one e
  obtain ⟨e, e2⟩ := and_one e
  obtain ⟨e0, e1⟩ := and_one e
  obtain ⟨A0, h0⟩ := reals_of_all _ _ _ _ _ _ e0
  obtain ⟨A1, h1⟩ := reals_of_all _ _ _ _ _ _ e1
  obtain ⟨A2, h2⟩ := reals_of_all _ _ _ _ _ _ e2
  obtain ⟨A3, h3⟩ := reals_of_all _ _ _ _ _ _ e3
  obtain ⟨A4, h4⟩ := reals_of_all _ _ _ _ _ _ e4
  obtain ⟨A5, h5⟩ := reals_of_all _ _ _ _ _ _ e5
  exact ⟨_, _, _, _, _, _, h0.trans (congrArg up (mat_eq A0)), h1.trans (congrArg up (mat_eq A1)), h2.trans (congrArg up (vec_eq A2)),
    h3.trans (congrArg up (vec_eq A3)), h4.trans (congrArg up (mat_eq A4)), h5.trans (congrArg up (mat_eq A5))⟩

end Cert.OutBwd.Pre

end
-- ==== Proof.OutBwdClaims.lean ====
/- The claims about the output projection's backward kernel, from the arrays of the kernel's run and of the reference's run. -/
module

public import proofs.«01_k».proof.Defs
public import proofs.«01_k».proof.Proof.OutBwdArrays
public import proofs.«01_k».proof.Proof.OutBwdReference
public import proofs.«01_k».proof.Proof.OutBwdPre

@[expose] public section

noncomputable section

namespace Cert.OutBwd.Claims

open Idealize.ShloMosaic Idealize.SL.Sem Cert.Lift

/-- The reference runs, keeps its arguments, and declares no semaphore. -/
theorem frame_r : Cert.quiescent_Reference5Ideal := by
  intro m ρ _
  exact (θ_run Cert.Reference5Ideal.defs _ _).mono
    (fun r h => ⟨fun c => (h c).2.2.2.2, sem_eq_zero_of_no_sems (by decide) r.2⟩) (Cert.Reference5Ideal.Value.run m ρ)

/-- On finite arguments the kernel's four results are the reference's. -/
theorem algebraic : Cert.algebraic_Kernel5Ideal_Reference5Ideal_pre_finite5 := by
  intro m ρ m' ρ' hpre hagree
  refine ⟨fun c => (Cert.Kernel5Ideal.Gen.dats m 0 c).arrAt 6 Cert.Kernel5Ideal.cfg0.N,
    fun c => (Cert.Kernel5Ideal.Gen.dats m 0 c).arrAt 7 Cert.Kernel5Ideal.cfg0.N,
    fun c => (Cert.Kernel5Ideal.Gen.dats m 0 c).arrAt 8 Cert.Kernel5Ideal.cfg0.N,
    fun c => (Cert.Kernel5Ideal.Gen.dats m 0 c).arrAt 9 Cert.Kernel5Ideal.cfg0.N,
    Cert.Kernel5Ideal.Value.run_blocks m ρ, ?_⟩
  refine (θ_run Cert.Reference5Ideal.defs _ _).mono (fun r h c => ?_) (Cert.Reference5Ideal.Value.run m' ρ')
  obtain ⟨XD, XM, GD, GM, W, DX, hD, hM, hGD, hGM, hW, hDX⟩ := Cert.OutBwd.Pre.reals (hpre c)
  obtain ⟨a0, a1, a2, a3, a4, a5⟩ := hagree c
  obtain ⟨r0, r1, r2, r3, k⟩ := h c
  have x0 := a0.trans hD; have x1 := a1.trans hM; have x2 := a2.trans hGD
  have x3 := a3.trans hGM; have x4 := a4.trans hW; have x5 := a5.trans hDX
  refine ⟨?_, ?_, ?_, ?_, k⟩
  · rw [r0, Cert.Reference5Ideal.Read.val_main_v76_eq, x0, x2, x4, x5, Cert.OutBwd.Reference.r_v76]
    exact (Cert.OutBwd.Arrays.final6 m c hD hM hGD hGM hW hDX).symm
  · rw [r1, Cert.Reference5Ideal.Read.val_main_v56_eq, x1, x3, x4, x5, Cert.OutBwd.Reference.r_v56]
    exact (Cert.OutBwd.Arrays.final7 m c hD hM hGD hGM hW hDX).symm
  · rw [r2, Cert.Reference5Ideal.Read.val_main_v77_eq, x0, x4, x5, Cert.OutBwd.Reference.r_v77]
    exact (Cert.OutBwd.Arrays.final8 m c hD hM hGD hGM hW hDX).symm
  · rw [r3, Cert.Reference5Ideal.Read.val_main_v78_eq, x1, x4, x5, Cert.OutBwd.Reference.r_v78]
    exact (Cert.OutBwd.Arrays.final9 m c hD hM hGD hGM hW hDX).symm

end Cert.OutBwd.Claims

end
-- ==== Proof.WOutBlock.lean ====
/- What one grid point of the weight-gradient kernel of the output projection leaves in its accumulator and, at the last
   of a tile's points, in its output block: the running product of the two operands' blocks, read back from the stores. -/
module

public import proofs.«01_k».proof.Proof.Gen.Kernel6Ideal.Value
public import proofs.«01_k».proof.Proof.EMat

@[expose] public section

noncomputable section

namespace Cert.WOut.Block

open Cert.Kernel6Ideal Cert.Kernel6Ideal.Gen Idealize.ShloMosaic Idealize.ShloMosaic.TcCoe Idealize.SL.Sem Cert.EMat

theorem hz : (![0, 0] : Fin 2 → Nat) = fun _ => 0 := funext fun a => by fin_cases a <;> rfl

section

variable {F : FTy → Type} [FloatOps F]
variable (c : Dev nD) (i : grid0.Coords)
  (a3 : Memref sig .tc .vmem S2048x1024 .bf16) (h3 : a3.IsWhole)
  (a4 : Memref sig .tc .vmem S2048x1024 .f32) (h4 : a4.IsWhole)
  (a5 : Memref sig .tc .vmem S1024x1024 .bf16) (h5 : a5.IsWhole)
  (a6 : Memref sig .tc .vmem S1024x1024 .f32) (h6 : a6.IsWhole)
  (x : Vec F S2048x1024 .bf16) (y : Vec F S2048x1024 .f32)

/-- The accumulator after a tile's first point: the first product. -/
theorem acc_A (hc0 : cond0_0 i) (hc1 : ¬cond0_1 i) :
    sout0_A_0 c i a3 h3 a4 h4 a5 h5 a6 h6 hc0 hc1 x y = k0_pay2 k0_pay1 x y := by
  unfold sout0_A_0
  rw [View.read_writes_junk_eq_canon]
  unfold kernelRun0_A
  dsimp only
  sl_unfold_words
  simp only [View.canon_unit_zero (S := S1024x1024) hz, View.readCov_unit_zero (S := S1024x1024) _ hz, View.canon_cons_unit_zero (S := S1024x1024) hz,
    View.readAt_eq_ld, h3.read_unread, h4.read_unread, h6.read_unread, View.ld_unit_zero (S := S2048x1024) hz, View.ld_unit_zero (S := S1024x1024) hz]

/-- The accumulator after a middle point: one more product. -/
theorem acc_B (hc0 : ¬cond0_0 i) (hc1 : ¬cond0_1 i) (acc : Vec F S1024x1024 .f32) :
    sout0_B_0 c i a3 h3 a4 h4 a5 h5 a6 h6 hc0 hc1 x y acc = k0_pay2 acc x y := by
  unfold sout0_B_0
  rw [View.read_writes_junk_eq_canon]
  unfold kernelRun0_B
  dsimp only
  sl_unfold_words
  simp only [View.canon_unit_zero (S := S1024x1024) hz, View.readCov_unit_zero (S := S1024x1024) _ hz, View.canon_cons_unit_zero (S := S1024x1024) hz,
    View.readAt_eq_ld, h3.read_unread, h4.read_unread, h6.read_unread, View.ld_unit_zero (S := S2048x1024) hz, View.ld_unit_zero (S := S1024x1024) hz]

/-- The accumulator after a tile's last point. -/
theorem acc_C (hc0 : ¬cond0_0 i) (hc1 : cond0_1 i) (acc : Vec F S1024x1024 .f32) :
    sout0_C_0 c i a3 h3 a4 h4 a5 h5 a6 h6 hc0 hc1 x y acc = k0_pay2 acc x y := by
  unfold sout0_C_0
  rw [View.read_writes_junk_eq_canon]
  unfold kernelRun0_C
  dsimp only
  sl_unfold_words
  simp only [View.canon_unit_zero (S := S1024x1024) hz, View.readCov_unit_zero (S := S1024x1024) _ hz, View.canon_cons_unit_zero (S := S1024x1024) hz,
    View.readAt_eq_ld, h3.read_unread, h4.read_unread, h6.read_unread, View.ld_unit_zero (S := S2048x1024) hz, View.ld_unit_zero (S := S1024x1024) hz]

/-- The output block after a tile's last point: the accumulator, rounded. -/
theorem out_C (hc0 : ¬cond0_0 i) (hc1 : cond0_1 i) (acc : Vec F S1024x1024 .f32) :
    out0_C_2 c i a3 h3 a4 h4 a5 h5 a6 h6 hc0 hc1 x y acc = k0_pay3 (k0_pay2 acc x y) := by
  unfold out0_C_2
  rw [View.read_writes_junk_eq_canon]
  unfold kernelRun0_C
  dsimp only
  sl_unfold_words
  simp only [View.canon_unit_zero (S := S1024x1024) hz, View.readCov_unit_zero (S := S1024x1024) _ hz, View.canon_cons_unit_zero (S := S1024x1024) hz,
    View.readAt_eq_ld, h3.read_unread, h4.read_unread, h6.read_unread, View.ld_unit_zero (S := S2048x1024) hz, View.ld_unit_zero (S := S1024x1024) hz]

end

/-! ## On extended reals -/

theorem dot_eq : dot_S2048x1024_S2048x1024_S1024x1024_0_0_1_1_n_n = transposedLhs 1024 2048 1024 := rfl

/-- The accumulator's start. -/
theorem zero_value : k0_pay1 (F := Ideal) = emat fun _ _ => 0 := by
  unfold k0_pay1
  funext i
  exact Ideal.ofBits_zero_f32

/-- One point's step: the two blocks' product over their 2048 rows is added. -/
theorem step_value (A : Fin 1024 → Fin 1024 → EReal) (X : Fin 2048 → Fin 1024 → EReal) (Y : Fin 2048 → Fin 1024 → EReal) :
    k0_pay2 (F := Ideal) (emat A) (emat X) (emat Y) = emat fun i j => A i j + ∑ r, X r i * Y r j := by
  unfold k0_pay2
  simp only [shapeCast_self, dot_eq, e_matmulTl, e_addf, e_truncf]

/-- The rounding of the result leaves its extended reals. -/
theorem out_value (A : Fin 1024 → Fin 1024 → EReal) : k0_pay3 (F := Ideal) (emat A) = emat A := rfl

end Cert.WOut.Block

end
-- ==== Proof.WOutArrays.lean ====
/- The result array of the weight-gradient kernel of the output projection: a tile of 1024 columns of the left operand
   takes four grid points, and each of these adds the product over 2048 of the 8192 rows, so that a tile ends as the sum
   over all rows. -/
module

public import proofs.«01_k».proof.Proof.WOutBlock
public import proofs.«01_k».proof.Proof.TileSum

@[expose] public section

noncomputable section

namespace Cert.WOut.Arrays

open Cert.Kernel6Ideal Cert.Kernel6Ideal.Gen Cert.Kernel6Ideal.Value Cert.EMat Cert.Rows Cert.TileSum Cert.WOut.Block
open Idealize.ShloMosaic Idealize.ShloMosaic.TcCoe Idealize.ShloMosaic.ValueIdx Idealize.SL.Sem

/-- The column of the left operand that column `a` of a block is: the one tile is the whole width. -/
def col (_ : ℕ) (a : Fin 1024) : Fin 1024 := a

theorem col_run (n : ℕ) (_ : ¬(n + 1) % 4 = 0) : col (n + 1) = col n := rfl

theorem idx0 : ∀ t : Fin grid0.N, win0_0.index t (0 : Fin 2) = t.val % 4 ∧ win0_0.index t (1 : Fin 2) = 0 := by decide +kernel
theorem idx1 : ∀ t : Fin grid0.N, win0_1.index t (0 : Fin 2) = t.val % 4 ∧ win0_1.index t (1 : Fin 2) = 0 := by decide +kernel
theorem idx2 : ∀ t : Fin grid0.N, win0_2.index t (0 : Fin 2) = 0 ∧ win0_2.index t (1 : Fin 2) = 0 := by decide +kernel

/-! The index of a block's entry in its array. -/

theorem pts (t : Fin cfg0.N) : t.val < 4 := t.isLt

theorem emb0_0 (t : Fin cfg0.N) (j : S2048x1024.Idx) : (((cfg0.win 0).blk t).view.emb j) (0 : Fin 2) = rowOf t.val (j 0) :=
  Rows.at_row rfl ⟨t.val % 4, Nat.mod_lt _ (by norm_num)⟩ (j 0) (idx0 t).1 _ rfl
theorem emb0_1 (t : Fin cfg0.N) (j : S2048x1024.Idx) : (((cfg0.win 0).blk t).view.emb j) (1 : Fin 2) = col t.val (j 1) := by
  obtain ⟨e0, e1⟩ := idx0 t
  have := pts t
  apply Fin.ext
  show win0_0.index t (1 : Fin 2) * 1024 + 1 * (j 1).val = (j 1).val
  omega
theorem emb1_0 (t : Fin cfg0.N) (j : S2048x1024.Idx) : (((cfg0.win 1).blk t).view.emb j) (0 : Fin 2) = rowOf t.val (j 0) :=
  Rows.at_row rfl ⟨t.val % 4, Nat.mod_lt _ (by norm_num)⟩ (j 0) (idx1 t).1 _ rfl
theorem emb1_1 (t : Fin cfg0.N) (j : S2048x1024.Idx) : (((cfg0.win 1).blk t).view.emb j) (1 : Fin 2) = j 1 := Rows.at_same (j 1) (idx1 t).2 _ rfl
theorem emb2_0 (t : Fin cfg0.N) (j : S1024x1024.Idx) : (((cfg0.win 2).blk t).view.emb j) (0 : Fin 2) = col t.val (j 0) := by
  obtain ⟨e0, e1⟩ := idx2 t
  have := pts t
  apply Fin.ext
  show win0_2.index t (0 : Fin 2) * 1024 + 1 * (j 0).val = (j 0).val
  omega
theorem emb2_1 (t : Fin cfg0.N) (j : S1024x1024.Idx) : (((cfg0.win 2).blk t).view.emb j) (1 : Fin 2) = j 1 := Rows.at_same (j 1) (idx2 t).2 _ rfl

variable (m : (ℓ : Loc nD τ sig) → Buf (Elt Ideal) ℓ) (c : Dev nD)
  {A : Fin 8192 → Fin 1024 → EReal} {B : Fin 8192 → Fin 1024 → EReal}
  (hA : m ((c : Thread nD τ).loc main_arg0) = (emat A : S8192x1024.Idx → EReal))
  (hB : m ((c : Thread nD τ).loc main_arg1) = (emat B : S8192x1024.Idx → EReal))

include hA in
/-- The left operand's block. -/
theorem b0 (t : Fin cfg0.N) : iblk m c 0 t = (emat fun r a => A (rowOf t.val r) (col t.val a) : S2048x1024.Idx → EReal) := by
  have h : V m c main_v0 = (emat A : S8192x1024.Idx → EReal) := by
    unfold_abbrev_sides
    after_results
    exact hA
  funext j
  show V m c main_v0 (((cfg0.win 0).blk t).view.emb j) = _
  rw [h]
  exact congrArg₂ A (emb0_0 t j) (emb0_1 t j)

include hB in
/-- The right operand's block. -/
theorem b1 (t : Fin cfg0.N) : iblk m c 1 t = (emat fun r a => B (rowOf t.val r) a : S2048x1024.Idx → EReal) := by
  have h : V m c main_arg1 = (emat B : S8192x1024.Idx → EReal) := by
    unfold_abbrev_sides
    after_results
    exact hB
  funext j
  show V m c main_arg1 (((cfg0.win 1).blk t).view.emb j) = _
  rw [h]
  exact congrArg₂ B (emb1_0 t j) (emb1_1 t j)

include hA hB in
/-- The accumulator after a tile's first point. -/
theorem first (n : ℕ) (hn : n < cfg0.N) (h0 : n % 4 = 0) : (outsAt0 m c n hn).2
    = (emat (fun a b => 0 + ∑ r, A (rowOf n r) (col n a) * B (rowOf n r) b) : S1024x1024.Idx → EReal) := by
  have h := outsAt0_A m c ⟨n, hn⟩ h0 (by show ¬n % 4 = 3; omega)
  rw [h]
  dsimp only
  rw [acc_A, b0 m c hA ⟨n, hn⟩, b1 m c hB ⟨n, hn⟩, zero_value, step_value]

include hA hB in
/-- The accumulator after any other point, from the one before. -/
theorem later (n : ℕ) (hn : n + 1 < cfg0.N) (h0 : ¬(n + 1) % 4 = 0) (P : Fin 1024 → Fin 1024 → EReal)
    (e : (outsAt0 m c n (Nat.lt_of_succ_lt hn)).2 = (emat P : S1024x1024.Idx → EReal)) : (outsAt0 m c (n + 1) hn).2
      = (emat (fun a b => P a b + ∑ r, A (rowOf (n + 1) r) (col (n + 1) a) * B (rowOf (n + 1) r) b) : S1024x1024.Idx → EReal) := by
  by_cases h3 : (n + 1) % 4 = 3
  · have h := outsAt0_C m c ⟨n + 1, hn⟩ h0 h3
    rw [h]
    dsimp only
    rw [acc_C, b0 m c hA ⟨n + 1, hn⟩, b1 m c hB ⟨n + 1, hn⟩]
    exact (congrArg (k0_pay2 (F := Ideal) · _ _) e).trans (step_value _ _ _)
  · have h := outsAt0_B m c ⟨n + 1, hn⟩ h0 h3
    rw [h]
    dsimp only
    rw [acc_B, b0 m c hA ⟨n + 1, hn⟩, b1 m c hB ⟨n + 1, hn⟩]
    exact (congrArg (k0_pay2 (F := Ideal) · _ _) e).trans (step_value _ _ _)

include hA hB in
/-- The accumulator after point `n`: the tile's products over the blocks of rows so far. -/
theorem acc_at (n : ℕ) (hn : n < cfg0.N) :
    (outsAt0 m c n hn).2 = (emat (tile A B (col n) (n % 4 + 1)) : S1024x1024.Idx → EReal) := by
  have h := chain (K := cfg0.N) A B col col_run (fun n hn => entries (outsAt0 m c n hn).2)
    (fun n hn h0 => congrArg entries (first m c hA hB n hn h0))
    (fun n hn h0 => congrArg entries (later m c hA hB n hn h0 _ (emat_entries _).symm)) n hn
  exact (emat_entries _).symm.trans (congrArg emat h)

/-- A block of the result array. -/
theorem read2 (t : Fin cfg0.N) (G : Fin 1024 → Fin 1024 → EReal) :
    ((cfg0.win 2).blk t).view.read (Elt Ideal) (emat G : S1024x1024.Idx → EReal)
      = (emat fun a b => G (col t.val a) b : S1024x1024.Idx → EReal) := by
  funext j
  exact congrArg₂ G (emb2_0 t j) (emb2_1 t j)

include hA hB in
/-- What a tile's last point writes back. -/
theorem flushed_eq (t : Fin cfg0.N) (hf : (cfg0.win 2).flush t = true) : (dats m 0 c).flushed 2 t
    = ((cfg0.win 2).blk t).view.read (Elt Ideal) (emat (grad A B) : S1024x1024.Idx → EReal) := by
  have h3 : t.val % 4 = 3 := (flush0_2 t).mp hf
  have h0 : ¬t.val % 4 = 0 := by omega
  have e := acc_at m c hA hB t.val t.isLt
  rw [outsAt0_C m c t h0 h3] at e
  dsimp only at e
  rw [acc_C] at e
  rw [flushed2_C m c t h0 h3, out_C, e, out_value, h3]
  exact (congrArg emat (tile_all A B (col t.val))).trans (read2 t (grad A B)).symm

/-- Every entry of the result is in a written block. -/
theorem cover (i : S1024x1024.Idx) : ∃ t : Fin cfg0.N, (cfg0.win 2).flush t = true ∧ i ∈ ((cfg0.win 2).blk t).view.set := by
  have h0 : (i 0).val < 1024 := (i 0).isLt
  have h1 : (i 1).val < 1024 := (i 1).isLt
  exact (covered_iff2 i).2 (by omega)

include hA hB in
/-- The result array after the run. -/
theorem final : (dats m 0 c).arrAt 2 cfg0.N = (emat (grad A B) : S1024x1024.Idx → EReal) :=
  (dats m 0 c).arrAt_eq_of_cover 2 _ (fun t hf => flushed_eq m c hA hB t hf) cover

end Cert.WOut.Arrays

end
-- ==== Proof.WOutClaims.lean ====
/- The claims about the weight-gradient kernel of the output projection: over the extended reals its result is the
   reference's, of any arguments. -/
module

public import proofs.«01_k».proof.Defs
public import proofs.«01_k».proof.Proof.WOutArrays
public import proofs.«01_k».proof.Proof.Gen.Reference6Ideal.Read

@[expose] public section

noncomputable section

namespace Cert.WOut.Claims

open Idealize.ShloMosaic Idealize.SL.Sem Cert.EMat Cert.TileSum Cert.WOut.Arrays Cert.Reference6Ideal Cert.Reference6Ideal.Read

theorem dot_eq : dot_S8192x1024_S8192x1024_S1024x1024_0_0_1_1_n_n = transposedLhs 1024 8192 1024 := rfl

/-- The reference's value: the gradient of the product in the right factor. -/
theorem reference_value (A : Fin 8192 → Fin 1024 → EReal) (B : Fin 8192 → Fin 1024 → EReal) :
    val_main_v4 (F := Ideal) (emat A) (emat B) = (emat (grad A B) : S1024x1024.Idx → EReal) := by
  have h2 : val_main_v2 (F := Ideal) (emat A) (emat B) = (emat fun i j => grad A B j i : S1024x1024.Idx → EReal) := by
    unfold val_main_v2
    rw [dot_eq]
    exact (e_dotTl none _ _).trans (congrArg emat (grad_swap A B))
  have h3 : val_main_v3 (F := Ideal) (emat A) (emat B) = (emat (grad A B) : S1024x1024.Idx → EReal) := by
    unfold val_main_v3
    rw [h2]
    exact e_transpose _ _
  unfold val_main_v4
  rw [h3]
  exact e_truncf _ _

/-- The reference runs, keeps its arguments, and declares no semaphore. -/
theorem frame_r : Cert.quiescent_Reference6Ideal := by
  intro m ρ _
  exact (θ_run Cert.Reference6Ideal.defs _ _).mono
    (fun r h => ⟨fun c => (h c).2, sem_eq_zero_of_no_sems (by decide) r.2⟩) (Cert.Reference6Ideal.Value.run m ρ)

/-- The kernel's result is the reference's. -/
theorem algebraic : Cert.algebraic_Kernel6Ideal_Reference6Ideal := by
  intro m ρ m' ρ' _ hagree
  refine ⟨fun c => Cert.Kernel6Ideal.Value.G2 m c, Cert.Kernel6Ideal.Value.run m ρ, ?_⟩
  refine (θ_run Cert.Reference6Ideal.defs _ _).mono (fun r h c => ?_) (Cert.Reference6Ideal.Value.run m' ρ')
  obtain ⟨a0, a1⟩ := hagree c
  obtain ⟨r0, k⟩ := h c
  have hA := emat_eq (M := 8192) (N := 1024) (m ((c.tc : Thread Cert.Kernel6Ideal.nD Cert.Kernel6Ideal.τ).loc Cert.Kernel6Ideal.main_arg0))
  have hB := emat_eq (M := 8192) (N := 1024) (m ((c.tc : Thread Cert.Kernel6Ideal.nD Cert.Kernel6Ideal.τ).loc Cert.Kernel6Ideal.main_arg1))
  have x0 := a0.trans hA
  have x1 := a1.trans hB
  refine ⟨?_, k⟩
  rw [r0, val_main_v4_eq, x0, x1, reference_value]
  exact (final m c hA hB).symm.trans (Cert.Kernel6Ideal.Value.final2 m c)

end Cert.WOut.Claims

end
-- ==== Proof.WQbBlock.lean ====
/- What one grid point of the weight-gradient kernel of the query's low-rank projection leaves in its accumulator and, at the last
   of a tile's points, in its output block: the running product of the two operands' blocks, read back from the stores. -/
module

public import proofs.«01_k».proof.Proof.Gen.Kernel7Ideal.Value
public import proofs.«01_k».proof.Proof.EMat

@[expose] public section

noncomputable section

namespace Cert.WQb.Block

open Cert.Kernel7Ideal Cert.Kernel7Ideal.Gen Idealize.ShloMosaic Idealize.ShloMosaic.TcCoe Idealize.SL.Sem Cert.EMat

theorem hz : (![0, 0] : Fin 2 → Nat) = fun _ => 0 := funext fun a => by fin_cases a <;> rfl

section

variable {F : FTy → Type} [FloatOps F]
variable (c : Dev nD) (i : grid0.Coords)
  (a3 : Memref sig .tc .vmem S2048x1024 .bf16) (h3 : a3.IsWhole)
  (a4 : Memref sig .tc .vmem S2048x256 .bf16) (h4 : a4.IsWhole)
  (a5 : Memref sig .tc .vmem S1024x256 .bf16) (h5 : a5.IsWhole)
  (a6 : Memref sig .tc .vmem S1024x256 .f32) (h6 : a6.IsWhole)
  (x : Vec F S2048x1024 .bf16) (y : Vec F S2048x256 .bf16)

/-- The accumulator after a tile's first point: the first product. -/
theorem acc_A (hc0 : cond0_0 i) (hc1 : ¬cond0_1 i) :
    sout0_A_0 c i a3 h3 a4 h4 a5 h5 a6 h6 hc0 hc1 x y = k0_pay2 k0_pay1 x y := by
  unfold sout0_A_0
  rw [View.read_writes_junk_eq_canon]
  unfold kernelRun0_A
  dsimp only
  sl_unfold_words
  simp only [View.canon_unit_zero (S := S1024x256) hz, View.readCov_unit_zero (S := S1024x256) _ hz, View.canon_cons_unit_zero (S := S1024x256) hz,
    View.readAt_eq_ld, h3.read_unread, h4.read_unread, h6.read_unread, View.ld_unit_zero (S := S2048x1024) hz, View.ld_unit_zero (S := S2048x256) hz, View.ld_unit_zero (S := S1024x256) hz]

/-- The accumulator after a middle point: one more product. -/
theorem acc_B (hc0 : ¬cond0_0 i) (hc1 : ¬cond0_1 i) (acc : Vec F S1024x256 .f32) :
    sout0_B_0 c i a3 h3 a4 h4 a5 h5 a6 h6 hc0 hc1 x y acc = k0_pay2 acc x y := by
  unfold sout0_B_0
  rw [View.read_writes_junk_eq_canon]
  unfold kernelRun0_B
  dsimp only
  sl_unfold_words
  simp only [View.canon_unit_zero (S := S1024x256) hz, View.readCov_unit_zero (S := S1024x256) _ hz, View.canon_cons_unit_zero (S := S1024x256) hz,
    View.readAt_eq_ld, h3.read_unread, h4.read_unread, h6.read_unread, View.ld_unit_zero (S := S2048x1024) hz, View.ld_unit_zero (S := S2048x256) hz, View.ld_unit_zero (S := S1024x256) hz]

/-- The accumulator after a tile's last point. -/
theorem acc_C (hc0 : ¬cond0_0 i) (hc1 : cond0_1 i) (acc : Vec F S1024x256 .f32) :
    sout0_C_0 c i a3 h3 a4 h4 a5 h5 a6 h6 hc0 hc1 x y acc = k0_pay2 acc x y := by
  unfold sout0_C_0
  rw [View.read_writes_junk_eq_canon]
  unfold kernelRun0_C
  dsimp only
  sl_unfold_words
  simp only [View.canon_unit_zero (S := S1024x256) hz, View.readCov_unit_zero (S := S1024x256) _ hz, View.canon_cons_unit_zero (S := S1024x256) hz,
    View.readAt_eq_ld, h3.read_unread, h4.read_unread, h6.read_unread, View.ld_unit_zero (S := S2048x1024) hz, View.ld_unit_zero (S := S2048x256) hz, View.ld_unit_zero (S := S1024x256) hz]

/-- The output block after a tile's last point: the accumulator, rounded. -/
theorem out_C (hc0 : ¬cond0_0 i) (hc1 : cond0_1 i) (acc : Vec F S1024x256 .f32) :
    out0_C_2 c i a3 h3 a4 h4 a5 h5 a6 h6 hc0 hc1 x y acc = k0_pay3 (k0_pay2 acc x y) := by
  unfold out0_C_2
  rw [View.read_writes_junk_eq_canon]
  unfold kernelRun0_C
  dsimp only
  sl_unfold_words
  simp only [View.canon_unit_zero (S := S1024x256) hz, View.readCov_unit_zero (S := S1024x256) _ hz, View.canon_cons_unit_zero (S := S1024x256) hz,
    View.readAt_eq_ld, h3.read_unread, h4.read_unread, h6.read_unread, View.ld_unit_zero (S := S2048x1024) hz, View.ld_unit_zero (S := S2048x256) hz, View.ld_unit_zero (S := S1024x256) hz]

end

/-! ## On extended reals -/

theorem dot_eq : dot_S2048x1024_S2048x256_S1024x256_0_0_1_1_n_n = transposedLhs 1024 2048 256 := rfl

/-- The accumulator's start. -/
theorem zero_value : k0_pay1 (F := Ideal) = emat fun _ _ => 0 := by
  unfold k0_pay1
  funext i
  exact Ideal.ofBits_zero_f32

/-- One point's step: the two blocks' product over their 2048 rows is added. -/
theorem step_value (A : Fin 1024 → Fin 256 → EReal) (X : Fin 2048 → Fin 1024 → EReal) (Y : Fin 2048 → Fin 256 → EReal) :
    k0_pay2 (F := Ideal) (emat A) (emat X) (emat Y) = emat fun i j => A i j + ∑ r, X r i * Y r j := by
  unfold k0_pay2
  simp only [shapeCast_self, dot_eq, e_matmulTl, e_addf]

/-- The rounding of the result leaves its extended reals. -/
theorem out_value (A : Fin 1024 → Fin 256 → EReal) : k0_pay3 (F := Ideal) (emat A) = emat A := rfl

end Cert.WQb.Block

end
-- ==== Proof.WQbArrays.lean ====
/- The result array of the weight-gradient kernel of the query's low-rank projection: a tile of 1024 columns of the left operand
   takes four grid points, and each of these adds the product over 2048 of the 8192 rows, so that a tile ends as the sum
   over all rows. -/
module

public import proofs.«01_k».proof.Proof.WQbBlock
public import proofs.«01_k».proof.Proof.TileSum

@[expose] public section

noncomputable section

namespace Cert.WQb.Arrays

open Cert.Kernel7Ideal Cert.Kernel7Ideal.Gen Cert.Kernel7Ideal.Value Cert.EMat Cert.Rows Cert.TileSum Cert.WQb.Block
open Idealize.ShloMosaic Idealize.ShloMosaic.TcCoe Idealize.ShloMosaic.ValueIdx Idealize.SL.Sem

/-- The column of the left operand that column `a` of a block is: the one tile is the whole width. -/
def col (_ : ℕ) (a : Fin 1024) : Fin 1024 := a

theorem col_run (n : ℕ) (_ : ¬(n + 1) % 4 = 0) : col (n + 1) = col n := rfl

theorem idx0 : ∀ t : Fin grid0.N, win0_0.index t (0 : Fin 2) = t.val % 4 ∧ win0_0.index t (1 : Fin 2) = 0 := by decide +kernel
theorem idx1 : ∀ t : Fin grid0.N, win0_1.index t (0 : Fin 2) = t.val % 4 ∧ win0_1.index t (1 : Fin 2) = 0 := by decide +kernel
theorem idx2 : ∀ t : Fin grid0.N, win0_2.index t (0 : Fin 2) = 0 ∧ win0_2.index t (1 : Fin 2) = 0 := by decide +kernel

/-! The index of a block's entry in its array. -/

theorem pts (t : Fin cfg0.N) : t.val < 4 := t.isLt

theorem emb0_0 (t : Fin cfg0.N) (j : S2048x1024.Idx) : (((cfg0.win 0).blk t).view.emb j) (0 : Fin 2) = rowOf t.val (j 0) :=
  Rows.at_row rfl ⟨t.val % 4, Nat.mod_lt _ (by norm_num)⟩ (j 0) (idx0 t).1 _ rfl
theorem emb0_1 (t : Fin cfg0.N) (j : S2048x1024.Idx) : (((cfg0.win 0).blk t).view.emb j) (1 : Fin 2) = col t.val (j 1) := by
  obtain ⟨e0, e1⟩ := idx0 t
  have := pts t
  apply Fin.ext
  show win0_0.index t (1 : Fin 2) * 1024 + 1 * (j 1).val = (j 1).val
  omega
theorem emb1_0 (t : Fin cfg0.N) (j : S2048x256.Idx) : (((cfg0.win 1).blk t).view.emb j) (0 : Fin 2) = rowOf t.val (j 0) :=
  Rows.at_row rfl ⟨t.val % 4, Nat.mod_lt _ (by norm_num)⟩ (j 0) (idx1 t).1 _ rfl
theorem emb1_1 (t : Fin cfg0.N) (j : S2048x256.Idx) : (((cfg0.win 1).blk t).view.emb j) (1 : Fin 2) = j 1 := Rows.at_same (j 1) (idx1 t).2 _ rfl
theorem emb2_0 (t : Fin cfg0.N) (j : S1024x256.Idx) : (((cfg0.win 2).blk t).view.emb j) (0 : Fin 2) = col t.val (j 0) := by
  obtain ⟨e0, e1⟩ := idx2 t
  have := pts t
  apply Fin.ext
  show win0_2.index t (0 : Fin 2) * 1024 + 1 * (j 0).val = (j 0).val
  omega
theorem emb2_1 (t : Fin cfg0.N) (j : S1024x256.Idx) : (((cfg0.win 2).blk t).view.emb j) (1 : Fin 2) = j 1 := Rows.at_same (j 1) (idx2 t).2 _ rfl

variable (m : (ℓ : Loc nD τ sig) → Buf (Elt Ideal) ℓ) (c : Dev nD)
  {A : Fin 8192 → Fin 1024 → EReal} {B : Fin 8192 → Fin 256 → EReal}
  (hA : m ((c : Thread nD τ).loc main_arg1) = (emat A : S8192x1024.Idx → EReal))
  (hB : m ((c : Thread nD τ).loc main_arg0) = (emat B : S8192x256.Idx → EReal))

include hA in
/-- The left operand's block. -/
theorem b0 (t : Fin cfg0.N) : iblk m c 0 t = (emat fun r a => A (rowOf t.val r) (col t.val a) : S2048x1024.Idx → EReal) := by
  have h : V m c main_v0 = (emat A : S8192x1024.Idx → EReal) := by
    unfold_abbrev_sides
    after_results
    exact hA
  funext j
  show V m c main_v0 (((cfg0.win 0).blk t).view.emb j) = _
  rw [h]
  exact congrArg₂ A (emb0_0 t j) (emb0_1 t j)

include hB in
/-- The right operand's block. -/
theorem b1 (t : Fin cfg0.N) : iblk m c 1 t = (emat fun r a => B (rowOf t.val r) a : S2048x256.Idx → EReal) := by
  have h : V m c main_v1 = (emat B : S8192x256.Idx → EReal) := by
    unfold_abbrev_sides
    after_results
    exact hB
  funext j
  show V m c main_v1 (((cfg0.win 1).blk t).view.emb j) = _
  rw [h]
  exact congrArg₂ B (emb1_0 t j) (emb1_1 t j)

include hA hB in
/-- The accumulator after a tile's first point. -/
theorem first (n : ℕ) (hn : n < cfg0.N) (h0 : n % 4 = 0) : (outsAt0 m c n hn).2
    = (emat (fun a b => 0 + ∑ r, A (rowOf n r) (col n a) * B (rowOf n r) b) : S1024x256.Idx → EReal) := by
  have h := outsAt0_A m c ⟨n, hn⟩ h0 (by show ¬n % 4 = 3; omega)
  rw [h]
  dsimp only
  rw [acc_A, b0 m c hA ⟨n, hn⟩, b1 m c hB ⟨n, hn⟩, zero_value, step_value]

include hA hB in
/-- The accumulator after any other point, from the one before. -/
theorem later (n : ℕ) (hn : n + 1 < cfg0.N) (h0 : ¬(n + 1) % 4 = 0) (P : Fin 1024 → Fin 256 → EReal)
    (e : (outsAt0 m c n (Nat.lt_of_succ_lt hn)).2 = (emat P : S1024x256.Idx → EReal)) : (outsAt0 m c (n + 1) hn).2
      = (emat (fun a b => P a b + ∑ r, A (rowOf (n + 1) r) (col (n + 1) a) * B (rowOf (n + 1) r) b) : S1024x256.Idx → EReal) := by
  by_cases h3 : (n + 1) % 4 = 3
  · have h := outsAt0_C m c ⟨n + 1, hn⟩ h0 h3
    rw [h]
    dsimp only
    rw [acc_C, b0 m c hA ⟨n + 1, hn⟩, b1 m c hB ⟨n + 1, hn⟩]
    exact (congrArg (k0_pay2 (F := Ideal) · _ _) e).trans (step_value _ _ _)
  · have h := outsAt0_B m c ⟨n + 1, hn⟩ h0 h3
    rw [h]
    dsimp only
    rw [acc_B, b0 m c hA ⟨n + 1, hn⟩, b1 m c hB ⟨n + 1, hn⟩]
    exact (congrArg (k0_pay2 (F := Ideal) · _ _) e).trans (step_value _ _ _)

include hA hB in
/-- The accumulator after point `n`: the tile's products over the blocks of rows so far. -/
theorem acc_at (n : ℕ) (hn : n < cfg0.N) :
    (outsAt0 m c n hn).2 = (emat (tile A B (col n) (n % 4 + 1)) : S1024x256.Idx → EReal) := by
  have h := chain (K := cfg0.N) A B col col_run (fun n hn => entries (outsAt0 m c n hn).2)
    (fun n hn h0 => congrArg entries (first m c hA hB n hn h0))
    (fun n hn h0 => congrArg entries (later m c hA hB n hn h0 _ (emat_entries _).symm)) n hn
  exact (emat_entries _).symm.trans (congrArg emat h)

/-- A block of the result array. -/
theorem read2 (t : Fin cfg0.N) (G : Fin 1024 → Fin 256 → EReal) :
    ((cfg0.win 2).blk t).view.read (Elt Ideal) (emat G : S1024x256.Idx → EReal)
      = (emat fun a b => G (col t.val a) b : S1024x256.Idx → EReal) := by
  funext j
  exact congrArg₂ G (emb2_0 t j) (emb2_1 t j)

include hA hB in
/-- What a tile's last point writes back. -/
theorem flushed_eq (t : Fin cfg0.N) (hf : (cfg0.win 2).flush t = true) : (dats m 0 c).flushed 2 t
    = ((cfg0.win 2).blk t).view.read (Elt Ideal) (emat (grad A B) : S1024x256.Idx → EReal) := by
  have h3 : t.val % 4 = 3 := (flush0_2 t).mp hf
  have h0 : ¬t.val % 4 = 0 := by omega
  have e := acc_at m c hA hB t.val t.isLt
  rw [outsAt0_C m c t h0 h3] at e
  dsimp only at e
  rw [acc_C] at e
  rw [flushed2_C m c t h0 h3, out_C, e, out_value, h3]
  exact (congrArg emat (tile_all A B (col t.val))).trans (read2 t (grad A B)).symm

/-- Every entry of the result is in a written block. -/
theorem cover (i : S1024x256.Idx) : ∃ t : Fin cfg0.N, (cfg0.win 2).flush t = true ∧ i ∈ ((cfg0.win 2).blk t).view.set := by
  have h0 : (i 0).val < 1024 := (i 0).isLt
  have h1 : (i 1).val < 256 := (i 1).isLt
  exact (covered_iff2 i).2 (by omega)

include hA hB in
/-- The result array after the run. -/
theorem final : (dats m 0 c).arrAt 2 cfg0.N = (emat (grad A B) : S1024x256.Idx → EReal) :=
  (dats m 0 c).arrAt_eq_of_cover 2 _ (fun t hf => flushed_eq m c hA hB t hf) cover

end Cert.WQb.Arrays

end
-- ==== Proof.WQbClaims.lean ====
/- The claims about the weight-gradient kernel of the query's low-rank projection: over the extended reals its result is the
   reference's, of any arguments. -/
module

public import proofs.«01_k».proof.Defs
public import proofs.«01_k».proof.Proof.WQbArrays
public import proofs.«01_k».proof.Proof.Gen.Reference7Ideal.Read

@[expose] public section

noncomputable section

namespace Cert.WQb.Claims

open Idealize.ShloMosaic Idealize.SL.Sem Cert.EMat Cert.TileSum Cert.WQb.Arrays Cert.Reference7Ideal Cert.Reference7Ideal.Read

theorem dot_eq : dot_S8192x1024_S8192x256_S1024x256_0_0_1_1_n_n = transposedLhs 1024 8192 256 := rfl

/-- The reference's value: the gradient of the product in the right factor, transposed. -/
theorem reference_value (A : Fin 8192 → Fin 1024 → EReal) (B : Fin 8192 → Fin 256 → EReal) :
    val_main_v5 (F := Ideal) (emat B) (emat A) = (emat (grad A B) : S1024x256.Idx → EReal) := by
  have h2 : val_main_v2 (F := Ideal) (emat B) (emat A) = (emat (grad A B) : S1024x256.Idx → EReal) := by
    unfold val_main_v2
    rw [dot_eq]
    exact e_dotTl none _ _
  have h3 : val_main_v3 (F := Ideal) (emat B) (emat A) = (emat fun i j => grad A B j i : S256x1024.Idx → EReal) := by
    unfold val_main_v3
    rw [h2]
    exact e_transpose _ _
  have h4 : val_main_v4 (F := Ideal) (emat B) (emat A) = (emat (grad A B) : S1024x256.Idx → EReal) := by
    unfold val_main_v4
    rw [h3]
    exact e_transpose _ _
  unfold val_main_v5
  rw [h4]
  exact e_truncf _ _

/-- The reference runs, keeps its arguments, and declares no semaphore. -/
theorem frame_r : Cert.quiescent_Reference7Ideal := by
  intro m ρ _
  exact (θ_run Cert.Reference7Ideal.defs _ _).mono
    (fun r h => ⟨fun c => (h c).2, sem_eq_zero_of_no_sems (by decide) r.2⟩) (Cert.Reference7Ideal.Value.run m ρ)

/-- The kernel's result is the reference's. -/
theorem algebraic : Cert.algebraic_Kernel7Ideal_Reference7Ideal := by
  intro m ρ m' ρ' _ hagree
  refine ⟨fun c => Cert.Kernel7Ideal.Value.G2 m c, Cert.Kernel7Ideal.Value.run m ρ, ?_⟩
  refine (θ_run Cert.Reference7Ideal.defs _ _).mono (fun r h c => ?_) (Cert.Reference7Ideal.Value.run m' ρ')
  obtain ⟨a0, a1⟩ := hagree c
  obtain ⟨r0, k⟩ := h c
  have hB := emat_eq (M := 8192) (N := 256) (m ((c.tc : Thread Cert.Kernel7Ideal.nD Cert.Kernel7Ideal.τ).loc Cert.Kernel7Ideal.main_arg0))
  have hA := emat_eq (M := 8192) (N := 1024) (m ((c.tc : Thread Cert.Kernel7Ideal.nD Cert.Kernel7Ideal.τ).loc Cert.Kernel7Ideal.main_arg1))
  have x0 := a0.trans hB
  have x1 := a1.trans hA
  refine ⟨?_, k⟩
  rw [r0, val_main_v5_eq, x0, x1, reference_value]
  exact (final m c hA hB).symm.trans (Cert.Kernel7Ideal.Value.final2 m c)

end Cert.WQb.Claims

end
-- ==== Proof.WKvbBlock.lean ====
/- What one grid point of the weight-gradient kernel of the key and value's low-rank projection leaves in its accumulator and, at the last
   of a tile's points, in its output block: the running product of the two operands' blocks, read back from the stores. -/
module

public import proofs.«01_k».proof.Proof.Gen.Kernel8Ideal.Value
public import proofs.«01_k».proof.Proof.EMat

@[expose] public section

noncomputable section

namespace Cert.WKvb.Block

open Cert.Kernel8Ideal Cert.Kernel8Ideal.Gen Idealize.ShloMosaic Idealize.ShloMosaic.TcCoe Idealize.SL.Sem Cert.EMat

theorem hz : (![0, 0] : Fin 2 → Nat) = fun _ => 0 := funext fun a => by fin_cases a <;> rfl

section

variable {F : FTy → Type} [FloatOps F]
variable (c : Dev nD) (i : grid0.Coords)
  (a3 : Memref sig .tc .vmem S2048x128 .bf16) (h3 : a3.IsWhole)
  (a4 : Memref sig .tc .vmem S2048x1024 .bf16) (h4 : a4.IsWhole)
  (a5 : Memref sig .tc .vmem S128x1024 .bf16) (h5 : a5.IsWhole)
  (a6 : Memref sig .tc .vmem S128x1024 .f32) (h6 : a6.IsWhole)
  (x : Vec F S2048x128 .bf16) (y : Vec F S2048x1024 .bf16)

/-- The accumulator after a tile's first point: the first product. -/
theorem acc_A (hc0 : cond0_0 i) (hc1 : ¬cond0_1 i) :
    sout0_A_0 c i a3 h3 a4 h4 a5 h5 a6 h6 hc0 hc1 x y = k0_pay2 k0_pay1 x y := by
  unfold sout0_A_0
  rw [View.read_writes_junk_eq_canon]
  unfold kernelRun0_A
  dsimp only
  sl_unfold_words
  simp only [View.canon_unit_zero (S := S128x1024) hz, View.readCov_unit_zero (S := S128x1024) _ hz, View.canon_cons_unit_zero (S := S128x1024) hz,
    View.readAt_eq_ld, h3.read_unread, h4.read_unread, h6.read_unread, View.ld_unit_zero (S := S2048x128) hz, View.ld_unit_zero (S := S2048x1024) hz, View.ld_unit_zero (S := S128x1024) hz]

/-- The accumulator after a middle point: one more product. -/
theorem acc_B (hc0 : ¬cond0_0 i) (hc1 : ¬cond0_1 i) (acc : Vec F S128x1024 .f32) :
    sout0_B_0 c i a3 h3 a4 h4 a5 h5 a6 h6 hc0 hc1 x y acc = k0_pay2 acc x y := by
  unfold sout0_B_0
  rw [View.read_writes_junk_eq_canon]
  unfold kernelRun0_B
  dsimp only
  sl_unfold_words
  simp only [View.canon_unit_zero (S := S128x1024) hz, View.readCov_unit_zero (S := S128x1024) _ hz, View.canon_cons_unit_zero (S := S128x1024) hz,
    View.readAt_eq_ld, h3.read_unread, h4.read_unread, h6.read_unread, View.ld_unit_zero (S := S2048x128) hz, View.ld_unit_zero (S := S2048x1024) hz, View.ld_unit_zero (S := S128x1024) hz]

/-- The accumulator after a tile's last point. -/
theorem acc_C (hc0 : ¬cond0_0 i) (hc1 : cond0_1 i) (acc : Vec F S128x1024 .f32) :
    sout0_C_0 c i a3 h3 a4 h4 a5 h5 a6 h6 hc0 hc1 x y acc = k0_pay2 acc x y := by
  unfold sout0_C_0
  rw [View.read_writes_junk_eq_canon]
  unfold kernelRun0_C
  dsimp only
  sl_unfold_words
  simp only [View.canon_unit_zero (S := S128x1024) hz, View.readCov_unit_zero (S := S128x1024) _ hz, View.canon_cons_unit_zero (S := S128x1024) hz,
    View.readAt_eq_ld, h3.read_unread, h4.read_unread, h6.read_unread, View.ld_unit_zero (S := S2048x128) hz, View.ld_unit_zero (S := S2048x1024) hz, View.ld_unit_zero (S := S128x1024) hz]

/-- The output block after a tile's last point: the accumulator, rounded. -/
theorem out_C (hc0 : ¬cond0_0 i) (hc1 : cond0_1 i) (acc : Vec F S128x1024 .f32) :
    out0_C_2 c i a3 h3 a4 h4 a5 h5 a6 h6 hc0 hc1 x y acc = k0_pay3 (k0_pay2 acc x y) := by
  unfold out0_C_2
  rw [View.read_writes_junk_eq_canon]
  unfold kernelRun0_C
  dsimp only
  sl_unfold_words
  simp only [View.canon_unit_zero (S := S128x1024) hz, View.readCov_unit_zero (S := S128x1024) _ hz, View.canon_cons_unit_zero (S := S128x1024) hz,
    View.readAt_eq_ld, h3.read_unread, h4.read_unread, h6.read_unread, View.ld_unit_zero (S := S2048x128) hz, View.ld_unit_zero (S := S2048x1024) hz, View.ld_unit_zero (S := S128x1024) hz]

end

/-! ## On extended reals -/

theorem dot_eq : dot_S2048x128_S2048x1024_S128x1024_0_0_1_1_n_n = transposedLhs 128 2048 1024 := rfl

/-- The accumulator's start. -/
theorem zero_value : k0_pay1 (F := Ideal) = emat fun _ _ => 0 := by
  unfold k0_pay1
  funext i
  exact Ideal.ofBits_zero_f32

/-- One point's step: the two blocks' product over their 2048 rows is added. -/
theorem step_value (A : Fin 128 → Fin 1024 → EReal) (X : Fin 2048 → Fin 128 → EReal) (Y : Fin 2048 → Fin 1024 → EReal) :
    k0_pay2 (F := Ideal) (emat A) (emat X) (emat Y) = emat fun i j => A i j + ∑ r, X r i * Y r j := by
  unfold k0_pay2
  simp only [shapeCast_self, dot_eq, e_matmulTl, e_addf]

/-- The rounding of the result leaves its extended reals. -/
theorem out_value (A : Fin 128 → Fin 1024 → EReal) : k0_pay3 (F := Ideal) (emat A) = emat A := rfl

end Cert.WKvb.Block

end
-- ==== Proof.WKvbArrays.lean ====
/- The result array of the weight-gradient kernel of the key and value's low-rank projection: a tile of 128 columns of the left operand
   takes four grid points, and each of these adds the product over 2048 of the 8192 rows, so that a tile ends as the sum
   over all rows. -/
module

public import proofs.«01_k».proof.Proof.WKvbBlock
public import proofs.«01_k».proof.Proof.TileSum

@[expose] public section

noncomputable section

namespace Cert.WKvb.Arrays

open Cert.Kernel8Ideal Cert.Kernel8Ideal.Gen Cert.Kernel8Ideal.Value Cert.EMat Cert.Rows Cert.TileSum Cert.WKvb.Block
open Idealize.ShloMosaic Idealize.ShloMosaic.TcCoe Idealize.ShloMosaic.ValueIdx Idealize.SL.Sem

/-- The column of the left operand that column `a` of a block is: the one tile is the whole width. -/
def col (_ : ℕ) (a : Fin 128) : Fin 128 := a

theorem col_run (n : ℕ) (_ : ¬(n + 1) % 4 = 0) : col (n + 1) = col n := rfl

theorem idx0 : ∀ t : Fin grid0.N, win0_0.index t (0 : Fin 2) = t.val % 4 ∧ win0_0.index t (1 : Fin 2) = 0 := by decide +kernel
theorem idx1 : ∀ t : Fin grid0.N, win0_1.index t (0 : Fin 2) = t.val % 4 ∧ win0_1.index t (1 : Fin 2) = 0 := by decide +kernel
theorem idx2 : ∀ t : Fin grid0.N, win0_2.index t (0 : Fin 2) = 0 ∧ win0_2.index t (1 : Fin 2) = 0 := by decide +kernel

/-! The index of a block's entry in its array. -/

theorem pts (t : Fin cfg0.N) : t.val < 4 := t.isLt

theorem emb0_0 (t : Fin cfg0.N) (j : S2048x128.Idx) : (((cfg0.win 0).blk t).view.emb j) (0 : Fin 2) = rowOf t.val (j 0) :=
  Rows.at_row rfl ⟨t.val % 4, Nat.mod_lt _ (by norm_num)⟩ (j 0) (idx0 t).1 _ rfl
theorem emb0_1 (t : Fin cfg0.N) (j : S2048x128.Idx) : (((cfg0.win 0).blk t).view.emb j) (1 : Fin 2) = col t.val (j 1) := by
  obtain ⟨e0, e1⟩ := idx0 t
  have := pts t
  apply Fin.ext
  show win0_0.index t (1 : Fin 2) * 128 + 1 * (j 1).val = (j 1).val
  omega
theorem emb1_0 (t : Fin cfg0.N) (j : S2048x1024.Idx) : (((cfg0.win 1).blk t).view.emb j) (0 : Fin 2) = rowOf t.val (j 0) :=
  Rows.at_row rfl ⟨t.val % 4, Nat.mod_lt _ (by norm_num)⟩ (j 0) (idx1 t).1 _ rfl
theorem emb1_1 (t : Fin cfg0.N) (j : S2048x1024.Idx) : (((cfg0.win 1).blk t).view.emb j) (1 : Fin 2) = j 1 := Rows.at_same (j 1) (idx1 t).2 _ rfl
theorem emb2_0 (t : Fin cfg0.N) (j : S128x1024.Idx) : (((cfg0.win 2).blk t).view.emb j) (0 : Fin 2) = col t.val (j 0) := by
  obtain ⟨e0, e1⟩ := idx2 t
  have := pts t
  apply Fin.ext
  show win0_2.index t (0 : Fin 2) * 128 + 1 * (j 0).val = (j 0).val
  omega
theorem emb2_1 (t : Fin cfg0.N) (j : S128x1024.Idx) : (((cfg0.win 2).blk t).view.emb j) (1 : Fin 2) = j 1 := Rows.at_same (j 1) (idx2 t).2 _ rfl

variable (m : (ℓ : Loc nD τ sig) → Buf (Elt Ideal) ℓ) (c : Dev nD)
  {A : Fin 8192 → Fin 128 → EReal} {B : Fin 8192 → Fin 1024 → EReal}
  (hA : m ((c : Thread nD τ).loc main_arg0) = (emat A : S8192x128.Idx → EReal))
  (hB : m ((c : Thread nD τ).loc main_arg1) = (emat B : S8192x1024.Idx → EReal))

include hA in
/-- The left operand's block. -/
theorem b0 (t : Fin cfg0.N) : iblk m c 0 t = (emat fun r a => A (rowOf t.val r) (col t.val a) : S2048x128.Idx → EReal) := by
  have h : V m c main_v0 = (emat A : S8192x128.Idx → EReal) := by
    unfold_abbrev_sides
    after_results
    exact hA
  funext j
  show V m c main_v0 (((cfg0.win 0).blk t).view.emb j) = _
  rw [h]
  exact congrArg₂ A (emb0_0 t j) (emb0_1 t j)

include hB in
/-- The right operand's block. -/
theorem b1 (t : Fin cfg0.N) : iblk m c 1 t = (emat fun r a => B (rowOf t.val r) a : S2048x1024.Idx → EReal) := by
  have h : V m c main_v1 = (emat B : S8192x1024.Idx → EReal) := by
    unfold_abbrev_sides
    after_results
    exact hB
  funext j
  show V m c main_v1 (((cfg0.win 1).blk t).view.emb j) = _
  rw [h]
  exact congrArg₂ B (emb1_0 t j) (emb1_1 t j)

include hA hB in
/-- The accumulator after a tile's first point. -/
theorem first (n : ℕ) (hn : n < cfg0.N) (h0 : n % 4 = 0) : (outsAt0 m c n hn).2
    = (emat (fun a b => 0 + ∑ r, A (rowOf n r) (col n a) * B (rowOf n r) b) : S128x1024.Idx → EReal) := by
  have h := outsAt0_A m c ⟨n, hn⟩ h0 (by show ¬n % 4 = 3; omega)
  rw [h]
  dsimp only
  rw [acc_A, b0 m c hA ⟨n, hn⟩, b1 m c hB ⟨n, hn⟩, zero_value, step_value]

include hA hB in
/-- The accumulator after any other point, from the one before. -/
theorem later (n : ℕ) (hn : n + 1 < cfg0.N) (h0 : ¬(n + 1) % 4 = 0) (P : Fin 128 → Fin 1024 → EReal)
    (e : (outsAt0 m c n (Nat.lt_of_succ_lt hn)).2 = (emat P : S128x1024.Idx → EReal)) : (outsAt0 m c (n + 1) hn).2
      = (emat (fun a b => P a b + ∑ r, A (rowOf (n + 1) r) (col (n + 1) a) * B (rowOf (n + 1) r) b) : S128x1024.Idx → EReal) := by
  by_cases h3 : (n + 1) % 4 = 3
  · have h := outsAt0_C m c ⟨n + 1, hn⟩ h0 h3
    rw [h]
    dsimp only
    rw [acc_C, b0 m c hA ⟨n + 1, hn⟩, b1 m c hB ⟨n + 1, hn⟩]
    exact (congrArg (k0_pay2 (F := Ideal) · _ _) e).trans (step_value _ _ _)
  · have h := outsAt0_B m c ⟨n + 1, hn⟩ h0 h3
    rw [h]
    dsimp only
    rw [acc_B, b0 m c hA ⟨n + 1, hn⟩, b1 m c hB ⟨n + 1, hn⟩]
    exact (congrArg (k0_pay2 (F := Ideal) · _ _) e).trans (step_value _ _ _)

include hA hB in
/-- The accumulator after point `n`: the tile's products over the blocks of rows so far. -/
theorem acc_at (n : ℕ) (hn : n < cfg0.N) :
    (outsAt0 m c n hn).2 = (emat (tile A B (col n) (n % 4 + 1)) : S128x1024.Idx → EReal) := by
  have h := chain (K := cfg0.N) A B col col_run (fun n hn => entries (outsAt0 m c n hn).2)
    (fun n hn h0 => congrArg entries (first m c hA hB n hn h0))
    (fun n hn h0 => congrArg entries (later m c hA hB n hn h0 _ (emat_entries _).symm)) n hn
  exact (emat_entries _).symm.trans (congrArg emat h)

/-- A block of the result array. -/
theorem read2 (t : Fin cfg0.N) (G : Fin 128 → Fin 1024 → EReal) :
    ((cfg0.win 2).blk t).view.read (Elt Ideal) (emat G : S128x1024.Idx → EReal)
      = (emat fun a b => G (col t.val a) b : S128x1024.Idx → EReal) := by
  funext j
  exact congrArg₂ G (emb2_0 t j) (emb2_1 t j)

include hA hB in
/-- What a tile's last point writes back. -/
theorem flushed_eq (t : Fin cfg0.N) (hf : (cfg0.win 2).flush t = true) : (dats m 0 c).flushed 2 t
    = ((cfg0.win 2).blk t).view.read (Elt Ideal) (emat (grad A B) : S128x1024.Idx → EReal) := by
  have h3 : t.val % 4 = 3 := (flush0_2 t).mp hf
  have h0 : ¬t.val % 4 = 0 := by omega
  have e := acc_at m c hA hB t.val t.isLt
  rw [outsAt0_C m c t h0 h3] at e
  dsimp only at e
  rw [acc_C] at e
  rw [flushed2_C m c t h0 h3, out_C, e, out_value, h3]
  exact (congrArg emat (tile_all A B (col t.val))).trans (read2 t (grad A B)).symm

/-- Every entry of the result is in a written block. -/
theorem cover (i : S128x1024.Idx) : ∃ t : Fin cfg0.N, (cfg0.win 2).flush t = true ∧ i ∈ ((cfg0.win 2).blk t).view.set := by
  have h0 : (i 0).val < 128 := (i 0).isLt
  have h1 : (i 1).val < 1024 := (i 1).isLt
  exact (covered_iff2 i).2 (by omega)

include hA hB in
/-- The result array after the run. -/
theorem final : (dats m 0 c).arrAt 2 cfg0.N = (emat (grad A B) : S128x1024.Idx → EReal) :=
  (dats m 0 c).arrAt_eq_of_cover 2 _ (fun t hf => flushed_eq m c hA hB t hf) cover

end Cert.WKvb.Arrays

end
-- ==== Proof.WKvbClaims.lean ====
/- The claims about the weight-gradient kernel of the key and value's low-rank projection: over the extended reals its result is the
   reference's, of any arguments. -/
module

public import proofs.«01_k».proof.Defs
public import proofs.«01_k».proof.Proof.WKvbArrays
public import proofs.«01_k».proof.Proof.Gen.Reference8Ideal.Read

@[expose] public section

noncomputable section

namespace Cert.WKvb.Claims

open Idealize.ShloMosaic Idealize.SL.Sem Cert.EMat Cert.TileSum Cert.WKvb.Arrays Cert.Reference8Ideal Cert.Reference8Ideal.Read

theorem dot_eq : dot_S8192x1024_S8192x128_S1024x128_0_0_1_1_n_n = transposedLhs 1024 8192 128 := rfl

/-- The reference's value: the gradient of the product in the right factor. -/
theorem reference_value (A : Fin 8192 → Fin 128 → EReal) (B : Fin 8192 → Fin 1024 → EReal) :
    val_main_v4 (F := Ideal) (emat A) (emat B) = (emat (grad A B) : S128x1024.Idx → EReal) := by
  have h2 : val_main_v2 (F := Ideal) (emat A) (emat B) = (emat fun i j => grad A B j i : S1024x128.Idx → EReal) := by
    unfold val_main_v2
    rw [dot_eq]
    exact (e_dotTl none _ _).trans (congrArg emat (grad_swap A B))
  have h3 : val_main_v3 (F := Ideal) (emat A) (emat B) = (emat (grad A B) : S128x1024.Idx → EReal) := by
    unfold val_main_v3
    rw [h2]
    exact e_transpose _ _
  unfold val_main_v4
  rw [h3]
  exact e_truncf _ _

/-- The reference runs, keeps its arguments, and declares no semaphore. -/
theorem frame_r : Cert.quiescent_Reference8Ideal := by
  intro m ρ _
  exact (θ_run Cert.Reference8Ideal.defs _ _).mono
    (fun r h => ⟨fun c => (h c).2, sem_eq_zero_of_no_sems (by decide) r.2⟩) (Cert.Reference8Ideal.Value.run m ρ)

/-- The kernel's result is the reference's. -/
theorem algebraic : Cert.algebraic_Kernel8Ideal_Reference8Ideal := by
  intro m ρ m' ρ' _ hagree
  refine ⟨fun c => Cert.Kernel8Ideal.Value.G2 m c, Cert.Kernel8Ideal.Value.run m ρ, ?_⟩
  refine (θ_run Cert.Reference8Ideal.defs _ _).mono (fun r h c => ?_) (Cert.Reference8Ideal.Value.run m' ρ')
  obtain ⟨a0, a1⟩ := hagree c
  obtain ⟨r0, k⟩ := h c
  have hA := emat_eq (M := 8192) (N := 128) (m ((c.tc : Thread Cert.Kernel8Ideal.nD Cert.Kernel8Ideal.τ).loc Cert.Kernel8Ideal.main_arg0))
  have hB := emat_eq (M := 8192) (N := 1024) (m ((c.tc : Thread Cert.Kernel8Ideal.nD Cert.Kernel8Ideal.τ).loc Cert.Kernel8Ideal.main_arg1))
  have x0 := a0.trans hA
  have x1 := a1.trans hB
  refine ⟨?_, k⟩
  rw [r0, val_main_v4_eq, x0, x1, reference_value]
  exact (final m c hA hB).symm.trans (Cert.Kernel8Ideal.Value.final2 m c)

end Cert.WKvb.Claims

end
-- ==== Proof.WInBlock.lean ====
/- What one grid point of the weight-gradient kernel of the input projection leaves in its accumulator and, at the last
   of a tile's points, in its output block: the running product of the two operands' blocks, read back from the stores. -/
module

public import proofs.«01_k».proof.Proof.Gen.Kernel9Ideal.Value
public import proofs.«01_k».proof.Proof.EMat

@[expose] public section

noncomputable section

namespace Cert.WIn.Block

open Cert.Kernel9Ideal Cert.Kernel9Ideal.Gen Idealize.ShloMosaic Idealize.ShloMosaic.TcCoe Idealize.SL.Sem Cert.EMat

theorem hz : (![0, 0] : Fin 2 → Nat) = fun _ => 0 := funext fun a => by fin_cases a <;> rfl

section

variable {F : FTy → Type} [FloatOps F]
variable (c : Dev nD) (i : grid0.Coords)
  (a3 : Memref sig .tc .vmem S2048x1024 .bf16) (h3 : a3.IsWhole)
  (a4 : Memref sig .tc .vmem S2048x1024 .bf16) (h4 : a4.IsWhole)
  (a5 : Memref sig .tc .vmem S1024x1024 .bf16) (h5 : a5.IsWhole)
  (a6 : Memref sig .tc .vmem S1024x1024 .f32) (h6 : a6.IsWhole)
  (x : Vec F S2048x1024 .bf16) (y : Vec F S2048x1024 .bf16)

/-- The accumulator after a tile's first point: the first product. -/
theorem acc_A (hc0 : cond0_0 i) (hc1 : ¬cond0_1 i) :
    sout0_A_0 c i a3 h3 a4 h4 a5 h5 a6 h6 hc0 hc1 x y = k0_pay2 k0_pay1 x y := by
  unfold sout0_A_0
  rw [View.read_writes_junk_eq_canon]
  unfold kernelRun0_A
  dsimp only
  sl_unfold_words
  simp only [View.canon_unit_zero (S := S1024x1024) hz, View.readCov_unit_zero (S := S1024x1024) _ hz, View.canon_cons_unit_zero (S := S1024x1024) hz,
    View.readAt_eq_ld, h3.read_unread, h4.read_unread, h6.read_unread, View.ld_unit_zero (S := S2048x1024) hz, View.ld_unit_zero (S := S1024x1024) hz]

/-- The accumulator after a middle point: one more product. -/
theorem acc_B (hc0 : ¬cond0_0 i) (hc1 : ¬cond0_1 i) (acc : Vec F S1024x1024 .f32) :
    sout0_B_0 c i a3 h3 a4 h4 a5 h5 a6 h6 hc0 hc1 x y acc = k0_pay2 acc x y := by
  unfold sout0_B_0
  rw [View.read_writes_junk_eq_canon]
  unfold kernelRun0_B
  dsimp only
  sl_unfold_words
  simp only [View.canon_unit_zero (S := S1024x1024) hz, View.readCov_unit_zero (S := S1024x1024) _ hz, View.canon_cons_unit_zero (S := S1024x1024) hz,
    View.readAt_eq_ld, h3.read_unread, h4.read_unread, h6.read_unread, View.ld_unit_zero (S := S2048x1024) hz, View.ld_unit_zero (S := S1024x1024) hz]

/-- The accumulator after a tile's last point. -/
theorem acc_C (hc0 : ¬cond0_0 i) (hc1 : cond0_1 i) (acc : Vec F S1024x1024 .f32) :
    sout0_C_0 c i a3 h3 a4 h4 a5 h5 a6 h6 hc0 hc1 x y acc = k0_pay2 acc x y := by
  unfold sout0_C_0
  rw [View.read_writes_junk_eq_canon]
  unfold kernelRun0_C
  dsimp only
  sl_unfold_words
  simp only [View.canon_unit_zero (S := S1024x1024) hz, View.readCov_unit_zero (S := S1024x1024) _ hz, View.canon_cons_unit_zero (S := S1024x1024) hz,
    View.readAt_eq_ld, h3.read_unread, h4.read_unread, h6.read_unread, View.ld_unit_zero (S := S2048x1024) hz, View.ld_unit_zero (S := S1024x1024) hz]

/-- The output block after a tile's last point: the accumulator, rounded. -/
theorem out_C (hc0 : ¬cond0_0 i) (hc1 : cond0_1 i) (acc : Vec F S1024x1024 .f32) :
    out0_C_2 c i a3 h3 a4 h4 a5 h5 a6 h6 hc0 hc1 x y acc = k0_pay3 (k0_pay2 acc x y) := by
  unfold out0_C_2
  rw [View.read_writes_junk_eq_canon]
  unfold kernelRun0_C
  dsimp only
  sl_unfold_words
  simp only [View.canon_unit_zero (S := S1024x1024) hz, View.readCov_unit_zero (S := S1024x1024) _ hz, View.canon_cons_unit_zero (S := S1024x1024) hz,
    View.readAt_eq_ld, h3.read_unread, h4.read_unread, h6.read_unread, View.ld_unit_zero (S := S2048x1024) hz, View.ld_unit_zero (S := S1024x1024) hz]

end

/-! ## On extended reals -/

theorem dot_eq : dot_S2048x1024_S2048x1024_S1024x1024_0_0_1_1_n_n = transposedLhs 1024 2048 1024 := rfl

/-- The accumulator's start. -/
theorem zero_value : k0_pay1 (F := Ideal) = emat fun _ _ => 0 := by
  unfold k0_pay1
  funext i
  exact Ideal.ofBits_zero_f32

/-- One point's step: the two blocks' product over their 2048 rows is added. -/
theorem step_value (A : Fin 1024 → Fin 1024 → EReal) (X : Fin 2048 → Fin 1024 → EReal) (Y : Fin 2048 → Fin 1024 → EReal) :
    k0_pay2 (F := Ideal) (emat A) (emat X) (emat Y) = emat fun i j => A i j + ∑ r, X r i * Y r j := by
  unfold k0_pay2
  simp only [shapeCast_self, dot_eq, e_matmulTl, e_addf]

/-- The rounding of the result leaves its extended reals. -/
theorem out_value (A : Fin 1024 → Fin 1024 → EReal) : k0_pay3 (F := Ideal) (emat A) = emat A := rfl

end Cert.WIn.Block

end
-- ==== Proof.WInArrays.lean ====
/- The result array of the weight-gradient kernel of the input projection: a tile of 1024 columns of the left operand
   takes four grid points, and each of these adds the product over 2048 of the 8192 rows, so that a tile ends as the sum
   over all rows. -/
module

public import proofs.«01_k».proof.Proof.WInBlock
public import proofs.«01_k».proof.Proof.TileSum

@[expose] public section

noncomputable section

namespace Cert.WIn.Arrays

open Cert.Kernel9Ideal Cert.Kernel9Ideal.Gen Cert.Kernel9Ideal.Value Cert.EMat Cert.Rows Cert.TileSum Cert.WIn.Block
open Idealize.ShloMosaic Idealize.ShloMosaic.TcCoe Idealize.ShloMosaic.ValueIdx Idealize.SL.Sem

/-- The column of the left operand that column `a` of point `n`'s block is. -/
def col (n : ℕ) (a : Fin 1024) : Fin 2048 := ⟨1024 * (n / 4 % 2) + a.val, by have := a.isLt; omega⟩

theorem col_run (n : ℕ) (h : ¬(n + 1) % 4 = 0) : col (n + 1) = col n := by
  have h1 : (n + 1) / 4 = n / 4 := by omega
  unfold col
  simp only [h1]

theorem idx0 : ∀ t : Fin grid0.N, win0_0.index t (0 : Fin 2) = t.val % 4 ∧ win0_0.index t (1 : Fin 2) = t.val / 4 := by decide +kernel
theorem idx1 : ∀ t : Fin grid0.N, win0_1.index t (0 : Fin 2) = t.val % 4 ∧ win0_1.index t (1 : Fin 2) = 0 := by decide +kernel
theorem idx2 : ∀ t : Fin grid0.N, win0_2.index t (0 : Fin 2) = t.val / 4 ∧ win0_2.index t (1 : Fin 2) = 0 := by decide +kernel

/-! The index of a block's entry in its array. -/

theorem pts (t : Fin cfg0.N) : t.val < 8 := t.isLt

theorem emb0_0 (t : Fin cfg0.N) (j : S2048x1024.Idx) : (((cfg0.win 0).blk t).view.emb j) (0 : Fin 2) = rowOf t.val (j 0) :=
  Rows.at_row rfl ⟨t.val % 4, Nat.mod_lt _ (by norm_num)⟩ (j 0) (idx0 t).1 _ rfl
theorem emb0_1 (t : Fin cfg0.N) (j : S2048x1024.Idx) : (((cfg0.win 0).blk t).view.emb j) (1 : Fin 2) = col t.val (j 1) := by
  obtain ⟨e0, e1⟩ := idx0 t
  have := pts t
  apply Fin.ext
  show win0_0.index t (1 : Fin 2) * 1024 + 1 * (j 1).val = 1024 * (t.val / 4 % 2) + (j 1).val
  omega
theorem emb1_0 (t : Fin cfg0.N) (j : S2048x1024.Idx) : (((cfg0.win 1).blk t).view.emb j) (0 : Fin 2) = rowOf t.val (j 0) :=
  Rows.at_row rfl ⟨t.val % 4, Nat.mod_lt _ (by norm_num)⟩ (j 0) (idx1 t).1 _ rfl
theorem emb1_1 (t : Fin cfg0.N) (j : S2048x1024.Idx) : (((cfg0.win 1).blk t).view.emb j) (1 : Fin 2) = j 1 := Rows.at_same (j 1) (idx1 t).2 _ rfl
theorem emb2_0 (t : Fin cfg0.N) (j : S1024x1024.Idx) : (((cfg0.win 2).blk t).view.emb j) (0 : Fin 2) = col t.val (j 0) := by
  obtain ⟨e0, e1⟩ := idx2 t
  have := pts t
  apply Fin.ext
  show win0_2.index t (0 : Fin 2) * 1024 + 1 * (j 0).val = 1024 * (t.val / 4 % 2) + (j 0).val
  omega
theorem emb2_1 (t : Fin cfg0.N) (j : S1024x1024.Idx) : (((cfg0.win 2).blk t).view.emb j) (1 : Fin 2) = j 1 := Rows.at_same (j 1) (idx2 t).2 _ rfl

variable (m : (ℓ : Loc nD τ sig) → Buf (Elt Ideal) ℓ) (c : Dev nD)
  {A : Fin 8192 → Fin 2048 → EReal} {B : Fin 8192 → Fin 1024 → EReal}
  (hA : m ((c : Thread nD τ).loc main_arg1) = (emat A : S8192x2048.Idx → EReal))
  (hB : m ((c : Thread nD τ).loc main_arg0) = (emat B : S8192x1024.Idx → EReal))

include hA in
/-- The left operand's block. -/
theorem b0 (t : Fin cfg0.N) : iblk m c 0 t = (emat fun r a => A (rowOf t.val r) (col t.val a) : S2048x1024.Idx → EReal) := by
  have h : V m c main_v0 = (emat A : S8192x2048.Idx → EReal) := by
    unfold_abbrev_sides
    after_results
    exact hA
  funext j
  show V m c main_v0 (((cfg0.win 0).blk t).view.emb j) = _
  rw [h]
  exact congrArg₂ A (emb0_0 t j) (emb0_1 t j)

include hB in
/-- The right operand's block. -/
theorem b1 (t : Fin cfg0.N) : iblk m c 1 t = (emat fun r a => B (rowOf t.val r) a : S2048x1024.Idx → EReal) := by
  have h : V m c main_v1 = (emat B : S8192x1024.Idx → EReal) := by
    unfold_abbrev_sides
    after_results
    exact hB
  funext j
  show V m c main_v1 (((cfg0.win 1).blk t).view.emb j) = _
  rw [h]
  exact congrArg₂ B (emb1_0 t j) (emb1_1 t j)

include hA hB in
/-- The accumulator after a tile's first point. -/
theorem first (n : ℕ) (hn : n < cfg0.N) (h0 : n % 4 = 0) : (outsAt0 m c n hn).2
    = (emat (fun a b => 0 + ∑ r, A (rowOf n r) (col n a) * B (rowOf n r) b) : S1024x1024.Idx → EReal) := by
  have h := outsAt0_A m c ⟨n, hn⟩ h0 (by show ¬n % 4 = 3; omega)
  rw [h]
  dsimp only
  rw [acc_A, b0 m c hA ⟨n, hn⟩, b1 m c hB ⟨n, hn⟩, zero_value, step_value]

include hA hB in
/-- The accumulator after any other point, from the one before. -/
theorem later (n : ℕ) (hn : n + 1 < cfg0.N) (h0 : ¬(n + 1) % 4 = 0) (P : Fin 1024 → Fin 1024 → EReal)
    (e : (outsAt0 m c n (Nat.lt_of_succ_lt hn)).2 = (emat P : S1024x1024.Idx → EReal)) : (outsAt0 m c (n + 1) hn).2
      = (emat (fun a b => P a b + ∑ r, A (rowOf (n + 1) r) (col (n + 1) a) * B (rowOf (n + 1) r) b) : S1024x1024.Idx → EReal) := by
  by_cases h3 : (n + 1) % 4 = 3
  · have h := outsAt0_C m c ⟨n + 1, hn⟩ h0 h3
    rw [h]
    dsimp only
    rw [acc_C, b0 m c hA ⟨n + 1, hn⟩, b1 m c hB ⟨n + 1, hn⟩]
    exact (congrArg (k0_pay2 (F := Ideal) · _ _) e).trans (step_value _ _ _)
  · have h := outsAt0_B m c ⟨n + 1, hn⟩ h0 h3
    rw [h]
    dsimp only
    rw [acc_B, b0 m c hA ⟨n + 1, hn⟩, b1 m c hB ⟨n + 1, hn⟩]
    exact (congrArg (k0_pay2 (F := Ideal) · _ _) e).trans (step_value _ _ _)

include hA hB in
/-- The accumulator after point `n`: the tile's products over the blocks of rows so far. -/
theorem acc_at (n : ℕ) (hn : n < cfg0.N) :
    (outsAt0 m c n hn).2 = (emat (tile A B (col n) (n % 4 + 1)) : S1024x1024.Idx → EReal) := by
  have h := chain (K := cfg0.N) A B col col_run (fun n hn => entries (outsAt0 m c n hn).2)
    (fun n hn h0 => congrArg entries (first m c hA hB n hn h0))
    (fun n hn h0 => congrArg entries (later m c hA hB n hn h0 _ (emat_entries _).symm)) n hn
  exact (emat_entries _).symm.trans (congrArg emat h)

/-- A block of the result array. -/
theorem read2 (t : Fin cfg0.N) (G : Fin 2048 → Fin 1024 → EReal) :
    ((cfg0.win 2).blk t).view.read (Elt Ideal) (emat G : S2048x1024.Idx → EReal)
      = (emat fun a b => G (col t.val a) b : S1024x1024.Idx → EReal) := by
  funext j
  exact congrArg₂ G (emb2_0 t j) (emb2_1 t j)

include hA hB in
/-- What a tile's last point writes back. -/
theorem flushed_eq (t : Fin cfg0.N) (hf : (cfg0.win 2).flush t = true) : (dats m 0 c).flushed 2 t
    = ((cfg0.win 2).blk t).view.read (Elt Ideal) (emat (grad A B) : S2048x1024.Idx → EReal) := by
  have h3 : t.val % 4 = 3 := (flush0_2 t).mp hf
  have h0 : ¬t.val % 4 = 0 := by omega
  have e := acc_at m c hA hB t.val t.isLt
  rw [outsAt0_C m c t h0 h3] at e
  dsimp only at e
  rw [acc_C] at e
  rw [flushed2_C m c t h0 h3, out_C, e, out_value, h3]
  exact (congrArg emat (tile_all A B (col t.val))).trans (read2 t (grad A B)).symm

/-- Every entry of the result is in a written block. -/
theorem cover (i : S2048x1024.Idx) : ∃ t : Fin cfg0.N, (cfg0.win 2).flush t = true ∧ i ∈ ((cfg0.win 2).blk t).view.set := by
  have h0 : (i 0).val < 2048 := (i 0).isLt
  have h1 : (i 1).val < 1024 := (i 1).isLt
  exact (covered_iff2 i).2 (by omega)

include hA hB in
/-- The result array after the run. -/
theorem final : (dats m 0 c).arrAt 2 cfg0.N = (emat (grad A B) : S2048x1024.Idx → EReal) :=
  (dats m 0 c).arrAt_eq_of_cover 2 _ (fun t hf => flushed_eq m c hA hB t hf) cover

end Cert.WIn.Arrays

end
-- ==== Proof.WInClaims.lean ====
/- The claims about the weight-gradient kernel of the input projection: over the extended reals its result is the
   reference's, of any arguments. -/
module

public import proofs.«01_k».proof.Defs
public import proofs.«01_k».proof.Proof.WInArrays
public import proofs.«01_k».proof.Proof.Gen.Reference9Ideal.Read

@[expose] public section

noncomputable section

namespace Cert.WIn.Claims

open Idealize.ShloMosaic Idealize.SL.Sem Cert.EMat Cert.TileSum Cert.WIn.Arrays Cert.Reference9Ideal Cert.Reference9Ideal.Read

theorem dot_eq : dot_S8192x2048_S8192x1024_S2048x1024_0_0_1_1_n_n = transposedLhs 2048 8192 1024 := rfl

/-- The reference's value: the gradient of the product in the right factor, transposed. -/
theorem reference_value (A : Fin 8192 → Fin 2048 → EReal) (B : Fin 8192 → Fin 1024 → EReal) :
    val_main_v5 (F := Ideal) (emat B) (emat A) = (emat (grad A B) : S2048x1024.Idx → EReal) := by
  have h2 : val_main_v2 (F := Ideal) (emat B) (emat A) = (emat (grad A B) : S2048x1024.Idx → EReal) := by
    unfold val_main_v2
    rw [dot_eq]
    exact e_dotTl none _ _
  have h3 : val_main_v3 (F := Ideal) (emat B) (emat A) = (emat fun i j => grad A B j i : S1024x2048.Idx → EReal) := by
    unfold val_main_v3
    rw [h2]
    exact e_transpose _ _
  have h4 : val_main_v4 (F := Ideal) (emat B) (emat A) = (emat (grad A B) : S2048x1024.Idx → EReal) := by
    unfold val_main_v4
    rw [h3]
    exact e_transpose _ _
  unfold val_main_v5
  rw [h4]
  exact e_truncf _ _

/-- The reference runs, keeps its arguments, and declares no semaphore. -/
theorem frame_r : Cert.quiescent_Reference9Ideal := by
  intro m ρ _
  exact (θ_run Cert.Reference9Ideal.defs _ _).mono
    (fun r h => ⟨fun c => (h c).2, sem_eq_zero_of_no_sems (by decide) r.2⟩) (Cert.Reference9Ideal.Value.run m ρ)

/-- The kernel's result is the reference's. -/
theorem algebraic : Cert.algebraic_Kernel9Ideal_Reference9Ideal := by
  intro m ρ m' ρ' _ hagree
  refine ⟨fun c => Cert.Kernel9Ideal.Value.G2 m c, Cert.Kernel9Ideal.Value.run m ρ, ?_⟩
  refine (θ_run Cert.Reference9Ideal.defs _ _).mono (fun r h c => ?_) (Cert.Reference9Ideal.Value.run m' ρ')
  obtain ⟨a0, a1⟩ := hagree c
  obtain ⟨r0, k⟩ := h c
  have hB := emat_eq (M := 8192) (N := 1024) (m ((c.tc : Thread Cert.Kernel9Ideal.nD Cert.Kernel9Ideal.τ).loc Cert.Kernel9Ideal.main_arg0))
  have hA := emat_eq (M := 8192) (N := 2048) (m ((c.tc : Thread Cert.Kernel9Ideal.nD Cert.Kernel9Ideal.τ).loc Cert.Kernel9Ideal.main_arg1))
  have x0 := a0.trans hB
  have x1 := a1.trans hA
  refine ⟨?_, k⟩
  rw [r0, val_main_v5_eq, x0, x1, reference_value]
  exact (final m c hA hB).symm.trans (Cert.Kernel9Ideal.Value.final2 m c)

end Cert.WIn.Claims

end
-- ==== Proof.InBwdBlock.lean ====
/- What one grid point of the input projection's backward kernel leaves in its five output blocks, as a function of the
   fourteen input blocks that it reads: the covering stores of each case of the point read back as values. The lines that
   the kernel writes out for each pair of heads are one function of the pair's block, and each is shown to be it. -/
module

public import proofs.«01_k».proof.Proof.Gen.Kernel10Ideal.Value

@[expose] public section

noncomputable section

namespace Cert.InBwd.Block

open Cert.Kernel10Ideal Cert.Kernel10Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The columns of a block of heads that hold one pair. -/
def cut (o : Nat) (h : (S512x512 : Shape).Slices ![0, o] S512x128) (d : Vec F S512x512 .f32) : FVec F S512x128 .f32 := extractStridedSlice S512x128 ![0, o] d h

/-- A pair's gradient times the gains. -/
def scaled (d : FVec F S512x128 .f32) (g : Vec F S1x128 .f32) : FVec F S512x128 .f32 := mulf d (broadcastTo S512x128 (shapeCast S1x128 g shapeCasts_S1x128_S1x128) broadcasts_S1x128_S512x128)

/-- The gradient of a pair of heads before their norms, rounded. -/
def pairDx (x : Vec F S512x128 .f32) (d : FVec F S512x128 .f32) (g : Vec F S1x128 .f32) : FVec F S512x128 .bf16 :=
  k0_pay11 k0_pay4 (k0_pay5 x) (k0_pay7 x) (scaled d g) (mulf (scaled d g) (k0_pay5 x)) k0_pay10

/-- The running gradient of the gains, with a pair's share added. -/
def pairDg (x : Vec F S512x128 .f32) (d : FVec F S512x128 .f32) (r : Vec F S1x128 .f32) : FVec F S1x128 .f32 := k0_pay12 (k0_pay5 x) d (k0_pay7 x) r

/-- Pair 0 of the queries: its gradient. -/
theorem dx_0 (x : Vec F S512x128 .f32) (d : Vec F S512x512 .f32) (g : Vec F S1x128 .f32) :
    k0_pay11 k0_pay4 (k0_pay5 x) (k0_pay7 x) (k0_pay8 d g) (k0_pay9 d x g) k0_pay10 = pairDx x (cut 0 slices_S512x512_o0_0_S512x128 d) g := rfl
/-- Pair 0 of the queries: its share of the gains' gradient. -/
theorem dg_0 (x : Vec F S512x128 .f32) (d : Vec F S512x512 .f32) (r : Vec F S1x128 .f32) :
    k0_pay12 (k0_pay5 x) (k0_pay6 d) (k0_pay7 x) r = pairDg x (cut 0 slices_S512x512_o0_0_S512x128 d) r := rfl
/-- Pair 1 of the queries: its gradient. -/
theorem dx_1 (x : Vec F S512x128 .f32) (d : Vec F S512x512 .f32) (g : Vec F S1x128 .f32) :
    k0_pay20 k0_pay4 (k0_pay13 x) (k0_pay14 d) (k0_pay16 k0_pay4 x) (k0_pay17 k0_pay4 x) g = pairDx x (cut 128 slices_S512x512_o0_128_S512x128 d) g := rfl
/-- Pair 1 of the queries: its share of the gains' gradient. -/
theorem dg_1 (x : Vec F S512x128 .f32) (d : Vec F S512x512 .f32) (r : Vec F S1x128 .f32) :
    k0_pay21 (k0_pay19 k0_pay4 (k0_pay13 x) (k0_pay14 d) (k0_pay16 k0_pay4 x) (k0_pay17 k0_pay4 x)) r = pairDg x (cut 128 slices_S512x512_o0_128_S512x128 d) r := rfl
/-- Pair 2 of the queries: its gradient. -/
theorem dx_2 (x : Vec F S512x128 .f32) (d : Vec F S512x512 .f32) (g : Vec F S1x128 .f32) :
    k0_pay28 k0_pay4 (k0_pay22 x) (k0_pay24 k0_pay4 x) (k0_pay25 d g) (k0_pay26 d x g) (k0_pay27 k0_pay4 d x g) = pairDx x (cut 256 slices_S512x512_o0_256_S512x128 d) g := rfl
/-- Pair 2 of the queries: its share of the gains' gradient. -/
theorem dg_2 (x : Vec F S512x128 .f32) (d : Vec F S512x512 .f32) (r : Vec F S1x128 .f32) :
    k0_pay29 (k0_pay22 x) (k0_pay23 d) (k0_pay24 k0_pay4 x) r = pairDg x (cut 256 slices_S512x512_o0_256_S512x128 d) r := rfl
/-- Pair 3 of the queries: its gradient. -/
theorem dx_3 (x : Vec F S512x128 .f32) (d : Vec F S512x512 .f32) (g : Vec F S1x128 .f32) :
    k0_pay37 k0_pay4 (k0_pay30 x) (k0_pay31 d) (k0_pay33 k0_pay4 x) (k0_pay34 k0_pay4 x) (Scalar.ofBits .f32 0x42800000#32) g = pairDx x (cut 384 slices_S512x512_o0_384_S512x128 d) g := rfl
/-- Pair 3 of the queries: its share of the gains' gradient. -/
theorem dg_3 (x : Vec F S512x128 .f32) (d : Vec F S512x512 .f32) (r : Vec F S1x128 .f32) :
    k0_pay38 (k0_pay36 k0_pay4 (k0_pay30 x) (k0_pay31 d) (k0_pay33 k0_pay4 x) (k0_pay34 k0_pay4 x) (Scalar.ofBits .f32 0x42800000#32)) r = pairDg x (cut 384 slices_S512x512_o0_384_S512x128 d) r := rfl
/-- Pair 0 of the keys: its gradient. -/
theorem dx_4 (x : Vec F S512x128 .f32) (d : Vec F S512x512 .f32) (g : Vec F S1x128 .f32) :
    k0_pay45 k0_pay4 (k0_pay39 x) (k0_pay41 k0_pay4 x) (k0_pay42 d g) (k0_pay43 d x g) (k0_pay44 k0_pay4 d x g) = pairDx x (cut 0 slices_S512x512_o0_0_S512x128 d) g := rfl
/-- Pair 0 of the keys: its share of the gains' gradient. -/
theorem dg_4 (x : Vec F S512x128 .f32) (d : Vec F S512x512 .f32) (r : Vec F S1x128 .f32) :
    k0_pay46 (k0_pay39 x) (k0_pay40 d) (k0_pay41 k0_pay4 x) r = pairDg x (cut 0 slices_S512x512_o0_0_S512x128 d) r := rfl
/-- Pair 1 of the keys: its gradient. -/
theorem dx_5 (x : Vec F S512x128 .f32) (d : Vec F S512x512 .f32) (g : Vec F S1x128 .f32) :
    k0_pay54 k0_pay4 (k0_pay47 x) (k0_pay48 d) (k0_pay50 k0_pay4 x) (k0_pay51 k0_pay4 x) g = pairDx x (cut 128 slices_S512x512_o0_128_S512x128 d) g := rfl
/-- Pair 1 of the keys: its share of the gains' gradient. -/
theorem dg_5 (x : Vec F S512x128 .f32) (d : Vec F S512x512 .f32) (r : Vec F S1x128 .f32) :
    k0_pay55 (k0_pay53 k0_pay4 (k0_pay47 x) (k0_pay48 d) (k0_pay50 k0_pay4 x) (k0_pay51 k0_pay4 x)) r = pairDg x (cut 128 slices_S512x512_o0_128_S512x128 d) r := rfl
/-- Pair 2 of the keys: its gradient. -/
theorem dx_6 (x : Vec F S512x128 .f32) (d : Vec F S512x512 .f32) (g : Vec F S1x128 .f32) :
    k0_pay62 k0_pay4 (k0_pay56 x) (k0_pay58 k0_pay4 x) (k0_pay59 d g) (k0_pay60 d x g) (k0_pay61 k0_pay4 d x g) = pairDx x (cut 256 slices_S512x512_o0_256_S512x128 d) g := rfl
/-- Pair 2 of the keys: its share of the gains' gradient. -/
theorem dg_6 (x : Vec F S512x128 .f32) (d : Vec F S512x512 .f32) (r : Vec F S1x128 .f32) :
    k0_pay63 (k0_pay56 x) (k0_pay57 d) (k0_pay58 k0_pay4 x) r = pairDg x (cut 256 slices_S512x512_o0_256_S512x128 d) r := rfl
/-- Pair 3 of the keys: its gradient. -/
theorem dx_7 (x : Vec F S512x128 .f32) (d : Vec F S512x512 .f32) (g : Vec F S1x128 .f32) :
    k0_pay72 k0_pay4 (k0_pay64 x) (k0_pay65 d) (k0_pay67 k0_pay4 x) (k0_pay68 k0_pay4 x) k0_pay69 g = pairDx x (cut 384 slices_S512x512_o0_384_S512x128 d) g := rfl
/-- Pair 3 of the keys: its share of the gains' gradient. -/
theorem dg_7 (x : Vec F S512x128 .f32) (d : Vec F S512x512 .f32) (r : Vec F S1x128 .f32) :
    k0_pay73 (k0_pay71 k0_pay4 (k0_pay64 x) (k0_pay65 d) (k0_pay67 k0_pay4 x) (k0_pay68 k0_pay4 x) k0_pay69) r = pairDg x (cut 384 slices_S512x512_o0_384_S512x128 d) r := rfl

/-- The stores that fill the block of the gradient at the input projection's output: the pairs of the queries and of the
keys, then the columns that pass through, the last store first. -/
def pieces (q k dq dk dv : Vec F S512x512 .f32) (gq gk : Vec F S1x128 .f32) (xl : Vec F S512x256 .f32) (xc xp : Vec F S512x128 .f32) :
    List (View.Piece (Elt F) S512x2048 .bf16) :=
  [⟨Rect.unit ![0, 1920] ![512, 128] inb_S512x2048_S512x128_0_1920, k0_pay77 xp⟩,
    ⟨Rect.unit ![0, 1792] ![512, 128] inb_S512x2048_S512x128_0_1792, k0_pay76 xc⟩,
    ⟨Rect.unit ![0, 1536] ![512, 256] inb_S512x2048_S512x256_0_1536, k0_pay75 xl⟩,
    ⟨Rect.unit ![0, 1024] ![512, 512] inb_S512x2048_S512x512_0_1024, k0_pay74 dv⟩,
    ⟨Rect.unit ![0, 896] ![512, 128] inb_S512x2048_S512x128_0_896, pairDx (View.ld k (Rect.unit ![0, 384] ![512, 128] inb_S512x512_S512x128_0_384)) (cut 384 slices_S512x512_o0_384_S512x128 dk) gk⟩,
    ⟨Rect.unit ![0, 768] ![512, 128] inb_S512x2048_S512x128_0_768, pairDx (View.ld k (Rect.unit ![0, 256] ![512, 128] inb_S512x512_S512x128_0_256)) (cut 256 slices_S512x512_o0_256_S512x128 dk) gk⟩,
    ⟨Rect.unit ![0, 640] ![512, 128] inb_S512x2048_S512x128_0_640, pairDx (View.ld k (Rect.unit ![0, 128] ![512, 128] inb_S512x512_S512x128_0_128)) (cut 128 slices_S512x512_o0_128_S512x128 dk) gk⟩,
    ⟨Rect.unit ![0, 512] ![512, 128] inb_S512x2048_S512x128_0_512, pairDx (View.ld k (Rect.unit ![0, 0] ![512, 128] inb_S512x512_S512x128_0_0)) (cut 0 slices_S512x512_o0_0_S512x128 dk) gk⟩,
    ⟨Rect.unit ![0, 384] ![512, 128] inb_S512x2048_S512x128_0_384, pairDx (View.ld q (Rect.unit ![0, 384] ![512, 128] inb_S512x512_S512x128_0_384)) (cut 384 slices_S512x512_o0_384_S512x128 dq) gq⟩,
    ⟨Rect.unit ![0, 256] ![512, 128] inb_S512x2048_S512x128_0_256, pairDx (View.ld q (Rect.unit ![0, 256] ![512, 128] inb_S512x512_S512x128_0_256)) (cut 256 slices_S512x512_o0_256_S512x128 dq) gq⟩,
    ⟨Rect.unit ![0, 128] ![512, 128] inb_S512x2048_S512x128_0_128, pairDx (View.ld q (Rect.unit ![0, 128] ![512, 128] inb_S512x512_S512x128_0_128)) (cut 128 slices_S512x512_o0_128_S512x128 dq) gq⟩,
    ⟨Rect.unit ![0, 0] ![512, 128] inb_S512x2048_S512x128_0_0, pairDx (View.ld q (Rect.unit ![0, 0] ![512, 128] inb_S512x512_S512x128_0_0)) (cut 0 slices_S512x512_o0_0_S512x128 dq) gq⟩]

/-- The block of the gradient at the input projection's output. -/
def dpb (q k dq dk dv : Vec F S512x512 .f32) (gq gk : Vec F S1x128 .f32) (xl : Vec F S512x256 .f32) (xc xp : Vec F S512x128 .f32) : Vec F S512x2048 .bf16 :=
  View.canon (pieces q k dq dk dv gq gk xl xc xp)

/-- The running gradient of the gains with a block's four pairs added. -/
def fourDg (x d : Vec F S512x512 .f32) (r : Vec F S1x128 .f32) : FVec F S1x128 .f32 :=
  pairDg (View.ld x (Rect.unit ![0, 384] ![512, 128] inb_S512x512_S512x128_0_384)) (cut 384 slices_S512x512_o0_384_S512x128 d)
    (pairDg (View.ld x (Rect.unit ![0, 256] ![512, 128] inb_S512x512_S512x128_0_256)) (cut 256 slices_S512x512_o0_256_S512x128 d)
    (pairDg (View.ld x (Rect.unit ![0, 128] ![512, 128] inb_S512x512_S512x128_0_128)) (cut 128 slices_S512x512_o0_128_S512x128 d)
    (pairDg (View.ld x (Rect.unit ![0, 0] ![512, 128] inb_S512x512_S512x128_0_0)) (cut 0 slices_S512x512_o0_0_S512x128 d) r)))

/-- Reading back a block of 128 gains after a covering store. -/
theorem cov_128 {κ : Kind} {sp : Space} (v : View sig κ sp S1x128 .f32) (inb : ∀ a, (![0, 0] : Fin 2 → Nat) a + (![1, 128] : Fin 2 → Nat) a ≤ S1x128.size a)
    (inb' : ∀ a, (![0, 0] : Fin 2 → Nat) a + (![1, 128] : Fin 2 → Nat) a ≤ S1x128.size a) (w : S1x128.Idx → Elt F .f32) (L : List (View.Piece (Elt F) S1x128 .f32)) :
    v.readCov (⟨Rect.unit ![0, 0] ![1, 128] inb, w⟩ :: L) (Rect.unit ![0, 0] ![1, 128] inb').toLoadRect = w :=
  (View.readCov_eq_canon' v _ _).trans ((View.ld_unit_zero (S := S1x128) hz inb' _).trans (View.canon_cons_unit_zero (S := S1x128) hz inb w L))

/-- Reading back the whole block of the gradient at the input projection's output. -/
theorem cov_dp {κ : Kind} {sp : Space} (v : View sig κ sp S512x2048 .bf16) (inb : ∀ a, (![0, 0] : Fin 2 → Nat) a + (![512, 2048] : Fin 2 → Nat) a ≤ S512x2048.size a)
    (L : List (View.Piece (Elt F) S512x2048 .bf16)) :
    v.readCov L (Rect.unit ![0, 0] ![512, 2048] inb).toLoadRect = View.canon L :=
  (View.readCov_eq_canon' v _ _).trans (View.ld_unit_zero (S := S512x2048) hz inb _)

section

variable (c : Dev nD) (i : grid0.Coords)
  (a1 : Memref sig .tc .vmem S512x1024 .f32) (h1 : a1.IsWhole)
  (a2 : Memref sig .tc .vmem S512x1024 .f32) (h2 : a2.IsWhole)
  (a3 : Memref sig .tc .vmem S1x1024 .f32) (h3 : a3.IsWhole)
  (a4 : Memref sig .tc .vmem S2048x1024 .bf16) (h4 : a4.IsWhole)
  (a5 : Memref sig .tc .vmem S512x512 .f32) (h5 : a5.IsWhole)
  (a6 : Memref sig .tc .vmem S512x512 .f32) (h6 : a6.IsWhole)
  (a7 : Memref sig .tc .vmem S1x128 .f32) (h7 : a7.IsWhole)
  (a8 : Memref sig .tc .vmem S1x128 .f32) (h8 : a8.IsWhole)
  (a9 : Memref sig .tc .vmem S512x512 .f32) (h9 : a9.IsWhole)
  (a10 : Memref sig .tc .vmem S512x512 .f32) (h10 : a10.IsWhole)
  (a11 : Memref sig .tc .vmem S512x512 .f32) (h11 : a11.IsWhole)
  (a12 : Memref sig .tc .vmem S512x256 .f32) (h12 : a12.IsWhole)
  (a13 : Memref sig .tc .vmem S512x128 .f32) (h13 : a13.IsWhole)
  (a14 : Memref sig .tc .vmem S512x128 .f32) (h14 : a14.IsWhole)
  (a15 : Memref sig .tc .vmem S512x1024 .f32) (h15 : a15.IsWhole)
  (a16 : Memref sig .tc .vmem S512x2048 .bf16) (h16 : a16.IsWhole)
  (a17 : Memref sig .tc .vmem S1x1024 .f32) (h17 : a17.IsWhole)
  (a18 : Memref sig .tc .vmem S1x128 .f32) (h18 : a18.IsWhole)
  (a19 : Memref sig .tc .vmem S1x128 .f32) (h19 : a19.IsWhole)
  (x0 : Vec F S512x1024 .f32) (x1 : Vec F S512x1024 .f32) (x2 : Vec F S1x1024 .f32) (x3 : Vec F S2048x1024 .bf16) (x4 : Vec F S512x512 .f32) (x5 : Vec F S512x512 .f32) (x6 : Vec F S1x128 .f32) (x7 : Vec F S1x128 .f32) (x8 : Vec F S512x512 .f32) (x9 : Vec F S512x512 .f32) (x10 : Vec F S512x512 .f32) (x11 : Vec F S512x256 .f32) (x12 : Vec F S512x128 .f32) (x13 : Vec F S512x128 .f32)
/-- Window 15 at the first point: the gradient at the input projection's output. -/
theorem out_A_15 (hc0 : cond0_0 i) :
    out0_A_15 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 = dpb x4 x5 x8 x9 x10 x6 x7 x11 x12 x13 := by
  unfold out0_A_15
  rw [View.read_writes_junk_eq_canon]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h17.read_unread, h18.read_unread, h19.read_unread, View.ld_unit_zero (S := S512x1024) hz, View.ld_unit_zero (S := S1x1024) hz, View.ld_unit_zero (S := S2048x1024) hz, View.ld_unit_zero (S := S512x512) hz, View.ld_unit_zero (S := S1x128) hz, View.ld_unit_zero (S := S512x256) hz, View.ld_unit_zero (S := S512x128) hz, dx_0, dg_0, dx_1, dg_1, dx_2, dg_2, dx_3, dg_3, dx_4, dg_4, dx_5, dg_5, dx_6, dg_6, dx_7, dg_7]
  rfl
/-- Window 14 at the first point: the gradient of the rows. -/
theorem out_A_14 (hc0 : cond0_0 i) :
    out0_A_14 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 = k0_pay82 (k0_pay78 (dpb x4 x5 x8 x9 x10 x6 x7 x11 x12 x13) x3) x1 (k0_pay79 x2) (k0_pay80 x1) x0 := by
  unfold out0_A_14
  rw [View.read_writes_junk_eq_canon]
  unfold kernelRun0_A
  dsimp only
  sl_unfold_words
  simp only [View.canon_unit_zero (S := S512x1024) hz, cov_dp, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h17.read_unread, h18.read_unread, h19.read_unread, View.ld_unit_zero (S := S512x1024) hz, View.ld_unit_zero (S := S1x1024) hz, View.ld_unit_zero (S := S2048x1024) hz, View.ld_unit_zero (S := S512x512) hz, View.ld_unit_zero (S := S1x128) hz, View.ld_unit_zero (S := S512x256) hz, View.ld_unit_zero (S := S512x128) hz, dx_0, dg_0, dx_1, dg_1, dx_2, dg_2, dx_3, dg_3, dx_4, dg_4, dx_5, dg_5, dx_6, dg_6, dx_7, dg_7]
  rfl
/-- Window 16 at the first point: the running gradient of the norm's gain. -/
theorem out_A_16 (hc0 : cond0_0 i) :
    out0_A_16 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 = k0_pay83 (k0_pay78 (dpb x4 x5 x8 x9 x10 x6 x7 x11 x12 x13) x3) x1 (k0_pay80 x1) k0_pay1 := by
  unfold out0_A_16
  rw [View.read_writes_junk_eq_canon]
  unfold kernelRun0_A
  dsimp only
  sl_unfold_words
  simp only [View.canon_cons_unit_zero (S := S1x1024) hz, View.canon_unit_zero (S := S1x1024) hz, View.readCov_unit_zero (S := S1x1024) _ hz, cov_dp, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h17.read_unread, h18.read_unread, h19.read_unread, View.ld_unit_zero (S := S512x1024) hz, View.ld_unit_zero (S := S1x1024) hz, View.ld_unit_zero (S := S2048x1024) hz, View.ld_unit_zero (S := S512x512) hz, View.ld_unit_zero (S := S1x128) hz, View.ld_unit_zero (S := S512x256) hz, View.ld_unit_zero (S := S512x128) hz, dx_0, dg_0, dx_1, dg_1, dx_2, dg_2, dx_3, dg_3, dx_4, dg_4, dx_5, dg_5, dx_6, dg_6, dx_7, dg_7]
  rfl
/-- Window 17 at the first point: the running gradient of the queries' gains. -/
theorem out_A_17 (hc0 : cond0_0 i) :
    out0_A_17 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 = fourDg x4 x8 k0_pay2 := by
  unfold out0_A_17
  rw [View.read_writes_junk_eq_canon]
  unfold kernelRun0_A
  dsimp only
  sl_unfold_words
  simp only [View.canon_cons_unit_zero (S := S1x128) hz, View.canon_unit_zero (S := S1x128) hz, cov_128, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h17.read_unread, h18.read_unread, h19.read_unread, View.ld_unit_zero (S := S512x1024) hz, View.ld_unit_zero (S := S1x1024) hz, View.ld_unit_zero (S := S2048x1024) hz, View.ld_unit_zero (S := S512x512) hz, View.ld_unit_zero (S := S1x128) hz, View.ld_unit_zero (S := S512x256) hz, View.ld_unit_zero (S := S512x128) hz, dx_0, dg_0, dx_1, dg_1, dx_2, dg_2, dx_3, dg_3, dx_4, dg_4, dx_5, dg_5, dx_6, dg_6, dx_7, dg_7]
  rfl
/-- Window 18 at the first point: the running gradient of the keys' gains. -/
theorem out_A_18 (hc0 : cond0_0 i) :
    out0_A_18 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 = fourDg x5 x9 k0_pay3 := by
  unfold out0_A_18
  rw [View.read_writes_junk_eq_canon]
  unfold kernelRun0_A
  dsimp only
  sl_unfold_words
  simp only [View.canon_cons_unit_zero (S := S1x128) hz, View.canon_unit_zero (S := S1x128) hz, cov_128, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h17.read_unread, h18.read_unread, h19.read_unread, View.ld_unit_zero (S := S512x1024) hz, View.ld_unit_zero (S := S1x1024) hz, View.ld_unit_zero (S := S2048x1024) hz, View.ld_unit_zero (S := S512x512) hz, View.ld_unit_zero (S := S1x128) hz, View.ld_unit_zero (S := S512x256) hz, View.ld_unit_zero (S := S512x128) hz, dx_0, dg_0, dx_1, dg_1, dx_2, dg_2, dx_3, dg_3, dx_4, dg_4, dx_5, dg_5, dx_6, dg_6, dx_7, dg_7]
  rfl
/-- Window 15 at a later point: the gradient at the input projection's output. -/
theorem out_B_15 (hc0 : ¬cond0_0 i) (x16 : Vec F S1x1024 .f32) (x17 x18 : Vec F S1x128 .f32) :
    out0_B_15 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 x16 x17 x18 = dpb x4 x5 x8 x9 x10 x6 x7 x11 x12 x13 := by
  unfold out0_B_15
  rw [View.read_writes_junk_eq_canon]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h17.read_unread, h18.read_unread, h19.read_unread, View.ld_unit_zero (S := S512x1024) hz, View.ld_unit_zero (S := S1x1024) hz, View.ld_unit_zero (S := S2048x1024) hz, View.ld_unit_zero (S := S512x512) hz, View.ld_unit_zero (S := S1x128) hz, View.ld_unit_zero (S := S512x256) hz, View.ld_unit_zero (S := S512x128) hz, dx_0, dg_0, dx_1, dg_1, dx_2, dg_2, dx_3, dg_3, dx_4, dg_4, dx_5, dg_5, dx_6, dg_6, dx_7, dg_7]
  rfl
/-- Window 14 at a later point: the gradient of the rows. -/
theorem out_B_14 (hc0 : ¬cond0_0 i) (x16 : Vec F S1x1024 .f32) (x17 x18 : Vec F S1x128 .f32) :
    out0_B_14 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 x16 x17 x18 = k0_pay82 (k0_pay78 (dpb x4 x5 x8 x9 x10 x6 x7 x11 x12 x13) x3) x1 (k0_pay79 x2) (k0_pay80 x1) x0 := by
  unfold out0_B_14
  rw [View.read_writes_junk_eq_canon]
  unfold kernelRun0_B
  dsimp only
  sl_unfold_words
  simp only [View.canon_unit_zero (S := S512x1024) hz, cov_dp, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h17.read_unread, h18.read_unread, h19.read_unread, View.ld_unit_zero (S := S512x1024) hz, View.ld_unit_zero (S := S1x1024) hz, View.ld_unit_zero (S := S2048x1024) hz, View.ld_unit_zero (S := S512x512) hz, View.ld_unit_zero (S := S1x128) hz, View.ld_unit_zero (S := S512x256) hz, View.ld_unit_zero (S := S512x128) hz, dx_0, dg_0, dx_1, dg_1, dx_2, dg_2, dx_3, dg_3, dx_4, dg_4, dx_5, dg_5, dx_6, dg_6, dx_7, dg_7]
  rfl
/-- Window 16 at a later point: the running gradient of the norm's gain. -/
theorem out_B_16 (hc0 : ¬cond0_0 i) (x16 : Vec F S1x1024 .f32) (x17 x18 : Vec F S1x128 .f32) :
    out0_B_16 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 x16 x17 x18 = k0_pay83 (k0_pay78 (dpb x4 x5 x8 x9 x10 x6 x7 x11 x12 x13) x3) x1 (k0_pay80 x1) x16 := by
  unfold out0_B_16
  rw [View.read_writes_junk_eq_canon]
  unfold kernelRun0_B
  dsimp only
  sl_unfold_words
  simp only [View.canon_cons_unit_zero (S := S1x1024) hz, View.canon_unit_zero (S := S1x1024) hz, View.readCov_unit_zero (S := S1x1024) _ hz, cov_dp, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h17.read_unread, h18.read_unread, h19.read_unread, View.ld_unit_zero (S := S512x1024) hz, View.ld_unit_zero (S := S1x1024) hz, View.ld_unit_zero (S := S2048x1024) hz, View.ld_unit_zero (S := S512x512) hz, View.ld_unit_zero (S := S1x128) hz, View.ld_unit_zero (S := S512x256) hz, View.ld_unit_zero (S := S512x128) hz, dx_0, dg_0, dx_1, dg_1, dx_2, dg_2, dx_3, dg_3, dx_4, dg_4, dx_5, dg_5, dx_6, dg_6, dx_7, dg_7]
  rfl
/-- Window 17 at a later point: the running gradient of the queries' gains. -/
theorem out_B_17 (hc0 : ¬cond0_0 i) (x16 : Vec F S1x1024 .f32) (x17 x18 : Vec F S1x128 .f32) :
    out0_B_17 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 x16 x17 x18 = fourDg x4 x8 x17 := by
  unfold out0_B_17
  rw [View.read_writes_junk_eq_canon]
  unfold kernelRun0_B
  dsimp only
  sl_unfold_words
  simp only [View.canon_cons_unit_zero (S := S1x128) hz, View.canon_unit_zero (S := S1x128) hz, cov_128, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h17.read_unread, h18.read_unread, h19.read_unread, View.ld_unit_zero (S := S512x1024) hz, View.ld_unit_zero (S := S1x1024) hz, View.ld_unit_zero (S := S2048x1024) hz, View.ld_unit_zero (S := S512x512) hz, View.ld_unit_zero (S := S1x128) hz, View.ld_unit_zero (S := S512x256) hz, View.ld_unit_zero (S := S512x128) hz, dx_0, dg_0, dx_1, dg_1, dx_2, dg_2, dx_3, dg_3, dx_4, dg_4, dx_5, dg_5, dx_6, dg_6, dx_7, dg_7]
  rfl
/-- Window 18 at a later point: the running gradient of the keys' gains. -/
theorem out_B_18 (hc0 : ¬cond0_0 i) (x16 : Vec F S1x1024 .f32) (x17 x18 : Vec F S1x128 .f32) :
    out0_B_18 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 x16 x17 x18 = fourDg x5 x9 x18 := by
  unfold out0_B_18
  rw [View.read_writes_junk_eq_canon]
  unfold kernelRun0_B
  dsimp only
  sl_unfold_words
  simp only [View.canon_cons_unit_zero (S := S1x128) hz, View.canon_unit_zero (S := S1x128) hz, cov_128, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h17.read_unread, h18.read_unread, h19.read_unread, View.ld_unit_zero (S := S512x1024) hz, View.ld_unit_zero (S := S1x1024) hz, View.ld_unit_zero (S := S2048x1024) hz, View.ld_unit_zero (S := S512x512) hz, View.ld_unit_zero (S := S1x128) hz, View.ld_unit_zero (S := S512x256) hz, View.ld_unit_zero (S := S512x128) hz, dx_0, dg_0, dx_1, dg_1, dx_2, dg_2, dx_3, dg_3, dx_4, dg_4, dx_5, dg_5, dx_6, dg_6, dx_7, dg_7]
  rfl

end

end Cert.InBwd.Block

end
-- ==== Proof.PairRms.lean ====
/- RMS NORMS OF PAIRS OF HEADS over the real numbers: each row of 128 columns holds two heads of 64 columns, each normed by itself.
   The mathematics, the lines of a kernel that norm both heads of a block at once under a mask, and the lines of a host program
   that cut the rows into pairs and the pairs into heads. -/
module

public import proofs.«01_k».proof.Proof.Rms

@[expose] public section

noncomputable section

namespace Cert.Pair

open Cert.Lift Cert.Rms Idealize.ShloMosaic Idealize.ShloMosaic.ValueIdx

/-- The sum over the half of a row of 128 that holds column `k`. -/
def half (f : Fin 128 → ℝ) (k : Fin 128) : ℝ :=
  if k.val < 64 then ∑ j : Fin 128, (if j.val < 64 then f j else 0) else ∑ j : Fin 128, (if j.val < 64 then 0 else f j)

/-- The reciprocal root mean square of the head that holds column `k`. -/
def prs (x : Fin 128 → ℝ) (k : Fin 128) : ℝ := (Real.sqrt (half (fun j => x j * x j) k / 64 + eps))⁻¹

/-- The gradient of a row, for a gradient `d` of its normed heads times the gains `g`. -/
def pdx (x d g : Fin 128 → ℝ) (k : Fin 128) : ℝ :=
  prs x k * (d k * g k) - x k * (prs x k * prs x k * prs x k) * (half (fun j => d j * g j * x j) k / 64)

/-- A row's share of the gains' gradient. -/
def pgc (x d : Fin 128 → ℝ) (k : Fin 128) : ℝ := d k * x k * prs x k

theorem half_lo (f : Fin 128 → ℝ) (j : Fin 64) (h : 0 + j.val < 128) : half f ⟨0 + j.val, h⟩ = ∑ l : Fin 64, f ⟨0 + l.val, by omega⟩ := by
  unfold half
  rw [if_pos (by show 0 + j.val < 64; omega)]
  refine (Fin.sum_univ_add (a := 64) (b := 64) _).trans ?_
  rw [Finset.sum_eq_zero (s := (Finset.univ : Finset (Fin 64)))
    (f := fun i : Fin 64 => if (Fin.natAdd 64 i).val < 64 then f (Fin.natAdd 64 i) else 0) fun i _ => if_neg (by simp), add_zero]
  refine Finset.sum_congr rfl fun l _ => ?_
  rw [if_pos (by simp)]
  exact congrArg f (Fin.ext (by simp))

theorem half_hi (f : Fin 128 → ℝ) (j : Fin 64) (h : 64 + j.val < 128) : half f ⟨64 + j.val, h⟩ = ∑ l : Fin 64, f ⟨64 + l.val, by omega⟩ := by
  unfold half
  rw [if_neg (by show ¬ 64 + j.val < 64; omega)]
  refine (Fin.sum_univ_add (a := 64) (b := 64) _).trans ?_
  rw [Finset.sum_eq_zero (s := (Finset.univ : Finset (Fin 64)))
    (f := fun i : Fin 64 => if (Fin.castAdd 64 i).val < 64 then 0 else f (Fin.castAdd 64 i)) fun i _ => if_pos (by simp), zero_add]
  exact Finset.sum_congr rfl fun l _ => if_neg (by simp)

variable {M : Nat}

/-! Each head of a pair is an RMS norm of 64 columns. -/

theorem prs_lo (X : Fin M → Fin 128 → ℝ) (i : Fin M) (j : Fin 64) (h : 0 + j.val < 128) :
    prs (X i) ⟨0 + j.val, h⟩ = rs 64 (cols (L := 64) 0 (by norm_num) X) i := by
  unfold prs rs ms
  rw [half_lo]
  rfl
theorem prs_hi (X : Fin M → Fin 128 → ℝ) (i : Fin M) (j : Fin 64) (h : 64 + j.val < 128) :
    prs (X i) ⟨64 + j.val, h⟩ = rs 64 (cols (L := 64) 64 (by norm_num) X) i := by
  unfold prs rs ms
  rw [half_hi]
  rfl
theorem pdx_lo (X D : Fin M → Fin 128 → ℝ) (G : Fin 128 → ℝ) (i : Fin M) (j : Fin 64) (h : 0 + j.val < 128) :
    pdx (X i) (D i) G ⟨0 + j.val, h⟩
      = dx 64 (cols 0 (by norm_num) X) (cols 0 (by norm_num) D) (fun k : Fin 64 => G ⟨0 + k.val, by omega⟩) i j := by
  unfold pdx dx
  rw [half_lo, prs_lo]
  rfl
theorem pdx_hi (X D : Fin M → Fin 128 → ℝ) (G : Fin 128 → ℝ) (i : Fin M) (j : Fin 64) (h : 64 + j.val < 128) :
    pdx (X i) (D i) G ⟨64 + j.val, h⟩
      = dx 64 (cols 64 (by norm_num) X) (cols 64 (by norm_num) D) (fun k : Fin 64 => G ⟨64 + k.val, by omega⟩) i j := by
  unfold pdx dx
  rw [half_hi, prs_hi]
  rfl
theorem pgc_lo (X D : Fin M → Fin 128 → ℝ) (i : Fin M) (j : Fin 64) (h : 0 + j.val < 128) :
    pgc (X i) (D i) ⟨0 + j.val, h⟩ = dgc 64 (cols 0 (by norm_num) X) (cols 0 (by norm_num) D) i j := by
  unfold pgc dgc
  rw [prs_lo]
  rfl
theorem pgc_hi (X D : Fin M → Fin 128 → ℝ) (i : Fin M) (j : Fin 64) (h : 64 + j.val < 128) :
    pgc (X i) (D i) ⟨64 + j.val, h⟩ = dgc 64 (cols 64 (by norm_num) X) (cols 64 (by norm_num) D) i j := by
  unfold pgc dgc
  rw [prs_hi]
  rfl

/-! The constant 64. -/

theorem ofBits_64 : Ideal.ofBits .f32 0x42800000#32 = ((64 : ℝ) : EReal) := by
  simp [Ideal.ofBits, Ideal.ieee, -EReal.coe_mul, -EReal.coe_neg]; norm_num

theorem c_64 {s : Shape} : (constant (F := Ideal) s .f32 0x42800000#32 : FVec Ideal s .f32) = up fun _ => 64 := up_constant _ _ ofBits_64

section Kernel

/-! A kernel's lines, on a block of rows: the mask is one on the first 64 columns. -/

variable (hM : M ≠ 1) (m : IVec (⟨2, ![M, 128]⟩ : Shape) 1) (hm : ∀ i, m i = BitVec.ofBool (decide ((i 1).val < 64)))
  (X D : Fin M → Fin 128 → ℝ) (G : Fin 128 → ℝ)
  (hr : (⟨2, ![M, 128]⟩ : Shape).Reduces [1] ⟨1, ![M]⟩) (hc : (⟨1, ![M]⟩ : Shape).ShapeCasts ⟨2, ![M, 1]⟩)
  (hb : (⟨2, ![M, 1]⟩ : Shape).Broadcasts ⟨2, ![M, 128]⟩)
  (hφ : FKind.Formats .f32) (hacc : (0x00000000#32 : BitVec (FTy.f32).bits) = FKind.add.neutral .f32 hφ)
include hm

theorem m_select (A B : Fin M → Fin 128 → ℝ) :
    (select m (up (mat A)) (up (mat B)) : FVec Ideal ⟨2, ![M, 128]⟩ .f32) = up (mat fun i k => if k.val < 64 then A i k else B i k) := by
  funext i
  show Scalar.select (m i) (((A (i 0) (i 1) : ℝ)) : EReal) ((B (i 0) (i 1) : ℝ) : EReal) = (((if (i 1).val < 64 then A (i 0) (i 1) else B (i 0) (i 1)) : ℝ) : EReal)
  rw [hm]
  by_cases h : (i 1).val < 64
  · rw [if_pos h, decide_eq_true h]
    rfl
  · rw [if_neg h, decide_eq_false h]
    rfl

include hM

/-- The reciprocal roots, each head's on its own columns. -/
theorem k_prs :
    (select m
      (broadcastTo ⟨2, ![M, 128]⟩ (rsqrt (addf (divf (shapeCast ⟨2, ![M, 1]⟩
        (multiReduction .add [1] ⟨1, ![M]⟩ (select m (mulf (up (mat X)) (up (mat X)) : FVec Ideal ⟨2, ![M, 128]⟩ .f32) (broadcast ⟨2, ![M, 128]⟩ ((0 : ℝ) : EReal)) : FVec Ideal ⟨2, ![M, 128]⟩ .f32)
          0x00000000#32 hr hφ hacc) hc) (broadcast ⟨2, ![M, 1]⟩ ((64 : ℝ) : EReal))) (broadcast ⟨2, ![M, 1]⟩ ((eps : ℝ) : EReal)) : FVec Ideal ⟨2, ![M, 1]⟩ .f32) : FVec Ideal ⟨2, ![M, 1]⟩ .f32) hb)
      (broadcastTo ⟨2, ![M, 128]⟩ (rsqrt (addf (divf (shapeCast ⟨2, ![M, 1]⟩
        (multiReduction .add [1] ⟨1, ![M]⟩ (select m (broadcast ⟨2, ![M, 128]⟩ ((0 : ℝ) : EReal)) (mulf (up (mat X)) (up (mat X)) : FVec Ideal ⟨2, ![M, 128]⟩ .f32) : FVec Ideal ⟨2, ![M, 128]⟩ .f32)
          0x00000000#32 hr hφ hacc) hc) (broadcast ⟨2, ![M, 1]⟩ ((64 : ℝ) : EReal))) (broadcast ⟨2, ![M, 1]⟩ ((eps : ℝ) : EReal)) : FVec Ideal ⟨2, ![M, 1]⟩ .f32) : FVec Ideal ⟨2, ![M, 1]⟩ .f32) hb)
      : FVec Ideal ⟨2, ![M, 128]⟩ .f32)
      = up (mat fun i k => prs (X i) k) := by
  have h64 : ((64 : ℝ)) ≠ 0 := by norm_num
  have hp : ∀ s : ℝ, 0 ≤ s → 0 < s / 64 + eps := fun s h => add_pos_of_nonneg_of_pos (div_nonneg h (by norm_num)) eps_pos
  rw [m_mulf, m_broadcast, m_select m hm, m_select m hm, m_rowSum, m_rowSum, m_ofCol, m_ofCol, m_broadcast, m_broadcast,
    m_divf _ _ fun _ _ => h64, m_divf _ _ fun _ _ => h64, m_addf, m_addf,
    m_rsqrt _ fun i _ => hp _ (Finset.sum_nonneg fun k _ => by split <;> first | exact mul_self_nonneg _ | exact le_rfl),
    m_rsqrt _ fun i _ => hp _ (Finset.sum_nonneg fun k _ => by split <;> first | exact mul_self_nonneg _ | exact le_rfl),
    m_bcastCol hM, m_bcastCol hM, m_select m hm]
  refine congrArg up (congrArg mat (funext fun i => funext fun k => ?_))
  unfold prs half
  split <;> rfl

/-- The gradient of a block's rows. -/
theorem k_pdx :
    (subf (mulf (up (mat fun i k => prs (X i) k)) (up (mat fun i k => D i k * G k)))
      (mulf (mulf (up (mat X)) (mulf (mulf (up (mat fun i k => prs (X i) k)) (up (mat fun i k => prs (X i) k))) (up (mat fun i k => prs (X i) k))))
        (divf (select m
          (broadcastTo ⟨2, ![M, 128]⟩ (shapeCast ⟨2, ![M, 1]⟩ (multiReduction .add [1] ⟨1, ![M]⟩
            (select m (mulf (up (mat fun i k => D i k * G k)) (up (mat X)) : FVec Ideal ⟨2, ![M, 128]⟩ .f32) (broadcast ⟨2, ![M, 128]⟩ ((0 : ℝ) : EReal)) : FVec Ideal ⟨2, ![M, 128]⟩ .f32) 0x00000000#32 hr hφ hacc) hc) hb)
          (broadcastTo ⟨2, ![M, 128]⟩ (shapeCast ⟨2, ![M, 1]⟩ (multiReduction .add [1] ⟨1, ![M]⟩
            (select m (broadcast ⟨2, ![M, 128]⟩ ((0 : ℝ) : EReal)) (mulf (up (mat fun i k => D i k * G k)) (up (mat X)) : FVec Ideal ⟨2, ![M, 128]⟩ .f32) : FVec Ideal ⟨2, ![M, 128]⟩ .f32) 0x00000000#32 hr hφ hacc) hc) hb))
          (broadcast ⟨2, ![M, 128]⟩ ((64 : ℝ) : EReal)))) : FVec Ideal ⟨2, ![M, 128]⟩ .f32)
      = up (mat fun i k => pdx (X i) (D i) G k) := by
  have h64 : ((64 : ℝ)) ≠ 0 := by norm_num
  rw [m_mulf (fun i k => D i k * G k) X, m_broadcast, m_broadcast, m_select m hm, m_select m hm, m_rowSum, m_rowSum, m_ofCol, m_ofCol,
    m_bcastCol hM, m_bcastCol hM, m_select m hm, m_divf _ _ fun _ _ => h64]
  simp only [m_mulf, m_subf]
  refine congrArg up (congrArg mat (funext fun i => funext fun k => ?_))
  unfold pdx half
  split <;> rfl

end Kernel

/-! A host program's lines. -/

/-- Two arrays of 64 columns side by side. -/
def join {α : Type} (A B : Fin M → Fin 64 → α) (i : Fin M) (k : Fin 128) : α :=
  if h : k.val < 64 then A i ⟨k.val, h⟩ else B i ⟨k.val - 64, by omega⟩

theorem join_eq {α : Type} {A B : Fin M → Fin 64 → α} {C : Fin M → Fin 128 → α}
    (hA : ∀ i (j : Fin 64), C i ⟨0 + j.val, by omega⟩ = A i j) (hB : ∀ i (j : Fin 64), C i ⟨64 + j.val, by omega⟩ = B i j) : join A B = C := by
  funext i k
  unfold join
  by_cases h : k.val < 64
  · rw [dif_pos h, ← hA]
    exact congrArg (C i) (Fin.ext (Nat.zero_add _))
  · rw [dif_neg h, ← hB]
    exact congrArg (C i) (Fin.ext (by show 64 + (k.val - 64) = k.val; omega))

/-- Two arrays of 64 columns, each padded with zeros to 128 on its side, and added. -/
theorem m_padPair {u : Shape} (A B : Fin M → Fin 64 → ℝ) (hu : 0 < u.numel)
    (hh : (⟨2, ![M, 64]⟩ : Shape).Pads ![0, 64] ![0, 0] ![0, 0] ⟨2, ![M, 128]⟩)
    (hl : (⟨2, ![M, 64]⟩ : Shape).Pads ![0, 0] ![0, 64] ![0, 0] ⟨2, ![M, 128]⟩) :
    addf (pad ⟨2, ![M, 128]⟩ ![0, 64] ![0, 0] ![0, 0] (up (mat B)) (up fun _ : u.Idx => 0) hh hu)
      (pad ⟨2, ![M, 128]⟩ ![0, 0] ![0, 64] ![0, 0] (up (mat A)) (up fun _ : u.Idx => 0) hl hu : FVec Ideal ⟨2, ![M, 128]⟩ .f32)
      = up (mat (join A B)) := by
  funext j
  show pad ⟨2, ![M, 128]⟩ ![0, 64] ![0, 0] ![0, 0] (up (mat B)) (up fun _ : u.Idx => 0) hh hu j
    + pad ⟨2, ![M, 128]⟩ ![0, 0] ![0, 64] ![0, 0] (up (mat A)) (up fun _ : u.Idx => 0) hl hu j = ((join A B (j 0) (j 1) : ℝ) : EReal)
  unfold pad join
  by_cases h : (j 1).val < 64
  · rw [dif_neg (fun hin => by have h1 : 64 ≤ (j 1).val := (hin 1).1; omega), dif_pos (fun a => by
      match a with
      | ⟨0, _⟩ => exact ⟨Nat.zero_le _, Nat.mod_one _, by show ((j 0).val - 0) / 1 < M; have h0 : (j 0).val < M := (j 0).isLt; omega⟩
      | ⟨1, _⟩ => exact ⟨Nat.zero_le _, Nat.mod_one _, by show ((j 1).val - 0) / 1 < 64; omega⟩), dif_pos h]
    refine (zero_add _).trans ?_
    show ((A _ _ : ℝ) : EReal) = _
    congr 2
    · exact Fin.ext (by show ((j 0).val - 0) / 1 = (j 0).val; omega)
    · exact Fin.ext (by show ((j 1).val - 0) / 1 = (j 1).val; omega)
  · have h2 : (j 1).val < 128 := (j 1).isLt
    rw [dif_neg (c := ∀ a : Fin 2, _) (t := fun hin => up (mat A) _) (fun hin => by have h1 : ((j 1).val - 0) / 1 < 64 := (hin 1).2.2; omega), dif_pos (fun a => by
      match a with
      | ⟨0, _⟩ => exact ⟨Nat.zero_le _, Nat.mod_one _, by show ((j 0).val - 0) / 1 < M; have h0 : (j 0).val < M := (j 0).isLt; omega⟩
      | ⟨1, _⟩ => exact ⟨by show 64 ≤ (j 1).val; omega, Nat.mod_one _, by show ((j 1).val - 64) / 1 < 64; omega⟩), dif_neg h]
    refine (add_zero _).trans ?_
    show ((B _ _ : ℝ) : EReal) = _
    congr 2
    · exact Fin.ext (by show ((j 0).val - 0) / 1 = (j 0).val; omega)
    · exact Fin.ext (by show ((j 1).val - 64) / 1 = (j 1).val - 64; omega)

end Cert.Pair

end
-- ==== Proof.InBwdValue.lean ====
/- What one grid point of the input projection's backward kernel computes on finite blocks: the queries' and keys' gradients go
   back through the norms of each pair of heads, the other columns pass through, and the whole goes back through the product
   with the weight and the norm of the rows. -/
module

public import proofs.«01_k».proof.Proof.InBwdBlock
public import proofs.«01_k».proof.Proof.PairRms

@[expose] public section

noncomputable section

namespace Cert.InBwd

open Cert.Lift Cert.Rms Cert.Pair

variable {M : Nat}

/-- The columns of pair `h` of the heads. -/
def pr (X : Fin M → Fin 512 → ℝ) (h : Fin 4) : Fin M → Fin 128 → ℝ := cols (128 * h.val) (by omega) X

/-- The gradient of four pairs of heads before their norms. -/
def heads (X D : Fin M → Fin 512 → ℝ) (G : Fin 128 → ℝ) (i : Fin M) (k : Fin 512) : ℝ :=
  pdx (pr X ⟨k.val / 128, by omega⟩ i) (pr D ⟨k.val / 128, by omega⟩ i) G ⟨k.val % 128, by omega⟩

theorem heads_pr (X D : Fin M → Fin 512 → ℝ) (G : Fin 128 → ℝ) (i : Fin M) (h : Fin 4) (k : Fin 128) (hk : 128 * h.val + k.val < 512) :
    heads X D G i ⟨128 * h.val + k.val, hk⟩ = pdx (pr X h i) (pr D h i) G k := by
  have e1 : (⟨(128 * h.val + k.val) / 128, by omega⟩ : Fin 4) = h := Fin.ext (by show (128 * h.val + k.val) / 128 = h.val; omega)
  have e2 : (⟨(128 * h.val + k.val) % 128, by omega⟩ : Fin 128) = k := Fin.ext (by show (128 * h.val + k.val) % 128 = k.val; omega)
  unfold heads
  rw [e1, e2]

/-- A row's share of the gradient of a pair of heads' gains: the sum over the row's four pairs. -/
def gainShare (X D : Fin M → Fin 512 → ℝ) (i : Fin M) (k : Fin 128) : ℝ := ∑ h : Fin 4, pgc (pr X h i) (pr D h i) k

/-- The gradient at the input projection's output: the queries, the keys, the values, and the latent columns. -/
def dp (Q K DQ DK DV : Fin M → Fin 512 → ℝ) (GQ GK : Fin 128 → ℝ) (XL : Fin M → Fin 256 → ℝ) (XC XP : Fin M → Fin 128 → ℝ)
    (i : Fin M) (k : Fin 2048) : ℝ :=
  if h0 : k.val < 512 then heads Q DQ GQ i ⟨k.val, h0⟩
  else if h1 : k.val < 1024 then heads K DK GK i ⟨k.val - 512, by omega⟩
  else if h2 : k.val < 1536 then DV i ⟨k.val - 1024, by omega⟩
  else if h3 : k.val < 1792 then XL i ⟨k.val - 1536, by omega⟩
  else if h4 : k.val < 1920 then XC i ⟨k.val - 1792, by omega⟩
  else XP i ⟨k.val - 1920, by omega⟩

/-- The gradient at the normed rows. -/
def dn (P : Fin M → Fin 2048 → ℝ) (W : Fin 2048 → Fin 1024 → ℝ) (i : Fin M) (k : Fin 1024) : ℝ := ∑ j, P i j * W j k

/-- The input projection of the normed rows. -/
def pj (X : Fin M → Fin 1024 → ℝ) (G : Fin 1024 → ℝ) (W : Fin 1024 → Fin 2048 → ℝ) (i : Fin M) (j : Fin 2048) : ℝ :=
  ∑ k, X i k * rs 1024 X i * G k * W k j

/-- The queries and the keys before their heads' norms. -/
def qs (X : Fin M → Fin 1024 → ℝ) (G : Fin 1024 → ℝ) (W : Fin 1024 → Fin 2048 → ℝ) : Fin M → Fin 512 → ℝ := cols 0 (by norm_num) (pj X G W)
def ks (X : Fin M → Fin 1024 → ℝ) (G : Fin 1024 → ℝ) (W : Fin 1024 → Fin 2048 → ℝ) : Fin M → Fin 512 → ℝ := cols 512 (by norm_num) (pj X G W)

/-- The gradient at the input projection's output, from the rows, the weight and the gradients of its parts. -/
def dproj (X : Fin M → Fin 1024 → ℝ) (G : Fin 1024 → ℝ) (W : Fin 1024 → Fin 2048 → ℝ) (GQ GK : Fin 128 → ℝ) (DQ DK DV : Fin M → Fin 512 → ℝ)
    (XL : Fin M → Fin 256 → ℝ) (XC XP : Fin M → Fin 128 → ℝ) : Fin M → Fin 2048 → ℝ := dp (qs X G W) (ks X G W) DQ DK DV GQ GK XL XC XP

/-- The weight's transpose. -/
def tr (W : Fin 1024 → Fin 2048 → ℝ) (i : Fin 2048) (j : Fin 1024) : ℝ := W j i

end Cert.InBwd

namespace Cert.InBwd.Block

open Cert.Kernel10Ideal Cert.Kernel10Ideal.Gen Cert.Lift Cert.Rms Cert.Pair Idealize.ShloMosaic Idealize.ShloMosaic.TcCoe

theorem dotP : dot_S512x2048_S2048x1024_S512x1024_1_0_0_1_n_n = DotDims.plain 512 2048 1024 := rfl

theorem n128 : (128 : Nat) ≠ 1 := by decide
theorem n512 : (512 : Nat) ≠ 1 := by decide
theorem n1024 : (1024 : Nat) ≠ 1 := by decide
theorem p1024 : (0 : ℝ) < 1024 := by norm_num

/-- The mask: one on the first 64 columns. -/
theorem mask (i : S512x128.Idx) : k0_pay4 i = BitVec.ofBool (decide ((i 1).val < 64)) := by
  have h1 : (i 1).val < 128 := (i 1).isLt
  unfold k0_pay4
  show IntOp.cmpi .slt (BitVec.ofNat 32 (0 * S512x128.size 1 + (i 1).val)) (BitVec.ofNat 32 64) = _
  rw [Nat.zero_mul, Nat.zero_add]
  exact WordCmp.cmpi_slt_ofNat (by omega) (by norm_num)

/-- The sums of a block's columns. -/
theorem colSum_128 (A : Fin 512 → Fin 128 → ℝ) :
    multiReduction (F := Ideal) (φ := .f32) .add [0] S128 (up (mat A)) 0x00000000#32 reduces_S512x128_S128 (.inl rfl) rfl
      = up (vec fun k => ∑ i, A i k) := m_colSum A _ _ _ _
theorem colSum_1024 (A : Fin 512 → Fin 1024 → ℝ) :
    multiReduction (F := Ideal) (φ := .f32) .add [0] S1024 (up (mat A)) 0x00000000#32 reduces_S512x1024_S1024 (.inl rfl) rfl
      = up (vec fun k => ∑ i, A i k) := m_colSum A _ _ _ _

section Pair

variable (X D : Fin 512 → Fin 128 → ℝ) (G : Fin 128 → ℝ)

theorem pay7 : k0_pay7 (F := Ideal) (up (mat X)) = up (mat fun i k => prs (X i) k) := by
  unfold k0_pay7 k0_pay5
  simp only [shapeCast_self, scalar_ofBits, ofBits_64, ofBits_eps, ofBits_zero]
  exact k_prs n512 k0_pay4 mask X _ _ _ _ _

theorem scaled_value : scaled (F := Ideal) (up (mat D)) (up (mat fun _ j => G j)) = up (mat fun i k => D i k * G k) := by
  unfold scaled
  simp only [shapeCast_self, m_bcastRow n128, m_mulf]

/-- The gradient of a pair of heads. -/
theorem pairDx_value : pairDx (F := Ideal) (up (mat X)) (up (mat D)) (up (mat fun _ j => G j)) = up (mat fun i k => pdx (X i) (D i) G k) := by
  unfold pairDx
  rw [pay7, scaled_value]
  unfold k0_pay11 k0_pay10 k0_pay5
  simp only [shapeCast_self, scalar_ofBits, ofBits_64, ofBits_zero]
  exact k_pdx n512 k0_pay4 mask X D G _ _ _ _ _

/-- The running gradient of the gains after one pair. -/
theorem pairDg_value (A : Fin 128 → ℝ) : pairDg (F := Ideal) (up (mat X)) (up (mat D)) (up (mat fun _ j => A j))
    = up (mat fun _ k => A k + ∑ i, pgc (X i) (D i) k) := by
  unfold pairDg
  rw [pay7]
  unfold k0_pay12 k0_pay5
  simp only [shapeCast_self, m_mulf]
  erw [colSum_128]
  simp only [m_ofRow, m_addf]
  rfl

end Pair

/-- The load of a pair's columns. -/
theorem ld_pair (Q : Fin 512 → Fin 512 → ℝ) (h : Fin 4) (inb : ∀ a, (![0, 128 * h.val] : Fin 2 → Nat) a + (![512, 128] : Fin 2 → Nat) a ≤ S512x512.size a) :
    (View.ld (up (mat Q)) (Rect.unit (s := S512x512) ![0, 128 * h.val] ![512, 128] inb) : Vec Ideal S512x128 .f32) = up (mat (pr Q h)) := by
  funext x
  have h1 : (x 1).val < 128 := (x 1).isLt
  show up (mat Q) ((Rect.unit (s := S512x512) ![0, 128 * h.val] ![512, 128] inb).idx x) = up (mat Q) (ValueIdx.ix2 (x 0) ⟨128 * h.val + (x 1).val, by omega⟩)
  refine congrArg (up (mat Q)) (funext fun a => Fin.ext ?_)
  match a with
  | ⟨0, _⟩ => show 0 + 1 * (x 0).val = (x 0).val; omega
  | ⟨1, _⟩ => show 128 * h.val + 1 * (x 1).val = 128 * h.val + (x 1).val; omega

theorem cut_pair (D : Fin 512 → Fin 512 → ℝ) (h : Fin 4) (hs : (S512x512 : Shape).Slices ![0, 128 * h.val] S512x128) :
    cut (F := Ideal) (128 * h.val) hs (up (mat D)) = up (mat (pr D h)) := m_cols (128 * h.val) (by omega) D hs

theorem fourDg_value (X D : Fin 512 → Fin 512 → ℝ) (A : Fin 128 → ℝ) : fourDg (F := Ideal) (up (mat X)) (up (mat D)) (up (mat fun _ j => A j))
    = up (mat fun _ k => A k + ∑ i, gainShare X D i k) := by
  unfold fourDg
  erw [ld_pair X 0, ld_pair X 1, ld_pair X 2, ld_pair X 3, cut_pair D 0, cut_pair D 1, cut_pair D 2, cut_pair D 3,
    pairDg_value, pairDg_value, pairDg_value, pairDg_value]
  refine congrArg up (congrArg mat (funext fun _ => funext fun k => ?_))
  unfold gainShare
  simp only [Fin.sum_univ_four, Finset.sum_add_distrib, add_assoc]

section

variable (Q K DQ DK DV : Fin 512 → Fin 512 → ℝ) (GQ GK : Fin 128 → ℝ) (XL : Fin 512 → Fin 256 → ℝ) (XC XP : Fin 512 → Fin 128 → ℝ)

/-- A store of columns of a matrix, at those columns. -/
theorem piece_at {L : Nat} (P : Fin 512 → Fin 2048 → ℝ) (B : Fin 512 → Fin L → ℝ) (o : Nat)
    (inb : ∀ a, (![0, o] : Fin 2 → Nat) a + (![512, L] : Fin 2 → Nat) a ≤ S512x2048.size a)
    (hB : ∀ i (k : Fin L) (hk : o + k.val < 2048), B i k = P i ⟨o + k.val, hk⟩) (x : (Rect.unit (s := S512x2048) ![0, o] ![512, L] inb).shape.Idx) :
    up (mat B) x = up (mat P) ((Rect.unit (s := S512x2048) ![0, o] ![512, L] inb).emb x) := by
  have h1 : (x 1).val < L := (x 1).isLt
  have h2 : o + L ≤ 2048 := inb 1
  show ((B (x 0) (x 1) : ℝ) : EReal) = up (mat P) ((Rect.unit (s := S512x2048) ![0, o] ![512, L] inb).emb x)
  rw [hB (x 0) (x 1) (by omega)]
  refine (congrArg (up (mat P)) (funext fun a => Fin.ext ?_) : up (mat P) (ValueIdx.ix2 (x 0) ⟨o + (x 1).val, by omega⟩) = _)
  match a with
  | ⟨0, _⟩ => show (x 0).val = 0 + 1 * (x 0).val; omega
  | ⟨1, _⟩ => show o + (x 1).val = o + 1 * (x 1).val; omega

theorem dp_q (h : Fin 4) (i : Fin 512) (k : Fin 128) (hk : 128 * h.val + k.val < 2048) :
    pdx (pr Q h i) (pr DQ h i) GQ k = dp Q K DQ DK DV GQ GK XL XC XP i ⟨128 * h.val + k.val, hk⟩ := by
  unfold dp
  rw [dif_pos (by show 128 * h.val + k.val < 512; omega)]
  exact (heads_pr Q DQ GQ i h k _).symm

theorem dp_k (h : Fin 4) (i : Fin 512) (k : Fin 128) (hk : (512 + 128 * h.val) + k.val < 2048) :
    pdx (pr K h i) (pr DK h i) GK k = dp Q K DQ DK DV GQ GK XL XC XP i ⟨(512 + 128 * h.val) + k.val, hk⟩ := by
  unfold dp
  rw [dif_neg (by show ¬ (512 + 128 * h.val) + k.val < 512; omega), dif_pos (by show (512 + 128 * h.val) + k.val < 1024; omega)]
  refine (heads_pr K DK GK i h k (by omega)).symm.trans (congrArg (heads K DK GK i) (Fin.ext ?_))
  show 128 * h.val + k.val = (512 + 128 * h.val) + k.val - 512
  omega

theorem dp_v (i : Fin 512) (k : Fin 512) (hk : 1024 + k.val < 2048) : DV i k = dp Q K DQ DK DV GQ GK XL XC XP i ⟨1024 + k.val, hk⟩ := by
  unfold dp
  rw [dif_neg (by show ¬ 1024 + k.val < 512; omega), dif_neg (by show ¬ 1024 + k.val < 1024; omega), dif_pos (by show 1024 + k.val < 1536; omega)]
  exact congrArg (DV i) (Fin.ext (by show k.val = 1024 + k.val - 1024; omega))

theorem dp_l (i : Fin 512) (k : Fin 256) (hk : 1536 + k.val < 2048) : XL i k = dp Q K DQ DK DV GQ GK XL XC XP i ⟨1536 + k.val, hk⟩ := by
  unfold dp
  rw [dif_neg (by show ¬ 1536 + k.val < 512; omega), dif_neg (by show ¬ 1536 + k.val < 1024; omega), dif_neg (by show ¬ 1536 + k.val < 1536; omega),
    dif_pos (by show 1536 + k.val < 1792; omega)]
  exact congrArg (XL i) (Fin.ext (by show k.val = 1536 + k.val - 1536; omega))

theorem dp_c (i : Fin 512) (k : Fin 128) (hk : 1792 + k.val < 2048) : XC i k = dp Q K DQ DK DV GQ GK XL XC XP i ⟨1792 + k.val, hk⟩ := by
  unfold dp
  rw [dif_neg (by show ¬ 1792 + k.val < 512; omega), dif_neg (by show ¬ 1792 + k.val < 1024; omega), dif_neg (by show ¬ 1792 + k.val < 1536; omega),
    dif_neg (by show ¬ 1792 + k.val < 1792; omega), dif_pos (by show 1792 + k.val < 1920; omega)]
  exact congrArg (XC i) (Fin.ext (by show k.val = 1792 + k.val - 1792; omega))

theorem dp_p (i : Fin 512) (k : Fin 128) (hk : 1920 + k.val < 2048) : XP i k = dp Q K DQ DK DV GQ GK XL XC XP i ⟨1920 + k.val, hk⟩ := by
  unfold dp
  rw [dif_neg (by show ¬ 1920 + k.val < 512; omega), dif_neg (by show ¬ 1920 + k.val < 1024; omega), dif_neg (by show ¬ 1920 + k.val < 1536; omega),
    dif_neg (by show ¬ 1920 + k.val < 1792; omega), dif_neg (by show ¬ 1920 + k.val < 1920; omega)]
  exact congrArg (XP i) (Fin.ext (by show k.val = 1920 + k.val - 1920; omega))

theorem pay74 (A : Fin 512 → Fin 512 → ℝ) : k0_pay74 (F := Ideal) (up (mat A)) = up (mat A) := by
  unfold k0_pay74
  simp only [shapeCast_self, up_truncf]
theorem pay75 (A : Fin 512 → Fin 256 → ℝ) : k0_pay75 (F := Ideal) (up (mat A)) = up (mat A) := by
  unfold k0_pay75
  simp only [shapeCast_self, up_truncf]
theorem pay76 (A : Fin 512 → Fin 128 → ℝ) : k0_pay76 (F := Ideal) (up (mat A)) = up (mat A) := by
  unfold k0_pay76
  simp only [shapeCast_self, up_truncf]
theorem pay77 (A : Fin 512 → Fin 128 → ℝ) : k0_pay77 (F := Ideal) (up (mat A)) = up (mat A) := by
  unfold k0_pay77
  simp only [shapeCast_self, up_truncf]

/-- The store of a pair of heads of the queries, at its columns. -/
theorem q_piece (h : Fin 4) (inb : ∀ a, (![0, 128 * h.val] : Fin 2 → Nat) a + (![512, 128] : Fin 2 → Nat) a ≤ S512x2048.size a)
    (inb' : ∀ a, (![0, 128 * h.val] : Fin 2 → Nat) a + (![512, 128] : Fin 2 → Nat) a ≤ S512x512.size a) (hs : (S512x512 : Shape).Slices ![0, 128 * h.val] S512x128)
    (x : (Rect.unit (s := S512x2048) ![0, 128 * h.val] ![512, 128] inb).shape.Idx) :
    pairDx (F := Ideal) (View.ld (up (mat Q)) (Rect.unit (s := S512x512) ![0, 128 * h.val] ![512, 128] inb')) (cut (128 * h.val) hs (up (mat DQ))) (up (mat fun _ j => GQ j)) x
      = up (mat (dp Q K DQ DK DV GQ GK XL XC XP)) ((Rect.unit (s := S512x2048) ![0, 128 * h.val] ![512, 128] inb).emb x) := by
  rw [cut_pair, ld_pair, pairDx_value]
  exact piece_at _ _ _ inb (fun i k hk => dp_q Q K DQ DK DV GQ GK XL XC XP h i k hk) x

/-- The store of a pair of heads of the keys, at its columns. -/
theorem k_piece (h : Fin 4) (inb : ∀ a, (![0, 512 + 128 * h.val] : Fin 2 → Nat) a + (![512, 128] : Fin 2 → Nat) a ≤ S512x2048.size a)
    (inb' : ∀ a, (![0, 128 * h.val] : Fin 2 → Nat) a + (![512, 128] : Fin 2 → Nat) a ≤ S512x512.size a) (hs : (S512x512 : Shape).Slices ![0, 128 * h.val] S512x128)
    (x : (Rect.unit (s := S512x2048) ![0, 512 + 128 * h.val] ![512, 128] inb).shape.Idx) :
    pairDx (F := Ideal) (View.ld (up (mat K)) (Rect.unit (s := S512x512) ![0, 128 * h.val] ![512, 128] inb')) (cut (128 * h.val) hs (up (mat DK))) (up (mat fun _ j => GK j)) x
      = up (mat (dp Q K DQ DK DV GQ GK XL XC XP)) ((Rect.unit (s := S512x2048) ![0, 512 + 128 * h.val] ![512, 128] inb).emb x) := by
  rw [cut_pair, ld_pair, pairDx_value]
  exact piece_at _ _ _ inb (fun i k hk => dp_k Q K DQ DK DV GQ GK XL XC XP h i k hk) x

/-- The block of the gradient at the input projection's output. -/
theorem dpb_value : dpb (F := Ideal) (up (mat Q)) (up (mat K)) (up (mat DQ)) (up (mat DK)) (up (mat DV)) (up (mat fun _ j => GQ j)) (up (mat fun _ j => GK j))
    (up (mat XL)) (up (mat XC)) (up (mat XP)) = up (mat (dp Q K DQ DK DV GQ GK XL XC XP)) := by
  funext y
  refine View.canon_apply_of_pieces (up (mat (dp Q K DQ DK DV GQ GK XL XC XP))) (pieces (F := Ideal) _ _ _ _ _ _ _ _ _ _) ?_ y
    (View.cover_of_tiledBy (pieces (F := Ideal) _ _ _ _ _ _ _ _ _ _) ![512, 128] (by sl_kernel_rfl) y)
  unfold pieces
  simp only [List.forall_mem_cons]
  refine ⟨fun x => ?_, fun x => ?_, fun x => ?_, fun x => ?_, fun x => ?_, fun x => ?_, fun x => ?_, fun x => ?_, fun x => ?_, fun x => ?_,
    fun x => ?_, fun x => ?_, fun _ h => absurd h (List.not_mem_nil)⟩
  · rw [pay77]; exact piece_at _ _ 1920 _ (dp_p Q K DQ DK DV GQ GK XL XC XP) x
  · rw [pay76]; exact piece_at _ _ 1792 _ (dp_c Q K DQ DK DV GQ GK XL XC XP) x
  · rw [pay75]; exact piece_at _ _ 1536 _ (dp_l Q K DQ DK DV GQ GK XL XC XP) x
  · rw [pay74]; exact piece_at _ _ 1024 _ (dp_v Q K DQ DK DV GQ GK XL XC XP) x
  · exact k_piece Q K DQ DK DV GQ GK XL XC XP 3 _ _ _ x
  · exact k_piece Q K DQ DK DV GQ GK XL XC XP 2 _ _ _ x
  · exact k_piece Q K DQ DK DV GQ GK XL XC XP 1 _ _ _ x
  · exact k_piece Q K DQ DK DV GQ GK XL XC XP 0 _ _ _ x
  · exact q_piece Q K DQ DK DV GQ GK XL XC XP 3 _ _ _ x
  · exact q_piece Q K DQ DK DV GQ GK XL XC XP 2 _ _ _ x
  · exact q_piece Q K DQ DK DV GQ GK XL XC XP 1 _ _ _ x
  · exact q_piece Q K DQ DK DV GQ GK XL XC XP 0 _ _ _ x

end

section

variable (DX X : Fin 512 → Fin 1024 → ℝ) (P : Fin 512 → Fin 2048 → ℝ) (W : Fin 2048 → Fin 1024 → ℝ) (G : Fin 1024 → ℝ)

theorem pay78 : k0_pay78 (F := Ideal) (up (mat P)) (up (mat W)) = up (mat (dn P W)) := by
  unfold k0_pay78
  simp only [shapeCast_self, dotP, m_matmul]
  rfl

theorem pay81 : k0_pay81 (F := Ideal) (k0_pay80 (F := Ideal) (up (mat X))) = up (mat fun i _ => rs 1024 X i) := by
  unfold k0_pay81 k0_pay80
  simp only [scalar_ofBits, ofBits_1024, ofBits_eps]
  exact k_rs 1024 p1024 X _ _ _ _

/-- The gradient of the rows. -/
theorem dx_value : k0_pay82 (F := Ideal) (k0_pay78 (F := Ideal) (up (mat P)) (up (mat W))) (up (mat X)) (k0_pay79 (F := Ideal) (up (mat fun _ j => G j)))
    (k0_pay80 (F := Ideal) (up (mat X))) (up (mat DX)) = up (mat fun i k => DX i k + dx 1024 X (dn P W) G i k) := by
  rw [pay78]
  unfold k0_pay82 k0_pay79
  simp only [pay81, shapeCast_self, m_bcastRow n1024, m_mulf (dn P W), scalar_ofBits, ofBits_1024]
  refine (congrArg (addf (up (mat DX))) (k_dx 1024 p1024 n512 X (dn P W) G _ _ _ _ _)).trans ?_
  exact m_addf _ _

/-- The norm's gain's running gradient. -/
theorem gain_value (A : Fin 1024 → ℝ) : k0_pay83 (F := Ideal) (k0_pay78 (F := Ideal) (up (mat P)) (up (mat W))) (up (mat X))
    (k0_pay80 (F := Ideal) (up (mat X))) (up (mat fun _ j => A j)) = up (mat fun _ k => A k + ∑ i, dgc 1024 X (dn P W) i k) := by
  rw [pay78]
  unfold k0_pay83
  simp only [pay81, shapeCast_self, m_bcastCol n512, m_mulf]
  erw [colSum_1024]
  simp only [m_ofRow, m_addf]
  rfl

theorem zero_1 : k0_pay1 (F := Ideal) = up (mat fun _ _ => 0) := by
  unfold k0_pay1
  simp only [scalar_ofBits, ofBits_zero, m_broadcast]
theorem zero_2 : k0_pay2 (F := Ideal) = up (mat fun _ _ => 0) := by
  unfold k0_pay2
  simp only [scalar_ofBits, ofBits_zero, m_broadcast]
theorem zero_3 : k0_pay3 (F := Ideal) = up (mat fun _ _ => 0) := by
  unfold k0_pay3
  simp only [scalar_ofBits, ofBits_zero, m_broadcast]

end

end Cert.InBwd.Block

end
-- ==== Proof.InBwdArrays.lean ====
/- The result arrays of the input projection's backward kernel, on finite arguments: each grid point's blocks are 512 rows of
   the arrays, so the two gradients of rows are those of all 8192 rows; the gains' gradients run over the grid and end as the
   sums over all rows. -/
module

public import proofs.«01_k».proof.Proof.InBwdValue
public import proofs.«01_k».proof.Proof.RowBlocks

@[expose] public section

noncomputable section

namespace Cert.InBwd.Arrays

open Cert.Kernel10Ideal Cert.Kernel10Ideal.Gen Cert.Kernel10Ideal.Value Cert.Lift Cert.Rms Cert.Pair Cert.Rows Cert.InBwd.Block
open Idealize.ShloMosaic Idealize.ShloMosaic.TcCoe Idealize.ShloMosaic.ValueIdx Idealize.SL.Sem

/-- Point `t`'s rows of an array of 8192 rows. -/
def rows {N : Nat} (t : Fin cfg0.N) (A : Fin 8192 → Fin N → ℝ) (a : Fin 512) (k : Fin N) : ℝ := A (row (n := 16) 512 8192 rfl t a) k

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = t.val ∧ win0_4.index t (1 : Fin 2) = 0 := by decide +kernel
theorem idx5 : ∀ t : Fin grid0.N, win0_5.index t (0 : Fin 2) = t.val ∧ win0_5.index t (1 : Fin 2) = 1 := by decide +kernel
theorem idx6 : ∀ t : Fin grid0.N, win0_6.index t (0 : Fin 2) = 0 ∧ win0_6.index t (1 : Fin 2) = 0 := by decide +kernel
theorem idx7 : ∀ t : Fin grid0.N, win0_7.index t (0 : Fin 2) = 0 ∧ win0_7.index t (1 : Fin 2) = 0 := by decide +kernel
theorem idx8 : ∀ t : Fin grid0.N, win0_8.index t (0 : Fin 2) = t.val ∧ win0_8.index t (1 : Fin 2) = 0 := by decide +kernel
theorem idx9 : ∀ t : Fin grid0.N, win0_9.index t (0 : Fin 2) = t.val ∧ win0_9.index t (1 : Fin 2) = 0 := by decide +kernel
theorem idx10 : ∀ t : Fin grid0.N, win0_10.index t (0 : Fin 2) = t.val ∧ win0_10.index t (1 : Fin 2) = 0 := by decide +kernel
theorem idx11 : ∀ t : Fin grid0.N, win0_11.index t (0 : Fin 2) = t.val ∧ win0_11.index t (1 : Fin 2) = 0 := by decide +kernel
theorem idx12 : ∀ t : Fin grid0.N, win0_12.index t (0 : Fin 2) = t.val ∧ win0_12.index t (1 : Fin 2) = 0 := by decide +kernel
theorem idx13 : ∀ t : Fin grid0.N, win0_13.index t (0 : Fin 2) = t.val ∧ win0_13.index t (1 : Fin 2) = 0 := by decide +kernel
theorem idx14 : ∀ t : Fin grid0.N, win0_14.index t (0 : Fin 2) = t.val ∧ win0_14.index t (1 : Fin 2) = 0 := by decide +kernel
theorem idx15 : ∀ t : Fin grid0.N, win0_15.index t (0 : Fin 2) = t.val ∧ win0_15.index t (1 : Fin 2) = 0 := by decide +kernel
theorem idx16 : ∀ t : Fin grid0.N, win0_16.index t (0 : Fin 2) = 0 ∧ win0_16.index t (1 : Fin 2) = 0 := by decide +kernel
theorem idx17 : ∀ t : Fin grid0.N, win0_17.index t (0 : Fin 2) = 0 ∧ win0_17.index t (1 : Fin 2) = 0 := by decide +kernel
theorem idx18 : ∀ t : Fin grid0.N, win0_18.index t (0 : Fin 2) = 0 ∧ win0_18.index t (1 : Fin 2) = 0 := by decide +kernel

/-! The index of a block in its array: rows `512 t` on, or the whole array; the keys are the second 512 columns. -/

theorem emb0_0 (t : Fin cfg0.N) (j : S512x1024.Idx) : (((cfg0.win 0).blk t).view.emb j) (0 : Fin 2) = row (n := 16) 512 8192 rfl t (j 0) :=
  at_row rfl t (j 0) (idx0 t).1 _ rfl
theorem emb0_1 (t : Fin cfg0.N) (j : S512x1024.Idx) : (((cfg0.win 0).blk t).view.emb j) (1 : Fin 2) = j 1 := at_same (j 1) (idx0 t).2 _ rfl
theorem emb1_0 (t : Fin cfg0.N) (j : S512x1024.Idx) : (((cfg0.win 1).blk t).view.emb j) (0 : Fin 2) = row (n := 16) 512 8192 rfl t (j 0) :=
  at_row rfl t (j 0) (idx1 t).1 _ rfl
theorem emb1_1 (t : Fin cfg0.N) (j : S512x1024.Idx) : (((cfg0.win 1).blk t).view.emb j) (1 : Fin 2) = j 1 := at_same (j 1) (idx1 t).2 _ rfl
theorem emb2_0 (t : Fin cfg0.N) (j : S1x1024.Idx) : (((cfg0.win 2).blk t).view.emb j) (0 : Fin 2) = j 0 := at_same (j 0) (idx2 t).1 _ rfl
theorem emb2_1 (t : Fin cfg0.N) (j : S1x1024.Idx) : (((cfg0.win 2).blk t).view.emb j) (1 : Fin 2) = j 1 := at_same (j 1) (idx2 t).2 _ rfl
theorem emb3_0 (t : Fin cfg0.N) (j : S2048x1024.Idx) : (((cfg0.win 3).blk t).view.emb j) (0 : Fin 2) = j 0 := at_same (j 0) (idx3 t).1 _ rfl
theorem emb3_1 (t : Fin cfg0.N) (j : S2048x1024.Idx) : (((cfg0.win 3).blk t).view.emb j) (1 : Fin 2) = j 1 := at_same (j 1) (idx3 t).2 _ rfl
theorem emb4_0 (t : Fin cfg0.N) (j : S512x512.Idx) : (((cfg0.win 4).blk t).view.emb j) (0 : Fin 2) = row (n := 16) 512 8192 rfl t (j 0) :=
  at_row rfl t (j 0) (idx4 t).1 _ rfl
theorem emb4_1 (t : Fin cfg0.N) (j : S512x512.Idx) :
    (((cfg0.win 4).blk t).view.emb j) (1 : Fin 2) = (⟨0 + (j 1).val, by have h1 : (j 1).val < 512 := (j 1).isLt; omega⟩ : Fin 2048) := by
  obtain ⟨e0, e1⟩ := idx4 t
  apply Fin.ext
  show win0_4.index t (1 : Fin 2) * 512 + 1 * (j 1).val = 0 + (j 1).val
  omega
theorem emb5_0 (t : Fin cfg0.N) (j : S512x512.Idx) : (((cfg0.win 5).blk t).view.emb j) (0 : Fin 2) = row (n := 16) 512 8192 rfl t (j 0) :=
  at_row rfl t (j 0) (idx5 t).1 _ rfl
theorem emb5_1 (t : Fin cfg0.N) (j : S512x512.Idx) :
    (((cfg0.win 5).blk t).view.emb j) (1 : Fin 2) = (⟨512 + (j 1).val, by have h1 : (j 1).val < 512 := (j 1).isLt; omega⟩ : Fin 2048) := by
  obtain ⟨e0, e1⟩ := idx5 t
  apply Fin.ext
  show win0_5.index t (1 : Fin 2) * 512 + 1 * (j 1).val = 512 + (j 1).val
  omega
theorem emb6_0 (t : Fin cfg0.N) (j : S1x128.Idx) : (((cfg0.win 6).blk t).view.emb j) (0 : Fin 2) = j 0 := at_same (j 0) (idx6 t).1 _ rfl
theorem emb6_1 (t : Fin cfg0.N) (j : S1x128.Idx) : (((cfg0.win 6).blk t).view.emb j) (1 : Fin 2) = j 1 := at_same (j 1) (idx6 t).2 _ rfl
theorem emb7_0 (t : Fin cfg0.N) (j : S1x128.Idx) : (((cfg0.win 7).blk t).view.emb j) (0 : Fin 2) = j 0 := at_same (j 0) (idx7 t).1 _ rfl
theorem emb7_1 (t : Fin cfg0.N) (j : S1x128.Idx) : (((cfg0.win 7).blk t).view.emb j) (1 : Fin 2) = j 1 := at_same (j 1) (idx7 t).2 _ rfl
theorem emb8_0 (t : Fin cfg0.N) (j : S512x512.Idx) : (((cfg0.win 8).blk t).view.emb j) (0 : Fin 2) = row (n := 16) 512 8192 rfl t (j 0) :=
  at_row rfl t (j 0) (idx8 t).1 _ rfl
theorem emb8_1 (t : Fin cfg0.N) (j : S512x512.Idx) : (((cfg0.win 8).blk t).view.emb j) (1 : Fin 2) = j 1 := at_same (j 1) (idx8 t).2 _ rfl
theorem emb9_0 (t : Fin cfg0.N) (j : S512x512.Idx) : (((cfg0.win 9).blk t).view.emb j) (0 : Fin 2) = row (n := 16) 512 8192 rfl t (j 0) :=
  at_row rfl t (j 0) (idx9 t).1 _ rfl
theorem emb9_1 (t : Fin cfg0.N) (j : S512x512.Idx) : (((cfg0.win 9).blk t).view.emb j) (1 : Fin 2) = j 1 := at_same (j 1) (idx9 t).2 _ rfl
theorem emb10_0 (t : Fin cfg0.N) (j : S512x512.Idx) : (((cfg0.win 10).blk t).view.emb j) (0 : Fin 2) = row (n := 16) 512 8192 rfl t (j 0) :=
  at_row rfl t (j 0) (idx10 t).1 _ rfl
theorem emb10_1 (t : Fin cfg0.N) (j : S512x512.Idx) : (((cfg0.win 10).blk t).view.emb j) (1 : Fin 2) = j 1 := at_same (j 1) (idx10 t).2 _ rfl
theorem emb11_0 (t : Fin cfg0.N) (j : S512x256.Idx) : (((cfg0.win 11).blk t).view.emb j) (0 : Fin 2) = row (n := 16) 512 8192 rfl t (j 0) :=
  at_row rfl t (j 0) (idx11 t).1 _ rfl
theorem emb11_1 (t : Fin cfg0.N) (j : S512x256.Idx) : (((cfg0.win 11).blk t).view.emb j) (1 : Fin 2) = j 1 := at_same (j 1) (idx11 t).2 _ rfl
theorem emb12_0 (t : Fin cfg0.N) (j : S512x128.Idx) : (((cfg0.win 12).blk t).view.emb j) (0 : Fin 2) = row (n := 16) 512 8192 rfl t (j 0) :=
  at_row rfl t (j 0) (idx12 t).1 _ rfl
theorem emb12_1 (t : Fin cfg0.N) (j : S512x128.Idx) : (((cfg0.win 12).blk t).view.emb j) (1 : Fin 2) = j 1 := at_same (j 1) (idx12 t).2 _ rfl
theorem emb13_0 (t : Fin cfg0.N) (j : S512x128.Idx) : (((cfg0.win 13).blk t).view.emb j) (0 : Fin 2) = row (n := 16) 512 8192 rfl t (j 0) :=
  at_row rfl t (j 0) (idx13 t).1 _ rfl
theorem emb13_1 (t : Fin cfg0.N) (j : S512x128.Idx) : (((cfg0.win 13).blk t).view.emb j) (1 : Fin 2) = j 1 := at_same (j 1) (idx13 t).2 _ rfl
theorem emb14_0 (t : Fin cfg0.N) (j : S512x1024.Idx) : (((cfg0.win 14).blk t).view.emb j) (0 : Fin 2) = row (n := 16) 512 8192 rfl t (j 0) :=
  at_row rfl t (j 0) (idx14 t).1 _ rfl
theorem emb14_1 (t : Fin cfg0.N) (j : S512x1024.Idx) : (((cfg0.win 14).blk t).view.emb j) (1 : Fin 2) = j 1 := at_same (j 1) (idx14 t).2 _ rfl
theorem emb15_0 (t : Fin cfg0.N) (j : S512x2048.Idx) : (((cfg0.win 15).blk t).view.emb j) (0 : Fin 2) = row (n := 16) 512 8192 rfl t (j 0) :=
  at_row rfl t (j 0) (idx15 t).1 _ rfl
theorem emb15_1 (t : Fin cfg0.N) (j : S512x2048.Idx) : (((cfg0.win 15).blk t).view.emb j) (1 : Fin 2) = j 1 := at_same (j 1) (idx15 t).2 _ rfl
theorem emb16_0 (t : Fin cfg0.N) (j : S1x1024.Idx) : (((cfg0.win 16).blk t).view.emb j) (0 : Fin 2) = j 0 := at_same (j 0) (idx16 t).1 _ rfl
theorem emb16_1 (t : Fin cfg0.N) (j : S1x1024.Idx) : (((cfg0.win 16).blk t).view.emb j) (1 : Fin 2) = j 1 := at_same (j 1) (idx16 t).2 _ rfl
theorem emb17_0 (t : Fin cfg0.N) (j : S1x128.Idx) : (((cfg0.win 17).blk t).view.emb j) (0 : Fin 2) = j 0 := at_same (j 0) (idx17 t).1 _ rfl
theorem emb17_1 (t : Fin cfg0.N) (j : S1x128.Idx) : (((cfg0.win 17).blk t).view.emb j) (1 : Fin 2) = j 1 := at_same (j 1) (idx17 t).2 _ rfl
theorem emb18_0 (t : Fin cfg0.N) (j : S1x128.Idx) : (((cfg0.win 18).blk t).view.emb j) (0 : Fin 2) = j 0 := at_same (j 0) (idx18 t).1 _ rfl
theorem emb18_1 (t : Fin cfg0.N) (j : S1x128.Idx) : (((cfg0.win 18).blk t).view.emb j) (1 : Fin 2) = j 1 := at_same (j 1) (idx18 t).2 _ rfl

variable (m : (ℓ : Loc nD τ sig) → Buf (Elt Ideal) ℓ) (c : Dev nD) (t : Fin cfg0.N)

/-! The input blocks. -/

theorem iblk0 {A : Fin 8192 → Fin 1024 → ℝ} (h : V m c main_arg5 = up (s := S8192x1024) (mat A)) :
    iblk m c 0 t = up (s := S512x1024) (mat (rows t A)) :=
  funext fun j => (congrFun h (((cfg0.win 0).blk t).view.emb j)).trans (at_both A (emb0_0 t j) (emb0_1 t j))
theorem iblk1 {A : Fin 8192 → Fin 1024 → ℝ} (h : V m c main_arg0 = up (s := S8192x1024) (mat A)) :
    iblk m c 1 t = up (s := S512x1024) (mat (rows t A)) :=
  funext fun j => (congrFun h (((cfg0.win 1).blk t).view.emb j)).trans (at_both A (emb1_0 t j) (emb1_1 t j))
theorem iblk2 {A : Fin 1 → Fin 1024 → ℝ} (h : V m c main_v14 = up (s := S1x1024) (mat A)) :
    iblk m c 2 t = up (s := S1x1024) (mat (A)) :=
  funext fun j => (congrFun h (((cfg0.win 2).blk t).view.emb j)).trans (at_both A (emb2_0 t j) (emb2_1 t j))
theorem iblk3 {A : Fin 2048 → Fin 1024 → ℝ} (h : V m c main_v16 = up (s := S2048x1024) (mat A)) :
    iblk m c 3 t = up (s := S2048x1024) (mat (A)) :=
  funext fun j => (congrFun h (((cfg0.win 3).blk t).view.emb j)).trans (at_both A (emb3_0 t j) (emb3_1 t j))
theorem iblk4 {A : Fin 8192 → Fin 2048 → ℝ} (h : V m c main_v13 = up (s := S8192x2048) (mat A)) :
    iblk m c 4 t = up (s := S512x512) (mat (rows t (cols 0 (by norm_num) A))) :=
  funext fun j => (congrFun h (((cfg0.win 4).blk t).view.emb j)).trans (at_both A (emb4_0 t j) (emb4_1 t j))
theorem iblk5 {A : Fin 8192 → Fin 2048 → ℝ} (h : V m c main_v13 = up (s := S8192x2048) (mat A)) :
    iblk m c 5 t = up (s := S512x512) (mat (rows t (cols 512 (by norm_num) A))) :=
  funext fun j => (congrFun h (((cfg0.win 5).blk t).view.emb j)).trans (at_both A (emb5_0 t j) (emb5_1 t j))
theorem iblk6 {A : Fin 1 → Fin 128 → ℝ} (h : V m c main_v17 = up (s := S1x128) (mat A)) :
    iblk m c 6 t = up (s := S1x128) (mat (A)) :=
  funext fun j => (congrFun h (((cfg0.win 6).blk t).view.emb j)).trans (at_both A (emb6_0 t j) (emb6_1 t j))
theorem iblk7 {A : Fin 1 → Fin 128 → ℝ} (h : V m c main_v18 = up (s := S1x128) (mat A)) :
    iblk m c 7 t = up (s := S1x128) (mat (A)) :=
  funext fun j => (congrFun h (((cfg0.win 7).blk t).view.emb j)).trans (at_both A (emb7_0 t j) (emb7_1 t j))
theorem iblk8 {A : Fin 8192 → Fin 512 → ℝ} (h : V m c main_arg6 = up (s := S8192x512) (mat A)) :
    iblk m c 8 t = up (s := S512x512) (mat (rows t A)) :=
  funext fun j => (congrFun h (((cfg0.win 8).blk t).view.emb j)).trans (at_both A (emb8_0 t j) (emb8_1 t j))
theorem iblk9 {A : Fin 8192 → Fin 512 → ℝ} (h : V m c main_arg7 = up (s := S8192x512) (mat A)) :
    iblk m c 9 t = up (s := S512x512) (mat (rows t A)) :=
  funext fun j => (congrFun h (((cfg0.win 9).blk t).view.emb j)).trans (at_both A (emb9_0 t j) (emb9_1 t j))
theorem iblk10 {A : Fin 8192 → Fin 512 → ℝ} (h : V m c main_arg8 = up (s := S8192x512) (mat A)) :
    iblk m c 10 t = up (s := S512x512) (mat (rows t A)) :=
  funext fun j => (congrFun h (((cfg0.win 10).blk t).view.emb j)).trans (at_both A (emb10_0 t j) (emb10_1 t j))
theorem iblk11 {A : Fin 8192 → Fin 256 → ℝ} (h : V m c main_arg9 = up (s := S8192x256) (mat A)) :
    iblk m c 11 t = up (s := S512x256) (mat (rows t A)) :=
  funext fun j => (congrFun h (((cfg0.win 11).blk t).view.emb j)).trans (at_both A (emb11_0 t j) (emb11_1 t j))
theorem iblk12 {A : Fin 8192 → Fin 128 → ℝ} (h : V m c main_arg10 = up (s := S8192x128) (mat A)) :
    iblk m c 12 t = up (s := S512x128) (mat (rows t A)) :=
  funext fun j => (congrFun h (((cfg0.win 12).blk t).view.emb j)).trans (at_both A (emb12_0 t j) (emb12_1 t j))
theorem iblk13 {A : Fin 8192 → Fin 128 → ℝ} (h : V m c main_arg11 = up (s := S8192x128) (mat A)) :
    iblk m c 13 t = up (s := S512x128) (mat (rows t A)) :=
  funext fun j => (congrFun h (((cfg0.win 13).blk t).view.emb j)).trans (at_both A (emb13_0 t j) (emb13_1 t j))

/-! An output block cut from a point's rows of an array is the array's block. -/

theorem cut14 (A : Fin 8192 → Fin 1024 → ℝ) : (cfg0.win 14).cut (grid0.coords t) (up (s := S512x1024) (mat (rows t A)))
    = ((cfg0.win 14).blk t).view.read (Elt Ideal) (up (s := S8192x1024) (mat A)) :=
  funext fun j => (at_both A (emb14_0 t j) (emb14_1 t j)).symm
theorem cover14 (i : S8192x1024.Idx) : ∃ t : Fin cfg0.N, (cfg0.win 14).flush t = true ∧ i ∈ ((cfg0.win 14).blk t).view.set := by
  obtain ⟨t, j, e⟩ := hit (n := 16) (B := 512) (R := 8192) (N := 1024) rfl (by norm_num) emb14_0 emb14_1 i
  exact ⟨t, flush0_14 t, Set.mem_of_eq_of_mem e.symm (((cfg0.win 14).blk t).view.emb_mem_set j)⟩
theorem cut15 (A : Fin 8192 → Fin 2048 → ℝ) : (cfg0.win 15).cut (grid0.coords t) (up (s := S512x2048) (mat (rows t A)))
    = ((cfg0.win 15).blk t).view.read (Elt Ideal) (up (s := S8192x2048) (mat A)) :=
  funext fun j => (at_both A (emb15_0 t j) (emb15_1 t j)).symm
theorem cover15 (i : S8192x2048.Idx) : ∃ t : Fin cfg0.N, (cfg0.win 15).flush t = true ∧ i ∈ ((cfg0.win 15).blk t).view.set := by
  obtain ⟨t, j, e⟩ := hit (n := 16) (B := 512) (R := 8192) (N := 2048) rfl (by norm_num) emb15_0 emb15_1 i
  exact ⟨t, flush0_15 t, Set.mem_of_eq_of_mem e.symm (((cfg0.win 15).blk t).view.emb_mem_set j)⟩
theorem cut16 (A : Fin 1024 → ℝ) : (cfg0.win 16).cut (grid0.coords t) (up (s := S1x1024) (mat fun _ k => A k))
    = ((cfg0.win 16).blk t).view.read (Elt Ideal) (up (s := S1x1024) (mat fun _ k => A k)) :=
  funext fun j => (congrArg (fun b => ((A b : ℝ) : EReal)) (emb16_1 t j)).symm
theorem cover16 (i : S1x1024.Idx) : ∃ t : Fin cfg0.N, (cfg0.win 16).flush t = true ∧ i ∈ ((cfg0.win 16).blk t).view.set := by
  refine ⟨(⟨15, by decide⟩ : Fin cfg0.N), (flush0_16 _).mpr rfl, ?_⟩
  exact Set.mem_of_eq_of_mem (funext fun a => match a with | ⟨0, _⟩ => (emb16_0 _ i).symm | ⟨1, _⟩ => (emb16_1 _ i).symm) (((cfg0.win 16).blk (⟨15, by decide⟩ : Fin cfg0.N)).view.emb_mem_set i)
theorem cut17 (A : Fin 128 → ℝ) : (cfg0.win 17).cut (grid0.coords t) (up (s := S1x128) (mat fun _ k => A k))
    = ((cfg0.win 17).blk t).view.read (Elt Ideal) (up (s := S1x128) (mat fun _ k => A k)) :=
  funext fun j => (congrArg (fun b => ((A b : ℝ) : EReal)) (emb17_1 t j)).symm
theorem cover17 (i : S1x128.Idx) : ∃ t : Fin cfg0.N, (cfg0.win 17).flush t = true ∧ i ∈ ((cfg0.win 17).blk t).view.set := by
  refine ⟨(⟨15, by decide⟩ : Fin cfg0.N), (flush0_17 _).mpr rfl, ?_⟩
  exact Set.mem_of_eq_of_mem (funext fun a => match a with | ⟨0, _⟩ => (emb17_0 _ i).symm | ⟨1, _⟩ => (emb17_1 _ i).symm) (((cfg0.win 17).blk (⟨15, by decide⟩ : Fin cfg0.N)).view.emb_mem_set i)
theorem cut18 (A : Fin 128 → ℝ) : (cfg0.win 18).cut (grid0.coords t) (up (s := S1x128) (mat fun _ k => A k))
    = ((cfg0.win 18).blk t).view.read (Elt Ideal) (up (s := S1x128) (mat fun _ k => A k)) :=
  funext fun j => (congrArg (fun b => ((A b : ℝ) : EReal)) (emb18_1 t j)).symm
theorem cover18 (i : S1x128.Idx) : ∃ t : Fin cfg0.N, (cfg0.win 18).flush t = true ∧ i ∈ ((cfg0.win 18).blk t).view.set := by
  refine ⟨(⟨15, by decide⟩ : Fin cfg0.N), (flush0_18 _).mpr rfl, ?_⟩
  exact Set.mem_of_eq_of_mem (funext fun a => match a with | ⟨0, _⟩ => (emb18_0 _ i).symm | ⟨1, _⟩ => (emb18_1 _ i).symm) (((cfg0.win 18).blk (⟨15, by decide⟩ : Fin cfg0.N)).view.emb_mem_set i)

section

variable {X DX : Fin 8192 → Fin 1024 → ℝ} {G : Fin 1024 → ℝ} {W : Fin 1024 → Fin 2048 → ℝ} {GQ GK : Fin 128 → ℝ}
  {DQ DK DV : Fin 8192 → Fin 512 → ℝ} {XL : Fin 8192 → Fin 256 → ℝ} {XC XP : Fin 8192 → Fin 128 → ℝ}
  (h0 : m ((c : Thread nD τ).loc main_arg0) = up (s := S8192x1024) (mat X))
  (h1 : m ((c : Thread nD τ).loc main_arg1) = up (s := S1024) (vec G))
  (h2 : m ((c : Thread nD τ).loc main_arg2) = up (s := S1024x2048) (mat W))
  (h3 : m ((c : Thread nD τ).loc main_arg3) = up (s := S128) (vec GQ))
  (h4 : m ((c : Thread nD τ).loc main_arg4) = up (s := S128) (vec GK))
  (h5 : m ((c : Thread nD τ).loc main_arg5) = up (s := S8192x1024) (mat DX))
  (h6 : m ((c : Thread nD τ).loc main_arg6) = up (s := S8192x512) (mat DQ))
  (h7 : m ((c : Thread nD τ).loc main_arg7) = up (s := S8192x512) (mat DK))
  (h8 : m ((c : Thread nD τ).loc main_arg8) = up (s := S8192x512) (mat DV))
  (h9 : m ((c : Thread nD τ).loc main_arg9) = up (s := S8192x256) (mat XL))
  (h10 : m ((c : Thread nD τ).loc main_arg10) = up (s := S8192x128) (mat XC))
  (h11 : m ((c : Thread nD τ).loc main_arg11) = up (s := S8192x128) (mat XP))

/-! The host's lines before the kernel: the projection of the normed rows, the gains as one-row matrices, the weight transposed
and cast. -/

include h1 in
theorem gain : V m c main_v14 = up (s := S1x1024) (mat fun _ k => G k) := by
  unfold_abbrev_sides
  after_results
  simp only [h1]
  exact m_inDimRow n1024 G _
include h3 in
theorem gain_q : V m c main_v17 = up (s := S1x128) (mat fun _ k => GQ k) := by
  unfold_abbrev_sides
  after_results
  simp only [h3]
  exact m_inDimRow n128 GQ _
include h4 in
theorem gain_k : V m c main_v18 = up (s := S1x128) (mat fun _ k => GK k) := by
  unfold_abbrev_sides
  after_results
  simp only [h4]
  exact m_inDimRow n128 GK _
include h2 in
theorem weight : V m c main_v16 = up (s := S2048x1024) (mat (tr W)) := by
  unfold_abbrev_sides
  after_results
  simp only [h2]
  exact (congrArg (fun a => truncf .bf16 a bitsLt_bf16_f32) (m_transpose W _)).trans (up_truncf _ _)

theorem n8192 : (8192 : Nat) ≠ 1 := by decide
theorem dotJ : dot_S8192x1024_S1024x2048_S8192x2048_1_0_0_1_n_n = DotDims.plain 8192 1024 2048 := rfl

/-- A constant of the host repeated over a column. -/
theorem col (r : ℝ) (h : (S_ : Shape).BroadcastsInDim S8192x1 ![]) :
    broadcastInDim S8192x1 ![] h (up (s := S_) fun _ => r) = up (s := S8192x1) (mat fun _ _ => r) := rfl

include h0 h1 h2 in
theorem proj : V m c main_v13 = up (s := S8192x2048) (mat (pj X G W)) := by
  unfold_abbrev_sides
  after_results
  simp only [h0, h1, h2, c_zero, c_1024, c_eps, dotJ]
  rw [col 1024 bcast_S_S8192x1, col eps bcast_S_S8192x1]
  rw [h_ms 1024 p1024 n8192 X, h_rs 1024 p1024 X, m_bcastInDimCol n8192, m_inDimRow n1024, m_bcastInDimRow n1024]
  simp only [m_mulf]
  exact h_dot none _ _

/-! The input blocks on finite arguments. -/

include h5 in
theorem b0 : iblk m c 0 t = up (s := S512x1024) (mat (rows t DX)) := iblk0 m c t ((V_main_arg5 m c).trans h5)
include h0 in
theorem b1 : iblk m c 1 t = up (s := S512x1024) (mat (rows t X)) := iblk1 m c t ((V_main_arg0 m c).trans h0)
include h1 in
theorem b2 : iblk m c 2 t = up (s := S1x1024) (mat (fun _ k => G k)) := iblk2 m c t (gain m c h1)
include h2 in
theorem b3 : iblk m c 3 t = up (s := S2048x1024) (mat (tr W)) := iblk3 m c t (weight m c h2)
include h0 h1 h2 in
theorem b4 : iblk m c 4 t = up (s := S512x512) (mat (rows t (qs X G W))) := iblk4 m c t (proj m c h0 h1 h2)
include h0 h1 h2 in
theorem b5 : iblk m c 5 t = up (s := S512x512) (mat (rows t (ks X G W))) := iblk5 m c t (proj m c h0 h1 h2)
include h3 in
theorem b6 : iblk m c 6 t = up (s := S1x128) (mat (fun _ k => GQ k)) := iblk6 m c t (gain_q m c h3)
include h4 in
theorem b7 : iblk m c 7 t = up (s := S1x128) (mat (fun _ k => GK k)) := iblk7 m c t (gain_k m c h4)
include h6 in
theorem b8 : iblk m c 8 t = up (s := S512x512) (mat (rows t DQ)) := iblk8 m c t ((V_main_arg6 m c).trans h6)
include h7 in
theorem b9 : iblk m c 9 t = up (s := S512x512) (mat (rows t DK)) := iblk9 m c t ((V_main_arg7 m c).trans h7)
include h8 in
theorem b10 : iblk m c 10 t = up (s := S512x512) (mat (rows t DV)) := iblk10 m c t ((V_main_arg8 m c).trans h8)
include h9 in
theorem b11 : iblk m c 11 t = up (s := S512x256) (mat (rows t XL)) := iblk11 m c t ((V_main_arg9 m c).trans h9)
include h10 in
theorem b12 : iblk m c 12 t = up (s := S512x128) (mat (rows t XC)) := iblk12 m c t ((V_main_arg10 m c).trans h10)
include h11 in
theorem b13 : iblk m c 13 t = up (s := S512x128) (mat (rows t XP)) := iblk13 m c t ((V_main_arg11 m c).trans h11)

include h0 h1 h2 h3 h4 h5 h6 h7 h8 h9 h10 h11

/-! What each point writes back. -/

theorem flushed14_eq : (dats m 0 c).flushed 14 t = ((cfg0.win 14).blk t).view.read (Elt Ideal) (up (s := S8192x1024) (mat (fun i k => DX i k + dx 1024 X (dn (dproj X G W GQ GK DQ DK DV XL XC XP) (tr W)) G i k))) := by
  by_cases h : t.val % 16 = 0
  · rw [flushed14_A m c t h, out_A_14, b4 m c t h0 h1 h2, b5 m c t h0 h1 h2, b8 m c t h6, b9 m c t h7, b10 m c t h8, b6 m c t h3, b7 m c t h4, b11 m c t h9, b12 m c t h10, b13 m c t h11, b0 m c t h5, b1 m c t h0, b2 m c t h1, b3 m c t h2, dpb_value, dx_value]
    exact cut14 t (fun i k => DX i k + dx 1024 X (dn (dproj X G W GQ GK DQ DK DV XL XC XP) (tr W)) G i k)
  · rw [flushed14_B m c t h, out_B_14, b4 m c t h0 h1 h2, b5 m c t h0 h1 h2, b8 m c t h6, b9 m c t h7, b10 m c t h8, b6 m c t h3, b7 m c t h4, b11 m c t h9, b12 m c t h10, b13 m c t h11, b0 m c t h5, b1 m c t h0, b2 m c t h1, b3 m c t h2, dpb_value, dx_value]
    exact cut14 t (fun i k => DX i k + dx 1024 X (dn (dproj X G W GQ GK DQ DK DV XL XC XP) (tr W)) G i k)

/-- Result 0: the gradient of the rows. -/
theorem final14 : (dats m 0 c).arrAt 14 cfg0.N = up (s := S8192x1024) (mat (fun i k => DX i k + dx 1024 X (dn (dproj X G W GQ GK DQ DK DV XL XC XP) (tr W)) G i k)) :=
  (dats m 0 c).arrAt_eq_of_cover 14 _ (fun t _ => flushed14_eq m c t h0 h1 h2 h3 h4 h5 h6 h7 h8 h9 h10 h11) cover14

theorem flushed15_eq : (dats m 0 c).flushed 15 t = ((cfg0.win 15).blk t).view.read (Elt Ideal) (up (s := S8192x2048) (mat ((dproj X G W GQ GK DQ DK DV XL XC XP)))) := by
  by_cases h : t.val % 16 = 0
  · rw [flushed15_A m c t h, out_A_15, b4 m c t h0 h1 h2, b5 m c t h0 h1 h2, b8 m c t h6, b9 m c t h7, b10 m c t h8, b6 m c t h3, b7 m c t h4, b11 m c t h9, b12 m c t h10, b13 m c t h11, dpb_value]
    exact cut15 t ((dproj X G W GQ GK DQ DK DV XL XC XP))
  · rw [flushed15_B m c t h, out_B_15, b4 m c t h0 h1 h2, b5 m c t h0 h1 h2, b8 m c t h6, b9 m c t h7, b10 m c t h8, b6 m c t h3, b7 m c t h4, b11 m c t h9, b12 m c t h10, b13 m c t h11, dpb_value]
    exact cut15 t ((dproj X G W GQ GK DQ DK DV XL XC XP))

/-- Result 1: the gradient at the input projection's output. -/
theorem final15 : (dats m 0 c).arrAt 15 cfg0.N = up (s := S8192x2048) (mat ((dproj X G W GQ GK DQ DK DV XL XC XP))) :=
  (dats m 0 c).arrAt_eq_of_cover 15 _ (fun t _ => flushed15_eq m c t h0 h1 h2 h3 h4 h5 h6 h7 h8 h9 h10 h11) cover15

/-- The norm's gain's gradient after point `n`: the sum over the rows of the blocks up to it. -/
theorem chain16 : ∀ (n : ℕ) (hn : n < cfg0.N), (outsAt0 m c n hn).2.2.1
    = up (s := S1x1024) (mat fun _ k => part 512 (fun i => dgc 1024 X (dn (dproj X G W GQ GK DQ DK DV XL XC XP) (tr W)) i k) (n + 1))
  | 0, hn => by
    have h := outsAt0_A m c ⟨0, hn⟩ (Nat.zero_mod _)
    rw [h]
    dsimp only
    rw [out_A_16, b4 m c ⟨0, hn⟩ h0 h1 h2, b5 m c ⟨0, hn⟩ h0 h1 h2, b8 m c ⟨0, hn⟩ h6, b9 m c ⟨0, hn⟩ h7, b10 m c ⟨0, hn⟩ h8, b6 m c ⟨0, hn⟩ h3, b7 m c ⟨0, hn⟩ h4, b11 m c ⟨0, hn⟩ h9, b12 m c ⟨0, hn⟩ h10, b13 m c ⟨0, hn⟩ h11, b1 m c ⟨0, hn⟩ h0, b3 m c ⟨0, hn⟩ h2, dpb_value, zero_1]
    refine (gain_value _ _ _ fun _ => 0).trans (congrArg up (congrArg mat (funext fun _ => funext fun k => ?_)))
    rw [part_succ (n := 16) 512 rfl _ ⟨0, hn⟩, part_zero]
    rfl
  | n + 1, hn => by
    have hlt : n + 1 < 16 := hn
    have h := outsAt0_B m c ⟨n + 1, hn⟩ (by show ¬(n + 1) % 16 = 0; omega)
    rw [h]
    dsimp only
    rw [out_B_16, b4 m c ⟨n + 1, hn⟩ h0 h1 h2, b5 m c ⟨n + 1, hn⟩ h0 h1 h2, b8 m c ⟨n + 1, hn⟩ h6, b9 m c ⟨n + 1, hn⟩ h7, b10 m c ⟨n + 1, hn⟩ h8, b6 m c ⟨n + 1, hn⟩ h3, b7 m c ⟨n + 1, hn⟩ h4, b11 m c ⟨n + 1, hn⟩ h9, b12 m c ⟨n + 1, hn⟩ h10, b13 m c ⟨n + 1, hn⟩ h11, b1 m c ⟨n + 1, hn⟩ h0, b3 m c ⟨n + 1, hn⟩ h2, dpb_value]
    have e := chain16 n (Nat.lt_of_succ_lt hn)
    refine (congrArg (k0_pay83 _ _ _) e).trans ?_
    refine (gain_value _ _ _ _).trans (congrArg up (congrArg mat (funext fun _ => funext fun k => ?_)))
    rw [part_succ (n := 16) 512 rfl _ ⟨n + 1, hn⟩]
    rfl

/-- Result 2: the norm's gain's gradient, the sum over all rows. -/
theorem final16 : (dats m 0 c).arrAt 16 cfg0.N = up (s := S1x1024) (mat fun _ k => ∑ i, dgc 1024 X (dn (dproj X G W GQ GK DQ DK DV XL XC XP) (tr W)) i k) := by
  refine (dats m 0 c).arrAt_eq_of_cover 16 _ (fun t hf => ?_) cover16
  have h15 := (flush0_16 t).mp hf
  have hlt : t.val < 16 := t.isLt
  have ht : t.val + 1 = 16 := by omega
  rw [flushed16, chain16 m c h0 h1 h2 h3 h4 h5 h6 h7 h8 h9 h10 h11, ht, ← cut16 t]
  refine congrArg (fun f => (cfg0.win 16).cut (grid0.coords t) (up (s := S1x1024) (mat fun (_ : Fin 1) k => f k))) (funext fun k => ?_)
  exact part_all 512 16 rfl _

/-- The queries' gains' gradient after point `n`: the sum over the rows of the blocks up to it. -/
theorem chain17 : ∀ (n : ℕ) (hn : n < cfg0.N), (outsAt0 m c n hn).2.2.2.1
    = up (s := S1x128) (mat fun _ k => part 512 (fun i => gainShare (qs X G W) DQ i k) (n + 1))
  | 0, hn => by
    have h := outsAt0_A m c ⟨0, hn⟩ (Nat.zero_mod _)
    rw [h]
    dsimp only
    rw [out_A_17, b4 m c ⟨0, hn⟩ h0 h1 h2, b8 m c ⟨0, hn⟩ h6, zero_2]
    refine (fourDg_value _ _ fun _ => 0).trans (congrArg up (congrArg mat (funext fun _ => funext fun k => ?_)))
    rw [part_succ (n := 16) 512 rfl _ ⟨0, hn⟩, part_zero]
    rfl
  | n + 1, hn => by
    have hlt : n + 1 < 16 := hn
    have h := outsAt0_B m c ⟨n + 1, hn⟩ (by show ¬(n + 1) % 16 = 0; omega)
    rw [h]
    dsimp only
    rw [out_B_17, b4 m c ⟨n + 1, hn⟩ h0 h1 h2, b8 m c ⟨n + 1, hn⟩ h6]
    have e := chain17 n (Nat.lt_of_succ_lt hn)
    refine (congrArg (fourDg _ _) e).trans ?_
    refine (fourDg_value _ _ _).trans (congrArg up (congrArg mat (funext fun _ => funext fun k => ?_)))
    rw [part_succ (n := 16) 512 rfl _ ⟨n + 1, hn⟩]
    rfl

/-- Result 3: the queries' gains' gradient, the sum over all rows. -/
theorem final17 : (dats m 0 c).arrAt 17 cfg0.N = up (s := S1x128) (mat fun _ k => ∑ i, gainShare (qs X G W) DQ i k) := by
  refine (dats m 0 c).arrAt_eq_of_cover 17 _ (fun t hf => ?_) cover17
  have h15 := (flush0_17 t).mp hf
  have hlt : t.val < 16 := t.isLt
  have ht : t.val + 1 = 16 := by omega
  rw [flushed17, chain17 m c h0 h1 h2 h3 h4 h5 h6 h7 h8 h9 h10 h11, ht, ← cut17 t]
  refine congrArg (fun f => (cfg0.win 17).cut (grid0.coords t) (up (s := S1x128) (mat fun (_ : Fin 1) k => f k))) (funext fun k => ?_)
  exact part_all 512 16 rfl _

/-- The keys' gains' gradient after point `n`: the sum over the rows of the blocks up to it. -/
theorem chain18 : ∀ (n : ℕ) (hn : n < cfg0.N), (outsAt0 m c n hn).2.2.2.2
    = up (s := S1x128) (mat fun _ k => part 512 (fun i => gainShare (ks X G W) DK i k) (n + 1))
  | 0, hn => by
    have h := outsAt0_A m c ⟨0, hn⟩ (Nat.zero_mod _)
    rw [h]
    dsimp only
    rw [out_A_18, b5 m c ⟨0, hn⟩ h0 h1 h2, b9 m c ⟨0, hn⟩ h7, zero_3]
    refine (fourDg_value _ _ fun _ => 0).trans (congrArg up (congrArg mat (funext fun _ => funext fun k => ?_)))
    rw [part_succ (n := 16) 512 rfl _ ⟨0, hn⟩, part_zero]
    rfl
  | n + 1, hn => by
    have hlt : n + 1 < 16 := hn
    have h := outsAt0_B m c ⟨n + 1, hn⟩ (by show ¬(n + 1) % 16 = 0; omega)
    rw [h]
    dsimp only
    rw [out_B_18, b5 m c ⟨n + 1, hn⟩ h0 h1 h2, b9 m c ⟨n + 1, hn⟩ h7]
    have e := chain18 n (Nat.lt_of_succ_lt hn)
    refine (congrArg (fourDg _ _) e).trans ?_
    refine (fourDg_value _ _ _).trans (congrArg up (congrArg mat (funext fun _ => funext fun k => ?_)))
    rw [part_succ (n := 16) 512 rfl _ ⟨n + 1, hn⟩]
    rfl

/-- Result 4: the keys' gains' gradient, the sum over all rows. -/
theorem final18 : (dats m 0 c).arrAt 18 cfg0.N = up (s := S1x128) (mat fun _ k => ∑ i, gainShare (ks X G W) DK i k) := by
  refine (dats m 0 c).arrAt_eq_of_cover 18 _ (fun t hf => ?_) cover18
  have h15 := (flush0_18 t).mp hf
  have hlt : t.val < 16 := t.isLt
  have ht : t.val + 1 = 16 := by omega
  rw [flushed18, chain18 m c h0 h1 h2 h3 h4 h5 h6 h7 h8 h9 h10 h11, ht, ← cut18 t]
  refine congrArg (fun f => (cfg0.win 18).cut (grid0.coords t) (up (s := S1x128) (mat fun (_ : Fin 1) k => f k))) (funext fun k => ?_)
  exact part_all 512 16 rfl _

end

end Cert.InBwd.Arrays

end
-- ==== Proof.PairHost.lean ====
/- The host program's lines on the rows of heads: four pairs of heads stand side by side in each row of 512 columns; a host
   program cuts each row into four rows of one pair each, and joins them again. The gains and their gradient are vectors of 128. -/
module

public import proofs.«01_k».proof.Proof.PairRms
public import proofs.«01_k».proof.Proof.InBwdValue

@[expose] public section

noncomputable section

namespace Cert.Pair

open Cert.Lift Cert.Rms Cert.InBwd Idealize.ShloMosaic Idealize.ShloMosaic.ValueIdx

/-- The rows of four pairs, as rows of one pair. -/
def two (A : Fin 8192 → Fin 512 → ℝ) (r : Fin 32768) (k : Fin 128) : ℝ := A ⟨r.val / 4, by omega⟩ ⟨128 * (r.val % 4) + k.val, by omega⟩

/-- The rows of one pair, four to a row. -/
def untwo (B : Fin 32768 → Fin 128 → ℝ) (i : Fin 8192) (k : Fin 512) : ℝ := B ⟨4 * i.val + k.val / 128, by omega⟩ ⟨k.val % 128, by omega⟩

theorem m_two (A : Fin 8192 → Fin 512 → ℝ) (h : (⟨2, ![8192, 512]⟩ : Shape).ShapeCasts ⟨2, ![32768, 128]⟩) :
    shapeCast ⟨2, ![32768, 128]⟩ (up (mat A)) h = up (mat (two A)) := by
  funext j
  have h0 : (j 0).val < 32768 := (j 0).isLt
  have h1 : (j 1).val < 128 := (j 1).isLt
  refine shapeCast_apply (up (mat A)) h j (ix2 ⟨(j 0).val / 4, by omega⟩ ⟨128 * ((j 0).val % 4) + (j 1).val, by omega⟩) ?_
  rw [Shape.rowMajor_val_two, Shape.rowMajor_val_two]
  show (j 0).val / 4 * 512 + (128 * ((j 0).val % 4) + (j 1).val) = (j 0).val * 128 + (j 1).val
  omega

theorem m_untwo (B : Fin 32768 → Fin 128 → ℝ) (h : (⟨2, ![32768, 128]⟩ : Shape).ShapeCasts ⟨2, ![8192, 512]⟩) :
    shapeCast ⟨2, ![8192, 512]⟩ (up (mat B)) h = up (mat (untwo B)) := by
  funext j
  have h0 : (j 0).val < 8192 := (j 0).isLt
  have h1 : (j 1).val < 512 := (j 1).isLt
  refine shapeCast_apply (up (mat B)) h j (ix2 ⟨4 * (j 0).val + (j 1).val / 128, by omega⟩ ⟨(j 1).val % 128, by omega⟩) ?_
  rw [Shape.rowMajor_val_two, Shape.rowMajor_val_two]
  show (4 * (j 0).val + (j 1).val / 128) * 128 + (j 1).val % 128 = (j 0).val * 512 + (j 1).val
  omega

/-- Row `4 i + h` of the pairs is pair `h` of row `i`. -/
theorem two_row (A : Fin 8192 → Fin 512 → ℝ) (i : Fin 8192) (h : Fin 4) (hr : 4 * i.val + h.val < 32768) : two A ⟨4 * i.val + h.val, hr⟩ = pr A h i := by
  have e1 : (⟨(4 * i.val + h.val) / 4, by omega⟩ : Fin 8192) = i := Fin.ext (by show (4 * i.val + h.val) / 4 = i.val; omega)
  have e2 : (4 * i.val + h.val) % 4 = h.val := by omega
  funext k
  unfold two pr cols
  simp only [e1, e2]

/-- The pairs' gradients, four to a row. -/
theorem untwo_pdx (X D : Fin 8192 → Fin 512 → ℝ) (G : Fin 128 → ℝ) : untwo (fun r => pdx (two X r) (two D r) G) = heads X D G := by
  funext i k
  have hk : 4 * i.val + k.val / 128 < 32768 := by omega
  have e (A : Fin 8192 → Fin 512 → ℝ) : two A ⟨4 * i.val + k.val / 128, hk⟩ = pr A ⟨k.val / 128, by omega⟩ i := two_row A i ⟨k.val / 128, by omega⟩ hk
  show pdx (two X ⟨4 * i.val + k.val / 128, hk⟩) (two D ⟨4 * i.val + k.val / 128, hk⟩) G _ = _
  rw [e X, e D]
  rfl

/-- The sum over the pairs' rows is the sum over the rows and their four pairs. -/
theorem sum_two (f : Fin 32768 → ℝ) : ∑ r, f r = ∑ i : Fin 8192, ∑ h : Fin 4, f ⟨4 * i.val + h.val, by omega⟩ := by
  rw [← Fintype.sum_prod_type' (f := fun (i : Fin 8192) (h : Fin 4) => f ⟨4 * i.val + h.val, by omega⟩)]
  refine (Fintype.sum_equiv (finProdFinEquiv (m := 8192) (n := 4)) _ _ fun x => ?_).symm
  exact congrArg f (Fin.ext (by show 4 * x.1.val + x.2.val = x.2.val + 4 * x.1.val; omega))

/-- The gains' gradient, summed over the pairs' rows. -/
theorem sum_pgc (X D : Fin 8192 → Fin 512 → ℝ) (k : Fin 128) : (∑ r, pgc (two X r) (two D r) k) = ∑ i, gainShare X D i k := by
  rw [sum_two]
  refine Finset.sum_congr rfl fun i _ => Finset.sum_congr rfl fun h _ => ?_
  rw [two_row, two_row]

/-! Vectors of 128. -/

/-- A half of the gains. -/
def part (o : Nat) (h : o + 64 ≤ 128) (G : Fin 128 → ℝ) (k : Fin 64) : ℝ := G ⟨o + k.val, by omega⟩

theorem m_part (o : Nat) (h : o + 64 ≤ 128) (G : Fin 128 → ℝ) (hs : (⟨1, ![128]⟩ : Shape).Slices ![o] ⟨1, ![64]⟩) :
    extractStridedSlice ⟨1, ![64]⟩ ![o] (up (vec G)) hs = up (vec (part o h G)) := by
  funext j
  have h1 : (j 0).val < 64 := (j 0).isLt
  refine extractStridedSlice_apply _ _ hs j (ix1 ⟨o + (j 0).val, by omega⟩) fun a => ?_
  match a with
  | ⟨0, _⟩ => rfl

/-- Two vectors of 64, one after the other. -/
def joinVec (A B : Fin 64 → ℝ) (k : Fin 128) : ℝ := if h : k.val < 64 then A ⟨k.val, h⟩ else B ⟨k.val - 64, by omega⟩

theorem joinVec_eq {A B : Fin 64 → ℝ} {C : Fin 128 → ℝ} (hA : ∀ j : Fin 64, C ⟨0 + j.val, by omega⟩ = A j) (hB : ∀ j : Fin 64, C ⟨64 + j.val, by omega⟩ = B j) :
    joinVec A B = C := by
  funext k
  unfold joinVec
  by_cases h : k.val < 64
  · rw [dif_pos h, ← hA]
    exact congrArg C (Fin.ext (Nat.zero_add _))
  · rw [dif_neg h, ← hB]
    exact congrArg C (Fin.ext (by show 64 + (k.val - 64) = k.val; omega))

/-- Two vectors of 64, each padded with zeros to 128 on its side, and added. -/
theorem m_padVec {u : Shape} (A B : Fin 64 → ℝ) (hu : 0 < u.numel)
    (hh : (⟨1, ![64]⟩ : Shape).Pads ![64] ![0] ![0] ⟨1, ![128]⟩) (hl : (⟨1, ![64]⟩ : Shape).Pads ![0] ![64] ![0] ⟨1, ![128]⟩) :
    addf (pad ⟨1, ![128]⟩ ![64] ![0] ![0] (up (vec B)) (up fun _ : u.Idx => 0) hh hu)
      (pad ⟨1, ![128]⟩ ![0] ![64] ![0] (up (vec A)) (up fun _ : u.Idx => 0) hl hu : FVec Ideal ⟨1, ![128]⟩ .f32)
      = up (vec (joinVec A B)) := by
  funext j
  show pad ⟨1, ![128]⟩ ![64] ![0] ![0] (up (vec B)) (up fun _ : u.Idx => 0) hh hu j
    + pad ⟨1, ![128]⟩ ![0] ![64] ![0] (up (vec A)) (up fun _ : u.Idx => 0) hl hu j = ((joinVec A B (j 0) : ℝ) : EReal)
  unfold pad joinVec
  by_cases h : (j 0).val < 64
  · rw [dif_neg (fun hin => by have h1 : 64 ≤ (j 0).val := (hin 0).1; omega), dif_pos (fun a => by
      match a with
      | ⟨0, _⟩ => exact ⟨Nat.zero_le _, Nat.mod_one _, by show ((j 0).val - 0) / 1 < 64; omega⟩), dif_pos h]
    refine (zero_add _).trans ?_
    show ((A _ : ℝ) : EReal) = _
    congr 2
    exact Fin.ext (by show ((j 0).val - 0) / 1 = (j 0).val; omega)
  · have h2 : (j 0).val < 128 := (j 0).isLt
    rw [dif_neg (c := ∀ a : Fin 1, _) (t := fun hin => up (vec A) _) (fun hin => by have h1 : ((j 0).val - 0) / 1 < 64 := (hin 0).2.2; omega), dif_pos (fun a => by
      match a with
      | ⟨0, _⟩ => exact ⟨by show 64 ≤ (j 0).val; omega, Nat.mod_one _, by show ((j 0).val - 64) / 1 < 64; omega⟩), dif_neg h]
    refine (add_zero _).trans ?_
    show ((B _ : ℝ) : EReal) = _
    congr 2
    exact Fin.ext (by show ((j 0).val - 64) / 1 = (j 0).val - 64; omega)

/-- The gradient of a head's gains: the sum of the rows' shares. -/
theorem h_dgVec {M N : Nat} (n : ℝ) (hM : M ≠ 1) (X DH : Fin M → Fin N → ℝ) {u : Shape} (hu : 0 < u.numel)
    (hb : (⟨2, ![M, 1]⟩ : Shape).BroadcastsInDim ⟨2, ![M, N]⟩ ![0, 1]) (hrc : (⟨2, ![M, N]⟩ : Shape).ReducesTo [0] ⟨1, ![N]⟩)
    (hr0 : (⟨2, ![1, N]⟩ : Shape).ReducesTo [0] ⟨1, ![N]⟩) (hcn : (⟨1, ![N]⟩ : Shape).ShapeCasts ⟨2, ![1, N]⟩) :
    (Host.reduceAdd (shapeCast ⟨2, ![1, N]⟩ (Host.reduceAdd
      (mulf (mulf (up (mat X)) (broadcastInDim ⟨2, ![M, N]⟩ ![0, 1] hb (up (mat fun i (_ : Fin 1) => rs n X i)))) (up (mat DH)) : FVec Ideal ⟨2, ![M, N]⟩ .f32)
      (up fun _ : u.Idx => 0) hrc hu) hcn : FVec Ideal ⟨2, ![1, N]⟩ .f32) (up fun _ : u.Idx => 0) hr0 hu : FVec Ideal ⟨1, ![N]⟩ .f32)
      = up (vec fun k => ∑ i, dgc n X DH i k) := by
  rw [m_bcastInDimCol hM, m_mulf, m_mulf, h_colSum, m_ofRow, h_colSum]
  refine congrArg up (congrArg vec (funext fun k => ?_))
  rw [Fin.sum_univ_one]
  exact Finset.sum_congr rfl fun i _ => by unfold dgc; ring

/-- The gradients of two heads, side by side. -/
theorem join_dx {M : Nat} (X D : Fin M → Fin 128 → ℝ) (G : Fin 128 → ℝ) :
    join (dx 64 (cols 0 (by norm_num) X) (cols 0 (by norm_num) D) (part 0 (by norm_num) G)) (dx 64 (cols 64 (by norm_num) X) (cols 64 (by norm_num) D) (part 64 (by norm_num) G))
      = fun i => pdx (X i) (D i) G :=
  join_eq (fun i j => pdx_lo X D G i j _) (fun i j => pdx_hi X D G i j _)

/-- The gradients of two heads' gains, one after the other. -/
theorem join_dg (X D : Fin 8192 → Fin 512 → ℝ) :
    joinVec (fun k => ∑ r, dgc 64 (cols 0 (by norm_num) (two X)) (cols 0 (by norm_num) (two D)) r k) (fun k => ∑ r, dgc 64 (cols 64 (by norm_num) (two X)) (cols 64 (by norm_num) (two D)) r k)
      = fun k => ∑ i, gainShare X D i k := by
  refine (joinVec_eq (C := fun k => ∑ r, pgc (two X r) (two D r) k) (fun j => ?_) (fun j => ?_)).trans (funext fun k => sum_pgc X D k)
  · exact Finset.sum_congr rfl fun r _ => pgc_lo (two X) (two D) r j _
  · exact Finset.sum_congr rfl fun r _ => pgc_hi (two X) (two D) r j _

/-- A piece of arrays side by side, read at a column it holds. -/
theorem m_piece {M N L : Nat} (xs : List ((s : Shape) × (s.Idx → EReal))) (h : Shape.Concatenates (xs.map (·.1)) ⟨2, ![M, N]⟩ 1) (j : (⟨2, ![M, N]⟩ : Shape).Idx)
    (k : Nat) (hk : k < xs.length) (B : Fin M → Fin L → ℝ) (hxk : xs[k] = ⟨⟨2, ![M, L]⟩, up (mat B)⟩) (pre : Nat)
    (hpre : (((xs.take k).map (·.1)).map fun s => if h : s.rank = 2 then s.size ((1 : Fin 2).cast h.symm) else 0).sum = pre)
    (hlo : pre ≤ (j 1).val) (hhi : (j 1).val - pre < L) :
    concatenate ⟨2, ![M, N]⟩ 1 xs h j = ((B (j 0) ⟨(j 1).val - pre, hhi⟩ : ℝ) : EReal) :=
  concatenate_apply_piece (t := ⟨2, ![M, N]⟩) 1 xs h j k hk ⟨2, ![M, L]⟩ (up (mat B)) hxk rfl pre hpre (ix2 (j 0) ⟨(j 1).val - pre, hhi⟩)
    (fun b hb => match b, hb with | ⟨0, _⟩, _ => rfl | ⟨1, _⟩, hb => absurd rfl hb) (Nat.add_sub_cancel' hlo)

/-- The six parts of a row side by side. -/
theorem m_parts (Q K DQ DK DV : Fin 8192 → Fin 512 → ℝ) (GQ GK : Fin 128 → ℝ) (XL : Fin 8192 → Fin 256 → ℝ) (XC XP : Fin 8192 → Fin 128 → ℝ)
    (h : Shape.Concatenates (([⟨⟨2, ![8192, 512]⟩, up (mat (heads Q DQ GQ))⟩, ⟨⟨2, ![8192, 512]⟩, up (mat (heads K DK GK))⟩, ⟨⟨2, ![8192, 512]⟩, up (mat DV)⟩,
      ⟨⟨2, ![8192, 256]⟩, up (mat XL)⟩, ⟨⟨2, ![8192, 128]⟩, up (mat XC)⟩, ⟨⟨2, ![8192, 128]⟩, up (mat XP)⟩] : List ((s : Shape) × (s.Idx → EReal))).map (·.1)) ⟨2, ![8192, 2048]⟩ 1) :
    concatenate ⟨2, ![8192, 2048]⟩ 1 [⟨⟨2, ![8192, 512]⟩, up (mat (heads Q DQ GQ))⟩, ⟨⟨2, ![8192, 512]⟩, up (mat (heads K DK GK))⟩, ⟨⟨2, ![8192, 512]⟩, up (mat DV)⟩,
      ⟨⟨2, ![8192, 256]⟩, up (mat XL)⟩, ⟨⟨2, ![8192, 128]⟩, up (mat XC)⟩, ⟨⟨2, ![8192, 128]⟩, up (mat XP)⟩] h
      = up (mat (dp Q K DQ DK DV GQ GK XL XC XP)) := by
  funext j
  have hj : (j 1).val < 2048 := (j 1).isLt
  show _ = ((dp Q K DQ DK DV GQ GK XL XC XP (j 0) (j 1) : ℝ) : EReal)
  unfold dp
  by_cases h0 : (j 1).val < 512
  · rw [dif_pos h0]
    exact m_piece _ h j 0 (by show 0 < 6; omega) _ rfl 0 rfl (Nat.zero_le _) h0
  rw [dif_neg h0]
  by_cases h1 : (j 1).val < 1024
  · rw [dif_pos h1]
    exact m_piece _ h j 1 (by show 1 < 6; omega) _ rfl 512 rfl (by omega) (by omega)
  rw [dif_neg h1]
  by_cases h2 : (j 1).val < 1536
  · rw [dif_pos h2]
    exact m_piece _ h j 2 (by show 2 < 6; omega) _ rfl 1024 rfl (by omega) (by omega)
  rw [dif_neg h2]
  by_cases h3 : (j 1).val < 1792
  · rw [dif_pos h3]
    exact m_piece _ h j 3 (by show 3 < 6; omega) _ rfl 1536 rfl (by omega) (by omega)
  rw [dif_neg h3]
  by_cases h4 : (j 1).val < 1920
  · rw [dif_pos h4]
    exact m_piece _ h j 4 (by show 4 < 6; omega) _ rfl 1792 rfl (by omega) (by omega)
  rw [dif_neg h4]
  exact m_piece _ h j 5 (by show 5 < 6; omega) _ rfl 1920 rfl (by omega) (by omega)

end Cert.Pair

end
-- ==== Proof.InBwdReference.lean ====
/- What the input projection's reference computes, on finite arguments. The queries and the keys run through the same lines, twice
   each: those of an RMS norm of the lower and of the upper head of every pair, and its gradients. -/
module

public import proofs.«01_k».proof.Proof.Gen.Reference10Ideal.Run
public import proofs.«01_k».proof.Proof.Gen.Reference10Ideal.Read
public import proofs.«01_k».proof.Proof.PairHost

@[expose] public section

noncomputable section

namespace Cert.InBwd.Reference

open Cert.Reference10Ideal Cert.Reference10Ideal.Gen Cert.Reference10Ideal.Read Cert.Lift Cert.Rms Cert.Pair Idealize.ShloMosaic Idealize.ShloMosaic.TcCoe

variable (X : Fin 8192 → Fin 1024 → ℝ) (G : Fin 1024 → ℝ) (W : Fin 1024 → Fin 2048 → ℝ) (GQ GK : Fin 128 → ℝ) (DX : Fin 8192 → Fin 1024 → ℝ)
  (DQ DK DV : Fin 8192 → Fin 512 → ℝ) (XL : Fin 8192 → Fin 256 → ℝ) (XC XP : Fin 8192 → Fin 128 → ℝ)

/-- The lower and the upper heads of rows of pairs, and of a pair's gains. -/
abbrev lo (A : Fin 32768 → Fin 128 → ℝ) : Fin 32768 → Fin 64 → ℝ := cols 0 (by norm_num) A
abbrev hi (A : Fin 32768 → Fin 128 → ℝ) : Fin 32768 → Fin 64 → ℝ := cols 64 (by norm_num) A
abbrev pl (g : Fin 128 → ℝ) : Fin 64 → ℝ := part 0 (by norm_num) g
abbrev pu (g : Fin 128 → ℝ) : Fin 64 → ℝ := part 64 (by norm_num) g

theorem dotP : dot_S8192x1024_S1024x2048_S8192x2048_1_0_0_1_n_n = DotDims.plain 8192 1024 2048 := rfl
theorem dotT : dot_S8192x2048_S1024x2048_S8192x1024_1_1_0_0_n_n = DotDims.transposedRhs 8192 2048 1024 := rfl

theorem p64 : (0 : ℝ) < 64 := by norm_num
theorem p1024 : (0 : ℝ) < 1024 := by norm_num
theorem n64 : (64 : Nat) ≠ 1 := by decide
theorem n128 : (128 : Nat) ≠ 1 := by decide
theorem n1024 : (1024 : Nat) ≠ 1 := by decide
theorem n8192 : (8192 : Nat) ≠ 1 := by decide
theorem n32768 : (32768 : Nat) ≠ 1 := by decide

/-! The constants, repeated over their arrays. -/

theorem k_v3 : val_main_v3 (F := Ideal) = up (s := S8192x1) (mat fun _ _ => 1024) := by
  unfold val_main_v3 val_main_cst_0
  rw [c_1024]
  rfl
theorem k_v5 : val_main_v5 (F := Ideal) = up (s := S8192x1) (mat fun _ _ => eps) := by
  unfold val_main_v5 val_main_cst_1
  rw [c_eps]
  rfl
theorem k_v9 : val_main_v9 (F := Ideal) = up (s := S8192x1) (mat fun _ _ => -(1 / 2)) := by
  unfold val_main_v9 val_main_cst_2
  rw [c_negHalf]
  rfl
theorem k_v215 : val_main_v215 (F := Ideal) = up (s := S8192x1) (mat fun _ _ => 1024) := by
  unfold val_main_v215 val_main_cst_50
  rw [c_1024]
  rfl
theorem k_v29 : val_main_v29 (F := Ideal) = up (s := S32768x1) (mat fun _ _ => 64) := by
  unfold val_main_v29 val_main_cst_4
  rw [c_64]
  rfl
theorem k_v31 : val_main_v31 (F := Ideal) = up (s := S32768x1) (mat fun _ _ => eps) := by
  unfold val_main_v31 val_main_cst_5
  rw [c_eps]
  rfl
theorem k_v35 : val_main_v35 (F := Ideal) = up (s := S32768x1) (mat fun _ _ => -(1 / 2)) := by
  unfold val_main_v35 val_main_cst_6
  rw [c_negHalf]
  rfl
theorem k_v188 : val_main_v188 (F := Ideal) = up (s := S32768x1) (mat fun _ _ => 64) := by
  unfold val_main_v188 val_main_cst_43
  rw [c_64]
  rfl
theorem k_v47 : val_main_v47 (F := Ideal) = up (s := S32768x1) (mat fun _ _ => 64) := by
  unfold val_main_v47 val_main_cst_8
  rw [c_64]
  rfl
theorem k_v49 : val_main_v49 (F := Ideal) = up (s := S32768x1) (mat fun _ _ => eps) := by
  unfold val_main_v49 val_main_cst_9
  rw [c_eps]
  rfl
theorem k_v53 : val_main_v53 (F := Ideal) = up (s := S32768x1) (mat fun _ _ => -(1 / 2)) := by
  unfold val_main_v53 val_main_cst_10
  rw [c_negHalf]
  rfl
theorem k_v166 : val_main_v166 (F := Ideal) = up (s := S32768x1) (mat fun _ _ => 64) := by
  unfold val_main_v166 val_main_cst_36
  rw [c_64]
  rfl
theorem k_v68 : val_main_v68 (F := Ideal) = up (s := S32768x1) (mat fun _ _ => 64) := by
  unfold val_main_v68 val_main_cst_12
  rw [c_64]
  rfl
theorem k_v70 : val_main_v70 (F := Ideal) = up (s := S32768x1) (mat fun _ _ => eps) := by
  unfold val_main_v70 val_main_cst_13
  rw [c_eps]
  rfl
theorem k_v74 : val_main_v74 (F := Ideal) = up (s := S32768x1) (mat fun _ _ => -(1 / 2)) := by
  unfold val_main_v74 val_main_cst_14
  rw [c_negHalf]
  rfl
theorem k_v138 : val_main_v138 (F := Ideal) = up (s := S32768x1) (mat fun _ _ => 64) := by
  unfold val_main_v138 val_main_cst_29
  rw [c_64]
  rfl
theorem k_v86 : val_main_v86 (F := Ideal) = up (s := S32768x1) (mat fun _ _ => 64) := by
  unfold val_main_v86 val_main_cst_16
  rw [c_64]
  rfl
theorem k_v88 : val_main_v88 (F := Ideal) = up (s := S32768x1) (mat fun _ _ => eps) := by
  unfold val_main_v88 val_main_cst_17
  rw [c_eps]
  rfl
theorem k_v92 : val_main_v92 (F := Ideal) = up (s := S32768x1) (mat fun _ _ => -(1 / 2)) := by
  unfold val_main_v92 val_main_cst_18
  rw [c_negHalf]
  rfl
theorem k_v116 : val_main_v116 (F := Ideal) = up (s := S32768x1) (mat fun _ _ => 64) := by
  unfold val_main_v116 val_main_cst_22
  rw [c_64]
  rfl

/-! The normed rows and their projection. -/

theorem r_v6 : val_main_v6 (F := Ideal) (up (mat X)) = up (mat fun i _ => ms 1024 X i) := by
  unfold val_main_v6 val_main_v4 val_main_v2 val_main_v1 val_main_v0 val_main_cst
  rw [k_v3, k_v5, c_zero]
  exact h_ms 1024 p1024 n8192 X _ _ _
theorem r_v7 : val_main_v7 (F := Ideal) (up (mat X)) = up (mat fun i _ => rs 1024 X i) := by
  unfold val_main_v7
  rw [r_v6]
  exact h_rs 1024 p1024 X
theorem r_v10 : val_main_v10 (F := Ideal) (up (mat X)) = up (mat fun i _ => -(1 / 2) * (rs 1024 X i * rs 1024 X i * rs 1024 X i)) := by
  unfold val_main_v10 val_main_v8
  rw [r_v6, r_v7, k_v9]
  exact h_drs 1024 p1024 X
theorem r_v15 : val_main_v15 (F := Ideal) (up (mat X)) (up (vec G)) = up (mat fun i k => X i k * rs 1024 X i * G k) := by
  unfold val_main_v15 val_main_v14 val_main_v13 val_main_v12 val_main_v11
  rw [r_v7, m_bcastInDimCol n8192, m_inDimRow n1024, m_bcastInDimRow n1024, m_mulf]
  exact m_mulf _ _
/-- The projection of the normed rows. -/
theorem r_v16 : val_main_v16 (F := Ideal) (up (mat X)) (up (vec G)) (up (mat W)) = up (mat (pj X G W)) := by
  unfold val_main_v16
  rw [r_v15, dotP]
  exact h_dot none _ W
/-- The queries, one pair of heads to a row. -/
theorem r_v23 : val_main_v23 (F := Ideal) (up (mat X)) (up (vec G)) (up (mat W)) = up (mat (two (qs X G W))) := by
  unfold val_main_v23 val_main_v17
  rw [r_v16]
  exact (congrArg (fun A => shapeCast S32768x128 A shapeCasts_S8192x512_S32768x128) (m_cols 0 (by norm_num) (pj X G W) _)).trans (m_two _ _)
/-- The keys, one pair of heads to a row. -/
theorem r_v62 : val_main_v62 (F := Ideal) (up (mat X)) (up (vec G)) (up (mat W)) = up (mat (two (ks X G W))) := by
  unfold val_main_v62 val_main_v18
  rw [r_v16]
  exact (congrArg (fun A => shapeCast S32768x128 A shapeCasts_S8192x512_S32768x128) (m_cols 512 (by norm_num) (pj X G W) _)).trans (m_two _ _)
theorem r_v151 : val_main_v151 (F := Ideal) (up (mat DQ)) = up (mat (two DQ)) := m_two _ _
theorem r_v101 : val_main_v101 (F := Ideal) (up (mat DK)) = up (mat (two DK)) := m_two _ _

/-! The lower heads of the queries. -/

theorem r_v24 : val_main_v24 (F := Ideal) (up (mat X)) (up (vec G)) (up (mat W)) = up (mat (lo (two (qs X G W)))) := by
  unfold val_main_v24
  rw [r_v23]
  exact m_cols 0 (by norm_num) _ _
theorem r_v152 : val_main_v152 (F := Ideal) (up (mat DQ)) = up (mat (lo (two DQ))) := by
  unfold val_main_v152
  rw [r_v151]
  exact m_cols 0 (by norm_num) _ _
theorem r_v32 : val_main_v32 (F := Ideal) (up (mat X)) (up (vec G)) (up (mat W)) = up (mat fun i _ => ms 64 (lo (two (qs X G W))) i) := by
  unfold val_main_v32 val_main_v30 val_main_v28 val_main_v27 val_main_v26 val_main_cst_3
  rw [r_v24, k_v29, k_v31, c_zero]
  exact h_ms 64 p64 n32768 (lo (two (qs X G W))) _ _ _
theorem r_v33 : val_main_v33 (F := Ideal) (up (mat X)) (up (vec G)) (up (mat W)) = up (mat fun i _ => rs 64 (lo (two (qs X G W))) i) := by
  unfold val_main_v33
  rw [r_v32]
  exact h_rs 64 p64 (lo (two (qs X G W)))
theorem r_v36 : val_main_v36 (F := Ideal) (up (mat X)) (up (vec G)) (up (mat W))
    = up (mat fun i _ => -(1 / 2) * (rs 64 (lo (two (qs X G W))) i * rs 64 (lo (two (qs X G W))) i * rs 64 (lo (two (qs X G W))) i)) := by
  unfold val_main_v36 val_main_v34
  rw [r_v32, r_v33, k_v35]
  exact h_drs 64 p64 (lo (two (qs X G W)))
theorem r_v25 : val_main_v25 (F := Ideal) (up (vec GQ)) = up (vec (pl GQ)) := m_part 0 (by norm_num) _ _
theorem r_v180 : val_main_v180 (F := Ideal) (up (vec GQ)) (up (mat DQ)) = up (mat fun i k => (lo (two DQ)) i k * (pl GQ) k) := by
  unfold val_main_v180 val_main_v179 val_main_v39
  rw [r_v25, r_v152, m_inDimRow n64, m_bcastInDimRow n64]
  exact m_mulf _ _
/-- The gradient of the lower heads of the queries. -/
theorem r_v195 : val_main_v195 (F := Ideal) (up (mat X)) (up (vec G)) (up (mat W)) (up (vec GQ)) (up (mat DQ))
    = up (mat (dx 64 (lo (two (qs X G W))) (lo (two DQ)) (pl GQ))) := by
  unfold val_main_v195 val_main_v194 val_main_v193 val_main_v192 val_main_v191 val_main_v190 val_main_v189 val_main_v187 val_main_v186 val_main_v185 val_main_v184 val_main_v183 val_main_v182 val_main_cst_42 val_main_cst_44
  rw [r_v180, r_v24, r_v33, r_v36, k_v188, c_zero]
  exact h_dx 64 p64 n32768 (lo (two (qs X G W))) (lo (two DQ)) (pl GQ) _ _ _ _ _ _
/-- The gradient of their gains. -/
theorem r_v181 : val_main_v181 (F := Ideal) (up (mat X)) (up (vec G)) (up (mat W)) (up (mat DQ)) = up (vec fun k => ∑ r, dgc 64 (lo (two (qs X G W))) (lo (two DQ)) r k) := by
  unfold val_main_v181 val_main_v178 val_main_v177 val_main_v176 val_main_v38 val_main_v37 val_main_cst_40 val_main_cst_41
  rw [r_v152, r_v24, r_v33, c_zero]
  exact h_dgVec 64 n32768 (lo (two (qs X G W))) (lo (two DQ)) _ _ _ _ _

/-! The upper heads of the queries. -/

theorem r_v42 : val_main_v42 (F := Ideal) (up (mat X)) (up (vec G)) (up (mat W)) = up (mat (hi (two (qs X G W)))) := by
  unfold val_main_v42
  rw [r_v23]
  exact m_cols 64 (by norm_num) _ _
theorem r_v153 : val_main_v153 (F := Ideal) (up (mat DQ)) = up (mat (hi (two DQ))) := by
  unfold val_main_v153
  rw [r_v151]
  exact m_cols 64 (by norm_num) _ _
theorem r_v50 : val_main_v50 (F := Ideal) (up (mat X)) (up (vec G)) (up (mat W)) = up (mat fun i _ => ms 64 (hi (two (qs X G W))) i) := by
  unfold val_main_v50 val_main_v48 val_main_v46 val_main_v45 val_main_v44 val_main_cst_7
  rw [r_v42, k_v47, k_v49, c_zero]
  exact h_ms 64 p64 n32768 (hi (two (qs X G W))) _ _ _
theorem r_v51 : val_main_v51 (F := Ideal) (up (mat X)) (up (vec G)) (up (mat W)) = up (mat fun i _ => rs 64 (hi (two (qs X G W))) i) := by
  unfold val_main_v51
  rw [r_v50]
  exact h_rs 64 p64 (hi (two (qs X G W)))
theorem r_v54 : val_main_v54 (F := Ideal) (up (mat X)) (up (vec G)) (up (mat W))
    = up (mat fun i _ => -(1 / 2) * (rs 64 (hi (two (qs X G W))) i * rs 64 (hi (two (qs X G W))) i * rs 64 (hi (two (qs X G W))) i)) := by
  unfold val_main_v54 val_main_v52
  rw [r_v50, r_v51, k_v53]
  exact h_drs 64 p64 (hi (two (qs X G W)))
theorem r_v43 : val_main_v43 (F := Ideal) (up (vec GQ)) = up (vec (pu GQ)) := m_part 64 (by norm_num) _ _
theorem r_v158 : val_main_v158 (F := Ideal) (up (vec GQ)) (up (mat DQ)) = up (mat fun i k => (hi (two DQ)) i k * (pu GQ) k) := by
  unfold val_main_v158 val_main_v157 val_main_v57
  rw [r_v43, r_v153, m_inDimRow n64, m_bcastInDimRow n64]
  exact m_mulf _ _
/-- The gradient of the upper heads of the queries. -/
theorem r_v173 : val_main_v173 (F := Ideal) (up (mat X)) (up (vec G)) (up (mat W)) (up (vec GQ)) (up (mat DQ))
    = up (mat (dx 64 (hi (two (qs X G W))) (hi (two DQ)) (pu GQ))) := by
  unfold val_main_v173 val_main_v172 val_main_v171 val_main_v170 val_main_v169 val_main_v168 val_main_v167 val_main_v165 val_main_v164 val_main_v163 val_main_v162 val_main_v161 val_main_v160 val_main_cst_35 val_main_cst_37
  rw [r_v158, r_v42, r_v51, r_v54, k_v166, c_zero]
  exact h_dx 64 p64 n32768 (hi (two (qs X G W))) (hi (two DQ)) (pu GQ) _ _ _ _ _ _
/-- The gradient of their gains. -/
theorem r_v159 : val_main_v159 (F := Ideal) (up (mat X)) (up (vec G)) (up (mat W)) (up (mat DQ)) = up (vec fun k => ∑ r, dgc 64 (hi (two (qs X G W))) (hi (two DQ)) r k) := by
  unfold val_main_v159 val_main_v156 val_main_v155 val_main_v154 val_main_v56 val_main_v55 val_main_cst_33 val_main_cst_34
  rw [r_v153, r_v42, r_v51, c_zero]
  exact h_dgVec 64 n32768 (hi (two (qs X G W))) (hi (two DQ)) _ _ _ _ _

/-! The lower heads of the keys. -/

theorem r_v63 : val_main_v63 (F := Ideal) (up (mat X)) (up (vec G)) (up (mat W)) = up (mat (lo (two (ks X G W)))) := by
  unfold val_main_v63
  rw [r_v62]
  exact m_cols 0 (by norm_num) _ _
theorem r_v102 : val_main_v102 (F := Ideal) (up (mat DK)) = up (mat (lo (two DK))) := by
  unfold val_main_v102
  rw [r_v101]
  exact m_cols 0 (by norm_num) _ _
theorem r_v71 : val_main_v71 (F := Ideal) (up (mat X)) (up (vec G)) (up (mat W)) = up (mat fun i _ => ms 64 (lo (two (ks X G W))) i) := by
  unfold val_main_v71 val_main_v69 val_main_v67 val_main_v66 val_main_v65 val_main_cst_11
  rw [r_v63, k_v68, k_v70, c_zero]
  exact h_ms 64 p64 n32768 (lo (two (ks X G W))) _ _ _
theorem r_v72 : val_main_v72 (F := Ideal) (up (mat X)) (up (vec G)) (up (mat W)) = up (mat fun i _ => rs 64 (lo (two (ks X G W))) i) := by
  unfold val_main_v72
  rw [r_v71]
  exact h_rs 64 p64 (lo (two (ks X G W)))
theorem r_v75 : val_main_v75 (F := Ideal) (up (mat X)) (up (vec G)) (up (mat W))
    = up (mat fun i _ => -(1 / 2) * (rs 64 (lo (two (ks X G W))) i * rs 64 (lo (two (ks X G W))) i * rs 64 (lo (two (ks X G W))) i)) := by
  unfold val_main_v75 val_main_v73
  rw [r_v71, r_v72, k_v74]
  exact h_drs 64 p64 (lo (two (ks X G W)))
theorem r_v64 : val_main_v64 (F := Ideal) (up (vec GK)) = up (vec (pl GK)) := m_part 0 (by norm_num) _ _
theorem r_v130 : val_main_v130 (F := Ideal) (up (vec GK)) (up (mat DK)) = up (mat fun i k => (lo (two DK)) i k * (pl GK) k) := by
  unfold val_main_v130 val_main_v129 val_main_v78
  rw [r_v64, r_v102, m_inDimRow n64, m_bcastInDimRow n64]
  exact m_mulf _ _
/-- The gradient of the lower heads of the keys. -/
theorem r_v145 : val_main_v145 (F := Ideal) (up (mat X)) (up (vec G)) (up (mat W)) (up (vec GK)) (up (mat DK))
    = up (mat (dx 64 (lo (two (ks X G W))) (lo (two DK)) (pl GK))) := by
  unfold val_main_v145 val_main_v144 val_main_v143 val_main_v142 val_main_v141 val_main_v140 val_main_v139 val_main_v137 val_main_v136 val_main_v135 val_main_v134 val_main_v133 val_main_v132 val_main_cst_28 val_main_cst_30
  rw [r_v130, r_v63, r_v72, r_v75, k_v138, c_zero]
  exact h_dx 64 p64 n32768 (lo (two (ks X G W))) (lo (two DK)) (pl GK) _ _ _ _ _ _
/-- The gradient of their gains. -/
theorem r_v131 : val_main_v131 (F := Ideal) (up (mat X)) (up (vec G)) (up (mat W)) (up (mat DK)) = up (vec fun k => ∑ r, dgc 64 (lo (two (ks X G W))) (lo (two DK)) r k) := by
  unfold val_main_v131 val_main_v128 val_main_v127 val_main_v126 val_main_v77 val_main_v76 val_main_cst_26 val_main_cst_27
  rw [r_v102, r_v63, r_v72, c_zero]
  exact h_dgVec 64 n32768 (lo (two (ks X G W))) (lo (two DK)) _ _ _ _ _

/-! The upper heads of the keys. -/

theorem r_v81 : val_main_v81 (F := Ideal) (up (mat X)) (up (vec G)) (up (mat W)) = up (mat (hi (two (ks X G W)))) := by
  unfold val_main_v81
  rw [r_v62]
  exact m_cols 64 (by norm_num) _ _
theorem r_v103 : val_main_v103 (F := Ideal) (up (mat DK)) = up (mat (hi (two DK))) := by
  unfold val_main_v103
  rw [r_v101]
  exact m_cols 64 (by norm_num) _ _
theorem r_v89 : val_main_v89 (F := Ideal) (up (mat X)) (up (vec G)) (up (mat W)) = up (mat fun i _ => ms 64 (hi (two (ks X G W))) i) := by
  unfold val_main_v89 val_main_v87 val_main_v85 val_main_v84 val_main_v83 val_main_cst_15
  rw [r_v81, k_v86, k_v88, c_zero]
  exact h_ms 64 p64 n32768 (hi (two (ks X G W))) _ _ _
theorem r_v90 : val_main_v90 (F := Ideal) (up (mat X)) (up (vec G)) (up (mat W)) = up (mat fun i _ => rs 64 (hi (two (ks X G W))) i) := by
  unfold val_main_v90
  rw [r_v89]
  exact h_rs 64 p64 (hi (two (ks X G W)))
theorem r_v93 : val_main_v93 (F := Ideal) (up (mat X)) (up (vec G)) (up (mat W))
    = up (mat fun i _ => -(1 / 2) * (rs 64 (hi (two (ks X G W))) i * rs 64 (hi (two (ks X G W))) i * rs 64 (hi (two (ks X G W))) i)) := by
  unfold val_main_v93 val_main_v91
  rw [r_v89, r_v90, k_v92]
  exact h_drs 64 p64 (hi (two (ks X G W)))
theorem r_v82 : val_main_v82 (F := Ideal) (up (vec GK)) = up (vec (pu GK)) := m_part 64 (by norm_num) _ _
theorem r_v108 : val_main_v108 (F := Ideal) (up (vec GK)) (up (mat DK)) = up (mat fun i k => (hi (two DK)) i k * (pu GK) k) := by
  unfold val_main_v108 val_main_v107 val_main_v96
  rw [r_v82, r_v103, m_inDimRow n64, m_bcastInDimRow n64]
  exact m_mulf _ _
/-- The gradient of the upper heads of the keys. -/
theorem r_v123 : val_main_v123 (F := Ideal) (up (mat X)) (up (vec G)) (up (mat W)) (up (vec GK)) (up (mat DK))
    = up (mat (dx 64 (hi (two (ks X G W))) (hi (two DK)) (pu GK))) := by
  unfold val_main_v123 val_main_v122 val_main_v121 val_main_v120 val_main_v119 val_main_v118 val_main_v117 val_main_v115 val_main_v114 val_main_v113 val_main_v112 val_main_v111 val_main_v110 val_main_cst_21 val_main_cst_23
  rw [r_v108, r_v81, r_v90, r_v93, k_v116, c_zero]
  exact h_dx 64 p64 n32768 (hi (two (ks X G W))) (hi (two DK)) (pu GK) _ _ _ _ _ _
/-- The gradient of their gains. -/
theorem r_v109 : val_main_v109 (F := Ideal) (up (mat X)) (up (vec G)) (up (mat W)) (up (mat DK)) = up (vec fun k => ∑ r, dgc 64 (hi (two (ks X G W))) (hi (two DK)) r k) := by
  unfold val_main_v109 val_main_v106 val_main_v105 val_main_v104 val_main_v95 val_main_v94 val_main_cst_19 val_main_cst_20
  rw [r_v103, r_v81, r_v90, c_zero]
  exact h_dgVec 64 n32768 (hi (two (ks X G W))) (hi (two DK)) _ _ _ _ _

/-! The queries' heads together. -/

/-- The gradient of the queries before their norms. -/
theorem r_v200 : val_main_v200 (F := Ideal) (up (mat X)) (up (vec G)) (up (mat W)) (up (vec GQ)) (up (mat DQ)) = up (mat (heads (qs X G W) DQ GQ)) := by
  have e : val_main_v199 (F := Ideal) (up (mat X)) (up (vec G)) (up (mat W)) (up (vec GQ)) (up (mat DQ)) = up (mat fun r => pdx (two (qs X G W) r) (two DQ r) GQ) := by
    unfold val_main_v199 val_main_v175 val_main_v198 val_main_cst_39 val_main_cst_46
    rw [r_v173, r_v195, c_zero, ← join_dx (two (qs X G W)) (two DQ) GQ]
    exact m_padPair _ _ _ _ _
  unfold val_main_v200
  rw [e, ← untwo_pdx]
  exact m_untwo _ _
/-- The gradient of the queries' gains. -/
theorem r_v226 : val_main_v226 (F := Ideal) (up (mat X)) (up (vec G)) (up (mat W)) (up (mat DQ)) = up (mat fun _ k => ∑ i, gainShare (qs X G W) DQ i k) := by
  have e : val_main_v197 (F := Ideal) (up (mat X)) (up (vec G)) (up (mat W)) (up (mat DQ)) = up (vec fun k => ∑ i, gainShare (qs X G W) DQ i k) := by
    unfold val_main_v197 val_main_v174 val_main_v196 val_main_cst_38 val_main_cst_45
    rw [r_v159, r_v181, c_zero, ← join_dg (qs X G W) DQ]
    exact m_padVec _ _ _ _ _
  unfold val_main_v226
  rw [e]
  exact m_inDimRow n128 _ _

/-! The keys' heads together. -/

/-- The gradient of the keys before their norms. -/
theorem r_v150 : val_main_v150 (F := Ideal) (up (mat X)) (up (vec G)) (up (mat W)) (up (vec GK)) (up (mat DK)) = up (mat (heads (ks X G W) DK GK)) := by
  have e : val_main_v149 (F := Ideal) (up (mat X)) (up (vec G)) (up (mat W)) (up (vec GK)) (up (mat DK)) = up (mat fun r => pdx (two (ks X G W) r) (two DK r) GK) := by
    unfold val_main_v149 val_main_v125 val_main_v148 val_main_cst_25 val_main_cst_32
    rw [r_v123, r_v145, c_zero, ← join_dx (two (ks X G W)) (two DK) GK]
    exact m_padPair _ _ _ _ _
  unfold val_main_v150
  rw [e, ← untwo_pdx]
  exact m_untwo _ _
/-- The gradient of the keys' gains. -/
theorem r_v227 : val_main_v227 (F := Ideal) (up (mat X)) (up (vec G)) (up (mat W)) (up (mat DK)) = up (mat fun _ k => ∑ i, gainShare (ks X G W) DK i k) := by
  have e : val_main_v147 (F := Ideal) (up (mat X)) (up (vec G)) (up (mat W)) (up (mat DK)) = up (vec fun k => ∑ i, gainShare (ks X G W) DK i k) := by
    unfold val_main_v147 val_main_v124 val_main_v146 val_main_cst_24 val_main_cst_31
    rw [r_v109, r_v131, c_zero, ← join_dg (ks X G W) DK]
    exact m_padVec _ _ _ _ _
  unfold val_main_v227
  rw [e]
  exact m_inDimRow n128 _ _

/-! The whole row's gradient, through the projection and the norm. -/

/-- The gradient at the projection. -/
theorem r_v201 : val_main_v201 (F := Ideal) (up (mat X)) (up (vec G)) (up (mat W)) (up (vec GQ)) (up (vec GK)) (up (mat DQ)) (up (mat DK)) (up (mat DV)) (up (mat XL)) (up (mat XC)) (up (mat XP))
    = up (mat (dproj X G W GQ GK DQ DK DV XL XC XP)) := by
  unfold val_main_v201
  rw [r_v200, r_v150]
  exact m_parts _ _ DQ DK DV GQ GK XL XC XP _
theorem r_v224 : val_main_v224 (F := Ideal) (up (mat X)) (up (vec G)) (up (mat W)) (up (vec GQ)) (up (vec GK)) (up (mat DQ)) (up (mat DK)) (up (mat DV)) (up (mat XL)) (up (mat XC)) (up (mat XP))
    = up (mat (dproj X G W GQ GK DQ DK DV XL XC XP)) := by
  unfold val_main_v224
  rw [r_v201]
  exact up_truncf _ _
theorem r_v202 : val_main_v202 (F := Ideal) (up (mat X)) (up (vec G)) (up (mat W)) (up (vec GQ)) (up (vec GK)) (up (mat DQ)) (up (mat DK)) (up (mat DV)) (up (mat XL)) (up (mat XC)) (up (mat XP))
    = up (mat (dn (dproj X G W GQ GK DQ DK DV XL XC XP) (tr W))) := by
  unfold val_main_v202
  rw [r_v201, dotT]
  exact h_dotT none (dproj X G W GQ GK DQ DK DV XL XC XP) W
theorem r_v207 : val_main_v207 (F := Ideal) (up (mat X)) (up (vec G)) (up (mat W)) (up (vec GQ)) (up (vec GK)) (up (mat DQ)) (up (mat DK)) (up (mat DV)) (up (mat XL)) (up (mat XC)) (up (mat XP))
    = up (mat fun i k => (dn (dproj X G W GQ GK DQ DK DV XL XC XP) (tr W)) i k * G k) := by
  unfold val_main_v207 val_main_v206 val_main_v13
  rw [r_v202, m_inDimRow n1024, m_bcastInDimRow n1024]
  exact m_mulf _ _
theorem r_v222 : val_main_v222 (F := Ideal) (up (mat X)) (up (vec G)) (up (mat W)) (up (vec GQ)) (up (vec GK)) (up (mat DQ)) (up (mat DK)) (up (mat DV)) (up (mat XL)) (up (mat XC)) (up (mat XP))
    = up (mat (dx 1024 X (dn (dproj X G W GQ GK DQ DK DV XL XC XP) (tr W)) G)) := by
  unfold val_main_v222 val_main_v221 val_main_v220 val_main_v219 val_main_v218 val_main_v217 val_main_v216 val_main_v214 val_main_v213 val_main_v212 val_main_v211 val_main_v210 val_main_v209 val_main_cst_49 val_main_cst_51
  rw [r_v207, r_v7, r_v10, k_v215, c_zero]
  exact h_dx 1024 p1024 n8192 X (dn (dproj X G W GQ GK DQ DK DV XL XC XP) (tr W)) G _ _ _ _ _ _
/-- The rows' gradient. -/
theorem r_v223 : val_main_v223 (F := Ideal) (up (mat X)) (up (vec G)) (up (mat W)) (up (vec GQ)) (up (vec GK)) (up (mat DX)) (up (mat DQ)) (up (mat DK)) (up (mat DV)) (up (mat XL)) (up (mat XC)) (up (mat XP))
    = up (mat fun i k => DX i k + dx 1024 X (dn (dproj X G W GQ GK DQ DK DV XL XC XP) (tr W)) G i k) := by
  unfold val_main_v223
  rw [r_v222]
  exact m_addf _ _
/-- The gains' gradient. -/
theorem r_v225 : val_main_v225 (F := Ideal) (up (mat X)) (up (vec G)) (up (mat W)) (up (vec GQ)) (up (vec GK)) (up (mat DQ)) (up (mat DK)) (up (mat DV)) (up (mat XL)) (up (mat XC)) (up (mat XP))
    = up (mat fun _ k => ∑ i, dgc 1024 X (dn (dproj X G W GQ GK DQ DK DV XL XC XP) (tr W)) i k) := by
  unfold val_main_v225 val_main_v208 val_main_v205 val_main_v204 val_main_v203 val_main_v12 val_main_v11 val_main_cst_47 val_main_cst_48
  rw [r_v202, r_v7, c_zero]
  exact h_dg 1024 p1024 n8192 X (dn (dproj X G W GQ GK DQ DK DV XL XC XP) (tr W)) _ _ n1024 _ _ _ _

end Cert.InBwd.Reference

end
-- ==== Proof.InBwdPre.lean ====
/- The precondition of the input projection's part: its twelve arguments are matrices (the gains vectors) of reals. -/
module

public import proofs.«01_k».proof.Proof.Finite
public import proofs.«01_k».proof.Proof.Gen.Pre_finite10

@[expose] public section

noncomputable section

namespace Cert.InBwd.Pre

open Cert.Pre_finite10 Cert.Pre_finite10.Gen Cert.Lift Idealize.ShloMosaic

instance : Subsingleton S_.Idx := ⟨fun a b => funext fun i => i.elim0⟩

/-- Arguments that meet the precondition are real. -/
theorem reals {x0 : FVec Ideal S8192x1024 .f32} {x1 : FVec Ideal S1024 .f32} {x2 : FVec Ideal S1024x2048 .f32} {x3 : FVec Ideal S128 .f32} {x4 : FVec Ideal S128 .f32} {x5 : FVec Ideal S8192x1024 .f32} {x6 : FVec Ideal S8192x512 .f32} {x7 : FVec Ideal S8192x512 .f32} {x8 : FVec Ideal S8192x512 .f32} {x9 : FVec Ideal S8192x256 .f32} {x10 : FVec Ideal S8192x128 .f32} {x11 : FVec Ideal S8192x128 .f32}
    (h : Cert.Pre_finite10.fn (F := Ideal) x0 x1 x2 x3 x4 x5 x6 x7 x8 x9 x10 x11 = fun _ => 1#1) :
    ∃ (X : Fin 8192 → Fin 1024 → ℝ) (G : Fin 1024 → ℝ) (W : Fin 1024 → Fin 2048 → ℝ) (GQ : Fin 128 → ℝ) (GK : Fin 128 → ℝ) (DX : Fin 8192 → Fin 1024 → ℝ) (DQ : Fin 8192 → Fin 512 → ℝ) (DK : Fin 8192 → Fin 512 → ℝ) (DV : Fin 8192 → Fin 512 → ℝ) (XL : Fin 8192 → Fin 256 → ℝ) (XC : Fin 8192 → Fin 128 → ℝ) (XP : Fin 8192 → Fin 128 → ℝ),
      x0 = up (mat X) ∧ x1 = up (vec G) ∧ x2 = up (mat W) ∧ x3 = up (vec GQ) ∧ x4 = up (vec GK) ∧ x5 = up (mat DX) ∧ x6 = up (mat DQ) ∧ x7 = up (mat DK) ∧ x8 = up (mat DV) ∧ x9 = up (mat XL) ∧ x10 = up (mat XC) ∧ x11 = up (mat XP) := by
  have e := congrFun h (fun i => i.elim0)
  unfold Cert.Pre_finite10.fn Cert.Pre_finite10.fn_part1 Cert.Pre_finite10.fn_part2 Cert.Pre_finite10.fn_part3 at e
  dsimp only at e
  obtain ⟨e, e11⟩ := and_one e
  obtain ⟨e, e10⟩ := and_one e
  obtain ⟨e, e9⟩ := and_one e
  obtain ⟨e, e8⟩ := and_one e
  obtain ⟨e, e7⟩ := and_one e
  obtain ⟨e, e6⟩ := and_one e
  obtain ⟨e, e5⟩ := and_one e
  obtain ⟨e, e4⟩ := and_one e
  obtain ⟨e, e3⟩ := and_one e
  obtain ⟨e, e2⟩ := and_one e
  obtain ⟨e0, e1⟩ := and_one e
  obtain ⟨A0, h0⟩ := reals_of_all _ _ _ _ _ _ e0
  obtain ⟨A1, h1⟩ := reals_of_all _ _ _ _ _ _ e1
  obtain ⟨A2, h2⟩ := reals_of_all _ _ _ _ _ _ e2
  obtain ⟨A3, h3⟩ := reals_of_all _ _ _ _ _ _ e3
  obtain ⟨A4, h4⟩ := reals_of_all _ _ _ _ _ _ e4
  obtain ⟨A5, h5⟩ := reals_of_all _ _ _ _ _ _ e5
  obtain ⟨A6, h6⟩ := reals_of_all _ _ _ _ _ _ e6
  obtain ⟨A7, h7⟩ := reals_of_all _ _ _ _ _ _ e7
  obtain ⟨A8, h8⟩ := reals_of_all _ _ _ _ _ _ e8
  obtain ⟨A9, h9⟩ := reals_of_all _ _ _ _ _ _ e9
  obtain ⟨A10, h10⟩ := reals_of_all _ _ _ _ _ _ e10
  obtain ⟨A11, h11⟩ := reals_of_all _ _ _ _ _ _ e11
  exact ⟨_, _, _, _, _, _, _, _, _, _, _, _,
    h0.trans (congrArg up (mat_eq A0)), h1.trans (congrArg up (vec_eq A1)), h2.trans (congrArg up (mat_eq A2)), h3.trans (congrArg up (vec_eq A3)), h4.trans (congrArg up (vec_eq A4)), h5.trans (congrArg up (mat_eq A5)), h6.trans (congrArg up (mat_eq A6)), h7.trans (congrArg up (mat_eq A7)), h8.trans (congrArg up (mat_eq A8)), h9.trans (congrArg up (mat_eq A9)), h10.trans (congrArg up (mat_eq A10)), h11.trans (congrArg up (mat_eq A11))⟩

end Cert.InBwd.Pre

end
-- ==== Proof.InBwdClaims.lean ====
/- The claims about the input projection's backward kernel, from the arrays of the kernel's run and of the reference's run. -/
module

public import proofs.«01_k».proof.Defs
public import proofs.«01_k».proof.Proof.InBwdArrays
public import proofs.«01_k».proof.Proof.InBwdReference
public import proofs.«01_k».proof.Proof.InBwdPre

@[expose] public section

noncomputable section

namespace Cert.InBwd.Claims

open Idealize.ShloMosaic Idealize.SL.Sem Cert.Lift

/-- The reference runs, keeps its arguments, and declares no semaphore. -/
theorem frame_r : Cert.quiescent_Reference10Ideal := by
  intro m ρ _
  exact (θ_run Cert.Reference10Ideal.defs _ _).mono
    (fun r h => ⟨fun c => (h c).2.2.2.2.2, sem_eq_zero_of_no_sems (by decide) r.2⟩) (Cert.Reference10Ideal.Value.run m ρ)

set_option maxHeartbeats 800000 in
/-- On finite arguments the kernel's five results are the reference's. -/
theorem algebraic : Cert.algebraic_Kernel10Ideal_Reference10Ideal_pre_finite10 := by
  intro m ρ m' ρ' hpre hagree
  refine ⟨fun c => (Cert.Kernel10Ideal.Gen.dats m 0 c).arrAt 14 Cert.Kernel10Ideal.cfg0.N,
    fun c => (Cert.Kernel10Ideal.Gen.dats m 0 c).arrAt 15 Cert.Kernel10Ideal.cfg0.N,
    fun c => (Cert.Kernel10Ideal.Gen.dats m 0 c).arrAt 16 Cert.Kernel10Ideal.cfg0.N,
    fun c => (Cert.Kernel10Ideal.Gen.dats m 0 c).arrAt 17 Cert.Kernel10Ideal.cfg0.N,
    fun c => (Cert.Kernel10Ideal.Gen.dats m 0 c).arrAt 18 Cert.Kernel10Ideal.cfg0.N,
    Cert.Kernel10Ideal.Value.run_blocks m ρ, ?_⟩
  refine (θ_run Cert.Reference10Ideal.defs _ _).mono (fun r h c => ?_) (Cert.Reference10Ideal.Value.run m' ρ')
  obtain ⟨X, G, W, GQ, GK, DX, DQ, DK, DV, XL, XC, XP, hX, hG, hW, hGQ, hGK, hDX, hDQ, hDK, hDV, hXL, hXC, hXP⟩ := Cert.InBwd.Pre.reals (hpre c)
  obtain ⟨a0, a1, a2, a3, a4, a5, a6, a7, a8, a9, a10, a11⟩ := hagree c
  obtain ⟨r0, r1, r2, r3, r4, k⟩ := h c
  have x0 : StableHlo.launchContents m' c (Proc.devRef .tc Cert.Reference10Ideal.main_arg0) = up (mat X) := a0.trans hX
  have x1 : StableHlo.launchContents m' c (Proc.devRef .tc Cert.Reference10Ideal.main_arg1) = up (vec G) := a1.trans hG
  have x2 : StableHlo.launchContents m' c (Proc.devRef .tc Cert.Reference10Ideal.main_arg2) = up (mat W) := a2.trans hW
  have x3 : StableHlo.launchContents m' c (Proc.devRef .tc Cert.Reference10Ideal.main_arg3) = up (vec GQ) := a3.trans hGQ
  have x4 : StableHlo.launchContents m' c (Proc.devRef .tc Cert.Reference10Ideal.main_arg4) = up (vec GK) := a4.trans hGK
  have x5 : StableHlo.launchContents m' c (Proc.devRef .tc Cert.Reference10Ideal.main_arg5) = up (mat DX) := a5.trans hDX
  have x6 : StableHlo.launchContents m' c (Proc.devRef .tc Cert.Reference10Ideal.main_arg6) = up (mat DQ) := a6.trans hDQ
  have x7 : StableHlo.launchContents m' c (Proc.devRef .tc Cert.Reference10Ideal.main_arg7) = up (mat DK) := a7.trans hDK
  have x8 : StableHlo.launchContents m' c (Proc.devRef .tc Cert.Reference10Ideal.main_arg8) = up (mat DV) := a8.trans hDV
  have x9 : StableHlo.launchContents m' c (Proc.devRef .tc Cert.Reference10Ideal.main_arg9) = up (mat XL) := a9.trans hXL
  have x10 : StableHlo.launchContents m' c (Proc.devRef .tc Cert.Reference10Ideal.main_arg10) = up (mat XC) := a10.trans hXC
  have x11 : StableHlo.launchContents m' c (Proc.devRef .tc Cert.Reference10Ideal.main_arg11) = up (mat XP) := a11.trans hXP
  refine ⟨?_, ?_, ?_, ?_, ?_, k⟩
  · rw [r0, Cert.Reference10Ideal.Read.val_main_v223_eq, x0, x1, x2, x3, x4, x5, x6, x7, x8, x9, x10, x11, Cert.InBwd.Reference.r_v223]
    exact (Cert.InBwd.Arrays.final14 m c hX hG hW hGQ hGK hDX hDQ hDK hDV hXL hXC hXP).symm
  · rw [r1, Cert.Reference10Ideal.Read.val_main_v224_eq, x0, x1, x2, x3, x4, x6, x7, x8, x9, x10, x11, Cert.InBwd.Reference.r_v224]
    exact (Cert.InBwd.Arrays.final15 m c hX hG hW hGQ hGK hDX hDQ hDK hDV hXL hXC hXP).symm
  · rw [r2, Cert.Reference10Ideal.Read.val_main_v225_eq, x0, x1, x2, x3, x4, x6, x7, x8, x9, x10, x11, Cert.InBwd.Reference.r_v225]
    exact (Cert.InBwd.Arrays.final16 m c hX hG hW hGQ hGK hDX hDQ hDK hDV hXL hXC hXP).symm
  · rw [r3, Cert.Reference10Ideal.Read.val_main_v226_eq, x0, x1, x2, x6, Cert.InBwd.Reference.r_v226]
    exact (Cert.InBwd.Arrays.final17 m c hX hG hW hGQ hGK hDX hDQ hDK hDV hXL hXC hXP).symm
  · rw [r4, Cert.Reference10Ideal.Read.val_main_v227_eq, x0, x1, x2, x7, Cert.InBwd.Reference.r_v227]
    exact (Cert.InBwd.Arrays.final18 m c hX hG hW hGQ hGK hDX hDQ hDK hDV hXL hXC hXP).symm

end Cert.InBwd.Claims

end
-- ==== Proof.AdamRun.lean ====
/- The optimiser's step on one sharded matrix and on the packed small weights: what its body leaves in its buffers.

   The grid has three points. At the first two the body updates one half of the matrix each; at the last it updates the
   small weights. Each update reads the eight parts of the gradient and the weight with its two moments, and stores the
   summed gradient, the change of the weight and the two new moments. A point leaves the other item's buffers alone, so
   each of the two theorems below speaks of one item's eight buffers only. -/
module

public import proofs.«01_k».proof.Proof.Gen.Kernel11Ideal.Launch
public import proofs.«01_k».proof.Proof.Gen.Kernel11Ideal.Skeleton
public import proofs.«01_k».proof.Proof.Gen.Kernel11Ideal.Points
public import Idealize.ShloMosaic.Lib.Pipeline.FrameBody
public import Idealize.ShloMosaic.Lib.Pipeline.TableIdle
public import Idealize.ShloMosaic.Lib.VecWindow
public import Idealize.ShloMosaic.Lib.WholeRead
public import Idealize.ShloMosaic.Lib.Ring
public import Idealize.ShloMosaic.Lib.Tactic

@[expose] public section

set_option maxRecDepth 16384

noncomputable section

namespace Cert.Adam

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The matrix's summed gradient, from its eight parts. -/
def gradUp (x : Vec F S8x176x1024 .bf16) : FVec F S176x1024 .f32 :=
  k0_pay4 (fun y => x ((Rect.unit (s := S8x176x1024) ![0, 0, 0] S1x176x1024.size inb_S8x176x1024_S1x176x1024_0_0_0).toLoadRect.idx y))
    (fun y => x ((Rect.unit (s := S8x176x1024) ![1, 0, 0] S1x176x1024.size inb_S8x176x1024_S1x176x1024_1_0_0).toLoadRect.idx y))
    (fun y => x ((Rect.unit (s := S8x176x1024) ![2, 0, 0] S1x176x1024.size inb_S8x176x1024_S1x176x1024_2_0_0).toLoadRect.idx y))
    (fun y => x ((Rect.unit (s := S8x176x1024) ![3, 0, 0] S1x176x1024.size inb_S8x176x1024_S1x176x1024_3_0_0).toLoadRect.idx y))
    (fun y => x ((Rect.unit (s := S8x176x1024) ![4, 0, 0] S1x176x1024.size inb_S8x176x1024_S1x176x1024_4_0_0).toLoadRect.idx y))
    (fun y => x ((Rect.unit (s := S8x176x1024) ![5, 0, 0] S1x176x1024.size inb_S8x176x1024_S1x176x1024_5_0_0).toLoadRect.idx y))
    (fun y => x ((Rect.unit (s := S8x176x1024) ![6, 0, 0] S1x176x1024.size inb_S8x176x1024_S1x176x1024_6_0_0).toLoadRect.idx y))
    (fun y => x ((Rect.unit (s := S8x176x1024) ![7, 0, 0] S1x176x1024.size inb_S8x176x1024_S1x176x1024_7_0_0).toLoadRect.idx y))

/-- The small weights' summed gradient, from its eight parts. -/
def gradSmall (x : Vec F S8x48x128 .f32) : FVec F S48x128 .f32 :=
  k0_pay10 (fun y => x ((Rect.unit (s := S8x48x128) ![0, 0, 0] S1x48x128.size inb_S8x48x128_S1x48x128_0_0_0).toLoadRect.idx y))
    (fun y => x ((Rect.unit (s := S8x48x128) ![1, 0, 0] S1x48x128.size inb_S8x48x128_S1x48x128_1_0_0).toLoadRect.idx y))
    (fun y => x ((Rect.unit (s := S8x48x128) ![2, 0, 0] S1x48x128.size inb_S8x48x128_S1x48x128_2_0_0).toLoadRect.idx y))
    (fun y => x ((Rect.unit (s := S8x48x128) ![3, 0, 0] S1x48x128.size inb_S8x48x128_S1x48x128_3_0_0).toLoadRect.idx y))
    (fun y => x ((Rect.unit (s := S8x48x128) ![4, 0, 0] S1x48x128.size inb_S8x48x128_S1x48x128_4_0_0).toLoadRect.idx y))
    (fun y => x ((Rect.unit (s := S8x48x128) ![5, 0, 0] S1x48x128.size inb_S8x48x128_S1x48x128_5_0_0).toLoadRect.idx y))
    (fun y => x ((Rect.unit (s := S8x48x128) ![6, 0, 0] S1x48x128.size inb_S8x48x128_S1x48x128_6_0_0).toLoadRect.idx y))
    (fun y => x ((Rect.unit (s := S8x48x128) ![7, 0, 0] S1x48x128.size inb_S8x48x128_S1x48x128_7_0_0).toLoadRect.idx y))

/-- What an update of the matrix stores: the gradient, the change, the two moments. -/
def up0 (x : Vec F S8x176x1024 .bf16) : Vec F S1x176x1024 .f32 := k0_pay8 (gradUp x)
@[inherit_doc up0] def up1 (x : Vec F S8x176x1024 .bf16) (w m v : Vec F S1x176x1024 .f32) : Vec F S1x176x1024 .f32 := k0_pay9 (gradUp x) (k0_pay5 w) m v
@[inherit_doc up0] def up2 (x : Vec F S8x176x1024 .bf16) (m : Vec F S1x176x1024 .f32) : Vec F S1x176x1024 .f32 := k0_pay1 (k0_pay6 (gradUp x) m)
@[inherit_doc up0] def up3 (x : Vec F S8x176x1024 .bf16) (v : Vec F S1x176x1024 .f32) : Vec F S1x176x1024 .f32 := k0_pay2 (k0_pay7 (gradUp x) v)

/-- What the update of the small weights stores: the gradient, the change, the two moments. -/
def small0 (x : Vec F S8x48x128 .f32) : Vec F S1x48x128 .f32 := k0_pay15 (gradSmall x)
@[inherit_doc small0] def small1 (x : Vec F S8x48x128 .f32) (w m v : Vec F S1x48x128 .f32) : Vec F S1x48x128 .f32 := k0_pay16 (gradSmall x) (k0_pay11 w) (k0_pay12 m) v
@[inherit_doc small0] def small2 (x : Vec F S8x48x128 .f32) (m : Vec F S1x48x128 .f32) : Vec F S1x48x128 .f32 := k0_pay17 (gradSmall x) (k0_pay12 m)
@[inherit_doc small0] def small3 (x : Vec F S8x48x128 .f32) (v : Vec F S1x48x128 .f32) : Vec F S1x48x128 .f32 := k0_pay3 (k0_pay14 (gradSmall x) v)

/-- A whole buffer holding `X`, read at a place, gives `X` there. -/
theorem readAt_unread_fun {s : Shape} {e : EltTy} {mr : Memref sig .tc .vmem s e} (h : mr.IsWhole) (X : Vec F s e)
    (B : LoadRect s) :
    View.readAt (Elt F) mr.view B (h.unread X) = fun y => X (B.idx y) :=
  funext (Memref.IsWhole.readAt_unread h X B)

/-- A whole buffer holding `X`, read whole, gives `X`. -/
theorem readAt_unread_whole {s : Shape} {e : EltTy} {mr : Memref sig .tc .vmem s e} (h : mr.IsWhole) (X : Vec F s e)
    {off : Fin s.rank → ℕ} (inb : ∀ a, off a + s.size a ≤ s.size a) :
    View.readAt (Elt F) mr.view (Rect.unit off s.size inb).toLoadRect (h.unread X) = X :=
  (View.readAt_full ..).trans (h.read_unread X)

set_option maxHeartbeats 300000 in
/-- A point of the matrix: its four results' buffers end at the four values. -/
theorem run_up {c : Dev nD} {i : grid0.Coords}
  {arg1 : Memref sig .tc .vmem S8x176x1024 .bf16} {harg1 : arg1.IsWhole}
  {arg2 : Memref sig .tc .vmem S1x176x1024 .f32} {harg2 : arg2.IsWhole}
  {arg3 : Memref sig .tc .vmem S1x176x1024 .f32} {harg3 : arg3.IsWhole}
  {arg4 : Memref sig .tc .vmem S1x176x1024 .f32} {harg4 : arg4.IsWhole}
  {arg5 : Memref sig .tc .vmem S8x48x128 .f32} {harg5 : arg5.IsWhole}
  {arg6 : Memref sig .tc .vmem S1x48x128 .f32} {harg6 : arg6.IsWhole}
  {arg7 : Memref sig .tc .vmem S1x48x128 .f32} {harg7 : arg7.IsWhole}
  {arg8 : Memref sig .tc .vmem S1x48x128 .f32} {harg8 : arg8.IsWhole}
  {arg9 : Memref sig .tc .vmem S1x176x1024 .f32} {harg9 : arg9.IsWhole}
  {arg10 : Memref sig .tc .vmem S1x176x1024 .f32} {harg10 : arg10.IsWhole}
  {arg11 : Memref sig .tc .vmem S1x176x1024 .f32} {harg11 : arg11.IsWhole}
  {arg12 : Memref sig .tc .vmem S1x176x1024 .f32} {harg12 : arg12.IsWhole}
  {arg13 : Memref sig .tc .vmem S1x48x128 .f32} {harg13 : arg13.IsWhole}
  {arg14 : Memref sig .tc .vmem S1x48x128 .f32} {harg14 : arg14.IsWhole}
  {arg15 : Memref sig .tc .vmem S1x48x128 .f32} {harg15 : arg15.IsWhole}
  {arg16 : Memref sig .tc .vmem S1x48x128 .f32} {harg16 : arg16.IsWhole}
    (h1 : k0_cond1 i = 1#1) (h2 : ¬k0_cond2 i = 1#1)
    (x : Vec F S8x176x1024 .bf16) (w m v : Vec F S1x176x1024 .f32) (E : Set ℕ) (K : PUnit → sProp 𝕄) :
    iprop(owns (c : Thread nD τ) arg1 fullShare x ∗ owns (c : Thread nD τ) arg2 fullShare w ∗ owns (c : Thread nD τ) arg3 fullShare m ∗ owns (c : Thread nD τ) arg4 fullShare v
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x ∗ owns (c : Thread nD τ) arg2 fullShare w ∗ owns (c : Thread nD τ) arg3 fullShare m ∗ owns (c : Thread nD τ) arg4 fullShare v
            ∗ owns (c : Thread nD τ) arg9 fullShare (up0 x) ∗ owns (c : Thread nD τ) arg10 fullShare (up1 x w m v) ∗ owns (c : Thread nD τ) arg11 fullShare (up2 x m) ∗ owns (c : Thread nD τ) arg12 fullShare (up3 x v)) -∗ K ⟨⟩))
      ⊢ wp frame (wpE (defs₀ (F := F)) Variants.none c none) E (cc0_adamw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_adamw_eq_skeleton]; unfold cc0_adamw_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg1.eq_unread hf0; obtain rfl := harg2.eq_unread hf1
  obtain rfl := harg3.eq_unread hf2; obtain rfl := harg4.eq_unread hf3
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; rotate_left; · iexact H4
    ipureintro; refine (View.read_writes_full _ _ _ _ _).trans ?_; (try delta run_up.sl.r_3); (try delta run_up.sl.r_2); (try delta run_up.sl.r_1); (try delta run_up.sl.r); (repeat rw [readAt_unread_whole]); simp only [readAt_unread_fun]; rfl
  isplitl [H5]
  · iexists _; isplitr; rotate_left; · iexact H5
    ipureintro; refine (View.read_writes_full _ _ _ _ _).trans ?_; (try delta run_up.sl.r_3); (try delta run_up.sl.r_2); (try delta run_up.sl.r_1); (try delta run_up.sl.r); (repeat rw [readAt_unread_whole]); simp only [readAt_unread_fun]; rfl
  isplitl [H6]
  · iexists _; isplitr; rotate_left; · iexact H6
    ipureintro; refine (View.read_writes_full _ _ _ _ _).trans ?_; (try delta run_up.sl.r_3); (try delta run_up.sl.r_2); (try delta run_up.sl.r_1); (try delta run_up.sl.r); (repeat rw [readAt_unread_whole]); simp only [readAt_unread_fun]; rfl
  iexists _; isplitr; rotate_left; · iexact H7
  ipureintro; refine (View.read_writes_full _ _ _ _ _).trans ?_; (try delta run_up.sl.r_3); (try delta run_up.sl.r_2); (try delta run_up.sl.r_1); (try delta run_up.sl.r); (repeat rw [readAt_unread_whole]); simp only [readAt_unread_fun]; rfl

set_option maxHeartbeats 300000 in
/-- The point of the small weights: its four results' buffers end at the four values. -/
theorem run_small {c : Dev nD} {i : grid0.Coords}
  {arg1 : Memref sig .tc .vmem S8x176x1024 .bf16} {harg1 : arg1.IsWhole}
  {arg2 : Memref sig .tc .vmem S1x176x1024 .f32} {harg2 : arg2.IsWhole}
  {arg3 : Memref sig .tc .vmem S1x176x1024 .f32} {harg3 : arg3.IsWhole}
  {arg4 : Memref sig .tc .vmem S1x176x1024 .f32} {harg4 : arg4.IsWhole}
  {arg5 : Memref sig .tc .vmem S8x48x128 .f32} {harg5 : arg5.IsWhole}
  {arg6 : Memref sig .tc .vmem S1x48x128 .f32} {harg6 : arg6.IsWhole}
  {arg7 : Memref sig .tc .vmem S1x48x128 .f32} {harg7 : arg7.IsWhole}
  {arg8 : Memref sig .tc .vmem S1x48x128 .f32} {harg8 : arg8.IsWhole}
  {arg9 : Memref sig .tc .vmem S1x176x1024 .f32} {harg9 : arg9.IsWhole}
  {arg10 : Memref sig .tc .vmem S1x176x1024 .f32} {harg10 : arg10.IsWhole}
  {arg11 : Memref sig .tc .vmem S1x176x1024 .f32} {harg11 : arg11.IsWhole}
  {arg12 : Memref sig .tc .vmem S1x176x1024 .f32} {harg12 : arg12.IsWhole}
  {arg13 : Memref sig .tc .vmem S1x48x128 .f32} {harg13 : arg13.IsWhole}
  {arg14 : Memref sig .tc .vmem S1x48x128 .f32} {harg14 : arg14.IsWhole}
  {arg15 : Memref sig .tc .vmem S1x48x128 .f32} {harg15 : arg15.IsWhole}
  {arg16 : Memref sig .tc .vmem S1x48x128 .f32} {harg16 : arg16.IsWhole}
    (h1 : ¬k0_cond1 i = 1#1) (h2 : k0_cond2 i = 1#1)
    (x : Vec F S8x48x128 .f32) (w m v : Vec F S1x48x128 .f32) (E : Set ℕ) (K : PUnit → sProp 𝕄) :
    iprop(owns (c : Thread nD τ) arg5 fullShare x ∗ owns (c : Thread nD τ) arg6 fullShare w ∗ owns (c : Thread nD τ) arg7 fullShare m ∗ owns (c : Thread nD τ) arg8 fullShare v
        ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg5 fullShare x ∗ owns (c : Thread nD τ) arg6 fullShare w ∗ owns (c : Thread nD τ) arg7 fullShare m ∗ owns (c : Thread nD τ) arg8 fullShare v
            ∗ owns (c : Thread nD τ) arg13 fullShare (small0 x) ∗ owns (c : Thread nD τ) arg14 fullShare (small1 x w m v) ∗ owns (c : Thread nD τ) arg15 fullShare (small2 x m) ∗ owns (c : Thread nD τ) arg16 fullShare (small3 x v)) -∗ K ⟨⟩))
      ⊢ wp frame (wpE (defs₀ (F := F)) Variants.none c none) E (cc0_adamw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_adamw_eq_skeleton]; unfold cc0_adamw_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg5.eq_unread hf0; obtain rfl := harg6.eq_unread hf1
  obtain rfl := harg7.eq_unread hf2; obtain rfl := harg8.eq_unread hf3
  sl_exec (disch := first | sl_exact h1 | sl_exact h2)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr; rotate_left; · iexact H4
    ipureintro; refine (View.read_writes_full _ _ _ _ _).trans ?_; (try delta run_small.sl.r_3); (try delta run_small.sl.r_2); (try delta run_small.sl.r_1); (try delta run_small.sl.r); (repeat rw [readAt_unread_whole]); simp only [readAt_unread_fun]; rfl
  isplitl [H5]
  · iexists _; isplitr; rotate_left; · iexact H5
    ipureintro; refine (View.read_writes_full _ _ _ _ _).trans ?_; (try delta run_small.sl.r_3); (try delta run_small.sl.r_2); (try delta run_small.sl.r_1); (try delta run_small.sl.r); (repeat rw [readAt_unread_whole]); simp only [readAt_unread_fun]; rfl
  isplitl [H6]
  · iexists _; isplitr; rotate_left; · iexact H6
    ipureintro; refine (View.read_writes_full _ _ _ _ _).trans ?_; (try delta run_small.sl.r_3); (try delta run_small.sl.r_2); (try delta run_small.sl.r_1); (try delta run_small.sl.r); (repeat rw [readAt_unread_whole]); simp only [readAt_unread_fun]; rfl
  iexists _; isplitr; rotate_left; · iexact H7
  ipureintro; refine (View.read_writes_full _ _ _ _ _).trans ?_; (try delta run_small.sl.r_3); (try delta run_small.sl.r_2); (try delta run_small.sl.r_1); (try delta run_small.sl.r); (repeat rw [readAt_unread_whole]); simp only [readAt_unread_fun]; rfl

end Cert.Adam

end
-- ==== Proof.AdamFrame.lean ====
/- The optimiser's step on one sharded matrix and on the packed small weights: every run ends, leaves its arguments as
   they were and its results at the values the points wrote. -/
module

public import proofs.«01_k».proof.Proof.AdamRun

@[expose] public section

set_option maxRecDepth 16384

noncomputable section

namespace Cert.Adam

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
local notation "𝔻" => Dat τ (Elt F) Unit ℕ (UR sig nD τ) ℕ cfg0

variable (m : (ℓ : Loc nD τ sig) → Buf (Elt F) ℓ) (ρ : Dev nD → PrngReg)

/-- A device's buffers as the pipeline finds them: as at the launch. -/
abbrev V (c : Dev nD) (b : Ref sig .tc) : Buf (Elt F) ((c : Thread nD τ).loc b) := m ((c : Thread nD τ).loc b)

set_option maxHeartbeats 800000 in
/-- The program is the pipeline alone. -/
theorem only_pipeline (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The block of a window at a point, read off its array. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- What the points leave in the windows' buffers: the inputs' blocks, and of an item's results the values computed
    from the item's blocks at that point. At the points of the other item these are what the item's own last or first
    point has, its blocks being the same. -/
def dats (_ : Fin 1) (c : Dev nD) : 𝔻 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => up0 (iblk m c 0 t)
    | ⟨9, _⟩ => up1 (iblk m c 0 t) (iblk m c 1 t) (iblk m c 2 t) (iblk m c 3 t)
    | ⟨10, _⟩ => up2 (iblk m c 0 t) (iblk m c 2 t)
    | ⟨11, _⟩ => up3 (iblk m c 0 t) (iblk m c 3 t)
    | ⟨12, _⟩ => small0 (iblk m c 4 t)
    | ⟨13, _⟩ => small1 (iblk m c 4 t) (iblk m c 5 t) (iblk m c 6 t) (iblk m c 7 t)
    | ⟨14, _⟩ => small2 (iblk m c 4 t) (iblk m c 6 t)
    | ⟨15, _⟩ => small3 (iblk m c 4 t) (iblk m c 7 t)
    | ⟨_ + 16, h⟩ => absurd h (Nat.not_lt.2 (Nat.le_add_left _ _))
  Φ _ := Pipeline.ΦA spec0 c
  q _ := fullShare
  owed _ := 0

/-- The arrays are the launch's. -/
theorem A_eq (c : Dev nD) (w : Fin cfg0.W) : (dats m 0 c).A w = V m c (Pipeline.arrRef spec0 w) := by
  dsimp only [dats]

/-! ## When a window is left alone -/

/-- The first item's points. -/
theorem cond1_iff : ∀ t : Fin cfg0.N, k0_cond1 (grid0.coords t) = 1#1 ↔ t.val < 2 :=
  (by decide +kernel : ∀ t : Fin grid0.N, k0_cond1 (grid0.coords t) = 1#1 ↔ t.val < 2)

/-- The second item's point. -/
theorem cond2_iff : ∀ t : Fin cfg0.N, k0_cond2 (grid0.coords t) = 1#1 ↔ ¬t.val < 2 :=
  (by decide +kernel : ∀ t : Fin grid0.N, k0_cond2 (grid0.coords t) = 1#1 ↔ ¬t.val < 2)

/-- A buffer the point does not touch passes through it: an idle one that is not written back, or one that already
    holds what is to be there. -/
theorem passes {c : Dev nD} (dat : 𝔻 c) (w : Fin cfg0.W) (t : Fin cfg0.N)
    (h : (cfg0.idle w (cfg0.grid.coords t) = true ∧ (cfg0.win w).flush t = false) ∨ ∀ d, dat.before w t d = dat.after w t) :
    (iprop(∃ d, owns (c : Thread nD τ) ((cfg0.win w).stage (cfg0.slots t w)) fullShare (dat.before w t d)) : sProp 𝕄)
      ⊢ dat.leavesExact w t := by
  rcases h with ⟨hi, hf⟩ | h
  · rw [dat.leavesExact_idle w t hi hf]
  · unfold Dat.leavesExact
    cases hi : cfg0.idle w (cfg0.grid.coords t) <;> cases hf : (cfg0.win w).flush t <;> dsimp only <;>
      iintro ⟨%d, H⟩ <;> rw [h d] <;> first | iexact H | (iexists d; rw [h d]; iexact H)

/-- A buffer holding what is to be there, at a point that is not idle for it. -/
theorem lands {c : Dev nD} (dat : 𝔻 c) (w : Fin cfg0.W) (t : Fin cfg0.N) (hi : cfg0.idle w (cfg0.grid.coords t) = false)
    {X : (cfg0.win w).block.Idx → Elt F (cfg0.win w).elt} (h : X = dat.after w t) :
    (owns (c : Thread nD τ) ((cfg0.win w).stage (cfg0.slots t w)) fullShare X : sProp 𝕄) ⊢ dat.leavesExact w t := by
  subst h; unfold Dat.leavesExact; rw [hi]

/-- What a point finds in a buffer that the point before it stored into and did not write back. -/
theorem carried {c : Dev nD} (dat : 𝔻 c) (w : Fin cfg0.W) (t t' : Fin cfg0.N) (ht : t'.val + 1 = t.val)
    (hin : (cfg0.win w).fetch t = false) (hf : (cfg0.win w).flush t' = false)
    (hi : cfg0.idle w (cfg0.grid.coords t') = false) (hk : ∀ d, dat.kept w t' d = dat.after w t') (d) :
    dat.before w t d = dat.after w t' := by
  obtain rfl : t' = ⟨t.val - 1, Nat.lt_of_le_of_lt (Nat.sub_le _ _) t.isLt⟩ := Fin.ext (by show t'.val = t.val - 1; omega)
  rw [dat.before_of_pos w t (by omega) hin, hf]
  unfold Dat.left; rw [hi]; exact hk d

/-! ## The buffers' contents point by point -/

/-- Input 0's buffer holds its block at every point. -/
theorem before0 (c : Dev nD) (t : Fin cfg0.N) (d) : (dats m 0 c).before 0 t d = iblk m c 0 t :=
  ((dats m 0 c).before_in_eq_fetched 0 rfl (fun _ => rfl) (fun _ _ _ => rfl)
    (fun t => by show iblk m c 0 t = _; unfold Dat.blockOf iblk; rw [A_eq]) t d).trans
    (by unfold Dat.fetched Dat.blockOf iblk; rw [A_eq]; rfl)

/-- Input 1's buffer holds its block at every point. -/
theorem before1 (c : Dev nD) (t : Fin cfg0.N) (d) : (dats m 0 c).before 1 t d = iblk m c 1 t :=
  ((dats m 0 c).before_in_eq_fetched 1 rfl (fun _ => rfl) (fun _ _ _ => rfl)
    (fun t => by show iblk m c 1 t = _; unfold Dat.blockOf iblk; rw [A_eq]) t d).trans
    (by unfold Dat.fetched Dat.blockOf iblk; rw [A_eq]; rfl)

/-- Input 2's buffer holds its block at every point. -/
theorem before2 (c : Dev nD) (t : Fin cfg0.N) (d) : (dats m 0 c).before 2 t d = iblk m c 2 t :=
  ((dats m 0 c).before_in_eq_fetched 2 rfl (fun _ => rfl) (fun _ _ _ => rfl)
    (fun t => by show iblk m c 2 t = _; unfold Dat.blockOf iblk; rw [A_eq]) t d).trans
    (by unfold Dat.fetched Dat.blockOf iblk; rw [A_eq]; rfl)

/-- Input 3's buffer holds its block at every point. -/
theorem before3 (c : Dev nD) (t : Fin cfg0.N) (d) : (dats m 0 c).before 3 t d = iblk m c 3 t :=
  ((dats m 0 c).before_in_eq_fetched 3 rfl (fun _ => rfl) (fun _ _ _ => rfl)
    (fun t => by show iblk m c 3 t = _; unfold Dat.blockOf iblk; rw [A_eq]) t d).trans
    (by unfold Dat.fetched Dat.blockOf iblk; rw [A_eq]; rfl)

/-- Input 4's buffer holds its block at every point. -/
theorem before4 (c : Dev nD) (t : Fin cfg0.N) (d) : (dats m 0 c).before 4 t d = iblk m c 4 t :=
  ((dats m 0 c).before_in_eq_fetched 4 rfl (fun _ => rfl) (fun _ _ _ => rfl)
    (fun t => by show iblk m c 4 t = _; unfold Dat.blockOf iblk; rw [A_eq]) t d).trans
    (by unfold Dat.fetched Dat.blockOf iblk; rw [A_eq]; rfl)

/-- Input 5's buffer holds its block at every point. -/
theorem before5 (c : Dev nD) (t : Fin cfg0.N) (d) : (dats m 0 c).before 5 t d = iblk m c 5 t :=
  ((dats m 0 c).before_in_eq_fetched 5 rfl (fun _ => rfl) (fun _ _ _ => rfl)
    (fun t => by show iblk m c 5 t = _; unfold Dat.blockOf iblk; rw [A_eq]) t d).trans
    (by unfold Dat.fetched Dat.blockOf iblk; rw [A_eq]; rfl)

/-- Input 6's buffer holds its block at every point. -/
theorem before6 (c : Dev nD) (t : Fin cfg0.N) (d) : (dats m 0 c).before 6 t d = iblk m c 6 t :=
  ((dats m 0 c).before_in_eq_fetched 6 rfl (fun _ => rfl) (fun _ _ _ => rfl)
    (fun t => by show iblk m c 6 t = _; unfold Dat.blockOf iblk; rw [A_eq]) t d).trans
    (by unfold Dat.fetched Dat.blockOf iblk; rw [A_eq]; rfl)

/-- Input 7's buffer holds its block at every point. -/
theorem before7 (c : Dev nD) (t : Fin cfg0.N) (d) : (dats m 0 c).before 7 t d = iblk m c 7 t :=
  ((dats m 0 c).before_in_eq_fetched 7 rfl (fun _ => rfl) (fun _ _ _ => rfl)
    (fun t => by show iblk m c 7 t = _; unfold Dat.blockOf iblk; rw [A_eq]) t d).trans
    (by unfold Dat.fetched Dat.blockOf iblk; rw [A_eq]; rfl)

/-- Input 0's block at the last point is the one of the point before. -/
theorem iblk0_last (c : Dev nD) : iblk m c 0 t0_2 = iblk m c 0 t0_1 :=
  (before0 m c t0_2 (fun _ => Classical.arbitrary _)).symm.trans (((carried (dats m 0 c) 0 t0_2 t0_1 rfl (by decide +kernel) (by decide +kernel) rfl
    (fun _ => rfl) _)))

/-- Input 1's block at the last point is the one of the point before. -/
theorem iblk1_last (c : Dev nD) : iblk m c 1 t0_2 = iblk m c 1 t0_1 :=
  (before1 m c t0_2 (fun _ => Classical.arbitrary _)).symm.trans (((carried (dats m 0 c) 1 t0_2 t0_1 rfl (by decide +kernel) (by decide +kernel) rfl
    (fun _ => rfl) _)))

/-- Input 2's block at the last point is the one of the point before. -/
theorem iblk2_last (c : Dev nD) : iblk m c 2 t0_2 = iblk m c 2 t0_1 :=
  (before2 m c t0_2 (fun _ => Classical.arbitrary _)).symm.trans (((carried (dats m 0 c) 2 t0_2 t0_1 rfl (by decide +kernel) (by decide +kernel) rfl
    (fun _ => rfl) _)))

/-- Input 3's block at the last point is the one of the point before. -/
theorem iblk3_last (c : Dev nD) : iblk m c 3 t0_2 = iblk m c 3 t0_1 :=
  (before3 m c t0_2 (fun _ => Classical.arbitrary _)).symm.trans (((carried (dats m 0 c) 3 t0_2 t0_1 rfl (by decide +kernel) (by decide +kernel) rfl
    (fun _ => rfl) _)))

/-- Result 0 of the matrix still holds at the last point what the point before stored, and that is what it is to hold. -/
theorem kept8 (c : Dev nD) (t : Fin cfg0.N) (ht : ¬t.val < 2) (d) : (dats m 0 c).before 8 t d = (dats m 0 c).after 8 t := by
  obtain rfl : t = t0_2 := by rcases fin_N0 t with rfl | rfl | rfl <;> first | rfl | exact absurd (by decide) ht
  refine (carried (dats m 0 c) 8 t0_2 t0_1 rfl (by decide +kernel) (by decide +kernel) (by decide +kernel) (fun _ => rfl) d).trans ?_
  dsimp only [dats]; rw [iblk0_last]

/-- Result 1 of the matrix still holds at the last point what the point before stored, and that is what it is to hold. -/
theorem kept9 (c : Dev nD) (t : Fin cfg0.N) (ht : ¬t.val < 2) (d) : (dats m 0 c).before 9 t d = (dats m 0 c).after 9 t := by
  obtain rfl : t = t0_2 := by rcases fin_N0 t with rfl | rfl | rfl <;> first | rfl | exact absurd (by decide) ht
  refine (carried (dats m 0 c) 9 t0_2 t0_1 rfl (by decide +kernel) (by decide +kernel) (by decide +kernel) (fun _ => rfl) d).trans ?_
  dsimp only [dats]; rw [iblk0_last, iblk1_last, iblk2_last, iblk3_last]

/-- Result 2 of the matrix still holds at the last point what the point before stored, and that is what it is to hold. -/
theorem kept10 (c : Dev nD) (t : Fin cfg0.N) (ht : ¬t.val < 2) (d) : (dats m 0 c).before 10 t d = (dats m 0 c).after 10 t := by
  obtain rfl : t = t0_2 := by rcases fin_N0 t with rfl | rfl | rfl <;> first | rfl | exact absurd (by decide) ht
  refine (carried (dats m 0 c) 10 t0_2 t0_1 rfl (by decide +kernel) (by decide +kernel) (by decide +kernel) (fun _ => rfl) d).trans ?_
  dsimp only [dats]; rw [iblk0_last, iblk2_last]

/-- Result 3 of the matrix still holds at the last point what the point before stored, and that is what it is to hold. -/
theorem kept11 (c : Dev nD) (t : Fin cfg0.N) (ht : ¬t.val < 2) (d) : (dats m 0 c).before 11 t d = (dats m 0 c).after 11 t := by
  obtain rfl : t = t0_2 := by rcases fin_N0 t with rfl | rfl | rfl <;> first | rfl | exact absurd (by decide) ht
  refine (carried (dats m 0 c) 11 t0_2 t0_1 rfl (by decide +kernel) (by decide +kernel) (by decide +kernel) (fun _ => rfl) d).trans ?_
  dsimp only [dats]; rw [iblk0_last, iblk3_last]

/-! ## The body at a point -/

/-- What a point starts from: the inputs' and results' buffers as found. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What a point ends with. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)
/-- A point of the matrix works on window 8's buffer. -/
theorem idleUp8 : ∀ t : Fin cfg0.N, t.val < 2 → cfg0.idle 8 (cfg0.grid.coords t) = false := by decide +kernel
/-- A point of the matrix works on window 9's buffer. -/
theorem idleUp9 : ∀ t : Fin cfg0.N, t.val < 2 → cfg0.idle 9 (cfg0.grid.coords t) = false := by decide +kernel
/-- A point of the matrix works on window 10's buffer. -/
theorem idleUp10 : ∀ t : Fin cfg0.N, t.val < 2 → cfg0.idle 10 (cfg0.grid.coords t) = false := by decide +kernel
/-- A point of the matrix works on window 11's buffer. -/
theorem idleUp11 : ∀ t : Fin cfg0.N, t.val < 2 → cfg0.idle 11 (cfg0.grid.coords t) = false := by decide +kernel
/-- The small weights' point works on window 12's buffer. -/
theorem idleSmall12 : ∀ t : Fin cfg0.N, ¬t.val < 2 → cfg0.idle 12 (cfg0.grid.coords t) = false := by decide +kernel
/-- A point of the matrix leaves window 12's buffer alone. -/
theorem rests12 : ∀ t : Fin cfg0.N, t.val < 2 → cfg0.idle 12 (cfg0.grid.coords t) = true ∧ (cfg0.win 12).flush t = false := by decide +kernel
/-- The small weights' point works on window 13's buffer. -/
theorem idleSmall13 : ∀ t : Fin cfg0.N, ¬t.val < 2 → cfg0.idle 13 (cfg0.grid.coords t) = false := by decide +kernel
/-- A point of the matrix leaves window 13's buffer alone. -/
theorem rests13 : ∀ t : Fin cfg0.N, t.val < 2 → cfg0.idle 13 (cfg0.grid.coords t) = true ∧ (cfg0.win 13).flush t = false := by decide +kernel
/-- The small weights' point works on window 14's buffer. -/
theorem idleSmall14 : ∀ t : Fin cfg0.N, ¬t.val < 2 → cfg0.idle 14 (cfg0.grid.coords t) = false := by decide +kernel
/-- A point of the matrix leaves window 14's buffer alone. -/
theorem rests14 : ∀ t : Fin cfg0.N, t.val < 2 → cfg0.idle 14 (cfg0.grid.coords t) = true ∧ (cfg0.win 14).flush t = false := by decide +kernel
/-- The small weights' point works on window 15's buffer. -/
theorem idleSmall15 : ∀ t : Fin cfg0.N, ¬t.val < 2 → cfg0.idle 15 (cfg0.grid.coords t) = false := by decide +kernel
/-- A point of the matrix leaves window 15's buffer alone. -/
theorem rests15 : ∀ t : Fin cfg0.N, t.val < 2 → cfg0.idle 15 (cfg0.grid.coords t) = true ∧ (cfg0.win 15).flush t = false := by decide +kernel

set_option maxHeartbeats 1600000 in
/-- The body at any point. The point's item is updated; the other item's buffers pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl]
  by_cases h : t.val < 2
  · iintro ⟨HΦ, Ho, ⟨%d0, H0⟩, ⟨%d1, H1⟩, ⟨%d2, H2⟩, ⟨%d3, H3⟩, H4, H5, H6, H7, ⟨%d8, H8⟩, ⟨%d9, H9⟩, ⟨%d10, H10⟩, ⟨%d11, H11⟩, H12, H13, H14, H15⟩
    rw [before0, before1, before2, before3]
    iapply (run_up ((cond1_iff t).mpr h) (fun h' => (cond2_iff t).mp h' h) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H8]; · iexists _; iexact H8
    isplitl [H9]; · iexists _; iexact H9
    isplitl [H10]; · iexists _; iexact H10
    isplitl [H11]; · iexists _; iexact H11
    iintro ⟨H0, H1, H2, H3, H8, H9, H10, H11⟩
    isplitl [HΦ]; · iexact HΦ
    isplitl [Ho]; · iexact Ho
    isplitl [H0]; · iapply (lands (dats m 0 c) 0 t rfl rfl); iexact H0
    isplitl [H1]; · iapply (lands (dats m 0 c) 1 t rfl rfl); iexact H1
    isplitl [H2]; · iapply (lands (dats m 0 c) 2 t rfl rfl); iexact H2
    isplitl [H3]; · iapply (lands (dats m 0 c) 3 t rfl rfl); iexact H3
    isplitl [H4]; · iapply (passes (dats m 0 c) 4 t (.inr fun d => before4 m c t d)); iexact H4
    isplitl [H5]; · iapply (passes (dats m 0 c) 5 t (.inr fun d => before5 m c t d)); iexact H5
    isplitl [H6]; · iapply (passes (dats m 0 c) 6 t (.inr fun d => before6 m c t d)); iexact H6
    isplitl [H7]; · iapply (passes (dats m 0 c) 7 t (.inr fun d => before7 m c t d)); iexact H7
    isplitl [H8]; · iapply (lands (dats m 0 c) 8 t (idleUp8 t h) rfl); iexact H8
    isplitl [H9]; · iapply (lands (dats m 0 c) 9 t (idleUp9 t h) rfl); iexact H9
    isplitl [H10]; · iapply (lands (dats m 0 c) 10 t (idleUp10 t h) rfl); iexact H10
    isplitl [H11]; · iapply (lands (dats m 0 c) 11 t (idleUp11 t h) rfl); iexact H11
    isplitl [H12]; · iapply (passes (dats m 0 c) 12 t (.inl (rests12 t h))); iexact H12
    isplitl [H13]; · iapply (passes (dats m 0 c) 13 t (.inl (rests13 t h))); iexact H13
    isplitl [H14]; · iapply (passes (dats m 0 c) 14 t (.inl (rests14 t h))); iexact H14
    iapply (passes (dats m 0 c) 15 t (.inl (rests15 t h))); iexact H15
  · iintro ⟨HΦ, Ho, H0, H1, H2, H3, ⟨%d4, H4⟩, ⟨%d5, H5⟩, ⟨%d6, H6⟩, ⟨%d7, H7⟩, H8, H9, H10, H11, ⟨%d12, H12⟩, ⟨%d13, H13⟩, ⟨%d14, H14⟩, ⟨%d15, H15⟩⟩
    rw [before4, before5, before6, before7]
    iapply (run_small (fun h' => h ((cond1_iff t).mp h')) ((cond2_iff t).mpr h) (iblk m c 4 t) (iblk m c 5 t) (iblk m c 6 t) (iblk m c 7 t) Set.univ _)
    isplitl [H4]; · iexact H4
    isplitl [H5]; · iexact H5
    isplitl [H6]; · iexact H6
    isplitl [H7]; · iexact H7
    isplitl [H12]; · iexists _; iexact H12
    isplitl [H13]; · iexists _; iexact H13
    isplitl [H14]; · iexists _; iexact H14
    isplitl [H15]; · iexists _; iexact H15
    iintro ⟨H4, H5, H6, H7, H12, H13, H14, H15⟩
    isplitl [HΦ]; · iexact HΦ
    isplitl [Ho]; · iexact Ho
    isplitl [H0]; · iapply (passes (dats m 0 c) 0 t (.inr fun d => before0 m c t d)); iexact H0
    isplitl [H1]; · iapply (passes (dats m 0 c) 1 t (.inr fun d => before1 m c t d)); iexact H1
    isplitl [H2]; · iapply (passes (dats m 0 c) 2 t (.inr fun d => before2 m c t d)); iexact H2
    isplitl [H3]; · iapply (passes (dats m 0 c) 3 t (.inr fun d => before3 m c t d)); iexact H3
    isplitl [H4]; · iapply (lands (dats m 0 c) 4 t rfl rfl); iexact H4
    isplitl [H5]; · iapply (lands (dats m 0 c) 5 t rfl rfl); iexact H5
    isplitl [H6]; · iapply (lands (dats m 0 c) 6 t rfl rfl); iexact H6
    isplitl [H7]; · iapply (lands (dats m 0 c) 7 t rfl rfl); iexact H7
    isplitl [H8]; · iapply (passes (dats m 0 c) 8 t (.inr fun d => kept8 m c t h d)); iexact H8
    isplitl [H9]; · iapply (passes (dats m 0 c) 9 t (.inr fun d => kept9 m c t h d)); iexact H9
    isplitl [H10]; · iapply (passes (dats m 0 c) 10 t (.inr fun d => kept10 m c t h d)); iexact H10
    isplitl [H11]; · iapply (passes (dats m 0 c) 11 t (.inr fun d => kept11 m c t h d)); iexact H11
    isplitl [H12]; · iapply (lands (dats m 0 c) 12 t (idleSmall12 t h) rfl); iexact H12
    isplitl [H13]; · iapply (lands (dats m 0 c) 13 t (idleSmall13 t h) rfl); iexact H13
    isplitl [H14]; · iapply (lands (dats m 0 c) 14 t (idleSmall14 t h) rfl); iexact H14
    iapply (lands (dats m 0 c) 15 t (idleSmall15 t h) rfl); iexact H15

/-- The pipeline's call at a point is the body. -/
theorem row (t : Fin cfg0.N) : defs₀ (F := F) .tc cfg0.body (cfg0.bodyArgs t (cfg0.slots t)) = bodyAt0 t := by
  unfold defs₀; rw [Defs.onTc_tc]

/-- Every point does what the pipeline asks of it. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run -/

set_option backward.isDefEq.respectTransparency.types false in
/-- Every run ends with the arrays at what the points wrote and every counter at zero. -/
theorem run_main : θ_run defs (onTc (τ := τ) (main (F := F))) ⟨m, fun _ => 0, ρ⟩
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := only_pipeline m Variants.none) (hA := A_eq m) (hΦ := fun _ _ => rfl)

/-- An argument ends as it was. -/
theorem argument {r} (h : Pipeline.FramePost cfgs (dats m) 0 (V m) r) (c : Dev nD) (w : Fin cfg0.W) (hw : (cfg0.win w).isOut = false) :
    r.2.mem ((c : Thread nD τ).loc (Pipeline.arrRef spec0 w)) = m ((c : Thread nD τ).loc (Pipeline.arrRef spec0 w)) :=
  ((h c).1 w).trans (((dats m 0 c).arrAt_in w hw _).trans (A_eq m c w))

end Cert.Adam

end
-- ==== Proof.AdamValue.lean ====
/- The optimiser's step over the extended reals: the numbers a point stores, index by index. -/
module

public import proofs.«01_k».proof.Proof.AdamRun
public import Idealize.ShloMosaic.Lib.Pipeline.Value
public import Idealize.ShloMosaic.Lib.Pointwise.Reduce

@[expose] public section

noncomputable section

namespace Cert.Adam

open Cert.Kernel11Ideal Cert.Kernel11Ideal.Gen Idealize.ShloMosaic

/-! ## The step on numbers -/

/-- The new first moment, of the gradient `g` and the old one `m`. -/
def mom1 (g m : EReal) : EReal := Ideal.ofBits .f32 0x3F666666#32 * m + Ideal.ofBits .f32 0x3DCCCCCD#32 * g

/-- The new second moment, of the gradient `g` and the old one `v`. -/
def mom2 (g v : EReal) : EReal := Ideal.ofBits .f32 0x3F7FBE77#32 * v + Ideal.ofBits .f32 0x3A83126F#32 * (g * g)

/-- The change of a weight `w` whose gradient is `g` and whose old moments are `m` and `v`: the moments with their bias
    taken out give the direction, to which the decay of the weight is added. -/
def change (g w m v : EReal) : EReal :=
  Ideal.ofBits .f32 0xBA83126F#32 * (FloatOps.divf (F := Ideal) (φ := .f32) (FloatOps.divf (F := Ideal) (φ := .f32) (mom1 g m) (Ideal.ofBits .f32 0x3F26BD02#32))
      (FloatOps.sqrt (F := Ideal) (φ := .f32) (FloatOps.divf (F := Ideal) (φ := .f32) (mom2 g v) (Ideal.ofBits .f32 0x3C231ACC#32)) + Ideal.ofBits .f32 0x322BCC77#32)
    + Ideal.ofBits .f32 0x3C23D70A#32 * w)

/-- The sum of the eight parts of a gradient at an index. -/
def parts {R C : ℕ} (x : (⟨3, ![8, R, C]⟩ : Shape).Idx → EReal) (j : (⟨3, ![1, R, C]⟩ : Shape).Idx) : EReal :=
  ∑ k : Fin 8, x (ix3 k (j 1) (j 2))

/-! ## What a point stores -/

/-- An index of one part is the part's number and the index within it. -/
theorem part_idx {R C : ℕ} (k : Fin 8) (h : ∀ a, (![k.val, 0, 0] : Fin 3 → ℕ) a + (⟨3, ![1, R, C]⟩ : Shape).size a ≤ (⟨3, ![8, R, C]⟩ : Shape).size a)
    (j : (⟨3, ![1, R, C]⟩ : Shape).Idx) :
    (Rect.unit (s := (⟨3, ![8, R, C]⟩ : Shape)) ![k.val, 0, 0] (⟨3, ![1, R, C]⟩ : Shape).size h).toLoadRect.idx j = ix3 k (j 1) (j 2) := by
  have h0 : (j 0).val = 0 := by have h1 : (j 0).val < 1 := (j 0).isLt; omega
  funext a
  match a with
  | ⟨0, _⟩ => exact Fin.ext (by show k.val + 1 * (j 0).val = k.val; omega)
  | ⟨1, _⟩ => exact Fin.ext (by show 0 + 1 * (j 1).val = (j 1).val; omega)
  | ⟨2, _⟩ => exact Fin.ext (by show 0 + 1 * (j 2).val = (j 2).val; omega)

/-- Dropping a leading axis of one and putting it back gives the index again. -/
theorem cons_tail {R C : ℕ} (j : (⟨3, ![1, R, C]⟩ : Shape).Idx) :
    (Fin.cons (α := fun a : Fin 3 => Fin ((![1, R, C] : Fin 3 → ℕ) a)) ⟨0, Nat.one_pos⟩ (fun a : Fin 2 => j a.succ) : (⟨3, ![1, R, C]⟩ : Shape).Idx) = j := by
  have h0 : (j 0).val = 0 := by have h1 : (j 0).val < 1 := (j 0).isLt; omega
  funext a
  match a with
  | ⟨0, _⟩ => exact Fin.ext h0.symm
  | ⟨1, _⟩ => rfl
  | ⟨2, _⟩ => rfl

/-- A block with its leading axis of one dropped, at an index's tail, is the block at the index. -/
theorem drop_at {R C : ℕ} (v : (⟨3, ![1, R, C]⟩ : Shape).Idx → EReal) (h : (⟨3, ![1, R, C]⟩ : Shape).ShapeCasts ⟨2, ![R, C]⟩)
    (j : (⟨3, ![1, R, C]⟩ : Shape).Idx) : shapeCast ⟨2, ![R, C]⟩ v h (fun a => j a.succ) = v j :=
  (shapeCast_dropUnit_apply ![R, C] v h _).trans (congrArg v (cons_tail j))

/-- A block with a leading axis of one added, at an index, is the block at the index's tail. -/
theorem add_at {R C : ℕ} (v : (⟨2, ![R, C]⟩ : Shape).Idx → EReal) (h : (⟨2, ![R, C]⟩ : Shape).ShapeCasts ⟨3, ![1, R, C]⟩)
    (j : (⟨3, ![1, R, C]⟩ : Shape).Idx) : shapeCast ⟨3, ![1, R, C]⟩ v h j = v (fun a => j a.succ) :=
  shapeCast_addUnit_apply ![R, C] v h j

/-- Sums of eight numbers with equal terms are equal. -/
theorem add_eight {a b : Fin 8 → EReal} (h : ∀ k, a k = b k) :
    a 0 + a 1 + a 2 + a 3 + a 4 + a 5 + a 6 + a 7 = ∑ k, b k := by
  rw [Fin.sum_univ_eight]; simp only [h]

/-- The matrix's summed gradient at an index. -/
theorem gradUp_at (x : Vec Ideal S8x176x1024 .bf16) (j : S1x176x1024.Idx) :
    gradUp x (fun a => j a.succ) = parts (R := 176) (C := 1024) x j := by
  have p : ∀ (k : Fin 8) (h), shapeCast S176x1024 (fun y => x ((Rect.unit (s := S8x176x1024) ![k.val, 0, 0] S1x176x1024.size h).toLoadRect.idx y)) shapeCasts_S1x176x1024_S176x1024 (fun a => j a.succ)
      = x (ix3 k (j 1) (j 2)) := fun k h =>
    (drop_at (R := 176) (C := 1024) _ _ j).trans (congrArg x (part_idx (R := 176) (C := 1024) k h j))
  exact add_eight (a := fun k : Fin 8 => match k with
    | 0 => shapeCast S176x1024 (fun y => x ((Rect.unit (s := S8x176x1024) ![0, 0, 0] S1x176x1024.size inb_S8x176x1024_S1x176x1024_0_0_0).toLoadRect.idx y)) shapeCasts_S1x176x1024_S176x1024 (fun a => j a.succ)
    | 1 => shapeCast S176x1024 (fun y => x ((Rect.unit (s := S8x176x1024) ![1, 0, 0] S1x176x1024.size inb_S8x176x1024_S1x176x1024_1_0_0).toLoadRect.idx y)) shapeCasts_S1x176x1024_S176x1024 (fun a => j a.succ)
    | 2 => shapeCast S176x1024 (fun y => x ((Rect.unit (s := S8x176x1024) ![2, 0, 0] S1x176x1024.size inb_S8x176x1024_S1x176x1024_2_0_0).toLoadRect.idx y)) shapeCasts_S1x176x1024_S176x1024 (fun a => j a.succ)
    | 3 => shapeCast S176x1024 (fun y => x ((Rect.unit (s := S8x176x1024) ![3, 0, 0] S1x176x1024.size inb_S8x176x1024_S1x176x1024_3_0_0).toLoadRect.idx y)) shapeCasts_S1x176x1024_S176x1024 (fun a => j a.succ)
    | 4 => shapeCast S176x1024 (fun y => x ((Rect.unit (s := S8x176x1024) ![4, 0, 0] S1x176x1024.size inb_S8x176x1024_S1x176x1024_4_0_0).toLoadRect.idx y)) shapeCasts_S1x176x1024_S176x1024 (fun a => j a.succ)
    | 5 => shapeCast S176x1024 (fun y => x ((Rect.unit (s := S8x176x1024) ![5, 0, 0] S1x176x1024.size inb_S8x176x1024_S1x176x1024_5_0_0).toLoadRect.idx y)) shapeCasts_S1x176x1024_S176x1024 (fun a => j a.succ)
    | 6 => shapeCast S176x1024 (fun y => x ((Rect.unit (s := S8x176x1024) ![6, 0, 0] S1x176x1024.size inb_S8x176x1024_S1x176x1024_6_0_0).toLoadRect.idx y)) shapeCasts_S1x176x1024_S176x1024 (fun a => j a.succ)
    | 7 => shapeCast S176x1024 (fun y => x ((Rect.unit (s := S8x176x1024) ![7, 0, 0] S1x176x1024.size inb_S8x176x1024_S1x176x1024_7_0_0).toLoadRect.idx y)) shapeCasts_S1x176x1024_S176x1024 (fun a => j a.succ)
    ) fun k => match k with
    | 0 => p 0 _
    | 1 => p 1 _
    | 2 => p 2 _
    | 3 => p 3 _
    | 4 => p 4 _
    | 5 => p 5 _
    | 6 => p 6 _
    | 7 => p 7 _

section Up

variable (x : Vec Ideal S8x176x1024 .bf16) (w m v : Vec Ideal S1x176x1024 .f32) (j : S1x176x1024.Idx)

/-- The stored gradient of the matrix is the sum of the parts. -/
theorem up0_at : up0 x j = parts (R := 176) (C := 1024) x j :=
  (add_at (R := 176) (C := 1024) _ _ j).trans (gradUp_at x j)

/-- The new first moment of the matrix before it is stored. -/
theorem momUp_at : k0_pay6 (gradUp x) m (fun a => j a.succ) = mom1 (parts (R := 176) (C := 1024) x j) (m j) := by
  rw [← gradUp_at x j, ← drop_at (R := 176) (C := 1024) m shapeCasts_S1x176x1024_S176x1024 j]; rfl

/-- The new second moment of the matrix before it is stored. -/
theorem varUp_at : k0_pay7 (gradUp x) v (fun a => j a.succ) = mom2 (parts (R := 176) (C := 1024) x j) (v j) := by
  rw [← gradUp_at x j, ← drop_at (R := 176) (C := 1024) v shapeCasts_S1x176x1024_S176x1024 j]; rfl

/-- The stored change of the matrix. -/
theorem up1_at : up1 x w m v j = change (parts (R := 176) (C := 1024) x j) (w j) (m j) (v j) := by
  unfold up1 k0_pay9 change
  refine (add_at (R := 176) (C := 1024) _ _ j).trans ?_
  rw [← momUp_at x m j, ← varUp_at x v j, ← drop_at (R := 176) (C := 1024) w shapeCasts_S1x176x1024_S176x1024 j]; rfl

/-- The stored first moment of the matrix. -/
theorem up2_at : up2 x m j = mom1 (parts (R := 176) (C := 1024) x j) (m j) :=
  (add_at (R := 176) (C := 1024) _ _ j).trans (momUp_at x m j)

/-- The stored second moment of the matrix. -/
theorem up3_at : up3 x v j = mom2 (parts (R := 176) (C := 1024) x j) (v j) :=
  (add_at (R := 176) (C := 1024) _ _ j).trans (varUp_at x v j)

end Up

/-- The small weights' summed gradient at an index. -/
theorem gradSmall_at (x : Vec Ideal S8x48x128 .f32) (j : S1x48x128.Idx) :
    gradSmall x (fun a => j a.succ) = parts (R := 48) (C := 128) x j := by
  have p : ∀ (k : Fin 8) (h), shapeCast S48x128 (fun y => x ((Rect.unit (s := S8x48x128) ![k.val, 0, 0] S1x48x128.size h).toLoadRect.idx y)) shapeCasts_S1x48x128_S48x128 (fun a => j a.succ)
      = x (ix3 k (j 1) (j 2)) := fun k h =>
    (drop_at (R := 48) (C := 128) _ _ j).trans (congrArg x (part_idx (R := 48) (C := 128) k h j))
  exact add_eight (a := fun k : Fin 8 => match k with
    | 0 => shapeCast S48x128 (fun y => x ((Rect.unit (s := S8x48x128) ![0, 0, 0] S1x48x128.size inb_S8x48x128_S1x48x128_0_0_0).toLoadRect.idx y)) shapeCasts_S1x48x128_S48x128 (fun a => j a.succ)
    | 1 => shapeCast S48x128 (fun y => x ((Rect.unit (s := S8x48x128) ![1, 0, 0] S1x48x128.size inb_S8x48x128_S1x48x128_1_0_0).toLoadRect.idx y)) shapeCasts_S1x48x128_S48x128 (fun a => j a.succ)
    | 2 => shapeCast S48x128 (fun y => x ((Rect.unit (s := S8x48x128) ![2, 0, 0] S1x48x128.size inb_S8x48x128_S1x48x128_2_0_0).toLoadRect.idx y)) shapeCasts_S1x48x128_S48x128 (fun a => j a.succ)
    | 3 => shapeCast S48x128 (fun y => x ((Rect.unit (s := S8x48x128) ![3, 0, 0] S1x48x128.size inb_S8x48x128_S1x48x128_3_0_0).toLoadRect.idx y)) shapeCasts_S1x48x128_S48x128 (fun a => j a.succ)
    | 4 => shapeCast S48x128 (fun y => x ((Rect.unit (s := S8x48x128) ![4, 0, 0] S1x48x128.size inb_S8x48x128_S1x48x128_4_0_0).toLoadRect.idx y)) shapeCasts_S1x48x128_S48x128 (fun a => j a.succ)
    | 5 => shapeCast S48x128 (fun y => x ((Rect.unit (s := S8x48x128) ![5, 0, 0] S1x48x128.size inb_S8x48x128_S1x48x128_5_0_0).toLoadRect.idx y)) shapeCasts_S1x48x128_S48x128 (fun a => j a.succ)
    | 6 => shapeCast S48x128 (fun y => x ((Rect.unit (s := S8x48x128) ![6, 0, 0] S1x48x128.size inb_S8x48x128_S1x48x128_6_0_0).toLoadRect.idx y)) shapeCasts_S1x48x128_S48x128 (fun a => j a.succ)
    | 7 => shapeCast S48x128 (fun y => x ((Rect.unit (s := S8x48x128) ![7, 0, 0] S1x48x128.size inb_S8x48x128_S1x48x128_7_0_0).toLoadRect.idx y)) shapeCasts_S1x48x128_S48x128 (fun a => j a.succ)
    ) fun k => match k with
    | 0 => p 0 _
    | 1 => p 1 _
    | 2 => p 2 _
    | 3 => p 3 _
    | 4 => p 4 _
    | 5 => p 5 _
    | 6 => p 6 _
    | 7 => p 7 _

section Small

variable (x : Vec Ideal S8x48x128 .f32) (w m v : Vec Ideal S1x48x128 .f32) (j : S1x48x128.Idx)

/-- The stored gradient of the small weights is the sum of the parts. -/
theorem small0_at : small0 x j = parts (R := 48) (C := 128) x j :=
  (add_at (R := 48) (C := 128) _ _ j).trans (gradSmall_at x j)

/-- The new first moment of the small weights before it is stored. -/
theorem momSmall_at : k0_pay13 (gradSmall x) (k0_pay12 m) (fun a => j a.succ) = mom1 (parts (R := 48) (C := 128) x j) (m j) := by
  rw [← gradSmall_at x j, ← drop_at (R := 48) (C := 128) m shapeCasts_S1x48x128_S48x128 j]; rfl

/-- The new second moment of the small weights before it is stored. -/
theorem varSmall_at : k0_pay14 (gradSmall x) v (fun a => j a.succ) = mom2 (parts (R := 48) (C := 128) x j) (v j) := by
  rw [← gradSmall_at x j, ← drop_at (R := 48) (C := 128) v shapeCasts_S1x48x128_S48x128 j]; rfl

/-- The stored change of the small weights. -/
theorem small1_at : small1 x w m v j = change (parts (R := 48) (C := 128) x j) (w j) (m j) (v j) := by
  unfold small1 k0_pay16 change
  refine (add_at (R := 48) (C := 128) _ _ j).trans ?_
  rw [← momSmall_at x m j, ← varSmall_at x v j, ← drop_at (R := 48) (C := 128) w shapeCasts_S1x48x128_S48x128 j]; rfl

/-- The stored first moment of the small weights. -/
theorem small2_at : small2 x m j = mom1 (parts (R := 48) (C := 128) x j) (m j) :=
  (add_at (R := 48) (C := 128) _ _ j).trans (momSmall_at x m j)

/-- The stored second moment of the small weights. -/
theorem small3_at : small3 x v j = mom2 (parts (R := 48) (C := 128) x j) (v j) :=
  (add_at (R := 48) (C := 128) _ _ j).trans (varSmall_at x v j)

end Small

end Cert.Adam

end
-- ==== Proof.AdamArrays.lean ====
/- The optimiser's step over the extended reals: what each result's array holds when the run has ended. -/
module

public import proofs.«01_k».proof.Proof.AdamFrame
public import proofs.«01_k».proof.Proof.AdamValue

@[expose] public section

noncomputable section

namespace Cert.Adam

open Cert.Kernel11Ideal Cert.Kernel11Ideal.Gen
open Idealize.ShloMosaic Idealize.ShloMosaic.TcCoe
open Idealize.ShloMosaic.Pipeline (Dat)

variable (m : (ℓ : Loc nD τ sig) → Buf (Elt Ideal) ℓ)

/-! ## The step on whole arrays -/

/-- The summed gradient, the change and the two new moments, from the eight parts, the weight and its old moments. -/
def all0 {R C : ℕ} (x : (⟨3, ![8, R, C]⟩ : Shape).Idx → EReal) : (⟨3, ![1, R, C]⟩ : Shape).Idx → EReal := fun i => parts x i
@[inherit_doc all0] def all1 {R C : ℕ} (x : (⟨3, ![8, R, C]⟩ : Shape).Idx → EReal) (w m v : (⟨3, ![1, R, C]⟩ : Shape).Idx → EReal) :
    (⟨3, ![1, R, C]⟩ : Shape).Idx → EReal := fun i => change (parts x i) (w i) (m i) (v i)
@[inherit_doc all0] def all2 {R C : ℕ} (x : (⟨3, ![8, R, C]⟩ : Shape).Idx → EReal) (m : (⟨3, ![1, R, C]⟩ : Shape).Idx → EReal) :
    (⟨3, ![1, R, C]⟩ : Shape).Idx → EReal := fun i => mom1 (parts x i) (m i)
@[inherit_doc all0] def all3 {R C : ℕ} (x : (⟨3, ![8, R, C]⟩ : Shape).Idx → EReal) (v : (⟨3, ![1, R, C]⟩ : Shape).Idx → EReal) :
    (⟨3, ![1, R, C]⟩ : Shape).Idx → EReal := fun i => mom2 (parts x i) (v i)

/-! ## The blocks -/

/-- The eight parts of the matrix are in every block of it. -/
theorem whole_parts_up : ∀ t : Fin cfg0.N, win0_0.index t (0 : Fin 3) = 0 :=
  (by decide +kernel : ∀ t : Fin grid0.N, win0_0.index t (0 : Fin 3) = 0)

/-- The small weights are one block. -/
theorem whole_small : ∀ t : Fin cfg0.N, win0_4.index t (0 : Fin 3) = 0 ∧ ∀ a : Fin 3, win0_12.index t a = 0 :=
  (by decide +kernel : ∀ t : Fin grid0.N, win0_4.index t (0 : Fin 3) = 0 ∧ ∀ a : Fin 3, win0_12.index t a = 0)

/-- The first point has the matrix's upper half and the last its lower; both are written back. -/
theorem halves : ∀ k : Fin 2, ∃ t : Fin cfg0.N, (∀ w : Fin 4, (cfg0.win ⟨w.val + 8, by show _ < 16; omega⟩).flush t = true)
    ∧ win0_8.index t (0 : Fin 3) = 0 ∧ win0_8.index t (1 : Fin 3) = k.val ∧ win0_8.index t (2 : Fin 3) = 0 :=
  (by decide +kernel : ∀ k : Fin 2, ∃ t : Fin grid0.N, (∀ w : Fin 4, (win0 ⟨w.val + 8, by omega⟩).flush t = true)
    ∧ win0_8.index t (0 : Fin 3) = 0 ∧ win0_8.index t (1 : Fin 3) = k.val ∧ win0_8.index t (2 : Fin 3) = 0)

/-- The last point writes the small weights back. -/
theorem last_writes : ∃ t : Fin cfg0.N, ∀ w : Fin 4, (cfg0.win ⟨w.val + 12, by show _ < 16; omega⟩).flush t = true :=
  (by decide +kernel : ∃ t : Fin grid0.N, ∀ w : Fin 4, (win0 ⟨w.val + 12, by omega⟩).flush t = true)

/-- The summed gradient of a block of the matrix is that of the matrix, at the place the block has it. -/
theorem parts_up (c : Dev nD) (t : Fin cfg0.N) (y : S1x176x1024.Idx) :
    parts (R := 176) (C := 1024) (iblk m c 0 t) y
      = parts (R := 352) (C := 1024) (m ((c : Thread nD τ).loc main_arg0)) (((cfg0.win 8).blk t).view.emb y) := by
  have e := whole_parts_up t
  refine Finset.sum_congr rfl fun k _ => congrArg (m ((c : Thread nD τ).loc main_arg0)) (funext fun a => ?_)
  match a with
  | ⟨0, _⟩ => exact Fin.ext (by show win0_0.index t (0 : Fin 3) * 8 + 1 * k.val = k.val; omega)
  | ⟨1, _⟩ => rfl
  | ⟨2, _⟩ => rfl

/-- The summed gradient of the small weights' block is that of the small weights. -/
theorem parts_small (c : Dev nD) (t : Fin cfg0.N) (y : S1x48x128.Idx) :
    parts (R := 48) (C := 128) (iblk m c 4 t) y
      = parts (R := 48) (C := 128) (m ((c : Thread nD τ).loc main_arg4)) (((cfg0.win 12).blk t).view.emb y) := by
  have e := (whole_small t).1
  refine Finset.sum_congr rfl fun k _ => congrArg (m ((c : Thread nD τ).loc main_arg4)) (funext fun a => ?_)
  match a with
  | ⟨0, _⟩ => exact Fin.ext (by show win0_4.index t (0 : Fin 3) * 8 + 1 * k.val = k.val; omega)
  | ⟨1, _⟩ => rfl
  | ⟨2, _⟩ => rfl

/-- An index of the matrix is in the half its row is in. -/
theorem in_half (i : S1x352x1024.Idx) : ∃ t : Fin cfg0.N, (∀ w : Fin 4, (cfg0.win ⟨w.val + 8, by show _ < 16; omega⟩).flush t = true)
    ∧ ∀ a : Fin 3, win0_8.index t a * S1x176x1024.size a ≤ (i a).val ∧ (i a).val < win0_8.index t a * S1x176x1024.size a + S1x176x1024.size a := by
  have h0 : (i 0).val < 1 := (i 0).isLt
  have h1 : (i 1).val < 352 := (i 1).isLt
  have h2 : (i 2).val < 1024 := (i 2).isLt
  obtain ⟨t, hf, e0, e1, e2⟩ := halves ⟨(i 1).val / 176, by omega⟩
  have e1' : win0_8.index t (1 : Fin 3) = (i 1).val / 176 := e1
  refine ⟨t, hf, fun a => ?_⟩
  match a with
  | ⟨0, _⟩ => show win0_8.index t (0 : Fin 3) * 1 ≤ _ ∧ _ < win0_8.index t (0 : Fin 3) * 1 + 1; exact ⟨by show _ ≤ (i 0).val; omega, by show (i 0).val < _; omega⟩
  | ⟨1, _⟩ => show win0_8.index t (1 : Fin 3) * 176 ≤ _ ∧ _ < win0_8.index t (1 : Fin 3) * 176 + 176; exact ⟨by show _ ≤ (i 1).val; omega, by show (i 1).val < _; omega⟩
  | ⟨2, _⟩ => show win0_8.index t (2 : Fin 3) * 1024 ≤ _ ∧ _ < win0_8.index t (2 : Fin 3) * 1024 + 1024; exact ⟨by show _ ≤ (i 2).val; omega, by show (i 2).val < _; omega⟩

/-- An index of the small weights is in their one block. -/
theorem in_small (t : Fin cfg0.N) (i : S1x48x128.Idx) (a : Fin 3) :
    win0_12.index t a * S1x48x128.size a ≤ (i a).val ∧ (i a).val < win0_12.index t a * S1x48x128.size a + S1x48x128.size a := by
  have h := (i a).isLt
  rw [(whole_small t).2 a]
  exact ⟨by omega, by omega⟩

/-! ## The arrays at the end -/

/-- The array of the matrix's gradient ends at the step's. -/
theorem final8 (c : Dev nD) : (dats m 0 c).arrAt 8 cfg0.N = all0 (R := 352) (C := 1024) (m ((c : Thread nD τ).loc main_arg0)) :=
  (dats m 0 c).arrAt_eq_of_cover 8 _ (fun t _ => funext fun y => (up0_at (iblk m c 0 t) y).trans (parts_up m c t y))
    (fun i => by
      obtain ⟨t, hf, h⟩ := in_half i
      exact ⟨t, hf 0, by
        show i ∈ ((View.whole main_v0_0).slice (win0_8.rect t)).set
        rw [View.set_slice_whole, Rect.mem_set_unit]; exact h⟩)

/-- The array of the matrix's change ends at the step's. -/
theorem final9 (c : Dev nD) : (dats m 0 c).arrAt 9 cfg0.N = all1 (R := 352) (C := 1024) (m ((c : Thread nD τ).loc main_arg0)) (m ((c : Thread nD τ).loc main_arg1)) (m ((c : Thread nD τ).loc main_arg2)) (m ((c : Thread nD τ).loc main_arg3)) :=
  (dats m 0 c).arrAt_eq_of_cover 9 _ (fun t _ => funext fun y => (up1_at (iblk m c 0 t) (iblk m c 1 t) (iblk m c 2 t) (iblk m c 3 t) y).trans (congrArg (fun g => change g (iblk m c 1 t y) (iblk m c 2 t y) (iblk m c 3 t y)) (parts_up m c t y)))
    (fun i => by
      obtain ⟨t, hf, h⟩ := in_half i
      exact ⟨t, hf 1, by
        show i ∈ ((View.whole main_v0_1).slice (win0_9.rect t)).set
        rw [View.set_slice_whole, Rect.mem_set_unit]; exact h⟩)

/-- The array of the matrix's first moment ends at the step's. -/
theorem final10 (c : Dev nD) : (dats m 0 c).arrAt 10 cfg0.N = all2 (R := 352) (C := 1024) (m ((c : Thread nD τ).loc main_arg0)) (m ((c : Thread nD τ).loc main_arg2)) :=
  (dats m 0 c).arrAt_eq_of_cover 10 _ (fun t _ => funext fun y => (up2_at (iblk m c 0 t) (iblk m c 2 t) y).trans (congrArg (fun g => mom1 g (iblk m c 2 t y)) (parts_up m c t y)))
    (fun i => by
      obtain ⟨t, hf, h⟩ := in_half i
      exact ⟨t, hf 2, by
        show i ∈ ((View.whole main_v0_2).slice (win0_10.rect t)).set
        rw [View.set_slice_whole, Rect.mem_set_unit]; exact h⟩)

/-- The array of the matrix's second moment ends at the step's. -/
theorem final11 (c : Dev nD) : (dats m 0 c).arrAt 11 cfg0.N = all3 (R := 352) (C := 1024) (m ((c : Thread nD τ).loc main_arg0)) (m ((c : Thread nD τ).loc main_arg3)) :=
  (dats m 0 c).arrAt_eq_of_cover 11 _ (fun t _ => funext fun y => (up3_at (iblk m c 0 t) (iblk m c 3 t) y).trans (congrArg (fun g => mom2 g (iblk m c 3 t y)) (parts_up m c t y)))
    (fun i => by
      obtain ⟨t, hf, h⟩ := in_half i
      exact ⟨t, hf 3, by
        show i ∈ ((View.whole main_v0_3).slice (win0_11.rect t)).set
        rw [View.set_slice_whole, Rect.mem_set_unit]; exact h⟩)

/-- The array of the small weights' gradient ends at the step's. -/
theorem final12 (c : Dev nD) : (dats m 0 c).arrAt 12 cfg0.N = all0 (R := 48) (C := 128) (m ((c : Thread nD τ).loc main_arg4)) :=
  (dats m 0 c).arrAt_eq_of_cover 12 _ (fun t _ => funext fun y => (small0_at (iblk m c 4 t) y).trans (parts_small m c t y))
    (fun i => by
      obtain ⟨t, hf⟩ := last_writes
      exact ⟨t, hf 0, by
        show i ∈ ((View.whole main_v0_4).slice (win0_12.rect t)).set
        rw [View.set_slice_whole, Rect.mem_set_unit]; exact in_small t i⟩)

/-- The array of the small weights' change ends at the step's. -/
theorem final13 (c : Dev nD) : (dats m 0 c).arrAt 13 cfg0.N = all1 (R := 48) (C := 128) (m ((c : Thread nD τ).loc main_arg4)) (m ((c : Thread nD τ).loc main_arg5)) (m ((c : Thread nD τ).loc main_arg6)) (m ((c : Thread nD τ).loc main_arg7)) :=
  (dats m 0 c).arrAt_eq_of_cover 13 _ (fun t _ => funext fun y => (small1_at (iblk m c 4 t) (iblk m c 5 t) (iblk m c 6 t) (iblk m c 7 t) y).trans (congrArg (fun g => change g (iblk m c 5 t y) (iblk m c 6 t y) (iblk m c 7 t y)) (parts_small m c t y)))
    (fun i => by
      obtain ⟨t, hf⟩ := last_writes
      exact ⟨t, hf 1, by
        show i ∈ ((View.whole main_v0_5).slice (win0_13.rect t)).set
        rw [View.set_slice_whole, Rect.mem_set_unit]; exact in_small t i⟩)

/-- The array of the small weights' first moment ends at the step's. -/
theorem final14 (c : Dev nD) : (dats m 0 c).arrAt 14 cfg0.N = all2 (R := 48) (C := 128) (m ((c : Thread nD τ).loc main_arg4)) (m ((c : Thread nD τ).loc main_arg6)) :=
  (dats m 0 c).arrAt_eq_of_cover 14 _ (fun t _ => funext fun y => (small2_at (iblk m c 4 t) (iblk m c 6 t) y).trans (congrArg (fun g => mom1 g (iblk m c 6 t y)) (parts_small m c t y)))
    (fun i => by
      obtain ⟨t, hf⟩ := last_writes
      exact ⟨t, hf 2, by
        show i ∈ ((View.whole main_v0_6).slice (win0_14.rect t)).set
        rw [View.set_slice_whole, Rect.mem_set_unit]; exact in_small t i⟩)

/-- The array of the small weights' second moment ends at the step's. -/
theorem final15 (c : Dev nD) : (dats m 0 c).arrAt 15 cfg0.N = all3 (R := 48) (C := 128) (m ((c : Thread nD τ).loc main_arg4)) (m ((c : Thread nD τ).loc main_arg7)) :=
  (dats m 0 c).arrAt_eq_of_cover 15 _ (fun t _ => funext fun y => (small3_at (iblk m c 4 t) (iblk m c 7 t) y).trans (congrArg (fun g => mom2 g (iblk m c 7 t y)) (parts_small m c t y)))
    (fun i => by
      obtain ⟨t, hf⟩ := last_writes
      exact ⟨t, hf 3, by
        show i ∈ ((View.whole main_v0_7).slice (win0_15.rect t)).set
        rw [View.set_slice_whole, Rect.mem_set_unit]; exact in_small t i⟩)

end Cert.Adam

end
-- ==== Proof.AdamReference.lean ====
/- The optimiser's step over the extended reals: what the reference computes, index by index. -/
module

public import proofs.«01_k».proof.Proof.AdamArrays
public import proofs.«01_k».proof.Proof.Gen.Reference11Ideal.Read

@[expose] public section

noncomputable section

namespace Cert.Adam

open Cert.Reference11Ideal Cert.Reference11Ideal.Read Idealize.ShloMosaic

section Up

variable (x0 : (⟨S8x352x1024, .bf16⟩ : BufTy).Contents (Elt Ideal)) (x1 x2 x3 : (⟨S1x352x1024, .f32⟩ : BufTy).Contents (Elt Ideal))

/-- The reference's summed gradient of the matrix. -/
theorem ref_up0 : val_main_v2 (F := Ideal) x0 = all0 (R := 352) (C := 1024) x0 := funext fun i => by
  rw [val_main_v2_apply, val_main_v1_apply]
  refine (congrArg (· + _) Ideal.ofBits_zero_f32).trans ((zero_add _).trans ?_)
  unfold all0 parts
  refine Finset.sum_congr rfl fun k _ => congrArg x0 (funext fun a => ?_)
  match a with | ⟨0, _⟩ => rfl | ⟨1, _⟩ => rfl | ⟨2, _⟩ => rfl

/-- The reference's new first moment of the matrix. -/
theorem ref_up2 : val_main_v7 (F := Ideal) x0 x2 = all2 (R := 352) (C := 1024) x0 x2 := funext fun i => by
  rw [val_main_v7_apply, val_main_v4_apply, val_main_v6_apply, val_main_v3_apply, val_main_v5_apply, ref_up0]; rfl

/-- The reference's new second moment of the matrix. -/
theorem ref_up3 : val_main_v13 (F := Ideal) x0 x3 = all3 (R := 352) (C := 1024) x0 x3 := funext fun i => by
  rw [val_main_v13_apply, val_main_v9_apply, val_main_v12_apply, val_main_v10_apply, val_main_v8_apply, val_main_v11_apply, ref_up0]; rfl

/-- The reference's change of the matrix. -/
theorem ref_up1 : val_main_v26 (F := Ideal) x0 x1 x2 x3 = all1 (R := 352) (C := 1024) x0 x1 x2 x3 := funext fun i => by
  rw [val_main_v26_apply, val_main_v25_apply, val_main_v24_apply, val_main_v23_apply, val_main_v22_apply, val_main_v21_apply, val_main_v20_apply, val_main_v19_apply,
    val_main_v18_apply, val_main_v17_apply, val_main_v16_apply, val_main_v15_apply, val_main_v14_apply, ref_up2, ref_up3]; rfl

end Up

section Small

variable (x4 : (⟨S8x48x128, .f32⟩ : BufTy).Contents (Elt Ideal)) (x5 x6 x7 : (⟨S1x48x128, .f32⟩ : BufTy).Contents (Elt Ideal))

/-- The reference's summed gradient of the small weights. -/
theorem ref_small0 : val_main_v28 (F := Ideal) x4 = all0 (R := 48) (C := 128) x4 := funext fun i => by
  rw [val_main_v28_apply, val_main_v27_apply]
  refine (congrArg (· + _) Ideal.ofBits_zero_f32).trans ((zero_add _).trans ?_)
  unfold all0 parts
  refine Finset.sum_congr rfl fun k _ => congrArg x4 (funext fun a => ?_)
  match a with | ⟨0, _⟩ => rfl | ⟨1, _⟩ => rfl | ⟨2, _⟩ => rfl

/-- The reference's new first moment of the small weights. -/
theorem ref_small2 : val_main_v33 (F := Ideal) x4 x6 = all2 (R := 48) (C := 128) x4 x6 := funext fun i => by
  rw [val_main_v33_apply, val_main_v30_apply, val_main_v32_apply, val_main_v29_apply, val_main_v31_apply, ref_small0]; rfl

/-- The reference's new second moment of the small weights. -/
theorem ref_small3 : val_main_v39 (F := Ideal) x4 x7 = all3 (R := 48) (C := 128) x4 x7 := funext fun i => by
  rw [val_main_v39_apply, val_main_v35_apply, val_main_v38_apply, val_main_v36_apply, val_main_v34_apply, val_main_v37_apply, ref_small0]; rfl

/-- The reference's change of the small weights. -/
theorem ref_small1 : val_main_v52 (F := Ideal) x4 x5 x6 x7 = all1 (R := 48) (C := 128) x4 x5 x6 x7 := funext fun i => by
  rw [val_main_v52_apply, val_main_v51_apply, val_main_v50_apply, val_main_v49_apply, val_main_v48_apply, val_main_v47_apply, val_main_v46_apply, val_main_v45_apply,
    val_main_v44_apply, val_main_v43_apply, val_main_v42_apply, val_main_v41_apply, val_main_v40_apply, ref_small2, ref_small3]; rfl

end Small

end Cert.Adam

end
-- ==== Proof.AdamClaims.lean ====
/- The claims about the optimiser's call: it runs and keeps its arguments, over both readings of its floats, and over the
   extended reals its eight results are the reference's, of any arguments. -/
module

public import proofs.«01_k».proof.Defs
public import proofs.«01_k».proof.Proof.Gen.Kernel11
public import proofs.«01_k».proof.Proof.AdamReference

@[expose] public section

noncomputable section

namespace Cert.Adam

open Idealize.ShloMosaic Idealize.SL.Sem

/-! ## The frames -/

section

variable {F : FTy → Type} [FloatOps F]

/-- Every run ends, keeps the arguments and leaves every counter at zero. -/
theorem run_keeps (m : (ℓ : Loc Cert.Kernel11Ideal.nD Cert.Kernel11Ideal.τ Cert.Kernel11Ideal.sig) → Buf (Elt F) ℓ) (ρ : Dev Cert.Kernel11Ideal.nD → PrngReg) :
    θ_run (Cert.Kernel11Ideal.defs (F := F)) (onTc (τ := Cert.Kernel11Ideal.τ) (Cert.Kernel11Ideal.main (F := F))) ⟨m, fun _ => 0, ρ⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0) :=
  (θ_run _ _ _).mono
    (fun _ h => ⟨fun c => ⟨argument m h.1 c 0 rfl, argument m h.1 c 1 rfl, argument m h.1 c 2 rfl, argument m h.1 c 3 rfl,
      argument m h.1 c 4 rfl, argument m h.1 c 5 rfl, argument m h.1 c 6 rfl, argument m h.1 c 7 rfl⟩, h.2⟩)
    (run_main m ρ)

end

/-- The idealized kernel runs, keeps its arguments and leaves no counter raised. -/
theorem frame_ideal : Cert.quiescent_Kernel11Ideal := fun m ρ _ => run_keeps (F := Ideal) m ρ

set_option maxRecDepth 16384 in
/-- The kernel's body has the same text in both programs. -/
theorem body_eq : Cert.Kernel11Ideal.cc0_adamw (F := Bits) = Cert.Kernel11.cc0_adamw (F := Bits) := by
  unfold Cert.Kernel11Ideal.cc0_adamw Cert.Kernel11.cc0_adamw
  rfl

set_option maxHeartbeats 4000000 in
/-- So have the tables of bodies. -/
theorem bodies_eq : Cert.Kernel11Ideal.defs₀ (F := Bits) = Cert.Kernel11.defs₀ (F := Bits) := by
  unfold Cert.Kernel11Ideal.defs₀ Cert.Kernel11.defs₀
  refine congrArg Defs.onTc (funext fun l => funext fun a => ?_)
  match l, a with
  | 0, (t, s) =>
    dsimp only
    exact congrFun (congrFun (congrFun (congrFun (congrFun (congrFun (congrFun (congrFun (congrFun (congrFun (congrFun (congrFun (congrFun (congrFun (congrFun (congrFun
      (congrFun (congrFun (congrFun (congrFun (congrFun (congrFun (congrFun (congrFun (congrFun (congrFun (congrFun (congrFun (congrFun (congrFun (congrFun (congrFun (congrFun body_eq
      _) _) _) _) _) _) _) _) _) _) _) _) _) _) _) _) _) _) _) _) _) _) _) _) _) _) _) _) _) _) _) _) _
  | ⟨_ + 1, h⟩, _ => exact absurd h (Nat.not_lt.2 (Nat.le_add_left _ _))

/-- And the programs' definitions. -/
theorem defs_eq : Cert.Kernel11Ideal.defs (F := Bits) = Cert.Kernel11.defs (F := Bits) :=
  congrArg (Pipeline.defs Cert.Kernel11.pcfgs) bodies_eq

/-- The kernel runs, keeps its arguments and leaves no counter raised. -/
theorem frame_kernel : Cert.quiescent_Kernel11 := fun m ρ _ => by
  rw [← defs_eq]
  exact run_keeps (F := Bits) m ρ

/-- The reference runs, keeps its arguments, and declares no semaphore. -/
theorem frame_r : Cert.quiescent_Reference11Ideal := by
  intro m ρ _
  exact (θ_run Cert.Reference11Ideal.defs _ _).mono
    (fun r h => ⟨fun c => (h c).2.2.2.2.2.2.2.2, sem_eq_zero_of_no_sems (by decide) r.2⟩) (Cert.Reference11Ideal.Value.run m ρ)

/-! ## The results -/

open Cert.Reference11Ideal.Read

set_option maxHeartbeats 1600000 in
/-- The kernel's results are the reference's. -/
theorem algebraic : Cert.algebraic_Kernel11Ideal_Reference11Ideal := by
  intro m ρ m' ρ' _ hagree
  refine ⟨fun c => all0 (R := 352) (C := 1024) (m (c.tc.loc Cert.Kernel11Ideal.main_arg0)),
    fun c => all1 (R := 352) (C := 1024) (m (c.tc.loc Cert.Kernel11Ideal.main_arg0)) (m (c.tc.loc Cert.Kernel11Ideal.main_arg1))
      (m (c.tc.loc Cert.Kernel11Ideal.main_arg2)) (m (c.tc.loc Cert.Kernel11Ideal.main_arg3)),
    fun c => all2 (R := 352) (C := 1024) (m (c.tc.loc Cert.Kernel11Ideal.main_arg0)) (m (c.tc.loc Cert.Kernel11Ideal.main_arg2)),
    fun c => all3 (R := 352) (C := 1024) (m (c.tc.loc Cert.Kernel11Ideal.main_arg0)) (m (c.tc.loc Cert.Kernel11Ideal.main_arg3)),
    fun c => all0 (R := 48) (C := 128) (m (c.tc.loc Cert.Kernel11Ideal.main_arg4)),
    fun c => all1 (R := 48) (C := 128) (m (c.tc.loc Cert.Kernel11Ideal.main_arg4)) (m (c.tc.loc Cert.Kernel11Ideal.main_arg5))
      (m (c.tc.loc Cert.Kernel11Ideal.main_arg6)) (m (c.tc.loc Cert.Kernel11Ideal.main_arg7)),
    fun c => all2 (R := 48) (C := 128) (m (c.tc.loc Cert.Kernel11Ideal.main_arg4)) (m (c.tc.loc Cert.Kernel11Ideal.main_arg6)),
    fun c => all3 (R := 48) (C := 128) (m (c.tc.loc Cert.Kernel11Ideal.main_arg4)) (m (c.tc.loc Cert.Kernel11Ideal.main_arg7)), ?_, ?_⟩
  · exact (θ_run Cert.Kernel11Ideal.defs _ _).mono
      (fun _ h c => ⟨((h.1 c).1 8).trans (final8 m c), ((h.1 c).1 9).trans (final9 m c), ((h.1 c).1 10).trans (final10 m c),
        ((h.1 c).1 11).trans (final11 m c), ((h.1 c).1 12).trans (final12 m c), ((h.1 c).1 13).trans (final13 m c),
        ((h.1 c).1 14).trans (final14 m c), ((h.1 c).1 15).trans (final15 m c),
        argument m h.1 c 0 rfl, argument m h.1 c 1 rfl, argument m h.1 c 2 rfl, argument m h.1 c 3 rfl,
        argument m h.1 c 4 rfl, argument m h.1 c 5 rfl, argument m h.1 c 6 rfl, argument m h.1 c 7 rfl⟩)
      (run_main m ρ)
  · refine (θ_run Cert.Reference11Ideal.defs _ _).mono (fun r h c => ?_) (Cert.Reference11Ideal.Value.run m' ρ')
    obtain ⟨a0, a1, a2, a3, a4, a5, a6, a7⟩ := hagree c
    obtain ⟨r0, r1, r2, r3, r4, r5, r6, r7, k⟩ := h c
    refine ⟨?_, ?_, ?_, ?_, ?_, ?_, ?_, ?_, k⟩
    · rw [r0, val_main_v2_eq, a0]; exact ref_up0 _
    · rw [r1, val_main_v26_eq, a0, a1, a2, a3]; exact ref_up1 _ _ _ _
    · rw [r2, val_main_v7_eq, a0, a2]; exact ref_up2 _ _
    · rw [r3, val_main_v13_eq, a0, a3]; exact ref_up3 _ _
    · rw [r4, val_main_v28_eq, a4]; exact ref_small0 _
    · rw [r5, val_main_v52_eq, a4, a5, a6, a7]; exact ref_small1 _ _ _ _
    · rw [r6, val_main_v33_eq, a4, a6]; exact ref_small2 _ _
    · rw [r7, val_main_v39_eq, a4, a7]; exact ref_small3 _ _

end Cert.Adam

end
-- ==== Proof.OutFwdSpec.lean ====
/- The output projection of one row over the extended reals: the two attentions' outputs, each scaled by its root mean
   square and its gain, joined, and their projection added to the row. -/
module

public import proofs.«01_k».proof.Proof.ENorm

@[expose] public section

noncomputable section

namespace Cert.OutFwd

open Cert.ENorm Idealize.ShloMosaic

/-- The length of one half of the joined row, as a number. -/
def len : EReal := Ideal.ofBits .f32 0x44000000#32

/-- The two halves normalised and joined. -/
def joined (gd gm od om : Fin 512 → EReal) (j : Fin 1024) : EReal :=
  if h : j.val < 512 then norm len gd od ⟨j.val, h⟩ else norm len gm om ⟨j.val - 512, by have := j.isLt; omega⟩

/-- The row with the projection of the joined halves added. -/
def out (W : Fin 1024 → Fin 1024 → EReal) (x o : Fin 1024 → EReal) (j : Fin 1024) : EReal := x j + ∑ k, o k * W k j

/-- A column of the first half. -/
theorem joined_left (gd gm od om : Fin 512 → EReal) (k : Fin 512) (hk : 0 + k.val < 1024) :
    norm len gd od k = joined gd gm od om ⟨0 + k.val, hk⟩ := by
  unfold joined
  rw [dif_pos (by show 0 + k.val < 512; have := k.isLt; omega)]
  exact congrArg (norm len gd od) (Fin.ext (Nat.zero_add k.val).symm)

/-- A column of the second half. -/
theorem joined_right (gd gm od om : Fin 512 → EReal) (k : Fin 512) (hk : 512 + k.val < 1024) :
    norm len gm om k = joined gd gm od om ⟨512 + k.val, hk⟩ := by
  unfold joined
  rw [dif_neg (by show ¬ 512 + k.val < 512; omega)]
  exact congrArg (norm len gm om) (Fin.ext (by show k.val = 512 + k.val - 512; omega))

end Cert.OutFwd

end
-- ==== Proof.OutFwdBlock.lean ====
/- What one grid point of the output projection's forward kernel leaves in its output blocks, as a function of the input
   blocks that it reads: the covering stores of the point read back as values. The block of the joined halves is
   stored in two pieces, each half at its columns, and read back whole. -/
module

public import proofs.«01_k».proof.Proof.Gen.Kernel12Ideal.Value

@[expose] public section

noncomputable section

namespace Cert.OutFwd.Block

open Cert.Kernel12Ideal Cert.Kernel12Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The stores of the joined halves, the last first. -/
def pieces (od om : Vec F S1024x512 .f32) (gd gm : Vec F S1x512 .f32) : List (View.Piece (Elt F) S1024x1024 .bf16) :=
  [⟨Rect.unit ![0, 512] ![1024, 512] inb_S1024x1024_S1024x512_0_512, k0_pay3 om gm⟩,
   ⟨Rect.unit ![0, 0] ![1024, 512] inb_S1024x1024_S1024x512_0_0, k0_pay2 od gd⟩]

/-- The block of the joined halves. -/
def oc (od om : Vec F S1024x512 .f32) (gd gm : Vec F S1x512 .f32) : Vec F S1024x1024 .bf16 := View.canon (pieces od om gd gm)

/-- Reading back the whole block of the joined halves. -/
theorem cov_oc {κ : Kind} {sp : Space} (v : View sig κ sp S1024x1024 .bf16) (inb : ∀ a, (![0, 0] : Fin 2 → Nat) a + (![1024, 1024] : Fin 2 → Nat) a ≤ S1024x1024.size a)
    (L : List (View.Piece (Elt F) S1024x1024 .bf16)) :
    v.readCov L (Rect.unit ![0, 0] ![1024, 1024] inb).toLoadRect = View.canon L :=
  (View.readCov_eq_canon' v _ _).trans (View.ld_unit_zero (S := S1024x1024) hz inb _)

section

variable (c : Dev nD) (i : grid0.Coords)
  (a1 : Memref sig .tc .vmem S1024x1024 .f32) (h1 : a1.IsWhole)
  (a2 : Memref sig .tc .vmem S1024x512 .f32) (h2 : a2.IsWhole)
  (a3 : Memref sig .tc .vmem S1024x512 .f32) (h3 : a3.IsWhole)
  (a4 : Memref sig .tc .vmem S1x512 .f32) (h4 : a4.IsWhole)
  (a5 : Memref sig .tc .vmem S1x512 .f32) (h5 : a5.IsWhole)
  (a6 : Memref sig .tc .vmem S1024x1024 .bf16) (h6 : a6.IsWhole)
  (a7 : Memref sig .tc .vmem S1024x1024 .f32) (h7 : a7.IsWhole)
  (a8 : Memref sig .tc .vmem S1024x1024 .bf16) (h8 : a8.IsWhole)
  (x : Vec F S1024x1024 .f32) (od om : Vec F S1024x512 .f32) (gd gm : Vec F S1x512 .f32) (w : Vec F S1024x1024 .bf16)

/-- The output rows. -/
theorem out_A_6 : out0_A_6 c i a1 h1 a2 h2 a3 h3 a4 h4 a5 h5 a6 h6 a7 h7 a8 h8 x od om gd gm w = k0_pay1 x (oc od om gd gm) w := by
  unfold out0_A_6
  rw [View.read_writes_junk_eq_canon]
  unfold kernelRun0_A
  dsimp only
  sl_unfold_words
  simp only [View.canon_unit_zero (S := S1024x1024) hz, cov_oc, View.readAt_eq_ld, h1.read_unread, h2.read_unread, h3.read_unread, h4.read_unread,
    h5.read_unread, h6.read_unread, View.ld_unit_zero (S := S1024x1024) hz, View.ld_unit_zero (S := S1024x512) hz, View.ld_unit_zero (S := S1x512) hz]
  rfl

/-- The joined halves. -/
theorem out_A_7 : out0_A_7 c i a1 h1 a2 h2 a3 h3 a4 h4 a5 h5 a6 h6 a7 h7 a8 h8 x od om gd gm w = oc od om gd gm := by
  unfold out0_A_7
  rw [View.read_writes_junk_eq_canon]
  unfold kernelRun0_A
  dsimp only
  sl_unfold_words
  simp only [View.canon_unit_zero (S := S1024x1024) hz, cov_oc, View.readAt_eq_ld, h1.read_unread, h2.read_unread, h3.read_unread, h4.read_unread,
    h5.read_unread, h6.read_unread, View.ld_unit_zero (S := S1024x1024) hz, View.ld_unit_zero (S := S1024x512) hz, View.ld_unit_zero (S := S1x512) hz]
  rfl

end

end Cert.OutFwd.Block

end
-- ==== Proof.OutFwdValue.lean ====
/- What one grid point of the output projection's forward kernel computes from its blocks, over the extended reals: the
   payloads of its stores at matrices given entry by entry, and the block the two stores of the halves make. -/
module

public import proofs.«01_k».proof.Proof.OutFwdSpec
public import proofs.«01_k».proof.Proof.OutFwdBlock

@[expose] public section

noncomputable section

namespace Cert.OutFwd.Value

open Cert.Kernel12Ideal Cert.Kernel12Ideal.Gen Idealize.ShloMosaic Cert.EMat Cert.Cols Cert.ENorm Cert.OutFwd Cert.OutFwd.Block

theorem dot_out : dot_S1024x1024_S1024x1024_S1024x1024_1_0_0_1_n_n = DotDims.plain 1024 1024 1024 := rfl

/-- The first half normalised. -/
theorem half_value2 (O : Fin 1024 → Fin 512 → EReal) (g : Fin 1 → Fin 512 → EReal) :
    k0_pay2 (F := Ideal) (emat O) (emat g) = (emat fun i => norm len (g 0) (O i) : S1024x512.Idx → EReal) := by
  unfold k0_pay2
  simp only [shapeCast_self]
  exact k_norm (by norm_num) _ _ _ (by norm_num) _ O g _ _ _

/-- The second half normalised. -/
theorem half_value3 (O : Fin 1024 → Fin 512 → EReal) (g : Fin 1 → Fin 512 → EReal) :
    k0_pay3 (F := Ideal) (emat O) (emat g) = (emat fun i => norm len (g 0) (O i) : S1024x512.Idx → EReal) := by
  unfold k0_pay3
  simp only [shapeCast_self]
  exact k_norm (by norm_num) _ _ _ (by norm_num) _ O g _ _ _

/-- The block of the joined halves. -/
theorem oc_value (OD OM : Fin 1024 → Fin 512 → EReal) (gd gm : Fin 1 → Fin 512 → EReal) :
    oc (F := Ideal) (emat OD) (emat OM) (emat gd) (emat gm) = (emat fun i => joined (gd 0) (gm 0) (OD i) (OM i) : S1024x1024.Idx → EReal) := by
  funext y
  refine View.canon_apply_of_pieces (emat fun i => joined (gd 0) (gm 0) (OD i) (OM i) : S1024x1024.Idx → EReal) (pieces (F := Ideal) _ _ _ _) ?_ y
    (View.cover_of_tiledBy (pieces (F := Ideal) _ _ _ _) ![1024, 512] (by sl_kernel_rfl) y)
  unfold pieces
  simp only [List.forall_mem_cons]
  refine ⟨fun x => ?_, fun x => ?_, fun _ h => absurd h (List.not_mem_nil)⟩
  · rw [half_value3]
    exact piece_at _ _ 512 _ (fun i k hk => joined_right (gd 0) (gm 0) (OD i) (OM i) k hk) x
  · rw [half_value2]
    exact piece_at _ _ 0 _ (fun i k hk => joined_left (gd 0) (gm 0) (OD i) (OM i) k hk) x

/-- The output rows. -/
theorem out_value (X O : Fin 1024 → Fin 1024 → EReal) (W : Fin 1024 → Fin 1024 → EReal) :
    k0_pay1 (F := Ideal) (emat X) (emat O) (emat W) = (emat fun i => out W (X i) (O i) : S1024x1024.Idx → EReal) := by
  unfold k0_pay1
  dsimp only
  rw [shapeCast_self, shapeCast_self, dot_out, e_matmul]
  rfl

end Cert.OutFwd.Value

end
-- ==== Proof.OutFwdArrays.lean ====
/- The result arrays of the output projection's forward kernel: each grid point's blocks are 1024 rows of the arrays, so
   the results are the functions of `OutFwdSpec` of each of the 8192 rows. -/
module

public import proofs.«01_k».proof.Proof.OutFwdValue
public import proofs.«01_k».proof.Proof.RowBlocks

@[expose] public section

noncomputable section

namespace Cert.OutFwd.Arrays

open Cert.Kernel12Ideal Cert.Kernel12Ideal.Gen Cert.Kernel12Ideal.Value Cert.EMat Cert.Rows Cert.OutFwd Cert.OutFwd.Block Cert.OutFwd.Value
open Idealize.ShloMosaic Idealize.ShloMosaic.TcCoe Idealize.ShloMosaic.ValueIdx Idealize.SL.Sem

/-- Point `t`'s rows of an array of 8192 rows. -/
def rows {N : Nat} (t : Fin cfg0.N) (A : Fin 8192 → Fin N → EReal) (a : Fin 1024) : Fin N → EReal := A (row (n := 8) 1024 8192 rfl t a)

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2 : ∀ t : Fin grid0.N, win0_2.index t (0 : Fin 2) = t.val ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 2) = t.val ∧ win0_6.index t (1 : Fin 2) = 0 := by decide +kernel
theorem idx7 : ∀ t : Fin grid0.N, win0_7.index t (0 : Fin 2) = t.val ∧ win0_7.index t (1 : Fin 2) = 0 := by decide +kernel

/-! The index of a block in its array: rows `1024 t` on, or the whole array. -/

theorem emb0 (t : Fin cfg0.N) (j : S1024x1024.Idx) : ((cfg0.win 0).blk t).view.emb j = (ix2 (row (n := 8) 1024 8192 rfl t (j 0)) (j 1) : S8192x1024.Idx) :=
  funext fun a => match a with | ⟨0, _⟩ => at_row rfl t (j 0) (idx0 t).1 _ rfl | ⟨1, _⟩ => at_same (j 1) (idx0 t).2 _ rfl
theorem emb1 (t : Fin cfg0.N) (j : S1024x512.Idx) : ((cfg0.win 1).blk t).view.emb j = (ix2 (row (n := 8) 1024 8192 rfl t (j 0)) (j 1) : S8192x512.Idx) :=
  funext fun a => match a with | ⟨0, _⟩ => at_row rfl t (j 0) (idx1 t).1 _ rfl | ⟨1, _⟩ => at_same (j 1) (idx1 t).2 _ rfl
theorem emb2 (t : Fin cfg0.N) (j : S1024x512.Idx) : ((cfg0.win 2).blk t).view.emb j = (ix2 (row (n := 8) 1024 8192 rfl t (j 0)) (j 1) : S8192x512.Idx) :=
  funext fun a => match a with | ⟨0, _⟩ => at_row rfl t (j 0) (idx2 t).1 _ rfl | ⟨1, _⟩ => at_same (j 1) (idx2 t).2 _ rfl
theorem emb3 (t : Fin cfg0.N) (j : S1x512.Idx) : ((cfg0.win 3).blk t).view.emb j = j :=
  funext fun a => match a with | ⟨0, _⟩ => at_same (j 0) (idx3 t).1 _ rfl | ⟨1, _⟩ => at_same (j 1) (idx3 t).2 _ rfl
theorem emb4 (t : Fin cfg0.N) (j : S1x512.Idx) : ((cfg0.win 4).blk t).view.emb j = j :=
  funext fun a => match a with | ⟨0, _⟩ => at_same (j 0) (idx4 t).1 _ rfl | ⟨1, _⟩ => at_same (j 1) (idx4 t).2 _ rfl
theorem emb5 (t : Fin cfg0.N) (j : S1024x1024.Idx) : ((cfg0.win 5).blk t).view.emb j = j :=
  funext fun a => match a with | ⟨0, _⟩ => at_same (j 0) (idx5 t).1 _ rfl | ⟨1, _⟩ => at_same (j 1) (idx5 t).2 _ rfl
theorem emb6 (t : Fin cfg0.N) (j : S1024x1024.Idx) : ((cfg0.win 6).blk t).view.emb j = (ix2 (row (n := 8) 1024 8192 rfl t (j 0)) (j 1) : S8192x1024.Idx) :=
  funext fun a => match a with | ⟨0, _⟩ => at_row rfl t (j 0) (idx6 t).1 _ rfl | ⟨1, _⟩ => at_same (j 1) (idx6 t).2 _ rfl
theorem emb7 (t : Fin cfg0.N) (j : S1024x1024.Idx) : ((cfg0.win 7).blk t).view.emb j = (ix2 (row (n := 8) 1024 8192 rfl t (j 0)) (j 1) : S8192x1024.Idx) :=
  funext fun a => match a with | ⟨0, _⟩ => at_row rfl t (j 0) (idx7 t).1 _ rfl | ⟨1, _⟩ => at_same (j 1) (idx7 t).2 _ rfl

variable (m : (ℓ : Loc nD τ sig) → Buf (Elt Ideal) ℓ) (c : Dev nD) (t : Fin cfg0.N)

/-! The input blocks. -/

theorem iblk0 {A : Fin 8192 → Fin 1024 → EReal} (h : V m c main_arg0 = (emat A : S8192x1024.Idx → EReal)) :
    iblk m c 0 t = (emat (rows t A) : S1024x1024.Idx → EReal) :=
  funext fun j => (congrFun h (((cfg0.win 0).blk t).view.emb j)).trans (congrArg (emat A) (emb0 t j))
theorem iblk1 {A : Fin 8192 → Fin 512 → EReal} (h : V m c main_arg1 = (emat A : S8192x512.Idx → EReal)) :
    iblk m c 1 t = (emat (rows t A) : S1024x512.Idx → EReal) :=
  funext fun j => (congrFun h (((cfg0.win 1).blk t).view.emb j)).trans (congrArg (emat A) (emb1 t j))
theorem iblk2 {A : Fin 8192 → Fin 512 → EReal} (h : V m c main_arg2 = (emat A : S8192x512.Idx → EReal)) :
    iblk m c 2 t = (emat (rows t A) : S1024x512.Idx → EReal) :=
  funext fun j => (congrFun h (((cfg0.win 2).blk t).view.emb j)).trans (congrArg (emat A) (emb2 t j))
theorem iblk3 {A : Fin 1 → Fin 512 → EReal} (h : V m c main_v0 = (emat A : S1x512.Idx → EReal)) :
    iblk m c 3 t = (emat A : S1x512.Idx → EReal) :=
  funext fun j => (congrFun h (((cfg0.win 3).blk t).view.emb j)).trans (congrArg (emat A) (emb3 t j))
theorem iblk4 {A : Fin 1 → Fin 512 → EReal} (h : V m c main_v1 = (emat A : S1x512.Idx → EReal)) :
    iblk m c 4 t = (emat A : S1x512.Idx → EReal) :=
  funext fun j => (congrFun h (((cfg0.win 4).blk t).view.emb j)).trans (congrArg (emat A) (emb4 t j))
theorem iblk5 {A : Fin 1024 → Fin 1024 → EReal} (h : V m c main_v2 = (emat A : S1024x1024.Idx → EReal)) :
    iblk m c 5 t = (emat A : S1024x1024.Idx → EReal) :=
  funext fun j => (congrFun h (((cfg0.win 5).blk t).view.emb j)).trans (congrArg (emat A) (emb5 t j))

/-! A point's rows of an array are what the array holds at the output block. -/

theorem cut6 (A : Fin 8192 → Fin 1024 → EReal) : (cfg0.win 6).cut (grid0.coords t) (emat (rows t A) : S1024x1024.Idx → EReal)
    = ((cfg0.win 6).blk t).view.read (Elt Ideal) (emat A : S8192x1024.Idx → EReal) :=
  funext fun j => (congrArg (emat A) (emb6 t j)).symm
theorem cover6 (i : S8192x1024.Idx) : ∃ t : Fin cfg0.N, (cfg0.win 6).flush t = true ∧ i ∈ ((cfg0.win 6).blk t).view.set := by
  obtain ⟨t, j, e⟩ := hit (n := 8) (B := 1024) (R := 8192) (N := 1024) rfl (by norm_num) (fun t j => congrFun (emb6 t j) 0) (fun t j => congrFun (emb6 t j) 1) i
  exact ⟨t, flush0_6 t, Set.mem_of_eq_of_mem e.symm (((cfg0.win 6).blk t).view.emb_mem_set j)⟩
theorem cut7 (A : Fin 8192 → Fin 1024 → EReal) : (cfg0.win 7).cut (grid0.coords t) (emat (rows t A) : S1024x1024.Idx → EReal)
    = ((cfg0.win 7).blk t).view.read (Elt Ideal) (emat A : S8192x1024.Idx → EReal) :=
  funext fun j => (congrArg (emat A) (emb7 t j)).symm
theorem cover7 (i : S8192x1024.Idx) : ∃ t : Fin cfg0.N, (cfg0.win 7).flush t = true ∧ i ∈ ((cfg0.win 7).blk t).view.set := by
  obtain ⟨t, j, e⟩ := hit (n := 8) (B := 1024) (R := 8192) (N := 1024) rfl (by norm_num) (fun t j => congrFun (emb7 t j) 0) (fun t j => congrFun (emb7 t j) 1) i
  exact ⟨t, flush0_7 t, Set.mem_of_eq_of_mem e.symm (((cfg0.win 7).blk t).view.emb_mem_set j)⟩

section

variable {X : Fin 8192 → Fin 1024 → EReal} {OD OM : Fin 8192 → Fin 512 → EReal} {GD GM : Fin 512 → EReal} {W : Fin 1024 → Fin 1024 → EReal}
  (hX : m ((c : Thread nD τ).loc main_arg0) = (emat X : S8192x1024.Idx → EReal))
  (hOD : m ((c : Thread nD τ).loc main_arg1) = (emat OD : S8192x512.Idx → EReal))
  (hOM : m ((c : Thread nD τ).loc main_arg2) = (emat OM : S8192x512.Idx → EReal))
  (hGD : m ((c : Thread nD τ).loc main_arg3) = (evec GD : S512.Idx → EReal))
  (hGM : m ((c : Thread nD τ).loc main_arg4) = (evec GM : S512.Idx → EReal))
  (hW : m ((c : Thread nD τ).loc main_arg5) = (emat W : S1024x1024.Idx → EReal))
include hX hOD hOM hGD hGM hW

/-! The input blocks, from the arguments. -/

theorem b0 : iblk m c 0 t = (emat (rows t X) : S1024x1024.Idx → EReal) := iblk0 m c t ((V_main_arg0 m c).trans hX)
theorem b1 : iblk m c 1 t = (emat (rows t OD) : S1024x512.Idx → EReal) := iblk1 m c t ((V_main_arg1 m c).trans hOD)
theorem b2 : iblk m c 2 t = (emat (rows t OM) : S1024x512.Idx → EReal) := iblk2 m c t ((V_main_arg2 m c).trans hOM)
theorem b3 : iblk m c 3 t = (emat fun _ k => GD k : S1x512.Idx → EReal) := iblk3 m c t (by
  unfold_abbrev_sides
  after_results
  simp only [hGD]
  exact e_inDimRow (by norm_num) GD _)
theorem b4 : iblk m c 4 t = (emat fun _ k => GM k : S1x512.Idx → EReal) := iblk4 m c t (by
  unfold_abbrev_sides
  after_results
  simp only [hGM]
  exact e_inDimRow (by norm_num) GM _)
theorem b5 : iblk m c 5 t = (emat W : S1024x1024.Idx → EReal) := iblk5 m c t (by
  unfold_abbrev_sides
  after_results
  exact hW)

/-! What each point writes back. -/

theorem flushed6_eq : (dats m 0 c).flushed 6 t = ((cfg0.win 6).blk t).view.read (Elt Ideal) (emat (fun i => out W (X i) (joined GD GM (OD i) (OM i))) : S8192x1024.Idx → EReal) := by
  rw [flushed6_A m c t, out_A_6, b0 m c t hX hOD hOM hGD hGM hW, b1 m c t hX hOD hOM hGD hGM hW, b2 m c t hX hOD hOM hGD hGM hW, b3 m c t hX hOD hOM hGD hGM hW, b4 m c t hX hOD hOM hGD hGM hW, b5 m c t hX hOD hOM hGD hGM hW, oc_value, out_value]
  exact cut6 t (fun i => out W (X i) (joined GD GM (OD i) (OM i)))
theorem flushed7_eq : (dats m 0 c).flushed 7 t = ((cfg0.win 7).blk t).view.read (Elt Ideal) (emat (fun i => joined GD GM (OD i) (OM i)) : S8192x1024.Idx → EReal) := by
  rw [flushed7_A m c t, out_A_7, b1 m c t hX hOD hOM hGD hGM hW, b2 m c t hX hOD hOM hGD hGM hW, b3 m c t hX hOD hOM hGD hGM hW, b4 m c t hX hOD hOM hGD hGM hW, oc_value]
  exact cut7 t (fun i => joined GD GM (OD i) (OM i))

/-! The result arrays. -/

/-- Result 0: the output rows. -/
theorem final6 : (dats m 0 c).arrAt 6 cfg0.N = (emat (fun i => out W (X i) (joined GD GM (OD i) (OM i))) : S8192x1024.Idx → EReal) :=
  (dats m 0 c).arrAt_eq_of_cover 6 _ (fun t _ => flushed6_eq m c t hX hOD hOM hGD hGM hW) cover6
/-- Result 1: the joined halves. -/
theorem final7 : (dats m 0 c).arrAt 7 cfg0.N = (emat (fun i => joined GD GM (OD i) (OM i)) : S8192x1024.Idx → EReal) :=
  (dats m 0 c).arrAt_eq_of_cover 7 _ (fun t _ => flushed7_eq m c t hX hOD hOM hGD hGM hW) cover7

end

end Cert.OutFwd.Arrays

end
-- ==== Proof.OutFwdReference.lean ====
/- The reference of the output projection's forward kernel, over the extended reals: its results as the functions of
   `OutFwdSpec` of each row. -/
module

public import proofs.«01_k».proof.Proof.OutFwdSpec
public import proofs.«01_k».proof.Proof.Gen.Reference12Ideal.Read
public import Idealize.ShloMosaic.Lib.Pipeline.Value

@[expose] public section

noncomputable section

namespace Cert.OutFwd.Reference

open Idealize.ShloMosaic Cert.EMat Cert.Cols Cert.ENorm Cert.OutFwd Cert.Reference12Ideal Cert.Reference12Ideal.Gen Cert.Reference12Ideal.Read

theorem dot_out : dot_S8192x1024_S1024x1024_S8192x1024_1_0_0_1_n_n = DotDims.plain 8192 1024 1024 := rfl

variable (O : Fin 8192 → Fin 512 → EReal) (G : Fin 512 → EReal)

/-- The first half normalised. -/
theorem r_v12 : val_main_v12 (F := Ideal) (emat O) (evec G) = (emat fun i => norm len G (O i) : S8192x512.Idx → EReal) := by
  unfold val_main_v12 val_main_v11 val_main_v10 val_main_v9 val_main_v8 val_main_v7 val_main_v6 val_main_v5 val_main_v4 val_main_v3 val_main_v2 val_main_v1 val_main_v0 val_main_cst val_main_cst_0 val_main_cst_1
  exact h_norm (by norm_num) (by norm_num) _ O G _ _ _ _ _ _ _

/-- The second half normalised. -/
theorem r_v25 : val_main_v25 (F := Ideal) (emat O) (evec G) = (emat fun i => norm len G (O i) : S8192x512.Idx → EReal) := by
  unfold val_main_v25 val_main_v24 val_main_v23 val_main_v22 val_main_v21 val_main_v20 val_main_v19 val_main_v18 val_main_v17 val_main_v16 val_main_v15 val_main_v14 val_main_v13 val_main_cst_2 val_main_cst_3 val_main_cst_4
  exact h_norm (by norm_num) (by norm_num) _ O G _ _ _ _ _ _ _

variable (X : Fin 8192 → Fin 1024 → EReal) (OD OM : Fin 8192 → Fin 512 → EReal) (GD GM : Fin 512 → EReal) (W : Fin 1024 → Fin 1024 → EReal)

/-- The two halves joined. -/
theorem r_v26 : val_main_v26 (F := Ideal) (emat OD) (emat OM) (evec GD) (evec GM)
    = (emat fun i => joined GD GM (OD i) (OM i) : S8192x1024.Idx → EReal) := by
  unfold val_main_v26
  rw [r_v12, r_v25]
  exact join rfl _ _ _ _ (fun i k hk => joined_left GD GM (OD i) (OM i) k hk) (fun i k hk => joined_right GD GM (OD i) (OM i) k hk)

/-- Result: the output rows. -/
theorem r_v28 : val_main_v28 (F := Ideal) (emat X) (emat OD) (emat OM) (evec GD) (evec GM) (emat W)
    = (emat fun i => out W (X i) (joined GD GM (OD i) (OM i)) : S8192x1024.Idx → EReal) := by
  have h27 : val_main_v27 (F := Ideal) (emat OD) (emat OM) (evec GD) (evec GM) (emat W)
      = (emat fun i j => ∑ k, joined GD GM (OD i) (OM i) k * W k j : S8192x1024.Idx → EReal) := by
    unfold val_main_v27
    rw [r_v26, dot_out]
    exact e_dot none _ _
  unfold val_main_v28
  rw [h27]
  rfl

/-- Result: the joined halves. -/
theorem r_v29 : val_main_v29 (F := Ideal) (emat OD) (emat OM) (evec GD) (evec GM)
    = (emat fun i => joined GD GM (OD i) (OM i) : S8192x1024.Idx → EReal) := by
  unfold val_main_v29
  rw [r_v26]
  rfl

end Cert.OutFwd.Reference

end
-- ==== Proof.OutFwdClaims.lean ====
/- The claims about the output projection's forward kernel: over the extended reals its results are the reference's, of
   any arguments. -/
module

public import proofs.«01_k».proof.Defs
public import proofs.«01_k».proof.Proof.OutFwdArrays
public import proofs.«01_k».proof.Proof.OutFwdReference

@[expose] public section

noncomputable section

namespace Cert.OutFwd.Claims

open Idealize.ShloMosaic Idealize.SL.Sem Cert.EMat

/-- The reference runs, keeps its arguments, and declares no semaphore. -/
theorem frame_r : Cert.quiescent_Reference12Ideal := by
  intro m ρ _
  exact (θ_run Cert.Reference12Ideal.defs _ _).mono
    (fun r h => ⟨fun c => (h c).2.2, sem_eq_zero_of_no_sems (by decide) r.2⟩) (Cert.Reference12Ideal.Value.run m ρ)

/-- The kernel's results are the reference's. -/
theorem algebraic : Cert.algebraic_Kernel12Ideal_Reference12Ideal := by
  intro m ρ m' ρ' _ hagree
  refine ⟨fun c => (Cert.Kernel12Ideal.Gen.dats m 0 c).arrAt 6 Cert.Kernel12Ideal.cfg0.N, fun c => (Cert.Kernel12Ideal.Gen.dats m 0 c).arrAt 7 Cert.Kernel12Ideal.cfg0.N, Cert.Kernel12Ideal.Value.run_blocks m ρ, ?_⟩
  refine (θ_run Cert.Reference12Ideal.defs _ _).mono (fun r h c => ?_) (Cert.Reference12Ideal.Value.run m' ρ')
  obtain ⟨a0, a1, a2, a3, a4, a5⟩ := hagree c
  obtain ⟨r0, r1, k⟩ := h c
  have hX := emat_eq (M := 8192) (N := 1024) (m ((c.tc : Thread Cert.Kernel12Ideal.nD Cert.Kernel12Ideal.τ).loc Cert.Kernel12Ideal.main_arg0))
  have x0 := a0.trans hX
  have hOD := emat_eq (M := 8192) (N := 512) (m ((c.tc : Thread Cert.Kernel12Ideal.nD Cert.Kernel12Ideal.τ).loc Cert.Kernel12Ideal.main_arg1))
  have x1 := a1.trans hOD
  have hOM := emat_eq (M := 8192) (N := 512) (m ((c.tc : Thread Cert.Kernel12Ideal.nD Cert.Kernel12Ideal.τ).loc Cert.Kernel12Ideal.main_arg2))
  have x2 := a2.trans hOM
  have hGD := evec_eq (N := 512) (m ((c.tc : Thread Cert.Kernel12Ideal.nD Cert.Kernel12Ideal.τ).loc Cert.Kernel12Ideal.main_arg3))
  have x3 := a3.trans hGD
  have hGM := evec_eq (N := 512) (m ((c.tc : Thread Cert.Kernel12Ideal.nD Cert.Kernel12Ideal.τ).loc Cert.Kernel12Ideal.main_arg4))
  have x4 := a4.trans hGM
  have hW := emat_eq (M := 1024) (N := 1024) (m ((c.tc : Thread Cert.Kernel12Ideal.nD Cert.Kernel12Ideal.τ).loc Cert.Kernel12Ideal.main_arg5))
  have x5 := a5.trans hW
  refine ⟨?_, ?_, k⟩
  · rw [r0, Cert.Reference12Ideal.Read.val_main_v28_eq, x0, x1, x2, x3, x4, x5, Cert.OutFwd.Reference.r_v28]
    exact (Cert.OutFwd.Arrays.final6 m c hX hOD hOM hGD hGM hW).symm
  · rw [r1, Cert.Reference12Ideal.Read.val_main_v29_eq, x1, x2, x3, x4, Cert.OutFwd.Reference.r_v29]
    exact (Cert.OutFwd.Arrays.final7 m c hX hOD hOM hGD hGM hW).symm

end Cert.OutFwd.Claims

end
-- ==== Proof.InFwdSpec.lean ====
/- The input projection of one row over the extended reals: the row normed, its projection to 2048 columns, and the queries' and
   keys' heads of the projection normed, four pairs of heads side by side in 512 columns. -/
module

public import proofs.«01_k».proof.Proof.ENorm

@[expose] public section

noncomputable section

namespace Cert.InFwd

open Cert.Rms Cert.ENorm Idealize.ShloMosaic Idealize.ShloMosaic.ValueIdx

variable {M : Nat}

/-- The row's length, as a number. -/
def len : EReal := Ideal.ofBits .f32 0x44800000#32

/-- The normed row's projection. -/
def proj (W : Fin 1024 → Fin 2048 → EReal) (h : Fin 1024 → EReal) (j : Fin 2048) : EReal := ∑ k, h k * W k j

/-- The four pairs of heads at columns `o` on of a projected row, each head normed. -/
def heads (o : Nat) (ho : o + 512 ≤ 2048) (g : Fin 128 → EReal) (p : Fin 2048 → EReal) (k : Fin 512) : EReal :=
  pair g (fun j => p ⟨o + 128 * (k.val / 128) + j.val, by omega⟩) ⟨k.val % 128, by omega⟩

/-- Pair `h` of the heads. -/
theorem heads_at (o : Nat) (ho : o + 512 ≤ 2048) (g : Fin 128 → EReal) (P : Fin M → Fin 2048 → EReal) (h : Fin 4) (i : Fin M) (k : Fin 128) (hk : 128 * h.val + k.val < 512) :
    pair g (cols (o + 128 * h.val) (by omega) P i) k = heads o ho g (P i) ⟨128 * h.val + k.val, hk⟩ := by
  have e1 : (128 * h.val + k.val) / 128 = h.val := by omega
  have e2 : (⟨(128 * h.val + k.val) % 128, by omega⟩ : Fin 128) = k := Fin.ext (by show (128 * h.val + k.val) % 128 = k.val; omega)
  unfold heads
  simp only [e1, e2]
  rfl

/-! The pairs of all rows as rows of one pair: four rows of 128 columns for one of 512. -/

/-- The pairs at columns `o` on, one to a row. -/
def pairs (o : Nat) (ho : o + 512 ≤ 2048) (P : Fin 8192 → Fin 2048 → EReal) (r : Fin 32768) (k : Fin 128) : EReal :=
  P ⟨r.val / 4, by omega⟩ ⟨o + 128 * (r.val % 4) + k.val, by omega⟩

theorem cast_pairs (o : Nat) (ho : o + 512 ≤ 2048) (P : Fin 8192 → Fin 2048 → EReal) (h : (⟨2, ![8192, 512]⟩ : Shape).ShapeCasts ⟨2, ![32768, 128]⟩) :
    shapeCast ⟨2, ![32768, 128]⟩ (Cert.EMat.emat (cols (L := 512) o ho P)) h = Cert.EMat.emat (pairs o ho P) := by
  funext j
  have h0 : (j 0).val < 32768 := (j 0).isLt
  have h1 : (j 1).val < 128 := (j 1).isLt
  refine (shapeCast_apply _ h j (ix2 ⟨(j 0).val / 4, by omega⟩ ⟨128 * ((j 0).val % 4) + (j 1).val, by omega⟩) ?_).trans ?_
  · rw [Shape.rowMajor_val_two, Shape.rowMajor_val_two]
    show (j 0).val / 4 * 512 + (128 * ((j 0).val % 4) + (j 1).val) = (j 0).val * 128 + (j 1).val
    omega
  · exact congrArg (P ⟨(j 0).val / 4, by omega⟩) (Fin.ext (Nat.add_assoc o (128 * ((j 0).val % 4)) (j 1).val).symm)

theorem cast_heads (o : Nat) (ho : o + 512 ≤ 2048) (g : Fin 128 → EReal) (P : Fin 8192 → Fin 2048 → EReal) (h : (⟨2, ![32768, 128]⟩ : Shape).ShapeCasts ⟨2, ![8192, 512]⟩) :
    shapeCast ⟨2, ![8192, 512]⟩ (Cert.EMat.emat fun r => pair g (pairs o ho P r)) h = Cert.EMat.emat fun i => heads o ho g (P i) := by
  funext j
  have h0 : (j 0).val < 8192 := (j 0).isLt
  have h1 : (j 1).val < 512 := (j 1).isLt
  refine (shapeCast_apply _ h j (ix2 ⟨4 * (j 0).val + (j 1).val / 128, by omega⟩ ⟨(j 1).val % 128, by omega⟩) ?_).trans ?_
  · rw [Shape.rowMajor_val_two, Shape.rowMajor_val_two]
    show (4 * (j 0).val + (j 1).val / 128) * 128 + (j 1).val % 128 = (j 0).val * 512 + (j 1).val
    omega
  · show pair g (pairs o ho P ⟨4 * (j 0).val + (j 1).val / 128, _⟩) _ = heads o ho g (P (j 0)) (j 1)
    have e1 : (⟨(4 * (j 0).val + (j 1).val / 128) / 4, by omega⟩ : Fin 8192) = j 0 := Fin.ext (by show (4 * (j 0).val + (j 1).val / 128) / 4 = (j 0).val; omega)
    have e2 : (4 * (j 0).val + (j 1).val / 128) % 4 = (j 1).val / 128 := by omega
    unfold heads pairs
    simp only [e1, e2]

end Cert.InFwd

end
-- ==== Proof.InFwdBlock.lean ====
/- What one grid point of the input projection's forward kernel leaves in its output blocks, as functions of the input blocks
   that it reads. The steps that the kernel writes out for each pair of heads are one function of the pair's block. -/
module

public import proofs.«01_k».proof.Proof.Gen.Kernel13Ideal.Value

@[expose] public section

noncomputable section

namespace Cert.InFwd.Block

open Cert.Kernel13Ideal Cert.Kernel13Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A pair of heads normed. -/
def normed (x : Vec F S1024x128 .f32) (g : Vec F S1x128 .f32) : FVec F S1024x128 .f32 := k0_pay22 k0_pay4 x g

/-- The stores of four pairs of heads side by side, the last first. -/
def four (a b c d : FVec F S1024x128 .f32) : List (View.Piece (Elt F) S1024x512 .f32) :=
  [⟨Rect.unit ![0, 384] ![1024, 128] inb_S1024x512_S1024x128_0_384, d⟩, ⟨Rect.unit ![0, 256] ![1024, 128] inb_S1024x512_S1024x128_0_256, c⟩,
   ⟨Rect.unit ![0, 128] ![1024, 128] inb_S1024x512_S1024x128_0_128, b⟩, ⟨Rect.unit ![0, 0] ![1024, 128] inb_S1024x512_S1024x128_0_0, a⟩]

/-- The block of the queries' heads. -/
def qb (p : Vec F S1024x2048 .f32) (g : Vec F S1x128 .f32) : Vec F S1024x512 .f32 :=
  View.canon (four (normed (View.ld p (Rect.unit ![0, 0] ![1024, 128] inb_S1024x2048_S1024x128_0_0)) g)
    (normed (View.ld p (Rect.unit ![0, 128] ![1024, 128] inb_S1024x2048_S1024x128_0_128)) g)
    (normed (View.ld p (Rect.unit ![0, 256] ![1024, 128] inb_S1024x2048_S1024x128_0_256)) g)
    (normed (View.ld p (Rect.unit ![0, 384] ![1024, 128] inb_S1024x2048_S1024x128_0_384)) g))

/-- The block of the keys' heads. -/
def kb (p : Vec F S1024x2048 .f32) (g : Vec F S1x128 .f32) : Vec F S1024x512 .f32 :=
  View.canon (four (normed (View.ld p (Rect.unit ![0, 512] ![1024, 128] inb_S1024x2048_S1024x128_0_512)) g)
    (normed (View.ld p (Rect.unit ![0, 640] ![1024, 128] inb_S1024x2048_S1024x128_0_640)) g)
    (normed (View.ld p (Rect.unit ![0, 768] ![1024, 128] inb_S1024x2048_S1024x128_0_768)) g)
    (normed (View.ld p (Rect.unit ![0, 896] ![1024, 128] inb_S1024x2048_S1024x128_0_896)) g))

/-- Reading columns back of the block of the projection, which one store has filled. -/
theorem cov_p {κ : Kind} {sp : Space} (v : View sig κ sp S1024x2048 .f32) (inb : ∀ a, (![0, 0] : Fin 2 → Nat) a + (![1024, 2048] : Fin 2 → Nat) a ≤ S1024x2048.size a)
    (w : S1024x2048.Idx → Elt F .f32) (r : Rect S1024x2048) :
    v.readCov [⟨Rect.unit ![0, 0] ![1024, 2048] inb, w⟩] r.toLoadRect = View.ld w r :=
  (View.readCov_eq_canon' v _ _).trans (congrArg (fun z => View.ld z r) (View.canon_unit_zero (S := S1024x2048) hz inb w))

section

variable (c : Dev nD) (i : grid0.Coords)
  (a1 : Memref sig .tc .vmem S1024x1024 .f32) (h1 : a1.IsWhole)
  (a2 : Memref sig .tc .vmem S1x1024 .f32) (h2 : a2.IsWhole)
  (a3 : Memref sig .tc .vmem S2048x1024 .bf16) (h3 : a3.IsWhole)
  (a4 : Memref sig .tc .vmem S1x128 .f32) (h4 : a4.IsWhole)
  (a5 : Memref sig .tc .vmem S1x128 .f32) (h5 : a5.IsWhole)
  (a6 : Memref sig .tc .vmem S1024x1024 .bf16) (h6 : a6.IsWhole)
  (a7 : Memref sig .tc .vmem S1024x2048 .f32) (h7 : a7.IsWhole)
  (a8 : Memref sig .tc .vmem S1024x512 .f32) (h8 : a8.IsWhole)
  (a9 : Memref sig .tc .vmem S1024x512 .f32) (h9 : a9.IsWhole)
  (x : Vec F S1024x1024 .f32) (g : Vec F S1x1024 .f32) (w : Vec F S2048x1024 .bf16) (gq gk : Vec F S1x128 .f32)

/-- The normed rows. -/
theorem out_A_5 : out0_A_5 c i a1 h1 a2 h2 a3 h3 a4 h4 a5 h5 a6 h6 a7 h7 a8 h8 a9 h9 x g w gq gk = k0_pay2 x g := by
  unfold out0_A_5
  rw [View.read_writes_junk_eq_canon]
  unfold kernelRun0_A
  dsimp only
  sl_unfold_words
  simp only [View.canon_unit_zero (S := S1024x1024) hz, View.readAt_eq_ld, h1.read_unread, h2.read_unread,
    View.ld_unit_zero (S := S1024x1024) hz, View.ld_unit_zero (S := S1x1024) hz]

/-- The projection. -/
theorem out_A_6 : out0_A_6 c i a1 h1 a2 h2 a3 h3 a4 h4 a5 h5 a6 h6 a7 h7 a8 h8 a9 h9 x g w gq gk = k0_pay3 x g w := by
  unfold out0_A_6
  rw [View.read_writes_junk_eq_canon]
  unfold kernelRun0_A
  dsimp only
  sl_unfold_words
  simp only [View.canon_unit_zero (S := S1024x2048) hz, View.readAt_eq_ld, h1.read_unread, h2.read_unread, h3.read_unread,
    View.ld_unit_zero (S := S1024x1024) hz, View.ld_unit_zero (S := S1x1024) hz, View.ld_unit_zero (S := S2048x1024) hz]

/-- The queries' heads. -/
theorem out_A_7 : out0_A_7 c i a1 h1 a2 h2 a3 h3 a4 h4 a5 h5 a6 h6 a7 h7 a8 h8 a9 h9 x g w gq gk = qb (k0_pay3 x g w) gq := by
  unfold out0_A_7
  rw [View.read_writes_junk_eq_canon]
  unfold kernelRun0_A
  dsimp only
  sl_unfold_words
  simp only [cov_p, View.readAt_eq_ld, h1.read_unread, h2.read_unread, h3.read_unread, h4.read_unread,
    View.ld_unit_zero (S := S1024x1024) hz, View.ld_unit_zero (S := S1x1024) hz, View.ld_unit_zero (S := S2048x1024) hz, View.ld_unit_zero (S := S1x128) hz]
  rfl

/-- The keys' heads. -/
theorem out_A_8 : out0_A_8 c i a1 h1 a2 h2 a3 h3 a4 h4 a5 h5 a6 h6 a7 h7 a8 h8 a9 h9 x g w gq gk = kb (k0_pay3 x g w) gk := by
  unfold out0_A_8
  rw [View.read_writes_junk_eq_canon]
  unfold kernelRun0_A
  dsimp only
  sl_unfold_words
  simp only [cov_p, View.readAt_eq_ld, h1.read_unread, h2.read_unread, h3.read_unread, h5.read_unread,
    View.ld_unit_zero (S := S1024x1024) hz, View.ld_unit_zero (S := S1x1024) hz, View.ld_unit_zero (S := S2048x1024) hz, View.ld_unit_zero (S := S1x128) hz]
  rfl

end

end Cert.InFwd.Block

end
-- ==== Proof.InFwdValue.lean ====
/- What one grid point of the input projection's forward kernel computes from its blocks, over the extended reals: the payloads
   of its stores at matrices given entry by entry, and the blocks that the four stores of pairs of heads make. -/
module

public import proofs.«01_k».proof.Proof.InFwdSpec
public import proofs.«01_k».proof.Proof.InFwdBlock

@[expose] public section

noncomputable section

namespace Cert.InFwd.Value

open Cert.Kernel13Ideal Cert.Kernel13Ideal.Gen Idealize.ShloMosaic Cert.EMat Cert.Cols Cert.ENorm Cert.InFwd Cert.InFwd.Block

theorem dot_p : dot_S1024x1024_S2048x1024_S1024x2048_1_1_0_0_n_n = DotDims.transposedRhs 1024 1024 2048 := rfl

/-- The mask: one on the first 64 columns. -/
theorem mask (i : S1024x128.Idx) : k0_pay4 i = BitVec.ofBool (decide ((i 1).val < 64)) := by
  have h1 : (i 1).val < 128 := (i 1).isLt
  unfold k0_pay4
  show IntOp.cmpi .slt (BitVec.ofNat 32 (0 * S1024x128.size 1 + (i 1).val)) (BitVec.ofNat 32 64) = _
  rw [Nat.zero_mul, Nat.zero_add]
  exact WordCmp.cmpi_slt_ofNat (by omega) (by norm_num)

/-- The normed rows. -/
theorem h_value (X : Fin 1024 → Fin 1024 → EReal) (g : Fin 1 → Fin 1024 → EReal) :
    k0_pay2 (F := Ideal) (emat X) (emat g) = (emat fun i => norm len (g 0) (X i) : S1024x1024.Idx → EReal) := by
  unfold k0_pay2
  simp only [shapeCast_self]
  exact k_norm (by norm_num) _ _ _ (by norm_num) _ X g _ _ _

/-- The projection. -/
theorem p_value (X : Fin 1024 → Fin 1024 → EReal) (g : Fin 1 → Fin 1024 → EReal) (W : Fin 1024 → Fin 2048 → EReal) :
    k0_pay3 (F := Ideal) (emat X) (emat g) (emat fun j k => W k j) = (emat fun i => proj W (norm len (g 0) (X i)) : S1024x2048.Idx → EReal) := by
  unfold k0_pay3
  dsimp only
  rw [h_value, shapeCast_self, dot_p, e_matmulT]
  rfl

/-- A pair of heads. -/
theorem normed_value (X : Fin 1024 → Fin 128 → EReal) (g : Fin 1 → Fin 128 → EReal) :
    normed (F := Ideal) (emat X) (emat g) = (emat fun i => pair (g 0) (X i) : S1024x128.Idx → EReal) := by
  unfold normed k0_pay22
  simp only [shapeCast_self]
  exact k_pair (by norm_num) _ _ _ k0_pay4 mask X g _ _ _

variable (P : Fin 1024 → Fin 2048 → EReal) (g : Fin 1 → Fin 128 → EReal)

/-- The store of pair `h` of the heads at columns `o` on, at its columns. -/
theorem pair_piece (o : Nat) (ho : o + 512 ≤ 2048) (h : Fin 4) (inb : ∀ a, (![0, 128 * h.val] : Fin 2 → Nat) a + (![1024, 128] : Fin 2 → Nat) a ≤ S1024x512.size a)
    (inb' : ∀ a, (![0, o + 128 * h.val] : Fin 2 → Nat) a + (![1024, 128] : Fin 2 → Nat) a ≤ S1024x2048.size a)
    (x : (Rect.unit (s := S1024x512) ![0, 128 * h.val] ![1024, 128] inb).shape.Idx) :
    normed (F := Ideal) (View.ld (emat P) (Rect.unit (s := S1024x2048) ![0, o + 128 * h.val] ![1024, 128] inb')) (emat g) x
      = emat (fun i => heads o ho (g 0) (P i)) ((Rect.unit (s := S1024x512) ![0, 128 * h.val] ![1024, 128] inb).emb x) := by
  have e : normed (F := Ideal) (View.ld (emat P) (Rect.unit (s := S1024x2048) ![0, o + 128 * h.val] ![1024, 128] inb')) (emat g)
      = (emat fun i => pair (g 0) (Rms.cols (L := 128) (o + 128 * h.val) (by omega) P i) : S1024x128.Idx → EReal) :=
    (congrArg (fun z : S1024x128.Idx → EReal => normed (F := Ideal) z (emat g)) (ld_cols (L := 128) P (o + 128 * h.val) (by omega) inb')).trans (normed_value _ g)
  refine (congrFun e x).trans ?_
  exact piece_at _ _ (128 * h.val) inb (fun i k hk => heads_at o ho (g 0) P h i k hk) x

/-- The block of the queries' heads. -/
theorem qb_value : qb (F := Ideal) (emat P) (emat g) = (emat fun i => heads 0 (by norm_num) (g 0) (P i) : S1024x512.Idx → EReal) := by
  funext y
  refine View.canon_apply_of_pieces (emat fun i => heads 0 (by norm_num) (g 0) (P i) : S1024x512.Idx → EReal) (four (F := Ideal) _ _ _ _) ?_ y
    (View.cover_of_tiledBy (four (F := Ideal) _ _ _ _) ![1024, 128] (by sl_kernel_rfl) y)
  unfold four
  simp only [List.forall_mem_cons]
  exact ⟨pair_piece P g 0 _ 3 _ _, pair_piece P g 0 _ 2 _ _, pair_piece P g 0 _ 1 _ _, pair_piece P g 0 _ 0 _ _, fun _ h => absurd h (List.not_mem_nil)⟩

/-- The block of the keys' heads. -/
theorem kb_value : kb (F := Ideal) (emat P) (emat g) = (emat fun i => heads 512 (by norm_num) (g 0) (P i) : S1024x512.Idx → EReal) := by
  funext y
  refine View.canon_apply_of_pieces (emat fun i => heads 512 (by norm_num) (g 0) (P i) : S1024x512.Idx → EReal) (four (F := Ideal) _ _ _ _) ?_ y
    (View.cover_of_tiledBy (four (F := Ideal) _ _ _ _) ![1024, 128] (by sl_kernel_rfl) y)
  unfold four
  simp only [List.forall_mem_cons]
  exact ⟨pair_piece P g 512 _ 3 _ _, pair_piece P g 512 _ 2 _ _, pair_piece P g 512 _ 1 _ _, pair_piece P g 512 _ 0 _ _, fun _ h => absurd h (List.not_mem_nil)⟩

end Cert.InFwd.Value

end
-- ==== Proof.InFwdArrays.lean ====
/- The result arrays of the input projection's forward kernel: each grid point's blocks are 1024 rows of the arrays, so
   the results are the functions of `InFwdSpec` of each of the 8192 rows. -/
module

public import proofs.«01_k».proof.Proof.InFwdValue
public import proofs.«01_k».proof.Proof.RowBlocks

@[expose] public section

noncomputable section

namespace Cert.InFwd.Arrays

open Cert.Kernel13Ideal Cert.Kernel13Ideal.Gen Cert.Kernel13Ideal.Value Cert.EMat Cert.Rows Cert.ENorm Cert.InFwd Cert.InFwd.Block Cert.InFwd.Value
open Idealize.ShloMosaic Idealize.ShloMosaic.TcCoe Idealize.ShloMosaic.ValueIdx Idealize.SL.Sem

/-- Point `t`'s rows of an array of 8192 rows. -/
def rows {N : Nat} (t : Fin cfg0.N) (A : Fin 8192 → Fin N → EReal) (a : Fin 1024) : Fin N → EReal := A (row (n := 8) 1024 8192 rfl t a)

theorem idx0 : ∀ t : Fin grid0.N, win0_0.index t (0 : Fin 2) = t.val ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 2) = t.val ∧ win0_5.index t (1 : Fin 2) = 0 := by decide +kernel
theorem idx6 : ∀ t : Fin grid0.N, win0_6.index t (0 : Fin 2) = t.val ∧ win0_6.index t (1 : Fin 2) = 0 := by decide +kernel
theorem idx7 : ∀ t : Fin grid0.N, win0_7.index t (0 : Fin 2) = t.val ∧ win0_7.index t (1 : Fin 2) = 0 := by decide +kernel
theorem idx8 : ∀ t : Fin grid0.N, win0_8.index t (0 : Fin 2) = t.val ∧ win0_8.index t (1 : Fin 2) = 0 := by decide +kernel

/-! The index of a block in its array: rows `1024 t` on, or the whole array. -/

theorem emb0_0 (t : Fin cfg0.N) (j : S1024x1024.Idx) : (((cfg0.win 0).blk t).view.emb j) (0 : Fin 2) = row (n := 8) 1024 8192 rfl t (j 0) :=
  at_row rfl t (j 0) (idx0 t).1 _ rfl
theorem emb0_1 (t : Fin cfg0.N) (j : S1024x1024.Idx) : (((cfg0.win 0).blk t).view.emb j) (1 : Fin 2) = j 1 := at_same (j 1) (idx0 t).2 _ rfl
theorem emb0 (t : Fin cfg0.N) (j : S1024x1024.Idx) : ((cfg0.win 0).blk t).view.emb j = (ix2 (row (n := 8) 1024 8192 rfl t (j 0)) (j 1) : S8192x1024.Idx) :=
  funext fun a => match a with | ⟨0, _⟩ => emb0_0 t j | ⟨1, _⟩ => emb0_1 t j
theorem emb1 (t : Fin cfg0.N) (j : S1x1024.Idx) : ((cfg0.win 1).blk t).view.emb j = j :=
  funext fun a => match a with | ⟨0, _⟩ => at_same (j 0) (idx1 t).1 _ rfl | ⟨1, _⟩ => at_same (j 1) (idx1 t).2 _ rfl
theorem emb2 (t : Fin cfg0.N) (j : S2048x1024.Idx) : ((cfg0.win 2).blk t).view.emb j = j :=
  funext fun a => match a with | ⟨0, _⟩ => at_same (j 0) (idx2 t).1 _ rfl | ⟨1, _⟩ => at_same (j 1) (idx2 t).2 _ rfl
theorem emb3 (t : Fin cfg0.N) (j : S1x128.Idx) : ((cfg0.win 3).blk t).view.emb j = j :=
  funext fun a => match a with | ⟨0, _⟩ => at_same (j 0) (idx3 t).1 _ rfl | ⟨1, _⟩ => at_same (j 1) (idx3 t).2 _ rfl
theorem emb4 (t : Fin cfg0.N) (j : S1x128.Idx) : ((cfg0.win 4).blk t).view.emb j = j :=
  funext fun a => match a with | ⟨0, _⟩ => at_same (j 0) (idx4 t).1 _ rfl | ⟨1, _⟩ => at_same (j 1) (idx4 t).2 _ rfl
theorem emb5_0 (t : Fin cfg0.N) (j : S1024x1024.Idx) : (((cfg0.win 5).blk t).view.emb j) (0 : Fin 2) = row (n := 8) 1024 8192 rfl t (j 0) :=
  at_row rfl t (j 0) (idx5 t).1 _ rfl
theorem emb5_1 (t : Fin cfg0.N) (j : S1024x1024.Idx) : (((cfg0.win 5).blk t).view.emb j) (1 : Fin 2) = j 1 := at_same (j 1) (idx5 t).2 _ rfl
theorem emb5 (t : Fin cfg0.N) (j : S1024x1024.Idx) : ((cfg0.win 5).blk t).view.emb j = (ix2 (row (n := 8) 1024 8192 rfl t (j 0)) (j 1) : S8192x1024.Idx) :=
  funext fun a => match a with | ⟨0, _⟩ => emb5_0 t j | ⟨1, _⟩ => emb5_1 t j
theorem emb6_0 (t : Fin cfg0.N) (j : S1024x2048.Idx) : (((cfg0.win 6).blk t).view.emb j) (0 : Fin 2) = row (n := 8) 1024 8192 rfl t (j 0) :=
  at_row rfl t (j 0) (idx6 t).1 _ rfl
theorem emb6_1 (t : Fin cfg0.N) (j : S1024x2048.Idx) : (((cfg0.win 6).blk t).view.emb j) (1 : Fin 2) = j 1 := at_same (j 1) (idx6 t).2 _ rfl
theorem emb6 (t : Fin cfg0.N) (j : S1024x2048.Idx) : ((cfg0.win 6).blk t).view.emb j = (ix2 (row (n := 8) 1024 8192 rfl t (j 0)) (j 1) : S8192x2048.Idx) :=
  funext fun a => match a with | ⟨0, _⟩ => emb6_0 t j | ⟨1, _⟩ => emb6_1 t j
theorem emb7_0 (t : Fin cfg0.N) (j : S1024x512.Idx) : (((cfg0.win 7).blk t).view.emb j) (0 : Fin 2) = row (n := 8) 1024 8192 rfl t (j 0) :=
  at_row rfl t (j 0) (idx7 t).1 _ rfl
theorem emb7_1 (t : Fin cfg0.N) (j : S1024x512.Idx) : (((cfg0.win 7).blk t).view.emb j) (1 : Fin 2) = j 1 := at_same (j 1) (idx7 t).2 _ rfl
theorem emb7 (t : Fin cfg0.N) (j : S1024x512.Idx) : ((cfg0.win 7).blk t).view.emb j = (ix2 (row (n := 8) 1024 8192 rfl t (j 0)) (j 1) : S8192x512.Idx) :=
  funext fun a => match a with | ⟨0, _⟩ => emb7_0 t j | ⟨1, _⟩ => emb7_1 t j
theorem emb8_0 (t : Fin cfg0.N) (j : S1024x512.Idx) : (((cfg0.win 8).blk t).view.emb j) (0 : Fin 2) = row (n := 8) 1024 8192 rfl t (j 0) :=
  at_row rfl t (j 0) (idx8 t).1 _ rfl
theorem emb8_1 (t : Fin cfg0.N) (j : S1024x512.Idx) : (((cfg0.win 8).blk t).view.emb j) (1 : Fin 2) = j 1 := at_same (j 1) (idx8 t).2 _ rfl
theorem emb8 (t : Fin cfg0.N) (j : S1024x512.Idx) : ((cfg0.win 8).blk t).view.emb j = (ix2 (row (n := 8) 1024 8192 rfl t (j 0)) (j 1) : S8192x512.Idx) :=
  funext fun a => match a with | ⟨0, _⟩ => emb8_0 t j | ⟨1, _⟩ => emb8_1 t j

/-! A point's rows of an array are what the array holds at the output block, and the blocks cover the array. -/

theorem cut5 (t : Fin cfg0.N) (A : Fin 8192 → Fin 1024 → EReal) : (cfg0.win 5).cut (grid0.coords t) (emat (rows t A) : S1024x1024.Idx → EReal)
    = ((cfg0.win 5).blk t).view.read (Elt Ideal) (emat A : S8192x1024.Idx → EReal) := funext fun j => (congrArg (emat A) (emb5 t j)).symm
theorem cover5 (i : S8192x1024.Idx) : ∃ t : Fin cfg0.N, (cfg0.win 5).flush t = true ∧ i ∈ ((cfg0.win 5).blk t).view.set := by
  obtain ⟨t, j, e⟩ := hit (n := 8) (B := 1024) (R := 8192) (N := 1024) rfl (by norm_num) emb5_0 emb5_1 i
  exact ⟨t, flush0_5 t, Set.mem_of_eq_of_mem e.symm (((cfg0.win 5).blk t).view.emb_mem_set j)⟩
theorem cut6 (t : Fin cfg0.N) (A : Fin 8192 → Fin 2048 → EReal) : (cfg0.win 6).cut (grid0.coords t) (emat (rows t A) : S1024x2048.Idx → EReal)
    = ((cfg0.win 6).blk t).view.read (Elt Ideal) (emat A : S8192x2048.Idx → EReal) := funext fun j => (congrArg (emat A) (emb6 t j)).symm
theorem cover6 (i : S8192x2048.Idx) : ∃ t : Fin cfg0.N, (cfg0.win 6).flush t = true ∧ i ∈ ((cfg0.win 6).blk t).view.set := by
  obtain ⟨t, j, e⟩ := hit (n := 8) (B := 1024) (R := 8192) (N := 2048) rfl (by norm_num) emb6_0 emb6_1 i
  exact ⟨t, flush0_6 t, Set.mem_of_eq_of_mem e.symm (((cfg0.win 6).blk t).view.emb_mem_set j)⟩
theorem cut7 (t : Fin cfg0.N) (A : Fin 8192 → Fin 512 → EReal) : (cfg0.win 7).cut (grid0.coords t) (emat (rows t A) : S1024x512.Idx → EReal)
    = ((cfg0.win 7).blk t).view.read (Elt Ideal) (emat A : S8192x512.Idx → EReal) := funext fun j => (congrArg (emat A) (emb7 t j)).symm
theorem cover7 (i : S8192x512.Idx) : ∃ t : Fin cfg0.N, (cfg0.win 7).flush t = true ∧ i ∈ ((cfg0.win 7).blk t).view.set := by
  obtain ⟨t, j, e⟩ := hit (n := 8) (B := 1024) (R := 8192) (N := 512) rfl (by norm_num) emb7_0 emb7_1 i
  exact ⟨t, flush0_7 t, Set.mem_of_eq_of_mem e.symm (((cfg0.win 7).blk t).view.emb_mem_set j)⟩
theorem cut8 (t : Fin cfg0.N) (A : Fin 8192 → Fin 512 → EReal) : (cfg0.win 8).cut (grid0.coords t) (emat (rows t A) : S1024x512.Idx → EReal)
    = ((cfg0.win 8).blk t).view.read (Elt Ideal) (emat A : S8192x512.Idx → EReal) := funext fun j => (congrArg (emat A) (emb8 t j)).symm
theorem cover8 (i : S8192x512.Idx) : ∃ t : Fin cfg0.N, (cfg0.win 8).flush t = true ∧ i ∈ ((cfg0.win 8).blk t).view.set := by
  obtain ⟨t, j, e⟩ := hit (n := 8) (B := 1024) (R := 8192) (N := 512) rfl (by norm_num) emb8_0 emb8_1 i
  exact ⟨t, flush0_8 t, Set.mem_of_eq_of_mem e.symm (((cfg0.win 8).blk t).view.emb_mem_set j)⟩

variable (m : (ℓ : Loc nD τ sig) → Buf (Elt Ideal) ℓ) (c : Dev nD) (t : Fin cfg0.N)
  {X : Fin 8192 → Fin 1024 → EReal} {G : Fin 1024 → EReal} {W : Fin 1024 → Fin 2048 → EReal} {GQ GK : Fin 128 → EReal}
  (hX : m ((c : Thread nD τ).loc main_arg0) = (emat X : S8192x1024.Idx → EReal))
  (hG : m ((c : Thread nD τ).loc main_arg1) = (evec G : S1024.Idx → EReal))
  (hW : m ((c : Thread nD τ).loc main_arg2) = (emat W : S1024x2048.Idx → EReal))
  (hGQ : m ((c : Thread nD τ).loc main_arg3) = (evec GQ : S128.Idx → EReal))
  (hGK : m ((c : Thread nD τ).loc main_arg4) = (evec GK : S128.Idx → EReal))
include hX hG hW hGQ hGK

/-! The input blocks, from the arguments. -/

theorem b0 : iblk m c 0 t = (emat (rows t X) : S1024x1024.Idx → EReal) := by
  funext j
  show V m c main_arg0 (((cfg0.win 0).blk t).view.emb j) = _
  rw [(V_main_arg0 m c).trans hX]
  exact congrArg (emat X) (emb0 t j)
theorem b1 : iblk m c 1 t = (emat fun _ k => G k : S1x1024.Idx → EReal) := by
  have h : V m c main_v0 = (emat fun _ k => G k : S1x1024.Idx → EReal) := by
    unfold_abbrev_sides
    after_results
    simp only [hG]
    exact e_inDimRow (by norm_num) G _
  funext j
  show V m c main_v0 (((cfg0.win 1).blk t).view.emb j) = _
  rw [h]
  exact congrArg (emat fun _ k => G k) (emb1 t j)
theorem b3 : iblk m c 3 t = (emat fun _ k => GQ k : S1x128.Idx → EReal) := by
  have h : V m c main_v3 = (emat fun _ k => GQ k : S1x128.Idx → EReal) := by
    unfold_abbrev_sides
    after_results
    simp only [hGQ]
    exact e_inDimRow (by norm_num) GQ _
  funext j
  show V m c main_v3 (((cfg0.win 3).blk t).view.emb j) = _
  rw [h]
  exact congrArg (emat fun _ k => GQ k) (emb3 t j)
theorem b4 : iblk m c 4 t = (emat fun _ k => GK k : S1x128.Idx → EReal) := by
  have h : V m c main_v4 = (emat fun _ k => GK k : S1x128.Idx → EReal) := by
    unfold_abbrev_sides
    after_results
    simp only [hGK]
    exact e_inDimRow (by norm_num) GK _
  funext j
  show V m c main_v4 (((cfg0.win 4).blk t).view.emb j) = _
  rw [h]
  exact congrArg (emat fun _ k => GK k) (emb4 t j)
theorem b2 : iblk m c 2 t = (emat fun j k => W k j : S2048x1024.Idx → EReal) := by
  have h : V m c main_v2 = (emat fun j k => W k j : S2048x1024.Idx → EReal) := by
    unfold_abbrev_sides
    after_results
    simp only [hW]
    exact e_transpose W _
  funext j
  show V m c main_v2 (((cfg0.win 2).blk t).view.emb j) = _
  rw [h]
  exact congrArg (emat fun j k => W k j) (emb2 t j)

/-! What each point writes back, and the result arrays. -/

theorem flushed5_eq : (dats m 0 c).flushed 5 t = ((cfg0.win 5).blk t).view.read (Elt Ideal) (emat (fun i => norm len G (X i)) : S8192x1024.Idx → EReal) := by
  rw [flushed5_A m c t, out_A_5, b0 m c t hX hG hW hGQ hGK, b1 m c t hX hG hW hGQ hGK, h_value]
  exact cut5 t (fun i => norm len G (X i))
/-- Result 0: the normed rows. -/
theorem final5 : (dats m 0 c).arrAt 5 cfg0.N = (emat (fun i => norm len G (X i)) : S8192x1024.Idx → EReal) :=
  (dats m 0 c).arrAt_eq_of_cover 5 _ (fun t _ => flushed5_eq m c t hX hG hW hGQ hGK) cover5
theorem flushed6_eq : (dats m 0 c).flushed 6 t = ((cfg0.win 6).blk t).view.read (Elt Ideal) (emat (fun i => proj W (norm len G (X i))) : S8192x2048.Idx → EReal) := by
  rw [flushed6_A m c t, out_A_6, b0 m c t hX hG hW hGQ hGK, b1 m c t hX hG hW hGQ hGK, b2 m c t hX hG hW hGQ hGK, p_value]
  exact cut6 t (fun i => proj W (norm len G (X i)))
/-- Result 1: the projection. -/
theorem final6 : (dats m 0 c).arrAt 6 cfg0.N = (emat (fun i => proj W (norm len G (X i))) : S8192x2048.Idx → EReal) :=
  (dats m 0 c).arrAt_eq_of_cover 6 _ (fun t _ => flushed6_eq m c t hX hG hW hGQ hGK) cover6
theorem flushed7_eq : (dats m 0 c).flushed 7 t = ((cfg0.win 7).blk t).view.read (Elt Ideal) (emat (fun i => heads 0 (by norm_num) GQ (proj W (norm len G (X i)))) : S8192x512.Idx → EReal) := by
  rw [flushed7_A m c t, out_A_7, b0 m c t hX hG hW hGQ hGK, b1 m c t hX hG hW hGQ hGK, b2 m c t hX hG hW hGQ hGK, b3 m c t hX hG hW hGQ hGK, p_value, qb_value]
  exact cut7 t (fun i => heads 0 (by norm_num) GQ (proj W (norm len G (X i))))
/-- Result 2: the queries' heads normed. -/
theorem final7 : (dats m 0 c).arrAt 7 cfg0.N = (emat (fun i => heads 0 (by norm_num) GQ (proj W (norm len G (X i)))) : S8192x512.Idx → EReal) :=
  (dats m 0 c).arrAt_eq_of_cover 7 _ (fun t _ => flushed7_eq m c t hX hG hW hGQ hGK) cover7
theorem flushed8_eq : (dats m 0 c).flushed 8 t = ((cfg0.win 8).blk t).view.read (Elt Ideal) (emat (fun i => heads 512 (by norm_num) GK (proj W (norm len G (X i)))) : S8192x512.Idx → EReal) := by
  rw [flushed8_A m c t, out_A_8, b0 m c t hX hG hW hGQ hGK, b1 m c t hX hG hW hGQ hGK, b2 m c t hX hG hW hGQ hGK, b4 m c t hX hG hW hGQ hGK, p_value, kb_value]
  exact cut8 t (fun i => heads 512 (by norm_num) GK (proj W (norm len G (X i))))
/-- Result 3: the keys' heads normed. -/
theorem final8 : (dats m 0 c).arrAt 8 cfg0.N = (emat (fun i => heads 512 (by norm_num) GK (proj W (norm len G (X i)))) : S8192x512.Idx → EReal) :=
  (dats m 0 c).arrAt_eq_of_cover 8 _ (fun t _ => flushed8_eq m c t hX hG hW hGQ hGK) cover8

end Cert.InFwd.Arrays

end
-- ==== Proof.InFwdReference.lean ====
/- The reference of the input projection's forward kernel, over the extended reals: its results as the functions of `InFwdSpec`
   of each row. -/
module

public import proofs.«01_k».proof.Proof.InFwdSpec
public import proofs.«01_k».proof.Proof.Gen.Reference13Ideal.Read
public import Idealize.ShloMosaic.Lib.Pipeline.Value

@[expose] public section

noncomputable section

namespace Cert.InFwd.Reference

open Idealize.ShloMosaic Cert.EMat Cert.Rms Cert.Cols Cert.ENorm Cert.InFwd Cert.Reference13Ideal Cert.Reference13Ideal.Gen Cert.Reference13Ideal.Read

theorem dot_p : dot_S8192x1024_S1024x2048_S8192x2048_1_0_0_1_n_n = DotDims.plain 8192 1024 2048 := rfl

/-- Pairs of heads from their normed heads, four pairs to a row. -/
theorem joined (o : Nat) (ho : o + 512 ≤ 2048) (g : Fin 128 → EReal) (P : Fin 8192 → Fin 2048 → EReal) :
    shapeCast S8192x512 (concatenate S32768x128 1
      [⟨S32768x64, (emat fun r => norm c64 (fun k => g ⟨0 + k.val, by omega⟩) (cols (L := 64) 0 (by norm_num) (pairs o ho P) r) : S32768x64.Idx → EReal)⟩,
       ⟨S32768x64, (emat fun r => norm c64 (fun k => g ⟨64 + k.val, by omega⟩) (cols (L := 64) 64 (by norm_num) (pairs o ho P) r) : S32768x64.Idx → EReal)⟩]
      concatenates_S32768x64_S32768x64_S32768x128_d1) shapeCasts_S32768x128_S8192x512 = (emat fun i => heads o ho g (P i) : S8192x512.Idx → EReal) := by
  have e := join (M := 32768) (N := 128) (L := 64) rfl _ _ (fun r => pair g (pairs o ho P r)) concatenates_S32768x64_S32768x64_S32768x128_d1
    (fun r k hk => pair_lo g (pairs o ho P r) k hk) (fun r k hk => pair_hi g (pairs o ho P r) k hk)
  exact (congrArg (fun z : S32768x128.Idx → EReal => shapeCast S8192x512 z shapeCasts_S32768x128_S8192x512) e).trans (cast_heads o ho g P _)

variable (X : Fin 8192 → Fin 1024 → EReal) (G : Fin 1024 → EReal) (W : Fin 1024 → Fin 2048 → EReal) (g : Fin 128 → EReal)

/-- The normed rows. -/
theorem r_v12 : val_main_v12 (F := Ideal) (emat X) (evec G) = (emat fun i => norm len G (X i) : S8192x1024.Idx → EReal) := by
  unfold val_main_v12 val_main_v11 val_main_v10 val_main_v9 val_main_v8 val_main_v7 val_main_v6 val_main_v5 val_main_v4 val_main_v3 val_main_v2 val_main_v1 val_main_v0 val_main_cst val_main_cst_0 val_main_cst_1
  exact h_norm (by norm_num) (by norm_num) _ X G _ _ _ _ _ _ _

/-- Result: the normed rows. -/
theorem r_v14 : val_main_v14 (F := Ideal) (emat X) (evec G) = (emat fun i => norm len G (X i) : S8192x1024.Idx → EReal) := r_v12 X G

/-- Result: the projection. -/
theorem r_v13 : val_main_v13 (F := Ideal) (emat X) (evec G) (emat W) = (emat fun i => proj W (norm len G (X i)) : S8192x2048.Idx → EReal) := by
  unfold val_main_v13
  rw [r_v12, dot_p]
  exact e_dot none _ _

/-! The queries' heads. -/

theorem r_v16 : val_main_v16 (F := Ideal) (emat X) (evec G) (emat W) = (emat (pairs 0 (by norm_num) (fun i => proj W (norm len G (X i)))) : S32768x128.Idx → EReal) := by
  unfold val_main_v16 val_main_v15
  rw [r_v13]
  refine (congrArg (fun z : S8192x512.Idx → EReal => shapeCast S32768x128 z shapeCasts_S8192x512_S32768x128) (e_cols (L := 512) 0 (by norm_num) _ _)).trans ?_
  exact cast_pairs 0 (by norm_num) _ _
theorem r_v31 : val_main_v31 (F := Ideal) (emat X) (evec G) (emat W) (evec g)
    = (emat fun r => norm c64 (fun k => g ⟨0 + k.val, by omega⟩) (cols (L := 64) 0 (by norm_num) (pairs 0 (by norm_num) (fun i => proj W (norm len G (X i)))) r) : S32768x64.Idx → EReal) := by
  have h : val_main_v17 (F := Ideal) (emat X) (evec G) (emat W) = (emat (cols (L := 64) 0 (by norm_num) (pairs 0 (by norm_num) (fun i => proj W (norm len G (X i))))) : S32768x64.Idx → EReal) := by
    unfold val_main_v17
    rw [r_v16]
    exact e_cols (L := 64) 0 (by norm_num) _ _
  have hg : val_main_v18 (F := Ideal) (evec g) = (evec fun k => g ⟨0 + k.val, by omega⟩ : S64.Idx → EReal) := v_part (L := 64) 0 (by norm_num) g _
  unfold val_main_v31 val_main_v30 val_main_v29 val_main_v28 val_main_v27 val_main_v26 val_main_v25 val_main_v24 val_main_v23 val_main_v22 val_main_v21 val_main_v20 val_main_v19 val_main_cst_2 val_main_cst_3 val_main_cst_4
  rw [h, hg]
  exact h_norm (by norm_num) (by norm_num) _ _ _ _ _ _ _ _ _ _
theorem r_v46 : val_main_v46 (F := Ideal) (emat X) (evec G) (emat W) (evec g)
    = (emat fun r => norm c64 (fun k => g ⟨64 + k.val, by omega⟩) (cols (L := 64) 64 (by norm_num) (pairs 0 (by norm_num) (fun i => proj W (norm len G (X i)))) r) : S32768x64.Idx → EReal) := by
  have h : val_main_v32 (F := Ideal) (emat X) (evec G) (emat W) = (emat (cols (L := 64) 64 (by norm_num) (pairs 0 (by norm_num) (fun i => proj W (norm len G (X i))))) : S32768x64.Idx → EReal) := by
    unfold val_main_v32
    rw [r_v16]
    exact e_cols (L := 64) 64 (by norm_num) _ _
  have hg : val_main_v33 (F := Ideal) (evec g) = (evec fun k => g ⟨64 + k.val, by omega⟩ : S64.Idx → EReal) := v_part (L := 64) 64 (by norm_num) g _
  unfold val_main_v46 val_main_v45 val_main_v44 val_main_v43 val_main_v42 val_main_v41 val_main_v40 val_main_v39 val_main_v38 val_main_v37 val_main_v36 val_main_v35 val_main_v34 val_main_cst_5 val_main_cst_6 val_main_cst_7
  rw [h, hg]
  exact h_norm (by norm_num) (by norm_num) _ _ _ _ _ _ _ _ _ _
/-- Result: the queries' heads normed. -/
theorem r_v48 : val_main_v48 (F := Ideal) (emat X) (evec G) (emat W) (evec g)
    = (emat fun i => heads 0 (by norm_num) g (proj W (norm len G (X i))) : S8192x512.Idx → EReal) := by
  unfold val_main_v48 val_main_v47
  rw [r_v31, r_v46]
  exact joined 0 (by norm_num) g (fun i => proj W (norm len G (X i)))

/-! The keys' heads. -/

theorem r_v50 : val_main_v50 (F := Ideal) (emat X) (evec G) (emat W) = (emat (pairs 512 (by norm_num) (fun i => proj W (norm len G (X i)))) : S32768x128.Idx → EReal) := by
  unfold val_main_v50 val_main_v49
  rw [r_v13]
  refine (congrArg (fun z : S8192x512.Idx → EReal => shapeCast S32768x128 z shapeCasts_S8192x512_S32768x128) (e_cols (L := 512) 512 (by norm_num) _ _)).trans ?_
  exact cast_pairs 512 (by norm_num) _ _
theorem r_v65 : val_main_v65 (F := Ideal) (emat X) (evec G) (emat W) (evec g)
    = (emat fun r => norm c64 (fun k => g ⟨0 + k.val, by omega⟩) (cols (L := 64) 0 (by norm_num) (pairs 512 (by norm_num) (fun i => proj W (norm len G (X i)))) r) : S32768x64.Idx → EReal) := by
  have h : val_main_v51 (F := Ideal) (emat X) (evec G) (emat W) = (emat (cols (L := 64) 0 (by norm_num) (pairs 512 (by norm_num) (fun i => proj W (norm len G (X i))))) : S32768x64.Idx → EReal) := by
    unfold val_main_v51
    rw [r_v50]
    exact e_cols (L := 64) 0 (by norm_num) _ _
  have hg : val_main_v52 (F := Ideal) (evec g) = (evec fun k => g ⟨0 + k.val, by omega⟩ : S64.Idx → EReal) := v_part (L := 64) 0 (by norm_num) g _
  unfold val_main_v65 val_main_v64 val_main_v63 val_main_v62 val_main_v61 val_main_v60 val_main_v59 val_main_v58 val_main_v57 val_main_v56 val_main_v55 val_main_v54 val_main_v53 val_main_cst_8 val_main_cst_9 val_main_cst_10
  rw [h, hg]
  exact h_norm (by norm_num) (by norm_num) _ _ _ _ _ _ _ _ _ _
theorem r_v80 : val_main_v80 (F := Ideal) (emat X) (evec G) (emat W) (evec g)
    = (emat fun r => norm c64 (fun k => g ⟨64 + k.val, by omega⟩) (cols (L := 64) 64 (by norm_num) (pairs 512 (by norm_num) (fun i => proj W (norm len G (X i)))) r) : S32768x64.Idx → EReal) := by
  have h : val_main_v66 (F := Ideal) (emat X) (evec G) (emat W) = (emat (cols (L := 64) 64 (by norm_num) (pairs 512 (by norm_num) (fun i => proj W (norm len G (X i))))) : S32768x64.Idx → EReal) := by
    unfold val_main_v66
    rw [r_v50]
    exact e_cols (L := 64) 64 (by norm_num) _ _
  have hg : val_main_v67 (F := Ideal) (evec g) = (evec fun k => g ⟨64 + k.val, by omega⟩ : S64.Idx → EReal) := v_part (L := 64) 64 (by norm_num) g _
  unfold val_main_v80 val_main_v79 val_main_v78 val_main_v77 val_main_v76 val_main_v75 val_main_v74 val_main_v73 val_main_v72 val_main_v71 val_main_v70 val_main_v69 val_main_v68 val_main_cst_11 val_main_cst_12 val_main_cst_13
  rw [h, hg]
  exact h_norm (by norm_num) (by norm_num) _ _ _ _ _ _ _ _ _ _
/-- Result: the keys' heads normed. -/
theorem r_v82 : val_main_v82 (F := Ideal) (emat X) (evec G) (emat W) (evec g)
    = (emat fun i => heads 512 (by norm_num) g (proj W (norm len G (X i))) : S8192x512.Idx → EReal) := by
  unfold val_main_v82 val_main_v81
  rw [r_v65, r_v80]
  exact joined 512 (by norm_num) g (fun i => proj W (norm len G (X i)))

end Cert.InFwd.Reference

end
-- ==== Proof.InFwdClaims.lean ====
/- The claims about the input projection's forward kernel: over the extended reals its results are the reference's, of
   any arguments. -/
module

public import proofs.«01_k».proof.Defs
public import proofs.«01_k».proof.Proof.InFwdArrays
public import proofs.«01_k».proof.Proof.InFwdReference

@[expose] public section

noncomputable section

namespace Cert.InFwd.Claims

open Idealize.ShloMosaic Idealize.SL.Sem Cert.EMat

/-- The reference runs, keeps its arguments, and declares no semaphore. -/
theorem frame_r : Cert.quiescent_Reference13Ideal := by
  intro m ρ _
  exact (θ_run Cert.Reference13Ideal.defs _ _).mono
    (fun r h => ⟨fun c => (h c).2.2.2.2, sem_eq_zero_of_no_sems (by decide) r.2⟩) (Cert.Reference13Ideal.Value.run m ρ)

/-- The kernel's results are the reference's. -/
theorem algebraic : Cert.algebraic_Kernel13Ideal_Reference13Ideal := by
  intro m ρ m' ρ' _ hagree
  refine ⟨fun c => (Cert.Kernel13Ideal.Gen.dats m 0 c).arrAt 5 Cert.Kernel13Ideal.cfg0.N, fun c => (Cert.Kernel13Ideal.Gen.dats m 0 c).arrAt 6 Cert.Kernel13Ideal.cfg0.N, fun c => (Cert.Kernel13Ideal.Gen.dats m 0 c).arrAt 7 Cert.Kernel13Ideal.cfg0.N, fun c => (Cert.Kernel13Ideal.Gen.dats m 0 c).arrAt 8 Cert.Kernel13Ideal.cfg0.N, Cert.Kernel13Ideal.Value.run_blocks m ρ, ?_⟩
  refine (θ_run Cert.Reference13Ideal.defs _ _).mono (fun r h c => ?_) (Cert.Reference13Ideal.Value.run m' ρ')
  obtain ⟨a0, a1, a2, a3, a4⟩ := hagree c
  obtain ⟨r0, r1, r2, r3, k⟩ := h c
  have hX := emat_eq (M := 8192) (N := 1024) (m ((c.tc : Thread Cert.Kernel13Ideal.nD Cert.Kernel13Ideal.τ).loc Cert.Kernel13Ideal.main_arg0))
  have x0 := a0.trans hX
  have hG := evec_eq (N := 1024) (m ((c.tc : Thread Cert.Kernel13Ideal.nD Cert.Kernel13Ideal.τ).loc Cert.Kernel13Ideal.main_arg1))
  have x1 := a1.trans hG
  have hW := emat_eq (M := 1024) (N := 2048) (m ((c.tc : Thread Cert.Kernel13Ideal.nD Cert.Kernel13Ideal.τ).loc Cert.Kernel13Ideal.main_arg2))
  have x2 := a2.trans hW
  have hGQ := evec_eq (N := 128) (m ((c.tc : Thread Cert.Kernel13Ideal.nD Cert.Kernel13Ideal.τ).loc Cert.Kernel13Ideal.main_arg3))
  have x3 := a3.trans hGQ
  have hGK := evec_eq (N := 128) (m ((c.tc : Thread Cert.Kernel13Ideal.nD Cert.Kernel13Ideal.τ).loc Cert.Kernel13Ideal.main_arg4))
  have x4 := a4.trans hGK
  refine ⟨?_, ?_, ?_, ?_, k⟩
  · rw [r0, Cert.Reference13Ideal.Read.val_main_v14_eq, x0, x1, Cert.InFwd.Reference.r_v14]
    exact (Cert.InFwd.Arrays.final5 m c hX hG hW hGQ hGK).symm
  · rw [r1, Cert.Reference13Ideal.Read.val_main_v13_eq, x0, x1, x2, Cert.InFwd.Reference.r_v13]
    exact (Cert.InFwd.Arrays.final6 m c hX hG hW hGQ hGK).symm
  · rw [r2, Cert.Reference13Ideal.Read.val_main_v48_eq, x0, x1, x2, x3, Cert.InFwd.Reference.r_v48]
    exact (Cert.InFwd.Arrays.final7 m c hX hG hW hGQ hGK).symm
  · rw [r3, Cert.Reference13Ideal.Read.val_main_v82_eq, x0, x1, x2, x4, Cert.InFwd.Reference.r_v82]
    exact (Cert.InFwd.Arrays.final8 m c hX hG hW hGQ hGK).symm

end Cert.InFwd.Claims

end
-- ==== Proof.lean ====
/- The claims of this certificate, assembled from the modules that prove them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Pre_finite
public import proofs.«01_k».proof.Proof.Gen.Pre_finite5
public import proofs.«01_k».proof.Proof.Gen.Pre_finite10
public import proofs.«01_k».proof.Proof.FfnClaims
public import proofs.«01_k».proof.Proof.Fwd2Claims
public import proofs.«01_k».proof.Proof.Fwd3Claims
public import proofs.«01_k».proof.Proof.WGradClaims
public import proofs.«01_k».proof.Proof.OutBwdClaims
public import proofs.«01_k».proof.Proof.WOutClaims
public import proofs.«01_k».proof.Proof.WQbClaims
public import proofs.«01_k».proof.Proof.WKvbClaims
public import proofs.«01_k».proof.Proof.WInClaims
public import proofs.«01_k».proof.Proof.InBwdClaims
public import proofs.«01_k».proof.Proof.AdamClaims
public import proofs.«01_k».proof.Proof.OutFwdClaims
public import proofs.«01_k».proof.Proof.InFwdClaims

@[expose] public section

noncomputable section

namespace Cert.Proof

open Idealize.ShloMosaic Idealize.SL.Sem

/-- Every claim of the certificate. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts, Cert.Kernel13.Gen.facts, Cert.Kernel13Ideal.Gen.facts, Cert.Reference13Ideal.Gen.facts,
    Cert.Pre_finite.Gen.facts,
    Cert.Pre_finite5.Gen.facts,
    Cert.Pre_finite10.Gen.facts,
    fun m ρ _ => Cert.Kernel.Gen.frame m ρ,
    fun m ρ _ => Cert.KernelIdeal.Gen.frame m ρ,
    fun m ρ _ => Cert.KernelIdeal.Gen.frame m ρ,
    Cert.Ffn.Claims.frame_r,
    fun m ρ _ => Cert.Ffn.Claims.frame_r m ρ trivial,
    fun m ρ _ => Cert.Kernel2.Gen.frame m ρ,
    fun m ρ _ => Cert.Kernel2Ideal.Gen.frame m ρ,
    Cert.Fwd2.Claims.frame_r,
    fun m ρ _ => Cert.Kernel3.Gen.frame m ρ,
    fun m ρ _ => Cert.Kernel3Ideal.Gen.frame m ρ,
    Cert.Fwd3.Claims.frame_r,
    fun m ρ _ => Cert.Kernel4.Gen.frame m ρ,
    fun m ρ _ => Cert.Kernel4Ideal.Gen.frame m ρ,
    Cert.WGrad.Claims.frame_r,
    fun m ρ _ => Cert.Kernel5.Gen.frame m ρ,
    fun m ρ _ => Cert.Kernel5Ideal.Gen.frame m ρ,
    fun m ρ _ => Cert.Kernel5Ideal.Gen.frame m ρ,
    Cert.OutBwd.Claims.frame_r,
    fun m ρ _ => Cert.OutBwd.Claims.frame_r m ρ trivial,
    fun m ρ _ => Cert.Kernel6.Gen.frame m ρ,
    fun m ρ _ => Cert.Kernel6Ideal.Gen.frame m ρ,
    Cert.WOut.Claims.frame_r,
    fun m ρ _ => Cert.Kernel7.Gen.frame m ρ,
    fun m ρ _ => Cert.Kernel7Ideal.Gen.frame m ρ,
    Cert.WQb.Claims.frame_r,
    fun m ρ _ => Cert.Kernel8.Gen.frame m ρ,
    fun m ρ _ => Cert.Kernel8Ideal.Gen.frame m ρ,
    Cert.WKvb.Claims.frame_r,
    fun m ρ _ => Cert.Kernel9.Gen.frame m ρ,
    fun m ρ _ => Cert.Kernel9Ideal.Gen.frame m ρ,
    Cert.WIn.Claims.frame_r,
    fun m ρ _ => Cert.Kernel10.Gen.frame m ρ,
    fun m ρ _ => Cert.Kernel10Ideal.Gen.frame m ρ,
    fun m ρ _ => Cert.Kernel10Ideal.Gen.frame m ρ,
    Cert.InBwd.Claims.frame_r,
    fun m ρ _ => Cert.InBwd.Claims.frame_r m ρ trivial,
    Cert.Adam.frame_kernel,
    Cert.Adam.frame_ideal,
    Cert.Adam.frame_r,
    fun m ρ _ => Cert.Kernel12.Gen.frame m ρ,
    fun m ρ _ => Cert.Kernel12Ideal.Gen.frame m ρ,
    Cert.OutFwd.Claims.frame_r,
  fun m ρ _ => Cert.Kernel13.Gen.frame m ρ, fun m ρ _ => Cert.Kernel13Ideal.Gen.frame m ρ, Cert.InFwd.Claims.frame_r,
    trivial,
    Cert.Ffn.Claims.algebraic,
    trivial,
    Cert.Fwd2.Claims.algebraic,
    trivial,
    Cert.Fwd3.Claims.algebraic,
    trivial,
    Cert.WGrad.Claims.algebraic,
    trivial,
    Cert.OutBwd.Claims.algebraic,
    trivial,
    Cert.WOut.Claims.algebraic,
    trivial,
    Cert.WQb.Claims.algebraic,
    trivial,
    Cert.WKvb.Claims.algebraic,
    trivial,
    Cert.WIn.Claims.algebraic,
    trivial,
    Cert.InBwd.Claims.algebraic,
    trivial,
    Cert.Adam.algebraic,
    trivial,
    Cert.OutFwd.Claims.algebraic, trivial, Cert.InFwd.Claims.algebraic⟩

end Cert.Proof

end
